-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActReferenceIdeal (m : (ℓ : Loc Cert.DActReferenceIdeal.nD Cert.DActReferenceIdeal.τ Cert.DActReferenceIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_DhGate (m : (ℓ : Loc Cert.DhGate.nD Cert.DhGate.τ Cert.DhGate.sig) → Buf (Elt Bits) ℓ) : Prop :=
  True

def Pre_DhGateIdeal (m : (ℓ : Loc Cert.DhGateIdeal.nD Cert.DhGateIdeal.τ Cert.DhGateIdeal.sig) → Buf (Elt Ideal) ℓ) : Prop :=
  True

def Pre_DhGateReferenceIdeal (m : (ℓ : Loc Cert.DhGateReferenceIdeal.nD Cert.DhGateReferenceIdeal.τ Cert.DhGateReferenceIdeal.sig) → Buf (Elt Ideal) ℓ) : Prop :=
  True

def Pre_DhUp (m : (ℓ : Loc Cert.DhUp.nD Cert.DhUp.τ Cert.DhUp.sig) → Buf (Elt Bits) ℓ) : Prop :=
  True

def Pre_DhUpIdeal (m : (ℓ : Loc Cert.DhUpIdeal.nD Cert.DhUpIdeal.τ Cert.DhUpIdeal.sig) → Buf (Elt Ideal) ℓ) : Prop :=
  True

def Pre_DhUpReferenceIdeal (m : (ℓ : Loc Cert.DhUpReferenceIdeal.nD Cert.DhUpReferenceIdeal.τ Cert.DhUpReferenceIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateReferenceIdeal (m : (ℓ : Loc Cert.DwGateReferenceIdeal.nD Cert.DwGateReferenceIdeal.τ Cert.DwGateReferenceIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpReferenceIdeal (m : (ℓ : Loc Cert.DwUpReferenceIdeal.nD Cert.DwUpReferenceIdeal.τ Cert.DwUpReferenceIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInReferenceIdeal (m : (ℓ : Loc Cert.ProjInReferenceIdeal.nD Cert.ProjInReferenceIdeal.τ Cert.ProjInReferenceIdeal.sig) → Buf (Elt Ideal) ℓ) : Prop :=
  True

def Pre_DhIn (m : (ℓ : Loc Cert.DhIn.nD Cert.DhIn.τ Cert.DhIn.sig) → Buf (Elt Bits) ℓ) : Prop :=
  True

def Pre_DhInIdeal (m : (ℓ : Loc Cert.DhInIdeal.nD Cert.DhInIdeal.τ Cert.DhInIdeal.sig) → Buf (Elt Ideal) ℓ) : Prop :=
  True

def Pre_DhInReferenceIdeal (m : (ℓ : Loc Cert.DhInReferenceIdeal.nD Cert.DhInReferenceIdeal.τ Cert.DhInReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutReferenceIdeal (m : (ℓ : Loc Cert.ProjOutReferenceIdeal.nD Cert.ProjOutReferenceIdeal.τ Cert.ProjOutReferenceIdeal.sig) → Buf (Elt Ideal) ℓ) : Prop :=
  True

def Pre_DY (m : (ℓ : Loc Cert.DY.nD Cert.DY.τ Cert.DY.sig) → Buf (Elt Bits) ℓ) : Prop :=
  True

def Pre_DYIdeal (m : (ℓ : Loc Cert.DYIdeal.nD Cert.DYIdeal.τ Cert.DYIdeal.sig) → Buf (Elt Ideal) ℓ) : Prop :=
  True

def Pre_DYReferenceIdeal (m : (ℓ : Loc Cert.DYReferenceIdeal.nD Cert.DYReferenceIdeal.τ Cert.DYReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_ProjQ (m : (ℓ : Loc Cert.ProjQ.nD Cert.ProjQ.τ Cert.ProjQ.sig) → Buf (Elt Bits) ℓ) : Prop :=
  True

def Pre_ProjQIdeal (m : (ℓ : Loc Cert.ProjQIdeal.nD Cert.ProjQIdeal.τ Cert.ProjQIdeal.sig) → Buf (Elt Ideal) ℓ) : Prop :=
  True

def Pre_ProjQReferenceIdeal (m : (ℓ : Loc Cert.ProjQReferenceIdeal.nD Cert.ProjQReferenceIdeal.τ Cert.ProjQReferenceIdeal.sig) → Buf (Elt Ideal) ℓ) : Prop :=
  True

def Pre_DQn (m : (ℓ : Loc Cert.DQn.nD Cert.DQn.τ Cert.DQn.sig) → Buf (Elt Bits) ℓ) : Prop :=
  True

def Pre_DQnIdeal (m : (ℓ : Loc Cert.DQnIdeal.nD Cert.DQnIdeal.τ Cert.DQnIdeal.sig) → Buf (Elt Ideal) ℓ) : Prop :=
  True

def Pre_DQnReferenceIdeal (m : (ℓ : Loc Cert.DQnReferenceIdeal.nD Cert.DQnReferenceIdeal.τ Cert.DQnReferenceIdeal.sig) → Buf (Elt Ideal) ℓ) : Prop :=
  True

def Pre_DwUq (m : (ℓ : Loc Cert.DwUq.nD Cert.DwUq.τ Cert.DwUq.sig) → Buf (Elt Bits) ℓ) : Prop :=
  True

def Pre_DwUqIdeal (m : (ℓ : Loc Cert.DwUqIdeal.nD Cert.DwUqIdeal.τ Cert.DwUqIdeal.sig) → Buf (Elt Ideal) ℓ) : Prop :=
  True

def Pre_DwUqReferenceIdeal (m : (ℓ : Loc Cert.DwUqReferenceIdeal.nD Cert.DwUqReferenceIdeal.τ Cert.DwUqReferenceIdeal.sig) → Buf (Elt Ideal) ℓ) : Prop :=
  True

def Pre_ProjKv (m : (ℓ : Loc Cert.ProjKv.nD Cert.ProjKv.τ Cert.ProjKv.sig) → Buf (Elt Bits) ℓ) : Prop :=
  True

def Pre_ProjKvIdeal (m : (ℓ : Loc Cert.ProjKvIdeal.nD Cert.ProjKvIdeal.τ Cert.ProjKvIdeal.sig) → Buf (Elt Ideal) ℓ) : Prop :=
  True

def Pre_ProjKvReferenceIdeal (m : (ℓ : Loc Cert.ProjKvReferenceIdeal.nD Cert.ProjKvReferenceIdeal.τ Cert.ProjKvReferenceIdeal.sig) → Buf (Elt Ideal) ℓ) : Prop :=
  True

def Pre_DKvn (m : (ℓ : Loc Cert.DKvn.nD Cert.DKvn.τ Cert.DKvn.sig) → Buf (Elt Bits) ℓ) : Prop :=
  True

def Pre_DKvnIdeal (m : (ℓ : Loc Cert.DKvnIdeal.nD Cert.DKvnIdeal.τ Cert.DKvnIdeal.sig) → Buf (Elt Ideal) ℓ) : Prop :=
  True

def Pre_DKvnReferenceIdeal (m : (ℓ : Loc Cert.DKvnReferenceIdeal.nD Cert.DKvnReferenceIdeal.τ Cert.DKvnReferenceIdeal.sig) → Buf (Elt Ideal) ℓ) : Prop :=
  True

def Pre_DwUkv (m : (ℓ : Loc Cert.DwUkv.nD Cert.DwUkv.τ Cert.DwUkv.sig) → Buf (Elt Bits) ℓ) : Prop :=
  True

def Pre_DwUkvIdeal (m : (ℓ : Loc Cert.DwUkvIdeal.nD Cert.DwUkvIdeal.τ Cert.DwUkvIdeal.sig) → Buf (Elt Ideal) ℓ) : Prop :=
  True

def Pre_DwUkvReferenceIdeal (m : (ℓ : Loc Cert.DwUkvReferenceIdeal.nD Cert.DwUkvReferenceIdeal.τ Cert.DwUkvReferenceIdeal.sig) → Buf (Elt Ideal) ℓ) : Prop :=
  True

def Pre_RmsAttn (m : (ℓ : Loc Cert.RmsAttn.nD Cert.RmsAttn.τ Cert.RmsAttn.sig) → Buf (Elt Bits) ℓ) : Prop :=
  True

def Pre_RmsAttnIdeal (m : (ℓ : Loc Cert.RmsAttnIdeal.nD Cert.RmsAttnIdeal.τ Cert.RmsAttnIdeal.sig) → Buf (Elt Ideal) ℓ) : Prop :=
  True

def Pre_RmsAttnReferenceIdeal (m : (ℓ : Loc Cert.RmsAttnReferenceIdeal.nD Cert.RmsAttnReferenceIdeal.τ Cert.RmsAttnReferenceIdeal.sig) → Buf (Elt Ideal) ℓ) : Prop :=
  True

def Pre_RmsFfn (m : (ℓ : Loc Cert.RmsFfn.nD Cert.RmsFfn.τ Cert.RmsFfn.sig) → Buf (Elt Bits) ℓ) : Prop :=
  True

def Pre_RmsFfnIdeal (m : (ℓ : Loc Cert.RmsFfnIdeal.nD Cert.RmsFfnIdeal.τ Cert.RmsFfnIdeal.sig) → Buf (Elt Ideal) ℓ) : Prop :=
  True

def Pre_RmsFfnReferenceIdeal (m : (ℓ : Loc Cert.RmsFfnReferenceIdeal.nD Cert.RmsFfnReferenceIdeal.τ Cert.RmsFfnReferenceIdeal.sig) → Buf (Elt Ideal) ℓ) : Prop :=
  True

def Pre_DRmsAttn (m : (ℓ : Loc Cert.DRmsAttn.nD Cert.DRmsAttn.τ Cert.DRmsAttn.sig) → Buf (Elt Bits) ℓ) : Prop :=
  True

def Pre_DRmsAttnIdeal (m : (ℓ : Loc Cert.DRmsAttnIdeal.nD Cert.DRmsAttnIdeal.τ Cert.DRmsAttnIdeal.sig) → Buf (Elt Ideal) ℓ) : Prop :=
  True

def Pre_DRmsAttnReferenceIdeal (m : (ℓ : Loc Cert.DRmsAttnReferenceIdeal.nD Cert.DRmsAttnReferenceIdeal.τ Cert.DRmsAttnReferenceIdeal.sig) → Buf (Elt Ideal) ℓ) : Prop :=
  True

def Pre_DRmsFfn (m : (ℓ : Loc Cert.DRmsFfn.nD Cert.DRmsFfn.τ Cert.DRmsFfn.sig) → Buf (Elt Bits) ℓ) : Prop :=
  True

def Pre_DRmsFfnIdeal (m : (ℓ : Loc Cert.DRmsFfnIdeal.nD Cert.DRmsFfnIdeal.τ Cert.DRmsFfnIdeal.sig) → Buf (Elt Ideal) ℓ) : Prop :=
  True

def Pre_DRmsFfnReferenceIdeal (m : (ℓ : Loc Cert.DRmsFfnReferenceIdeal.nD Cert.DRmsFfnReferenceIdeal.τ Cert.DRmsFfnReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActReferenceIdeal (m : (ℓ : Loc Cert.FfnActReferenceIdeal.nD Cert.FfnActReferenceIdeal.τ Cert.FfnActReferenceIdeal.sig) → Buf (Elt Ideal) ℓ) : Prop :=
  True

def Pre_DConv (m : (ℓ : Loc Cert.DConv.nD Cert.DConv.τ Cert.DConv.sig) → Buf (Elt Bits) ℓ) : Prop :=
  True

def Pre_DConvIdeal (m : (ℓ : Loc Cert.DConvIdeal.nD Cert.DConvIdeal.τ Cert.DConvIdeal.sig) → Buf (Elt Ideal) ℓ) : Prop :=
  True

def Pre_DConvReferenceIdeal (m : (ℓ : Loc Cert.DConvReferenceIdeal.nD Cert.DConvReferenceIdeal.τ Cert.DConvReferenceIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInReferenceIdeal (m : (ℓ : Loc Cert.AdamwInReferenceIdeal.nD Cert.AdamwInReferenceIdeal.τ Cert.AdamwInReferenceIdeal.sig) → Buf (Elt Ideal) ℓ) : Prop :=
  True

def Pre_AdamwUq (m : (ℓ : Loc Cert.AdamwUq.nD Cert.AdamwUq.τ Cert.AdamwUq.sig) → Buf (Elt Bits) ℓ) : Prop :=
  True

def Pre_AdamwUqIdeal (m : (ℓ : Loc Cert.AdamwUqIdeal.nD Cert.AdamwUqIdeal.τ Cert.AdamwUqIdeal.sig) → Buf (Elt Ideal) ℓ) : Prop :=
  True

def Pre_AdamwUqReferenceIdeal (m : (ℓ : Loc Cert.AdamwUqReferenceIdeal.nD Cert.AdamwUqReferenceIdeal.τ Cert.AdamwUqReferenceIdeal.sig) → Buf (Elt Ideal) ℓ) : Prop :=
  True

def Pre_AdamwUkv (m : (ℓ : Loc Cert.AdamwUkv.nD Cert.AdamwUkv.τ Cert.AdamwUkv.sig) → Buf (Elt Bits) ℓ) : Prop :=
  True

def Pre_AdamwUkvIdeal (m : (ℓ : Loc Cert.AdamwUkvIdeal.nD Cert.AdamwUkvIdeal.τ Cert.AdamwUkvIdeal.sig) → Buf (Elt Ideal) ℓ) : Prop :=
  True

def Pre_AdamwUkvReferenceIdeal (m : (ℓ : Loc Cert.AdamwUkvReferenceIdeal.nD Cert.AdamwUkvReferenceIdeal.τ Cert.AdamwUkvReferenceIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutReferenceIdeal (m : (ℓ : Loc Cert.AdamwOutReferenceIdeal.nD Cert.AdamwOutReferenceIdeal.τ Cert.AdamwOutReferenceIdeal.sig) → Buf (Elt Ideal) ℓ) : Prop :=
  True

def Pre_AdamwGate (m : (ℓ : Loc Cert.AdamwGate.nD Cert.AdamwGate.τ Cert.AdamwGate.sig) → Buf (Elt Bits) ℓ) : Prop :=
  True

def Pre_AdamwGateIdeal (m : (ℓ : Loc Cert.AdamwGateIdeal.nD Cert.AdamwGateIdeal.τ Cert.AdamwGateIdeal.sig) → Buf (Elt Ideal) ℓ) : Prop :=
  True

def Pre_AdamwGateReferenceIdeal (m : (ℓ : Loc Cert.AdamwGateReferenceIdeal.nD Cert.AdamwGateReferenceIdeal.τ Cert.AdamwGateReferenceIdeal.sig) → Buf (Elt Ideal) ℓ) : Prop :=
  True

def Pre_AdamwUp (m : (ℓ : Loc Cert.AdamwUp.nD Cert.AdamwUp.τ Cert.AdamwUp.sig) → Buf (Elt Bits) ℓ) : Prop :=
  True

def Pre_AdamwUpIdeal (m : (ℓ : Loc Cert.AdamwUpIdeal.nD Cert.AdamwUpIdeal.τ Cert.AdamwUpIdeal.sig) → Buf (Elt Ideal) ℓ) : Prop :=
  True

def Pre_AdamwUpReferenceIdeal (m : (ℓ : Loc Cert.AdamwUpReferenceIdeal.nD Cert.AdamwUpReferenceIdeal.τ Cert.AdamwUpReferenceIdeal.sig) → Buf (Elt Ideal) ℓ) : Prop :=
  True

def Pre_AdamwDown (m : (ℓ : Loc Cert.AdamwDown.nD Cert.AdamwDown.τ Cert.AdamwDown.sig) → Buf (Elt Bits) ℓ) : Prop :=
  True

def Pre_AdamwDownIdeal (m : (ℓ : Loc Cert.AdamwDownIdeal.nD Cert.AdamwDownIdeal.τ Cert.AdamwDownIdeal.sig) → Buf (Elt Ideal) ℓ) : Prop :=
  True

def Pre_AdamwDownReferenceIdeal (m : (ℓ : Loc Cert.AdamwDownReferenceIdeal.nD Cert.AdamwDownReferenceIdeal.τ Cert.AdamwDownReferenceIdeal.sig) → Buf (Elt Ideal) ℓ) : Prop :=
  True

def Pre_DFfnAct (m : (ℓ : Loc Cert.DFfnAct.nD Cert.DFfnAct.τ Cert.DFfnAct.sig) → Buf (Elt Bits) ℓ) : Prop :=
  True

def Pre_DFfnActIdeal (m : (ℓ : Loc Cert.DFfnActIdeal.nD Cert.DFfnActIdeal.τ Cert.DFfnActIdeal.sig) → Buf (Elt Ideal) ℓ) : Prop :=
  True

def Pre_DFfnActIdeal_finite_ffn [hPre_finite_ffn : Cert.Pre_finite_ffn.Facts] (m : (ℓ : Loc Cert.DFfnActIdeal.nD Cert.DFfnActIdeal.τ Cert.DFfnActIdeal.sig) → Buf (Elt Ideal) ℓ) : Prop :=
  ∀ c : Dev Cert.DFfnActIdeal.nD,
    (Cert.Pre_finite_ffn.fn (F := Ideal) (m ((c.tc : Thread Cert.DFfnActIdeal.nD Cert.DFfnActIdeal.τ).loc Cert.DFfnActIdeal.main_arg0)) (m ((c.tc : Thread Cert.DFfnActIdeal.nD Cert.DFfnActIdeal.τ).loc Cert.DFfnActIdeal.main_arg1)) (m ((c.tc : Thread Cert.DFfnActIdeal.nD Cert.DFfnActIdeal.τ).loc Cert.DFfnActIdeal.main_arg2)) (m ((c.tc : Thread Cert.DFfnActIdeal.nD Cert.DFfnActIdeal.τ).loc Cert.DFfnActIdeal.main_arg3)) (m ((c.tc : Thread Cert.DFfnActIdeal.nD Cert.DFfnActIdeal.τ).loc Cert.DFfnActIdeal.main_arg4))).1 = (fun _ => 1#1)
    ∧ (Cert.Pre_finite_ffn.fn (F := Ideal) (m ((c.tc : Thread Cert.DFfnActIdeal.nD Cert.DFfnActIdeal.τ).loc Cert.DFfnActIdeal.main_arg0)) (m ((c.tc : Thread Cert.DFfnActIdeal.nD Cert.DFfnActIdeal.τ).loc Cert.DFfnActIdeal.main_arg1)) (m ((c.tc : Thread Cert.DFfnActIdeal.nD Cert.DFfnActIdeal.τ).loc Cert.DFfnActIdeal.main_arg2)) (m ((c.tc : Thread Cert.DFfnActIdeal.nD Cert.DFfnActIdeal.τ).loc Cert.DFfnActIdeal.main_arg3)) (m ((c.tc : Thread Cert.DFfnActIdeal.nD Cert.DFfnActIdeal.τ).loc Cert.DFfnActIdeal.main_arg4))).2 = (fun _ => 1#1)

def Pre_DFfnActReferenceIdeal (m : (ℓ : Loc Cert.DFfnActReferenceIdeal.nD Cert.DFfnActReferenceIdeal.τ Cert.DFfnActReferenceIdeal.sig) → Buf (Elt Ideal) ℓ) : Prop :=
  True

def Pre_DFfnActReferenceIdeal_finite_ffn [hPre_finite_ffn : Cert.Pre_finite_ffn.Facts] (m : (ℓ : Loc Cert.DFfnActReferenceIdeal.nD Cert.DFfnActReferenceIdeal.τ Cert.DFfnActReferenceIdeal.sig) → Buf (Elt Ideal) ℓ) : Prop :=
  ∀ c : Dev Cert.DFfnActReferenceIdeal.nD,
    (Cert.Pre_finite_ffn.fn (F := Ideal) (m ((c.tc : Thread Cert.DFfnActReferenceIdeal.nD Cert.DFfnActReferenceIdeal.τ).loc Cert.DFfnActReferenceIdeal.main_arg0)) (m ((c.tc : Thread Cert.DFfnActReferenceIdeal.nD Cert.DFfnActReferenceIdeal.τ).loc Cert.DFfnActReferenceIdeal.main_arg1)) (m ((c.tc : Thread Cert.DFfnActReferenceIdeal.nD Cert.DFfnActReferenceIdeal.τ).loc Cert.DFfnActReferenceIdeal.main_arg2)) (m ((c.tc : Thread Cert.DFfnActReferenceIdeal.nD Cert.DFfnActReferenceIdeal.τ).loc Cert.DFfnActReferenceIdeal.main_arg3)) (m ((c.tc : Thread Cert.DFfnActReferenceIdeal.nD Cert.DFfnActReferenceIdeal.τ).loc Cert.DFfnActReferenceIdeal.main_arg4))).1 = (fun _ => 1#1)
    ∧ (Cert.Pre_finite_ffn.fn (F := Ideal) (m ((c.tc : Thread Cert.DFfnActReferenceIdeal.nD Cert.DFfnActReferenceIdeal.τ).loc Cert.DFfnActReferenceIdeal.main_arg0)) (m ((c.tc : Thread Cert.DFfnActReferenceIdeal.nD Cert.DFfnActReferenceIdeal.τ).loc Cert.DFfnActReferenceIdeal.main_arg1)) (m ((c.tc : Thread Cert.DFfnActReferenceIdeal.nD Cert.DFfnActReferenceIdeal.τ).loc Cert.DFfnActReferenceIdeal.main_arg2)) (m ((c.tc : Thread Cert.DFfnActReferenceIdeal.nD Cert.DFfnActReferenceIdeal.τ).loc Cert.DFfnActReferenceIdeal.main_arg3)) (m ((c.tc : Thread Cert.DFfnActReferenceIdeal.nD Cert.DFfnActReferenceIdeal.τ).loc Cert.DFfnActReferenceIdeal.main_arg4))).2 = (fun _ => 1#1)

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallReferenceIdeal (m : (ℓ : Loc Cert.AdamwSmallReferenceIdeal.nD Cert.AdamwSmallReferenceIdeal.τ Cert.AdamwSmallReferenceIdeal.sig) → Buf (Elt Ideal) ℓ) : Prop :=
  True

def Pre_SumChips (m : (ℓ : Loc Cert.SumChips.nD Cert.SumChips.τ Cert.SumChips.sig) → Buf (Elt Bits) ℓ) : Prop :=
  True

def Pre_SumChipsIdeal (m : (ℓ : Loc Cert.SumChipsIdeal.nD Cert.SumChipsIdeal.τ Cert.SumChipsIdeal.sig) → Buf (Elt Ideal) ℓ) : Prop :=
  True

def Pre_SumChipsReferenceIdeal (m : (ℓ : Loc Cert.SumChipsReferenceIdeal.nD Cert.SumChipsReferenceIdeal.τ Cert.SumChipsReferenceIdeal.sig) → Buf (Elt Ideal) ℓ) : Prop :=
  True

def Pre_SumDevices (m : (ℓ : Loc Cert.SumDevices.nD Cert.SumDevices.τ Cert.SumDevices.sig) → Buf (Elt Bits) ℓ) : Prop :=
  True

def Pre_SumDevicesIdeal (m : (ℓ : Loc Cert.SumDevicesIdeal.nD Cert.SumDevicesIdeal.τ Cert.SumDevicesIdeal.sig) → Buf (Elt Ideal) ℓ) : Prop :=
  True

def Pre_SumDevicesReferenceIdeal (m : (ℓ : Loc Cert.SumDevicesReferenceIdeal.nD Cert.SumDevicesReferenceIdeal.τ Cert.SumDevicesReferenceIdeal.sig) → Buf (Elt Ideal) ℓ) : Prop :=
  True

def Pre_SumGain (m : (ℓ : Loc Cert.SumGain.nD Cert.SumGain.τ Cert.SumGain.sig) → Buf (Elt Bits) ℓ) : Prop :=
  True

def Pre_SumGainIdeal (m : (ℓ : Loc Cert.SumGainIdeal.nD Cert.SumGainIdeal.τ Cert.SumGainIdeal.sig) → Buf (Elt Ideal) ℓ) : Prop :=
  True

def Pre_SumGainReferenceIdeal (m : (ℓ : Loc Cert.SumGainReferenceIdeal.nD Cert.SumGainReferenceIdeal.τ Cert.SumGainReferenceIdeal.sig) → Buf (Elt Ideal) ℓ) : Prop :=
  True

def Pre_SumTaps (m : (ℓ : Loc Cert.SumTaps.nD Cert.SumTaps.τ Cert.SumTaps.sig) → Buf (Elt Bits) ℓ) : Prop :=
  True

def Pre_SumTapsIdeal (m : (ℓ : Loc Cert.SumTapsIdeal.nD Cert.SumTapsIdeal.τ Cert.SumTapsIdeal.sig) → Buf (Elt Ideal) ℓ) : Prop :=
  True

def Pre_SumTapsReferenceIdeal (m : (ℓ : Loc Cert.SumTapsReferenceIdeal.nD Cert.SumTapsReferenceIdeal.τ Cert.SumTapsReferenceIdeal.sig) → Buf (Elt Ideal) ℓ) : Prop :=
  True

def Pre_SumBias (m : (ℓ : Loc Cert.SumBias.nD Cert.SumBias.τ Cert.SumBias.sig) → Buf (Elt Bits) ℓ) : Prop :=
  True

def Pre_SumBiasIdeal (m : (ℓ : Loc Cert.SumBiasIdeal.nD Cert.SumBiasIdeal.τ Cert.SumBiasIdeal.sig) → Buf (Elt Ideal) ℓ) : Prop :=
  True

def Pre_SumBiasReferenceIdeal (m : (ℓ : Loc Cert.SumBiasReferenceIdeal.nD Cert.SumBiasReferenceIdeal.τ Cert.SumBiasReferenceIdeal.sig) → Buf (Elt Ideal) ℓ) : Prop :=
  True

def Pre_SumHeads (m : (ℓ : Loc Cert.SumHeads.nD Cert.SumHeads.τ Cert.SumHeads.sig) → Buf (Elt Bits) ℓ) : Prop :=
  True

def Pre_SumHeadsIdeal (m : (ℓ : Loc Cert.SumHeadsIdeal.nD Cert.SumHeadsIdeal.τ Cert.SumHeadsIdeal.sig) → Buf (Elt Ideal) ℓ) : Prop :=
  True

def Pre_SumHeadsReferenceIdeal (m : (ℓ : Loc Cert.SumHeadsReferenceIdeal.nD Cert.SumHeadsReferenceIdeal.τ Cert.SumHeadsReferenceIdeal.sig) → Buf (Elt Ideal) ℓ) : Prop :=
  True

def Pre_SumLoss (m : (ℓ : Loc Cert.SumLoss.nD Cert.SumLoss.τ Cert.SumLoss.sig) → Buf (Elt Bits) ℓ) : Prop :=
  True

def Pre_SumLossIdeal (m : (ℓ : Loc Cert.SumLossIdeal.nD Cert.SumLossIdeal.τ Cert.SumLossIdeal.sig) → Buf (Elt Ideal) ℓ) : Prop :=
  True

def Pre_SumLossReferenceIdeal (m : (ℓ : Loc Cert.SumLossReferenceIdeal.nD Cert.SumLossReferenceIdeal.τ Cert.SumLossReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActReferenceIdeal [hDActReferenceIdeal : Cert.DActReferenceIdeal.Facts] : Prop :=
  ∀ (m : (ℓ : Loc Cert.DActReferenceIdeal.nD Cert.DActReferenceIdeal.τ Cert.DActReferenceIdeal.sig) → Buf (Elt Ideal) ℓ) (g : Dev Cert.DActReferenceIdeal.nD → PrngReg), Pre_DActReferenceIdeal m →
    θ_run (Cert.DActReferenceIdeal.defs (F := Ideal)) (onTc (τ := Cert.DActReferenceIdeal.τ) (Cert.DActReferenceIdeal.main (F := Ideal))) ⟨m, fun _ => 0, g⟩ (fun r => (∀ c : Dev Cert.DActReferenceIdeal.nD,
      r.2.mem ((c.tc : Thread Cert.DActReferenceIdeal.nD Cert.DActReferenceIdeal.τ).loc Cert.DActReferenceIdeal.main_arg0) = m ((c.tc : Thread Cert.DActReferenceIdeal.nD Cert.DActReferenceIdeal.τ).loc Cert.DActReferenceIdeal.main_arg0)
      ∧ r.2.mem ((c.tc : Thread Cert.DActReferenceIdeal.nD Cert.DActReferenceIdeal.τ).loc Cert.DActReferenceIdeal.main_arg1) = m ((c.tc : Thread Cert.DActReferenceIdeal.nD Cert.DActReferenceIdeal.τ).loc Cert.DActReferenceIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1))
      ∧ r.2.sem = fun _ => 0)

def quiescent_DhGate [hDhGate : Cert.DhGate.Facts] : Prop :=
  ∀ (m : (ℓ : Loc Cert.DhGate.nD Cert.DhGate.τ Cert.DhGate.sig) → Buf (Elt Bits) ℓ) (g : Dev Cert.DhGate.nD → PrngReg), Pre_DhGate m →
    θ_run (Cert.DhGate.defs (F := Bits)) (onTc (τ := Cert.DhGate.τ) (Cert.DhGate.main (F := Bits))) ⟨m, fun _ => 0, g⟩ (fun r => (∀ c : Dev Cert.DhGate.nD,
      r.2.mem ((c.tc : Thread Cert.DhGate.nD Cert.DhGate.τ).loc Cert.DhGate.main_arg0) = m ((c.tc : Thread Cert.DhGate.nD Cert.DhGate.τ).loc Cert.DhGate.main_arg0)
      ∧ r.2.mem ((c.tc : Thread Cert.DhGate.nD Cert.DhGate.τ).loc Cert.DhGate.main_arg1) = m ((c.tc : Thread Cert.DhGate.nD Cert.DhGate.τ).loc Cert.DhGate.main_arg1))
      ∧ r.2.sem = fun _ => 0)

def quiescent_DhGateIdeal [hDhGateIdeal : Cert.DhGateIdeal.Facts] : Prop :=
  ∀ (m : (ℓ : Loc Cert.DhGateIdeal.nD Cert.DhGateIdeal.τ Cert.DhGateIdeal.sig) → Buf (Elt Ideal) ℓ) (g : Dev Cert.DhGateIdeal.nD → PrngReg), Pre_DhGateIdeal m →
    θ_run (Cert.DhGateIdeal.defs (F := Ideal)) (onTc (τ := Cert.DhGateIdeal.τ) (Cert.DhGateIdeal.main (F := Ideal))) ⟨m, fun _ => 0, g⟩ (fun r => (∀ c : Dev Cert.DhGateIdeal.nD,
      r.2.mem ((c.tc : Thread Cert.DhGateIdeal.nD Cert.DhGateIdeal.τ).loc Cert.DhGateIdeal.main_arg0) = m ((c.tc : Thread Cert.DhGateIdeal.nD Cert.DhGateIdeal.τ).loc Cert.DhGateIdeal.main_arg0)
      ∧ r.2.mem ((c.tc : Thread Cert.DhGateIdeal.nD Cert.DhGateIdeal.τ).loc Cert.DhGateIdeal.main_arg1) = m ((c.tc : Thread Cert.DhGateIdeal.nD Cert.DhGateIdeal.τ).loc Cert.DhGateIdeal.main_arg1))
      ∧ r.2.sem = fun _ => 0)

def quiescent_DhGateReferenceIdeal [hDhGateReferenceIdeal : Cert.DhGateReferenceIdeal.Facts] : Prop :=
  ∀ (m : (ℓ : Loc Cert.DhGateReferenceIdeal.nD Cert.DhGateReferenceIdeal.τ Cert.DhGateReferenceIdeal.sig) → Buf (Elt Ideal) ℓ) (g : Dev Cert.DhGateReferenceIdeal.nD → PrngReg), Pre_DhGateReferenceIdeal m →
    θ_run (Cert.DhGateReferenceIdeal.defs (F := Ideal)) (onTc (τ := Cert.DhGateReferenceIdeal.τ) (Cert.DhGateReferenceIdeal.main (F := Ideal))) ⟨m, fun _ => 0, g⟩ (fun r => (∀ c : Dev Cert.DhGateReferenceIdeal.nD,
      r.2.mem ((c.tc : Thread Cert.DhGateReferenceIdeal.nD Cert.DhGateReferenceIdeal.τ).loc Cert.DhGateReferenceIdeal.main_arg0) = m ((c.tc : Thread Cert.DhGateReferenceIdeal.nD Cert.DhGateReferenceIdeal.τ).loc Cert.DhGateReferenceIdeal.main_arg0)
      ∧ r.2.mem ((c.tc : Thread Cert.DhGateReferenceIdeal.nD Cert.DhGateReferenceIdeal.τ).loc Cert.DhGateReferenceIdeal.main_arg1) = m ((c.tc : Thread Cert.DhGateReferenceIdeal.nD Cert.DhGateReferenceIdeal.τ).loc Cert.DhGateReferenceIdeal.main_arg1))
      ∧ r.2.sem = fun _ => 0)

def quiescent_DhUp [hDhUp : Cert.DhUp.Facts] : Prop :=
  ∀ (m : (ℓ : Loc Cert.DhUp.nD Cert.DhUp.τ Cert.DhUp.sig) → Buf (Elt Bits) ℓ) (g : Dev Cert.DhUp.nD → PrngReg), Pre_DhUp m →
    θ_run (Cert.DhUp.defs (F := Bits)) (onTc (τ := Cert.DhUp.τ) (Cert.DhUp.main (F := Bits))) ⟨m, fun _ => 0, g⟩ (fun r => (∀ c : Dev Cert.DhUp.nD,
      r.2.mem ((c.tc : Thread Cert.DhUp.nD Cert.DhUp.τ).loc Cert.DhUp.main_arg0) = m ((c.tc : Thread Cert.DhUp.nD Cert.DhUp.τ).loc Cert.DhUp.main_arg0)
      ∧ r.2.mem ((c.tc : Thread Cert.DhUp.nD Cert.DhUp.τ).loc Cert.DhUp.main_arg1) = m ((c.tc : Thread Cert.DhUp.nD Cert.DhUp.τ).loc Cert.DhUp.main_arg1)
      ∧ r.2.mem ((c.tc : Thread Cert.DhUp.nD Cert.DhUp.τ).loc Cert.DhUp.main_arg2) = m ((c.tc : Thread Cert.DhUp.nD Cert.DhUp.τ).loc Cert.DhUp.main_arg2))
      ∧ r.2.sem = fun _ => 0)

def quiescent_DhUpIdeal [hDhUpIdeal : Cert.DhUpIdeal.Facts] : Prop :=
  ∀ (m : (ℓ : Loc Cert.DhUpIdeal.nD Cert.DhUpIdeal.τ Cert.DhUpIdeal.sig) → Buf (Elt Ideal) ℓ) (g : Dev Cert.DhUpIdeal.nD → PrngReg), Pre_DhUpIdeal m →
    θ_run (Cert.DhUpIdeal.defs (F := Ideal)) (onTc (τ := Cert.DhUpIdeal.τ) (Cert.DhUpIdeal.main (F := Ideal))) ⟨m, fun _ => 0, g⟩ (fun r => (∀ c : Dev Cert.DhUpIdeal.nD,
      r.2.mem ((c.tc : Thread Cert.DhUpIdeal.nD Cert.DhUpIdeal.τ).loc Cert.DhUpIdeal.main_arg0) = m ((c.tc : Thread Cert.DhUpIdeal.nD Cert.DhUpIdeal.τ).loc Cert.DhUpIdeal.main_arg0)
      ∧ r.2.mem ((c.tc : Thread Cert.DhUpIdeal.nD Cert.DhUpIdeal.τ).loc Cert.DhUpIdeal.main_arg1) = m ((c.tc : Thread Cert.DhUpIdeal.nD Cert.DhUpIdeal.τ).loc Cert.DhUpIdeal.main_arg1)
      ∧ r.2.mem ((c.tc : Thread Cert.DhUpIdeal.nD Cert.DhUpIdeal.τ).loc Cert.DhUpIdeal.main_arg2) = m ((c.tc : Thread Cert.DhUpIdeal.nD Cert.DhUpIdeal.τ).loc Cert.DhUpIdeal.main_arg2))
      ∧ r.2.sem = fun _ => 0)

def quiescent_DhUpReferenceIdeal [hDhUpReferenceIdeal : Cert.DhUpReferenceIdeal.Facts] : Prop :=
  ∀ (m : (ℓ : Loc Cert.DhUpReferenceIdeal.nD Cert.DhUpReferenceIdeal.τ Cert.DhUpReferenceIdeal.sig) → Buf (Elt Ideal) ℓ) (g : Dev Cert.DhUpReferenceIdeal.nD → PrngReg), Pre_DhUpReferenceIdeal m →
    θ_run (Cert.DhUpReferenceIdeal.defs (F := Ideal)) (onTc (τ := Cert.DhUpReferenceIdeal.τ) (Cert.DhUpReferenceIdeal.main (F := Ideal))) ⟨m, fun _ => 0, g⟩ (fun r => (∀ c : Dev Cert.DhUpReferenceIdeal.nD,
      r.2.mem ((c.tc : Thread Cert.DhUpReferenceIdeal.nD Cert.DhUpReferenceIdeal.τ).loc Cert.DhUpReferenceIdeal.main_arg0) = m ((c.tc : Thread Cert.DhUpReferenceIdeal.nD Cert.DhUpReferenceIdeal.τ).loc Cert.DhUpReferenceIdeal.main_arg0)
      ∧ r.2.mem ((c.tc : Thread Cert.DhUpReferenceIdeal.nD Cert.DhUpReferenceIdeal.τ).loc Cert.DhUpReferenceIdeal.main_arg1) = m ((c.tc : Thread Cert.DhUpReferenceIdeal.nD Cert.DhUpReferenceIdeal.τ).loc Cert.DhUpReferenceIdeal.main_arg1)
      ∧ r.2.mem ((c.tc : Thread Cert.DhUpReferenceIdeal.nD Cert.DhUpReferenceIdeal.τ).loc Cert.DhUpReferenceIdeal.main_arg2) = m ((c.tc : Thread Cert.DhUpReferenceIdeal.nD Cert.DhUpReferenceIdeal.τ).loc Cert.DhUpReferenceIdeal.main_arg2))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateReferenceIdeal [hDwGateReferenceIdeal : Cert.DwGateReferenceIdeal.Facts] : Prop :=
  ∀ (m : (ℓ : Loc Cert.DwGateReferenceIdeal.nD Cert.DwGateReferenceIdeal.τ Cert.DwGateReferenceIdeal.sig) → Buf (Elt Ideal) ℓ) (g : Dev Cert.DwGateReferenceIdeal.nD → PrngReg), Pre_DwGateReferenceIdeal m →
    θ_run (Cert.DwGateReferenceIdeal.defs (F := Ideal)) (onTc (τ := Cert.DwGateReferenceIdeal.τ) (Cert.DwGateReferenceIdeal.main (F := Ideal))) ⟨m, fun _ => 0, g⟩ (fun r => (∀ c : Dev Cert.DwGateReferenceIdeal.nD,
      r.2.mem ((c.tc : Thread Cert.DwGateReferenceIdeal.nD Cert.DwGateReferenceIdeal.τ).loc Cert.DwGateReferenceIdeal.main_arg0) = m ((c.tc : Thread Cert.DwGateReferenceIdeal.nD Cert.DwGateReferenceIdeal.τ).loc Cert.DwGateReferenceIdeal.main_arg0)
      ∧ r.2.mem ((c.tc : Thread Cert.DwGateReferenceIdeal.nD Cert.DwGateReferenceIdeal.τ).loc Cert.DwGateReferenceIdeal.main_arg1) = m ((c.tc : Thread Cert.DwGateReferenceIdeal.nD Cert.DwGateReferenceIdeal.τ).loc Cert.DwGateReferenceIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpReferenceIdeal [hDwUpReferenceIdeal : Cert.DwUpReferenceIdeal.Facts] : Prop :=
  ∀ (m : (ℓ : Loc Cert.DwUpReferenceIdeal.nD Cert.DwUpReferenceIdeal.τ Cert.DwUpReferenceIdeal.sig) → Buf (Elt Ideal) ℓ) (g : Dev Cert.DwUpReferenceIdeal.nD → PrngReg), Pre_DwUpReferenceIdeal m →
    θ_run (Cert.DwUpReferenceIdeal.defs (F := Ideal)) (onTc (τ := Cert.DwUpReferenceIdeal.τ) (Cert.DwUpReferenceIdeal.main (F := Ideal))) ⟨m, fun _ => 0, g⟩ (fun r => (∀ c : Dev Cert.DwUpReferenceIdeal.nD,
      r.2.mem ((c.tc : Thread Cert.DwUpReferenceIdeal.nD Cert.DwUpReferenceIdeal.τ).loc Cert.DwUpReferenceIdeal.main_arg0) = m ((c.tc : Thread Cert.DwUpReferenceIdeal.nD Cert.DwUpReferenceIdeal.τ).loc Cert.DwUpReferenceIdeal.main_arg0)
      ∧ r.2.mem ((c.tc : Thread Cert.DwUpReferenceIdeal.nD Cert.DwUpReferenceIdeal.τ).loc Cert.DwUpReferenceIdeal.main_arg1) = m ((c.tc : Thread Cert.DwUpReferenceIdeal.nD Cert.DwUpReferenceIdeal.τ).loc Cert.DwUpReferenceIdeal.main_arg1))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInReferenceIdeal [hProjInReferenceIdeal : Cert.ProjInReferenceIdeal.Facts] : Prop :=
  ∀ (m : (ℓ : Loc Cert.ProjInReferenceIdeal.nD Cert.ProjInReferenceIdeal.τ Cert.ProjInReferenceIdeal.sig) → Buf (Elt Ideal) ℓ) (g : Dev Cert.ProjInReferenceIdeal.nD → PrngReg), Pre_ProjInReferenceIdeal m →
    θ_run (Cert.ProjInReferenceIdeal.defs (F := Ideal)) (onTc (τ := Cert.ProjInReferenceIdeal.τ) (Cert.ProjInReferenceIdeal.main (F := Ideal))) ⟨m, fun _ => 0, g⟩ (fun r => (∀ c : Dev Cert.ProjInReferenceIdeal.nD,
      r.2.mem ((c.tc : Thread Cert.ProjInReferenceIdeal.nD Cert.ProjInReferenceIdeal.τ).loc Cert.ProjInReferenceIdeal.main_arg0) = m ((c.tc : Thread Cert.ProjInReferenceIdeal.nD Cert.ProjInReferenceIdeal.τ).loc Cert.ProjInReferenceIdeal.main_arg0)
      ∧ r.2.mem ((c.tc : Thread Cert.ProjInReferenceIdeal.nD Cert.ProjInReferenceIdeal.τ).loc Cert.ProjInReferenceIdeal.main_arg1) = m ((c.tc : Thread Cert.ProjInReferenceIdeal.nD Cert.ProjInReferenceIdeal.τ).loc Cert.ProjInReferenceIdeal.main_arg1))
      ∧ r.2.sem = fun _ => 0)

def quiescent_DhIn [hDhIn : Cert.DhIn.Facts] : Prop :=
  ∀ (m : (ℓ : Loc Cert.DhIn.nD Cert.DhIn.τ Cert.DhIn.sig) → Buf (Elt Bits) ℓ) (g : Dev Cert.DhIn.nD → PrngReg), Pre_DhIn m →
    θ_run (Cert.DhIn.defs (F := Bits)) (onTc (τ := Cert.DhIn.τ) (Cert.DhIn.main (F := Bits))) ⟨m, fun _ => 0, g⟩ (fun r => (∀ c : Dev Cert.DhIn.nD,
      r.2.mem ((c.tc : Thread Cert.DhIn.nD Cert.DhIn.τ).loc Cert.DhIn.main_arg0) = m ((c.tc : Thread Cert.DhIn.nD Cert.DhIn.τ).loc Cert.DhIn.main_arg0)
      ∧ r.2.mem ((c.tc : Thread Cert.DhIn.nD Cert.DhIn.τ).loc Cert.DhIn.main_arg1) = m ((c.tc : Thread Cert.DhIn.nD Cert.DhIn.τ).loc Cert.DhIn.main_arg1))
      ∧ r.2.sem = fun _ => 0)

def quiescent_DhInIdeal [hDhInIdeal : Cert.DhInIdeal.Facts] : Prop :=
  ∀ (m : (ℓ : Loc Cert.DhInIdeal.nD Cert.DhInIdeal.τ Cert.DhInIdeal.sig) → Buf (Elt Ideal) ℓ) (g : Dev Cert.DhInIdeal.nD → PrngReg), Pre_DhInIdeal m →
    θ_run (Cert.DhInIdeal.defs (F := Ideal)) (onTc (τ := Cert.DhInIdeal.τ) (Cert.DhInIdeal.main (F := Ideal))) ⟨m, fun _ => 0, g⟩ (fun r => (∀ c : Dev Cert.DhInIdeal.nD,
      r.2.mem ((c.tc : Thread Cert.DhInIdeal.nD Cert.DhInIdeal.τ).loc Cert.DhInIdeal.main_arg0) = m ((c.tc : Thread Cert.DhInIdeal.nD Cert.DhInIdeal.τ).loc Cert.DhInIdeal.main_arg0)
      ∧ r.2.mem ((c.tc : Thread Cert.DhInIdeal.nD Cert.DhInIdeal.τ).loc Cert.DhInIdeal.main_arg1) = m ((c.tc : Thread Cert.DhInIdeal.nD Cert.DhInIdeal.τ).loc Cert.DhInIdeal.main_arg1))
      ∧ r.2.sem = fun _ => 0)

def quiescent_DhInReferenceIdeal [hDhInReferenceIdeal : Cert.DhInReferenceIdeal.Facts] : Prop :=
  ∀ (m : (ℓ : Loc Cert.DhInReferenceIdeal.nD Cert.DhInReferenceIdeal.τ Cert.DhInReferenceIdeal.sig) → Buf (Elt Ideal) ℓ) (g : Dev Cert.DhInReferenceIdeal.nD → PrngReg), Pre_DhInReferenceIdeal m →
    θ_run (Cert.DhInReferenceIdeal.defs (F := Ideal)) (onTc (τ := Cert.DhInReferenceIdeal.τ) (Cert.DhInReferenceIdeal.main (F := Ideal))) ⟨m, fun _ => 0, g⟩ (fun r => (∀ c : Dev Cert.DhInReferenceIdeal.nD,
      r.2.mem ((c.tc : Thread Cert.DhInReferenceIdeal.nD Cert.DhInReferenceIdeal.τ).loc Cert.DhInReferenceIdeal.main_arg0) = m ((c.tc : Thread Cert.DhInReferenceIdeal.nD Cert.DhInReferenceIdeal.τ).loc Cert.DhInReferenceIdeal.main_arg0)
      ∧ r.2.mem ((c.tc : Thread Cert.DhInReferenceIdeal.nD Cert.DhInReferenceIdeal.τ).loc Cert.DhInReferenceIdeal.main_arg1) = m ((c.tc : Thread Cert.DhInReferenceIdeal.nD Cert.DhInReferenceIdeal.τ).loc Cert.DhInReferenceIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ r.2.sem = fun _ => 0)

def quiescent_ProjOutReferenceIdeal [hProjOutReferenceIdeal : Cert.ProjOutReferenceIdeal.Facts] : Prop :=
  ∀ (m : (ℓ : Loc Cert.ProjOutReferenceIdeal.nD Cert.ProjOutReferenceIdeal.τ Cert.ProjOutReferenceIdeal.sig) → Buf (Elt Ideal) ℓ) (g : Dev Cert.ProjOutReferenceIdeal.nD → PrngReg), Pre_ProjOutReferenceIdeal m →
    θ_run (Cert.ProjOutReferenceIdeal.defs (F := Ideal)) (onTc (τ := Cert.ProjOutReferenceIdeal.τ) (Cert.ProjOutReferenceIdeal.main (F := Ideal))) ⟨m, fun _ => 0, g⟩ (fun r => (∀ c : Dev Cert.ProjOutReferenceIdeal.nD,
      r.2.mem ((c.tc : Thread Cert.ProjOutReferenceIdeal.nD Cert.ProjOutReferenceIdeal.τ).loc Cert.ProjOutReferenceIdeal.main_arg0) = m ((c.tc : Thread Cert.ProjOutReferenceIdeal.nD Cert.ProjOutReferenceIdeal.τ).loc Cert.ProjOutReferenceIdeal.main_arg0)
      ∧ r.2.mem ((c.tc : Thread Cert.ProjOutReferenceIdeal.nD Cert.ProjOutReferenceIdeal.τ).loc Cert.ProjOutReferenceIdeal.main_arg1) = m ((c.tc : Thread Cert.ProjOutReferenceIdeal.nD Cert.ProjOutReferenceIdeal.τ).loc Cert.ProjOutReferenceIdeal.main_arg1)
      ∧ r.2.mem ((c.tc : Thread Cert.ProjOutReferenceIdeal.nD Cert.ProjOutReferenceIdeal.τ).loc Cert.ProjOutReferenceIdeal.main_arg2) = m ((c.tc : Thread Cert.ProjOutReferenceIdeal.nD Cert.ProjOutReferenceIdeal.τ).loc Cert.ProjOutReferenceIdeal.main_arg2))
      ∧ r.2.sem = fun _ => 0)

def quiescent_DY [hDY : Cert.DY.Facts] : Prop :=
  ∀ (m : (ℓ : Loc Cert.DY.nD Cert.DY.τ Cert.DY.sig) → Buf (Elt Bits) ℓ) (g : Dev Cert.DY.nD → PrngReg), Pre_DY m →
    θ_run (Cert.DY.defs (F := Bits)) (onTc (τ := Cert.DY.τ) (Cert.DY.main (F := Bits))) ⟨m, fun _ => 0, g⟩ (fun r => (∀ c : Dev Cert.DY.nD,
      r.2.mem ((c.tc : Thread Cert.DY.nD Cert.DY.τ).loc Cert.DY.main_arg0) = m ((c.tc : Thread Cert.DY.nD Cert.DY.τ).loc Cert.DY.main_arg0)
      ∧ r.2.mem ((c.tc : Thread Cert.DY.nD Cert.DY.τ).loc Cert.DY.main_arg1) = m ((c.tc : Thread Cert.DY.nD Cert.DY.τ).loc Cert.DY.main_arg1))
      ∧ r.2.sem = fun _ => 0)

def quiescent_DYIdeal [hDYIdeal : Cert.DYIdeal.Facts] : Prop :=
  ∀ (m : (ℓ : Loc Cert.DYIdeal.nD Cert.DYIdeal.τ Cert.DYIdeal.sig) → Buf (Elt Ideal) ℓ) (g : Dev Cert.DYIdeal.nD → PrngReg), Pre_DYIdeal m →
    θ_run (Cert.DYIdeal.defs (F := Ideal)) (onTc (τ := Cert.DYIdeal.τ) (Cert.DYIdeal.main (F := Ideal))) ⟨m, fun _ => 0, g⟩ (fun r => (∀ c : Dev Cert.DYIdeal.nD,
      r.2.mem ((c.tc : Thread Cert.DYIdeal.nD Cert.DYIdeal.τ).loc Cert.DYIdeal.main_arg0) = m ((c.tc : Thread Cert.DYIdeal.nD Cert.DYIdeal.τ).loc Cert.DYIdeal.main_arg0)
      ∧ r.2.mem ((c.tc : Thread Cert.DYIdeal.nD Cert.DYIdeal.τ).loc Cert.DYIdeal.main_arg1) = m ((c.tc : Thread Cert.DYIdeal.nD Cert.DYIdeal.τ).loc Cert.DYIdeal.main_arg1))
      ∧ r.2.sem = fun _ => 0)

def quiescent_DYReferenceIdeal [hDYReferenceIdeal : Cert.DYReferenceIdeal.Facts] : Prop :=
  ∀ (m : (ℓ : Loc Cert.DYReferenceIdeal.nD Cert.DYReferenceIdeal.τ Cert.DYReferenceIdeal.sig) → Buf (Elt Ideal) ℓ) (g : Dev Cert.DYReferenceIdeal.nD → PrngReg), Pre_DYReferenceIdeal m →
    θ_run (Cert.DYReferenceIdeal.defs (F := Ideal)) (onTc (τ := Cert.DYReferenceIdeal.τ) (Cert.DYReferenceIdeal.main (F := Ideal))) ⟨m, fun _ => 0, g⟩ (fun r => (∀ c : Dev Cert.DYReferenceIdeal.nD,
      r.2.mem ((c.tc : Thread Cert.DYReferenceIdeal.nD Cert.DYReferenceIdeal.τ).loc Cert.DYReferenceIdeal.main_arg0) = m ((c.tc : Thread Cert.DYReferenceIdeal.nD Cert.DYReferenceIdeal.τ).loc Cert.DYReferenceIdeal.main_arg0)
      ∧ r.2.mem ((c.tc : Thread Cert.DYReferenceIdeal.nD Cert.DYReferenceIdeal.τ).loc Cert.DYReferenceIdeal.main_arg1) = m ((c.tc : Thread Cert.DYReferenceIdeal.nD Cert.DYReferenceIdeal.τ).loc Cert.DYReferenceIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_ProjQ [hProjQ : Cert.ProjQ.Facts] : Prop :=
  ∀ (m : (ℓ : Loc Cert.ProjQ.nD Cert.ProjQ.τ Cert.ProjQ.sig) → Buf (Elt Bits) ℓ) (g : Dev Cert.ProjQ.nD → PrngReg), Pre_ProjQ m →
    θ_run (Cert.ProjQ.defs (F := Bits)) (onTc (τ := Cert.ProjQ.τ) (Cert.ProjQ.main (F := Bits))) ⟨m, fun _ => 0, g⟩ (fun r => (∀ c : Dev Cert.ProjQ.nD,
      r.2.mem ((c.tc : Thread Cert.ProjQ.nD Cert.ProjQ.τ).loc Cert.ProjQ.main_arg0) = m ((c.tc : Thread Cert.ProjQ.nD Cert.ProjQ.τ).loc Cert.ProjQ.main_arg0)
      ∧ r.2.mem ((c.tc : Thread Cert.ProjQ.nD Cert.ProjQ.τ).loc Cert.ProjQ.main_arg1) = m ((c.tc : Thread Cert.ProjQ.nD Cert.ProjQ.τ).loc Cert.ProjQ.main_arg1))
      ∧ r.2.sem = fun _ => 0)

def quiescent_ProjQIdeal [hProjQIdeal : Cert.ProjQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1))
      ∧ r.2.sem = fun _ => 0)

def quiescent_ProjQReferenceIdeal [hProjQReferenceIdeal : Cert.ProjQReferenceIdeal.Facts] : Prop :=
  ∀ (m : (ℓ : Loc Cert.ProjQReferenceIdeal.nD Cert.ProjQReferenceIdeal.τ Cert.ProjQReferenceIdeal.sig) → Buf (Elt Ideal) ℓ) (g : Dev Cert.ProjQReferenceIdeal.nD → PrngReg), Pre_ProjQReferenceIdeal m →
    θ_run (Cert.ProjQReferenceIdeal.defs (F := Ideal)) (onTc (τ := Cert.ProjQReferenceIdeal.τ) (Cert.ProjQReferenceIdeal.main (F := Ideal))) ⟨m, fun _ => 0, g⟩ (fun r => (∀ c : Dev Cert.ProjQReferenceIdeal.nD,
      r.2.mem ((c.tc : Thread Cert.ProjQReferenceIdeal.nD Cert.ProjQReferenceIdeal.τ).loc Cert.ProjQReferenceIdeal.main_arg0) = m ((c.tc : Thread Cert.ProjQReferenceIdeal.nD Cert.ProjQReferenceIdeal.τ).loc Cert.ProjQReferenceIdeal.main_arg0)
      ∧ r.2.mem ((c.tc : Thread Cert.ProjQReferenceIdeal.nD Cert.ProjQReferenceIdeal.τ).loc Cert.ProjQReferenceIdeal.main_arg1) = m ((c.tc : Thread Cert.ProjQReferenceIdeal.nD Cert.ProjQReferenceIdeal.τ).loc Cert.ProjQReferenceIdeal.main_arg1))
      ∧ r.2.sem = fun _ => 0)

def quiescent_DQn [hDQn : Cert.DQn.Facts] : Prop :=
  ∀ (m : (ℓ : Loc Cert.DQn.nD Cert.DQn.τ Cert.DQn.sig) → Buf (Elt Bits) ℓ) (g : Dev Cert.DQn.nD → PrngReg), Pre_DQn m →
    θ_run (Cert.DQn.defs (F := Bits)) (onTc (τ := Cert.DQn.τ) (Cert.DQn.main (F := Bits))) ⟨m, fun _ => 0, g⟩ (fun r => (∀ c : Dev Cert.DQn.nD,
      r.2.mem ((c.tc : Thread Cert.DQn.nD Cert.DQn.τ).loc Cert.DQn.main_arg0) = m ((c.tc : Thread Cert.DQn.nD Cert.DQn.τ).loc Cert.DQn.main_arg0)
      ∧ r.2.mem ((c.tc : Thread Cert.DQn.nD Cert.DQn.τ).loc Cert.DQn.main_arg1) = m ((c.tc : Thread Cert.DQn.nD Cert.DQn.τ).loc Cert.DQn.main_arg1))
      ∧ r.2.sem = fun _ => 0)

def quiescent_DQnIdeal [hDQnIdeal : Cert.DQnIdeal.Facts] : Prop :=
  ∀ (m : (ℓ : Loc Cert.DQnIdeal.nD Cert.DQnIdeal.τ Cert.DQnIdeal.sig) → Buf (Elt Ideal) ℓ) (g : Dev Cert.DQnIdeal.nD → PrngReg), Pre_DQnIdeal m →
    θ_run (Cert.DQnIdeal.defs (F := Ideal)) (onTc (τ := Cert.DQnIdeal.τ) (Cert.DQnIdeal.main (F := Ideal))) ⟨m, fun _ => 0, g⟩ (fun r => (∀ c : Dev Cert.DQnIdeal.nD,
      r.2.mem ((c.tc : Thread Cert.DQnIdeal.nD Cert.DQnIdeal.τ).loc Cert.DQnIdeal.main_arg0) = m ((c.tc : Thread Cert.DQnIdeal.nD Cert.DQnIdeal.τ).loc Cert.DQnIdeal.main_arg0)
      ∧ r.2.mem ((c.tc : Thread Cert.DQnIdeal.nD Cert.DQnIdeal.τ).loc Cert.DQnIdeal.main_arg1) = m ((c.tc : Thread Cert.DQnIdeal.nD Cert.DQnIdeal.τ).loc Cert.DQnIdeal.main_arg1))
      ∧ r.2.sem = fun _ => 0)

def quiescent_DQnReferenceIdeal [hDQnReferenceIdeal : Cert.DQnReferenceIdeal.Facts] : Prop :=
  ∀ (m : (ℓ : Loc Cert.DQnReferenceIdeal.nD Cert.DQnReferenceIdeal.τ Cert.DQnReferenceIdeal.sig) → Buf (Elt Ideal) ℓ) (g : Dev Cert.DQnReferenceIdeal.nD → PrngReg), Pre_DQnReferenceIdeal m →
    θ_run (Cert.DQnReferenceIdeal.defs (F := Ideal)) (onTc (τ := Cert.DQnReferenceIdeal.τ) (Cert.DQnReferenceIdeal.main (F := Ideal))) ⟨m, fun _ => 0, g⟩ (fun r => (∀ c : Dev Cert.DQnReferenceIdeal.nD,
      r.2.mem ((c.tc : Thread Cert.DQnReferenceIdeal.nD Cert.DQnReferenceIdeal.τ).loc Cert.DQnReferenceIdeal.main_arg0) = m ((c.tc : Thread Cert.DQnReferenceIdeal.nD Cert.DQnReferenceIdeal.τ).loc Cert.DQnReferenceIdeal.main_arg0)
      ∧ r.2.mem ((c.tc : Thread Cert.DQnReferenceIdeal.nD Cert.DQnReferenceIdeal.τ).loc Cert.DQnReferenceIdeal.main_arg1) = m ((c.tc : Thread Cert.DQnReferenceIdeal.nD Cert.DQnReferenceIdeal.τ).loc Cert.DQnReferenceIdeal.main_arg1))
      ∧ r.2.sem = fun _ => 0)

def quiescent_DwUq [hDwUq : Cert.DwUq.Facts] : Prop :=
  ∀ (m : (ℓ : Loc Cert.DwUq.nD Cert.DwUq.τ Cert.DwUq.sig) → Buf (Elt Bits) ℓ) (g : Dev Cert.DwUq.nD → PrngReg), Pre_DwUq m →
    θ_run (Cert.DwUq.defs (F := Bits)) (onTc (τ := Cert.DwUq.τ) (Cert.DwUq.main (F := Bits))) ⟨m, fun _ => 0, g⟩ (fun r => (∀ c : Dev Cert.DwUq.nD,
      r.2.mem ((c.tc : Thread Cert.DwUq.nD Cert.DwUq.τ).loc Cert.DwUq.main_arg0) = m ((c.tc : Thread Cert.DwUq.nD Cert.DwUq.τ).loc Cert.DwUq.main_arg0)
      ∧ r.2.mem ((c.tc : Thread Cert.DwUq.nD Cert.DwUq.τ).loc Cert.DwUq.main_arg1) = m ((c.tc : Thread Cert.DwUq.nD Cert.DwUq.τ).loc Cert.DwUq.main_arg1))
      ∧ r.2.sem = fun _ => 0)

def quiescent_DwUqIdeal [hDwUqIdeal : Cert.DwUqIdeal.Facts] : Prop :=
  ∀ (m : (ℓ : Loc Cert.DwUqIdeal.nD Cert.DwUqIdeal.τ Cert.DwUqIdeal.sig) → Buf (Elt Ideal) ℓ) (g : Dev Cert.DwUqIdeal.nD → PrngReg), Pre_DwUqIdeal m →
    θ_run (Cert.DwUqIdeal.defs (F := Ideal)) (onTc (τ := Cert.DwUqIdeal.τ) (Cert.DwUqIdeal.main (F := Ideal))) ⟨m, fun _ => 0, g⟩ (fun r => (∀ c : Dev Cert.DwUqIdeal.nD,
      r.2.mem ((c.tc : Thread Cert.DwUqIdeal.nD Cert.DwUqIdeal.τ).loc Cert.DwUqIdeal.main_arg0) = m ((c.tc : Thread Cert.DwUqIdeal.nD Cert.DwUqIdeal.τ).loc Cert.DwUqIdeal.main_arg0)
      ∧ r.2.mem ((c.tc : Thread Cert.DwUqIdeal.nD Cert.DwUqIdeal.τ).loc Cert.DwUqIdeal.main_arg1) = m ((c.tc : Thread Cert.DwUqIdeal.nD Cert.DwUqIdeal.τ).loc Cert.DwUqIdeal.main_arg1))
      ∧ r.2.sem = fun _ => 0)

def quiescent_DwUqReferenceIdeal [hDwUqReferenceIdeal : Cert.DwUqReferenceIdeal.Facts] : Prop :=
  ∀ (m : (ℓ : Loc Cert.DwUqReferenceIdeal.nD Cert.DwUqReferenceIdeal.τ Cert.DwUqReferenceIdeal.sig) → Buf (Elt Ideal) ℓ) (g : Dev Cert.DwUqReferenceIdeal.nD → PrngReg), Pre_DwUqReferenceIdeal m →
    θ_run (Cert.DwUqReferenceIdeal.defs (F := Ideal)) (onTc (τ := Cert.DwUqReferenceIdeal.τ) (Cert.DwUqReferenceIdeal.main (F := Ideal))) ⟨m, fun _ => 0, g⟩ (fun r => (∀ c : Dev Cert.DwUqReferenceIdeal.nD,
      r.2.mem ((c.tc : Thread Cert.DwUqReferenceIdeal.nD Cert.DwUqReferenceIdeal.τ).loc Cert.DwUqReferenceIdeal.main_arg0) = m ((c.tc : Thread Cert.DwUqReferenceIdeal.nD Cert.DwUqReferenceIdeal.τ).loc Cert.DwUqReferenceIdeal.main_arg0)
      ∧ r.2.mem ((c.tc : Thread Cert.DwUqReferenceIdeal.nD Cert.DwUqReferenceIdeal.τ).loc Cert.DwUqReferenceIdeal.main_arg1) = m ((c.tc : Thread Cert.DwUqReferenceIdeal.nD Cert.DwUqReferenceIdeal.τ).loc Cert.DwUqReferenceIdeal.main_arg1))
      ∧ r.2.sem = fun _ => 0)

def quiescent_ProjKv [hProjKv : Cert.ProjKv.Facts] : Prop :=
  ∀ (m : (ℓ : Loc Cert.ProjKv.nD Cert.ProjKv.τ Cert.ProjKv.sig) → Buf (Elt Bits) ℓ) (g : Dev Cert.ProjKv.nD → PrngReg), Pre_ProjKv m →
    θ_run (Cert.ProjKv.defs (F := Bits)) (onTc (τ := Cert.ProjKv.τ) (Cert.ProjKv.main (F := Bits))) ⟨m, fun _ => 0, g⟩ (fun r => (∀ c : Dev Cert.ProjKv.nD,
      r.2.mem ((c.tc : Thread Cert.ProjKv.nD Cert.ProjKv.τ).loc Cert.ProjKv.main_arg0) = m ((c.tc : Thread Cert.ProjKv.nD Cert.ProjKv.τ).loc Cert.ProjKv.main_arg0)
      ∧ r.2.mem ((c.tc : Thread Cert.ProjKv.nD Cert.ProjKv.τ).loc Cert.ProjKv.main_arg1) = m ((c.tc : Thread Cert.ProjKv.nD Cert.ProjKv.τ).loc Cert.ProjKv.main_arg1))
      ∧ r.2.sem = fun _ => 0)

def quiescent_ProjKvIdeal [hProjKvIdeal : Cert.ProjKvIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg), Pre_ProjKvIdeal m →
    θ_run (Cert.ProjKvIdeal.defs (F := Ideal)) (onTc (τ := Cert.ProjKvIdeal.τ) (Cert.ProjKvIdeal.main (F := Ideal))) ⟨m, fun _ => 0, g⟩ (fun r => (∀ c : Dev Cert.ProjKvIdeal.nD,
      r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
      ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1))
      ∧ r.2.sem = fun _ => 0)

def quiescent_ProjKvReferenceIdeal [hProjKvReferenceIdeal : Cert.ProjKvReferenceIdeal.Facts] : Prop :=
  ∀ (m : (ℓ : Loc Cert.ProjKvReferenceIdeal.nD Cert.ProjKvReferenceIdeal.τ Cert.ProjKvReferenceIdeal.sig) → Buf (Elt Ideal) ℓ) (g : Dev Cert.ProjKvReferenceIdeal.nD → PrngReg), Pre_ProjKvReferenceIdeal m →
    θ_run (Cert.ProjKvReferenceIdeal.defs (F := Ideal)) (onTc (τ := Cert.ProjKvReferenceIdeal.τ) (Cert.ProjKvReferenceIdeal.main (F := Ideal))) ⟨m, fun _ => 0, g⟩ (fun r => (∀ c : Dev Cert.ProjKvReferenceIdeal.nD,
      r.2.mem ((c.tc : Thread Cert.ProjKvReferenceIdeal.nD Cert.ProjKvReferenceIdeal.τ).loc Cert.ProjKvReferenceIdeal.main_arg0) = m ((c.tc : Thread Cert.ProjKvReferenceIdeal.nD Cert.ProjKvReferenceIdeal.τ).loc Cert.ProjKvReferenceIdeal.main_arg0)
      ∧ r.2.mem ((c.tc : Thread Cert.ProjKvReferenceIdeal.nD Cert.ProjKvReferenceIdeal.τ).loc Cert.ProjKvReferenceIdeal.main_arg1) = m ((c.tc : Thread Cert.ProjKvReferenceIdeal.nD Cert.ProjKvReferenceIdeal.τ).loc Cert.ProjKvReferenceIdeal.main_arg1))
      ∧ r.2.sem = fun _ => 0)

def quiescent_DKvn [hDKvn : Cert.DKvn.Facts] : Prop :=
  ∀ (m : (ℓ : Loc Cert.DKvn.nD Cert.DKvn.τ Cert.DKvn.sig) → Buf (Elt Bits) ℓ) (g : Dev Cert.DKvn.nD → PrngReg), Pre_DKvn m →
    θ_run (Cert.DKvn.defs (F := Bits)) (onTc (τ := Cert.DKvn.τ) (Cert.DKvn.main (F := Bits))) ⟨m, fun _ => 0, g⟩ (fun r => (∀ c : Dev Cert.DKvn.nD,
      r.2.mem ((c.tc : Thread Cert.DKvn.nD Cert.DKvn.τ).loc Cert.DKvn.main_arg0) = m ((c.tc : Thread Cert.DKvn.nD Cert.DKvn.τ).loc Cert.DKvn.main_arg0)
      ∧ r.2.mem ((c.tc : Thread Cert.DKvn.nD Cert.DKvn.τ).loc Cert.DKvn.main_arg1) = m ((c.tc : Thread Cert.DKvn.nD Cert.DKvn.τ).loc Cert.DKvn.main_arg1))
      ∧ r.2.sem = fun _ => 0)

def quiescent_DKvnIdeal [hDKvnIdeal : Cert.DKvnIdeal.Facts] : Prop :=
  ∀ (m : (ℓ : Loc Cert.DKvnIdeal.nD Cert.DKvnIdeal.τ Cert.DKvnIdeal.sig) → Buf (Elt Ideal) ℓ) (g : Dev Cert.DKvnIdeal.nD → PrngReg), Pre_DKvnIdeal m →
    θ_run (Cert.DKvnIdeal.defs (F := Ideal)) (onTc (τ := Cert.DKvnIdeal.τ) (Cert.DKvnIdeal.main (F := Ideal))) ⟨m, fun _ => 0, g⟩ (fun r => (∀ c : Dev Cert.DKvnIdeal.nD,
      r.2.mem ((c.tc : Thread Cert.DKvnIdeal.nD Cert.DKvnIdeal.τ).loc Cert.DKvnIdeal.main_arg0) = m ((c.tc : Thread Cert.DKvnIdeal.nD Cert.DKvnIdeal.τ).loc Cert.DKvnIdeal.main_arg0)
      ∧ r.2.mem ((c.tc : Thread Cert.DKvnIdeal.nD Cert.DKvnIdeal.τ).loc Cert.DKvnIdeal.main_arg1) = m ((c.tc : Thread Cert.DKvnIdeal.nD Cert.DKvnIdeal.τ).loc Cert.DKvnIdeal.main_arg1))
      ∧ r.2.sem = fun _ => 0)

def quiescent_DKvnReferenceIdeal [hDKvnReferenceIdeal : Cert.DKvnReferenceIdeal.Facts] : Prop :=
  ∀ (m : (ℓ : Loc Cert.DKvnReferenceIdeal.nD Cert.DKvnReferenceIdeal.τ Cert.DKvnReferenceIdeal.sig) → Buf (Elt Ideal) ℓ) (g : Dev Cert.DKvnReferenceIdeal.nD → PrngReg), Pre_DKvnReferenceIdeal m →
    θ_run (Cert.DKvnReferenceIdeal.defs (F := Ideal)) (onTc (τ := Cert.DKvnReferenceIdeal.τ) (Cert.DKvnReferenceIdeal.main (F := Ideal))) ⟨m, fun _ => 0, g⟩ (fun r => (∀ c : Dev Cert.DKvnReferenceIdeal.nD,
      r.2.mem ((c.tc : Thread Cert.DKvnReferenceIdeal.nD Cert.DKvnReferenceIdeal.τ).loc Cert.DKvnReferenceIdeal.main_arg0) = m ((c.tc : Thread Cert.DKvnReferenceIdeal.nD Cert.DKvnReferenceIdeal.τ).loc Cert.DKvnReferenceIdeal.main_arg0)
      ∧ r.2.mem ((c.tc : Thread Cert.DKvnReferenceIdeal.nD Cert.DKvnReferenceIdeal.τ).loc Cert.DKvnReferenceIdeal.main_arg1) = m ((c.tc : Thread Cert.DKvnReferenceIdeal.nD Cert.DKvnReferenceIdeal.τ).loc Cert.DKvnReferenceIdeal.main_arg1))
      ∧ r.2.sem = fun _ => 0)

def quiescent_DwUkv [hDwUkv : Cert.DwUkv.Facts] : Prop :=
  ∀ (m : (ℓ : Loc Cert.DwUkv.nD Cert.DwUkv.τ Cert.DwUkv.sig) → Buf (Elt Bits) ℓ) (g : Dev Cert.DwUkv.nD → PrngReg), Pre_DwUkv m →
    θ_run (Cert.DwUkv.defs (F := Bits)) (onTc (τ := Cert.DwUkv.τ) (Cert.DwUkv.main (F := Bits))) ⟨m, fun _ => 0, g⟩ (fun r => (∀ c : Dev Cert.DwUkv.nD,
      r.2.mem ((c.tc : Thread Cert.DwUkv.nD Cert.DwUkv.τ).loc Cert.DwUkv.main_arg0) = m ((c.tc : Thread Cert.DwUkv.nD Cert.DwUkv.τ).loc Cert.DwUkv.main_arg0)
      ∧ r.2.mem ((c.tc : Thread Cert.DwUkv.nD Cert.DwUkv.τ).loc Cert.DwUkv.main_arg1) = m ((c.tc : Thread Cert.DwUkv.nD Cert.DwUkv.τ).loc Cert.DwUkv.main_arg1))
      ∧ r.2.sem = fun _ => 0)

def quiescent_DwUkvIdeal [hDwUkvIdeal : Cert.DwUkvIdeal.Facts] : Prop :=
  ∀ (m : (ℓ : Loc Cert.DwUkvIdeal.nD Cert.DwUkvIdeal.τ Cert.DwUkvIdeal.sig) → Buf (Elt Ideal) ℓ) (g : Dev Cert.DwUkvIdeal.nD → PrngReg), Pre_DwUkvIdeal m →
    θ_run (Cert.DwUkvIdeal.defs (F := Ideal)) (onTc (τ := Cert.DwUkvIdeal.τ) (Cert.DwUkvIdeal.main (F := Ideal))) ⟨m, fun _ => 0, g⟩ (fun r => (∀ c : Dev Cert.DwUkvIdeal.nD,
      r.2.mem ((c.tc : Thread Cert.DwUkvIdeal.nD Cert.DwUkvIdeal.τ).loc Cert.DwUkvIdeal.main_arg0) = m ((c.tc : Thread Cert.DwUkvIdeal.nD Cert.DwUkvIdeal.τ).loc Cert.DwUkvIdeal.main_arg0)
      ∧ r.2.mem ((c.tc : Thread Cert.DwUkvIdeal.nD Cert.DwUkvIdeal.τ).loc Cert.DwUkvIdeal.main_arg1) = m ((c.tc : Thread Cert.DwUkvIdeal.nD Cert.DwUkvIdeal.τ).loc Cert.DwUkvIdeal.main_arg1))
      ∧ r.2.sem = fun _ => 0)

def quiescent_DwUkvReferenceIdeal [hDwUkvReferenceIdeal : Cert.DwUkvReferenceIdeal.Facts] : Prop :=
  ∀ (m : (ℓ : Loc Cert.DwUkvReferenceIdeal.nD Cert.DwUkvReferenceIdeal.τ Cert.DwUkvReferenceIdeal.sig) → Buf (Elt Ideal) ℓ) (g : Dev Cert.DwUkvReferenceIdeal.nD → PrngReg), Pre_DwUkvReferenceIdeal m →
    θ_run (Cert.DwUkvReferenceIdeal.defs (F := Ideal)) (onTc (τ := Cert.DwUkvReferenceIdeal.τ) (Cert.DwUkvReferenceIdeal.main (F := Ideal))) ⟨m, fun _ => 0, g⟩ (fun r => (∀ c : Dev Cert.DwUkvReferenceIdeal.nD,
      r.2.mem ((c.tc : Thread Cert.DwUkvReferenceIdeal.nD Cert.DwUkvReferenceIdeal.τ).loc Cert.DwUkvReferenceIdeal.main_arg0) = m ((c.tc : Thread Cert.DwUkvReferenceIdeal.nD Cert.DwUkvReferenceIdeal.τ).loc Cert.DwUkvReferenceIdeal.main_arg0)
      ∧ r.2.mem ((c.tc : Thread Cert.DwUkvReferenceIdeal.nD Cert.DwUkvReferenceIdeal.τ).loc Cert.DwUkvReferenceIdeal.main_arg1) = m ((c.tc : Thread Cert.DwUkvReferenceIdeal.nD Cert.DwUkvReferenceIdeal.τ).loc Cert.DwUkvReferenceIdeal.main_arg1))
      ∧ r.2.sem = fun _ => 0)

def quiescent_RmsAttn [hRmsAttn : Cert.RmsAttn.Facts] : Prop :=
  ∀ (m : (ℓ : Loc Cert.RmsAttn.nD Cert.RmsAttn.τ Cert.RmsAttn.sig) → Buf (Elt Bits) ℓ) (g : Dev Cert.RmsAttn.nD → PrngReg), Pre_RmsAttn m →
    θ_run (Cert.RmsAttn.defs (F := Bits)) (onTc (τ := Cert.RmsAttn.τ) (Cert.RmsAttn.main (F := Bits))) ⟨m, fun _ => 0, g⟩ (fun r => (∀ c : Dev Cert.RmsAttn.nD,
      r.2.mem ((c.tc : Thread Cert.RmsAttn.nD Cert.RmsAttn.τ).loc Cert.RmsAttn.main_arg0) = m ((c.tc : Thread Cert.RmsAttn.nD Cert.RmsAttn.τ).loc Cert.RmsAttn.main_arg0)
      ∧ r.2.mem ((c.tc : Thread Cert.RmsAttn.nD Cert.RmsAttn.τ).loc Cert.RmsAttn.main_arg1) = m ((c.tc : Thread Cert.RmsAttn.nD Cert.RmsAttn.τ).loc Cert.RmsAttn.main_arg1))
      ∧ r.2.sem = fun _ => 0)

def quiescent_RmsAttnIdeal [hRmsAttnIdeal : Cert.RmsAttnIdeal.Facts] : Prop :=
  ∀ (m : (ℓ : Loc Cert.RmsAttnIdeal.nD Cert.RmsAttnIdeal.τ Cert.RmsAttnIdeal.sig) → Buf (Elt Ideal) ℓ) (g : Dev Cert.RmsAttnIdeal.nD → PrngReg), Pre_RmsAttnIdeal m →
    θ_run (Cert.RmsAttnIdeal.defs (F := Ideal)) (onTc (τ := Cert.RmsAttnIdeal.τ) (Cert.RmsAttnIdeal.main (F := Ideal))) ⟨m, fun _ => 0, g⟩ (fun r => (∀ c : Dev Cert.RmsAttnIdeal.nD,
      r.2.mem ((c.tc : Thread Cert.RmsAttnIdeal.nD Cert.RmsAttnIdeal.τ).loc Cert.RmsAttnIdeal.main_arg0) = m ((c.tc : Thread Cert.RmsAttnIdeal.nD Cert.RmsAttnIdeal.τ).loc Cert.RmsAttnIdeal.main_arg0)
      ∧ r.2.mem ((c.tc : Thread Cert.RmsAttnIdeal.nD Cert.RmsAttnIdeal.τ).loc Cert.RmsAttnIdeal.main_arg1) = m ((c.tc : Thread Cert.RmsAttnIdeal.nD Cert.RmsAttnIdeal.τ).loc Cert.RmsAttnIdeal.main_arg1))
      ∧ r.2.sem = fun _ => 0)

def quiescent_RmsAttnReferenceIdeal [hRmsAttnReferenceIdeal : Cert.RmsAttnReferenceIdeal.Facts] : Prop :=
  ∀ (m : (ℓ : Loc Cert.RmsAttnReferenceIdeal.nD Cert.RmsAttnReferenceIdeal.τ Cert.RmsAttnReferenceIdeal.sig) → Buf (Elt Ideal) ℓ) (g : Dev Cert.RmsAttnReferenceIdeal.nD → PrngReg), Pre_RmsAttnReferenceIdeal m →
    θ_run (Cert.RmsAttnReferenceIdeal.defs (F := Ideal)) (onTc (τ := Cert.RmsAttnReferenceIdeal.τ) (Cert.RmsAttnReferenceIdeal.main (F := Ideal))) ⟨m, fun _ => 0, g⟩ (fun r => (∀ c : Dev Cert.RmsAttnReferenceIdeal.nD,
      r.2.mem ((c.tc : Thread Cert.RmsAttnReferenceIdeal.nD Cert.RmsAttnReferenceIdeal.τ).loc Cert.RmsAttnReferenceIdeal.main_arg0) = m ((c.tc : Thread Cert.RmsAttnReferenceIdeal.nD Cert.RmsAttnReferenceIdeal.τ).loc Cert.RmsAttnReferenceIdeal.main_arg0)
      ∧ r.2.mem ((c.tc : Thread Cert.RmsAttnReferenceIdeal.nD Cert.RmsAttnReferenceIdeal.τ).loc Cert.RmsAttnReferenceIdeal.main_arg1) = m ((c.tc : Thread Cert.RmsAttnReferenceIdeal.nD Cert.RmsAttnReferenceIdeal.τ).loc Cert.RmsAttnReferenceIdeal.main_arg1))
      ∧ r.2.sem = fun _ => 0)

def quiescent_RmsFfn [hRmsFfn : Cert.RmsFfn.Facts] : Prop :=
  ∀ (m : (ℓ : Loc Cert.RmsFfn.nD Cert.RmsFfn.τ Cert.RmsFfn.sig) → Buf (Elt Bits) ℓ) (g : Dev Cert.RmsFfn.nD → PrngReg), Pre_RmsFfn m →
    θ_run (Cert.RmsFfn.defs (F := Bits)) (onTc (τ := Cert.RmsFfn.τ) (Cert.RmsFfn.main (F := Bits))) ⟨m, fun _ => 0, g⟩ (fun r => (∀ c : Dev Cert.RmsFfn.nD,
      r.2.mem ((c.tc : Thread Cert.RmsFfn.nD Cert.RmsFfn.τ).loc Cert.RmsFfn.main_arg0) = m ((c.tc : Thread Cert.RmsFfn.nD Cert.RmsFfn.τ).loc Cert.RmsFfn.main_arg0)
      ∧ r.2.mem ((c.tc : Thread Cert.RmsFfn.nD Cert.RmsFfn.τ).loc Cert.RmsFfn.main_arg1) = m ((c.tc : Thread Cert.RmsFfn.nD Cert.RmsFfn.τ).loc Cert.RmsFfn.main_arg1))
      ∧ r.2.sem = fun _ => 0)

def quiescent_RmsFfnIdeal [hRmsFfnIdeal : Cert.RmsFfnIdeal.Facts] : Prop :=
  ∀ (m : (ℓ : Loc Cert.RmsFfnIdeal.nD Cert.RmsFfnIdeal.τ Cert.RmsFfnIdeal.sig) → Buf (Elt Ideal) ℓ) (g : Dev Cert.RmsFfnIdeal.nD → PrngReg), Pre_RmsFfnIdeal m →
    θ_run (Cert.RmsFfnIdeal.defs (F := Ideal)) (onTc (τ := Cert.RmsFfnIdeal.τ) (Cert.RmsFfnIdeal.main (F := Ideal))) ⟨m, fun _ => 0, g⟩ (fun r => (∀ c : Dev Cert.RmsFfnIdeal.nD,
      r.2.mem ((c.tc : Thread Cert.RmsFfnIdeal.nD Cert.RmsFfnIdeal.τ).loc Cert.RmsFfnIdeal.main_arg0) = m ((c.tc : Thread Cert.RmsFfnIdeal.nD Cert.RmsFfnIdeal.τ).loc Cert.RmsFfnIdeal.main_arg0)
      ∧ r.2.mem ((c.tc : Thread Cert.RmsFfnIdeal.nD Cert.RmsFfnIdeal.τ).loc Cert.RmsFfnIdeal.main_arg1) = m ((c.tc : Thread Cert.RmsFfnIdeal.nD Cert.RmsFfnIdeal.τ).loc Cert.RmsFfnIdeal.main_arg1))
      ∧ r.2.sem = fun _ => 0)

def quiescent_RmsFfnReferenceIdeal [hRmsFfnReferenceIdeal : Cert.RmsFfnReferenceIdeal.Facts] : Prop :=
  ∀ (m : (ℓ : Loc Cert.RmsFfnReferenceIdeal.nD Cert.RmsFfnReferenceIdeal.τ Cert.RmsFfnReferenceIdeal.sig) → Buf (Elt Ideal) ℓ) (g : Dev Cert.RmsFfnReferenceIdeal.nD → PrngReg), Pre_RmsFfnReferenceIdeal m →
    θ_run (Cert.RmsFfnReferenceIdeal.defs (F := Ideal)) (onTc (τ := Cert.RmsFfnReferenceIdeal.τ) (Cert.RmsFfnReferenceIdeal.main (F := Ideal))) ⟨m, fun _ => 0, g⟩ (fun r => (∀ c : Dev Cert.RmsFfnReferenceIdeal.nD,
      r.2.mem ((c.tc : Thread Cert.RmsFfnReferenceIdeal.nD Cert.RmsFfnReferenceIdeal.τ).loc Cert.RmsFfnReferenceIdeal.main_arg0) = m ((c.tc : Thread Cert.RmsFfnReferenceIdeal.nD Cert.RmsFfnReferenceIdeal.τ).loc Cert.RmsFfnReferenceIdeal.main_arg0)
      ∧ r.2.mem ((c.tc : Thread Cert.RmsFfnReferenceIdeal.nD Cert.RmsFfnReferenceIdeal.τ).loc Cert.RmsFfnReferenceIdeal.main_arg1) = m ((c.tc : Thread Cert.RmsFfnReferenceIdeal.nD Cert.RmsFfnReferenceIdeal.τ).loc Cert.RmsFfnReferenceIdeal.main_arg1))
      ∧ r.2.sem = fun _ => 0)

def quiescent_DRmsAttn [hDRmsAttn : Cert.DRmsAttn.Facts] : Prop :=
  ∀ (m : (ℓ : Loc Cert.DRmsAttn.nD Cert.DRmsAttn.τ Cert.DRmsAttn.sig) → Buf (Elt Bits) ℓ) (g : Dev Cert.DRmsAttn.nD → PrngReg), Pre_DRmsAttn m →
    θ_run (Cert.DRmsAttn.defs (F := Bits)) (onTc (τ := Cert.DRmsAttn.τ) (Cert.DRmsAttn.main (F := Bits))) ⟨m, fun _ => 0, g⟩ (fun r => (∀ c : Dev Cert.DRmsAttn.nD,
      r.2.mem ((c.tc : Thread Cert.DRmsAttn.nD Cert.DRmsAttn.τ).loc Cert.DRmsAttn.main_arg0) = m ((c.tc : Thread Cert.DRmsAttn.nD Cert.DRmsAttn.τ).loc Cert.DRmsAttn.main_arg0)
      ∧ r.2.mem ((c.tc : Thread Cert.DRmsAttn.nD Cert.DRmsAttn.τ).loc Cert.DRmsAttn.main_arg1) = m ((c.tc : Thread Cert.DRmsAttn.nD Cert.DRmsAttn.τ).loc Cert.DRmsAttn.main_arg1)
      ∧ r.2.mem ((c.tc : Thread Cert.DRmsAttn.nD Cert.DRmsAttn.τ).loc Cert.DRmsAttn.main_arg2) = m ((c.tc : Thread Cert.DRmsAttn.nD Cert.DRmsAttn.τ).loc Cert.DRmsAttn.main_arg2)
      ∧ r.2.mem ((c.tc : Thread Cert.DRmsAttn.nD Cert.DRmsAttn.τ).loc Cert.DRmsAttn.main_arg3) = m ((c.tc : Thread Cert.DRmsAttn.nD Cert.DRmsAttn.τ).loc Cert.DRmsAttn.main_arg3))
      ∧ r.2.sem = fun _ => 0)

def quiescent_DRmsAttnIdeal [hDRmsAttnIdeal : Cert.DRmsAttnIdeal.Facts] : Prop :=
  ∀ (m : (ℓ : Loc Cert.DRmsAttnIdeal.nD Cert.DRmsAttnIdeal.τ Cert.DRmsAttnIdeal.sig) → Buf (Elt Ideal) ℓ) (g : Dev Cert.DRmsAttnIdeal.nD → PrngReg), Pre_DRmsAttnIdeal m →
    θ_run (Cert.DRmsAttnIdeal.defs (F := Ideal)) (onTc (τ := Cert.DRmsAttnIdeal.τ) (Cert.DRmsAttnIdeal.main (F := Ideal))) ⟨m, fun _ => 0, g⟩ (fun r => (∀ c : Dev Cert.DRmsAttnIdeal.nD,
      r.2.mem ((c.tc : Thread Cert.DRmsAttnIdeal.nD Cert.DRmsAttnIdeal.τ).loc Cert.DRmsAttnIdeal.main_arg0) = m ((c.tc : Thread Cert.DRmsAttnIdeal.nD Cert.DRmsAttnIdeal.τ).loc Cert.DRmsAttnIdeal.main_arg0)
      ∧ r.2.mem ((c.tc : Thread Cert.DRmsAttnIdeal.nD Cert.DRmsAttnIdeal.τ).loc Cert.DRmsAttnIdeal.main_arg1) = m ((c.tc : Thread Cert.DRmsAttnIdeal.nD Cert.DRmsAttnIdeal.τ).loc Cert.DRmsAttnIdeal.main_arg1)
      ∧ r.2.mem ((c.tc : Thread Cert.DRmsAttnIdeal.nD Cert.DRmsAttnIdeal.τ).loc Cert.DRmsAttnIdeal.main_arg2) = m ((c.tc : Thread Cert.DRmsAttnIdeal.nD Cert.DRmsAttnIdeal.τ).loc Cert.DRmsAttnIdeal.main_arg2)
      ∧ r.2.mem ((c.tc : Thread Cert.DRmsAttnIdeal.nD Cert.DRmsAttnIdeal.τ).loc Cert.DRmsAttnIdeal.main_arg3) = m ((c.tc : Thread Cert.DRmsAttnIdeal.nD Cert.DRmsAttnIdeal.τ).loc Cert.DRmsAttnIdeal.main_arg3))
      ∧ r.2.sem = fun _ => 0)

def quiescent_DRmsAttnReferenceIdeal [hDRmsAttnReferenceIdeal : Cert.DRmsAttnReferenceIdeal.Facts] : Prop :=
  ∀ (m : (ℓ : Loc Cert.DRmsAttnReferenceIdeal.nD Cert.DRmsAttnReferenceIdeal.τ Cert.DRmsAttnReferenceIdeal.sig) → Buf (Elt Ideal) ℓ) (g : Dev Cert.DRmsAttnReferenceIdeal.nD → PrngReg), Pre_DRmsAttnReferenceIdeal m →
    θ_run (Cert.DRmsAttnReferenceIdeal.defs (F := Ideal)) (onTc (τ := Cert.DRmsAttnReferenceIdeal.τ) (Cert.DRmsAttnReferenceIdeal.main (F := Ideal))) ⟨m, fun _ => 0, g⟩ (fun r => (∀ c : Dev Cert.DRmsAttnReferenceIdeal.nD,
      r.2.mem ((c.tc : Thread Cert.DRmsAttnReferenceIdeal.nD Cert.DRmsAttnReferenceIdeal.τ).loc Cert.DRmsAttnReferenceIdeal.main_arg0) = m ((c.tc : Thread Cert.DRmsAttnReferenceIdeal.nD Cert.DRmsAttnReferenceIdeal.τ).loc Cert.DRmsAttnReferenceIdeal.main_arg0)
      ∧ r.2.mem ((c.tc : Thread Cert.DRmsAttnReferenceIdeal.nD Cert.DRmsAttnReferenceIdeal.τ).loc Cert.DRmsAttnReferenceIdeal.main_arg1) = m ((c.tc : Thread Cert.DRmsAttnReferenceIdeal.nD Cert.DRmsAttnReferenceIdeal.τ).loc Cert.DRmsAttnReferenceIdeal.main_arg1)
      ∧ r.2.mem ((c.tc : Thread Cert.DRmsAttnReferenceIdeal.nD Cert.DRmsAttnReferenceIdeal.τ).loc Cert.DRmsAttnReferenceIdeal.main_arg2) = m ((c.tc : Thread Cert.DRmsAttnReferenceIdeal.nD Cert.DRmsAttnReferenceIdeal.τ).loc Cert.DRmsAttnReferenceIdeal.main_arg2)
      ∧ r.2.mem ((c.tc : Thread Cert.DRmsAttnReferenceIdeal.nD Cert.DRmsAttnReferenceIdeal.τ).loc Cert.DRmsAttnReferenceIdeal.main_arg3) = m ((c.tc : Thread Cert.DRmsAttnReferenceIdeal.nD Cert.DRmsAttnReferenceIdeal.τ).loc Cert.DRmsAttnReferenceIdeal.main_arg3))
      ∧ r.2.sem = fun _ => 0)

def quiescent_DRmsFfn [hDRmsFfn : Cert.DRmsFfn.Facts] : Prop :=
  ∀ (m : (ℓ : Loc Cert.DRmsFfn.nD Cert.DRmsFfn.τ Cert.DRmsFfn.sig) → Buf (Elt Bits) ℓ) (g : Dev Cert.DRmsFfn.nD → PrngReg), Pre_DRmsFfn m →
    θ_run (Cert.DRmsFfn.defs (F := Bits)) (onTc (τ := Cert.DRmsFfn.τ) (Cert.DRmsFfn.main (F := Bits))) ⟨m, fun _ => 0, g⟩ (fun r => (∀ c : Dev Cert.DRmsFfn.nD,
      r.2.mem ((c.tc : Thread Cert.DRmsFfn.nD Cert.DRmsFfn.τ).loc Cert.DRmsFfn.main_arg0) = m ((c.tc : Thread Cert.DRmsFfn.nD Cert.DRmsFfn.τ).loc Cert.DRmsFfn.main_arg0)
      ∧ r.2.mem ((c.tc : Thread Cert.DRmsFfn.nD Cert.DRmsFfn.τ).loc Cert.DRmsFfn.main_arg1) = m ((c.tc : Thread Cert.DRmsFfn.nD Cert.DRmsFfn.τ).loc Cert.DRmsFfn.main_arg1)
      ∧ r.2.mem ((c.tc : Thread Cert.DRmsFfn.nD Cert.DRmsFfn.τ).loc Cert.DRmsFfn.main_arg2) = m ((c.tc : Thread Cert.DRmsFfn.nD Cert.DRmsFfn.τ).loc Cert.DRmsFfn.main_arg2)
      ∧ r.2.mem ((c.tc : Thread Cert.DRmsFfn.nD Cert.DRmsFfn.τ).loc Cert.DRmsFfn.main_arg3) = m ((c.tc : Thread Cert.DRmsFfn.nD Cert.DRmsFfn.τ).loc Cert.DRmsFfn.main_arg3))
      ∧ r.2.sem = fun _ => 0)

def quiescent_DRmsFfnIdeal [hDRmsFfnIdeal : Cert.DRmsFfnIdeal.Facts] : Prop :=
  ∀ (m : (ℓ : Loc Cert.DRmsFfnIdeal.nD Cert.DRmsFfnIdeal.τ Cert.DRmsFfnIdeal.sig) → Buf (Elt Ideal) ℓ) (g : Dev Cert.DRmsFfnIdeal.nD → PrngReg), Pre_DRmsFfnIdeal m →
    θ_run (Cert.DRmsFfnIdeal.defs (F := Ideal)) (onTc (τ := Cert.DRmsFfnIdeal.τ) (Cert.DRmsFfnIdeal.main (F := Ideal))) ⟨m, fun _ => 0, g⟩ (fun r => (∀ c : Dev Cert.DRmsFfnIdeal.nD,
      r.2.mem ((c.tc : Thread Cert.DRmsFfnIdeal.nD Cert.DRmsFfnIdeal.τ).loc Cert.DRmsFfnIdeal.main_arg0) = m ((c.tc : Thread Cert.DRmsFfnIdeal.nD Cert.DRmsFfnIdeal.τ).loc Cert.DRmsFfnIdeal.main_arg0)
      ∧ r.2.mem ((c.tc : Thread Cert.DRmsFfnIdeal.nD Cert.DRmsFfnIdeal.τ).loc Cert.DRmsFfnIdeal.main_arg1) = m ((c.tc : Thread Cert.DRmsFfnIdeal.nD Cert.DRmsFfnIdeal.τ).loc Cert.DRmsFfnIdeal.main_arg1)
      ∧ r.2.mem ((c.tc : Thread Cert.DRmsFfnIdeal.nD Cert.DRmsFfnIdeal.τ).loc Cert.DRmsFfnIdeal.main_arg2) = m ((c.tc : Thread Cert.DRmsFfnIdeal.nD Cert.DRmsFfnIdeal.τ).loc Cert.DRmsFfnIdeal.main_arg2)
      ∧ r.2.mem ((c.tc : Thread Cert.DRmsFfnIdeal.nD Cert.DRmsFfnIdeal.τ).loc Cert.DRmsFfnIdeal.main_arg3) = m ((c.tc : Thread Cert.DRmsFfnIdeal.nD Cert.DRmsFfnIdeal.τ).loc Cert.DRmsFfnIdeal.main_arg3))
      ∧ r.2.sem = fun _ => 0)

def quiescent_DRmsFfnReferenceIdeal [hDRmsFfnReferenceIdeal : Cert.DRmsFfnReferenceIdeal.Facts] : Prop :=
  ∀ (m : (ℓ : Loc Cert.DRmsFfnReferenceIdeal.nD Cert.DRmsFfnReferenceIdeal.τ Cert.DRmsFfnReferenceIdeal.sig) → Buf (Elt Ideal) ℓ) (g : Dev Cert.DRmsFfnReferenceIdeal.nD → PrngReg), Pre_DRmsFfnReferenceIdeal m →
    θ_run (Cert.DRmsFfnReferenceIdeal.defs (F := Ideal)) (onTc (τ := Cert.DRmsFfnReferenceIdeal.τ) (Cert.DRmsFfnReferenceIdeal.main (F := Ideal))) ⟨m, fun _ => 0, g⟩ (fun r => (∀ c : Dev Cert.DRmsFfnReferenceIdeal.nD,
      r.2.mem ((c.tc : Thread Cert.DRmsFfnReferenceIdeal.nD Cert.DRmsFfnReferenceIdeal.τ).loc Cert.DRmsFfnReferenceIdeal.main_arg0) = m ((c.tc : Thread Cert.DRmsFfnReferenceIdeal.nD Cert.DRmsFfnReferenceIdeal.τ).loc Cert.DRmsFfnReferenceIdeal.main_arg0)
      ∧ r.2.mem ((c.tc : Thread Cert.DRmsFfnReferenceIdeal.nD Cert.DRmsFfnReferenceIdeal.τ).loc Cert.DRmsFfnReferenceIdeal.main_arg1) = m ((c.tc : Thread Cert.DRmsFfnReferenceIdeal.nD Cert.DRmsFfnReferenceIdeal.τ).loc Cert.DRmsFfnReferenceIdeal.main_arg1)
      ∧ r.2.mem ((c.tc : Thread Cert.DRmsFfnReferenceIdeal.nD Cert.DRmsFfnReferenceIdeal.τ).loc Cert.DRmsFfnReferenceIdeal.main_arg2) = m ((c.tc : Thread Cert.DRmsFfnReferenceIdeal.nD Cert.DRmsFfnReferenceIdeal.τ).loc Cert.DRmsFfnReferenceIdeal.main_arg2)
      ∧ r.2.mem ((c.tc : Thread Cert.DRmsFfnReferenceIdeal.nD Cert.DRmsFfnReferenceIdeal.τ).loc Cert.DRmsFfnReferenceIdeal.main_arg3) = m ((c.tc : Thread Cert.DRmsFfnReferenceIdeal.nD Cert.DRmsFfnReferenceIdeal.τ).loc Cert.DRmsFfnReferenceIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActReferenceIdeal [hFfnActReferenceIdeal : Cert.FfnActReferenceIdeal.Facts] : Prop :=
  ∀ (m : (ℓ : Loc Cert.FfnActReferenceIdeal.nD Cert.FfnActReferenceIdeal.τ Cert.FfnActReferenceIdeal.sig) → Buf (Elt Ideal) ℓ) (g : Dev Cert.FfnActReferenceIdeal.nD → PrngReg), Pre_FfnActReferenceIdeal m →
    θ_run (Cert.FfnActReferenceIdeal.defs (F := Ideal)) (onTc (τ := Cert.FfnActReferenceIdeal.τ) (Cert.FfnActReferenceIdeal.main (F := Ideal))) ⟨m, fun _ => 0, g⟩ (fun r => (∀ c : Dev Cert.FfnActReferenceIdeal.nD,
      r.2.mem ((c.tc : Thread Cert.FfnActReferenceIdeal.nD Cert.FfnActReferenceIdeal.τ).loc Cert.FfnActReferenceIdeal.main_arg0) = m ((c.tc : Thread Cert.FfnActReferenceIdeal.nD Cert.FfnActReferenceIdeal.τ).loc Cert.FfnActReferenceIdeal.main_arg0)
      ∧ r.2.mem ((c.tc : Thread Cert.FfnActReferenceIdeal.nD Cert.FfnActReferenceIdeal.τ).loc Cert.FfnActReferenceIdeal.main_arg1) = m ((c.tc : Thread Cert.FfnActReferenceIdeal.nD Cert.FfnActReferenceIdeal.τ).loc Cert.FfnActReferenceIdeal.main_arg1)
      ∧ r.2.mem ((c.tc : Thread Cert.FfnActReferenceIdeal.nD Cert.FfnActReferenceIdeal.τ).loc Cert.FfnActReferenceIdeal.main_arg2) = m ((c.tc : Thread Cert.FfnActReferenceIdeal.nD Cert.FfnActReferenceIdeal.τ).loc Cert.FfnActReferenceIdeal.main_arg2)
      ∧ r.2.mem ((c.tc : Thread Cert.FfnActReferenceIdeal.nD Cert.FfnActReferenceIdeal.τ).loc Cert.FfnActReferenceIdeal.main_arg3) = m ((c.tc : Thread Cert.FfnActReferenceIdeal.nD Cert.FfnActReferenceIdeal.τ).loc Cert.FfnActReferenceIdeal.main_arg3))
      ∧ r.2.sem = fun _ => 0)

def quiescent_DConv [hDConv : Cert.DConv.Facts] : Prop :=
  ∀ (m : (ℓ : Loc Cert.DConv.nD Cert.DConv.τ Cert.DConv.sig) → Buf (Elt Bits) ℓ) (g : Dev Cert.DConv.nD → PrngReg), Pre_DConv m →
    θ_run (Cert.DConv.defs (F := Bits)) (onTc (τ := Cert.DConv.τ) (Cert.DConv.main (F := Bits))) ⟨m, fun _ => 0, g⟩ (fun r => (∀ c : Dev Cert.DConv.nD,
      r.2.mem ((c.tc : Thread Cert.DConv.nD Cert.DConv.τ).loc Cert.DConv.main_arg0) = m ((c.tc : Thread Cert.DConv.nD Cert.DConv.τ).loc Cert.DConv.main_arg0)
      ∧ r.2.mem ((c.tc : Thread Cert.DConv.nD Cert.DConv.τ).loc Cert.DConv.main_arg1) = m ((c.tc : Thread Cert.DConv.nD Cert.DConv.τ).loc Cert.DConv.main_arg1))
      ∧ r.2.sem = fun _ => 0)

def quiescent_DConvIdeal [hDConvIdeal : Cert.DConvIdeal.Facts] : Prop :=
  ∀ (m : (ℓ : Loc Cert.DConvIdeal.nD Cert.DConvIdeal.τ Cert.DConvIdeal.sig) → Buf (Elt Ideal) ℓ) (g : Dev Cert.DConvIdeal.nD → PrngReg), Pre_DConvIdeal m →
    θ_run (Cert.DConvIdeal.defs (F := Ideal)) (onTc (τ := Cert.DConvIdeal.τ) (Cert.DConvIdeal.main (F := Ideal))) ⟨m, fun _ => 0, g⟩ (fun r => (∀ c : Dev Cert.DConvIdeal.nD,
      r.2.mem ((c.tc : Thread Cert.DConvIdeal.nD Cert.DConvIdeal.τ).loc Cert.DConvIdeal.main_arg0) = m ((c.tc : Thread Cert.DConvIdeal.nD Cert.DConvIdeal.τ).loc Cert.DConvIdeal.main_arg0)
      ∧ r.2.mem ((c.tc : Thread Cert.DConvIdeal.nD Cert.DConvIdeal.τ).loc Cert.DConvIdeal.main_arg1) = m ((c.tc : Thread Cert.DConvIdeal.nD Cert.DConvIdeal.τ).loc Cert.DConvIdeal.main_arg1))
      ∧ r.2.sem = fun _ => 0)

def quiescent_DConvReferenceIdeal [hDConvReferenceIdeal : Cert.DConvReferenceIdeal.Facts] : Prop :=
  ∀ (m : (ℓ : Loc Cert.DConvReferenceIdeal.nD Cert.DConvReferenceIdeal.τ Cert.DConvReferenceIdeal.sig) → Buf (Elt Ideal) ℓ) (g : Dev Cert.DConvReferenceIdeal.nD → PrngReg), Pre_DConvReferenceIdeal m →
    θ_run (Cert.DConvReferenceIdeal.defs (F := Ideal)) (onTc (τ := Cert.DConvReferenceIdeal.τ) (Cert.DConvReferenceIdeal.main (F := Ideal))) ⟨m, fun _ => 0, g⟩ (fun r => (∀ c : Dev Cert.DConvReferenceIdeal.nD,
      r.2.mem ((c.tc : Thread Cert.DConvReferenceIdeal.nD Cert.DConvReferenceIdeal.τ).loc Cert.DConvReferenceIdeal.main_arg0) = m ((c.tc : Thread Cert.DConvReferenceIdeal.nD Cert.DConvReferenceIdeal.τ).loc Cert.DConvReferenceIdeal.main_arg0)
      ∧ r.2.mem ((c.tc : Thread Cert.DConvReferenceIdeal.nD Cert.DConvReferenceIdeal.τ).loc Cert.DConvReferenceIdeal.main_arg1) = m ((c.tc : Thread Cert.DConvReferenceIdeal.nD Cert.DConvReferenceIdeal.τ).loc Cert.DConvReferenceIdeal.main_arg1))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInReferenceIdeal [hAdamwInReferenceIdeal : Cert.AdamwInReferenceIdeal.Facts] : Prop :=
  ∀ (m : (ℓ : Loc Cert.AdamwInReferenceIdeal.nD Cert.AdamwInReferenceIdeal.τ Cert.AdamwInReferenceIdeal.sig) → Buf (Elt Ideal) ℓ) (g : Dev Cert.AdamwInReferenceIdeal.nD → PrngReg), Pre_AdamwInReferenceIdeal m →
    θ_run (Cert.AdamwInReferenceIdeal.defs (F := Ideal)) (onTc (τ := Cert.AdamwInReferenceIdeal.τ) (Cert.AdamwInReferenceIdeal.main (F := Ideal))) ⟨m, fun _ => 0, g⟩ (fun r => (∀ c : Dev Cert.AdamwInReferenceIdeal.nD,
      r.2.mem ((c.tc : Thread Cert.AdamwInReferenceIdeal.nD Cert.AdamwInReferenceIdeal.τ).loc Cert.AdamwInReferenceIdeal.main_arg0) = m ((c.tc : Thread Cert.AdamwInReferenceIdeal.nD Cert.AdamwInReferenceIdeal.τ).loc Cert.AdamwInReferenceIdeal.main_arg0)
      ∧ r.2.mem ((c.tc : Thread Cert.AdamwInReferenceIdeal.nD Cert.AdamwInReferenceIdeal.τ).loc Cert.AdamwInReferenceIdeal.main_arg1) = m ((c.tc : Thread Cert.AdamwInReferenceIdeal.nD Cert.AdamwInReferenceIdeal.τ).loc Cert.AdamwInReferenceIdeal.main_arg1)
      ∧ r.2.mem ((c.tc : Thread Cert.AdamwInReferenceIdeal.nD Cert.AdamwInReferenceIdeal.τ).loc Cert.AdamwInReferenceIdeal.main_arg2) = m ((c.tc : Thread Cert.AdamwInReferenceIdeal.nD Cert.AdamwInReferenceIdeal.τ).loc Cert.AdamwInReferenceIdeal.main_arg2)
      ∧ r.2.mem ((c.tc : Thread Cert.AdamwInReferenceIdeal.nD Cert.AdamwInReferenceIdeal.τ).loc Cert.AdamwInReferenceIdeal.main_arg3) = m ((c.tc : Thread Cert.AdamwInReferenceIdeal.nD Cert.AdamwInReferenceIdeal.τ).loc Cert.AdamwInReferenceIdeal.main_arg3))
      ∧ r.2.sem = fun _ => 0)

def quiescent_AdamwUq [hAdamwUq : Cert.AdamwUq.Facts] : Prop :=
  ∀ (m : (ℓ : Loc Cert.AdamwUq.nD Cert.AdamwUq.τ Cert.AdamwUq.sig) → Buf (Elt Bits) ℓ) (g : Dev Cert.AdamwUq.nD → PrngReg), Pre_AdamwUq m →
    θ_run (Cert.AdamwUq.defs (F := Bits)) (onTc (τ := Cert.AdamwUq.τ) (Cert.AdamwUq.main (F := Bits))) ⟨m, fun _ => 0, g⟩ (fun r => (∀ c : Dev Cert.AdamwUq.nD,
      r.2.mem ((c.tc : Thread Cert.AdamwUq.nD Cert.AdamwUq.τ).loc Cert.AdamwUq.main_arg0) = m ((c.tc : Thread Cert.AdamwUq.nD Cert.AdamwUq.τ).loc Cert.AdamwUq.main_arg0)
      ∧ r.2.mem ((c.tc : Thread Cert.AdamwUq.nD Cert.AdamwUq.τ).loc Cert.AdamwUq.main_arg1) = m ((c.tc : Thread Cert.AdamwUq.nD Cert.AdamwUq.τ).loc Cert.AdamwUq.main_arg1)
      ∧ r.2.mem ((c.tc : Thread Cert.AdamwUq.nD Cert.AdamwUq.τ).loc Cert.AdamwUq.main_arg2) = m ((c.tc : Thread Cert.AdamwUq.nD Cert.AdamwUq.τ).loc Cert.AdamwUq.main_arg2)
      ∧ r.2.mem ((c.tc : Thread Cert.AdamwUq.nD Cert.AdamwUq.τ).loc Cert.AdamwUq.main_arg3) = m ((c.tc : Thread Cert.AdamwUq.nD Cert.AdamwUq.τ).loc Cert.AdamwUq.main_arg3))
      ∧ r.2.sem = fun _ => 0)

def quiescent_AdamwUqIdeal [hAdamwUqIdeal : Cert.AdamwUqIdeal.Facts] : Prop :=
  ∀ (m : (ℓ : Loc Cert.AdamwUqIdeal.nD Cert.AdamwUqIdeal.τ Cert.AdamwUqIdeal.sig) → Buf (Elt Ideal) ℓ) (g : Dev Cert.AdamwUqIdeal.nD → PrngReg), Pre_AdamwUqIdeal m →
    θ_run (Cert.AdamwUqIdeal.defs (F := Ideal)) (onTc (τ := Cert.AdamwUqIdeal.τ) (Cert.AdamwUqIdeal.main (F := Ideal))) ⟨m, fun _ => 0, g⟩ (fun r => (∀ c : Dev Cert.AdamwUqIdeal.nD,
      r.2.mem ((c.tc : Thread Cert.AdamwUqIdeal.nD Cert.AdamwUqIdeal.τ).loc Cert.AdamwUqIdeal.main_arg0) = m ((c.tc : Thread Cert.AdamwUqIdeal.nD Cert.AdamwUqIdeal.τ).loc Cert.AdamwUqIdeal.main_arg0)
      ∧ r.2.mem ((c.tc : Thread Cert.AdamwUqIdeal.nD Cert.AdamwUqIdeal.τ).loc Cert.AdamwUqIdeal.main_arg1) = m ((c.tc : Thread Cert.AdamwUqIdeal.nD Cert.AdamwUqIdeal.τ).loc Cert.AdamwUqIdeal.main_arg1)
      ∧ r.2.mem ((c.tc : Thread Cert.AdamwUqIdeal.nD Cert.AdamwUqIdeal.τ).loc Cert.AdamwUqIdeal.main_arg2) = m ((c.tc : Thread Cert.AdamwUqIdeal.nD Cert.AdamwUqIdeal.τ).loc Cert.AdamwUqIdeal.main_arg2)
      ∧ r.2.mem ((c.tc : Thread Cert.AdamwUqIdeal.nD Cert.AdamwUqIdeal.τ).loc Cert.AdamwUqIdeal.main_arg3) = m ((c.tc : Thread Cert.AdamwUqIdeal.nD Cert.AdamwUqIdeal.τ).loc Cert.AdamwUqIdeal.main_arg3))
      ∧ r.2.sem = fun _ => 0)

def quiescent_AdamwUqReferenceIdeal [hAdamwUqReferenceIdeal : Cert.AdamwUqReferenceIdeal.Facts] : Prop :=
  ∀ (m : (ℓ : Loc Cert.AdamwUqReferenceIdeal.nD Cert.AdamwUqReferenceIdeal.τ Cert.AdamwUqReferenceIdeal.sig) → Buf (Elt Ideal) ℓ) (g : Dev Cert.AdamwUqReferenceIdeal.nD → PrngReg), Pre_AdamwUqReferenceIdeal m →
    θ_run (Cert.AdamwUqReferenceIdeal.defs (F := Ideal)) (onTc (τ := Cert.AdamwUqReferenceIdeal.τ) (Cert.AdamwUqReferenceIdeal.main (F := Ideal))) ⟨m, fun _ => 0, g⟩ (fun r => (∀ c : Dev Cert.AdamwUqReferenceIdeal.nD,
      r.2.mem ((c.tc : Thread Cert.AdamwUqReferenceIdeal.nD Cert.AdamwUqReferenceIdeal.τ).loc Cert.AdamwUqReferenceIdeal.main_arg0) = m ((c.tc : Thread Cert.AdamwUqReferenceIdeal.nD Cert.AdamwUqReferenceIdeal.τ).loc Cert.AdamwUqReferenceIdeal.main_arg0)
      ∧ r.2.mem ((c.tc : Thread Cert.AdamwUqReferenceIdeal.nD Cert.AdamwUqReferenceIdeal.τ).loc Cert.AdamwUqReferenceIdeal.main_arg1) = m ((c.tc : Thread Cert.AdamwUqReferenceIdeal.nD Cert.AdamwUqReferenceIdeal.τ).loc Cert.AdamwUqReferenceIdeal.main_arg1)
      ∧ r.2.mem ((c.tc : Thread Cert.AdamwUqReferenceIdeal.nD Cert.AdamwUqReferenceIdeal.τ).loc Cert.AdamwUqReferenceIdeal.main_arg2) = m ((c.tc : Thread Cert.AdamwUqReferenceIdeal.nD Cert.AdamwUqReferenceIdeal.τ).loc Cert.AdamwUqReferenceIdeal.main_arg2)
      ∧ r.2.mem ((c.tc : Thread Cert.AdamwUqReferenceIdeal.nD Cert.AdamwUqReferenceIdeal.τ).loc Cert.AdamwUqReferenceIdeal.main_arg3) = m ((c.tc : Thread Cert.AdamwUqReferenceIdeal.nD Cert.AdamwUqReferenceIdeal.τ).loc Cert.AdamwUqReferenceIdeal.main_arg3))
      ∧ r.2.sem = fun _ => 0)

def quiescent_AdamwUkv [hAdamwUkv : Cert.AdamwUkv.Facts] : Prop :=
  ∀ (m : (ℓ : Loc Cert.AdamwUkv.nD Cert.AdamwUkv.τ Cert.AdamwUkv.sig) → Buf (Elt Bits) ℓ) (g : Dev Cert.AdamwUkv.nD → PrngReg), Pre_AdamwUkv m →
    θ_run (Cert.AdamwUkv.defs (F := Bits)) (onTc (τ := Cert.AdamwUkv.τ) (Cert.AdamwUkv.main (F := Bits))) ⟨m, fun _ => 0, g⟩ (fun r => (∀ c : Dev Cert.AdamwUkv.nD,
      r.2.mem ((c.tc : Thread Cert.AdamwUkv.nD Cert.AdamwUkv.τ).loc Cert.AdamwUkv.main_arg0) = m ((c.tc : Thread Cert.AdamwUkv.nD Cert.AdamwUkv.τ).loc Cert.AdamwUkv.main_arg0)
      ∧ r.2.mem ((c.tc : Thread Cert.AdamwUkv.nD Cert.AdamwUkv.τ).loc Cert.AdamwUkv.main_arg1) = m ((c.tc : Thread Cert.AdamwUkv.nD Cert.AdamwUkv.τ).loc Cert.AdamwUkv.main_arg1)
      ∧ r.2.mem ((c.tc : Thread Cert.AdamwUkv.nD Cert.AdamwUkv.τ).loc Cert.AdamwUkv.main_arg2) = m ((c.tc : Thread Cert.AdamwUkv.nD Cert.AdamwUkv.τ).loc Cert.AdamwUkv.main_arg2)
      ∧ r.2.mem ((c.tc : Thread Cert.AdamwUkv.nD Cert.AdamwUkv.τ).loc Cert.AdamwUkv.main_arg3) = m ((c.tc : Thread Cert.AdamwUkv.nD Cert.AdamwUkv.τ).loc Cert.AdamwUkv.main_arg3))
      ∧ r.2.sem = fun _ => 0)

def quiescent_AdamwUkvIdeal [hAdamwUkvIdeal : Cert.AdamwUkvIdeal.Facts] : Prop :=
  ∀ (m : (ℓ : Loc Cert.AdamwUkvIdeal.nD Cert.AdamwUkvIdeal.τ Cert.AdamwUkvIdeal.sig) → Buf (Elt Ideal) ℓ) (g : Dev Cert.AdamwUkvIdeal.nD → PrngReg), Pre_AdamwUkvIdeal m →
    θ_run (Cert.AdamwUkvIdeal.defs (F := Ideal)) (onTc (τ := Cert.AdamwUkvIdeal.τ) (Cert.AdamwUkvIdeal.main (F := Ideal))) ⟨m, fun _ => 0, g⟩ (fun r => (∀ c : Dev Cert.AdamwUkvIdeal.nD,
      r.2.mem ((c.tc : Thread Cert.AdamwUkvIdeal.nD Cert.AdamwUkvIdeal.τ).loc Cert.AdamwUkvIdeal.main_arg0) = m ((c.tc : Thread Cert.AdamwUkvIdeal.nD Cert.AdamwUkvIdeal.τ).loc Cert.AdamwUkvIdeal.main_arg0)
      ∧ r.2.mem ((c.tc : Thread Cert.AdamwUkvIdeal.nD Cert.AdamwUkvIdeal.τ).loc Cert.AdamwUkvIdeal.main_arg1) = m ((c.tc : Thread Cert.AdamwUkvIdeal.nD Cert.AdamwUkvIdeal.τ).loc Cert.AdamwUkvIdeal.main_arg1)
      ∧ r.2.mem ((c.tc : Thread Cert.AdamwUkvIdeal.nD Cert.AdamwUkvIdeal.τ).loc Cert.AdamwUkvIdeal.main_arg2) = m ((c.tc : Thread Cert.AdamwUkvIdeal.nD Cert.AdamwUkvIdeal.τ).loc Cert.AdamwUkvIdeal.main_arg2)
      ∧ r.2.mem ((c.tc : Thread Cert.AdamwUkvIdeal.nD Cert.AdamwUkvIdeal.τ).loc Cert.AdamwUkvIdeal.main_arg3) = m ((c.tc : Thread Cert.AdamwUkvIdeal.nD Cert.AdamwUkvIdeal.τ).loc Cert.AdamwUkvIdeal.main_arg3))
      ∧ r.2.sem = fun _ => 0)

def quiescent_AdamwUkvReferenceIdeal [hAdamwUkvReferenceIdeal : Cert.AdamwUkvReferenceIdeal.Facts] : Prop :=
  ∀ (m : (ℓ : Loc Cert.AdamwUkvReferenceIdeal.nD Cert.AdamwUkvReferenceIdeal.τ Cert.AdamwUkvReferenceIdeal.sig) → Buf (Elt Ideal) ℓ) (g : Dev Cert.AdamwUkvReferenceIdeal.nD → PrngReg), Pre_AdamwUkvReferenceIdeal m →
    θ_run (Cert.AdamwUkvReferenceIdeal.defs (F := Ideal)) (onTc (τ := Cert.AdamwUkvReferenceIdeal.τ) (Cert.AdamwUkvReferenceIdeal.main (F := Ideal))) ⟨m, fun _ => 0, g⟩ (fun r => (∀ c : Dev Cert.AdamwUkvReferenceIdeal.nD,
      r.2.mem ((c.tc : Thread Cert.AdamwUkvReferenceIdeal.nD Cert.AdamwUkvReferenceIdeal.τ).loc Cert.AdamwUkvReferenceIdeal.main_arg0) = m ((c.tc : Thread Cert.AdamwUkvReferenceIdeal.nD Cert.AdamwUkvReferenceIdeal.τ).loc Cert.AdamwUkvReferenceIdeal.main_arg0)
      ∧ r.2.mem ((c.tc : Thread Cert.AdamwUkvReferenceIdeal.nD Cert.AdamwUkvReferenceIdeal.τ).loc Cert.AdamwUkvReferenceIdeal.main_arg1) = m ((c.tc : Thread Cert.AdamwUkvReferenceIdeal.nD Cert.AdamwUkvReferenceIdeal.τ).loc Cert.AdamwUkvReferenceIdeal.main_arg1)
      ∧ r.2.mem ((c.tc : Thread Cert.AdamwUkvReferenceIdeal.nD Cert.AdamwUkvReferenceIdeal.τ).loc Cert.AdamwUkvReferenceIdeal.main_arg2) = m ((c.tc : Thread Cert.AdamwUkvReferenceIdeal.nD Cert.AdamwUkvReferenceIdeal.τ).loc Cert.AdamwUkvReferenceIdeal.main_arg2)
      ∧ r.2.mem ((c.tc : Thread Cert.AdamwUkvReferenceIdeal.nD Cert.AdamwUkvReferenceIdeal.τ).loc Cert.AdamwUkvReferenceIdeal.main_arg3) = m ((c.tc : Thread Cert.AdamwUkvReferenceIdeal.nD Cert.AdamwUkvReferenceIdeal.τ).loc Cert.AdamwUkvReferenceIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutReferenceIdeal [hAdamwOutReferenceIdeal : Cert.AdamwOutReferenceIdeal.Facts] : Prop :=
  ∀ (m : (ℓ : Loc Cert.AdamwOutReferenceIdeal.nD Cert.AdamwOutReferenceIdeal.τ Cert.AdamwOutReferenceIdeal.sig) → Buf (Elt Ideal) ℓ) (g : Dev Cert.AdamwOutReferenceIdeal.nD → PrngReg), Pre_AdamwOutReferenceIdeal m →
    θ_run (Cert.AdamwOutReferenceIdeal.defs (F := Ideal)) (onTc (τ := Cert.AdamwOutReferenceIdeal.τ) (Cert.AdamwOutReferenceIdeal.main (F := Ideal))) ⟨m, fun _ => 0, g⟩ (fun r => (∀ c : Dev Cert.AdamwOutReferenceIdeal.nD,
      r.2.mem ((c.tc : Thread Cert.AdamwOutReferenceIdeal.nD Cert.AdamwOutReferenceIdeal.τ).loc Cert.AdamwOutReferenceIdeal.main_arg0) = m ((c.tc : Thread Cert.AdamwOutReferenceIdeal.nD Cert.AdamwOutReferenceIdeal.τ).loc Cert.AdamwOutReferenceIdeal.main_arg0)
      ∧ r.2.mem ((c.tc : Thread Cert.AdamwOutReferenceIdeal.nD Cert.AdamwOutReferenceIdeal.τ).loc Cert.AdamwOutReferenceIdeal.main_arg1) = m ((c.tc : Thread Cert.AdamwOutReferenceIdeal.nD Cert.AdamwOutReferenceIdeal.τ).loc Cert.AdamwOutReferenceIdeal.main_arg1)
      ∧ r.2.mem ((c.tc : Thread Cert.AdamwOutReferenceIdeal.nD Cert.AdamwOutReferenceIdeal.τ).loc Cert.AdamwOutReferenceIdeal.main_arg2) = m ((c.tc : Thread Cert.AdamwOutReferenceIdeal.nD Cert.AdamwOutReferenceIdeal.τ).loc Cert.AdamwOutReferenceIdeal.main_arg2)
      ∧ r.2.mem ((c.tc : Thread Cert.AdamwOutReferenceIdeal.nD Cert.AdamwOutReferenceIdeal.τ).loc Cert.AdamwOutReferenceIdeal.main_arg3) = m ((c.tc : Thread Cert.AdamwOutReferenceIdeal.nD Cert.AdamwOutReferenceIdeal.τ).loc Cert.AdamwOutReferenceIdeal.main_arg3))
      ∧ r.2.sem = fun _ => 0)

def quiescent_AdamwGate [hAdamwGate : Cert.AdamwGate.Facts] : Prop :=
  ∀ (m : (ℓ : Loc Cert.AdamwGate.nD Cert.AdamwGate.τ Cert.AdamwGate.sig) → Buf (Elt Bits) ℓ) (g : Dev Cert.AdamwGate.nD → PrngReg), Pre_AdamwGate m →
    θ_run (Cert.AdamwGate.defs (F := Bits)) (onTc (τ := Cert.AdamwGate.τ) (Cert.AdamwGate.main (F := Bits))) ⟨m, fun _ => 0, g⟩ (fun r => (∀ c : Dev Cert.AdamwGate.nD,
      r.2.mem ((c.tc : Thread Cert.AdamwGate.nD Cert.AdamwGate.τ).loc Cert.AdamwGate.main_arg0) = m ((c.tc : Thread Cert.AdamwGate.nD Cert.AdamwGate.τ).loc Cert.AdamwGate.main_arg0)
      ∧ r.2.mem ((c.tc : Thread Cert.AdamwGate.nD Cert.AdamwGate.τ).loc Cert.AdamwGate.main_arg1) = m ((c.tc : Thread Cert.AdamwGate.nD Cert.AdamwGate.τ).loc Cert.AdamwGate.main_arg1)
      ∧ r.2.mem ((c.tc : Thread Cert.AdamwGate.nD Cert.AdamwGate.τ).loc Cert.AdamwGate.main_arg2) = m ((c.tc : Thread Cert.AdamwGate.nD Cert.AdamwGate.τ).loc Cert.AdamwGate.main_arg2)
      ∧ r.2.mem ((c.tc : Thread Cert.AdamwGate.nD Cert.AdamwGate.τ).loc Cert.AdamwGate.main_arg3) = m ((c.tc : Thread Cert.AdamwGate.nD Cert.AdamwGate.τ).loc Cert.AdamwGate.main_arg3))
      ∧ r.2.sem = fun _ => 0)

def quiescent_AdamwGateIdeal [hAdamwGateIdeal : Cert.AdamwGateIdeal.Facts] : Prop :=
  ∀ (m : (ℓ : Loc Cert.AdamwGateIdeal.nD Cert.AdamwGateIdeal.τ Cert.AdamwGateIdeal.sig) → Buf (Elt Ideal) ℓ) (g : Dev Cert.AdamwGateIdeal.nD → PrngReg), Pre_AdamwGateIdeal m →
    θ_run (Cert.AdamwGateIdeal.defs (F := Ideal)) (onTc (τ := Cert.AdamwGateIdeal.τ) (Cert.AdamwGateIdeal.main (F := Ideal))) ⟨m, fun _ => 0, g⟩ (fun r => (∀ c : Dev Cert.AdamwGateIdeal.nD,
      r.2.mem ((c.tc : Thread Cert.AdamwGateIdeal.nD Cert.AdamwGateIdeal.τ).loc Cert.AdamwGateIdeal.main_arg0) = m ((c.tc : Thread Cert.AdamwGateIdeal.nD Cert.AdamwGateIdeal.τ).loc Cert.AdamwGateIdeal.main_arg0)
      ∧ r.2.mem ((c.tc : Thread Cert.AdamwGateIdeal.nD Cert.AdamwGateIdeal.τ).loc Cert.AdamwGateIdeal.main_arg1) = m ((c.tc : Thread Cert.AdamwGateIdeal.nD Cert.AdamwGateIdeal.τ).loc Cert.AdamwGateIdeal.main_arg1)
      ∧ r.2.mem ((c.tc : Thread Cert.AdamwGateIdeal.nD Cert.AdamwGateIdeal.τ).loc Cert.AdamwGateIdeal.main_arg2) = m ((c.tc : Thread Cert.AdamwGateIdeal.nD Cert.AdamwGateIdeal.τ).loc Cert.AdamwGateIdeal.main_arg2)
      ∧ r.2.mem ((c.tc : Thread Cert.AdamwGateIdeal.nD Cert.AdamwGateIdeal.τ).loc Cert.AdamwGateIdeal.main_arg3) = m ((c.tc : Thread Cert.AdamwGateIdeal.nD Cert.AdamwGateIdeal.τ).loc Cert.AdamwGateIdeal.main_arg3))
      ∧ r.2.sem = fun _ => 0)

def quiescent_AdamwGateReferenceIdeal [hAdamwGateReferenceIdeal : Cert.AdamwGateReferenceIdeal.Facts] : Prop :=
  ∀ (m : (ℓ : Loc Cert.AdamwGateReferenceIdeal.nD Cert.AdamwGateReferenceIdeal.τ Cert.AdamwGateReferenceIdeal.sig) → Buf (Elt Ideal) ℓ) (g : Dev Cert.AdamwGateReferenceIdeal.nD → PrngReg), Pre_AdamwGateReferenceIdeal m →
    θ_run (Cert.AdamwGateReferenceIdeal.defs (F := Ideal)) (onTc (τ := Cert.AdamwGateReferenceIdeal.τ) (Cert.AdamwGateReferenceIdeal.main (F := Ideal))) ⟨m, fun _ => 0, g⟩ (fun r => (∀ c : Dev Cert.AdamwGateReferenceIdeal.nD,
      r.2.mem ((c.tc : Thread Cert.AdamwGateReferenceIdeal.nD Cert.AdamwGateReferenceIdeal.τ).loc Cert.AdamwGateReferenceIdeal.main_arg0) = m ((c.tc : Thread Cert.AdamwGateReferenceIdeal.nD Cert.AdamwGateReferenceIdeal.τ).loc Cert.AdamwGateReferenceIdeal.main_arg0)
      ∧ r.2.mem ((c.tc : Thread Cert.AdamwGateReferenceIdeal.nD Cert.AdamwGateReferenceIdeal.τ).loc Cert.AdamwGateReferenceIdeal.main_arg1) = m ((c.tc : Thread Cert.AdamwGateReferenceIdeal.nD Cert.AdamwGateReferenceIdeal.τ).loc Cert.AdamwGateReferenceIdeal.main_arg1)
      ∧ r.2.mem ((c.tc : Thread Cert.AdamwGateReferenceIdeal.nD Cert.AdamwGateReferenceIdeal.τ).loc Cert.AdamwGateReferenceIdeal.main_arg2) = m ((c.tc : Thread Cert.AdamwGateReferenceIdeal.nD Cert.AdamwGateReferenceIdeal.τ).loc Cert.AdamwGateReferenceIdeal.main_arg2)
      ∧ r.2.mem ((c.tc : Thread Cert.AdamwGateReferenceIdeal.nD Cert.AdamwGateReferenceIdeal.τ).loc Cert.AdamwGateReferenceIdeal.main_arg3) = m ((c.tc : Thread Cert.AdamwGateReferenceIdeal.nD Cert.AdamwGateReferenceIdeal.τ).loc Cert.AdamwGateReferenceIdeal.main_arg3))
      ∧ r.2.sem = fun _ => 0)

def quiescent_AdamwUp [hAdamwUp : Cert.AdamwUp.Facts] : Prop :=
  ∀ (m : (ℓ : Loc Cert.AdamwUp.nD Cert.AdamwUp.τ Cert.AdamwUp.sig) → Buf (Elt Bits) ℓ) (g : Dev Cert.AdamwUp.nD → PrngReg), Pre_AdamwUp m →
    θ_run (Cert.AdamwUp.defs (F := Bits)) (onTc (τ := Cert.AdamwUp.τ) (Cert.AdamwUp.main (F := Bits))) ⟨m, fun _ => 0, g⟩ (fun r => (∀ c : Dev Cert.AdamwUp.nD,
      r.2.mem ((c.tc : Thread Cert.AdamwUp.nD Cert.AdamwUp.τ).loc Cert.AdamwUp.main_arg0) = m ((c.tc : Thread Cert.AdamwUp.nD Cert.AdamwUp.τ).loc Cert.AdamwUp.main_arg0)
      ∧ r.2.mem ((c.tc : Thread Cert.AdamwUp.nD Cert.AdamwUp.τ).loc Cert.AdamwUp.main_arg1) = m ((c.tc : Thread Cert.AdamwUp.nD Cert.AdamwUp.τ).loc Cert.AdamwUp.main_arg1)
      ∧ r.2.mem ((c.tc : Thread Cert.AdamwUp.nD Cert.AdamwUp.τ).loc Cert.AdamwUp.main_arg2) = m ((c.tc : Thread Cert.AdamwUp.nD Cert.AdamwUp.τ).loc Cert.AdamwUp.main_arg2)
      ∧ r.2.mem ((c.tc : Thread Cert.AdamwUp.nD Cert.AdamwUp.τ).loc Cert.AdamwUp.main_arg3) = m ((c.tc : Thread Cert.AdamwUp.nD Cert.AdamwUp.τ).loc Cert.AdamwUp.main_arg3))
      ∧ r.2.sem = fun _ => 0)

def quiescent_AdamwUpIdeal [hAdamwUpIdeal : Cert.AdamwUpIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg), Pre_AdamwUpIdeal m →
    θ_run (Cert.AdamwUpIdeal.defs (F := Ideal)) (onTc (τ := Cert.AdamwUpIdeal.τ) (Cert.AdamwUpIdeal.main (F := Ideal))) ⟨m, fun _ => 0, g⟩ (fun r => (∀ c : Dev Cert.AdamwUpIdeal.nD,
      r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
      ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
      ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
      ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3))
      ∧ r.2.sem = fun _ => 0)

def quiescent_AdamwUpReferenceIdeal [hAdamwUpReferenceIdeal : Cert.AdamwUpReferenceIdeal.Facts] : Prop :=
  ∀ (m : (ℓ : Loc Cert.AdamwUpReferenceIdeal.nD Cert.AdamwUpReferenceIdeal.τ Cert.AdamwUpReferenceIdeal.sig) → Buf (Elt Ideal) ℓ) (g : Dev Cert.AdamwUpReferenceIdeal.nD → PrngReg), Pre_AdamwUpReferenceIdeal m →
    θ_run (Cert.AdamwUpReferenceIdeal.defs (F := Ideal)) (onTc (τ := Cert.AdamwUpReferenceIdeal.τ) (Cert.AdamwUpReferenceIdeal.main (F := Ideal))) ⟨m, fun _ => 0, g⟩ (fun r => (∀ c : Dev Cert.AdamwUpReferenceIdeal.nD,
      r.2.mem ((c.tc : Thread Cert.AdamwUpReferenceIdeal.nD Cert.AdamwUpReferenceIdeal.τ).loc Cert.AdamwUpReferenceIdeal.main_arg0) = m ((c.tc : Thread Cert.AdamwUpReferenceIdeal.nD Cert.AdamwUpReferenceIdeal.τ).loc Cert.AdamwUpReferenceIdeal.main_arg0)
      ∧ r.2.mem ((c.tc : Thread Cert.AdamwUpReferenceIdeal.nD Cert.AdamwUpReferenceIdeal.τ).loc Cert.AdamwUpReferenceIdeal.main_arg1) = m ((c.tc : Thread Cert.AdamwUpReferenceIdeal.nD Cert.AdamwUpReferenceIdeal.τ).loc Cert.AdamwUpReferenceIdeal.main_arg1)
      ∧ r.2.mem ((c.tc : Thread Cert.AdamwUpReferenceIdeal.nD Cert.AdamwUpReferenceIdeal.τ).loc Cert.AdamwUpReferenceIdeal.main_arg2) = m ((c.tc : Thread Cert.AdamwUpReferenceIdeal.nD Cert.AdamwUpReferenceIdeal.τ).loc Cert.AdamwUpReferenceIdeal.main_arg2)
      ∧ r.2.mem ((c.tc : Thread Cert.AdamwUpReferenceIdeal.nD Cert.AdamwUpReferenceIdeal.τ).loc Cert.AdamwUpReferenceIdeal.main_arg3) = m ((c.tc : Thread Cert.AdamwUpReferenceIdeal.nD Cert.AdamwUpReferenceIdeal.τ).loc Cert.AdamwUpReferenceIdeal.main_arg3))
      ∧ r.2.sem = fun _ => 0)

def quiescent_AdamwDown [hAdamwDown : Cert.AdamwDown.Facts] : Prop :=
  ∀ (m : (ℓ : Loc Cert.AdamwDown.nD Cert.AdamwDown.τ Cert.AdamwDown.sig) → Buf (Elt Bits) ℓ) (g : Dev Cert.AdamwDown.nD → PrngReg), Pre_AdamwDown m →
    θ_run (Cert.AdamwDown.defs (F := Bits)) (onTc (τ := Cert.AdamwDown.τ) (Cert.AdamwDown.main (F := Bits))) ⟨m, fun _ => 0, g⟩ (fun r => (∀ c : Dev Cert.AdamwDown.nD,
      r.2.mem ((c.tc : Thread Cert.AdamwDown.nD Cert.AdamwDown.τ).loc Cert.AdamwDown.main_arg0) = m ((c.tc : Thread Cert.AdamwDown.nD Cert.AdamwDown.τ).loc Cert.AdamwDown.main_arg0)
      ∧ r.2.mem ((c.tc : Thread Cert.AdamwDown.nD Cert.AdamwDown.τ).loc Cert.AdamwDown.main_arg1) = m ((c.tc : Thread Cert.AdamwDown.nD Cert.AdamwDown.τ).loc Cert.AdamwDown.main_arg1)
      ∧ r.2.mem ((c.tc : Thread Cert.AdamwDown.nD Cert.AdamwDown.τ).loc Cert.AdamwDown.main_arg2) = m ((c.tc : Thread Cert.AdamwDown.nD Cert.AdamwDown.τ).loc Cert.AdamwDown.main_arg2)
      ∧ r.2.mem ((c.tc : Thread Cert.AdamwDown.nD Cert.AdamwDown.τ).loc Cert.AdamwDown.main_arg3) = m ((c.tc : Thread Cert.AdamwDown.nD Cert.AdamwDown.τ).loc Cert.AdamwDown.main_arg3))
      ∧ r.2.sem = fun _ => 0)

def quiescent_AdamwDownIdeal [hAdamwDownIdeal : Cert.AdamwDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg), Pre_AdamwDownIdeal m →
    θ_run (Cert.AdamwDownIdeal.defs (F := Ideal)) (onTc (τ := Cert.AdamwDownIdeal.τ) (Cert.AdamwDownIdeal.main (F := Ideal))) ⟨m, fun _ => 0, g⟩ (fun r => (∀ c : Dev Cert.AdamwDownIdeal.nD,
      r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
      ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
      ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
      ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ r.2.sem = fun _ => 0)

def quiescent_AdamwDownReferenceIdeal [hAdamwDownReferenceIdeal : Cert.AdamwDownReferenceIdeal.Facts] : Prop :=
  ∀ (m : (ℓ : Loc Cert.AdamwDownReferenceIdeal.nD Cert.AdamwDownReferenceIdeal.τ Cert.AdamwDownReferenceIdeal.sig) → Buf (Elt Ideal) ℓ) (g : Dev Cert.AdamwDownReferenceIdeal.nD → PrngReg), Pre_AdamwDownReferenceIdeal m →
    θ_run (Cert.AdamwDownReferenceIdeal.defs (F := Ideal)) (onTc (τ := Cert.AdamwDownReferenceIdeal.τ) (Cert.AdamwDownReferenceIdeal.main (F := Ideal))) ⟨m, fun _ => 0, g⟩ (fun r => (∀ c : Dev Cert.AdamwDownReferenceIdeal.nD,
      r.2.mem ((c.tc : Thread Cert.AdamwDownReferenceIdeal.nD Cert.AdamwDownReferenceIdeal.τ).loc Cert.AdamwDownReferenceIdeal.main_arg0) = m ((c.tc : Thread Cert.AdamwDownReferenceIdeal.nD Cert.AdamwDownReferenceIdeal.τ).loc Cert.AdamwDownReferenceIdeal.main_arg0)
      ∧ r.2.mem ((c.tc : Thread Cert.AdamwDownReferenceIdeal.nD Cert.AdamwDownReferenceIdeal.τ).loc Cert.AdamwDownReferenceIdeal.main_arg1) = m ((c.tc : Thread Cert.AdamwDownReferenceIdeal.nD Cert.AdamwDownReferenceIdeal.τ).loc Cert.AdamwDownReferenceIdeal.main_arg1)
      ∧ r.2.mem ((c.tc : Thread Cert.AdamwDownReferenceIdeal.nD Cert.AdamwDownReferenceIdeal.τ).loc Cert.AdamwDownReferenceIdeal.main_arg2) = m ((c.tc : Thread Cert.AdamwDownReferenceIdeal.nD Cert.AdamwDownReferenceIdeal.τ).loc Cert.AdamwDownReferenceIdeal.main_arg2)
      ∧ r.2.mem ((c.tc : Thread Cert.AdamwDownReferenceIdeal.nD Cert.AdamwDownReferenceIdeal.τ).loc Cert.AdamwDownReferenceIdeal.main_arg3) = m ((c.tc : Thread Cert.AdamwDownReferenceIdeal.nD Cert.AdamwDownReferenceIdeal.τ).loc Cert.AdamwDownReferenceIdeal.main_arg3))
      ∧ r.2.sem = fun _ => 0)

def quiescent_DFfnAct [hDFfnAct : Cert.DFfnAct.Facts] : Prop :=
  ∀ (m : (ℓ : Loc Cert.DFfnAct.nD Cert.DFfnAct.τ Cert.DFfnAct.sig) → Buf (Elt Bits) ℓ) (g : Dev Cert.DFfnAct.nD → PrngReg), Pre_DFfnAct m →
    θ_run (Cert.DFfnAct.defs (F := Bits)) (onTc (τ := Cert.DFfnAct.τ) (Cert.DFfnAct.main (F := Bits))) ⟨m, fun _ => 0, g⟩ (fun r => (∀ c : Dev Cert.DFfnAct.nD,
      r.2.mem ((c.tc : Thread Cert.DFfnAct.nD Cert.DFfnAct.τ).loc Cert.DFfnAct.main_arg0) = m ((c.tc : Thread Cert.DFfnAct.nD Cert.DFfnAct.τ).loc Cert.DFfnAct.main_arg0)
      ∧ r.2.mem ((c.tc : Thread Cert.DFfnAct.nD Cert.DFfnAct.τ).loc Cert.DFfnAct.main_arg1) = m ((c.tc : Thread Cert.DFfnAct.nD Cert.DFfnAct.τ).loc Cert.DFfnAct.main_arg1)
      ∧ r.2.mem ((c.tc : Thread Cert.DFfnAct.nD Cert.DFfnAct.τ).loc Cert.DFfnAct.main_arg2) = m ((c.tc : Thread Cert.DFfnAct.nD Cert.DFfnAct.τ).loc Cert.DFfnAct.main_arg2)
      ∧ r.2.mem ((c.tc : Thread Cert.DFfnAct.nD Cert.DFfnAct.τ).loc Cert.DFfnAct.main_arg3) = m ((c.tc : Thread Cert.DFfnAct.nD Cert.DFfnAct.τ).loc Cert.DFfnAct.main_arg3)
      ∧ r.2.mem ((c.tc : Thread Cert.DFfnAct.nD Cert.DFfnAct.τ).loc Cert.DFfnAct.main_arg4) = m ((c.tc : Thread Cert.DFfnAct.nD Cert.DFfnAct.τ).loc Cert.DFfnAct.main_arg4))
      ∧ r.2.sem = fun _ => 0)

def quiescent_DFfnActIdeal [hDFfnActIdeal : Cert.DFfnActIdeal.Facts] : Prop :=
  ∀ (m : (ℓ : Loc Cert.DFfnActIdeal.nD Cert.DFfnActIdeal.τ Cert.DFfnActIdeal.sig) → Buf (Elt Ideal) ℓ) (g : Dev Cert.DFfnActIdeal.nD → PrngReg), Pre_DFfnActIdeal m →
    θ_run (Cert.DFfnActIdeal.defs (F := Ideal)) (onTc (τ := Cert.DFfnActIdeal.τ) (Cert.DFfnActIdeal.main (F := Ideal))) ⟨m, fun _ => 0, g⟩ (fun r => (∀ c : Dev Cert.DFfnActIdeal.nD,
      r.2.mem ((c.tc : Thread Cert.DFfnActIdeal.nD Cert.DFfnActIdeal.τ).loc Cert.DFfnActIdeal.main_arg0) = m ((c.tc : Thread Cert.DFfnActIdeal.nD Cert.DFfnActIdeal.τ).loc Cert.DFfnActIdeal.main_arg0)
      ∧ r.2.mem ((c.tc : Thread Cert.DFfnActIdeal.nD Cert.DFfnActIdeal.τ).loc Cert.DFfnActIdeal.main_arg1) = m ((c.tc : Thread Cert.DFfnActIdeal.nD Cert.DFfnActIdeal.τ).loc Cert.DFfnActIdeal.main_arg1)
      ∧ r.2.mem ((c.tc : Thread Cert.DFfnActIdeal.nD Cert.DFfnActIdeal.τ).loc Cert.DFfnActIdeal.main_arg2) = m ((c.tc : Thread Cert.DFfnActIdeal.nD Cert.DFfnActIdeal.τ).loc Cert.DFfnActIdeal.main_arg2)
      ∧ r.2.mem ((c.tc : Thread Cert.DFfnActIdeal.nD Cert.DFfnActIdeal.τ).loc Cert.DFfnActIdeal.main_arg3) = m ((c.tc : Thread Cert.DFfnActIdeal.nD Cert.DFfnActIdeal.τ).loc Cert.DFfnActIdeal.main_arg3)
      ∧ r.2.mem ((c.tc : Thread Cert.DFfnActIdeal.nD Cert.DFfnActIdeal.τ).loc Cert.DFfnActIdeal.main_arg4) = m ((c.tc : Thread Cert.DFfnActIdeal.nD Cert.DFfnActIdeal.τ).loc Cert.DFfnActIdeal.main_arg4))
      ∧ r.2.sem = fun _ => 0)

def quiescent_DFfnActIdeal_pre_finite_ffn [hDFfnActIdeal : Cert.DFfnActIdeal.Facts] [hPre_finite_ffn : Cert.Pre_finite_ffn.Facts] : Prop :=
  ∀ (m : (ℓ : Loc Cert.DFfnActIdeal.nD Cert.DFfnActIdeal.τ Cert.DFfnActIdeal.sig) → Buf (Elt Ideal) ℓ) (g : Dev Cert.DFfnActIdeal.nD → PrngReg), Pre_DFfnActIdeal_finite_ffn m →
    θ_run (Cert.DFfnActIdeal.defs (F := Ideal)) (onTc (τ := Cert.DFfnActIdeal.τ) (Cert.DFfnActIdeal.main (F := Ideal))) ⟨m, fun _ => 0, g⟩ (fun r => (∀ c : Dev Cert.DFfnActIdeal.nD,
      r.2.mem ((c.tc : Thread Cert.DFfnActIdeal.nD Cert.DFfnActIdeal.τ).loc Cert.DFfnActIdeal.main_arg0) = m ((c.tc : Thread Cert.DFfnActIdeal.nD Cert.DFfnActIdeal.τ).loc Cert.DFfnActIdeal.main_arg0)
      ∧ r.2.mem ((c.tc : Thread Cert.DFfnActIdeal.nD Cert.DFfnActIdeal.τ).loc Cert.DFfnActIdeal.main_arg1) = m ((c.tc : Thread Cert.DFfnActIdeal.nD Cert.DFfnActIdeal.τ).loc Cert.DFfnActIdeal.main_arg1)
      ∧ r.2.mem ((c.tc : Thread Cert.DFfnActIdeal.nD Cert.DFfnActIdeal.τ).loc Cert.DFfnActIdeal.main_arg2) = m ((c.tc : Thread Cert.DFfnActIdeal.nD Cert.DFfnActIdeal.τ).loc Cert.DFfnActIdeal.main_arg2)
      ∧ r.2.mem ((c.tc : Thread Cert.DFfnActIdeal.nD Cert.DFfnActIdeal.τ).loc Cert.DFfnActIdeal.main_arg3) = m ((c.tc : Thread Cert.DFfnActIdeal.nD Cert.DFfnActIdeal.τ).loc Cert.DFfnActIdeal.main_arg3)
      ∧ r.2.mem ((c.tc : Thread Cert.DFfnActIdeal.nD Cert.DFfnActIdeal.τ).loc Cert.DFfnActIdeal.main_arg4) = m ((c.tc : Thread Cert.DFfnActIdeal.nD Cert.DFfnActIdeal.τ).loc Cert.DFfnActIdeal.main_arg4))
      ∧ r.2.sem = fun _ => 0)

def quiescent_DFfnActReferenceIdeal [hDFfnActReferenceIdeal : Cert.DFfnActReferenceIdeal.Facts] : Prop :=
  ∀ (m : (ℓ : Loc Cert.DFfnActReferenceIdeal.nD Cert.DFfnActReferenceIdeal.τ Cert.DFfnActReferenceIdeal.sig) → Buf (Elt Ideal) ℓ) (g : Dev Cert.DFfnActReferenceIdeal.nD → PrngReg), Pre_DFfnActReferenceIdeal m →
    θ_run (Cert.DFfnActReferenceIdeal.defs (F := Ideal)) (onTc (τ := Cert.DFfnActReferenceIdeal.τ) (Cert.DFfnActReferenceIdeal.main (F := Ideal))) ⟨m, fun _ => 0, g⟩ (fun r => (∀ c : Dev Cert.DFfnActReferenceIdeal.nD,
      r.2.mem ((c.tc : Thread Cert.DFfnActReferenceIdeal.nD Cert.DFfnActReferenceIdeal.τ).loc Cert.DFfnActReferenceIdeal.main_arg0) = m ((c.tc : Thread Cert.DFfnActReferenceIdeal.nD Cert.DFfnActReferenceIdeal.τ).loc Cert.DFfnActReferenceIdeal.main_arg0)
      ∧ r.2.mem ((c.tc : Thread Cert.DFfnActReferenceIdeal.nD Cert.DFfnActReferenceIdeal.τ).loc Cert.DFfnActReferenceIdeal.main_arg1) = m ((c.tc : Thread Cert.DFfnActReferenceIdeal.nD Cert.DFfnActReferenceIdeal.τ).loc Cert.DFfnActReferenceIdeal.main_arg1)
      ∧ r.2.mem ((c.tc : Thread Cert.DFfnActReferenceIdeal.nD Cert.DFfnActReferenceIdeal.τ).loc Cert.DFfnActReferenceIdeal.main_arg2) = m ((c.tc : Thread Cert.DFfnActReferenceIdeal.nD Cert.DFfnActReferenceIdeal.τ).loc Cert.DFfnActReferenceIdeal.main_arg2)
      ∧ r.2.mem ((c.tc : Thread Cert.DFfnActReferenceIdeal.nD Cert.DFfnActReferenceIdeal.τ).loc Cert.DFfnActReferenceIdeal.main_arg3) = m ((c.tc : Thread Cert.DFfnActReferenceIdeal.nD Cert.DFfnActReferenceIdeal.τ).loc Cert.DFfnActReferenceIdeal.main_arg3)
      ∧ r.2.mem ((c.tc : Thread Cert.DFfnActReferenceIdeal.nD Cert.DFfnActReferenceIdeal.τ).loc Cert.DFfnActReferenceIdeal.main_arg4) = m ((c.tc : Thread Cert.DFfnActReferenceIdeal.nD Cert.DFfnActReferenceIdeal.τ).loc Cert.DFfnActReferenceIdeal.main_arg4))
      ∧ r.2.sem = fun _ => 0)

def quiescent_DFfnActReferenceIdeal_pre_finite_ffn [hDFfnActReferenceIdeal : Cert.DFfnActReferenceIdeal.Facts] [hPre_finite_ffn : Cert.Pre_finite_ffn.Facts] : Prop :=
  ∀ (m : (ℓ : Loc Cert.DFfnActReferenceIdeal.nD Cert.DFfnActReferenceIdeal.τ Cert.DFfnActReferenceIdeal.sig) → Buf (Elt Ideal) ℓ) (g : Dev Cert.DFfnActReferenceIdeal.nD → PrngReg), Pre_DFfnActReferenceIdeal_finite_ffn m →
    θ_run (Cert.DFfnActReferenceIdeal.defs (F := Ideal)) (onTc (τ := Cert.DFfnActReferenceIdeal.τ) (Cert.DFfnActReferenceIdeal.main (F := Ideal))) ⟨m, fun _ => 0, g⟩ (fun r => (∀ c : Dev Cert.DFfnActReferenceIdeal.nD,
      r.2.mem ((c.tc : Thread Cert.DFfnActReferenceIdeal.nD Cert.DFfnActReferenceIdeal.τ).loc Cert.DFfnActReferenceIdeal.main_arg0) = m ((c.tc : Thread Cert.DFfnActReferenceIdeal.nD Cert.DFfnActReferenceIdeal.τ).loc Cert.DFfnActReferenceIdeal.main_arg0)
      ∧ r.2.mem ((c.tc : Thread Cert.DFfnActReferenceIdeal.nD Cert.DFfnActReferenceIdeal.τ).loc Cert.DFfnActReferenceIdeal.main_arg1) = m ((c.tc : Thread Cert.DFfnActReferenceIdeal.nD Cert.DFfnActReferenceIdeal.τ).loc Cert.DFfnActReferenceIdeal.main_arg1)
      ∧ r.2.mem ((c.tc : Thread Cert.DFfnActReferenceIdeal.nD Cert.DFfnActReferenceIdeal.τ).loc Cert.DFfnActReferenceIdeal.main_arg2) = m ((c.tc : Thread Cert.DFfnActReferenceIdeal.nD Cert.DFfnActReferenceIdeal.τ).loc Cert.DFfnActReferenceIdeal.main_arg2)
      ∧ r.2.mem ((c.tc : Thread Cert.DFfnActReferenceIdeal.nD Cert.DFfnActReferenceIdeal.τ).loc Cert.DFfnActReferenceIdeal.main_arg3) = m ((c.tc : Thread Cert.DFfnActReferenceIdeal.nD Cert.DFfnActReferenceIdeal.τ).loc Cert.DFfnActReferenceIdeal.main_arg3)
      ∧ r.2.mem ((c.tc : Thread Cert.DFfnActReferenceIdeal.nD Cert.DFfnActReferenceIdeal.τ).loc Cert.DFfnActReferenceIdeal.main_arg4) = m ((c.tc : Thread Cert.DFfnActReferenceIdeal.nD Cert.DFfnActReferenceIdeal.τ).loc Cert.DFfnActReferenceIdeal.main_arg4))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallReferenceIdeal [hAdamwSmallReferenceIdeal : Cert.AdamwSmallReferenceIdeal.Facts] : Prop :=
  ∀ (m : (ℓ : Loc Cert.AdamwSmallReferenceIdeal.nD Cert.AdamwSmallReferenceIdeal.τ Cert.AdamwSmallReferenceIdeal.sig) → Buf (Elt Ideal) ℓ) (g : Dev Cert.AdamwSmallReferenceIdeal.nD → PrngReg), Pre_AdamwSmallReferenceIdeal m →
    θ_run (Cert.AdamwSmallReferenceIdeal.defs (F := Ideal)) (onTc (τ := Cert.AdamwSmallReferenceIdeal.τ) (Cert.AdamwSmallReferenceIdeal.main (F := Ideal))) ⟨m, fun _ => 0, g⟩ (fun r => (∀ c : Dev Cert.AdamwSmallReferenceIdeal.nD,
      r.2.mem ((c.tc : Thread Cert.AdamwSmallReferenceIdeal.nD Cert.AdamwSmallReferenceIdeal.τ).loc Cert.AdamwSmallReferenceIdeal.main_arg0) = m ((c.tc : Thread Cert.AdamwSmallReferenceIdeal.nD Cert.AdamwSmallReferenceIdeal.τ).loc Cert.AdamwSmallReferenceIdeal.main_arg0)
      ∧ r.2.mem ((c.tc : Thread Cert.AdamwSmallReferenceIdeal.nD Cert.AdamwSmallReferenceIdeal.τ).loc Cert.AdamwSmallReferenceIdeal.main_arg1) = m ((c.tc : Thread Cert.AdamwSmallReferenceIdeal.nD Cert.AdamwSmallReferenceIdeal.τ).loc Cert.AdamwSmallReferenceIdeal.main_arg1)
      ∧ r.2.mem ((c.tc : Thread Cert.AdamwSmallReferenceIdeal.nD Cert.AdamwSmallReferenceIdeal.τ).loc Cert.AdamwSmallReferenceIdeal.main_arg2) = m ((c.tc : Thread Cert.AdamwSmallReferenceIdeal.nD Cert.AdamwSmallReferenceIdeal.τ).loc Cert.AdamwSmallReferenceIdeal.main_arg2)
      ∧ r.2.mem ((c.tc : Thread Cert.AdamwSmallReferenceIdeal.nD Cert.AdamwSmallReferenceIdeal.τ).loc Cert.AdamwSmallReferenceIdeal.main_arg3) = m ((c.tc : Thread Cert.AdamwSmallReferenceIdeal.nD Cert.AdamwSmallReferenceIdeal.τ).loc Cert.AdamwSmallReferenceIdeal.main_arg3))
      ∧ r.2.sem = fun _ => 0)

def quiescent_SumChips [hSumChips : Cert.SumChips.Facts] : Prop :=
  ∀ (m : (ℓ : Loc Cert.SumChips.nD Cert.SumChips.τ Cert.SumChips.sig) → Buf (Elt Bits) ℓ) (g : Dev Cert.SumChips.nD → PrngReg), Pre_SumChips m →
    θ_run (Cert.SumChips.defs (F := Bits)) (onTc (τ := Cert.SumChips.τ) (Cert.SumChips.main (F := Bits))) ⟨m, fun _ => 0, g⟩ (fun r => (∀ c : Dev Cert.SumChips.nD,
      r.2.mem ((c.tc : Thread Cert.SumChips.nD Cert.SumChips.τ).loc Cert.SumChips.main_arg0) = m ((c.tc : Thread Cert.SumChips.nD Cert.SumChips.τ).loc Cert.SumChips.main_arg0))
      ∧ r.2.sem = fun _ => 0)

def quiescent_SumChipsIdeal [hSumChipsIdeal : Cert.SumChipsIdeal.Facts] : Prop :=
  ∀ (m : (ℓ : Loc Cert.SumChipsIdeal.nD Cert.SumChipsIdeal.τ Cert.SumChipsIdeal.sig) → Buf (Elt Ideal) ℓ) (g : Dev Cert.SumChipsIdeal.nD → PrngReg), Pre_SumChipsIdeal m →
    θ_run (Cert.SumChipsIdeal.defs (F := Ideal)) (onTc (τ := Cert.SumChipsIdeal.τ) (Cert.SumChipsIdeal.main (F := Ideal))) ⟨m, fun _ => 0, g⟩ (fun r => (∀ c : Dev Cert.SumChipsIdeal.nD,
      r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0))
      ∧ r.2.sem = fun _ => 0)

def quiescent_SumChipsReferenceIdeal [hSumChipsReferenceIdeal : Cert.SumChipsReferenceIdeal.Facts] : Prop :=
  ∀ (m : (ℓ : Loc Cert.SumChipsReferenceIdeal.nD Cert.SumChipsReferenceIdeal.τ Cert.SumChipsReferenceIdeal.sig) → Buf (Elt Ideal) ℓ) (g : Dev Cert.SumChipsReferenceIdeal.nD → PrngReg), Pre_SumChipsReferenceIdeal m →
    θ_run (Cert.SumChipsReferenceIdeal.defs (F := Ideal)) (onTc (τ := Cert.SumChipsReferenceIdeal.τ) (Cert.SumChipsReferenceIdeal.main (F := Ideal))) ⟨m, fun _ => 0, g⟩ (fun r => (∀ c : Dev Cert.SumChipsReferenceIdeal.nD,
      r.2.mem ((c.tc : Thread Cert.SumChipsReferenceIdeal.nD Cert.SumChipsReferenceIdeal.τ).loc Cert.SumChipsReferenceIdeal.main_arg0) = m ((c.tc : Thread Cert.SumChipsReferenceIdeal.nD Cert.SumChipsReferenceIdeal.τ).loc Cert.SumChipsReferenceIdeal.main_arg0))
      ∧ r.2.sem = fun _ => 0)

def quiescent_SumDevices [hSumDevices : Cert.SumDevices.Facts] : Prop :=
  ∀ (m : (ℓ : Loc Cert.SumDevices.nD Cert.SumDevices.τ Cert.SumDevices.sig) → Buf (Elt Bits) ℓ) (g : Dev Cert.SumDevices.nD → PrngReg), Pre_SumDevices m →
    θ_run (Cert.SumDevices.defs (F := Bits)) (onTc (τ := Cert.SumDevices.τ) (Cert.SumDevices.main (F := Bits))) ⟨m, fun _ => 0, g⟩ (fun r => (∀ c : Dev Cert.SumDevices.nD,
      r.2.mem ((c.tc : Thread Cert.SumDevices.nD Cert.SumDevices.τ).loc Cert.SumDevices.main_arg0) = m ((c.tc : Thread Cert.SumDevices.nD Cert.SumDevices.τ).loc Cert.SumDevices.main_arg0))
      ∧ r.2.sem = fun _ => 0)

def quiescent_SumDevicesIdeal [hSumDevicesIdeal : Cert.SumDevicesIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg), Pre_SumDevicesIdeal m →
    θ_run (Cert.SumDevicesIdeal.defs (F := Ideal)) (onTc (τ := Cert.SumDevicesIdeal.τ) (Cert.SumDevicesIdeal.main (F := Ideal))) ⟨m, fun _ => 0, g⟩ (fun r => (∀ c : Dev Cert.SumDevicesIdeal.nD,
      r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ r.2.sem = fun _ => 0)

def quiescent_SumDevicesReferenceIdeal [hSumDevicesReferenceIdeal : Cert.SumDevicesReferenceIdeal.Facts] : Prop :=
  ∀ (m : (ℓ : Loc Cert.SumDevicesReferenceIdeal.nD Cert.SumDevicesReferenceIdeal.τ Cert.SumDevicesReferenceIdeal.sig) → Buf (Elt Ideal) ℓ) (g : Dev Cert.SumDevicesReferenceIdeal.nD → PrngReg), Pre_SumDevicesReferenceIdeal m →
    θ_run (Cert.SumDevicesReferenceIdeal.defs (F := Ideal)) (onTc (τ := Cert.SumDevicesReferenceIdeal.τ) (Cert.SumDevicesReferenceIdeal.main (F := Ideal))) ⟨m, fun _ => 0, g⟩ (fun r => (∀ c : Dev Cert.SumDevicesReferenceIdeal.nD,
      r.2.mem ((c.tc : Thread Cert.SumDevicesReferenceIdeal.nD Cert.SumDevicesReferenceIdeal.τ).loc Cert.SumDevicesReferenceIdeal.main_arg0) = m ((c.tc : Thread Cert.SumDevicesReferenceIdeal.nD Cert.SumDevicesReferenceIdeal.τ).loc Cert.SumDevicesReferenceIdeal.main_arg0))
      ∧ r.2.sem = fun _ => 0)

def quiescent_SumGain [hSumGain : Cert.SumGain.Facts] : Prop :=
  ∀ (m : (ℓ : Loc Cert.SumGain.nD Cert.SumGain.τ Cert.SumGain.sig) → Buf (Elt Bits) ℓ) (g : Dev Cert.SumGain.nD → PrngReg), Pre_SumGain m →
    θ_run (Cert.SumGain.defs (F := Bits)) (onTc (τ := Cert.SumGain.τ) (Cert.SumGain.main (F := Bits))) ⟨m, fun _ => 0, g⟩ (fun r => (∀ c : Dev Cert.SumGain.nD,
      r.2.mem ((c.tc : Thread Cert.SumGain.nD Cert.SumGain.τ).loc Cert.SumGain.main_arg0) = m ((c.tc : Thread Cert.SumGain.nD Cert.SumGain.τ).loc Cert.SumGain.main_arg0))
      ∧ r.2.sem = fun _ => 0)

def quiescent_SumGainIdeal [hSumGainIdeal : Cert.SumGainIdeal.Facts] : Prop :=
  ∀ (m : (ℓ : Loc Cert.SumGainIdeal.nD Cert.SumGainIdeal.τ Cert.SumGainIdeal.sig) → Buf (Elt Ideal) ℓ) (g : Dev Cert.SumGainIdeal.nD → PrngReg), Pre_SumGainIdeal m →
    θ_run (Cert.SumGainIdeal.defs (F := Ideal)) (onTc (τ := Cert.SumGainIdeal.τ) (Cert.SumGainIdeal.main (F := Ideal))) ⟨m, fun _ => 0, g⟩ (fun r => (∀ c : Dev Cert.SumGainIdeal.nD,
      r.2.mem ((c.tc : Thread Cert.SumGainIdeal.nD Cert.SumGainIdeal.τ).loc Cert.SumGainIdeal.main_arg0) = m ((c.tc : Thread Cert.SumGainIdeal.nD Cert.SumGainIdeal.τ).loc Cert.SumGainIdeal.main_arg0))
      ∧ r.2.sem = fun _ => 0)

def quiescent_SumGainReferenceIdeal [hSumGainReferenceIdeal : Cert.SumGainReferenceIdeal.Facts] : Prop :=
  ∀ (m : (ℓ : Loc Cert.SumGainReferenceIdeal.nD Cert.SumGainReferenceIdeal.τ Cert.SumGainReferenceIdeal.sig) → Buf (Elt Ideal) ℓ) (g : Dev Cert.SumGainReferenceIdeal.nD → PrngReg), Pre_SumGainReferenceIdeal m →
    θ_run (Cert.SumGainReferenceIdeal.defs (F := Ideal)) (onTc (τ := Cert.SumGainReferenceIdeal.τ) (Cert.SumGainReferenceIdeal.main (F := Ideal))) ⟨m, fun _ => 0, g⟩ (fun r => (∀ c : Dev Cert.SumGainReferenceIdeal.nD,
      r.2.mem ((c.tc : Thread Cert.SumGainReferenceIdeal.nD Cert.SumGainReferenceIdeal.τ).loc Cert.SumGainReferenceIdeal.main_arg0) = m ((c.tc : Thread Cert.SumGainReferenceIdeal.nD Cert.SumGainReferenceIdeal.τ).loc Cert.SumGainReferenceIdeal.main_arg0))
      ∧ r.2.sem = fun _ => 0)

def quiescent_SumTaps [hSumTaps : Cert.SumTaps.Facts] : Prop :=
  ∀ (m : (ℓ : Loc Cert.SumTaps.nD Cert.SumTaps.τ Cert.SumTaps.sig) → Buf (Elt Bits) ℓ) (g : Dev Cert.SumTaps.nD → PrngReg), Pre_SumTaps m →
    θ_run (Cert.SumTaps.defs (F := Bits)) (onTc (τ := Cert.SumTaps.τ) (Cert.SumTaps.main (F := Bits))) ⟨m, fun _ => 0, g⟩ (fun r => (∀ c : Dev Cert.SumTaps.nD,
      r.2.mem ((c.tc : Thread Cert.SumTaps.nD Cert.SumTaps.τ).loc Cert.SumTaps.main_arg0) = m ((c.tc : Thread Cert.SumTaps.nD Cert.SumTaps.τ).loc Cert.SumTaps.main_arg0))
      ∧ r.2.sem = fun _ => 0)

def quiescent_SumTapsIdeal [hSumTapsIdeal : Cert.SumTapsIdeal.Facts] : Prop :=
  ∀ (m : (ℓ : Loc Cert.SumTapsIdeal.nD Cert.SumTapsIdeal.τ Cert.SumTapsIdeal.sig) → Buf (Elt Ideal) ℓ) (g : Dev Cert.SumTapsIdeal.nD → PrngReg), Pre_SumTapsIdeal m →
    θ_run (Cert.SumTapsIdeal.defs (F := Ideal)) (onTc (τ := Cert.SumTapsIdeal.τ) (Cert.SumTapsIdeal.main (F := Ideal))) ⟨m, fun _ => 0, g⟩ (fun r => (∀ c : Dev Cert.SumTapsIdeal.nD,
      r.2.mem ((c.tc : Thread Cert.SumTapsIdeal.nD Cert.SumTapsIdeal.τ).loc Cert.SumTapsIdeal.main_arg0) = m ((c.tc : Thread Cert.SumTapsIdeal.nD Cert.SumTapsIdeal.τ).loc Cert.SumTapsIdeal.main_arg0))
      ∧ r.2.sem = fun _ => 0)

def quiescent_SumTapsReferenceIdeal [hSumTapsReferenceIdeal : Cert.SumTapsReferenceIdeal.Facts] : Prop :=
  ∀ (m : (ℓ : Loc Cert.SumTapsReferenceIdeal.nD Cert.SumTapsReferenceIdeal.τ Cert.SumTapsReferenceIdeal.sig) → Buf (Elt Ideal) ℓ) (g : Dev Cert.SumTapsReferenceIdeal.nD → PrngReg), Pre_SumTapsReferenceIdeal m →
    θ_run (Cert.SumTapsReferenceIdeal.defs (F := Ideal)) (onTc (τ := Cert.SumTapsReferenceIdeal.τ) (Cert.SumTapsReferenceIdeal.main (F := Ideal))) ⟨m, fun _ => 0, g⟩ (fun r => (∀ c : Dev Cert.SumTapsReferenceIdeal.nD,
      r.2.mem ((c.tc : Thread Cert.SumTapsReferenceIdeal.nD Cert.SumTapsReferenceIdeal.τ).loc Cert.SumTapsReferenceIdeal.main_arg0) = m ((c.tc : Thread Cert.SumTapsReferenceIdeal.nD Cert.SumTapsReferenceIdeal.τ).loc Cert.SumTapsReferenceIdeal.main_arg0))
      ∧ r.2.sem = fun _ => 0)

def quiescent_SumBias [hSumBias : Cert.SumBias.Facts] : Prop :=
  ∀ (m : (ℓ : Loc Cert.SumBias.nD Cert.SumBias.τ Cert.SumBias.sig) → Buf (Elt Bits) ℓ) (g : Dev Cert.SumBias.nD → PrngReg), Pre_SumBias m →
    θ_run (Cert.SumBias.defs (F := Bits)) (onTc (τ := Cert.SumBias.τ) (Cert.SumBias.main (F := Bits))) ⟨m, fun _ => 0, g⟩ (fun r => (∀ c : Dev Cert.SumBias.nD,
      r.2.mem ((c.tc : Thread Cert.SumBias.nD Cert.SumBias.τ).loc Cert.SumBias.main_arg0) = m ((c.tc : Thread Cert.SumBias.nD Cert.SumBias.τ).loc Cert.SumBias.main_arg0))
      ∧ r.2.sem = fun _ => 0)

def quiescent_SumBiasIdeal [hSumBiasIdeal : Cert.SumBiasIdeal.Facts] : Prop :=
  ∀ (m : (ℓ : Loc Cert.SumBiasIdeal.nD Cert.SumBiasIdeal.τ Cert.SumBiasIdeal.sig) → Buf (Elt Ideal) ℓ) (g : Dev Cert.SumBiasIdeal.nD → PrngReg), Pre_SumBiasIdeal m →
    θ_run (Cert.SumBiasIdeal.defs (F := Ideal)) (onTc (τ := Cert.SumBiasIdeal.τ) (Cert.SumBiasIdeal.main (F := Ideal))) ⟨m, fun _ => 0, g⟩ (fun r => (∀ c : Dev Cert.SumBiasIdeal.nD,
      r.2.mem ((c.tc : Thread Cert.SumBiasIdeal.nD Cert.SumBiasIdeal.τ).loc Cert.SumBiasIdeal.main_arg0) = m ((c.tc : Thread Cert.SumBiasIdeal.nD Cert.SumBiasIdeal.τ).loc Cert.SumBiasIdeal.main_arg0))
      ∧ r.2.sem = fun _ => 0)

def quiescent_SumBiasReferenceIdeal [hSumBiasReferenceIdeal : Cert.SumBiasReferenceIdeal.Facts] : Prop :=
  ∀ (m : (ℓ : Loc Cert.SumBiasReferenceIdeal.nD Cert.SumBiasReferenceIdeal.τ Cert.SumBiasReferenceIdeal.sig) → Buf (Elt Ideal) ℓ) (g : Dev Cert.SumBiasReferenceIdeal.nD → PrngReg), Pre_SumBiasReferenceIdeal m →
    θ_run (Cert.SumBiasReferenceIdeal.defs (F := Ideal)) (onTc (τ := Cert.SumBiasReferenceIdeal.τ) (Cert.SumBiasReferenceIdeal.main (F := Ideal))) ⟨m, fun _ => 0, g⟩ (fun r => (∀ c : Dev Cert.SumBiasReferenceIdeal.nD,
      r.2.mem ((c.tc : Thread Cert.SumBiasReferenceIdeal.nD Cert.SumBiasReferenceIdeal.τ).loc Cert.SumBiasReferenceIdeal.main_arg0) = m ((c.tc : Thread Cert.SumBiasReferenceIdeal.nD Cert.SumBiasReferenceIdeal.τ).loc Cert.SumBiasReferenceIdeal.main_arg0))
      ∧ r.2.sem = fun _ => 0)

def quiescent_SumHeads [hSumHeads : Cert.SumHeads.Facts] : Prop :=
  ∀ (m : (ℓ : Loc Cert.SumHeads.nD Cert.SumHeads.τ Cert.SumHeads.sig) → Buf (Elt Bits) ℓ) (g : Dev Cert.SumHeads.nD → PrngReg), Pre_SumHeads m →
    θ_run (Cert.SumHeads.defs (F := Bits)) (onTc (τ := Cert.SumHeads.τ) (Cert.SumHeads.main (F := Bits))) ⟨m, fun _ => 0, g⟩ (fun r => (∀ c : Dev Cert.SumHeads.nD,
      r.2.mem ((c.tc : Thread Cert.SumHeads.nD Cert.SumHeads.τ).loc Cert.SumHeads.main_arg0) = m ((c.tc : Thread Cert.SumHeads.nD Cert.SumHeads.τ).loc Cert.SumHeads.main_arg0))
      ∧ r.2.sem = fun _ => 0)

def quiescent_SumHeadsIdeal [hSumHeadsIdeal : Cert.SumHeadsIdeal.Facts] : Prop :=
  ∀ (m : (ℓ : Loc Cert.SumHeadsIdeal.nD Cert.SumHeadsIdeal.τ Cert.SumHeadsIdeal.sig) → Buf (Elt Ideal) ℓ) (g : Dev Cert.SumHeadsIdeal.nD → PrngReg), Pre_SumHeadsIdeal m →
    θ_run (Cert.SumHeadsIdeal.defs (F := Ideal)) (onTc (τ := Cert.SumHeadsIdeal.τ) (Cert.SumHeadsIdeal.main (F := Ideal))) ⟨m, fun _ => 0, g⟩ (fun r => (∀ c : Dev Cert.SumHeadsIdeal.nD,
      r.2.mem ((c.tc : Thread Cert.SumHeadsIdeal.nD Cert.SumHeadsIdeal.τ).loc Cert.SumHeadsIdeal.main_arg0) = m ((c.tc : Thread Cert.SumHeadsIdeal.nD Cert.SumHeadsIdeal.τ).loc Cert.SumHeadsIdeal.main_arg0))
      ∧ r.2.sem = fun _ => 0)

def quiescent_SumHeadsReferenceIdeal [hSumHeadsReferenceIdeal : Cert.SumHeadsReferenceIdeal.Facts] : Prop :=
  ∀ (m : (ℓ : Loc Cert.SumHeadsReferenceIdeal.nD Cert.SumHeadsReferenceIdeal.τ Cert.SumHeadsReferenceIdeal.sig) → Buf (Elt Ideal) ℓ) (g : Dev Cert.SumHeadsReferenceIdeal.nD → PrngReg), Pre_SumHeadsReferenceIdeal m →
    θ_run (Cert.SumHeadsReferenceIdeal.defs (F := Ideal)) (onTc (τ := Cert.SumHeadsReferenceIdeal.τ) (Cert.SumHeadsReferenceIdeal.main (F := Ideal))) ⟨m, fun _ => 0, g⟩ (fun r => (∀ c : Dev Cert.SumHeadsReferenceIdeal.nD,
      r.2.mem ((c.tc : Thread Cert.SumHeadsReferenceIdeal.nD Cert.SumHeadsReferenceIdeal.τ).loc Cert.SumHeadsReferenceIdeal.main_arg0) = m ((c.tc : Thread Cert.SumHeadsReferenceIdeal.nD Cert.SumHeadsReferenceIdeal.τ).loc Cert.SumHeadsReferenceIdeal.main_arg0))
      ∧ r.2.sem = fun _ => 0)

def quiescent_SumLoss [hSumLoss : Cert.SumLoss.Facts] : Prop :=
  ∀ (m : (ℓ : Loc Cert.SumLoss.nD Cert.SumLoss.τ Cert.SumLoss.sig) → Buf (Elt Bits) ℓ) (g : Dev Cert.SumLoss.nD → PrngReg), Pre_SumLoss m →
    θ_run (Cert.SumLoss.defs (F := Bits)) (onTc (τ := Cert.SumLoss.τ) (Cert.SumLoss.main (F := Bits))) ⟨m, fun _ => 0, g⟩ (fun r => (∀ c : Dev Cert.SumLoss.nD,
      r.2.mem ((c.tc : Thread Cert.SumLoss.nD Cert.SumLoss.τ).loc Cert.SumLoss.main_arg0) = m ((c.tc : Thread Cert.SumLoss.nD Cert.SumLoss.τ).loc Cert.SumLoss.main_arg0))
      ∧ r.2.sem = fun _ => 0)

def quiescent_SumLossIdeal [hSumLossIdeal : Cert.SumLossIdeal.Facts] : Prop :=
  ∀ (m : (ℓ : Loc Cert.SumLossIdeal.nD Cert.SumLossIdeal.τ Cert.SumLossIdeal.sig) → Buf (Elt Ideal) ℓ) (g : Dev Cert.SumLossIdeal.nD → PrngReg), Pre_SumLossIdeal m →
    θ_run (Cert.SumLossIdeal.defs (F := Ideal)) (onTc (τ := Cert.SumLossIdeal.τ) (Cert.SumLossIdeal.main (F := Ideal))) ⟨m, fun _ => 0, g⟩ (fun r => (∀ c : Dev Cert.SumLossIdeal.nD,
      r.2.mem ((c.tc : Thread Cert.SumLossIdeal.nD Cert.SumLossIdeal.τ).loc Cert.SumLossIdeal.main_arg0) = m ((c.tc : Thread Cert.SumLossIdeal.nD Cert.SumLossIdeal.τ).loc Cert.SumLossIdeal.main_arg0))
      ∧ r.2.sem = fun _ => 0)

def quiescent_SumLossReferenceIdeal [hSumLossReferenceIdeal : Cert.SumLossReferenceIdeal.Facts] : Prop :=
  ∀ (m : (ℓ : Loc Cert.SumLossReferenceIdeal.nD Cert.SumLossReferenceIdeal.τ Cert.SumLossReferenceIdeal.sig) → Buf (Elt Ideal) ℓ) (g : Dev Cert.SumLossReferenceIdeal.nD → PrngReg), Pre_SumLossReferenceIdeal m →
    θ_run (Cert.SumLossReferenceIdeal.defs (F := Ideal)) (onTc (τ := Cert.SumLossReferenceIdeal.τ) (Cert.SumLossReferenceIdeal.main (F := Ideal))) ⟨m, fun _ => 0, g⟩ (fun r => (∀ c : Dev Cert.SumLossReferenceIdeal.nD,
      r.2.mem ((c.tc : Thread Cert.SumLossReferenceIdeal.nD Cert.SumLossReferenceIdeal.τ).loc Cert.SumLossReferenceIdeal.main_arg0) = m ((c.tc : Thread Cert.SumLossReferenceIdeal.nD Cert.SumLossReferenceIdeal.τ).loc Cert.SumLossReferenceIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v86_0)) (v1 : (c : Dev Cert.KernelIdeal.nD) → Buf (Elt Ideal) ((c.tc : Thread Cert.KernelIdeal.nD Cert.KernelIdeal.τ).loc Cert.KernelIdeal.main_v86_1)) (v2 : (c : Dev Cert.KernelIdeal.nD) → Buf (Elt Ideal) ((c.tc : Thread Cert.KernelIdeal.nD Cert.KernelIdeal.τ).loc Cert.KernelIdeal.main_v86_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86_0) = v0 c
          ∧ r.2.mem ((c.tc : Thread Cert.KernelIdeal.nD Cert.KernelIdeal.τ).loc Cert.KernelIdeal.main_v86_1) = v1 c
          ∧ r.2.mem ((c.tc : Thread Cert.KernelIdeal.nD Cert.KernelIdeal.τ).loc Cert.KernelIdeal.main_v86_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v5)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v5) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v3) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v5)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v5) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v8)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v8) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_DAct_DActIdeal : Prop :=
  True

def algebraic_DActIdeal_DActReferenceIdeal [hDActIdeal : Cert.DActIdeal.Facts] [hDActReferenceIdeal : Cert.DActReferenceIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActReferenceIdeal.nD Cert.DActReferenceIdeal.τ Cert.DActReferenceIdeal.sig) → Buf (Elt Ideal) ℓ) (g' : Dev Cert.DActReferenceIdeal.nD → PrngReg), Pre_DActIdeal m →
    (∀ c : Dev Cert.DActIdeal.nD,
      m' ((c.tc : Thread Cert.DActReferenceIdeal.nD Cert.DActReferenceIdeal.τ).loc Cert.DActReferenceIdeal.main_arg0) = m ((c.tc : Thread Cert.DActIdeal.nD Cert.DActIdeal.τ).loc Cert.DActIdeal.main_arg0)
      ∧ m' ((c.tc : Thread Cert.DActReferenceIdeal.nD Cert.DActReferenceIdeal.τ).loc Cert.DActReferenceIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v5)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v5) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActReferenceIdeal.defs (F := Ideal)) (onTc (τ := Cert.DActReferenceIdeal.τ) (Cert.DActReferenceIdeal.main (F := Ideal))) ⟨m', fun _ => 0, g'⟩ (fun r => ∀ c : Dev Cert.DActReferenceIdeal.nD,
          r.2.mem ((c.tc : Thread Cert.DActReferenceIdeal.nD Cert.DActReferenceIdeal.τ).loc Cert.DActReferenceIdeal.main_v6) = v0 c
          ∧ r.2.mem ((c.tc : Thread Cert.DActReferenceIdeal.nD Cert.DActReferenceIdeal.τ).loc Cert.DActReferenceIdeal.main_arg0) = m' ((c.tc : Thread Cert.DActReferenceIdeal.nD Cert.DActReferenceIdeal.τ).loc Cert.DActReferenceIdeal.main_arg0)
          ∧ r.2.mem ((c.tc : Thread Cert.DActReferenceIdeal.nD Cert.DActReferenceIdeal.τ).loc Cert.DActReferenceIdeal.main_arg1) = m' ((c.tc : Thread Cert.DActReferenceIdeal.nD Cert.DActReferenceIdeal.τ).loc Cert.DActReferenceIdeal.main_arg1))

def preserves_DwDown_DwDownIdeal : Prop :=
  True

def algebraic_DwDownIdeal_DwDownReferenceIdeal [hDwDownIdeal : Cert.DwDownIdeal.Facts] [hDwDownReferenceIdeal : Cert.DwDownReferenceIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownIdeal m →
    (∀ c : Dev Cert.DwDownIdeal.nD,
      m' ((c.tc : Thread Cert.DwDownReferenceIdeal.nD Cert.DwDownReferenceIdeal.τ).loc Cert.DwDownReferenceIdeal.main_arg0) = m ((c.tc : Thread Cert.DwDownIdeal.nD Cert.DwDownIdeal.τ).loc Cert.DwDownIdeal.main_arg0)
      ∧ m' ((c.tc : Thread Cert.DwDownReferenceIdeal.nD Cert.DwDownReferenceIdeal.τ).loc Cert.DwDownReferenceIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v5)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v5) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v6) = v0 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1))

def preserves_DhGate_DhGateIdeal : Prop :=
  True

def algebraic_DhGateIdeal_DhGateReferenceIdeal [hDhGateIdeal : Cert.DhGateIdeal.Facts] [hDhGateReferenceIdeal : Cert.DhGateReferenceIdeal.Facts] : Prop :=
  ∀ (m : (ℓ : Loc Cert.DhGateIdeal.nD Cert.DhGateIdeal.τ Cert.DhGateIdeal.sig) → Buf (Elt Ideal) ℓ) (g : Dev Cert.DhGateIdeal.nD → PrngReg)
    (m' : (ℓ : Loc Cert.DhGateReferenceIdeal.nD Cert.DhGateReferenceIdeal.τ Cert.DhGateReferenceIdeal.sig) → Buf (Elt Ideal) ℓ) (g' : Dev Cert.DhGateReferenceIdeal.nD → PrngReg), Pre_DhGateIdeal m →
    (∀ c : Dev Cert.DhGateIdeal.nD,
      m' ((c.tc : Thread Cert.DhGateReferenceIdeal.nD Cert.DhGateReferenceIdeal.τ).loc Cert.DhGateReferenceIdeal.main_arg0) = m ((c.tc : Thread Cert.DhGateIdeal.nD Cert.DhGateIdeal.τ).loc Cert.DhGateIdeal.main_arg0)
      ∧ m' ((c.tc : Thread Cert.DhGateReferenceIdeal.nD Cert.DhGateReferenceIdeal.τ).loc Cert.DhGateReferenceIdeal.main_arg1) = m ((c.tc : Thread Cert.DhGateIdeal.nD Cert.DhGateIdeal.τ).loc Cert.DhGateIdeal.main_arg1)) →
    ∃ (v0 : (c : Dev Cert.DhGateIdeal.nD) → Buf (Elt Ideal) ((c.tc : Thread Cert.DhGateIdeal.nD Cert.DhGateIdeal.τ).loc Cert.DhGateIdeal.main_v8)),
      θ_run (Cert.DhGateIdeal.defs (F := Ideal)) (onTc (τ := Cert.DhGateIdeal.τ) (Cert.DhGateIdeal.main (F := Ideal))) ⟨m, fun _ => 0, g⟩ (fun r => ∀ c : Dev Cert.DhGateIdeal.nD,
          r.2.mem ((c.tc : Thread Cert.DhGateIdeal.nD Cert.DhGateIdeal.τ).loc Cert.DhGateIdeal.main_v8) = v0 c
          ∧ r.2.mem ((c.tc : Thread Cert.DhGateIdeal.nD Cert.DhGateIdeal.τ).loc Cert.DhGateIdeal.main_arg0) = m ((c.tc : Thread Cert.DhGateIdeal.nD Cert.DhGateIdeal.τ).loc Cert.DhGateIdeal.main_arg0)
          ∧ r.2.mem ((c.tc : Thread Cert.DhGateIdeal.nD Cert.DhGateIdeal.τ).loc Cert.DhGateIdeal.main_arg1) = m ((c.tc : Thread Cert.DhGateIdeal.nD Cert.DhGateIdeal.τ).loc Cert.DhGateIdeal.main_arg1))
      ∧ θ_run (Cert.DhGateReferenceIdeal.defs (F := Ideal)) (onTc (τ := Cert.DhGateReferenceIdeal.τ) (Cert.DhGateReferenceIdeal.main (F := Ideal))) ⟨m', fun _ => 0, g'⟩ (fun r => ∀ c : Dev Cert.DhGateReferenceIdeal.nD,
          r.2.mem ((c.tc : Thread Cert.DhGateReferenceIdeal.nD Cert.DhGateReferenceIdeal.τ).loc Cert.DhGateReferenceIdeal.main_v2) = v0 c
          ∧ r.2.mem ((c.tc : Thread Cert.DhGateReferenceIdeal.nD Cert.DhGateReferenceIdeal.τ).loc Cert.DhGateReferenceIdeal.main_arg0) = m' ((c.tc : Thread Cert.DhGateReferenceIdeal.nD Cert.DhGateReferenceIdeal.τ).loc Cert.DhGateReferenceIdeal.main_arg0)
          ∧ r.2.mem ((c.tc : Thread Cert.DhGateReferenceIdeal.nD Cert.DhGateReferenceIdeal.τ).loc Cert.DhGateReferenceIdeal.main_arg1) = m' ((c.tc : Thread Cert.DhGateReferenceIdeal.nD Cert.DhGateReferenceIdeal.τ).loc Cert.DhGateReferenceIdeal.main_arg1))

def preserves_DhUp_DhUpIdeal : Prop :=
  True

def algebraic_DhUpIdeal_DhUpReferenceIdeal [hDhUpIdeal : Cert.DhUpIdeal.Facts] [hDhUpReferenceIdeal : Cert.DhUpReferenceIdeal.Facts] : Prop :=
  ∀ (m : (ℓ : Loc Cert.DhUpIdeal.nD Cert.DhUpIdeal.τ Cert.DhUpIdeal.sig) → Buf (Elt Ideal) ℓ) (g : Dev Cert.DhUpIdeal.nD → PrngReg)
    (m' : (ℓ : Loc Cert.DhUpReferenceIdeal.nD Cert.DhUpReferenceIdeal.τ Cert.DhUpReferenceIdeal.sig) → Buf (Elt Ideal) ℓ) (g' : Dev Cert.DhUpReferenceIdeal.nD → PrngReg), Pre_DhUpIdeal m →
    (∀ c : Dev Cert.DhUpIdeal.nD,
      m' ((c.tc : Thread Cert.DhUpReferenceIdeal.nD Cert.DhUpReferenceIdeal.τ).loc Cert.DhUpReferenceIdeal.main_arg0) = m ((c.tc : Thread Cert.DhUpIdeal.nD Cert.DhUpIdeal.τ).loc Cert.DhUpIdeal.main_arg0)
      ∧ m' ((c.tc : Thread Cert.DhUpReferenceIdeal.nD Cert.DhUpReferenceIdeal.τ).loc Cert.DhUpReferenceIdeal.main_arg1) = m ((c.tc : Thread Cert.DhUpIdeal.nD Cert.DhUpIdeal.τ).loc Cert.DhUpIdeal.main_arg1)
      ∧ m' ((c.tc : Thread Cert.DhUpReferenceIdeal.nD Cert.DhUpReferenceIdeal.τ).loc Cert.DhUpReferenceIdeal.main_arg2) = m ((c.tc : Thread Cert.DhUpIdeal.nD Cert.DhUpIdeal.τ).loc Cert.DhUpIdeal.main_arg2)) →
    ∃ (v0 : (c : Dev Cert.DhUpIdeal.nD) → Buf (Elt Ideal) ((c.tc : Thread Cert.DhUpIdeal.nD Cert.DhUpIdeal.τ).loc Cert.DhUpIdeal.main_v8)),
      θ_run (Cert.DhUpIdeal.defs (F := Ideal)) (onTc (τ := Cert.DhUpIdeal.τ) (Cert.DhUpIdeal.main (F := Ideal))) ⟨m, fun _ => 0, g⟩ (fun r => ∀ c : Dev Cert.DhUpIdeal.nD,
          r.2.mem ((c.tc : Thread Cert.DhUpIdeal.nD Cert.DhUpIdeal.τ).loc Cert.DhUpIdeal.main_v8) = v0 c
          ∧ r.2.mem ((c.tc : Thread Cert.DhUpIdeal.nD Cert.DhUpIdeal.τ).loc Cert.DhUpIdeal.main_arg0) = m ((c.tc : Thread Cert.DhUpIdeal.nD Cert.DhUpIdeal.τ).loc Cert.DhUpIdeal.main_arg0)
          ∧ r.2.mem ((c.tc : Thread Cert.DhUpIdeal.nD Cert.DhUpIdeal.τ).loc Cert.DhUpIdeal.main_arg1) = m ((c.tc : Thread Cert.DhUpIdeal.nD Cert.DhUpIdeal.τ).loc Cert.DhUpIdeal.main_arg1)
          ∧ r.2.mem ((c.tc : Thread Cert.DhUpIdeal.nD Cert.DhUpIdeal.τ).loc Cert.DhUpIdeal.main_arg2) = m ((c.tc : Thread Cert.DhUpIdeal.nD Cert.DhUpIdeal.τ).loc Cert.DhUpIdeal.main_arg2))
      ∧ θ_run (Cert.DhUpReferenceIdeal.defs (F := Ideal)) (onTc (τ := Cert.DhUpReferenceIdeal.τ) (Cert.DhUpReferenceIdeal.main (F := Ideal))) ⟨m', fun _ => 0, g'⟩ (fun r => ∀ c : Dev Cert.DhUpReferenceIdeal.nD,
          r.2.mem ((c.tc : Thread Cert.DhUpReferenceIdeal.nD Cert.DhUpReferenceIdeal.τ).loc Cert.DhUpReferenceIdeal.main_v3) = v0 c
          ∧ r.2.mem ((c.tc : Thread Cert.DhUpReferenceIdeal.nD Cert.DhUpReferenceIdeal.τ).loc Cert.DhUpReferenceIdeal.main_arg0) = m' ((c.tc : Thread Cert.DhUpReferenceIdeal.nD Cert.DhUpReferenceIdeal.τ).loc Cert.DhUpReferenceIdeal.main_arg0)
          ∧ r.2.mem ((c.tc : Thread Cert.DhUpReferenceIdeal.nD Cert.DhUpReferenceIdeal.τ).loc Cert.DhUpReferenceIdeal.main_arg1) = m' ((c.tc : Thread Cert.DhUpReferenceIdeal.nD Cert.DhUpReferenceIdeal.τ).loc Cert.DhUpReferenceIdeal.main_arg1)
          ∧ r.2.mem ((c.tc : Thread Cert.DhUpReferenceIdeal.nD Cert.DhUpReferenceIdeal.τ).loc Cert.DhUpReferenceIdeal.main_arg2) = m' ((c.tc : Thread Cert.DhUpReferenceIdeal.nD Cert.DhUpReferenceIdeal.τ).loc Cert.DhUpReferenceIdeal.main_arg2))

def preserves_DwGate_DwGateIdeal : Prop :=
  True

def algebraic_DwGateIdeal_DwGateReferenceIdeal [hDwGateIdeal : Cert.DwGateIdeal.Facts] [hDwGateReferenceIdeal : Cert.DwGateReferenceIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateReferenceIdeal.nD Cert.DwGateReferenceIdeal.τ Cert.DwGateReferenceIdeal.sig) → Buf (Elt Ideal) ℓ) (g' : Dev Cert.DwGateReferenceIdeal.nD → PrngReg), Pre_DwGateIdeal m →
    (∀ c : Dev Cert.DwGateIdeal.nD,
      m' ((c.tc : Thread Cert.DwGateReferenceIdeal.nD Cert.DwGateReferenceIdeal.τ).loc Cert.DwGateReferenceIdeal.main_arg0) = m ((c.tc : Thread Cert.DwGateIdeal.nD Cert.DwGateIdeal.τ).loc Cert.DwGateIdeal.main_arg0)
      ∧ m' ((c.tc : Thread Cert.DwGateReferenceIdeal.nD Cert.DwGateReferenceIdeal.τ).loc Cert.DwGateReferenceIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v5)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v5) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateReferenceIdeal.defs (F := Ideal)) (onTc (τ := Cert.DwGateReferenceIdeal.τ) (Cert.DwGateReferenceIdeal.main (F := Ideal))) ⟨m', fun _ => 0, g'⟩ (fun r => ∀ c : Dev Cert.DwGateReferenceIdeal.nD,
          r.2.mem ((c.tc : Thread Cert.DwGateReferenceIdeal.nD Cert.DwGateReferenceIdeal.τ).loc Cert.DwGateReferenceIdeal.main_v6) = v0 c
          ∧ r.2.mem ((c.tc : Thread Cert.DwGateReferenceIdeal.nD Cert.DwGateReferenceIdeal.τ).loc Cert.DwGateReferenceIdeal.main_arg0) = m' ((c.tc : Thread Cert.DwGateReferenceIdeal.nD Cert.DwGateReferenceIdeal.τ).loc Cert.DwGateReferenceIdeal.main_arg0)
          ∧ r.2.mem ((c.tc : Thread Cert.DwGateReferenceIdeal.nD Cert.DwGateReferenceIdeal.τ).loc Cert.DwGateReferenceIdeal.main_arg1) = m' ((c.tc : Thread Cert.DwGateReferenceIdeal.nD Cert.DwGateReferenceIdeal.τ).loc Cert.DwGateReferenceIdeal.main_arg1))

def preserves_DwUp_DwUpIdeal : Prop :=
  True

def algebraic_DwUpIdeal_DwUpReferenceIdeal [hDwUpIdeal : Cert.DwUpIdeal.Facts] [hDwUpReferenceIdeal : Cert.DwUpReferenceIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpReferenceIdeal.nD Cert.DwUpReferenceIdeal.τ Cert.DwUpReferenceIdeal.sig) → Buf (Elt Ideal) ℓ) (g' : Dev Cert.DwUpReferenceIdeal.nD → PrngReg), Pre_DwUpIdeal m →
    (∀ c : Dev Cert.DwUpIdeal.nD,
      m' ((c.tc : Thread Cert.DwUpReferenceIdeal.nD Cert.DwUpReferenceIdeal.τ).loc Cert.DwUpReferenceIdeal.main_arg0) = m ((c.tc : Thread Cert.DwUpIdeal.nD Cert.DwUpIdeal.τ).loc Cert.DwUpIdeal.main_arg0)
      ∧ m' ((c.tc : Thread Cert.DwUpReferenceIdeal.nD Cert.DwUpReferenceIdeal.τ).loc Cert.DwUpReferenceIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v5)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v5) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpReferenceIdeal.defs (F := Ideal)) (onTc (τ := Cert.DwUpReferenceIdeal.τ) (Cert.DwUpReferenceIdeal.main (F := Ideal))) ⟨m', fun _ => 0, g'⟩ (fun r => ∀ c : Dev Cert.DwUpReferenceIdeal.nD,
          r.2.mem ((c.tc : Thread Cert.DwUpReferenceIdeal.nD Cert.DwUpReferenceIdeal.τ).loc Cert.DwUpReferenceIdeal.main_v6) = v0 c
          ∧ r.2.mem ((c.tc : Thread Cert.DwUpReferenceIdeal.nD Cert.DwUpReferenceIdeal.τ).loc Cert.DwUpReferenceIdeal.main_arg0) = m' ((c.tc : Thread Cert.DwUpReferenceIdeal.nD Cert.DwUpReferenceIdeal.τ).loc Cert.DwUpReferenceIdeal.main_arg0)
          ∧ r.2.mem ((c.tc : Thread Cert.DwUpReferenceIdeal.nD Cert.DwUpReferenceIdeal.τ).loc Cert.DwUpReferenceIdeal.main_arg1) = m' ((c.tc : Thread Cert.DwUpReferenceIdeal.nD Cert.DwUpReferenceIdeal.τ).loc Cert.DwUpReferenceIdeal.main_arg1))

def preserves_ProjIn_ProjInIdeal : Prop :=
  True

def algebraic_ProjInIdeal_ProjInReferenceIdeal [hProjInIdeal : Cert.ProjInIdeal.Facts] [hProjInReferenceIdeal : Cert.ProjInReferenceIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInReferenceIdeal.nD Cert.ProjInReferenceIdeal.τ Cert.ProjInReferenceIdeal.sig) → Buf (Elt Ideal) ℓ) (g' : Dev Cert.ProjInReferenceIdeal.nD → PrngReg), Pre_ProjInIdeal m →
    (∀ c : Dev Cert.ProjInIdeal.nD,
      m' ((c.tc : Thread Cert.ProjInReferenceIdeal.nD Cert.ProjInReferenceIdeal.τ).loc Cert.ProjInReferenceIdeal.main_arg0) = m ((c.tc : Thread Cert.ProjInIdeal.nD Cert.ProjInIdeal.τ).loc Cert.ProjInIdeal.main_arg0)
      ∧ m' ((c.tc : Thread Cert.ProjInReferenceIdeal.nD Cert.ProjInReferenceIdeal.τ).loc Cert.ProjInReferenceIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v3)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v3) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInReferenceIdeal.defs (F := Ideal)) (onTc (τ := Cert.ProjInReferenceIdeal.τ) (Cert.ProjInReferenceIdeal.main (F := Ideal))) ⟨m', fun _ => 0, g'⟩ (fun r => ∀ c : Dev Cert.ProjInReferenceIdeal.nD,
          r.2.mem ((c.tc : Thread Cert.ProjInReferenceIdeal.nD Cert.ProjInReferenceIdeal.τ).loc Cert.ProjInReferenceIdeal.main_v1) = v0 c
          ∧ r.2.mem ((c.tc : Thread Cert.ProjInReferenceIdeal.nD Cert.ProjInReferenceIdeal.τ).loc Cert.ProjInReferenceIdeal.main_arg0) = m' ((c.tc : Thread Cert.ProjInReferenceIdeal.nD Cert.ProjInReferenceIdeal.τ).loc Cert.ProjInReferenceIdeal.main_arg0)
          ∧ r.2.mem ((c.tc : Thread Cert.ProjInReferenceIdeal.nD Cert.ProjInReferenceIdeal.τ).loc Cert.ProjInReferenceIdeal.main_arg1) = m' ((c.tc : Thread Cert.ProjInReferenceIdeal.nD Cert.ProjInReferenceIdeal.τ).loc Cert.ProjInReferenceIdeal.main_arg1))

def preserves_DhIn_DhInIdeal : Prop :=
  True

def algebraic_DhInIdeal_DhInReferenceIdeal [hDhInIdeal : Cert.DhInIdeal.Facts] [hDhInReferenceIdeal : Cert.DhInReferenceIdeal.Facts] : Prop :=
  ∀ (m : (ℓ : Loc Cert.DhInIdeal.nD Cert.DhInIdeal.τ Cert.DhInIdeal.sig) → Buf (Elt Ideal) ℓ) (g : Dev Cert.DhInIdeal.nD → PrngReg)
    (m' : (ℓ : Loc Cert.DhInReferenceIdeal.nD Cert.DhInReferenceIdeal.τ Cert.DhInReferenceIdeal.sig) → Buf (Elt Ideal) ℓ) (g' : Dev Cert.DhInReferenceIdeal.nD → PrngReg), Pre_DhInIdeal m →
    (∀ c : Dev Cert.DhInIdeal.nD,
      m' ((c.tc : Thread Cert.DhInReferenceIdeal.nD Cert.DhInReferenceIdeal.τ).loc Cert.DhInReferenceIdeal.main_arg0) = m ((c.tc : Thread Cert.DhInIdeal.nD Cert.DhInIdeal.τ).loc Cert.DhInIdeal.main_arg0)
      ∧ m' ((c.tc : Thread Cert.DhInReferenceIdeal.nD Cert.DhInReferenceIdeal.τ).loc Cert.DhInReferenceIdeal.main_arg1) = m ((c.tc : Thread Cert.DhInIdeal.nD Cert.DhInIdeal.τ).loc Cert.DhInIdeal.main_arg1)) →
    ∃ (v0 : (c : Dev Cert.DhInIdeal.nD) → Buf (Elt Ideal) ((c.tc : Thread Cert.DhInIdeal.nD Cert.DhInIdeal.τ).loc Cert.DhInIdeal.main_v8)),
      θ_run (Cert.DhInIdeal.defs (F := Ideal)) (onTc (τ := Cert.DhInIdeal.τ) (Cert.DhInIdeal.main (F := Ideal))) ⟨m, fun _ => 0, g⟩ (fun r => ∀ c : Dev Cert.DhInIdeal.nD,
          r.2.mem ((c.tc : Thread Cert.DhInIdeal.nD Cert.DhInIdeal.τ).loc Cert.DhInIdeal.main_v8) = v0 c
          ∧ r.2.mem ((c.tc : Thread Cert.DhInIdeal.nD Cert.DhInIdeal.τ).loc Cert.DhInIdeal.main_arg0) = m ((c.tc : Thread Cert.DhInIdeal.nD Cert.DhInIdeal.τ).loc Cert.DhInIdeal.main_arg0)
          ∧ r.2.mem ((c.tc : Thread Cert.DhInIdeal.nD Cert.DhInIdeal.τ).loc Cert.DhInIdeal.main_arg1) = m ((c.tc : Thread Cert.DhInIdeal.nD Cert.DhInIdeal.τ).loc Cert.DhInIdeal.main_arg1))
      ∧ θ_run (Cert.DhInReferenceIdeal.defs (F := Ideal)) (onTc (τ := Cert.DhInReferenceIdeal.τ) (Cert.DhInReferenceIdeal.main (F := Ideal))) ⟨m', fun _ => 0, g'⟩ (fun r => ∀ c : Dev Cert.DhInReferenceIdeal.nD,
          r.2.mem ((c.tc : Thread Cert.DhInReferenceIdeal.nD Cert.DhInReferenceIdeal.τ).loc Cert.DhInReferenceIdeal.main_v2) = v0 c
          ∧ r.2.mem ((c.tc : Thread Cert.DhInReferenceIdeal.nD Cert.DhInReferenceIdeal.τ).loc Cert.DhInReferenceIdeal.main_arg0) = m' ((c.tc : Thread Cert.DhInReferenceIdeal.nD Cert.DhInReferenceIdeal.τ).loc Cert.DhInReferenceIdeal.main_arg0)
          ∧ r.2.mem ((c.tc : Thread Cert.DhInReferenceIdeal.nD Cert.DhInReferenceIdeal.τ).loc Cert.DhInReferenceIdeal.main_arg1) = m' ((c.tc : Thread Cert.DhInReferenceIdeal.nD Cert.DhInReferenceIdeal.τ).loc Cert.DhInReferenceIdeal.main_arg1))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v5)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v5) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v6) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_ProjOut_ProjOutIdeal : Prop :=
  True

def algebraic_ProjOutIdeal_ProjOutReferenceIdeal [hProjOutIdeal : Cert.ProjOutIdeal.Facts] [hProjOutReferenceIdeal : Cert.ProjOutReferenceIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutReferenceIdeal.nD Cert.ProjOutReferenceIdeal.τ Cert.ProjOutReferenceIdeal.sig) → Buf (Elt Ideal) ℓ) (g' : Dev Cert.ProjOutReferenceIdeal.nD → PrngReg), Pre_ProjOutIdeal m →
    (∀ c : Dev Cert.ProjOutIdeal.nD,
      m' ((c.tc : Thread Cert.ProjOutReferenceIdeal.nD Cert.ProjOutReferenceIdeal.τ).loc Cert.ProjOutReferenceIdeal.main_arg0) = m ((c.tc : Thread Cert.ProjOutIdeal.nD Cert.ProjOutIdeal.τ).loc Cert.ProjOutIdeal.main_arg0)
      ∧ m' ((c.tc : Thread Cert.ProjOutReferenceIdeal.nD Cert.ProjOutReferenceIdeal.τ).loc Cert.ProjOutReferenceIdeal.main_arg1) = m ((c.tc : Thread Cert.ProjOutIdeal.nD Cert.ProjOutIdeal.τ).loc Cert.ProjOutIdeal.main_arg1)
      ∧ m' ((c.tc : Thread Cert.ProjOutReferenceIdeal.nD Cert.ProjOutReferenceIdeal.τ).loc Cert.ProjOutReferenceIdeal.main_arg2) = m ((c.tc : Thread Cert.ProjOutIdeal.nD Cert.ProjOutIdeal.τ).loc Cert.ProjOutIdeal.main_arg2)) →
    ∃ (v0 : (c : Dev Cert.ProjOutIdeal.nD) → Buf (Elt Ideal) ((c.tc : Thread Cert.ProjOutIdeal.nD Cert.ProjOutIdeal.τ).loc Cert.ProjOutIdeal.main_v2)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v2) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ θ_run (Cert.ProjOutReferenceIdeal.defs (F := Ideal)) (onTc (τ := Cert.ProjOutReferenceIdeal.τ) (Cert.ProjOutReferenceIdeal.main (F := Ideal))) ⟨m', fun _ => 0, g'⟩ (fun r => ∀ c : Dev Cert.ProjOutReferenceIdeal.nD,
          r.2.mem ((c.tc : Thread Cert.ProjOutReferenceIdeal.nD Cert.ProjOutReferenceIdeal.τ).loc Cert.ProjOutReferenceIdeal.main_v1) = v0 c
          ∧ r.2.mem ((c.tc : Thread Cert.ProjOutReferenceIdeal.nD Cert.ProjOutReferenceIdeal.τ).loc Cert.ProjOutReferenceIdeal.main_arg0) = m' ((c.tc : Thread Cert.ProjOutReferenceIdeal.nD Cert.ProjOutReferenceIdeal.τ).loc Cert.ProjOutReferenceIdeal.main_arg0)
          ∧ r.2.mem ((c.tc : Thread Cert.ProjOutReferenceIdeal.nD Cert.ProjOutReferenceIdeal.τ).loc Cert.ProjOutReferenceIdeal.main_arg1) = m' ((c.tc : Thread Cert.ProjOutReferenceIdeal.nD Cert.ProjOutReferenceIdeal.τ).loc Cert.ProjOutReferenceIdeal.main_arg1)
          ∧ r.2.mem ((c.tc : Thread Cert.ProjOutReferenceIdeal.nD Cert.ProjOutReferenceIdeal.τ).loc Cert.ProjOutReferenceIdeal.main_arg2) = m' ((c.tc : Thread Cert.ProjOutReferenceIdeal.nD Cert.ProjOutReferenceIdeal.τ).loc Cert.ProjOutReferenceIdeal.main_arg2))

def preserves_DY_DYIdeal : Prop :=
  True

def algebraic_DYIdeal_DYReferenceIdeal [hDYIdeal : Cert.DYIdeal.Facts] [hDYReferenceIdeal : Cert.DYReferenceIdeal.Facts] : Prop :=
  ∀ (m : (ℓ : Loc Cert.DYIdeal.nD Cert.DYIdeal.τ Cert.DYIdeal.sig) → Buf (Elt Ideal) ℓ) (g : Dev Cert.DYIdeal.nD → PrngReg)
    (m' : (ℓ : Loc Cert.DYReferenceIdeal.nD Cert.DYReferenceIdeal.τ Cert.DYReferenceIdeal.sig) → Buf (Elt Ideal) ℓ) (g' : Dev Cert.DYReferenceIdeal.nD → PrngReg), Pre_DYIdeal m →
    (∀ c : Dev Cert.DYIdeal.nD,
      m' ((c.tc : Thread Cert.DYReferenceIdeal.nD Cert.DYReferenceIdeal.τ).loc Cert.DYReferenceIdeal.main_arg0) = m ((c.tc : Thread Cert.DYIdeal.nD Cert.DYIdeal.τ).loc Cert.DYIdeal.main_arg0)
      ∧ m' ((c.tc : Thread Cert.DYReferenceIdeal.nD Cert.DYReferenceIdeal.τ).loc Cert.DYReferenceIdeal.main_arg1) = m ((c.tc : Thread Cert.DYIdeal.nD Cert.DYIdeal.τ).loc Cert.DYIdeal.main_arg1)) →
    ∃ (v0 : (c : Dev Cert.DYIdeal.nD) → Buf (Elt Ideal) ((c.tc : Thread Cert.DYIdeal.nD Cert.DYIdeal.τ).loc Cert.DYIdeal.main_v2)),
      θ_run (Cert.DYIdeal.defs (F := Ideal)) (onTc (τ := Cert.DYIdeal.τ) (Cert.DYIdeal.main (F := Ideal))) ⟨m, fun _ => 0, g⟩ (fun r => ∀ c : Dev Cert.DYIdeal.nD,
          r.2.mem ((c.tc : Thread Cert.DYIdeal.nD Cert.DYIdeal.τ).loc Cert.DYIdeal.main_v2) = v0 c
          ∧ r.2.mem ((c.tc : Thread Cert.DYIdeal.nD Cert.DYIdeal.τ).loc Cert.DYIdeal.main_arg0) = m ((c.tc : Thread Cert.DYIdeal.nD Cert.DYIdeal.τ).loc Cert.DYIdeal.main_arg0)
          ∧ r.2.mem ((c.tc : Thread Cert.DYIdeal.nD Cert.DYIdeal.τ).loc Cert.DYIdeal.main_arg1) = m ((c.tc : Thread Cert.DYIdeal.nD Cert.DYIdeal.τ).loc Cert.DYIdeal.main_arg1))
      ∧ θ_run (Cert.DYReferenceIdeal.defs (F := Ideal)) (onTc (τ := Cert.DYReferenceIdeal.τ) (Cert.DYReferenceIdeal.main (F := Ideal))) ⟨m', fun _ => 0, g'⟩ (fun r => ∀ c : Dev Cert.DYReferenceIdeal.nD,
          r.2.mem ((c.tc : Thread Cert.DYReferenceIdeal.nD Cert.DYReferenceIdeal.τ).loc Cert.DYReferenceIdeal.main_v2) = v0 c
          ∧ r.2.mem ((c.tc : Thread Cert.DYReferenceIdeal.nD Cert.DYReferenceIdeal.τ).loc Cert.DYReferenceIdeal.main_arg0) = m' ((c.tc : Thread Cert.DYReferenceIdeal.nD Cert.DYReferenceIdeal.τ).loc Cert.DYReferenceIdeal.main_arg0)
          ∧ r.2.mem ((c.tc : Thread Cert.DYReferenceIdeal.nD Cert.DYReferenceIdeal.τ).loc Cert.DYReferenceIdeal.main_arg1) = m' ((c.tc : Thread Cert.DYReferenceIdeal.nD Cert.DYReferenceIdeal.τ).loc Cert.DYReferenceIdeal.main_arg1))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v3) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_ProjQ_ProjQIdeal : Prop :=
  True

def algebraic_ProjQIdeal_ProjQReferenceIdeal [hProjQIdeal : Cert.ProjQIdeal.Facts] [hProjQReferenceIdeal : Cert.ProjQReferenceIdeal.Facts] : Prop :=
  ∀ (m : (ℓ : Loc Cert.ProjQIdeal.nD Cert.ProjQIdeal.τ Cert.ProjQIdeal.sig) → Buf (Elt Ideal) ℓ) (g : Dev Cert.ProjQIdeal.nD → PrngReg)
    (m' : (ℓ : Loc Cert.ProjQReferenceIdeal.nD Cert.ProjQReferenceIdeal.τ Cert.ProjQReferenceIdeal.sig) → Buf (Elt Ideal) ℓ) (g' : Dev Cert.ProjQReferenceIdeal.nD → PrngReg), Pre_ProjQIdeal m →
    (∀ c : Dev Cert.ProjQIdeal.nD,
      m' ((c.tc : Thread Cert.ProjQReferenceIdeal.nD Cert.ProjQReferenceIdeal.τ).loc Cert.ProjQReferenceIdeal.main_arg0) = m ((c.tc : Thread Cert.ProjQIdeal.nD Cert.ProjQIdeal.τ).loc Cert.ProjQIdeal.main_arg0)
      ∧ m' ((c.tc : Thread Cert.ProjQReferenceIdeal.nD Cert.ProjQReferenceIdeal.τ).loc Cert.ProjQReferenceIdeal.main_arg1) = m ((c.tc : Thread Cert.ProjQIdeal.nD Cert.ProjQIdeal.τ).loc Cert.ProjQIdeal.main_arg1)) →
    ∃ (v0 : (c : Dev Cert.ProjQIdeal.nD) → Buf (Elt Ideal) ((c.tc : Thread Cert.ProjQIdeal.nD Cert.ProjQIdeal.τ).loc Cert.ProjQIdeal.main_v5)),
      θ_run (Cert.ProjQIdeal.defs (F := Ideal)) (onTc (τ := Cert.ProjQIdeal.τ) (Cert.ProjQIdeal.main (F := Ideal))) ⟨m, fun _ => 0, g⟩ (fun r => ∀ c : Dev Cert.ProjQIdeal.nD,
          r.2.mem ((c.tc : Thread Cert.ProjQIdeal.nD Cert.ProjQIdeal.τ).loc Cert.ProjQIdeal.main_v5) = v0 c
          ∧ r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
          ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1))
      ∧ θ_run (Cert.ProjQReferenceIdeal.defs (F := Ideal)) (onTc (τ := Cert.ProjQReferenceIdeal.τ) (Cert.ProjQReferenceIdeal.main (F := Ideal))) ⟨m', fun _ => 0, g'⟩ (fun r => ∀ c : Dev Cert.ProjQReferenceIdeal.nD,
          r.2.mem ((c.tc : Thread Cert.ProjQReferenceIdeal.nD Cert.ProjQReferenceIdeal.τ).loc Cert.ProjQReferenceIdeal.main_v3) = v0 c
          ∧ r.2.mem ((c.tc : Thread Cert.ProjQReferenceIdeal.nD Cert.ProjQReferenceIdeal.τ).loc Cert.ProjQReferenceIdeal.main_arg0) = m' ((c.tc : Thread Cert.ProjQReferenceIdeal.nD Cert.ProjQReferenceIdeal.τ).loc Cert.ProjQReferenceIdeal.main_arg0)
          ∧ r.2.mem ((c.tc : Thread Cert.ProjQReferenceIdeal.nD Cert.ProjQReferenceIdeal.τ).loc Cert.ProjQReferenceIdeal.main_arg1) = m' ((c.tc : Thread Cert.ProjQReferenceIdeal.nD Cert.ProjQReferenceIdeal.τ).loc Cert.ProjQReferenceIdeal.main_arg1))

def preserves_DQn_DQnIdeal : Prop :=
  True

def algebraic_DQnIdeal_DQnReferenceIdeal [hDQnIdeal : Cert.DQnIdeal.Facts] [hDQnReferenceIdeal : Cert.DQnReferenceIdeal.Facts] : Prop :=
  ∀ (m : (ℓ : Loc Cert.DQnIdeal.nD Cert.DQnIdeal.τ Cert.DQnIdeal.sig) → Buf (Elt Ideal) ℓ) (g : Dev Cert.DQnIdeal.nD → PrngReg)
    (m' : (ℓ : Loc Cert.DQnReferenceIdeal.nD Cert.DQnReferenceIdeal.τ Cert.DQnReferenceIdeal.sig) → Buf (Elt Ideal) ℓ) (g' : Dev Cert.DQnReferenceIdeal.nD → PrngReg), Pre_DQnIdeal m →
    (∀ c : Dev Cert.DQnIdeal.nD,
      m' ((c.tc : Thread Cert.DQnReferenceIdeal.nD Cert.DQnReferenceIdeal.τ).loc Cert.DQnReferenceIdeal.main_arg0) = m ((c.tc : Thread Cert.DQnIdeal.nD Cert.DQnIdeal.τ).loc Cert.DQnIdeal.main_arg0)
      ∧ m' ((c.tc : Thread Cert.DQnReferenceIdeal.nD Cert.DQnReferenceIdeal.τ).loc Cert.DQnReferenceIdeal.main_arg1) = m ((c.tc : Thread Cert.DQnIdeal.nD Cert.DQnIdeal.τ).loc Cert.DQnIdeal.main_arg1)) →
    ∃ (v0 : (c : Dev Cert.DQnIdeal.nD) → Buf (Elt Ideal) ((c.tc : Thread Cert.DQnIdeal.nD Cert.DQnIdeal.τ).loc Cert.DQnIdeal.main_v8)),
      θ_run (Cert.DQnIdeal.defs (F := Ideal)) (onTc (τ := Cert.DQnIdeal.τ) (Cert.DQnIdeal.main (F := Ideal))) ⟨m, fun _ => 0, g⟩ (fun r => ∀ c : Dev Cert.DQnIdeal.nD,
          r.2.mem ((c.tc : Thread Cert.DQnIdeal.nD Cert.DQnIdeal.τ).loc Cert.DQnIdeal.main_v8) = v0 c
          ∧ r.2.mem ((c.tc : Thread Cert.DQnIdeal.nD Cert.DQnIdeal.τ).loc Cert.DQnIdeal.main_arg0) = m ((c.tc : Thread Cert.DQnIdeal.nD Cert.DQnIdeal.τ).loc Cert.DQnIdeal.main_arg0)
          ∧ r.2.mem ((c.tc : Thread Cert.DQnIdeal.nD Cert.DQnIdeal.τ).loc Cert.DQnIdeal.main_arg1) = m ((c.tc : Thread Cert.DQnIdeal.nD Cert.DQnIdeal.τ).loc Cert.DQnIdeal.main_arg1))
      ∧ θ_run (Cert.DQnReferenceIdeal.defs (F := Ideal)) (onTc (τ := Cert.DQnReferenceIdeal.τ) (Cert.DQnReferenceIdeal.main (F := Ideal))) ⟨m', fun _ => 0, g'⟩ (fun r => ∀ c : Dev Cert.DQnReferenceIdeal.nD,
          r.2.mem ((c.tc : Thread Cert.DQnReferenceIdeal.nD Cert.DQnReferenceIdeal.τ).loc Cert.DQnReferenceIdeal.main_v2) = v0 c
          ∧ r.2.mem ((c.tc : Thread Cert.DQnReferenceIdeal.nD Cert.DQnReferenceIdeal.τ).loc Cert.DQnReferenceIdeal.main_arg0) = m' ((c.tc : Thread Cert.DQnReferenceIdeal.nD Cert.DQnReferenceIdeal.τ).loc Cert.DQnReferenceIdeal.main_arg0)
          ∧ r.2.mem ((c.tc : Thread Cert.DQnReferenceIdeal.nD Cert.DQnReferenceIdeal.τ).loc Cert.DQnReferenceIdeal.main_arg1) = m' ((c.tc : Thread Cert.DQnReferenceIdeal.nD Cert.DQnReferenceIdeal.τ).loc Cert.DQnReferenceIdeal.main_arg1))

def preserves_DwUq_DwUqIdeal : Prop :=
  True

def algebraic_DwUqIdeal_DwUqReferenceIdeal [hDwUqIdeal : Cert.DwUqIdeal.Facts] [hDwUqReferenceIdeal : Cert.DwUqReferenceIdeal.Facts] : Prop :=
  ∀ (m : (ℓ : Loc Cert.DwUqIdeal.nD Cert.DwUqIdeal.τ Cert.DwUqIdeal.sig) → Buf (Elt Ideal) ℓ) (g : Dev Cert.DwUqIdeal.nD → PrngReg)
    (m' : (ℓ : Loc Cert.DwUqReferenceIdeal.nD Cert.DwUqReferenceIdeal.τ Cert.DwUqReferenceIdeal.sig) → Buf (Elt Ideal) ℓ) (g' : Dev Cert.DwUqReferenceIdeal.nD → PrngReg), Pre_DwUqIdeal m →
    (∀ c : Dev Cert.DwUqIdeal.nD,
      m' ((c.tc : Thread Cert.DwUqReferenceIdeal.nD Cert.DwUqReferenceIdeal.τ).loc Cert.DwUqReferenceIdeal.main_arg0) = m ((c.tc : Thread Cert.DwUqIdeal.nD Cert.DwUqIdeal.τ).loc Cert.DwUqIdeal.main_arg0)
      ∧ m' ((c.tc : Thread Cert.DwUqReferenceIdeal.nD Cert.DwUqReferenceIdeal.τ).loc Cert.DwUqReferenceIdeal.main_arg1) = m ((c.tc : Thread Cert.DwUqIdeal.nD Cert.DwUqIdeal.τ).loc Cert.DwUqIdeal.main_arg1)) →
    ∃ (v0 : (c : Dev Cert.DwUqIdeal.nD) → Buf (Elt Ideal) ((c.tc : Thread Cert.DwUqIdeal.nD Cert.DwUqIdeal.τ).loc Cert.DwUqIdeal.main_v5)),
      θ_run (Cert.DwUqIdeal.defs (F := Ideal)) (onTc (τ := Cert.DwUqIdeal.τ) (Cert.DwUqIdeal.main (F := Ideal))) ⟨m, fun _ => 0, g⟩ (fun r => ∀ c : Dev Cert.DwUqIdeal.nD,
          r.2.mem ((c.tc : Thread Cert.DwUqIdeal.nD Cert.DwUqIdeal.τ).loc Cert.DwUqIdeal.main_v5) = v0 c
          ∧ r.2.mem ((c.tc : Thread Cert.DwUqIdeal.nD Cert.DwUqIdeal.τ).loc Cert.DwUqIdeal.main_arg0) = m ((c.tc : Thread Cert.DwUqIdeal.nD Cert.DwUqIdeal.τ).loc Cert.DwUqIdeal.main_arg0)
          ∧ r.2.mem ((c.tc : Thread Cert.DwUqIdeal.nD Cert.DwUqIdeal.τ).loc Cert.DwUqIdeal.main_arg1) = m ((c.tc : Thread Cert.DwUqIdeal.nD Cert.DwUqIdeal.τ).loc Cert.DwUqIdeal.main_arg1))
      ∧ θ_run (Cert.DwUqReferenceIdeal.defs (F := Ideal)) (onTc (τ := Cert.DwUqReferenceIdeal.τ) (Cert.DwUqReferenceIdeal.main (F := Ideal))) ⟨m', fun _ => 0, g'⟩ (fun r => ∀ c : Dev Cert.DwUqReferenceIdeal.nD,
          r.2.mem ((c.tc : Thread Cert.DwUqReferenceIdeal.nD Cert.DwUqReferenceIdeal.τ).loc Cert.DwUqReferenceIdeal.main_v6) = v0 c
          ∧ r.2.mem ((c.tc : Thread Cert.DwUqReferenceIdeal.nD Cert.DwUqReferenceIdeal.τ).loc Cert.DwUqReferenceIdeal.main_arg0) = m' ((c.tc : Thread Cert.DwUqReferenceIdeal.nD Cert.DwUqReferenceIdeal.τ).loc Cert.DwUqReferenceIdeal.main_arg0)
          ∧ r.2.mem ((c.tc : Thread Cert.DwUqReferenceIdeal.nD Cert.DwUqReferenceIdeal.τ).loc Cert.DwUqReferenceIdeal.main_arg1) = m' ((c.tc : Thread Cert.DwUqReferenceIdeal.nD Cert.DwUqReferenceIdeal.τ).loc Cert.DwUqReferenceIdeal.main_arg1))

def preserves_ProjKv_ProjKvIdeal : Prop :=
  True

def algebraic_ProjKvIdeal_ProjKvReferenceIdeal [hProjKvIdeal : Cert.ProjKvIdeal.Facts] [hProjKvReferenceIdeal : Cert.ProjKvReferenceIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg)
    (m' : (ℓ : Loc Cert.ProjKvReferenceIdeal.nD Cert.ProjKvReferenceIdeal.τ Cert.ProjKvReferenceIdeal.sig) → Buf (Elt Ideal) ℓ) (g' : Dev Cert.ProjKvReferenceIdeal.nD → PrngReg), Pre_ProjKvIdeal m →
    (∀ c : Dev Cert.ProjKvIdeal.nD,
      m' ((c.tc : Thread Cert.ProjKvReferenceIdeal.nD Cert.ProjKvReferenceIdeal.τ).loc Cert.ProjKvReferenceIdeal.main_arg0) = m ((c.tc : Thread Cert.ProjKvIdeal.nD Cert.ProjKvIdeal.τ).loc Cert.ProjKvIdeal.main_arg0)
      ∧ m' ((c.tc : Thread Cert.ProjKvReferenceIdeal.nD Cert.ProjKvReferenceIdeal.τ).loc Cert.ProjKvReferenceIdeal.main_arg1) = m ((c.tc : Thread Cert.ProjKvIdeal.nD Cert.ProjKvIdeal.τ).loc Cert.ProjKvIdeal.main_arg1)) →
    ∃ (v0 : (c : Dev Cert.ProjKvIdeal.nD) → Buf (Elt Ideal) ((c.tc : Thread Cert.ProjKvIdeal.nD Cert.ProjKvIdeal.τ).loc Cert.ProjKvIdeal.main_v5)),
      θ_run (Cert.ProjKvIdeal.defs (F := Ideal)) (onTc (τ := Cert.ProjKvIdeal.τ) (Cert.ProjKvIdeal.main (F := Ideal))) ⟨m, fun _ => 0, g⟩ (fun r => ∀ c : Dev Cert.ProjKvIdeal.nD,
          r.2.mem ((c.tc : Thread Cert.ProjKvIdeal.nD Cert.ProjKvIdeal.τ).loc Cert.ProjKvIdeal.main_v5) = v0 c
          ∧ r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
          ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1))
      ∧ θ_run (Cert.ProjKvReferenceIdeal.defs (F := Ideal)) (onTc (τ := Cert.ProjKvReferenceIdeal.τ) (Cert.ProjKvReferenceIdeal.main (F := Ideal))) ⟨m', fun _ => 0, g'⟩ (fun r => ∀ c : Dev Cert.ProjKvReferenceIdeal.nD,
          r.2.mem ((c.tc : Thread Cert.ProjKvReferenceIdeal.nD Cert.ProjKvReferenceIdeal.τ).loc Cert.ProjKvReferenceIdeal.main_v3) = v0 c
          ∧ r.2.mem ((c.tc : Thread Cert.ProjKvReferenceIdeal.nD Cert.ProjKvReferenceIdeal.τ).loc Cert.ProjKvReferenceIdeal.main_arg0) = m' ((c.tc : Thread Cert.ProjKvReferenceIdeal.nD Cert.ProjKvReferenceIdeal.τ).loc Cert.ProjKvReferenceIdeal.main_arg0)
          ∧ r.2.mem ((c.tc : Thread Cert.ProjKvReferenceIdeal.nD Cert.ProjKvReferenceIdeal.τ).loc Cert.ProjKvReferenceIdeal.main_arg1) = m' ((c.tc : Thread Cert.ProjKvReferenceIdeal.nD Cert.ProjKvReferenceIdeal.τ).loc Cert.ProjKvReferenceIdeal.main_arg1))

def preserves_DKvn_DKvnIdeal : Prop :=
  True

def algebraic_DKvnIdeal_DKvnReferenceIdeal [hDKvnIdeal : Cert.DKvnIdeal.Facts] [hDKvnReferenceIdeal : Cert.DKvnReferenceIdeal.Facts] : Prop :=
  ∀ (m : (ℓ : Loc Cert.DKvnIdeal.nD Cert.DKvnIdeal.τ Cert.DKvnIdeal.sig) → Buf (Elt Ideal) ℓ) (g : Dev Cert.DKvnIdeal.nD → PrngReg)
    (m' : (ℓ : Loc Cert.DKvnReferenceIdeal.nD Cert.DKvnReferenceIdeal.τ Cert.DKvnReferenceIdeal.sig) → Buf (Elt Ideal) ℓ) (g' : Dev Cert.DKvnReferenceIdeal.nD → PrngReg), Pre_DKvnIdeal m →
    (∀ c : Dev Cert.DKvnIdeal.nD,
      m' ((c.tc : Thread Cert.DKvnReferenceIdeal.nD Cert.DKvnReferenceIdeal.τ).loc Cert.DKvnReferenceIdeal.main_arg0) = m ((c.tc : Thread Cert.DKvnIdeal.nD Cert.DKvnIdeal.τ).loc Cert.DKvnIdeal.main_arg0)
      ∧ m' ((c.tc : Thread Cert.DKvnReferenceIdeal.nD Cert.DKvnReferenceIdeal.τ).loc Cert.DKvnReferenceIdeal.main_arg1) = m ((c.tc : Thread Cert.DKvnIdeal.nD Cert.DKvnIdeal.τ).loc Cert.DKvnIdeal.main_arg1)) →
    ∃ (v0 : (c : Dev Cert.DKvnIdeal.nD) → Buf (Elt Ideal) ((c.tc : Thread Cert.DKvnIdeal.nD Cert.DKvnIdeal.τ).loc Cert.DKvnIdeal.main_v8)),
      θ_run (Cert.DKvnIdeal.defs (F := Ideal)) (onTc (τ := Cert.DKvnIdeal.τ) (Cert.DKvnIdeal.main (F := Ideal))) ⟨m, fun _ => 0, g⟩ (fun r => ∀ c : Dev Cert.DKvnIdeal.nD,
          r.2.mem ((c.tc : Thread Cert.DKvnIdeal.nD Cert.DKvnIdeal.τ).loc Cert.DKvnIdeal.main_v8) = v0 c
          ∧ r.2.mem ((c.tc : Thread Cert.DKvnIdeal.nD Cert.DKvnIdeal.τ).loc Cert.DKvnIdeal.main_arg0) = m ((c.tc : Thread Cert.DKvnIdeal.nD Cert.DKvnIdeal.τ).loc Cert.DKvnIdeal.main_arg0)
          ∧ r.2.mem ((c.tc : Thread Cert.DKvnIdeal.nD Cert.DKvnIdeal.τ).loc Cert.DKvnIdeal.main_arg1) = m ((c.tc : Thread Cert.DKvnIdeal.nD Cert.DKvnIdeal.τ).loc Cert.DKvnIdeal.main_arg1))
      ∧ θ_run (Cert.DKvnReferenceIdeal.defs (F := Ideal)) (onTc (τ := Cert.DKvnReferenceIdeal.τ) (Cert.DKvnReferenceIdeal.main (F := Ideal))) ⟨m', fun _ => 0, g'⟩ (fun r => ∀ c : Dev Cert.DKvnReferenceIdeal.nD,
          r.2.mem ((c.tc : Thread Cert.DKvnReferenceIdeal.nD Cert.DKvnReferenceIdeal.τ).loc Cert.DKvnReferenceIdeal.main_v2) = v0 c
          ∧ r.2.mem ((c.tc : Thread Cert.DKvnReferenceIdeal.nD Cert.DKvnReferenceIdeal.τ).loc Cert.DKvnReferenceIdeal.main_arg0) = m' ((c.tc : Thread Cert.DKvnReferenceIdeal.nD Cert.DKvnReferenceIdeal.τ).loc Cert.DKvnReferenceIdeal.main_arg0)
          ∧ r.2.mem ((c.tc : Thread Cert.DKvnReferenceIdeal.nD Cert.DKvnReferenceIdeal.τ).loc Cert.DKvnReferenceIdeal.main_arg1) = m' ((c.tc : Thread Cert.DKvnReferenceIdeal.nD Cert.DKvnReferenceIdeal.τ).loc Cert.DKvnReferenceIdeal.main_arg1))

def preserves_DwUkv_DwUkvIdeal : Prop :=
  True

def algebraic_DwUkvIdeal_DwUkvReferenceIdeal [hDwUkvIdeal : Cert.DwUkvIdeal.Facts] [hDwUkvReferenceIdeal : Cert.DwUkvReferenceIdeal.Facts] : Prop :=
  ∀ (m : (ℓ : Loc Cert.DwUkvIdeal.nD Cert.DwUkvIdeal.τ Cert.DwUkvIdeal.sig) → Buf (Elt Ideal) ℓ) (g : Dev Cert.DwUkvIdeal.nD → PrngReg)
    (m' : (ℓ : Loc Cert.DwUkvReferenceIdeal.nD Cert.DwUkvReferenceIdeal.τ Cert.DwUkvReferenceIdeal.sig) → Buf (Elt Ideal) ℓ) (g' : Dev Cert.DwUkvReferenceIdeal.nD → PrngReg), Pre_DwUkvIdeal m →
    (∀ c : Dev Cert.DwUkvIdeal.nD,
      m' ((c.tc : Thread Cert.DwUkvReferenceIdeal.nD Cert.DwUkvReferenceIdeal.τ).loc Cert.DwUkvReferenceIdeal.main_arg0) = m ((c.tc : Thread Cert.DwUkvIdeal.nD Cert.DwUkvIdeal.τ).loc Cert.DwUkvIdeal.main_arg0)
      ∧ m' ((c.tc : Thread Cert.DwUkvReferenceIdeal.nD Cert.DwUkvReferenceIdeal.τ).loc Cert.DwUkvReferenceIdeal.main_arg1) = m ((c.tc : Thread Cert.DwUkvIdeal.nD Cert.DwUkvIdeal.τ).loc Cert.DwUkvIdeal.main_arg1)) →
    ∃ (v0 : (c : Dev Cert.DwUkvIdeal.nD) → Buf (Elt Ideal) ((c.tc : Thread Cert.DwUkvIdeal.nD Cert.DwUkvIdeal.τ).loc Cert.DwUkvIdeal.main_v5)),
      θ_run (Cert.DwUkvIdeal.defs (F := Ideal)) (onTc (τ := Cert.DwUkvIdeal.τ) (Cert.DwUkvIdeal.main (F := Ideal))) ⟨m, fun _ => 0, g⟩ (fun r => ∀ c : Dev Cert.DwUkvIdeal.nD,
          r.2.mem ((c.tc : Thread Cert.DwUkvIdeal.nD Cert.DwUkvIdeal.τ).loc Cert.DwUkvIdeal.main_v5) = v0 c
          ∧ r.2.mem ((c.tc : Thread Cert.DwUkvIdeal.nD Cert.DwUkvIdeal.τ).loc Cert.DwUkvIdeal.main_arg0) = m ((c.tc : Thread Cert.DwUkvIdeal.nD Cert.DwUkvIdeal.τ).loc Cert.DwUkvIdeal.main_arg0)
          ∧ r.2.mem ((c.tc : Thread Cert.DwUkvIdeal.nD Cert.DwUkvIdeal.τ).loc Cert.DwUkvIdeal.main_arg1) = m ((c.tc : Thread Cert.DwUkvIdeal.nD Cert.DwUkvIdeal.τ).loc Cert.DwUkvIdeal.main_arg1))
      ∧ θ_run (Cert.DwUkvReferenceIdeal.defs (F := Ideal)) (onTc (τ := Cert.DwUkvReferenceIdeal.τ) (Cert.DwUkvReferenceIdeal.main (F := Ideal))) ⟨m', fun _ => 0, g'⟩ (fun r => ∀ c : Dev Cert.DwUkvReferenceIdeal.nD,
          r.2.mem ((c.tc : Thread Cert.DwUkvReferenceIdeal.nD Cert.DwUkvReferenceIdeal.τ).loc Cert.DwUkvReferenceIdeal.main_v6) = v0 c
          ∧ r.2.mem ((c.tc : Thread Cert.DwUkvReferenceIdeal.nD Cert.DwUkvReferenceIdeal.τ).loc Cert.DwUkvReferenceIdeal.main_arg0) = m' ((c.tc : Thread Cert.DwUkvReferenceIdeal.nD Cert.DwUkvReferenceIdeal.τ).loc Cert.DwUkvReferenceIdeal.main_arg0)
          ∧ r.2.mem ((c.tc : Thread Cert.DwUkvReferenceIdeal.nD Cert.DwUkvReferenceIdeal.τ).loc Cert.DwUkvReferenceIdeal.main_arg1) = m' ((c.tc : Thread Cert.DwUkvReferenceIdeal.nD Cert.DwUkvReferenceIdeal.τ).loc Cert.DwUkvReferenceIdeal.main_arg1))

def preserves_RmsAttn_RmsAttnIdeal : Prop :=
  True

def algebraic_RmsAttnIdeal_RmsAttnReferenceIdeal [hRmsAttnIdeal : Cert.RmsAttnIdeal.Facts] [hRmsAttnReferenceIdeal : Cert.RmsAttnReferenceIdeal.Facts] : Prop :=
  ∀ (m : (ℓ : Loc Cert.RmsAttnIdeal.nD Cert.RmsAttnIdeal.τ Cert.RmsAttnIdeal.sig) → Buf (Elt Ideal) ℓ) (g : Dev Cert.RmsAttnIdeal.nD → PrngReg)
    (m' : (ℓ : Loc Cert.RmsAttnReferenceIdeal.nD Cert.RmsAttnReferenceIdeal.τ Cert.RmsAttnReferenceIdeal.sig) → Buf (Elt Ideal) ℓ) (g' : Dev Cert.RmsAttnReferenceIdeal.nD → PrngReg), Pre_RmsAttnIdeal m →
    (∀ c : Dev Cert.RmsAttnIdeal.nD,
      m' ((c.tc : Thread Cert.RmsAttnReferenceIdeal.nD Cert.RmsAttnReferenceIdeal.τ).loc Cert.RmsAttnReferenceIdeal.main_arg0) = m ((c.tc : Thread Cert.RmsAttnIdeal.nD Cert.RmsAttnIdeal.τ).loc Cert.RmsAttnIdeal.main_arg0)
      ∧ m' ((c.tc : Thread Cert.RmsAttnReferenceIdeal.nD Cert.RmsAttnReferenceIdeal.τ).loc Cert.RmsAttnReferenceIdeal.main_arg1) = m ((c.tc : Thread Cert.RmsAttnIdeal.nD Cert.RmsAttnIdeal.τ).loc Cert.RmsAttnIdeal.main_arg1)) →
    ∃ (v0 : (c : Dev Cert.RmsAttnIdeal.nD) → Buf (Elt Ideal) ((c.tc : Thread Cert.RmsAttnIdeal.nD Cert.RmsAttnIdeal.τ).loc Cert.RmsAttnIdeal.main_v0)),
      θ_run (Cert.RmsAttnIdeal.defs (F := Ideal)) (onTc (τ := Cert.RmsAttnIdeal.τ) (Cert.RmsAttnIdeal.main (F := Ideal))) ⟨m, fun _ => 0, g⟩ (fun r => ∀ c : Dev Cert.RmsAttnIdeal.nD,
          r.2.mem ((c.tc : Thread Cert.RmsAttnIdeal.nD Cert.RmsAttnIdeal.τ).loc Cert.RmsAttnIdeal.main_v0) = v0 c
          ∧ r.2.mem ((c.tc : Thread Cert.RmsAttnIdeal.nD Cert.RmsAttnIdeal.τ).loc Cert.RmsAttnIdeal.main_arg0) = m ((c.tc : Thread Cert.RmsAttnIdeal.nD Cert.RmsAttnIdeal.τ).loc Cert.RmsAttnIdeal.main_arg0)
          ∧ r.2.mem ((c.tc : Thread Cert.RmsAttnIdeal.nD Cert.RmsAttnIdeal.τ).loc Cert.RmsAttnIdeal.main_arg1) = m ((c.tc : Thread Cert.RmsAttnIdeal.nD Cert.RmsAttnIdeal.τ).loc Cert.RmsAttnIdeal.main_arg1))
      ∧ θ_run (Cert.RmsAttnReferenceIdeal.defs (F := Ideal)) (onTc (τ := Cert.RmsAttnReferenceIdeal.τ) (Cert.RmsAttnReferenceIdeal.main (F := Ideal))) ⟨m', fun _ => 0, g'⟩ (fun r => ∀ c : Dev Cert.RmsAttnReferenceIdeal.nD,
          r.2.mem ((c.tc : Thread Cert.RmsAttnReferenceIdeal.nD Cert.RmsAttnReferenceIdeal.τ).loc Cert.RmsAttnReferenceIdeal.main_v12) = v0 c
          ∧ r.2.mem ((c.tc : Thread Cert.RmsAttnReferenceIdeal.nD Cert.RmsAttnReferenceIdeal.τ).loc Cert.RmsAttnReferenceIdeal.main_arg0) = m' ((c.tc : Thread Cert.RmsAttnReferenceIdeal.nD Cert.RmsAttnReferenceIdeal.τ).loc Cert.RmsAttnReferenceIdeal.main_arg0)
          ∧ r.2.mem ((c.tc : Thread Cert.RmsAttnReferenceIdeal.nD Cert.RmsAttnReferenceIdeal.τ).loc Cert.RmsAttnReferenceIdeal.main_arg1) = m' ((c.tc : Thread Cert.RmsAttnReferenceIdeal.nD Cert.RmsAttnReferenceIdeal.τ).loc Cert.RmsAttnReferenceIdeal.main_arg1))

def preserves_RmsFfn_RmsFfnIdeal : Prop :=
  True

def algebraic_RmsFfnIdeal_RmsFfnReferenceIdeal [hRmsFfnIdeal : Cert.RmsFfnIdeal.Facts] [hRmsFfnReferenceIdeal : Cert.RmsFfnReferenceIdeal.Facts] : Prop :=
  ∀ (m : (ℓ : Loc Cert.RmsFfnIdeal.nD Cert.RmsFfnIdeal.τ Cert.RmsFfnIdeal.sig) → Buf (Elt Ideal) ℓ) (g : Dev Cert.RmsFfnIdeal.nD → PrngReg)
    (m' : (ℓ : Loc Cert.RmsFfnReferenceIdeal.nD Cert.RmsFfnReferenceIdeal.τ Cert.RmsFfnReferenceIdeal.sig) → Buf (Elt Ideal) ℓ) (g' : Dev Cert.RmsFfnReferenceIdeal.nD → PrngReg), Pre_RmsFfnIdeal m →
    (∀ c : Dev Cert.RmsFfnIdeal.nD,
      m' ((c.tc : Thread Cert.RmsFfnReferenceIdeal.nD Cert.RmsFfnReferenceIdeal.τ).loc Cert.RmsFfnReferenceIdeal.main_arg0) = m ((c.tc : Thread Cert.RmsFfnIdeal.nD Cert.RmsFfnIdeal.τ).loc Cert.RmsFfnIdeal.main_arg0)
      ∧ m' ((c.tc : Thread Cert.RmsFfnReferenceIdeal.nD Cert.RmsFfnReferenceIdeal.τ).loc Cert.RmsFfnReferenceIdeal.main_arg1) = m ((c.tc : Thread Cert.RmsFfnIdeal.nD Cert.RmsFfnIdeal.τ).loc Cert.RmsFfnIdeal.main_arg1)) →
    ∃ (v0 : (c : Dev Cert.RmsFfnIdeal.nD) → Buf (Elt Ideal) ((c.tc : Thread Cert.RmsFfnIdeal.nD Cert.RmsFfnIdeal.τ).loc Cert.RmsFfnIdeal.main_v0)),
      θ_run (Cert.RmsFfnIdeal.defs (F := Ideal)) (onTc (τ := Cert.RmsFfnIdeal.τ) (Cert.RmsFfnIdeal.main (F := Ideal))) ⟨m, fun _ => 0, g⟩ (fun r => ∀ c : Dev Cert.RmsFfnIdeal.nD,
          r.2.mem ((c.tc : Thread Cert.RmsFfnIdeal.nD Cert.RmsFfnIdeal.τ).loc Cert.RmsFfnIdeal.main_v0) = v0 c
          ∧ r.2.mem ((c.tc : Thread Cert.RmsFfnIdeal.nD Cert.RmsFfnIdeal.τ).loc Cert.RmsFfnIdeal.main_arg0) = m ((c.tc : Thread Cert.RmsFfnIdeal.nD Cert.RmsFfnIdeal.τ).loc Cert.RmsFfnIdeal.main_arg0)
          ∧ r.2.mem ((c.tc : Thread Cert.RmsFfnIdeal.nD Cert.RmsFfnIdeal.τ).loc Cert.RmsFfnIdeal.main_arg1) = m ((c.tc : Thread Cert.RmsFfnIdeal.nD Cert.RmsFfnIdeal.τ).loc Cert.RmsFfnIdeal.main_arg1))
      ∧ θ_run (Cert.RmsFfnReferenceIdeal.defs (F := Ideal)) (onTc (τ := Cert.RmsFfnReferenceIdeal.τ) (Cert.RmsFfnReferenceIdeal.main (F := Ideal))) ⟨m', fun _ => 0, g'⟩ (fun r => ∀ c : Dev Cert.RmsFfnReferenceIdeal.nD,
          r.2.mem ((c.tc : Thread Cert.RmsFfnReferenceIdeal.nD Cert.RmsFfnReferenceIdeal.τ).loc Cert.RmsFfnReferenceIdeal.main_v12) = v0 c
          ∧ r.2.mem ((c.tc : Thread Cert.RmsFfnReferenceIdeal.nD Cert.RmsFfnReferenceIdeal.τ).loc Cert.RmsFfnReferenceIdeal.main_arg0) = m' ((c.tc : Thread Cert.RmsFfnReferenceIdeal.nD Cert.RmsFfnReferenceIdeal.τ).loc Cert.RmsFfnReferenceIdeal.main_arg0)
          ∧ r.2.mem ((c.tc : Thread Cert.RmsFfnReferenceIdeal.nD Cert.RmsFfnReferenceIdeal.τ).loc Cert.RmsFfnReferenceIdeal.main_arg1) = m' ((c.tc : Thread Cert.RmsFfnReferenceIdeal.nD Cert.RmsFfnReferenceIdeal.τ).loc Cert.RmsFfnReferenceIdeal.main_arg1))

def preserves_DRmsAttn_DRmsAttnIdeal : Prop :=
  True

def algebraic_DRmsAttnIdeal_DRmsAttnReferenceIdeal [hDRmsAttnIdeal : Cert.DRmsAttnIdeal.Facts] [hDRmsAttnReferenceIdeal : Cert.DRmsAttnReferenceIdeal.Facts] : Prop :=
  ∀ (m : (ℓ : Loc Cert.DRmsAttnIdeal.nD Cert.DRmsAttnIdeal.τ Cert.DRmsAttnIdeal.sig) → Buf (Elt Ideal) ℓ) (g : Dev Cert.DRmsAttnIdeal.nD → PrngReg)
    (m' : (ℓ : Loc Cert.DRmsAttnReferenceIdeal.nD Cert.DRmsAttnReferenceIdeal.τ Cert.DRmsAttnReferenceIdeal.sig) → Buf (Elt Ideal) ℓ) (g' : Dev Cert.DRmsAttnReferenceIdeal.nD → PrngReg), Pre_DRmsAttnIdeal m →
    (∀ c : Dev Cert.DRmsAttnIdeal.nD,
      m' ((c.tc : Thread Cert.DRmsAttnReferenceIdeal.nD Cert.DRmsAttnReferenceIdeal.τ).loc Cert.DRmsAttnReferenceIdeal.main_arg0) = m ((c.tc : Thread Cert.DRmsAttnIdeal.nD Cert.DRmsAttnIdeal.τ).loc Cert.DRmsAttnIdeal.main_arg0)
      ∧ m' ((c.tc : Thread Cert.DRmsAttnReferenceIdeal.nD Cert.DRmsAttnReferenceIdeal.τ).loc Cert.DRmsAttnReferenceIdeal.main_arg1) = m ((c.tc : Thread Cert.DRmsAttnIdeal.nD Cert.DRmsAttnIdeal.τ).loc Cert.DRmsAttnIdeal.main_arg1)
      ∧ m' ((c.tc : Thread Cert.DRmsAttnReferenceIdeal.nD Cert.DRmsAttnReferenceIdeal.τ).loc Cert.DRmsAttnReferenceIdeal.main_arg2) = m ((c.tc : Thread Cert.DRmsAttnIdeal.nD Cert.DRmsAttnIdeal.τ).loc Cert.DRmsAttnIdeal.main_arg2)
      ∧ m' ((c.tc : Thread Cert.DRmsAttnReferenceIdeal.nD Cert.DRmsAttnReferenceIdeal.τ).loc Cert.DRmsAttnReferenceIdeal.main_arg3) = m ((c.tc : Thread Cert.DRmsAttnIdeal.nD Cert.DRmsAttnIdeal.τ).loc Cert.DRmsAttnIdeal.main_arg3)) →
    ∃ (v0 : (c : Dev Cert.DRmsAttnIdeal.nD) → Buf (Elt Ideal) ((c.tc : Thread Cert.DRmsAttnIdeal.nD Cert.DRmsAttnIdeal.τ).loc Cert.DRmsAttnIdeal.main_v0_0)) (v1 : (c : Dev Cert.DRmsAttnIdeal.nD) → Buf (Elt Ideal) ((c.tc : Thread Cert.DRmsAttnIdeal.nD Cert.DRmsAttnIdeal.τ).loc Cert.DRmsAttnIdeal.main_v0_1)),
      θ_run (Cert.DRmsAttnIdeal.defs (F := Ideal)) (onTc (τ := Cert.DRmsAttnIdeal.τ) (Cert.DRmsAttnIdeal.main (F := Ideal))) ⟨m, fun _ => 0, g⟩ (fun r => ∀ c : Dev Cert.DRmsAttnIdeal.nD,
          r.2.mem ((c.tc : Thread Cert.DRmsAttnIdeal.nD Cert.DRmsAttnIdeal.τ).loc Cert.DRmsAttnIdeal.main_v0_0) = v0 c
          ∧ r.2.mem ((c.tc : Thread Cert.DRmsAttnIdeal.nD Cert.DRmsAttnIdeal.τ).loc Cert.DRmsAttnIdeal.main_v0_1) = v1 c
          ∧ r.2.mem ((c.tc : Thread Cert.DRmsAttnIdeal.nD Cert.DRmsAttnIdeal.τ).loc Cert.DRmsAttnIdeal.main_arg0) = m ((c.tc : Thread Cert.DRmsAttnIdeal.nD Cert.DRmsAttnIdeal.τ).loc Cert.DRmsAttnIdeal.main_arg0)
          ∧ r.2.mem ((c.tc : Thread Cert.DRmsAttnIdeal.nD Cert.DRmsAttnIdeal.τ).loc Cert.DRmsAttnIdeal.main_arg1) = m ((c.tc : Thread Cert.DRmsAttnIdeal.nD Cert.DRmsAttnIdeal.τ).loc Cert.DRmsAttnIdeal.main_arg1)
          ∧ r.2.mem ((c.tc : Thread Cert.DRmsAttnIdeal.nD Cert.DRmsAttnIdeal.τ).loc Cert.DRmsAttnIdeal.main_arg2) = m ((c.tc : Thread Cert.DRmsAttnIdeal.nD Cert.DRmsAttnIdeal.τ).loc Cert.DRmsAttnIdeal.main_arg2)
          ∧ r.2.mem ((c.tc : Thread Cert.DRmsAttnIdeal.nD Cert.DRmsAttnIdeal.τ).loc Cert.DRmsAttnIdeal.main_arg3) = m ((c.tc : Thread Cert.DRmsAttnIdeal.nD Cert.DRmsAttnIdeal.τ).loc Cert.DRmsAttnIdeal.main_arg3))
      ∧ θ_run (Cert.DRmsAttnReferenceIdeal.defs (F := Ideal)) (onTc (τ := Cert.DRmsAttnReferenceIdeal.τ) (Cert.DRmsAttnReferenceIdeal.main (F := Ideal))) ⟨m', fun _ => 0, g'⟩ (fun r => ∀ c : Dev Cert.DRmsAttnReferenceIdeal.nD,
          r.2.mem ((c.tc : Thread Cert.DRmsAttnReferenceIdeal.nD Cert.DRmsAttnReferenceIdeal.τ).loc Cert.DRmsAttnReferenceIdeal.main_v31) = v0 c
          ∧ r.2.mem ((c.tc : Thread Cert.DRmsAttnReferenceIdeal.nD Cert.DRmsAttnReferenceIdeal.τ).loc Cert.DRmsAttnReferenceIdeal.main_v34) = v1 c
          ∧ r.2.mem ((c.tc : Thread Cert.DRmsAttnReferenceIdeal.nD Cert.DRmsAttnReferenceIdeal.τ).loc Cert.DRmsAttnReferenceIdeal.main_arg0) = m' ((c.tc : Thread Cert.DRmsAttnReferenceIdeal.nD Cert.DRmsAttnReferenceIdeal.τ).loc Cert.DRmsAttnReferenceIdeal.main_arg0)
          ∧ r.2.mem ((c.tc : Thread Cert.DRmsAttnReferenceIdeal.nD Cert.DRmsAttnReferenceIdeal.τ).loc Cert.DRmsAttnReferenceIdeal.main_arg1) = m' ((c.tc : Thread Cert.DRmsAttnReferenceIdeal.nD Cert.DRmsAttnReferenceIdeal.τ).loc Cert.DRmsAttnReferenceIdeal.main_arg1)
          ∧ r.2.mem ((c.tc : Thread Cert.DRmsAttnReferenceIdeal.nD Cert.DRmsAttnReferenceIdeal.τ).loc Cert.DRmsAttnReferenceIdeal.main_arg2) = m' ((c.tc : Thread Cert.DRmsAttnReferenceIdeal.nD Cert.DRmsAttnReferenceIdeal.τ).loc Cert.DRmsAttnReferenceIdeal.main_arg2)
          ∧ r.2.mem ((c.tc : Thread Cert.DRmsAttnReferenceIdeal.nD Cert.DRmsAttnReferenceIdeal.τ).loc Cert.DRmsAttnReferenceIdeal.main_arg3) = m' ((c.tc : Thread Cert.DRmsAttnReferenceIdeal.nD Cert.DRmsAttnReferenceIdeal.τ).loc Cert.DRmsAttnReferenceIdeal.main_arg3))

def preserves_DRmsFfn_DRmsFfnIdeal : Prop :=
  True

def algebraic_DRmsFfnIdeal_DRmsFfnReferenceIdeal [hDRmsFfnIdeal : Cert.DRmsFfnIdeal.Facts] [hDRmsFfnReferenceIdeal : Cert.DRmsFfnReferenceIdeal.Facts] : Prop :=
  ∀ (m : (ℓ : Loc Cert.DRmsFfnIdeal.nD Cert.DRmsFfnIdeal.τ Cert.DRmsFfnIdeal.sig) → Buf (Elt Ideal) ℓ) (g : Dev Cert.DRmsFfnIdeal.nD → PrngReg)
    (m' : (ℓ : Loc Cert.DRmsFfnReferenceIdeal.nD Cert.DRmsFfnReferenceIdeal.τ Cert.DRmsFfnReferenceIdeal.sig) → Buf (Elt Ideal) ℓ) (g' : Dev Cert.DRmsFfnReferenceIdeal.nD → PrngReg), Pre_DRmsFfnIdeal m →
    (∀ c : Dev Cert.DRmsFfnIdeal.nD,
      m' ((c.tc : Thread Cert.DRmsFfnReferenceIdeal.nD Cert.DRmsFfnReferenceIdeal.τ).loc Cert.DRmsFfnReferenceIdeal.main_arg0) = m ((c.tc : Thread Cert.DRmsFfnIdeal.nD Cert.DRmsFfnIdeal.τ).loc Cert.DRmsFfnIdeal.main_arg0)
      ∧ m' ((c.tc : Thread Cert.DRmsFfnReferenceIdeal.nD Cert.DRmsFfnReferenceIdeal.τ).loc Cert.DRmsFfnReferenceIdeal.main_arg1) = m ((c.tc : Thread Cert.DRmsFfnIdeal.nD Cert.DRmsFfnIdeal.τ).loc Cert.DRmsFfnIdeal.main_arg1)
      ∧ m' ((c.tc : Thread Cert.DRmsFfnReferenceIdeal.nD Cert.DRmsFfnReferenceIdeal.τ).loc Cert.DRmsFfnReferenceIdeal.main_arg2) = m ((c.tc : Thread Cert.DRmsFfnIdeal.nD Cert.DRmsFfnIdeal.τ).loc Cert.DRmsFfnIdeal.main_arg2)
      ∧ m' ((c.tc : Thread Cert.DRmsFfnReferenceIdeal.nD Cert.DRmsFfnReferenceIdeal.τ).loc Cert.DRmsFfnReferenceIdeal.main_arg3) = m ((c.tc : Thread Cert.DRmsFfnIdeal.nD Cert.DRmsFfnIdeal.τ).loc Cert.DRmsFfnIdeal.main_arg3)) →
    ∃ (v0 : (c : Dev Cert.DRmsFfnIdeal.nD) → Buf (Elt Ideal) ((c.tc : Thread Cert.DRmsFfnIdeal.nD Cert.DRmsFfnIdeal.τ).loc Cert.DRmsFfnIdeal.main_v0_0)) (v1 : (c : Dev Cert.DRmsFfnIdeal.nD) → Buf (Elt Ideal) ((c.tc : Thread Cert.DRmsFfnIdeal.nD Cert.DRmsFfnIdeal.τ).loc Cert.DRmsFfnIdeal.main_v0_1)),
      θ_run (Cert.DRmsFfnIdeal.defs (F := Ideal)) (onTc (τ := Cert.DRmsFfnIdeal.τ) (Cert.DRmsFfnIdeal.main (F := Ideal))) ⟨m, fun _ => 0, g⟩ (fun r => ∀ c : Dev Cert.DRmsFfnIdeal.nD,
          r.2.mem ((c.tc : Thread Cert.DRmsFfnIdeal.nD Cert.DRmsFfnIdeal.τ).loc Cert.DRmsFfnIdeal.main_v0_0) = v0 c
          ∧ r.2.mem ((c.tc : Thread Cert.DRmsFfnIdeal.nD Cert.DRmsFfnIdeal.τ).loc Cert.DRmsFfnIdeal.main_v0_1) = v1 c
          ∧ r.2.mem ((c.tc : Thread Cert.DRmsFfnIdeal.nD Cert.DRmsFfnIdeal.τ).loc Cert.DRmsFfnIdeal.main_arg0) = m ((c.tc : Thread Cert.DRmsFfnIdeal.nD Cert.DRmsFfnIdeal.τ).loc Cert.DRmsFfnIdeal.main_arg0)
          ∧ r.2.mem ((c.tc : Thread Cert.DRmsFfnIdeal.nD Cert.DRmsFfnIdeal.τ).loc Cert.DRmsFfnIdeal.main_arg1) = m ((c.tc : Thread Cert.DRmsFfnIdeal.nD Cert.DRmsFfnIdeal.τ).loc Cert.DRmsFfnIdeal.main_arg1)
          ∧ r.2.mem ((c.tc : Thread Cert.DRmsFfnIdeal.nD Cert.DRmsFfnIdeal.τ).loc Cert.DRmsFfnIdeal.main_arg2) = m ((c.tc : Thread Cert.DRmsFfnIdeal.nD Cert.DRmsFfnIdeal.τ).loc Cert.DRmsFfnIdeal.main_arg2)
          ∧ r.2.mem ((c.tc : Thread Cert.DRmsFfnIdeal.nD Cert.DRmsFfnIdeal.τ).loc Cert.DRmsFfnIdeal.main_arg3) = m ((c.tc : Thread Cert.DRmsFfnIdeal.nD Cert.DRmsFfnIdeal.τ).loc Cert.DRmsFfnIdeal.main_arg3))
      ∧ θ_run (Cert.DRmsFfnReferenceIdeal.defs (F := Ideal)) (onTc (τ := Cert.DRmsFfnReferenceIdeal.τ) (Cert.DRmsFfnReferenceIdeal.main (F := Ideal))) ⟨m', fun _ => 0, g'⟩ (fun r => ∀ c : Dev Cert.DRmsFfnReferenceIdeal.nD,
          r.2.mem ((c.tc : Thread Cert.DRmsFfnReferenceIdeal.nD Cert.DRmsFfnReferenceIdeal.τ).loc Cert.DRmsFfnReferenceIdeal.main_v31) = v0 c
          ∧ r.2.mem ((c.tc : Thread Cert.DRmsFfnReferenceIdeal.nD Cert.DRmsFfnReferenceIdeal.τ).loc Cert.DRmsFfnReferenceIdeal.main_v34) = v1 c
          ∧ r.2.mem ((c.tc : Thread Cert.DRmsFfnReferenceIdeal.nD Cert.DRmsFfnReferenceIdeal.τ).loc Cert.DRmsFfnReferenceIdeal.main_arg0) = m' ((c.tc : Thread Cert.DRmsFfnReferenceIdeal.nD Cert.DRmsFfnReferenceIdeal.τ).loc Cert.DRmsFfnReferenceIdeal.main_arg0)
          ∧ r.2.mem ((c.tc : Thread Cert.DRmsFfnReferenceIdeal.nD Cert.DRmsFfnReferenceIdeal.τ).loc Cert.DRmsFfnReferenceIdeal.main_arg1) = m' ((c.tc : Thread Cert.DRmsFfnReferenceIdeal.nD Cert.DRmsFfnReferenceIdeal.τ).loc Cert.DRmsFfnReferenceIdeal.main_arg1)
          ∧ r.2.mem ((c.tc : Thread Cert.DRmsFfnReferenceIdeal.nD Cert.DRmsFfnReferenceIdeal.τ).loc Cert.DRmsFfnReferenceIdeal.main_arg2) = m' ((c.tc : Thread Cert.DRmsFfnReferenceIdeal.nD Cert.DRmsFfnReferenceIdeal.τ).loc Cert.DRmsFfnReferenceIdeal.main_arg2)
          ∧ r.2.mem ((c.tc : Thread Cert.DRmsFfnReferenceIdeal.nD Cert.DRmsFfnReferenceIdeal.τ).loc Cert.DRmsFfnReferenceIdeal.main_arg3) = m' ((c.tc : Thread Cert.DRmsFfnReferenceIdeal.nD Cert.DRmsFfnReferenceIdeal.τ).loc Cert.DRmsFfnReferenceIdeal.main_arg3))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v48) = v0 c
          ∧ r.2.mem ((c.tc : Thread Cert.LossReferenceIdeal.nD Cert.LossReferenceIdeal.τ).loc Cert.LossReferenceIdeal.main_v51) = v1 c
          ∧ r.2.mem ((c.tc : Thread Cert.LossReferenceIdeal.nD Cert.LossReferenceIdeal.τ).loc Cert.LossReferenceIdeal.main_v24) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_FfnAct_FfnActIdeal : Prop :=
  True

def algebraic_FfnActIdeal_FfnActReferenceIdeal [hFfnActIdeal : Cert.FfnActIdeal.Facts] [hFfnActReferenceIdeal : Cert.FfnActReferenceIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActReferenceIdeal.nD Cert.FfnActReferenceIdeal.τ Cert.FfnActReferenceIdeal.sig) → Buf (Elt Ideal) ℓ) (g' : Dev Cert.FfnActReferenceIdeal.nD → PrngReg), Pre_FfnActIdeal m →
    (∀ c : Dev Cert.FfnActIdeal.nD,
      m' ((c.tc : Thread Cert.FfnActReferenceIdeal.nD Cert.FfnActReferenceIdeal.τ).loc Cert.FfnActReferenceIdeal.main_arg0) = m ((c.tc : Thread Cert.FfnActIdeal.nD Cert.FfnActIdeal.τ).loc Cert.FfnActIdeal.main_arg0)
      ∧ m' ((c.tc : Thread Cert.FfnActReferenceIdeal.nD Cert.FfnActReferenceIdeal.τ).loc Cert.FfnActReferenceIdeal.main_arg1) = m ((c.tc : Thread Cert.FfnActIdeal.nD Cert.FfnActIdeal.τ).loc Cert.FfnActIdeal.main_arg1)
      ∧ m' ((c.tc : Thread Cert.FfnActReferenceIdeal.nD Cert.FfnActReferenceIdeal.τ).loc Cert.FfnActReferenceIdeal.main_arg2) = m ((c.tc : Thread Cert.FfnActIdeal.nD Cert.FfnActIdeal.τ).loc Cert.FfnActIdeal.main_arg2)
      ∧ m' ((c.tc : Thread Cert.FfnActReferenceIdeal.nD Cert.FfnActReferenceIdeal.τ).loc Cert.FfnActReferenceIdeal.main_arg3) = m ((c.tc : Thread Cert.FfnActIdeal.nD Cert.FfnActIdeal.τ).loc Cert.FfnActIdeal.main_arg3)) →
    ∃ (v0 : (c : Dev Cert.FfnActIdeal.nD) → Buf (Elt Ideal) ((c.tc : Thread Cert.FfnActIdeal.nD Cert.FfnActIdeal.τ).loc Cert.FfnActIdeal.main_v12)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v12) = v0 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ θ_run (Cert.FfnActReferenceIdeal.defs (F := Ideal)) (onTc (τ := Cert.FfnActReferenceIdeal.τ) (Cert.FfnActReferenceIdeal.main (F := Ideal))) ⟨m', fun _ => 0, g'⟩ (fun r => ∀ c : Dev Cert.FfnActReferenceIdeal.nD,
          r.2.mem ((c.tc : Thread Cert.FfnActReferenceIdeal.nD Cert.FfnActReferenceIdeal.τ).loc Cert.FfnActReferenceIdeal.main_v22) = v0 c
          ∧ r.2.mem ((c.tc : Thread Cert.FfnActReferenceIdeal.nD Cert.FfnActReferenceIdeal.τ).loc Cert.FfnActReferenceIdeal.main_arg0) = m' ((c.tc : Thread Cert.FfnActReferenceIdeal.nD Cert.FfnActReferenceIdeal.τ).loc Cert.FfnActReferenceIdeal.main_arg0)
          ∧ r.2.mem ((c.tc : Thread Cert.FfnActReferenceIdeal.nD Cert.FfnActReferenceIdeal.τ).loc Cert.FfnActReferenceIdeal.main_arg1) = m' ((c.tc : Thread Cert.FfnActReferenceIdeal.nD Cert.FfnActReferenceIdeal.τ).loc Cert.FfnActReferenceIdeal.main_arg1)
          ∧ r.2.mem ((c.tc : Thread Cert.FfnActReferenceIdeal.nD Cert.FfnActReferenceIdeal.τ).loc Cert.FfnActReferenceIdeal.main_arg2) = m' ((c.tc : Thread Cert.FfnActReferenceIdeal.nD Cert.FfnActReferenceIdeal.τ).loc Cert.FfnActReferenceIdeal.main_arg2)
          ∧ r.2.mem ((c.tc : Thread Cert.FfnActReferenceIdeal.nD Cert.FfnActReferenceIdeal.τ).loc Cert.FfnActReferenceIdeal.main_arg3) = m' ((c.tc : Thread Cert.FfnActReferenceIdeal.nD Cert.FfnActReferenceIdeal.τ).loc Cert.FfnActReferenceIdeal.main_arg3))

def preserves_DConv_DConvIdeal : Prop :=
  True

def algebraic_DConvIdeal_DConvReferenceIdeal [hDConvIdeal : Cert.DConvIdeal.Facts] [hDConvReferenceIdeal : Cert.DConvReferenceIdeal.Facts] : Prop :=
  ∀ (m : (ℓ : Loc Cert.DConvIdeal.nD Cert.DConvIdeal.τ Cert.DConvIdeal.sig) → Buf (Elt Ideal) ℓ) (g : Dev Cert.DConvIdeal.nD → PrngReg)
    (m' : (ℓ : Loc Cert.DConvReferenceIdeal.nD Cert.DConvReferenceIdeal.τ Cert.DConvReferenceIdeal.sig) → Buf (Elt Ideal) ℓ) (g' : Dev Cert.DConvReferenceIdeal.nD → PrngReg), Pre_DConvIdeal m →
    (∀ c : Dev Cert.DConvIdeal.nD,
      m' ((c.tc : Thread Cert.DConvReferenceIdeal.nD Cert.DConvReferenceIdeal.τ).loc Cert.DConvReferenceIdeal.main_arg0) = m ((c.tc : Thread Cert.DConvIdeal.nD Cert.DConvIdeal.τ).loc Cert.DConvIdeal.main_arg0)
      ∧ m' ((c.tc : Thread Cert.DConvReferenceIdeal.nD Cert.DConvReferenceIdeal.τ).loc Cert.DConvReferenceIdeal.main_arg1) = m ((c.tc : Thread Cert.DConvIdeal.nD Cert.DConvIdeal.τ).loc Cert.DConvIdeal.main_arg1)) →
    ∃ (v0 : (c : Dev Cert.DConvIdeal.nD) → Buf (Elt Ideal) ((c.tc : Thread Cert.DConvIdeal.nD Cert.DConvIdeal.τ).loc Cert.DConvIdeal.main_v6)),
      θ_run (Cert.DConvIdeal.defs (F := Ideal)) (onTc (τ := Cert.DConvIdeal.τ) (Cert.DConvIdeal.main (F := Ideal))) ⟨m, fun _ => 0, g⟩ (fun r => ∀ c : Dev Cert.DConvIdeal.nD,
          r.2.mem ((c.tc : Thread Cert.DConvIdeal.nD Cert.DConvIdeal.τ).loc Cert.DConvIdeal.main_v6) = v0 c
          ∧ r.2.mem ((c.tc : Thread Cert.DConvIdeal.nD Cert.DConvIdeal.τ).loc Cert.DConvIdeal.main_arg0) = m ((c.tc : Thread Cert.DConvIdeal.nD Cert.DConvIdeal.τ).loc Cert.DConvIdeal.main_arg0)
          ∧ r.2.mem ((c.tc : Thread Cert.DConvIdeal.nD Cert.DConvIdeal.τ).loc Cert.DConvIdeal.main_arg1) = m ((c.tc : Thread Cert.DConvIdeal.nD Cert.DConvIdeal.τ).loc Cert.DConvIdeal.main_arg1))
      ∧ θ_run (Cert.DConvReferenceIdeal.defs (F := Ideal)) (onTc (τ := Cert.DConvReferenceIdeal.τ) (Cert.DConvReferenceIdeal.main (F := Ideal))) ⟨m', fun _ => 0, g'⟩ (fun r => ∀ c : Dev Cert.DConvReferenceIdeal.nD,
          r.2.mem ((c.tc : Thread Cert.DConvReferenceIdeal.nD Cert.DConvReferenceIdeal.τ).loc Cert.DConvReferenceIdeal.main_v37) = v0 c
          ∧ r.2.mem ((c.tc : Thread Cert.DConvReferenceIdeal.nD Cert.DConvReferenceIdeal.τ).loc Cert.DConvReferenceIdeal.main_arg0) = m' ((c.tc : Thread Cert.DConvReferenceIdeal.nD Cert.DConvReferenceIdeal.τ).loc Cert.DConvReferenceIdeal.main_arg0)
          ∧ r.2.mem ((c.tc : Thread Cert.DConvReferenceIdeal.nD Cert.DConvReferenceIdeal.τ).loc Cert.DConvReferenceIdeal.main_arg1) = m' ((c.tc : Thread Cert.DConvReferenceIdeal.nD Cert.DConvReferenceIdeal.τ).loc Cert.DConvReferenceIdeal.main_arg1))

def preserves_AdamwIn_AdamwInIdeal : Prop :=
  True

def algebraic_AdamwInIdeal_AdamwInReferenceIdeal [hAdamwInIdeal : Cert.AdamwInIdeal.Facts] [hAdamwInReferenceIdeal : Cert.AdamwInReferenceIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInReferenceIdeal.nD Cert.AdamwInReferenceIdeal.τ Cert.AdamwInReferenceIdeal.sig) → Buf (Elt Ideal) ℓ) (g' : Dev Cert.AdamwInReferenceIdeal.nD → PrngReg), Pre_AdamwInIdeal m →
    (∀ c : Dev Cert.AdamwInIdeal.nD,
      m' ((c.tc : Thread Cert.AdamwInReferenceIdeal.nD Cert.AdamwInReferenceIdeal.τ).loc Cert.AdamwInReferenceIdeal.main_arg0) = m ((c.tc : Thread Cert.AdamwInIdeal.nD Cert.AdamwInIdeal.τ).loc Cert.AdamwInIdeal.main_arg0)
      ∧ m' ((c.tc : Thread Cert.AdamwInReferenceIdeal.nD Cert.AdamwInReferenceIdeal.τ).loc Cert.AdamwInReferenceIdeal.main_arg1) = m ((c.tc : Thread Cert.AdamwInIdeal.nD Cert.AdamwInIdeal.τ).loc Cert.AdamwInIdeal.main_arg1)
      ∧ m' ((c.tc : Thread Cert.AdamwInReferenceIdeal.nD Cert.AdamwInReferenceIdeal.τ).loc Cert.AdamwInReferenceIdeal.main_arg2) = m ((c.tc : Thread Cert.AdamwInIdeal.nD Cert.AdamwInIdeal.τ).loc Cert.AdamwInIdeal.main_arg2)
      ∧ m' ((c.tc : Thread Cert.AdamwInReferenceIdeal.nD Cert.AdamwInReferenceIdeal.τ).loc Cert.AdamwInReferenceIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v6_0)) (v1 : (c : Dev Cert.AdamwInIdeal.nD) → Buf (Elt Ideal) ((c.tc : Thread Cert.AdamwInIdeal.nD Cert.AdamwInIdeal.τ).loc Cert.AdamwInIdeal.main_v6_1)) (v2 : (c : Dev Cert.AdamwInIdeal.nD) → Buf (Elt Ideal) ((c.tc : Thread Cert.AdamwInIdeal.nD Cert.AdamwInIdeal.τ).loc Cert.AdamwInIdeal.main_v6_2)) (v3 : (c : Dev Cert.AdamwInIdeal.nD) → Buf (Elt Ideal) ((c.tc : Thread Cert.AdamwInIdeal.nD Cert.AdamwInIdeal.τ).loc Cert.AdamwInIdeal.main_v6_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v6_0) = v0 c
          ∧ r.2.mem ((c.tc : Thread Cert.AdamwInIdeal.nD Cert.AdamwInIdeal.τ).loc Cert.AdamwInIdeal.main_v6_1) = v1 c
          ∧ r.2.mem ((c.tc : Thread Cert.AdamwInIdeal.nD Cert.AdamwInIdeal.τ).loc Cert.AdamwInIdeal.main_v6_2) = v2 c
          ∧ r.2.mem ((c.tc : Thread Cert.AdamwInIdeal.nD Cert.AdamwInIdeal.τ).loc Cert.AdamwInIdeal.main_v6_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInReferenceIdeal.defs (F := Ideal)) (onTc (τ := Cert.AdamwInReferenceIdeal.τ) (Cert.AdamwInReferenceIdeal.main (F := Ideal))) ⟨m', fun _ => 0, g'⟩ (fun r => ∀ c : Dev Cert.AdamwInReferenceIdeal.nD,
          r.2.mem ((c.tc : Thread Cert.AdamwInReferenceIdeal.nD Cert.AdamwInReferenceIdeal.τ).loc Cert.AdamwInReferenceIdeal.main_v1) = v0 c
          ∧ r.2.mem ((c.tc : Thread Cert.AdamwInReferenceIdeal.nD Cert.AdamwInReferenceIdeal.τ).loc Cert.AdamwInReferenceIdeal.main_v25) = v1 c
          ∧ r.2.mem ((c.tc : Thread Cert.AdamwInReferenceIdeal.nD Cert.AdamwInReferenceIdeal.τ).loc Cert.AdamwInReferenceIdeal.main_v6) = v2 c
          ∧ r.2.mem ((c.tc : Thread Cert.AdamwInReferenceIdeal.nD Cert.AdamwInReferenceIdeal.τ).loc Cert.AdamwInReferenceIdeal.main_v12) = v3 c
          ∧ r.2.mem ((c.tc : Thread Cert.AdamwInReferenceIdeal.nD Cert.AdamwInReferenceIdeal.τ).loc Cert.AdamwInReferenceIdeal.main_arg0) = m' ((c.tc : Thread Cert.AdamwInReferenceIdeal.nD Cert.AdamwInReferenceIdeal.τ).loc Cert.AdamwInReferenceIdeal.main_arg0)
          ∧ r.2.mem ((c.tc : Thread Cert.AdamwInReferenceIdeal.nD Cert.AdamwInReferenceIdeal.τ).loc Cert.AdamwInReferenceIdeal.main_arg1) = m' ((c.tc : Thread Cert.AdamwInReferenceIdeal.nD Cert.AdamwInReferenceIdeal.τ).loc Cert.AdamwInReferenceIdeal.main_arg1)
          ∧ r.2.mem ((c.tc : Thread Cert.AdamwInReferenceIdeal.nD Cert.AdamwInReferenceIdeal.τ).loc Cert.AdamwInReferenceIdeal.main_arg2) = m' ((c.tc : Thread Cert.AdamwInReferenceIdeal.nD Cert.AdamwInReferenceIdeal.τ).loc Cert.AdamwInReferenceIdeal.main_arg2)
          ∧ r.2.mem ((c.tc : Thread Cert.AdamwInReferenceIdeal.nD Cert.AdamwInReferenceIdeal.τ).loc Cert.AdamwInReferenceIdeal.main_arg3) = m' ((c.tc : Thread Cert.AdamwInReferenceIdeal.nD Cert.AdamwInReferenceIdeal.τ).loc Cert.AdamwInReferenceIdeal.main_arg3))

def preserves_AdamwUq_AdamwUqIdeal : Prop :=
  True

def algebraic_AdamwUqIdeal_AdamwUqReferenceIdeal [hAdamwUqIdeal : Cert.AdamwUqIdeal.Facts] [hAdamwUqReferenceIdeal : Cert.AdamwUqReferenceIdeal.Facts] : Prop :=
  ∀ (m : (ℓ : Loc Cert.AdamwUqIdeal.nD Cert.AdamwUqIdeal.τ Cert.AdamwUqIdeal.sig) → Buf (Elt Ideal) ℓ) (g : Dev Cert.AdamwUqIdeal.nD → PrngReg)
    (m' : (ℓ : Loc Cert.AdamwUqReferenceIdeal.nD Cert.AdamwUqReferenceIdeal.τ Cert.AdamwUqReferenceIdeal.sig) → Buf (Elt Ideal) ℓ) (g' : Dev Cert.AdamwUqReferenceIdeal.nD → PrngReg), Pre_AdamwUqIdeal m →
    (∀ c : Dev Cert.AdamwUqIdeal.nD,
      m' ((c.tc : Thread Cert.AdamwUqReferenceIdeal.nD Cert.AdamwUqReferenceIdeal.τ).loc Cert.AdamwUqReferenceIdeal.main_arg0) = m ((c.tc : Thread Cert.AdamwUqIdeal.nD Cert.AdamwUqIdeal.τ).loc Cert.AdamwUqIdeal.main_arg0)
      ∧ m' ((c.tc : Thread Cert.AdamwUqReferenceIdeal.nD Cert.AdamwUqReferenceIdeal.τ).loc Cert.AdamwUqReferenceIdeal.main_arg1) = m ((c.tc : Thread Cert.AdamwUqIdeal.nD Cert.AdamwUqIdeal.τ).loc Cert.AdamwUqIdeal.main_arg1)
      ∧ m' ((c.tc : Thread Cert.AdamwUqReferenceIdeal.nD Cert.AdamwUqReferenceIdeal.τ).loc Cert.AdamwUqReferenceIdeal.main_arg2) = m ((c.tc : Thread Cert.AdamwUqIdeal.nD Cert.AdamwUqIdeal.τ).loc Cert.AdamwUqIdeal.main_arg2)
      ∧ m' ((c.tc : Thread Cert.AdamwUqReferenceIdeal.nD Cert.AdamwUqReferenceIdeal.τ).loc Cert.AdamwUqReferenceIdeal.main_arg3) = m ((c.tc : Thread Cert.AdamwUqIdeal.nD Cert.AdamwUqIdeal.τ).loc Cert.AdamwUqIdeal.main_arg3)) →
    ∃ (v0 : (c : Dev Cert.AdamwUqIdeal.nD) → Buf (Elt Ideal) ((c.tc : Thread Cert.AdamwUqIdeal.nD Cert.AdamwUqIdeal.τ).loc Cert.AdamwUqIdeal.main_v6_0)) (v1 : (c : Dev Cert.AdamwUqIdeal.nD) → Buf (Elt Ideal) ((c.tc : Thread Cert.AdamwUqIdeal.nD Cert.AdamwUqIdeal.τ).loc Cert.AdamwUqIdeal.main_v6_1)) (v2 : (c : Dev Cert.AdamwUqIdeal.nD) → Buf (Elt Ideal) ((c.tc : Thread Cert.AdamwUqIdeal.nD Cert.AdamwUqIdeal.τ).loc Cert.AdamwUqIdeal.main_v6_2)) (v3 : (c : Dev Cert.AdamwUqIdeal.nD) → Buf (Elt Ideal) ((c.tc : Thread Cert.AdamwUqIdeal.nD Cert.AdamwUqIdeal.τ).loc Cert.AdamwUqIdeal.main_v6_3)),
      θ_run (Cert.AdamwUqIdeal.defs (F := Ideal)) (onTc (τ := Cert.AdamwUqIdeal.τ) (Cert.AdamwUqIdeal.main (F := Ideal))) ⟨m, fun _ => 0, g⟩ (fun r => ∀ c : Dev Cert.AdamwUqIdeal.nD,
          r.2.mem ((c.tc : Thread Cert.AdamwUqIdeal.nD Cert.AdamwUqIdeal.τ).loc Cert.AdamwUqIdeal.main_v6_0) = v0 c
          ∧ r.2.mem ((c.tc : Thread Cert.AdamwUqIdeal.nD Cert.AdamwUqIdeal.τ).loc Cert.AdamwUqIdeal.main_v6_1) = v1 c
          ∧ r.2.mem ((c.tc : Thread Cert.AdamwUqIdeal.nD Cert.AdamwUqIdeal.τ).loc Cert.AdamwUqIdeal.main_v6_2) = v2 c
          ∧ r.2.mem ((c.tc : Thread Cert.AdamwUqIdeal.nD Cert.AdamwUqIdeal.τ).loc Cert.AdamwUqIdeal.main_v6_3) = v3 c
          ∧ r.2.mem ((c.tc : Thread Cert.AdamwUqIdeal.nD Cert.AdamwUqIdeal.τ).loc Cert.AdamwUqIdeal.main_arg0) = m ((c.tc : Thread Cert.AdamwUqIdeal.nD Cert.AdamwUqIdeal.τ).loc Cert.AdamwUqIdeal.main_arg0)
          ∧ r.2.mem ((c.tc : Thread Cert.AdamwUqIdeal.nD Cert.AdamwUqIdeal.τ).loc Cert.AdamwUqIdeal.main_arg1) = m ((c.tc : Thread Cert.AdamwUqIdeal.nD Cert.AdamwUqIdeal.τ).loc Cert.AdamwUqIdeal.main_arg1)
          ∧ r.2.mem ((c.tc : Thread Cert.AdamwUqIdeal.nD Cert.AdamwUqIdeal.τ).loc Cert.AdamwUqIdeal.main_arg2) = m ((c.tc : Thread Cert.AdamwUqIdeal.nD Cert.AdamwUqIdeal.τ).loc Cert.AdamwUqIdeal.main_arg2)
          ∧ r.2.mem ((c.tc : Thread Cert.AdamwUqIdeal.nD Cert.AdamwUqIdeal.τ).loc Cert.AdamwUqIdeal.main_arg3) = m ((c.tc : Thread Cert.AdamwUqIdeal.nD Cert.AdamwUqIdeal.τ).loc Cert.AdamwUqIdeal.main_arg3))
      ∧ θ_run (Cert.AdamwUqReferenceIdeal.defs (F := Ideal)) (onTc (τ := Cert.AdamwUqReferenceIdeal.τ) (Cert.AdamwUqReferenceIdeal.main (F := Ideal))) ⟨m', fun _ => 0, g'⟩ (fun r => ∀ c : Dev Cert.AdamwUqReferenceIdeal.nD,
          r.2.mem ((c.tc : Thread Cert.AdamwUqReferenceIdeal.nD Cert.AdamwUqReferenceIdeal.τ).loc Cert.AdamwUqReferenceIdeal.main_v1) = v0 c
          ∧ r.2.mem ((c.tc : Thread Cert.AdamwUqReferenceIdeal.nD Cert.AdamwUqReferenceIdeal.τ).loc Cert.AdamwUqReferenceIdeal.main_v25) = v1 c
          ∧ r.2.mem ((c.tc : Thread Cert.AdamwUqReferenceIdeal.nD Cert.AdamwUqReferenceIdeal.τ).loc Cert.AdamwUqReferenceIdeal.main_v6) = v2 c
          ∧ r.2.mem ((c.tc : Thread Cert.AdamwUqReferenceIdeal.nD Cert.AdamwUqReferenceIdeal.τ).loc Cert.AdamwUqReferenceIdeal.main_v12) = v3 c
          ∧ r.2.mem ((c.tc : Thread Cert.AdamwUqReferenceIdeal.nD Cert.AdamwUqReferenceIdeal.τ).loc Cert.AdamwUqReferenceIdeal.main_arg0) = m' ((c.tc : Thread Cert.AdamwUqReferenceIdeal.nD Cert.AdamwUqReferenceIdeal.τ).loc Cert.AdamwUqReferenceIdeal.main_arg0)
          ∧ r.2.mem ((c.tc : Thread Cert.AdamwUqReferenceIdeal.nD Cert.AdamwUqReferenceIdeal.τ).loc Cert.AdamwUqReferenceIdeal.main_arg1) = m' ((c.tc : Thread Cert.AdamwUqReferenceIdeal.nD Cert.AdamwUqReferenceIdeal.τ).loc Cert.AdamwUqReferenceIdeal.main_arg1)
          ∧ r.2.mem ((c.tc : Thread Cert.AdamwUqReferenceIdeal.nD Cert.AdamwUqReferenceIdeal.τ).loc Cert.AdamwUqReferenceIdeal.main_arg2) = m' ((c.tc : Thread Cert.AdamwUqReferenceIdeal.nD Cert.AdamwUqReferenceIdeal.τ).loc Cert.AdamwUqReferenceIdeal.main_arg2)
          ∧ r.2.mem ((c.tc : Thread Cert.AdamwUqReferenceIdeal.nD Cert.AdamwUqReferenceIdeal.τ).loc Cert.AdamwUqReferenceIdeal.main_arg3) = m' ((c.tc : Thread Cert.AdamwUqReferenceIdeal.nD Cert.AdamwUqReferenceIdeal.τ).loc Cert.AdamwUqReferenceIdeal.main_arg3))

def preserves_AdamwUkv_AdamwUkvIdeal : Prop :=
  True

def algebraic_AdamwUkvIdeal_AdamwUkvReferenceIdeal [hAdamwUkvIdeal : Cert.AdamwUkvIdeal.Facts] [hAdamwUkvReferenceIdeal : Cert.AdamwUkvReferenceIdeal.Facts] : Prop :=
  ∀ (m : (ℓ : Loc Cert.AdamwUkvIdeal.nD Cert.AdamwUkvIdeal.τ Cert.AdamwUkvIdeal.sig) → Buf (Elt Ideal) ℓ) (g : Dev Cert.AdamwUkvIdeal.nD → PrngReg)
    (m' : (ℓ : Loc Cert.AdamwUkvReferenceIdeal.nD Cert.AdamwUkvReferenceIdeal.τ Cert.AdamwUkvReferenceIdeal.sig) → Buf (Elt Ideal) ℓ) (g' : Dev Cert.AdamwUkvReferenceIdeal.nD → PrngReg), Pre_AdamwUkvIdeal m →
    (∀ c : Dev Cert.AdamwUkvIdeal.nD,
      m' ((c.tc : Thread Cert.AdamwUkvReferenceIdeal.nD Cert.AdamwUkvReferenceIdeal.τ).loc Cert.AdamwUkvReferenceIdeal.main_arg0) = m ((c.tc : Thread Cert.AdamwUkvIdeal.nD Cert.AdamwUkvIdeal.τ).loc Cert.AdamwUkvIdeal.main_arg0)
      ∧ m' ((c.tc : Thread Cert.AdamwUkvReferenceIdeal.nD Cert.AdamwUkvReferenceIdeal.τ).loc Cert.AdamwUkvReferenceIdeal.main_arg1) = m ((c.tc : Thread Cert.AdamwUkvIdeal.nD Cert.AdamwUkvIdeal.τ).loc Cert.AdamwUkvIdeal.main_arg1)
      ∧ m' ((c.tc : Thread Cert.AdamwUkvReferenceIdeal.nD Cert.AdamwUkvReferenceIdeal.τ).loc Cert.AdamwUkvReferenceIdeal.main_arg2) = m ((c.tc : Thread Cert.AdamwUkvIdeal.nD Cert.AdamwUkvIdeal.τ).loc Cert.AdamwUkvIdeal.main_arg2)
      ∧ m' ((c.tc : Thread Cert.AdamwUkvReferenceIdeal.nD Cert.AdamwUkvReferenceIdeal.τ).loc Cert.AdamwUkvReferenceIdeal.main_arg3) = m ((c.tc : Thread Cert.AdamwUkvIdeal.nD Cert.AdamwUkvIdeal.τ).loc Cert.AdamwUkvIdeal.main_arg3)) →
    ∃ (v0 : (c : Dev Cert.AdamwUkvIdeal.nD) → Buf (Elt Ideal) ((c.tc : Thread Cert.AdamwUkvIdeal.nD Cert.AdamwUkvIdeal.τ).loc Cert.AdamwUkvIdeal.main_v6_0)) (v1 : (c : Dev Cert.AdamwUkvIdeal.nD) → Buf (Elt Ideal) ((c.tc : Thread Cert.AdamwUkvIdeal.nD Cert.AdamwUkvIdeal.τ).loc Cert.AdamwUkvIdeal.main_v6_1)) (v2 : (c : Dev Cert.AdamwUkvIdeal.nD) → Buf (Elt Ideal) ((c.tc : Thread Cert.AdamwUkvIdeal.nD Cert.AdamwUkvIdeal.τ).loc Cert.AdamwUkvIdeal.main_v6_2)) (v3 : (c : Dev Cert.AdamwUkvIdeal.nD) → Buf (Elt Ideal) ((c.tc : Thread Cert.AdamwUkvIdeal.nD Cert.AdamwUkvIdeal.τ).loc Cert.AdamwUkvIdeal.main_v6_3)),
      θ_run (Cert.AdamwUkvIdeal.defs (F := Ideal)) (onTc (τ := Cert.AdamwUkvIdeal.τ) (Cert.AdamwUkvIdeal.main (F := Ideal))) ⟨m, fun _ => 0, g⟩ (fun r => ∀ c : Dev Cert.AdamwUkvIdeal.nD,
          r.2.mem ((c.tc : Thread Cert.AdamwUkvIdeal.nD Cert.AdamwUkvIdeal.τ).loc Cert.AdamwUkvIdeal.main_v6_0) = v0 c
          ∧ r.2.mem ((c.tc : Thread Cert.AdamwUkvIdeal.nD Cert.AdamwUkvIdeal.τ).loc Cert.AdamwUkvIdeal.main_v6_1) = v1 c
          ∧ r.2.mem ((c.tc : Thread Cert.AdamwUkvIdeal.nD Cert.AdamwUkvIdeal.τ).loc Cert.AdamwUkvIdeal.main_v6_2) = v2 c
          ∧ r.2.mem ((c.tc : Thread Cert.AdamwUkvIdeal.nD Cert.AdamwUkvIdeal.τ).loc Cert.AdamwUkvIdeal.main_v6_3) = v3 c
          ∧ r.2.mem ((c.tc : Thread Cert.AdamwUkvIdeal.nD Cert.AdamwUkvIdeal.τ).loc Cert.AdamwUkvIdeal.main_arg0) = m ((c.tc : Thread Cert.AdamwUkvIdeal.nD Cert.AdamwUkvIdeal.τ).loc Cert.AdamwUkvIdeal.main_arg0)
          ∧ r.2.mem ((c.tc : Thread Cert.AdamwUkvIdeal.nD Cert.AdamwUkvIdeal.τ).loc Cert.AdamwUkvIdeal.main_arg1) = m ((c.tc : Thread Cert.AdamwUkvIdeal.nD Cert.AdamwUkvIdeal.τ).loc Cert.AdamwUkvIdeal.main_arg1)
          ∧ r.2.mem ((c.tc : Thread Cert.AdamwUkvIdeal.nD Cert.AdamwUkvIdeal.τ).loc Cert.AdamwUkvIdeal.main_arg2) = m ((c.tc : Thread Cert.AdamwUkvIdeal.nD Cert.AdamwUkvIdeal.τ).loc Cert.AdamwUkvIdeal.main_arg2)
          ∧ r.2.mem ((c.tc : Thread Cert.AdamwUkvIdeal.nD Cert.AdamwUkvIdeal.τ).loc Cert.AdamwUkvIdeal.main_arg3) = m ((c.tc : Thread Cert.AdamwUkvIdeal.nD Cert.AdamwUkvIdeal.τ).loc Cert.AdamwUkvIdeal.main_arg3))
      ∧ θ_run (Cert.AdamwUkvReferenceIdeal.defs (F := Ideal)) (onTc (τ := Cert.AdamwUkvReferenceIdeal.τ) (Cert.AdamwUkvReferenceIdeal.main (F := Ideal))) ⟨m', fun _ => 0, g'⟩ (fun r => ∀ c : Dev Cert.AdamwUkvReferenceIdeal.nD,
          r.2.mem ((c.tc : Thread Cert.AdamwUkvReferenceIdeal.nD Cert.AdamwUkvReferenceIdeal.τ).loc Cert.AdamwUkvReferenceIdeal.main_v1) = v0 c
          ∧ r.2.mem ((c.tc : Thread Cert.AdamwUkvReferenceIdeal.nD Cert.AdamwUkvReferenceIdeal.τ).loc Cert.AdamwUkvReferenceIdeal.main_v25) = v1 c
          ∧ r.2.mem ((c.tc : Thread Cert.AdamwUkvReferenceIdeal.nD Cert.AdamwUkvReferenceIdeal.τ).loc Cert.AdamwUkvReferenceIdeal.main_v6) = v2 c
          ∧ r.2.mem ((c.tc : Thread Cert.AdamwUkvReferenceIdeal.nD Cert.AdamwUkvReferenceIdeal.τ).loc Cert.AdamwUkvReferenceIdeal.main_v12) = v3 c
          ∧ r.2.mem ((c.tc : Thread Cert.AdamwUkvReferenceIdeal.nD Cert.AdamwUkvReferenceIdeal.τ).loc Cert.AdamwUkvReferenceIdeal.main_arg0) = m' ((c.tc : Thread Cert.AdamwUkvReferenceIdeal.nD Cert.AdamwUkvReferenceIdeal.τ).loc Cert.AdamwUkvReferenceIdeal.main_arg0)
          ∧ r.2.mem ((c.tc : Thread Cert.AdamwUkvReferenceIdeal.nD Cert.AdamwUkvReferenceIdeal.τ).loc Cert.AdamwUkvReferenceIdeal.main_arg1) = m' ((c.tc : Thread Cert.AdamwUkvReferenceIdeal.nD Cert.AdamwUkvReferenceIdeal.τ).loc Cert.AdamwUkvReferenceIdeal.main_arg1)
          ∧ r.2.mem ((c.tc : Thread Cert.AdamwUkvReferenceIdeal.nD Cert.AdamwUkvReferenceIdeal.τ).loc Cert.AdamwUkvReferenceIdeal.main_arg2) = m' ((c.tc : Thread Cert.AdamwUkvReferenceIdeal.nD Cert.AdamwUkvReferenceIdeal.τ).loc Cert.AdamwUkvReferenceIdeal.main_arg2)
          ∧ r.2.mem ((c.tc : Thread Cert.AdamwUkvReferenceIdeal.nD Cert.AdamwUkvReferenceIdeal.τ).loc Cert.AdamwUkvReferenceIdeal.main_arg3) = m' ((c.tc : Thread Cert.AdamwUkvReferenceIdeal.nD Cert.AdamwUkvReferenceIdeal.τ).loc Cert.AdamwUkvReferenceIdeal.main_arg3))

def preserves_AdamwOut_AdamwOutIdeal : Prop :=
  True

def algebraic_AdamwOutIdeal_AdamwOutReferenceIdeal [hAdamwOutIdeal : Cert.AdamwOutIdeal.Facts] [hAdamwOutReferenceIdeal : Cert.AdamwOutReferenceIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutReferenceIdeal.nD Cert.AdamwOutReferenceIdeal.τ Cert.AdamwOutReferenceIdeal.sig) → Buf (Elt Ideal) ℓ) (g' : Dev Cert.AdamwOutReferenceIdeal.nD → PrngReg), Pre_AdamwOutIdeal m →
    (∀ c : Dev Cert.AdamwOutIdeal.nD,
      m' ((c.tc : Thread Cert.AdamwOutReferenceIdeal.nD Cert.AdamwOutReferenceIdeal.τ).loc Cert.AdamwOutReferenceIdeal.main_arg0) = m ((c.tc : Thread Cert.AdamwOutIdeal.nD Cert.AdamwOutIdeal.τ).loc Cert.AdamwOutIdeal.main_arg0)
      ∧ m' ((c.tc : Thread Cert.AdamwOutReferenceIdeal.nD Cert.AdamwOutReferenceIdeal.τ).loc Cert.AdamwOutReferenceIdeal.main_arg1) = m ((c.tc : Thread Cert.AdamwOutIdeal.nD Cert.AdamwOutIdeal.τ).loc Cert.AdamwOutIdeal.main_arg1)
      ∧ m' ((c.tc : Thread Cert.AdamwOutReferenceIdeal.nD Cert.AdamwOutReferenceIdeal.τ).loc Cert.AdamwOutReferenceIdeal.main_arg2) = m ((c.tc : Thread Cert.AdamwOutIdeal.nD Cert.AdamwOutIdeal.τ).loc Cert.AdamwOutIdeal.main_arg2)
      ∧ m' ((c.tc : Thread Cert.AdamwOutReferenceIdeal.nD Cert.AdamwOutReferenceIdeal.τ).loc Cert.AdamwOutReferenceIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v6_0)) (v1 : (c : Dev Cert.AdamwOutIdeal.nD) → Buf (Elt Ideal) ((c.tc : Thread Cert.AdamwOutIdeal.nD Cert.AdamwOutIdeal.τ).loc Cert.AdamwOutIdeal.main_v6_1)) (v2 : (c : Dev Cert.AdamwOutIdeal.nD) → Buf (Elt Ideal) ((c.tc : Thread Cert.AdamwOutIdeal.nD Cert.AdamwOutIdeal.τ).loc Cert.AdamwOutIdeal.main_v6_2)) (v3 : (c : Dev Cert.AdamwOutIdeal.nD) → Buf (Elt Ideal) ((c.tc : Thread Cert.AdamwOutIdeal.nD Cert.AdamwOutIdeal.τ).loc Cert.AdamwOutIdeal.main_v6_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v6_0) = v0 c
          ∧ r.2.mem ((c.tc : Thread Cert.AdamwOutIdeal.nD Cert.AdamwOutIdeal.τ).loc Cert.AdamwOutIdeal.main_v6_1) = v1 c
          ∧ r.2.mem ((c.tc : Thread Cert.AdamwOutIdeal.nD Cert.AdamwOutIdeal.τ).loc Cert.AdamwOutIdeal.main_v6_2) = v2 c
          ∧ r.2.mem ((c.tc : Thread Cert.AdamwOutIdeal.nD Cert.AdamwOutIdeal.τ).loc Cert.AdamwOutIdeal.main_v6_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutReferenceIdeal.defs (F := Ideal)) (onTc (τ := Cert.AdamwOutReferenceIdeal.τ) (Cert.AdamwOutReferenceIdeal.main (F := Ideal))) ⟨m', fun _ => 0, g'⟩ (fun r => ∀ c : Dev Cert.AdamwOutReferenceIdeal.nD,
          r.2.mem ((c.tc : Thread Cert.AdamwOutReferenceIdeal.nD Cert.AdamwOutReferenceIdeal.τ).loc Cert.AdamwOutReferenceIdeal.main_v1) = v0 c
          ∧ r.2.mem ((c.tc : Thread Cert.AdamwOutReferenceIdeal.nD Cert.AdamwOutReferenceIdeal.τ).loc Cert.AdamwOutReferenceIdeal.main_v25) = v1 c
          ∧ r.2.mem ((c.tc : Thread Cert.AdamwOutReferenceIdeal.nD Cert.AdamwOutReferenceIdeal.τ).loc Cert.AdamwOutReferenceIdeal.main_v6) = v2 c
          ∧ r.2.mem ((c.tc : Thread Cert.AdamwOutReferenceIdeal.nD Cert.AdamwOutReferenceIdeal.τ).loc Cert.AdamwOutReferenceIdeal.main_v12) = v3 c
          ∧ r.2.mem ((c.tc : Thread Cert.AdamwOutReferenceIdeal.nD Cert.AdamwOutReferenceIdeal.τ).loc Cert.AdamwOutReferenceIdeal.main_arg0) = m' ((c.tc : Thread Cert.AdamwOutReferenceIdeal.nD Cert.AdamwOutReferenceIdeal.τ).loc Cert.AdamwOutReferenceIdeal.main_arg0)
          ∧ r.2.mem ((c.tc : Thread Cert.AdamwOutReferenceIdeal.nD Cert.AdamwOutReferenceIdeal.τ).loc Cert.AdamwOutReferenceIdeal.main_arg1) = m' ((c.tc : Thread Cert.AdamwOutReferenceIdeal.nD Cert.AdamwOutReferenceIdeal.τ).loc Cert.AdamwOutReferenceIdeal.main_arg1)
          ∧ r.2.mem ((c.tc : Thread Cert.AdamwOutReferenceIdeal.nD Cert.AdamwOutReferenceIdeal.τ).loc Cert.AdamwOutReferenceIdeal.main_arg2) = m' ((c.tc : Thread Cert.AdamwOutReferenceIdeal.nD Cert.AdamwOutReferenceIdeal.τ).loc Cert.AdamwOutReferenceIdeal.main_arg2)
          ∧ r.2.mem ((c.tc : Thread Cert.AdamwOutReferenceIdeal.nD Cert.AdamwOutReferenceIdeal.τ).loc Cert.AdamwOutReferenceIdeal.main_arg3) = m' ((c.tc : Thread Cert.AdamwOutReferenceIdeal.nD Cert.AdamwOutReferenceIdeal.τ).loc Cert.AdamwOutReferenceIdeal.main_arg3))

def preserves_AdamwGate_AdamwGateIdeal : Prop :=
  True

def algebraic_AdamwGateIdeal_AdamwGateReferenceIdeal [hAdamwGateIdeal : Cert.AdamwGateIdeal.Facts] [hAdamwGateReferenceIdeal : Cert.AdamwGateReferenceIdeal.Facts] : Prop :=
  ∀ (m : (ℓ : Loc Cert.AdamwGateIdeal.nD Cert.AdamwGateIdeal.τ Cert.AdamwGateIdeal.sig) → Buf (Elt Ideal) ℓ) (g : Dev Cert.AdamwGateIdeal.nD → PrngReg)
    (m' : (ℓ : Loc Cert.AdamwGateReferenceIdeal.nD Cert.AdamwGateReferenceIdeal.τ Cert.AdamwGateReferenceIdeal.sig) → Buf (Elt Ideal) ℓ) (g' : Dev Cert.AdamwGateReferenceIdeal.nD → PrngReg), Pre_AdamwGateIdeal m →
    (∀ c : Dev Cert.AdamwGateIdeal.nD,
      m' ((c.tc : Thread Cert.AdamwGateReferenceIdeal.nD Cert.AdamwGateReferenceIdeal.τ).loc Cert.AdamwGateReferenceIdeal.main_arg0) = m ((c.tc : Thread Cert.AdamwGateIdeal.nD Cert.AdamwGateIdeal.τ).loc Cert.AdamwGateIdeal.main_arg0)
      ∧ m' ((c.tc : Thread Cert.AdamwGateReferenceIdeal.nD Cert.AdamwGateReferenceIdeal.τ).loc Cert.AdamwGateReferenceIdeal.main_arg1) = m ((c.tc : Thread Cert.AdamwGateIdeal.nD Cert.AdamwGateIdeal.τ).loc Cert.AdamwGateIdeal.main_arg1)
      ∧ m' ((c.tc : Thread Cert.AdamwGateReferenceIdeal.nD Cert.AdamwGateReferenceIdeal.τ).loc Cert.AdamwGateReferenceIdeal.main_arg2) = m ((c.tc : Thread Cert.AdamwGateIdeal.nD Cert.AdamwGateIdeal.τ).loc Cert.AdamwGateIdeal.main_arg2)
      ∧ m' ((c.tc : Thread Cert.AdamwGateReferenceIdeal.nD Cert.AdamwGateReferenceIdeal.τ).loc Cert.AdamwGateReferenceIdeal.main_arg3) = m ((c.tc : Thread Cert.AdamwGateIdeal.nD Cert.AdamwGateIdeal.τ).loc Cert.AdamwGateIdeal.main_arg3)) →
    ∃ (v0 : (c : Dev Cert.AdamwGateIdeal.nD) → Buf (Elt Ideal) ((c.tc : Thread Cert.AdamwGateIdeal.nD Cert.AdamwGateIdeal.τ).loc Cert.AdamwGateIdeal.main_v6_0)) (v1 : (c : Dev Cert.AdamwGateIdeal.nD) → Buf (Elt Ideal) ((c.tc : Thread Cert.AdamwGateIdeal.nD Cert.AdamwGateIdeal.τ).loc Cert.AdamwGateIdeal.main_v6_1)) (v2 : (c : Dev Cert.AdamwGateIdeal.nD) → Buf (Elt Ideal) ((c.tc : Thread Cert.AdamwGateIdeal.nD Cert.AdamwGateIdeal.τ).loc Cert.AdamwGateIdeal.main_v6_2)) (v3 : (c : Dev Cert.AdamwGateIdeal.nD) → Buf (Elt Ideal) ((c.tc : Thread Cert.AdamwGateIdeal.nD Cert.AdamwGateIdeal.τ).loc Cert.AdamwGateIdeal.main_v6_3)),
      θ_run (Cert.AdamwGateIdeal.defs (F := Ideal)) (onTc (τ := Cert.AdamwGateIdeal.τ) (Cert.AdamwGateIdeal.main (F := Ideal))) ⟨m, fun _ => 0, g⟩ (fun r => ∀ c : Dev Cert.AdamwGateIdeal.nD,
          r.2.mem ((c.tc : Thread Cert.AdamwGateIdeal.nD Cert.AdamwGateIdeal.τ).loc Cert.AdamwGateIdeal.main_v6_0) = v0 c
          ∧ r.2.mem ((c.tc : Thread Cert.AdamwGateIdeal.nD Cert.AdamwGateIdeal.τ).loc Cert.AdamwGateIdeal.main_v6_1) = v1 c
          ∧ r.2.mem ((c.tc : Thread Cert.AdamwGateIdeal.nD Cert.AdamwGateIdeal.τ).loc Cert.AdamwGateIdeal.main_v6_2) = v2 c
          ∧ r.2.mem ((c.tc : Thread Cert.AdamwGateIdeal.nD Cert.AdamwGateIdeal.τ).loc Cert.AdamwGateIdeal.main_v6_3) = v3 c
          ∧ r.2.mem ((c.tc : Thread Cert.AdamwGateIdeal.nD Cert.AdamwGateIdeal.τ).loc Cert.AdamwGateIdeal.main_arg0) = m ((c.tc : Thread Cert.AdamwGateIdeal.nD Cert.AdamwGateIdeal.τ).loc Cert.AdamwGateIdeal.main_arg0)
          ∧ r.2.mem ((c.tc : Thread Cert.AdamwGateIdeal.nD Cert.AdamwGateIdeal.τ).loc Cert.AdamwGateIdeal.main_arg1) = m ((c.tc : Thread Cert.AdamwGateIdeal.nD Cert.AdamwGateIdeal.τ).loc Cert.AdamwGateIdeal.main_arg1)
          ∧ r.2.mem ((c.tc : Thread Cert.AdamwGateIdeal.nD Cert.AdamwGateIdeal.τ).loc Cert.AdamwGateIdeal.main_arg2) = m ((c.tc : Thread Cert.AdamwGateIdeal.nD Cert.AdamwGateIdeal.τ).loc Cert.AdamwGateIdeal.main_arg2)
          ∧ r.2.mem ((c.tc : Thread Cert.AdamwGateIdeal.nD Cert.AdamwGateIdeal.τ).loc Cert.AdamwGateIdeal.main_arg3) = m ((c.tc : Thread Cert.AdamwGateIdeal.nD Cert.AdamwGateIdeal.τ).loc Cert.AdamwGateIdeal.main_arg3))
      ∧ θ_run (Cert.AdamwGateReferenceIdeal.defs (F := Ideal)) (onTc (τ := Cert.AdamwGateReferenceIdeal.τ) (Cert.AdamwGateReferenceIdeal.main (F := Ideal))) ⟨m', fun _ => 0, g'⟩ (fun r => ∀ c : Dev Cert.AdamwGateReferenceIdeal.nD,
          r.2.mem ((c.tc : Thread Cert.AdamwGateReferenceIdeal.nD Cert.AdamwGateReferenceIdeal.τ).loc Cert.AdamwGateReferenceIdeal.main_v1) = v0 c
          ∧ r.2.mem ((c.tc : Thread Cert.AdamwGateReferenceIdeal.nD Cert.AdamwGateReferenceIdeal.τ).loc Cert.AdamwGateReferenceIdeal.main_v25) = v1 c
          ∧ r.2.mem ((c.tc : Thread Cert.AdamwGateReferenceIdeal.nD Cert.AdamwGateReferenceIdeal.τ).loc Cert.AdamwGateReferenceIdeal.main_v6) = v2 c
          ∧ r.2.mem ((c.tc : Thread Cert.AdamwGateReferenceIdeal.nD Cert.AdamwGateReferenceIdeal.τ).loc Cert.AdamwGateReferenceIdeal.main_v12) = v3 c
          ∧ r.2.mem ((c.tc : Thread Cert.AdamwGateReferenceIdeal.nD Cert.AdamwGateReferenceIdeal.τ).loc Cert.AdamwGateReferenceIdeal.main_arg0) = m' ((c.tc : Thread Cert.AdamwGateReferenceIdeal.nD Cert.AdamwGateReferenceIdeal.τ).loc Cert.AdamwGateReferenceIdeal.main_arg0)
          ∧ r.2.mem ((c.tc : Thread Cert.AdamwGateReferenceIdeal.nD Cert.AdamwGateReferenceIdeal.τ).loc Cert.AdamwGateReferenceIdeal.main_arg1) = m' ((c.tc : Thread Cert.AdamwGateReferenceIdeal.nD Cert.AdamwGateReferenceIdeal.τ).loc Cert.AdamwGateReferenceIdeal.main_arg1)
          ∧ r.2.mem ((c.tc : Thread Cert.AdamwGateReferenceIdeal.nD Cert.AdamwGateReferenceIdeal.τ).loc Cert.AdamwGateReferenceIdeal.main_arg2) = m' ((c.tc : Thread Cert.AdamwGateReferenceIdeal.nD Cert.AdamwGateReferenceIdeal.τ).loc Cert.AdamwGateReferenceIdeal.main_arg2)
          ∧ r.2.mem ((c.tc : Thread Cert.AdamwGateReferenceIdeal.nD Cert.AdamwGateReferenceIdeal.τ).loc Cert.AdamwGateReferenceIdeal.main_arg3) = m' ((c.tc : Thread Cert.AdamwGateReferenceIdeal.nD Cert.AdamwGateReferenceIdeal.τ).loc Cert.AdamwGateReferenceIdeal.main_arg3))

def preserves_AdamwUp_AdamwUpIdeal : Prop :=
  True

def algebraic_AdamwUpIdeal_AdamwUpReferenceIdeal [hAdamwUpIdeal : Cert.AdamwUpIdeal.Facts] [hAdamwUpReferenceIdeal : Cert.AdamwUpReferenceIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg)
    (m' : (ℓ : Loc Cert.AdamwUpReferenceIdeal.nD Cert.AdamwUpReferenceIdeal.τ Cert.AdamwUpReferenceIdeal.sig) → Buf (Elt Ideal) ℓ) (g' : Dev Cert.AdamwUpReferenceIdeal.nD → PrngReg), Pre_AdamwUpIdeal m →
    (∀ c : Dev Cert.AdamwUpIdeal.nD,
      m' ((c.tc : Thread Cert.AdamwUpReferenceIdeal.nD Cert.AdamwUpReferenceIdeal.τ).loc Cert.AdamwUpReferenceIdeal.main_arg0) = m ((c.tc : Thread Cert.AdamwUpIdeal.nD Cert.AdamwUpIdeal.τ).loc Cert.AdamwUpIdeal.main_arg0)
      ∧ m' ((c.tc : Thread Cert.AdamwUpReferenceIdeal.nD Cert.AdamwUpReferenceIdeal.τ).loc Cert.AdamwUpReferenceIdeal.main_arg1) = m ((c.tc : Thread Cert.AdamwUpIdeal.nD Cert.AdamwUpIdeal.τ).loc Cert.AdamwUpIdeal.main_arg1)
      ∧ m' ((c.tc : Thread Cert.AdamwUpReferenceIdeal.nD Cert.AdamwUpReferenceIdeal.τ).loc Cert.AdamwUpReferenceIdeal.main_arg2) = m ((c.tc : Thread Cert.AdamwUpIdeal.nD Cert.AdamwUpIdeal.τ).loc Cert.AdamwUpIdeal.main_arg2)
      ∧ m' ((c.tc : Thread Cert.AdamwUpReferenceIdeal.nD Cert.AdamwUpReferenceIdeal.τ).loc Cert.AdamwUpReferenceIdeal.main_arg3) = m ((c.tc : Thread Cert.AdamwUpIdeal.nD Cert.AdamwUpIdeal.τ).loc Cert.AdamwUpIdeal.main_arg3)) →
    ∃ (v0 : (c : Dev Cert.AdamwUpIdeal.nD) → Buf (Elt Ideal) ((c.tc : Thread Cert.AdamwUpIdeal.nD Cert.AdamwUpIdeal.τ).loc Cert.AdamwUpIdeal.main_v6_0)) (v1 : (c : Dev Cert.AdamwUpIdeal.nD) → Buf (Elt Ideal) ((c.tc : Thread Cert.AdamwUpIdeal.nD Cert.AdamwUpIdeal.τ).loc Cert.AdamwUpIdeal.main_v6_1)) (v2 : (c : Dev Cert.AdamwUpIdeal.nD) → Buf (Elt Ideal) ((c.tc : Thread Cert.AdamwUpIdeal.nD Cert.AdamwUpIdeal.τ).loc Cert.AdamwUpIdeal.main_v6_2)) (v3 : (c : Dev Cert.AdamwUpIdeal.nD) → Buf (Elt Ideal) ((c.tc : Thread Cert.AdamwUpIdeal.nD Cert.AdamwUpIdeal.τ).loc Cert.AdamwUpIdeal.main_v6_3)),
      θ_run (Cert.AdamwUpIdeal.defs (F := Ideal)) (onTc (τ := Cert.AdamwUpIdeal.τ) (Cert.AdamwUpIdeal.main (F := Ideal))) ⟨m, fun _ => 0, g⟩ (fun r => ∀ c : Dev Cert.AdamwUpIdeal.nD,
          r.2.mem ((c.tc : Thread Cert.AdamwUpIdeal.nD Cert.AdamwUpIdeal.τ).loc Cert.AdamwUpIdeal.main_v6_0) = v0 c
          ∧ r.2.mem ((c.tc : Thread Cert.AdamwUpIdeal.nD Cert.AdamwUpIdeal.τ).loc Cert.AdamwUpIdeal.main_v6_1) = v1 c
          ∧ r.2.mem ((c.tc : Thread Cert.AdamwUpIdeal.nD Cert.AdamwUpIdeal.τ).loc Cert.AdamwUpIdeal.main_v6_2) = v2 c
          ∧ r.2.mem ((c.tc : Thread Cert.AdamwUpIdeal.nD Cert.AdamwUpIdeal.τ).loc Cert.AdamwUpIdeal.main_v6_3) = v3 c
          ∧ r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
          ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
          ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
          ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3))
      ∧ θ_run (Cert.AdamwUpReferenceIdeal.defs (F := Ideal)) (onTc (τ := Cert.AdamwUpReferenceIdeal.τ) (Cert.AdamwUpReferenceIdeal.main (F := Ideal))) ⟨m', fun _ => 0, g'⟩ (fun r => ∀ c : Dev Cert.AdamwUpReferenceIdeal.nD,
          r.2.mem ((c.tc : Thread Cert.AdamwUpReferenceIdeal.nD Cert.AdamwUpReferenceIdeal.τ).loc Cert.AdamwUpReferenceIdeal.main_v1) = v0 c
          ∧ r.2.mem ((c.tc : Thread Cert.AdamwUpReferenceIdeal.nD Cert.AdamwUpReferenceIdeal.τ).loc Cert.AdamwUpReferenceIdeal.main_v25) = v1 c
          ∧ r.2.mem ((c.tc : Thread Cert.AdamwUpReferenceIdeal.nD Cert.AdamwUpReferenceIdeal.τ).loc Cert.AdamwUpReferenceIdeal.main_v6) = v2 c
          ∧ r.2.mem ((c.tc : Thread Cert.AdamwUpReferenceIdeal.nD Cert.AdamwUpReferenceIdeal.τ).loc Cert.AdamwUpReferenceIdeal.main_v12) = v3 c
          ∧ r.2.mem ((c.tc : Thread Cert.AdamwUpReferenceIdeal.nD Cert.AdamwUpReferenceIdeal.τ).loc Cert.AdamwUpReferenceIdeal.main_arg0) = m' ((c.tc : Thread Cert.AdamwUpReferenceIdeal.nD Cert.AdamwUpReferenceIdeal.τ).loc Cert.AdamwUpReferenceIdeal.main_arg0)
          ∧ r.2.mem ((c.tc : Thread Cert.AdamwUpReferenceIdeal.nD Cert.AdamwUpReferenceIdeal.τ).loc Cert.AdamwUpReferenceIdeal.main_arg1) = m' ((c.tc : Thread Cert.AdamwUpReferenceIdeal.nD Cert.AdamwUpReferenceIdeal.τ).loc Cert.AdamwUpReferenceIdeal.main_arg1)
          ∧ r.2.mem ((c.tc : Thread Cert.AdamwUpReferenceIdeal.nD Cert.AdamwUpReferenceIdeal.τ).loc Cert.AdamwUpReferenceIdeal.main_arg2) = m' ((c.tc : Thread Cert.AdamwUpReferenceIdeal.nD Cert.AdamwUpReferenceIdeal.τ).loc Cert.AdamwUpReferenceIdeal.main_arg2)
          ∧ r.2.mem ((c.tc : Thread Cert.AdamwUpReferenceIdeal.nD Cert.AdamwUpReferenceIdeal.τ).loc Cert.AdamwUpReferenceIdeal.main_arg3) = m' ((c.tc : Thread Cert.AdamwUpReferenceIdeal.nD Cert.AdamwUpReferenceIdeal.τ).loc Cert.AdamwUpReferenceIdeal.main_arg3))

def preserves_AdamwDown_AdamwDownIdeal : Prop :=
  True

def algebraic_AdamwDownIdeal_AdamwDownReferenceIdeal [hAdamwDownIdeal : Cert.AdamwDownIdeal.Facts] [hAdamwDownReferenceIdeal : Cert.AdamwDownReferenceIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg)
    (m' : (ℓ : Loc Cert.AdamwDownReferenceIdeal.nD Cert.AdamwDownReferenceIdeal.τ Cert.AdamwDownReferenceIdeal.sig) → Buf (Elt Ideal) ℓ) (g' : Dev Cert.AdamwDownReferenceIdeal.nD → PrngReg), Pre_AdamwDownIdeal m →
    (∀ c : Dev Cert.AdamwDownIdeal.nD,
      m' ((c.tc : Thread Cert.AdamwDownReferenceIdeal.nD Cert.AdamwDownReferenceIdeal.τ).loc Cert.AdamwDownReferenceIdeal.main_arg0) = m ((c.tc : Thread Cert.AdamwDownIdeal.nD Cert.AdamwDownIdeal.τ).loc Cert.AdamwDownIdeal.main_arg0)
      ∧ m' ((c.tc : Thread Cert.AdamwDownReferenceIdeal.nD Cert.AdamwDownReferenceIdeal.τ).loc Cert.AdamwDownReferenceIdeal.main_arg1) = m ((c.tc : Thread Cert.AdamwDownIdeal.nD Cert.AdamwDownIdeal.τ).loc Cert.AdamwDownIdeal.main_arg1)
      ∧ m' ((c.tc : Thread Cert.AdamwDownReferenceIdeal.nD Cert.AdamwDownReferenceIdeal.τ).loc Cert.AdamwDownReferenceIdeal.main_arg2) = m ((c.tc : Thread Cert.AdamwDownIdeal.nD Cert.AdamwDownIdeal.τ).loc Cert.AdamwDownIdeal.main_arg2)
      ∧ m' ((c.tc : Thread Cert.AdamwDownReferenceIdeal.nD Cert.AdamwDownReferenceIdeal.τ).loc Cert.AdamwDownReferenceIdeal.main_arg3) = m ((c.tc : Thread Cert.AdamwDownIdeal.nD Cert.AdamwDownIdeal.τ).loc Cert.AdamwDownIdeal.main_arg3)) →
    ∃ (v0 : (c : Dev Cert.AdamwDownIdeal.nD) → Buf (Elt Ideal) ((c.tc : Thread Cert.AdamwDownIdeal.nD Cert.AdamwDownIdeal.τ).loc Cert.AdamwDownIdeal.main_v6_0)) (v1 : (c : Dev Cert.AdamwDownIdeal.nD) → Buf (Elt Ideal) ((c.tc : Thread Cert.AdamwDownIdeal.nD Cert.AdamwDownIdeal.τ).loc Cert.AdamwDownIdeal.main_v6_1)) (v2 : (c : Dev Cert.AdamwDownIdeal.nD) → Buf (Elt Ideal) ((c.tc : Thread Cert.AdamwDownIdeal.nD Cert.AdamwDownIdeal.τ).loc Cert.AdamwDownIdeal.main_v6_2)) (v3 : (c : Dev Cert.AdamwDownIdeal.nD) → Buf (Elt Ideal) ((c.tc : Thread Cert.AdamwDownIdeal.nD Cert.AdamwDownIdeal.τ).loc Cert.AdamwDownIdeal.main_v6_3)),
      θ_run (Cert.AdamwDownIdeal.defs (F := Ideal)) (onTc (τ := Cert.AdamwDownIdeal.τ) (Cert.AdamwDownIdeal.main (F := Ideal))) ⟨m, fun _ => 0, g⟩ (fun r => ∀ c : Dev Cert.AdamwDownIdeal.nD,
          r.2.mem ((c.tc : Thread Cert.AdamwDownIdeal.nD Cert.AdamwDownIdeal.τ).loc Cert.AdamwDownIdeal.main_v6_0) = v0 c
          ∧ r.2.mem ((c.tc : Thread Cert.AdamwDownIdeal.nD Cert.AdamwDownIdeal.τ).loc Cert.AdamwDownIdeal.main_v6_1) = v1 c
          ∧ r.2.mem ((c.tc : Thread Cert.AdamwDownIdeal.nD Cert.AdamwDownIdeal.τ).loc Cert.AdamwDownIdeal.main_v6_2) = v2 c
          ∧ r.2.mem ((c.tc : Thread Cert.AdamwDownIdeal.nD Cert.AdamwDownIdeal.τ).loc Cert.AdamwDownIdeal.main_v6_3) = v3 c
          ∧ r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
          ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
          ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
          ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ θ_run (Cert.AdamwDownReferenceIdeal.defs (F := Ideal)) (onTc (τ := Cert.AdamwDownReferenceIdeal.τ) (Cert.AdamwDownReferenceIdeal.main (F := Ideal))) ⟨m', fun _ => 0, g'⟩ (fun r => ∀ c : Dev Cert.AdamwDownReferenceIdeal.nD,
          r.2.mem ((c.tc : Thread Cert.AdamwDownReferenceIdeal.nD Cert.AdamwDownReferenceIdeal.τ).loc Cert.AdamwDownReferenceIdeal.main_v1) = v0 c
          ∧ r.2.mem ((c.tc : Thread Cert.AdamwDownReferenceIdeal.nD Cert.AdamwDownReferenceIdeal.τ).loc Cert.AdamwDownReferenceIdeal.main_v25) = v1 c
          ∧ r.2.mem ((c.tc : Thread Cert.AdamwDownReferenceIdeal.nD Cert.AdamwDownReferenceIdeal.τ).loc Cert.AdamwDownReferenceIdeal.main_v6) = v2 c
          ∧ r.2.mem ((c.tc : Thread Cert.AdamwDownReferenceIdeal.nD Cert.AdamwDownReferenceIdeal.τ).loc Cert.AdamwDownReferenceIdeal.main_v12) = v3 c
          ∧ r.2.mem ((c.tc : Thread Cert.AdamwDownReferenceIdeal.nD Cert.AdamwDownReferenceIdeal.τ).loc Cert.AdamwDownReferenceIdeal.main_arg0) = m' ((c.tc : Thread Cert.AdamwDownReferenceIdeal.nD Cert.AdamwDownReferenceIdeal.τ).loc Cert.AdamwDownReferenceIdeal.main_arg0)
          ∧ r.2.mem ((c.tc : Thread Cert.AdamwDownReferenceIdeal.nD Cert.AdamwDownReferenceIdeal.τ).loc Cert.AdamwDownReferenceIdeal.main_arg1) = m' ((c.tc : Thread Cert.AdamwDownReferenceIdeal.nD Cert.AdamwDownReferenceIdeal.τ).loc Cert.AdamwDownReferenceIdeal.main_arg1)
          ∧ r.2.mem ((c.tc : Thread Cert.AdamwDownReferenceIdeal.nD Cert.AdamwDownReferenceIdeal.τ).loc Cert.AdamwDownReferenceIdeal.main_arg2) = m' ((c.tc : Thread Cert.AdamwDownReferenceIdeal.nD Cert.AdamwDownReferenceIdeal.τ).loc Cert.AdamwDownReferenceIdeal.main_arg2)
          ∧ r.2.mem ((c.tc : Thread Cert.AdamwDownReferenceIdeal.nD Cert.AdamwDownReferenceIdeal.τ).loc Cert.AdamwDownReferenceIdeal.main_arg3) = m' ((c.tc : Thread Cert.AdamwDownReferenceIdeal.nD Cert.AdamwDownReferenceIdeal.τ).loc Cert.AdamwDownReferenceIdeal.main_arg3))

def preserves_DFfnAct_DFfnActIdeal : Prop :=
  True

def algebraic_DFfnActIdeal_DFfnActReferenceIdeal_pre_finite_ffn [hDFfnActIdeal : Cert.DFfnActIdeal.Facts] [hDFfnActReferenceIdeal : Cert.DFfnActReferenceIdeal.Facts] [hPre_finite_ffn : Cert.Pre_finite_ffn.Facts] : Prop :=
  ∀ (m : (ℓ : Loc Cert.DFfnActIdeal.nD Cert.DFfnActIdeal.τ Cert.DFfnActIdeal.sig) → Buf (Elt Ideal) ℓ) (g : Dev Cert.DFfnActIdeal.nD → PrngReg)
    (m' : (ℓ : Loc Cert.DFfnActReferenceIdeal.nD Cert.DFfnActReferenceIdeal.τ Cert.DFfnActReferenceIdeal.sig) → Buf (Elt Ideal) ℓ) (g' : Dev Cert.DFfnActReferenceIdeal.nD → PrngReg), Pre_DFfnActIdeal_finite_ffn m →
    (∀ c : Dev Cert.DFfnActIdeal.nD,
      m' ((c.tc : Thread Cert.DFfnActReferenceIdeal.nD Cert.DFfnActReferenceIdeal.τ).loc Cert.DFfnActReferenceIdeal.main_arg0) = m ((c.tc : Thread Cert.DFfnActIdeal.nD Cert.DFfnActIdeal.τ).loc Cert.DFfnActIdeal.main_arg0)
      ∧ m' ((c.tc : Thread Cert.DFfnActReferenceIdeal.nD Cert.DFfnActReferenceIdeal.τ).loc Cert.DFfnActReferenceIdeal.main_arg1) = m ((c.tc : Thread Cert.DFfnActIdeal.nD Cert.DFfnActIdeal.τ).loc Cert.DFfnActIdeal.main_arg1)
      ∧ m' ((c.tc : Thread Cert.DFfnActReferenceIdeal.nD Cert.DFfnActReferenceIdeal.τ).loc Cert.DFfnActReferenceIdeal.main_arg2) = m ((c.tc : Thread Cert.DFfnActIdeal.nD Cert.DFfnActIdeal.τ).loc Cert.DFfnActIdeal.main_arg2)
      ∧ m' ((c.tc : Thread Cert.DFfnActReferenceIdeal.nD Cert.DFfnActReferenceIdeal.τ).loc Cert.DFfnActReferenceIdeal.main_arg3) = m ((c.tc : Thread Cert.DFfnActIdeal.nD Cert.DFfnActIdeal.τ).loc Cert.DFfnActIdeal.main_arg3)
      ∧ m' ((c.tc : Thread Cert.DFfnActReferenceIdeal.nD Cert.DFfnActReferenceIdeal.τ).loc Cert.DFfnActReferenceIdeal.main_arg4) = m ((c.tc : Thread Cert.DFfnActIdeal.nD Cert.DFfnActIdeal.τ).loc Cert.DFfnActIdeal.main_arg4)) →
    ∃ (v0 : (c : Dev Cert.DFfnActIdeal.nD) → Buf (Elt Ideal) ((c.tc : Thread Cert.DFfnActIdeal.nD Cert.DFfnActIdeal.τ).loc Cert.DFfnActIdeal.main_v16_0)) (v1 : (c : Dev Cert.DFfnActIdeal.nD) → Buf (Elt Ideal) ((c.tc : Thread Cert.DFfnActIdeal.nD Cert.DFfnActIdeal.τ).loc Cert.DFfnActIdeal.main_v16_1)) (v2 : (c : Dev Cert.DFfnActIdeal.nD) → Buf (Elt Ideal) ((c.tc : Thread Cert.DFfnActIdeal.nD Cert.DFfnActIdeal.τ).loc Cert.DFfnActIdeal.main_v16_2)) (v3 : (c : Dev Cert.DFfnActIdeal.nD) → Buf (Elt Ideal) ((c.tc : Thread Cert.DFfnActIdeal.nD Cert.DFfnActIdeal.τ).loc Cert.DFfnActIdeal.main_v16_3)),
      θ_run (Cert.DFfnActIdeal.defs (F := Ideal)) (onTc (τ := Cert.DFfnActIdeal.τ) (Cert.DFfnActIdeal.main (F := Ideal))) ⟨m, fun _ => 0, g⟩ (fun r => ∀ c : Dev Cert.DFfnActIdeal.nD,
          r.2.mem ((c.tc : Thread Cert.DFfnActIdeal.nD Cert.DFfnActIdeal.τ).loc Cert.DFfnActIdeal.main_v16_0) = v0 c
          ∧ r.2.mem ((c.tc : Thread Cert.DFfnActIdeal.nD Cert.DFfnActIdeal.τ).loc Cert.DFfnActIdeal.main_v16_1) = v1 c
          ∧ r.2.mem ((c.tc : Thread Cert.DFfnActIdeal.nD Cert.DFfnActIdeal.τ).loc Cert.DFfnActIdeal.main_v16_2) = v2 c
          ∧ r.2.mem ((c.tc : Thread Cert.DFfnActIdeal.nD Cert.DFfnActIdeal.τ).loc Cert.DFfnActIdeal.main_v16_3) = v3 c
          ∧ r.2.mem ((c.tc : Thread Cert.DFfnActIdeal.nD Cert.DFfnActIdeal.τ).loc Cert.DFfnActIdeal.main_arg0) = m ((c.tc : Thread Cert.DFfnActIdeal.nD Cert.DFfnActIdeal.τ).loc Cert.DFfnActIdeal.main_arg0)
          ∧ r.2.mem ((c.tc : Thread Cert.DFfnActIdeal.nD Cert.DFfnActIdeal.τ).loc Cert.DFfnActIdeal.main_arg1) = m ((c.tc : Thread Cert.DFfnActIdeal.nD Cert.DFfnActIdeal.τ).loc Cert.DFfnActIdeal.main_arg1)
          ∧ r.2.mem ((c.tc : Thread Cert.DFfnActIdeal.nD Cert.DFfnActIdeal.τ).loc Cert.DFfnActIdeal.main_arg2) = m ((c.tc : Thread Cert.DFfnActIdeal.nD Cert.DFfnActIdeal.τ).loc Cert.DFfnActIdeal.main_arg2)
          ∧ r.2.mem ((c.tc : Thread Cert.DFfnActIdeal.nD Cert.DFfnActIdeal.τ).loc Cert.DFfnActIdeal.main_arg3) = m ((c.tc : Thread Cert.DFfnActIdeal.nD Cert.DFfnActIdeal.τ).loc Cert.DFfnActIdeal.main_arg3)
          ∧ r.2.mem ((c.tc : Thread Cert.DFfnActIdeal.nD Cert.DFfnActIdeal.τ).loc Cert.DFfnActIdeal.main_arg4) = m ((c.tc : Thread Cert.DFfnActIdeal.nD Cert.DFfnActIdeal.τ).loc Cert.DFfnActIdeal.main_arg4))
      ∧ θ_run (Cert.DFfnActReferenceIdeal.defs (F := Ideal)) (onTc (τ := Cert.DFfnActReferenceIdeal.τ) (Cert.DFfnActReferenceIdeal.main (F := Ideal))) ⟨m', fun _ => 0, g'⟩ (fun r => ∀ c : Dev Cert.DFfnActReferenceIdeal.nD,
          r.2.mem ((c.tc : Thread Cert.DFfnActReferenceIdeal.nD Cert.DFfnActReferenceIdeal.τ).loc Cert.DFfnActReferenceIdeal.main_v47) = v0 c
          ∧ r.2.mem ((c.tc : Thread Cert.DFfnActReferenceIdeal.nD Cert.DFfnActReferenceIdeal.τ).loc Cert.DFfnActReferenceIdeal.main_v51) = v1 c
          ∧ r.2.mem ((c.tc : Thread Cert.DFfnActReferenceIdeal.nD Cert.DFfnActReferenceIdeal.τ).loc Cert.DFfnActReferenceIdeal.main_v52) = v2 c
          ∧ r.2.mem ((c.tc : Thread Cert.DFfnActReferenceIdeal.nD Cert.DFfnActReferenceIdeal.τ).loc Cert.DFfnActReferenceIdeal.main_v44) = v3 c
          ∧ r.2.mem ((c.tc : Thread Cert.DFfnActReferenceIdeal.nD Cert.DFfnActReferenceIdeal.τ).loc Cert.DFfnActReferenceIdeal.main_arg0) = m' ((c.tc : Thread Cert.DFfnActReferenceIdeal.nD Cert.DFfnActReferenceIdeal.τ).loc Cert.DFfnActReferenceIdeal.main_arg0)
          ∧ r.2.mem ((c.tc : Thread Cert.DFfnActReferenceIdeal.nD Cert.DFfnActReferenceIdeal.τ).loc Cert.DFfnActReferenceIdeal.main_arg1) = m' ((c.tc : Thread Cert.DFfnActReferenceIdeal.nD Cert.DFfnActReferenceIdeal.τ).loc Cert.DFfnActReferenceIdeal.main_arg1)
          ∧ r.2.mem ((c.tc : Thread Cert.DFfnActReferenceIdeal.nD Cert.DFfnActReferenceIdeal.τ).loc Cert.DFfnActReferenceIdeal.main_arg2) = m' ((c.tc : Thread Cert.DFfnActReferenceIdeal.nD Cert.DFfnActReferenceIdeal.τ).loc Cert.DFfnActReferenceIdeal.main_arg2)
          ∧ r.2.mem ((c.tc : Thread Cert.DFfnActReferenceIdeal.nD Cert.DFfnActReferenceIdeal.τ).loc Cert.DFfnActReferenceIdeal.main_arg3) = m' ((c.tc : Thread Cert.DFfnActReferenceIdeal.nD Cert.DFfnActReferenceIdeal.τ).loc Cert.DFfnActReferenceIdeal.main_arg3)
          ∧ r.2.mem ((c.tc : Thread Cert.DFfnActReferenceIdeal.nD Cert.DFfnActReferenceIdeal.τ).loc Cert.DFfnActReferenceIdeal.main_arg4) = m' ((c.tc : Thread Cert.DFfnActReferenceIdeal.nD Cert.DFfnActReferenceIdeal.τ).loc Cert.DFfnActReferenceIdeal.main_arg4))

def preserves_AdamwSmall_AdamwSmallIdeal : Prop :=
  True

def algebraic_AdamwSmallIdeal_AdamwSmallReferenceIdeal [hAdamwSmallIdeal : Cert.AdamwSmallIdeal.Facts] [hAdamwSmallReferenceIdeal : Cert.AdamwSmallReferenceIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallReferenceIdeal.nD Cert.AdamwSmallReferenceIdeal.τ Cert.AdamwSmallReferenceIdeal.sig) → Buf (Elt Ideal) ℓ) (g' : Dev Cert.AdamwSmallReferenceIdeal.nD → PrngReg), Pre_AdamwSmallIdeal m →
    (∀ c : Dev Cert.AdamwSmallIdeal.nD,
      m' ((c.tc : Thread Cert.AdamwSmallReferenceIdeal.nD Cert.AdamwSmallReferenceIdeal.τ).loc Cert.AdamwSmallReferenceIdeal.main_arg0) = m ((c.tc : Thread Cert.AdamwSmallIdeal.nD Cert.AdamwSmallIdeal.τ).loc Cert.AdamwSmallIdeal.main_arg0)
      ∧ m' ((c.tc : Thread Cert.AdamwSmallReferenceIdeal.nD Cert.AdamwSmallReferenceIdeal.τ).loc Cert.AdamwSmallReferenceIdeal.main_arg1) = m ((c.tc : Thread Cert.AdamwSmallIdeal.nD Cert.AdamwSmallIdeal.τ).loc Cert.AdamwSmallIdeal.main_arg1)
      ∧ m' ((c.tc : Thread Cert.AdamwSmallReferenceIdeal.nD Cert.AdamwSmallReferenceIdeal.τ).loc Cert.AdamwSmallReferenceIdeal.main_arg2) = m ((c.tc : Thread Cert.AdamwSmallIdeal.nD Cert.AdamwSmallIdeal.τ).loc Cert.AdamwSmallIdeal.main_arg2)
      ∧ m' ((c.tc : Thread Cert.AdamwSmallReferenceIdeal.nD Cert.AdamwSmallReferenceIdeal.τ).loc Cert.AdamwSmallReferenceIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallReferenceIdeal.defs (F := Ideal)) (onTc (τ := Cert.AdamwSmallReferenceIdeal.τ) (Cert.AdamwSmallReferenceIdeal.main (F := Ideal))) ⟨m', fun _ => 0, g'⟩ (fun r => ∀ c : Dev Cert.AdamwSmallReferenceIdeal.nD,
          r.2.mem ((c.tc : Thread Cert.AdamwSmallReferenceIdeal.nD Cert.AdamwSmallReferenceIdeal.τ).loc Cert.AdamwSmallReferenceIdeal.main_v23) = v0 c
          ∧ r.2.mem ((c.tc : Thread Cert.AdamwSmallReferenceIdeal.nD Cert.AdamwSmallReferenceIdeal.τ).loc Cert.AdamwSmallReferenceIdeal.main_v4) = v1 c
          ∧ r.2.mem ((c.tc : Thread Cert.AdamwSmallReferenceIdeal.nD Cert.AdamwSmallReferenceIdeal.τ).loc Cert.AdamwSmallReferenceIdeal.main_v10) = v2 c
          ∧ r.2.mem ((c.tc : Thread Cert.AdamwSmallReferenceIdeal.nD Cert.AdamwSmallReferenceIdeal.τ).loc Cert.AdamwSmallReferenceIdeal.main_arg0) = m' ((c.tc : Thread Cert.AdamwSmallReferenceIdeal.nD Cert.AdamwSmallReferenceIdeal.τ).loc Cert.AdamwSmallReferenceIdeal.main_arg0)
          ∧ r.2.mem ((c.tc : Thread Cert.AdamwSmallReferenceIdeal.nD Cert.AdamwSmallReferenceIdeal.τ).loc Cert.AdamwSmallReferenceIdeal.main_arg1) = m' ((c.tc : Thread Cert.AdamwSmallReferenceIdeal.nD Cert.AdamwSmallReferenceIdeal.τ).loc Cert.AdamwSmallReferenceIdeal.main_arg1)
          ∧ r.2.mem ((c.tc : Thread Cert.AdamwSmallReferenceIdeal.nD Cert.AdamwSmallReferenceIdeal.τ).loc Cert.AdamwSmallReferenceIdeal.main_arg2) = m' ((c.tc : Thread Cert.AdamwSmallReferenceIdeal.nD Cert.AdamwSmallReferenceIdeal.τ).loc Cert.AdamwSmallReferenceIdeal.main_arg2)
          ∧ r.2.mem ((c.tc : Thread Cert.AdamwSmallReferenceIdeal.nD Cert.AdamwSmallReferenceIdeal.τ).loc Cert.AdamwSmallReferenceIdeal.main_arg3) = m' ((c.tc : Thread Cert.AdamwSmallReferenceIdeal.nD Cert.AdamwSmallReferenceIdeal.τ).loc Cert.AdamwSmallReferenceIdeal.main_arg3))

def preserves_SumChips_SumChipsIdeal : Prop :=
  True

def algebraic_SumChipsIdeal_SumChipsReferenceIdeal [hSumChipsIdeal : Cert.SumChipsIdeal.Facts] [hSumChipsReferenceIdeal : Cert.SumChipsReferenceIdeal.Facts] : Prop :=
  ∀ (m : (ℓ : Loc Cert.SumChipsIdeal.nD Cert.SumChipsIdeal.τ Cert.SumChipsIdeal.sig) → Buf (Elt Ideal) ℓ) (g : Dev Cert.SumChipsIdeal.nD → PrngReg)
    (m' : (ℓ : Loc Cert.SumChipsReferenceIdeal.nD Cert.SumChipsReferenceIdeal.τ Cert.SumChipsReferenceIdeal.sig) → Buf (Elt Ideal) ℓ) (g' : Dev Cert.SumChipsReferenceIdeal.nD → PrngReg), Pre_SumChipsIdeal m →
    (∀ c : Dev Cert.SumChipsIdeal.nD,
      m' ((c.tc : Thread Cert.SumChipsReferenceIdeal.nD Cert.SumChipsReferenceIdeal.τ).loc Cert.SumChipsReferenceIdeal.main_arg0) = m ((c.tc : Thread Cert.SumChipsIdeal.nD Cert.SumChipsIdeal.τ).loc Cert.SumChipsIdeal.main_arg0)) →
    ∃ (v0 : (c : Dev Cert.SumChipsIdeal.nD) → Buf (Elt Ideal) ((c.tc : Thread Cert.SumChipsIdeal.nD Cert.SumChipsIdeal.τ).loc Cert.SumChipsIdeal.main_v4)),
      θ_run (Cert.SumChipsIdeal.defs (F := Ideal)) (onTc (τ := Cert.SumChipsIdeal.τ) (Cert.SumChipsIdeal.main (F := Ideal))) ⟨m, fun _ => 0, g⟩ (fun r => ∀ c : Dev Cert.SumChipsIdeal.nD,
          r.2.mem ((c.tc : Thread Cert.SumChipsIdeal.nD Cert.SumChipsIdeal.τ).loc Cert.SumChipsIdeal.main_v4) = v0 c
          ∧ r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0))
      ∧ θ_run (Cert.SumChipsReferenceIdeal.defs (F := Ideal)) (onTc (τ := Cert.SumChipsReferenceIdeal.τ) (Cert.SumChipsReferenceIdeal.main (F := Ideal))) ⟨m', fun _ => 0, g'⟩ (fun r => ∀ c : Dev Cert.SumChipsReferenceIdeal.nD,
          r.2.mem ((c.tc : Thread Cert.SumChipsReferenceIdeal.nD Cert.SumChipsReferenceIdeal.τ).loc Cert.SumChipsReferenceIdeal.main_v0) = v0 c
          ∧ r.2.mem ((c.tc : Thread Cert.SumChipsReferenceIdeal.nD Cert.SumChipsReferenceIdeal.τ).loc Cert.SumChipsReferenceIdeal.main_arg0) = m' ((c.tc : Thread Cert.SumChipsReferenceIdeal.nD Cert.SumChipsReferenceIdeal.τ).loc Cert.SumChipsReferenceIdeal.main_arg0))

def preserves_SumDevices_SumDevicesIdeal : Prop :=
  True

def algebraic_SumDevicesIdeal_SumDevicesReferenceIdeal [hSumDevicesIdeal : Cert.SumDevicesIdeal.Facts] [hSumDevicesReferenceIdeal : Cert.SumDevicesReferenceIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg)
    (m' : (ℓ : Loc Cert.SumDevicesReferenceIdeal.nD Cert.SumDevicesReferenceIdeal.τ Cert.SumDevicesReferenceIdeal.sig) → Buf (Elt Ideal) ℓ) (g' : Dev Cert.SumDevicesReferenceIdeal.nD → PrngReg), Pre_SumDevicesIdeal m →
    (∀ c : Dev Cert.SumDevicesIdeal.nD,
      m' ((c.tc : Thread Cert.SumDevicesReferenceIdeal.nD Cert.SumDevicesReferenceIdeal.τ).loc Cert.SumDevicesReferenceIdeal.main_arg0) = m ((c.tc : Thread Cert.SumDevicesIdeal.nD Cert.SumDevicesIdeal.τ).loc Cert.SumDevicesIdeal.main_arg0)) →
    ∃ (v0 : (c : Dev Cert.SumDevicesIdeal.nD) → Buf (Elt Ideal) ((c.tc : Thread Cert.SumDevicesIdeal.nD Cert.SumDevicesIdeal.τ).loc Cert.SumDevicesIdeal.main_v1)),
      θ_run (Cert.SumDevicesIdeal.defs (F := Ideal)) (onTc (τ := Cert.SumDevicesIdeal.τ) (Cert.SumDevicesIdeal.main (F := Ideal))) ⟨m, fun _ => 0, g⟩ (fun r => ∀ c : Dev Cert.SumDevicesIdeal.nD,
          r.2.mem ((c.tc : Thread Cert.SumDevicesIdeal.nD Cert.SumDevicesIdeal.τ).loc Cert.SumDevicesIdeal.main_v1) = v0 c
          ∧ r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ θ_run (Cert.SumDevicesReferenceIdeal.defs (F := Ideal)) (onTc (τ := Cert.SumDevicesReferenceIdeal.τ) (Cert.SumDevicesReferenceIdeal.main (F := Ideal))) ⟨m', fun _ => 0, g'⟩ (fun r => ∀ c : Dev Cert.SumDevicesReferenceIdeal.nD,
          r.2.mem ((c.tc : Thread Cert.SumDevicesReferenceIdeal.nD Cert.SumDevicesReferenceIdeal.τ).loc Cert.SumDevicesReferenceIdeal.main_v1) = v0 c
          ∧ r.2.mem ((c.tc : Thread Cert.SumDevicesReferenceIdeal.nD Cert.SumDevicesReferenceIdeal.τ).loc Cert.SumDevicesReferenceIdeal.main_arg0) = m' ((c.tc : Thread Cert.SumDevicesReferenceIdeal.nD Cert.SumDevicesReferenceIdeal.τ).loc Cert.SumDevicesReferenceIdeal.main_arg0))

def preserves_SumGain_SumGainIdeal : Prop :=
  True

def algebraic_SumGainIdeal_SumGainReferenceIdeal [hSumGainIdeal : Cert.SumGainIdeal.Facts] [hSumGainReferenceIdeal : Cert.SumGainReferenceIdeal.Facts] : Prop :=
  ∀ (m : (ℓ : Loc Cert.SumGainIdeal.nD Cert.SumGainIdeal.τ Cert.SumGainIdeal.sig) → Buf (Elt Ideal) ℓ) (g : Dev Cert.SumGainIdeal.nD → PrngReg)
    (m' : (ℓ : Loc Cert.SumGainReferenceIdeal.nD Cert.SumGainReferenceIdeal.τ Cert.SumGainReferenceIdeal.sig) → Buf (Elt Ideal) ℓ) (g' : Dev Cert.SumGainReferenceIdeal.nD → PrngReg), Pre_SumGainIdeal m →
    (∀ c : Dev Cert.SumGainIdeal.nD,
      m' ((c.tc : Thread Cert.SumGainReferenceIdeal.nD Cert.SumGainReferenceIdeal.τ).loc Cert.SumGainReferenceIdeal.main_arg0) = m ((c.tc : Thread Cert.SumGainIdeal.nD Cert.SumGainIdeal.τ).loc Cert.SumGainIdeal.main_arg0)) →
    ∃ (v0 : (c : Dev Cert.SumGainIdeal.nD) → Buf (Elt Ideal) ((c.tc : Thread Cert.SumGainIdeal.nD Cert.SumGainIdeal.τ).loc Cert.SumGainIdeal.main_v1)),
      θ_run (Cert.SumGainIdeal.defs (F := Ideal)) (onTc (τ := Cert.SumGainIdeal.τ) (Cert.SumGainIdeal.main (F := Ideal))) ⟨m, fun _ => 0, g⟩ (fun r => ∀ c : Dev Cert.SumGainIdeal.nD,
          r.2.mem ((c.tc : Thread Cert.SumGainIdeal.nD Cert.SumGainIdeal.τ).loc Cert.SumGainIdeal.main_v1) = v0 c
          ∧ r.2.mem ((c.tc : Thread Cert.SumGainIdeal.nD Cert.SumGainIdeal.τ).loc Cert.SumGainIdeal.main_arg0) = m ((c.tc : Thread Cert.SumGainIdeal.nD Cert.SumGainIdeal.τ).loc Cert.SumGainIdeal.main_arg0))
      ∧ θ_run (Cert.SumGainReferenceIdeal.defs (F := Ideal)) (onTc (τ := Cert.SumGainReferenceIdeal.τ) (Cert.SumGainReferenceIdeal.main (F := Ideal))) ⟨m', fun _ => 0, g'⟩ (fun r => ∀ c : Dev Cert.SumGainReferenceIdeal.nD,
          r.2.mem ((c.tc : Thread Cert.SumGainReferenceIdeal.nD Cert.SumGainReferenceIdeal.τ).loc Cert.SumGainReferenceIdeal.main_v1) = v0 c
          ∧ r.2.mem ((c.tc : Thread Cert.SumGainReferenceIdeal.nD Cert.SumGainReferenceIdeal.τ).loc Cert.SumGainReferenceIdeal.main_arg0) = m' ((c.tc : Thread Cert.SumGainReferenceIdeal.nD Cert.SumGainReferenceIdeal.τ).loc Cert.SumGainReferenceIdeal.main_arg0))

def preserves_SumTaps_SumTapsIdeal : Prop :=
  True

def algebraic_SumTapsIdeal_SumTapsReferenceIdeal [hSumTapsIdeal : Cert.SumTapsIdeal.Facts] [hSumTapsReferenceIdeal : Cert.SumTapsReferenceIdeal.Facts] : Prop :=
  ∀ (m : (ℓ : Loc Cert.SumTapsIdeal.nD Cert.SumTapsIdeal.τ Cert.SumTapsIdeal.sig) → Buf (Elt Ideal) ℓ) (g : Dev Cert.SumTapsIdeal.nD → PrngReg)
    (m' : (ℓ : Loc Cert.SumTapsReferenceIdeal.nD Cert.SumTapsReferenceIdeal.τ Cert.SumTapsReferenceIdeal.sig) → Buf (Elt Ideal) ℓ) (g' : Dev Cert.SumTapsReferenceIdeal.nD → PrngReg), Pre_SumTapsIdeal m →
    (∀ c : Dev Cert.SumTapsIdeal.nD,
      m' ((c.tc : Thread Cert.SumTapsReferenceIdeal.nD Cert.SumTapsReferenceIdeal.τ).loc Cert.SumTapsReferenceIdeal.main_arg0) = m ((c.tc : Thread Cert.SumTapsIdeal.nD Cert.SumTapsIdeal.τ).loc Cert.SumTapsIdeal.main_arg0)) →
    ∃ (v0 : (c : Dev Cert.SumTapsIdeal.nD) → Buf (Elt Ideal) ((c.tc : Thread Cert.SumTapsIdeal.nD Cert.SumTapsIdeal.τ).loc Cert.SumTapsIdeal.main_v1)),
      θ_run (Cert.SumTapsIdeal.defs (F := Ideal)) (onTc (τ := Cert.SumTapsIdeal.τ) (Cert.SumTapsIdeal.main (F := Ideal))) ⟨m, fun _ => 0, g⟩ (fun r => ∀ c : Dev Cert.SumTapsIdeal.nD,
          r.2.mem ((c.tc : Thread Cert.SumTapsIdeal.nD Cert.SumTapsIdeal.τ).loc Cert.SumTapsIdeal.main_v1) = v0 c
          ∧ r.2.mem ((c.tc : Thread Cert.SumTapsIdeal.nD Cert.SumTapsIdeal.τ).loc Cert.SumTapsIdeal.main_arg0) = m ((c.tc : Thread Cert.SumTapsIdeal.nD Cert.SumTapsIdeal.τ).loc Cert.SumTapsIdeal.main_arg0))
      ∧ θ_run (Cert.SumTapsReferenceIdeal.defs (F := Ideal)) (onTc (τ := Cert.SumTapsReferenceIdeal.τ) (Cert.SumTapsReferenceIdeal.main (F := Ideal))) ⟨m', fun _ => 0, g'⟩ (fun r => ∀ c : Dev Cert.SumTapsReferenceIdeal.nD,
          r.2.mem ((c.tc : Thread Cert.SumTapsReferenceIdeal.nD Cert.SumTapsReferenceIdeal.τ).loc Cert.SumTapsReferenceIdeal.main_v1) = v0 c
          ∧ r.2.mem ((c.tc : Thread Cert.SumTapsReferenceIdeal.nD Cert.SumTapsReferenceIdeal.τ).loc Cert.SumTapsReferenceIdeal.main_arg0) = m' ((c.tc : Thread Cert.SumTapsReferenceIdeal.nD Cert.SumTapsReferenceIdeal.τ).loc Cert.SumTapsReferenceIdeal.main_arg0))

def preserves_SumBias_SumBiasIdeal : Prop :=
  True

def algebraic_SumBiasIdeal_SumBiasReferenceIdeal [hSumBiasIdeal : Cert.SumBiasIdeal.Facts] [hSumBiasReferenceIdeal : Cert.SumBiasReferenceIdeal.Facts] : Prop :=
  ∀ (m : (ℓ : Loc Cert.SumBiasIdeal.nD Cert.SumBiasIdeal.τ Cert.SumBiasIdeal.sig) → Buf (Elt Ideal) ℓ) (g : Dev Cert.SumBiasIdeal.nD → PrngReg)
    (m' : (ℓ : Loc Cert.SumBiasReferenceIdeal.nD Cert.SumBiasReferenceIdeal.τ Cert.SumBiasReferenceIdeal.sig) → Buf (Elt Ideal) ℓ) (g' : Dev Cert.SumBiasReferenceIdeal.nD → PrngReg), Pre_SumBiasIdeal m →
    (∀ c : Dev Cert.SumBiasIdeal.nD,
      m' ((c.tc : Thread Cert.SumBiasReferenceIdeal.nD Cert.SumBiasReferenceIdeal.τ).loc Cert.SumBiasReferenceIdeal.main_arg0) = m ((c.tc : Thread Cert.SumBiasIdeal.nD Cert.SumBiasIdeal.τ).loc Cert.SumBiasIdeal.main_arg0)) →
    ∃ (v0 : (c : Dev Cert.SumBiasIdeal.nD) → Buf (Elt Ideal) ((c.tc : Thread Cert.SumBiasIdeal.nD Cert.SumBiasIdeal.τ).loc Cert.SumBiasIdeal.main_v1)),
      θ_run (Cert.SumBiasIdeal.defs (F := Ideal)) (onTc (τ := Cert.SumBiasIdeal.τ) (Cert.SumBiasIdeal.main (F := Ideal))) ⟨m, fun _ => 0, g⟩ (fun r => ∀ c : Dev Cert.SumBiasIdeal.nD,
          r.2.mem ((c.tc : Thread Cert.SumBiasIdeal.nD Cert.SumBiasIdeal.τ).loc Cert.SumBiasIdeal.main_v1) = v0 c
          ∧ r.2.mem ((c.tc : Thread Cert.SumBiasIdeal.nD Cert.SumBiasIdeal.τ).loc Cert.SumBiasIdeal.main_arg0) = m ((c.tc : Thread Cert.SumBiasIdeal.nD Cert.SumBiasIdeal.τ).loc Cert.SumBiasIdeal.main_arg0))
      ∧ θ_run (Cert.SumBiasReferenceIdeal.defs (F := Ideal)) (onTc (τ := Cert.SumBiasReferenceIdeal.τ) (Cert.SumBiasReferenceIdeal.main (F := Ideal))) ⟨m', fun _ => 0, g'⟩ (fun r => ∀ c : Dev Cert.SumBiasReferenceIdeal.nD,
          r.2.mem ((c.tc : Thread Cert.SumBiasReferenceIdeal.nD Cert.SumBiasReferenceIdeal.τ).loc Cert.SumBiasReferenceIdeal.main_v0) = v0 c
          ∧ r.2.mem ((c.tc : Thread Cert.SumBiasReferenceIdeal.nD Cert.SumBiasReferenceIdeal.τ).loc Cert.SumBiasReferenceIdeal.main_arg0) = m' ((c.tc : Thread Cert.SumBiasReferenceIdeal.nD Cert.SumBiasReferenceIdeal.τ).loc Cert.SumBiasReferenceIdeal.main_arg0))

def preserves_SumHeads_SumHeadsIdeal : Prop :=
  True

def algebraic_SumHeadsIdeal_SumHeadsReferenceIdeal [hSumHeadsIdeal : Cert.SumHeadsIdeal.Facts] [hSumHeadsReferenceIdeal : Cert.SumHeadsReferenceIdeal.Facts] : Prop :=
  ∀ (m : (ℓ : Loc Cert.SumHeadsIdeal.nD Cert.SumHeadsIdeal.τ Cert.SumHeadsIdeal.sig) → Buf (Elt Ideal) ℓ) (g : Dev Cert.SumHeadsIdeal.nD → PrngReg)
    (m' : (ℓ : Loc Cert.SumHeadsReferenceIdeal.nD Cert.SumHeadsReferenceIdeal.τ Cert.SumHeadsReferenceIdeal.sig) → Buf (Elt Ideal) ℓ) (g' : Dev Cert.SumHeadsReferenceIdeal.nD → PrngReg), Pre_SumHeadsIdeal m →
    (∀ c : Dev Cert.SumHeadsIdeal.nD,
      m' ((c.tc : Thread Cert.SumHeadsReferenceIdeal.nD Cert.SumHeadsReferenceIdeal.τ).loc Cert.SumHeadsReferenceIdeal.main_arg0) = m ((c.tc : Thread Cert.SumHeadsIdeal.nD Cert.SumHeadsIdeal.τ).loc Cert.SumHeadsIdeal.main_arg0)) →
    ∃ (v0 : (c : Dev Cert.SumHeadsIdeal.nD) → Buf (Elt Ideal) ((c.tc : Thread Cert.SumHeadsIdeal.nD Cert.SumHeadsIdeal.τ).loc Cert.SumHeadsIdeal.main_v0)),
      θ_run (Cert.SumHeadsIdeal.defs (F := Ideal)) (onTc (τ := Cert.SumHeadsIdeal.τ) (Cert.SumHeadsIdeal.main (F := Ideal))) ⟨m, fun _ => 0, g⟩ (fun r => ∀ c : Dev Cert.SumHeadsIdeal.nD,
          r.2.mem ((c.tc : Thread Cert.SumHeadsIdeal.nD Cert.SumHeadsIdeal.τ).loc Cert.SumHeadsIdeal.main_v0) = v0 c
          ∧ r.2.mem ((c.tc : Thread Cert.SumHeadsIdeal.nD Cert.SumHeadsIdeal.τ).loc Cert.SumHeadsIdeal.main_arg0) = m ((c.tc : Thread Cert.SumHeadsIdeal.nD Cert.SumHeadsIdeal.τ).loc Cert.SumHeadsIdeal.main_arg0))
      ∧ θ_run (Cert.SumHeadsReferenceIdeal.defs (F := Ideal)) (onTc (τ := Cert.SumHeadsReferenceIdeal.τ) (Cert.SumHeadsReferenceIdeal.main (F := Ideal))) ⟨m', fun _ => 0, g'⟩ (fun r => ∀ c : Dev Cert.SumHeadsReferenceIdeal.nD,
          r.2.mem ((c.tc : Thread Cert.SumHeadsReferenceIdeal.nD Cert.SumHeadsReferenceIdeal.τ).loc Cert.SumHeadsReferenceIdeal.main_v0) = v0 c
          ∧ r.2.mem ((c.tc : Thread Cert.SumHeadsReferenceIdeal.nD Cert.SumHeadsReferenceIdeal.τ).loc Cert.SumHeadsReferenceIdeal.main_arg0) = m' ((c.tc : Thread Cert.SumHeadsReferenceIdeal.nD Cert.SumHeadsReferenceIdeal.τ).loc Cert.SumHeadsReferenceIdeal.main_arg0))

def preserves_SumLoss_SumLossIdeal : Prop :=
  True

def algebraic_SumLossIdeal_SumLossReferenceIdeal [hSumLossIdeal : Cert.SumLossIdeal.Facts] [hSumLossReferenceIdeal : Cert.SumLossReferenceIdeal.Facts] : Prop :=
  ∀ (m : (ℓ : Loc Cert.SumLossIdeal.nD Cert.SumLossIdeal.τ Cert.SumLossIdeal.sig) → Buf (Elt Ideal) ℓ) (g : Dev Cert.SumLossIdeal.nD → PrngReg)
    (m' : (ℓ : Loc Cert.SumLossReferenceIdeal.nD Cert.SumLossReferenceIdeal.τ Cert.SumLossReferenceIdeal.sig) → Buf (Elt Ideal) ℓ) (g' : Dev Cert.SumLossReferenceIdeal.nD → PrngReg), Pre_SumLossIdeal m →
    (∀ c : Dev Cert.SumLossIdeal.nD,
      m' ((c.tc : Thread Cert.SumLossReferenceIdeal.nD Cert.SumLossReferenceIdeal.τ).loc Cert.SumLossReferenceIdeal.main_arg0) = m ((c.tc : Thread Cert.SumLossIdeal.nD Cert.SumLossIdeal.τ).loc Cert.SumLossIdeal.main_arg0)) →
    ∃ (v0 : (c : Dev Cert.SumLossIdeal.nD) → Buf (Elt Ideal) ((c.tc : Thread Cert.SumLossIdeal.nD Cert.SumLossIdeal.τ).loc Cert.SumLossIdeal.main_v1)),
      θ_run (Cert.SumLossIdeal.defs (F := Ideal)) (onTc (τ := Cert.SumLossIdeal.τ) (Cert.SumLossIdeal.main (F := Ideal))) ⟨m, fun _ => 0, g⟩ (fun r => ∀ c : Dev Cert.SumLossIdeal.nD,
          r.2.mem ((c.tc : Thread Cert.SumLossIdeal.nD Cert.SumLossIdeal.τ).loc Cert.SumLossIdeal.main_v1) = v0 c
          ∧ r.2.mem ((c.tc : Thread Cert.SumLossIdeal.nD Cert.SumLossIdeal.τ).loc Cert.SumLossIdeal.main_arg0) = m ((c.tc : Thread Cert.SumLossIdeal.nD Cert.SumLossIdeal.τ).loc Cert.SumLossIdeal.main_arg0))
      ∧ θ_run (Cert.SumLossReferenceIdeal.defs (F := Ideal)) (onTc (τ := Cert.SumLossReferenceIdeal.τ) (Cert.SumLossReferenceIdeal.main (F := Ideal))) ⟨m', fun _ => 0, g'⟩ (fun r => ∀ c : Dev Cert.SumLossReferenceIdeal.nD,
          r.2.mem ((c.tc : Thread Cert.SumLossReferenceIdeal.nD Cert.SumLossReferenceIdeal.τ).loc Cert.SumLossReferenceIdeal.main_v2) = v0 c
          ∧ r.2.mem ((c.tc : Thread Cert.SumLossReferenceIdeal.nD Cert.SumLossReferenceIdeal.τ).loc Cert.SumLossReferenceIdeal.main_arg0) = m' ((c.tc : Thread Cert.SumLossReferenceIdeal.nD Cert.SumLossReferenceIdeal.τ).loc Cert.SumLossReferenceIdeal.main_arg0))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateReferenceIdeal : Cert.GateReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hDAct : Cert.DAct.Facts) (hDActIdeal : Cert.DActIdeal.Facts) (hDActReferenceIdeal : Cert.DActReferenceIdeal.Facts) (hDwDown : Cert.DwDown.Facts) (hDwDownIdeal : Cert.DwDownIdeal.Facts) (hDwDownReferenceIdeal : Cert.DwDownReferenceIdeal.Facts) (hDhGate : Cert.DhGate.Facts) (hDhGateIdeal : Cert.DhGateIdeal.Facts) (hDhGateReferenceIdeal : Cert.DhGateReferenceIdeal.Facts) (hDhUp : Cert.DhUp.Facts) (hDhUpIdeal : Cert.DhUpIdeal.Facts) (hDhUpReferenceIdeal : Cert.DhUpReferenceIdeal.Facts) (hDwGate : Cert.DwGate.Facts) (hDwGateIdeal : Cert.DwGateIdeal.Facts) (hDwGateReferenceIdeal : Cert.DwGateReferenceIdeal.Facts) (hDwUp : Cert.DwUp.Facts) (hDwUpIdeal : Cert.DwUpIdeal.Facts) (hDwUpReferenceIdeal : Cert.DwUpReferenceIdeal.Facts) (hProjIn : Cert.ProjIn.Facts) (hProjInIdeal : Cert.ProjInIdeal.Facts) (hProjInReferenceIdeal : Cert.ProjInReferenceIdeal.Facts) (hDhIn : Cert.DhIn.Facts) (hDhInIdeal : Cert.DhInIdeal.Facts) (hDhInReferenceIdeal : Cert.DhInReferenceIdeal.Facts) (hDwIn : Cert.DwIn.Facts) (hDwInIdeal : Cert.DwInIdeal.Facts) (hDwInReferenceIdeal : Cert.DwInReferenceIdeal.Facts) (hProjOut : Cert.ProjOut.Facts) (hProjOutIdeal : Cert.ProjOutIdeal.Facts) (hProjOutReferenceIdeal : Cert.ProjOutReferenceIdeal.Facts) (hDY : Cert.DY.Facts) (hDYIdeal : Cert.DYIdeal.Facts) (hDYReferenceIdeal : Cert.DYReferenceIdeal.Facts) (hDwOut : Cert.DwOut.Facts) (hDwOutIdeal : Cert.DwOutIdeal.Facts) (hDwOutReferenceIdeal : Cert.DwOutReferenceIdeal.Facts) (hProjQ : Cert.ProjQ.Facts) (hProjQIdeal : Cert.ProjQIdeal.Facts) (hProjQReferenceIdeal : Cert.ProjQReferenceIdeal.Facts) (hDQn : Cert.DQn.Facts) (hDQnIdeal : Cert.DQnIdeal.Facts) (hDQnReferenceIdeal : Cert.DQnReferenceIdeal.Facts) (hDwUq : Cert.DwUq.Facts) (hDwUqIdeal : Cert.DwUqIdeal.Facts) (hDwUqReferenceIdeal : Cert.DwUqReferenceIdeal.Facts) (hProjKv : Cert.ProjKv.Facts) (hProjKvIdeal : Cert.ProjKvIdeal.Facts) (hProjKvReferenceIdeal : Cert.ProjKvReferenceIdeal.Facts) (hDKvn : Cert.DKvn.Facts) (hDKvnIdeal : Cert.DKvnIdeal.Facts) (hDKvnReferenceIdeal : Cert.DKvnReferenceIdeal.Facts) (hDwUkv : Cert.DwUkv.Facts) (hDwUkvIdeal : Cert.DwUkvIdeal.Facts) (hDwUkvReferenceIdeal : Cert.DwUkvReferenceIdeal.Facts) (hRmsAttn : Cert.RmsAttn.Facts) (hRmsAttnIdeal : Cert.RmsAttnIdeal.Facts) (hRmsAttnReferenceIdeal : Cert.RmsAttnReferenceIdeal.Facts) (hRmsFfn : Cert.RmsFfn.Facts) (hRmsFfnIdeal : Cert.RmsFfnIdeal.Facts) (hRmsFfnReferenceIdeal : Cert.RmsFfnReferenceIdeal.Facts) (hDRmsAttn : Cert.DRmsAttn.Facts) (hDRmsAttnIdeal : Cert.DRmsAttnIdeal.Facts) (hDRmsAttnReferenceIdeal : Cert.DRmsAttnReferenceIdeal.Facts) (hDRmsFfn : Cert.DRmsFfn.Facts) (hDRmsFfnIdeal : Cert.DRmsFfnIdeal.Facts) (hDRmsFfnReferenceIdeal : Cert.DRmsFfnReferenceIdeal.Facts) (hLoss : Cert.Loss.Facts) (hLossIdeal : Cert.LossIdeal.Facts) (hLossReferenceIdeal : Cert.LossReferenceIdeal.Facts) (hFfnAct : Cert.FfnAct.Facts) (hFfnActIdeal : Cert.FfnActIdeal.Facts) (hFfnActReferenceIdeal : Cert.FfnActReferenceIdeal.Facts) (hDConv : Cert.DConv.Facts) (hDConvIdeal : Cert.DConvIdeal.Facts) (hDConvReferenceIdeal : Cert.DConvReferenceIdeal.Facts) (hAdamwIn : Cert.AdamwIn.Facts) (hAdamwInIdeal : Cert.AdamwInIdeal.Facts) (hAdamwInReferenceIdeal : Cert.AdamwInReferenceIdeal.Facts) (hAdamwUq : Cert.AdamwUq.Facts) (hAdamwUqIdeal : Cert.AdamwUqIdeal.Facts) (hAdamwUqReferenceIdeal : Cert.AdamwUqReferenceIdeal.Facts) (hAdamwUkv : Cert.AdamwUkv.Facts) (hAdamwUkvIdeal : Cert.AdamwUkvIdeal.Facts) (hAdamwUkvReferenceIdeal : Cert.AdamwUkvReferenceIdeal.Facts) (hAdamwOut : Cert.AdamwOut.Facts) (hAdamwOutIdeal : Cert.AdamwOutIdeal.Facts) (hAdamwOutReferenceIdeal : Cert.AdamwOutReferenceIdeal.Facts) (hAdamwGate : Cert.AdamwGate.Facts) (hAdamwGateIdeal : Cert.AdamwGateIdeal.Facts) (hAdamwGateReferenceIdeal : Cert.AdamwGateReferenceIdeal.Facts) (hAdamwUp : Cert.AdamwUp.Facts) (hAdamwUpIdeal : Cert.AdamwUpIdeal.Facts) (hAdamwUpReferenceIdeal : Cert.AdamwUpReferenceIdeal.Facts) (hAdamwDown : Cert.AdamwDown.Facts) (hAdamwDownIdeal : Cert.AdamwDownIdeal.Facts) (hAdamwDownReferenceIdeal : Cert.AdamwDownReferenceIdeal.Facts) (hDFfnAct : Cert.DFfnAct.Facts) (hDFfnActIdeal : Cert.DFfnActIdeal.Facts) (hDFfnActReferenceIdeal : Cert.DFfnActReferenceIdeal.Facts) (hAdamwSmall : Cert.AdamwSmall.Facts) (hAdamwSmallIdeal : Cert.AdamwSmallIdeal.Facts) (hAdamwSmallReferenceIdeal : Cert.AdamwSmallReferenceIdeal.Facts) (hSumChips : Cert.SumChips.Facts) (hSumChipsIdeal : Cert.SumChipsIdeal.Facts) (hSumChipsReferenceIdeal : Cert.SumChipsReferenceIdeal.Facts) (hSumDevices : Cert.SumDevices.Facts) (hSumDevicesIdeal : Cert.SumDevicesIdeal.Facts) (hSumDevicesReferenceIdeal : Cert.SumDevicesReferenceIdeal.Facts) (hSumGain : Cert.SumGain.Facts) (hSumGainIdeal : Cert.SumGainIdeal.Facts) (hSumGainReferenceIdeal : Cert.SumGainReferenceIdeal.Facts) (hSumTaps : Cert.SumTaps.Facts) (hSumTapsIdeal : Cert.SumTapsIdeal.Facts) (hSumTapsReferenceIdeal : Cert.SumTapsReferenceIdeal.Facts) (hSumBias : Cert.SumBias.Facts) (hSumBiasIdeal : Cert.SumBiasIdeal.Facts) (hSumBiasReferenceIdeal : Cert.SumBiasReferenceIdeal.Facts) (hSumHeads : Cert.SumHeads.Facts) (hSumHeadsIdeal : Cert.SumHeadsIdeal.Facts) (hSumHeadsReferenceIdeal : Cert.SumHeadsReferenceIdeal.Facts) (hSumLoss : Cert.SumLoss.Facts) (hSumLossIdeal : Cert.SumLossIdeal.Facts) (hSumLossReferenceIdeal : Cert.SumLossReferenceIdeal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gate (hGate := hGate)
    ∧ quiescent_GateIdeal (hGateIdeal := hGateIdeal)
    ∧ quiescent_GateReferenceIdeal (hGateReferenceIdeal := hGateReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_DAct (hDAct := hDAct)
    ∧ quiescent_DActIdeal (hDActIdeal := hDActIdeal)
    ∧ quiescent_DActReferenceIdeal (hDActReferenceIdeal := hDActReferenceIdeal)
    ∧ quiescent_DwDown (hDwDown := hDwDown)
    ∧ quiescent_DwDownIdeal (hDwDownIdeal := hDwDownIdeal)
    ∧ quiescent_DwDownReferenceIdeal (hDwDownReferenceIdeal := hDwDownReferenceIdeal)
    ∧ quiescent_DhGate (hDhGate := hDhGate)
    ∧ quiescent_DhGateIdeal (hDhGateIdeal := hDhGateIdeal)
    ∧ quiescent_DhGateReferenceIdeal (hDhGateReferenceIdeal := hDhGateReferenceIdeal)
    ∧ quiescent_DhUp (hDhUp := hDhUp)
    ∧ quiescent_DhUpIdeal (hDhUpIdeal := hDhUpIdeal)
    ∧ quiescent_DhUpReferenceIdeal (hDhUpReferenceIdeal := hDhUpReferenceIdeal)
    ∧ quiescent_DwGate (hDwGate := hDwGate)
    ∧ quiescent_DwGateIdeal (hDwGateIdeal := hDwGateIdeal)
    ∧ quiescent_DwGateReferenceIdeal (hDwGateReferenceIdeal := hDwGateReferenceIdeal)
    ∧ quiescent_DwUp (hDwUp := hDwUp)
    ∧ quiescent_DwUpIdeal (hDwUpIdeal := hDwUpIdeal)
    ∧ quiescent_DwUpReferenceIdeal (hDwUpReferenceIdeal := hDwUpReferenceIdeal)
    ∧ quiescent_ProjIn (hProjIn := hProjIn)
    ∧ quiescent_ProjInIdeal (hProjInIdeal := hProjInIdeal)
    ∧ quiescent_ProjInReferenceIdeal (hProjInReferenceIdeal := hProjInReferenceIdeal)
    ∧ quiescent_DhIn (hDhIn := hDhIn)
    ∧ quiescent_DhInIdeal (hDhInIdeal := hDhInIdeal)
    ∧ quiescent_DhInReferenceIdeal (hDhInReferenceIdeal := hDhInReferenceIdeal)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_ProjOut (hProjOut := hProjOut)
    ∧ quiescent_ProjOutIdeal (hProjOutIdeal := hProjOutIdeal)
    ∧ quiescent_ProjOutReferenceIdeal (hProjOutReferenceIdeal := hProjOutReferenceIdeal)
    ∧ quiescent_DY (hDY := hDY)
    ∧ quiescent_DYIdeal (hDYIdeal := hDYIdeal)
    ∧ quiescent_DYReferenceIdeal (hDYReferenceIdeal := hDYReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_ProjQ (hProjQ := hProjQ)
    ∧ quiescent_ProjQIdeal (hProjQIdeal := hProjQIdeal)
    ∧ quiescent_ProjQReferenceIdeal (hProjQReferenceIdeal := hProjQReferenceIdeal)
    ∧ quiescent_DQn (hDQn := hDQn)
    ∧ quiescent_DQnIdeal (hDQnIdeal := hDQnIdeal)
    ∧ quiescent_DQnReferenceIdeal (hDQnReferenceIdeal := hDQnReferenceIdeal)
    ∧ quiescent_DwUq (hDwUq := hDwUq)
    ∧ quiescent_DwUqIdeal (hDwUqIdeal := hDwUqIdeal)
    ∧ quiescent_DwUqReferenceIdeal (hDwUqReferenceIdeal := hDwUqReferenceIdeal)
    ∧ quiescent_ProjKv (hProjKv := hProjKv)
    ∧ quiescent_ProjKvIdeal (hProjKvIdeal := hProjKvIdeal)
    ∧ quiescent_ProjKvReferenceIdeal (hProjKvReferenceIdeal := hProjKvReferenceIdeal)
    ∧ quiescent_DKvn (hDKvn := hDKvn)
    ∧ quiescent_DKvnIdeal (hDKvnIdeal := hDKvnIdeal)
    ∧ quiescent_DKvnReferenceIdeal (hDKvnReferenceIdeal := hDKvnReferenceIdeal)
    ∧ quiescent_DwUkv (hDwUkv := hDwUkv)
    ∧ quiescent_DwUkvIdeal (hDwUkvIdeal := hDwUkvIdeal)
    ∧ quiescent_DwUkvReferenceIdeal (hDwUkvReferenceIdeal := hDwUkvReferenceIdeal)
    ∧ quiescent_RmsAttn (hRmsAttn := hRmsAttn)
    ∧ quiescent_RmsAttnIdeal (hRmsAttnIdeal := hRmsAttnIdeal)
    ∧ quiescent_RmsAttnReferenceIdeal (hRmsAttnReferenceIdeal := hRmsAttnReferenceIdeal)
    ∧ quiescent_RmsFfn (hRmsFfn := hRmsFfn)
    ∧ quiescent_RmsFfnIdeal (hRmsFfnIdeal := hRmsFfnIdeal)
    ∧ quiescent_RmsFfnReferenceIdeal (hRmsFfnReferenceIdeal := hRmsFfnReferenceIdeal)
    ∧ quiescent_DRmsAttn (hDRmsAttn := hDRmsAttn)
    ∧ quiescent_DRmsAttnIdeal (hDRmsAttnIdeal := hDRmsAttnIdeal)
    ∧ quiescent_DRmsAttnReferenceIdeal (hDRmsAttnReferenceIdeal := hDRmsAttnReferenceIdeal)
    ∧ quiescent_DRmsFfn (hDRmsFfn := hDRmsFfn)
    ∧ quiescent_DRmsFfnIdeal (hDRmsFfnIdeal := hDRmsFfnIdeal)
    ∧ quiescent_DRmsFfnReferenceIdeal (hDRmsFfnReferenceIdeal := hDRmsFfnReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_FfnAct (hFfnAct := hFfnAct)
    ∧ quiescent_FfnActIdeal (hFfnActIdeal := hFfnActIdeal)
    ∧ quiescent_FfnActReferenceIdeal (hFfnActReferenceIdeal := hFfnActReferenceIdeal)
    ∧ quiescent_DConv (hDConv := hDConv)
    ∧ quiescent_DConvIdeal (hDConvIdeal := hDConvIdeal)
    ∧ quiescent_DConvReferenceIdeal (hDConvReferenceIdeal := hDConvReferenceIdeal)
    ∧ quiescent_AdamwIn (hAdamwIn := hAdamwIn)
    ∧ quiescent_AdamwInIdeal (hAdamwInIdeal := hAdamwInIdeal)
    ∧ quiescent_AdamwInReferenceIdeal (hAdamwInReferenceIdeal := hAdamwInReferenceIdeal)
    ∧ quiescent_AdamwUq (hAdamwUq := hAdamwUq)
    ∧ quiescent_AdamwUqIdeal (hAdamwUqIdeal := hAdamwUqIdeal)
    ∧ quiescent_AdamwUqReferenceIdeal (hAdamwUqReferenceIdeal := hAdamwUqReferenceIdeal)
    ∧ quiescent_AdamwUkv (hAdamwUkv := hAdamwUkv)
    ∧ quiescent_AdamwUkvIdeal (hAdamwUkvIdeal := hAdamwUkvIdeal)
    ∧ quiescent_AdamwUkvReferenceIdeal (hAdamwUkvReferenceIdeal := hAdamwUkvReferenceIdeal)
    ∧ quiescent_AdamwOut (hAdamwOut := hAdamwOut)
    ∧ quiescent_AdamwOutIdeal (hAdamwOutIdeal := hAdamwOutIdeal)
    ∧ quiescent_AdamwOutReferenceIdeal (hAdamwOutReferenceIdeal := hAdamwOutReferenceIdeal)
    ∧ quiescent_AdamwGate (hAdamwGate := hAdamwGate)
    ∧ quiescent_AdamwGateIdeal (hAdamwGateIdeal := hAdamwGateIdeal)
    ∧ quiescent_AdamwGateReferenceIdeal (hAdamwGateReferenceIdeal := hAdamwGateReferenceIdeal)
    ∧ quiescent_AdamwUp (hAdamwUp := hAdamwUp)
    ∧ quiescent_AdamwUpIdeal (hAdamwUpIdeal := hAdamwUpIdeal)
    ∧ quiescent_AdamwUpReferenceIdeal (hAdamwUpReferenceIdeal := hAdamwUpReferenceIdeal)
    ∧ quiescent_AdamwDown (hAdamwDown := hAdamwDown)
    ∧ quiescent_AdamwDownIdeal (hAdamwDownIdeal := hAdamwDownIdeal)
    ∧ quiescent_AdamwDownReferenceIdeal (hAdamwDownReferenceIdeal := hAdamwDownReferenceIdeal)
    ∧ quiescent_DFfnAct (hDFfnAct := hDFfnAct)
    ∧ quiescent_DFfnActIdeal (hDFfnActIdeal := hDFfnActIdeal)
    ∧ quiescent_DFfnActIdeal_pre_finite_ffn (hDFfnActIdeal := hDFfnActIdeal) (hPre_finite_ffn := hPre_finite_ffn)
    ∧ quiescent_DFfnActReferenceIdeal (hDFfnActReferenceIdeal := hDFfnActReferenceIdeal)
    ∧ quiescent_DFfnActReferenceIdeal_pre_finite_ffn (hDFfnActReferenceIdeal := hDFfnActReferenceIdeal) (hPre_finite_ffn := hPre_finite_ffn)
    ∧ quiescent_AdamwSmall (hAdamwSmall := hAdamwSmall)
    ∧ quiescent_AdamwSmallIdeal (hAdamwSmallIdeal := hAdamwSmallIdeal)
    ∧ quiescent_AdamwSmallReferenceIdeal (hAdamwSmallReferenceIdeal := hAdamwSmallReferenceIdeal)
    ∧ quiescent_SumChips (hSumChips := hSumChips)
    ∧ quiescent_SumChipsIdeal (hSumChipsIdeal := hSumChipsIdeal)
    ∧ quiescent_SumChipsReferenceIdeal (hSumChipsReferenceIdeal := hSumChipsReferenceIdeal)
    ∧ quiescent_SumDevices (hSumDevices := hSumDevices)
    ∧ quiescent_SumDevicesIdeal (hSumDevicesIdeal := hSumDevicesIdeal)
    ∧ quiescent_SumDevicesReferenceIdeal (hSumDevicesReferenceIdeal := hSumDevicesReferenceIdeal)
    ∧ quiescent_SumGain (hSumGain := hSumGain)
    ∧ quiescent_SumGainIdeal (hSumGainIdeal := hSumGainIdeal)
    ∧ quiescent_SumGainReferenceIdeal (hSumGainReferenceIdeal := hSumGainReferenceIdeal)
    ∧ quiescent_SumTaps (hSumTaps := hSumTaps)
    ∧ quiescent_SumTapsIdeal (hSumTapsIdeal := hSumTapsIdeal)
    ∧ quiescent_SumTapsReferenceIdeal (hSumTapsReferenceIdeal := hSumTapsReferenceIdeal)
    ∧ quiescent_SumBias (hSumBias := hSumBias)
    ∧ quiescent_SumBiasIdeal (hSumBiasIdeal := hSumBiasIdeal)
    ∧ quiescent_SumBiasReferenceIdeal (hSumBiasReferenceIdeal := hSumBiasReferenceIdeal)
    ∧ quiescent_SumHeads (hSumHeads := hSumHeads)
    ∧ quiescent_SumHeadsIdeal (hSumHeadsIdeal := hSumHeadsIdeal)
    ∧ quiescent_SumHeadsReferenceIdeal (hSumHeadsReferenceIdeal := hSumHeadsReferenceIdeal)
    ∧ quiescent_SumLoss (hSumLoss := hSumLoss)
    ∧ quiescent_SumLossIdeal (hSumLossIdeal := hSumLossIdeal)
    ∧ quiescent_SumLossReferenceIdeal (hSumLossReferenceIdeal := hSumLossReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gate_GateIdeal
    ∧ algebraic_GateIdeal_GateReferenceIdeal (hGateIdeal := hGateIdeal) (hGateReferenceIdeal := hGateReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_DAct_DActIdeal
    ∧ algebraic_DActIdeal_DActReferenceIdeal (hDActIdeal := hDActIdeal) (hDActReferenceIdeal := hDActReferenceIdeal)
    ∧ preserves_DwDown_DwDownIdeal
    ∧ algebraic_DwDownIdeal_DwDownReferenceIdeal (hDwDownIdeal := hDwDownIdeal) (hDwDownReferenceIdeal := hDwDownReferenceIdeal)
    ∧ preserves_DhGate_DhGateIdeal
    ∧ algebraic_DhGateIdeal_DhGateReferenceIdeal (hDhGateIdeal := hDhGateIdeal) (hDhGateReferenceIdeal := hDhGateReferenceIdeal)
    ∧ preserves_DhUp_DhUpIdeal
    ∧ algebraic_DhUpIdeal_DhUpReferenceIdeal (hDhUpIdeal := hDhUpIdeal) (hDhUpReferenceIdeal := hDhUpReferenceIdeal)
    ∧ preserves_DwGate_DwGateIdeal
    ∧ algebraic_DwGateIdeal_DwGateReferenceIdeal (hDwGateIdeal := hDwGateIdeal) (hDwGateReferenceIdeal := hDwGateReferenceIdeal)
    ∧ preserves_DwUp_DwUpIdeal
    ∧ algebraic_DwUpIdeal_DwUpReferenceIdeal (hDwUpIdeal := hDwUpIdeal) (hDwUpReferenceIdeal := hDwUpReferenceIdeal)
    ∧ preserves_ProjIn_ProjInIdeal
    ∧ algebraic_ProjInIdeal_ProjInReferenceIdeal (hProjInIdeal := hProjInIdeal) (hProjInReferenceIdeal := hProjInReferenceIdeal)
    ∧ preserves_DhIn_DhInIdeal
    ∧ algebraic_DhInIdeal_DhInReferenceIdeal (hDhInIdeal := hDhInIdeal) (hDhInReferenceIdeal := hDhInReferenceIdeal)
    ∧ preserves_DwIn_DwInIdeal
    ∧ algebraic_DwInIdeal_DwInReferenceIdeal (hDwInIdeal := hDwInIdeal) (hDwInReferenceIdeal := hDwInReferenceIdeal)
    ∧ preserves_ProjOut_ProjOutIdeal
    ∧ algebraic_ProjOutIdeal_ProjOutReferenceIdeal (hProjOutIdeal := hProjOutIdeal) (hProjOutReferenceIdeal := hProjOutReferenceIdeal)
    ∧ preserves_DY_DYIdeal
    ∧ algebraic_DYIdeal_DYReferenceIdeal (hDYIdeal := hDYIdeal) (hDYReferenceIdeal := hDYReferenceIdeal)
    ∧ preserves_DwOut_DwOutIdeal
    ∧ algebraic_DwOutIdeal_DwOutReferenceIdeal (hDwOutIdeal := hDwOutIdeal) (hDwOutReferenceIdeal := hDwOutReferenceIdeal)
    ∧ preserves_ProjQ_ProjQIdeal
    ∧ algebraic_ProjQIdeal_ProjQReferenceIdeal (hProjQIdeal := hProjQIdeal) (hProjQReferenceIdeal := hProjQReferenceIdeal)
    ∧ preserves_DQn_DQnIdeal
    ∧ algebraic_DQnIdeal_DQnReferenceIdeal (hDQnIdeal := hDQnIdeal) (hDQnReferenceIdeal := hDQnReferenceIdeal)
    ∧ preserves_DwUq_DwUqIdeal
    ∧ algebraic_DwUqIdeal_DwUqReferenceIdeal (hDwUqIdeal := hDwUqIdeal) (hDwUqReferenceIdeal := hDwUqReferenceIdeal)
    ∧ preserves_ProjKv_ProjKvIdeal
    ∧ algebraic_ProjKvIdeal_ProjKvReferenceIdeal (hProjKvIdeal := hProjKvIdeal) (hProjKvReferenceIdeal := hProjKvReferenceIdeal)
    ∧ preserves_DKvn_DKvnIdeal
    ∧ algebraic_DKvnIdeal_DKvnReferenceIdeal (hDKvnIdeal := hDKvnIdeal) (hDKvnReferenceIdeal := hDKvnReferenceIdeal)
    ∧ preserves_DwUkv_DwUkvIdeal
    ∧ algebraic_DwUkvIdeal_DwUkvReferenceIdeal (hDwUkvIdeal := hDwUkvIdeal) (hDwUkvReferenceIdeal := hDwUkvReferenceIdeal)
    ∧ preserves_RmsAttn_RmsAttnIdeal
    ∧ algebraic_RmsAttnIdeal_RmsAttnReferenceIdeal (hRmsAttnIdeal := hRmsAttnIdeal) (hRmsAttnReferenceIdeal := hRmsAttnReferenceIdeal)
    ∧ preserves_RmsFfn_RmsFfnIdeal
    ∧ algebraic_RmsFfnIdeal_RmsFfnReferenceIdeal (hRmsFfnIdeal := hRmsFfnIdeal) (hRmsFfnReferenceIdeal := hRmsFfnReferenceIdeal)
    ∧ preserves_DRmsAttn_DRmsAttnIdeal
    ∧ algebraic_DRmsAttnIdeal_DRmsAttnReferenceIdeal (hDRmsAttnIdeal := hDRmsAttnIdeal) (hDRmsAttnReferenceIdeal := hDRmsAttnReferenceIdeal)
    ∧ preserves_DRmsFfn_DRmsFfnIdeal
    ∧ algebraic_DRmsFfnIdeal_DRmsFfnReferenceIdeal (hDRmsFfnIdeal := hDRmsFfnIdeal) (hDRmsFfnReferenceIdeal := hDRmsFfnReferenceIdeal)
    ∧ preserves_Loss_LossIdeal
    ∧ algebraic_LossIdeal_LossReferenceIdeal (hLossIdeal := hLossIdeal) (hLossReferenceIdeal := hLossReferenceIdeal)
    ∧ preserves_FfnAct_FfnActIdeal
    ∧ algebraic_FfnActIdeal_FfnActReferenceIdeal (hFfnActIdeal := hFfnActIdeal) (hFfnActReferenceIdeal := hFfnActReferenceIdeal)
    ∧ preserves_DConv_DConvIdeal
    ∧ algebraic_DConvIdeal_DConvReferenceIdeal (hDConvIdeal := hDConvIdeal) (hDConvReferenceIdeal := hDConvReferenceIdeal)
    ∧ preserves_AdamwIn_AdamwInIdeal
    ∧ algebraic_AdamwInIdeal_AdamwInReferenceIdeal (hAdamwInIdeal := hAdamwInIdeal) (hAdamwInReferenceIdeal := hAdamwInReferenceIdeal)
    ∧ preserves_AdamwUq_AdamwUqIdeal
    ∧ algebraic_AdamwUqIdeal_AdamwUqReferenceIdeal (hAdamwUqIdeal := hAdamwUqIdeal) (hAdamwUqReferenceIdeal := hAdamwUqReferenceIdeal)
    ∧ preserves_AdamwUkv_AdamwUkvIdeal
    ∧ algebraic_AdamwUkvIdeal_AdamwUkvReferenceIdeal (hAdamwUkvIdeal := hAdamwUkvIdeal) (hAdamwUkvReferenceIdeal := hAdamwUkvReferenceIdeal)
    ∧ preserves_AdamwOut_AdamwOutIdeal
    ∧ algebraic_AdamwOutIdeal_AdamwOutReferenceIdeal (hAdamwOutIdeal := hAdamwOutIdeal) (hAdamwOutReferenceIdeal := hAdamwOutReferenceIdeal)
    ∧ preserves_AdamwGate_AdamwGateIdeal
    ∧ algebraic_AdamwGateIdeal_AdamwGateReferenceIdeal (hAdamwGateIdeal := hAdamwGateIdeal) (hAdamwGateReferenceIdeal := hAdamwGateReferenceIdeal)
    ∧ preserves_AdamwUp_AdamwUpIdeal
    ∧ algebraic_AdamwUpIdeal_AdamwUpReferenceIdeal (hAdamwUpIdeal := hAdamwUpIdeal) (hAdamwUpReferenceIdeal := hAdamwUpReferenceIdeal)
    ∧ preserves_AdamwDown_AdamwDownIdeal
    ∧ algebraic_AdamwDownIdeal_AdamwDownReferenceIdeal (hAdamwDownIdeal := hAdamwDownIdeal) (hAdamwDownReferenceIdeal := hAdamwDownReferenceIdeal)
    ∧ preserves_DFfnAct_DFfnActIdeal
    ∧ algebraic_DFfnActIdeal_DFfnActReferenceIdeal_pre_finite_ffn (hDFfnActIdeal := hDFfnActIdeal) (hDFfnActReferenceIdeal := hDFfnActReferenceIdeal) (hPre_finite_ffn := hPre_finite_ffn)
    ∧ preserves_AdamwSmall_AdamwSmallIdeal
    ∧ algebraic_AdamwSmallIdeal_AdamwSmallReferenceIdeal (hAdamwSmallIdeal := hAdamwSmallIdeal) (hAdamwSmallReferenceIdeal := hAdamwSmallReferenceIdeal)
    ∧ preserves_SumChips_SumChipsIdeal
    ∧ algebraic_SumChipsIdeal_SumChipsReferenceIdeal (hSumChipsIdeal := hSumChipsIdeal) (hSumChipsReferenceIdeal := hSumChipsReferenceIdeal)
    ∧ preserves_SumDevices_SumDevicesIdeal
    ∧ algebraic_SumDevicesIdeal_SumDevicesReferenceIdeal (hSumDevicesIdeal := hSumDevicesIdeal) (hSumDevicesReferenceIdeal := hSumDevicesReferenceIdeal)
    ∧ preserves_SumGain_SumGainIdeal
    ∧ algebraic_SumGainIdeal_SumGainReferenceIdeal (hSumGainIdeal := hSumGainIdeal) (hSumGainReferenceIdeal := hSumGainReferenceIdeal)
    ∧ preserves_SumTaps_SumTapsIdeal
    ∧ algebraic_SumTapsIdeal_SumTapsReferenceIdeal (hSumTapsIdeal := hSumTapsIdeal) (hSumTapsReferenceIdeal := hSumTapsReferenceIdeal)
    ∧ preserves_SumBias_SumBiasIdeal
    ∧ algebraic_SumBiasIdeal_SumBiasReferenceIdeal (hSumBiasIdeal := hSumBiasIdeal) (hSumBiasReferenceIdeal := hSumBiasReferenceIdeal)
    ∧ preserves_SumHeads_SumHeadsIdeal
    ∧ algebraic_SumHeadsIdeal_SumHeadsReferenceIdeal (hSumHeadsIdeal := hSumHeadsIdeal) (hSumHeadsReferenceIdeal := hSumHeadsReferenceIdeal)
    ∧ preserves_SumLoss_SumLossIdeal
    ∧ algebraic_SumLossIdeal_SumLossReferenceIdeal (hSumLossIdeal := hSumLossIdeal) (hSumLossReferenceIdeal := hSumLossReferenceIdeal)
-- ==== Pre_finite.lean ====
abbrev S8x2048x256 : Shape := ⟨3, ![8, 2048, 256]⟩
abbrev S2048x64 : Shape := ⟨2, ![2048, 64]⟩
abbrev S2048 : Shape := ⟨1, ![2048]⟩
abbrev S8x2048x128 : Shape := ⟨3, ![8, 2048, 128]⟩
abbrev S_ : Shape := ⟨0, ![]⟩

class Facts : Prop where
  bcast_S_S8x2048x256 : S_.BroadcastsInDim S8x2048x256 (![] : Fin 0 → Fin S8x2048x256.rank)
  bcast_S_S2048x64 : S_.BroadcastsInDim S2048x64 (![] : Fin 0 → Fin S2048x64.rank)
  bcast_S_S8x2048x128 : S_.BroadcastsInDim S8x2048x128 (![] : Fin 0 → Fin S8x2048x128.rank)

variable [Facts]

def fn {F : FTy → Type} [FloatOps F] (main_arg0 : FVec F S8x2048x256 .f32) (main_arg1 : FVec F S8x2048x256 .f32) (main_arg2 : FVec F S2048x64 .f32) (main_arg3 : IVec S2048 32) (main_arg4 : FVec F S8x2048x128 .f32) : IVec S8x2048x256 1 × IVec S8x2048x256 1 × IVec S2048x64 1 × IVec S8x2048x128 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_v3 : FVec F S8x2048x256 .f32 := Host.absf main_arg1
  let main_cst_0 : FVec F S_ .f32 := constant S_ .f32 0x7F800000#32
  let main_v4 : FVec F S8x2048x256 .f32 := broadcastInDim S8x2048x256 ![] bcast_S_S8x2048x256 main_cst_0
  let main_v5 : IVec S8x2048x256 1 := cmpf .olt main_v3 main_v4
  let main_v6 : FVec F S2048x64 .f32 := Host.absf main_arg2
  let main_cst_1 : FVec F S_ .f32 := constant S_ .f32 0x7F800000#32
  let main_v7 : FVec F S2048x64 .f32 := broadcastInDim S2048x64 ![] bcast_S_S2048x64 main_cst_1
  let main_v8 : IVec S2048x64 1 := cmpf .olt main_v6 main_v7
  let main_v9 : FVec F S8x2048x128 .f32 := Host.absf main_arg4
  let main_cst_2 : FVec F S_ .f32 := constant S_ .f32 0x7F800000#32
  let main_v10 : FVec F S8x2048x128 .f32 := broadcastInDim S8x2048x128 ![] bcast_S_S8x2048x128 main_cst_2
  let main_v11 : IVec S8x2048x128 1 := cmpf .olt main_v9 main_v10
  (main_v2, main_v5, main_v8, main_v11)
-- ==== Pre_finite_ffn.lean ====
abbrev S2048x5632 : Shape := ⟨2, ![2048, 5632]⟩
abbrev S3x5632 : Shape := ⟨2, ![3, 5632]⟩
abbrev S1x5632 : Shape := ⟨2, ![1, 5632]⟩
abbrev S_ : Shape := ⟨0, ![]⟩

class Facts : Prop where
  bcast_S_S2048x5632 : S_.BroadcastsInDim S2048x5632 (![] : Fin 0 → Fin S2048x5632.rank)

variable [Facts]

def fn {F : FTy → Type} [FloatOps F] (main_arg0 : FVec F S2048x5632 .f32) (main_arg1 : FVec F S2048x5632 .f32) (main_arg2 : FVec F S3x5632 .f32) (main_arg3 : FVec F S1x5632 .f32) (main_arg4 : FVec F S2048x5632 .f32) : IVec S2048x5632 1 × IVec S2048x5632 1 :=
  let main_v0 : FVec F S2048x5632 .f32 := Host.absf main_arg1
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_v3 : FVec F S2048x5632 .f32 := Host.absf main_arg4
  let main_cst_0 : FVec F S_ .f32 := constant S_ .f32 0x7F800000#32
  let main_v4 : FVec F S2048x5632 .f32 := broadcastInDim S2048x5632 ![] bcast_S_S2048x5632 main_cst_0
  let main_v5 : IVec S2048x5632 1 := cmpf .olt main_v3 main_v4
  (main_v2, main_v5)
-- ==== Kernel.lean ====
abbrev S8x2048x256 : Shape := ⟨3, ![8, 2048, 256]⟩
abbrev S2048x64 : Shape := ⟨2, ![2048, 64]⟩
abbrev S2048 : Shape := ⟨1, ![2048]⟩
abbrev S8x2048x128 : Shape := ⟨3, ![8, 2048, 128]⟩
abbrev S64x64 : Shape := ⟨2, ![64, 64]⟩
abbrev S8x2048x64 : Shape := ⟨3, ![8, 2048, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S8x2048x32 : Shape := ⟨3, ![8, 2048, 32]⟩
abbrev S1x2048x32 : Shape := ⟨3, ![1, 2048, 32]⟩
abbrev S8x2048x2048 : Shape := ⟨3, ![8, 2048, 2048]⟩
abbrev S1x2048 : Shape := ⟨2, ![1, 2048]⟩
abbrev S2048x2048 : Shape := ⟨2, ![2048, 2048]⟩
abbrev S8x2048 : Shape := ⟨2, ![8, 2048]⟩
abbrev S8x2048x1 : Shape := ⟨3, ![8, 2048, 1]⟩
abbrev S1x256x128 : Shape := ⟨3, ![1, 256, 128]⟩
abbrev S1x2048x128 : Shape := ⟨3, ![1, 2048, 128]⟩
abbrev S256x64 : Shape := ⟨2, ![256, 64]⟩
abbrev S1x256x1 : Shape := ⟨3, ![1, 256, 1]⟩
abbrev S1x256x256 : Shape := ⟨3, ![1, 256, 256]⟩
abbrev S1x2048x256 : Shape := ⟨3, ![1, 2048, 256]⟩
abbrev S1x2048x64 : Shape := ⟨3, ![1, 2048, 64]⟩
abbrev S2048x256 : Shape := ⟨2, ![2048, 256]⟩
abbrev S256x128 : Shape := ⟨2, ![256, 128]⟩
abbrev S1x256x64 : Shape := ⟨3, ![1, 256, 64]⟩
abbrev S256 : Shape := ⟨1, ![256]⟩
abbrev S256x1 : Shape := ⟨2, ![256, 1]⟩
abbrev S256x256 : Shape := ⟨2, ![256, 256]⟩
abbrev S1x512x128 : Shape := ⟨3, ![1, 512, 128]⟩
abbrev S512x128 : Shape := ⟨2, ![512, 128]⟩
abbrev S512x64 : Shape := ⟨2, ![512, 64]⟩
abbrev S256x512 : Shape := ⟨2, ![256, 512]⟩
abbrev S1x768x128 : Shape := ⟨3, ![1, 768, 128]⟩
abbrev S768x128 : Shape := ⟨2, ![768, 128]⟩
abbrev S768x64 : Shape := ⟨2, ![768, 64]⟩
abbrev S256x768 : Shape := ⟨2, ![256, 768]⟩
abbrev S1x1024x128 : Shape := ⟨3, ![1, 1024, 128]⟩
abbrev S1024x128 : Shape := ⟨2, ![1024, 128]⟩
abbrev S1024x64 : Shape := ⟨2, ![1024, 64]⟩
abbrev S256x1024 : Shape := ⟨2, ![256, 1024]⟩
abbrev S1x1280x128 : Shape := ⟨3, ![1, 1280, 128]⟩
abbrev S1280x128 : Shape := ⟨2, ![1280, 128]⟩
abbrev S1280x64 : Shape := ⟨2, ![1280, 64]⟩
abbrev S256x1280 : Shape := ⟨2, ![256, 1280]⟩
abbrev S1x1536x128 : Shape := ⟨3, ![1, 1536, 128]⟩
abbrev S1536x128 : Shape := ⟨2, ![1536, 128]⟩
abbrev S1536x64 : Shape := ⟨2, ![1536, 64]⟩
abbrev S256x1536 : Shape := ⟨2, ![256, 1536]⟩
abbrev S1x1792x128 : Shape := ⟨3, ![1, 1792, 128]⟩
abbrev S1792x128 : Shape := ⟨2, ![1792, 128]⟩
abbrev S1792x64 : Shape := ⟨2, ![1792, 64]⟩
abbrev S256x1792 : Shape := ⟨2, ![256, 1792]⟩
abbrev S2048x128 : Shape := ⟨2, ![2048, 128]⟩
abbrev S256x2048 : Shape := ⟨2, ![256, 2048]⟩

abbrev nBuf : Space → Nat
  | .hbm => 109
  | .vmem => 28
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S2048x64, .f32⟩
  | .hbm, ⟨3, _⟩ => ⟨S2048, .i32⟩
  | .hbm, ⟨4, _⟩ => ⟨S8x2048x128, .f32⟩
  | .hbm, ⟨5, _⟩ => ⟨S64x64, .f32⟩
  | .hbm, ⟨6, _⟩ => ⟨S8x2048x64, .f32⟩
  | .hbm, ⟨7, _⟩ => ⟨S8x2048x128, .f32⟩
  | .hbm, ⟨8, _⟩ => ⟨S8x2048x64, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S2048, .f32⟩
  | .hbm, ⟨18, _⟩ => ⟨S2048x1, .f32⟩
  | .hbm, ⟨19, _⟩ => ⟨S1x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S8x2048x32, .f32⟩
  | .hbm, ⟨26, _⟩ => ⟨S8x2048x32, .f32⟩
  | .hbm, ⟨27, _⟩ => ⟨S1x2048x32, .f32⟩
  | .hbm, ⟨28, _⟩ => ⟨S8x2048x32, .f32⟩
  | .hbm, ⟨29, _⟩ => ⟨S8x2048x32, .f32⟩
  | .hbm, ⟨30, _⟩ => ⟨S1x2048x32, .f32⟩
  | .hbm, ⟨31, _⟩ => ⟨S8x2048x32, .f32⟩
  | .hbm, ⟨32, _⟩ => ⟨S8x2048x32, .f32⟩
  | .hbm, ⟨33, _⟩ => ⟨S8x2048x32, .f32⟩
  | .hbm, ⟨34, _⟩ => ⟨S1x2048x32, .f32⟩
  | .hbm, ⟨35, _⟩ => ⟨S8x2048x32, .f32⟩
  | .hbm, ⟨36, _⟩ => ⟨S8x2048x32, .f32⟩
  | .hbm, ⟨37, _⟩ => ⟨S1x2048x32, .f32⟩
  | .hbm, ⟨38, _⟩ => ⟨S8x2048x32, .f32⟩
  | .hbm, ⟨39, _⟩ => ⟨S8x2048x32, .f32⟩
  | .hbm, ⟨40, _⟩ => ⟨S8x2048x32, .f32⟩
  | .hbm, ⟨41, _⟩ => ⟨S8x2048x64, .f32⟩
  | .hbm, ⟨42, _⟩ => ⟨S8x2048x128, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048x2048, .f32⟩
  | .hbm, ⟨48, _⟩ => ⟨S8x2048x2048, .f32⟩
  | .hbm, ⟨49, _⟩ => ⟨S2048, .i32⟩
  | .hbm, ⟨50, _⟩ => ⟨S2048x1, .i32⟩
  | .hbm, ⟨51, _⟩ => ⟨S2048, .i32⟩
  | .hbm, ⟨52, _⟩ => ⟨S1x2048, .i32⟩
  | .hbm, ⟨53, _⟩ => ⟨S2048x2048, .i32⟩
  | .hbm, ⟨54, _⟩ => ⟨S2048x2048, .i32⟩
  | .hbm, ⟨55, _⟩ => ⟨S2048x2048, .i1⟩
  | .hbm, ⟨56, _⟩ => ⟨S_, .f32⟩
  | .hbm, ⟨57, _⟩ => ⟨S_, .f32⟩
  | .hbm, ⟨58, _⟩ => ⟨S8x2048x2048, .i1⟩
  | .hbm, ⟨59, _⟩ => ⟨S8x2048x2048, .f32⟩
  | .hbm, ⟨60, _⟩ => ⟨S8x2048x2048, .f32⟩
  | .hbm, ⟨61, _⟩ => ⟨S_, .f32⟩
  | .hbm, ⟨62, _⟩ => ⟨S8x2048, .f32⟩
  | .hbm, ⟨63, _⟩ => ⟨S8x2048x1, .f32⟩
  | .hbm, ⟨64, _⟩ => ⟨S8x2048x2048, .f32⟩
  | .hbm, ⟨65, _⟩ => ⟨S8x2048x2048, .f32⟩
  | .hbm, ⟨66, _⟩ => ⟨S8x2048x2048, .f32⟩
  | .hbm, ⟨67, _⟩ => ⟨S_, .f32⟩
  | .hbm, ⟨68, _⟩ => ⟨S8x2048, .f32⟩
  | .hbm, ⟨69, _⟩ => ⟨S8x2048x1, .f32⟩
  | .hbm, ⟨70, _⟩ => ⟨S8x2048x1, .f32⟩
  | .hbm, ⟨71, _⟩ => ⟨S8x2048x1, .f32⟩
  | .hbm, ⟨72, _⟩ => ⟨S_, .f32⟩
  | .hbm, ⟨73, _⟩ => ⟨S8x2048, .f32⟩
  | .hbm, ⟨74, _⟩ => ⟨S_, .f32⟩
  | .hbm, ⟨75, _⟩ => ⟨S8x2048, .f32⟩
  | .hbm, ⟨76, _⟩ => ⟨S8x2048, .f32⟩
  | .hbm, ⟨77, _⟩ => ⟨S8x2048x1, .f32⟩
  | .hbm, ⟨78, _⟩ => ⟨S8x2048x2048, .f32⟩
  | .hbm, ⟨79, _⟩ => ⟨S8x2048x2048, .f32⟩
  | .hbm, ⟨80, _⟩ => ⟨S8x2048x2048, .f32⟩
  | .hbm, ⟨81, _⟩ => ⟨S_, .f32⟩
  | .hbm, ⟨82, _⟩ => ⟨S8x2048, .f32⟩
  | .hbm, ⟨83, _⟩ => ⟨S8x2048x1, .f32⟩
  | .hbm, ⟨84, _⟩ => ⟨S8x2048x2048, .f32⟩
  | .hbm, ⟨85, _⟩ => ⟨S8x2048x2048, .f32⟩
  | .hbm, ⟨86, _⟩ => ⟨S8x2048x128, .f32⟩
  | .hbm, ⟨87, _⟩ => ⟨S8x2048x128, .f32⟩
  | .hbm, ⟨88, _⟩ => ⟨S32, .f32⟩
  | .hbm, ⟨89, _⟩ => ⟨S32, .f32⟩
  | .hbm, ⟨90, _⟩ => ⟨S_, .f32⟩
  | .hbm, ⟨91, _⟩ => ⟨S32, .f32⟩
  | .hbm, ⟨92, _⟩ => ⟨S32, .f32⟩
  | .hbm, ⟨93, _⟩ => ⟨S_, .f32⟩
  | .hbm, ⟨94, _⟩ => ⟨S32, .f32⟩
  | .hbm, ⟨95, _⟩ => ⟨S32, .f32⟩
  | .hbm, ⟨96, _⟩ => ⟨S2048, .f32⟩
  | .hbm, ⟨97, _⟩ => ⟨S2048x1, .f32⟩
  | .hbm, ⟨98, _⟩ => ⟨S1x32, .f32⟩
  | .hbm, ⟨99, _⟩ => ⟨S2048x32, .f32⟩
  | .hbm, ⟨100, _⟩ => ⟨S2048x32, .f32⟩
  | .hbm, ⟨101, _⟩ => ⟨S2048x32, .f32⟩
  | .hbm, ⟨102, _⟩ => ⟨S2048x32, .f32⟩
  | .hbm, ⟨103, _⟩ => ⟨S2048x32, .f32⟩
  | .hbm, ⟨104, _⟩ => ⟨S2048x64, .f32⟩
  | .hbm, ⟨105, _⟩ => ⟨S2048x64, .f32⟩
  | .hbm, ⟨106, _⟩ => ⟨S8x2048x256, .bf16⟩
  | .hbm, ⟨107, _⟩ => ⟨S8x2048x256, .bf16⟩
  | .hbm, ⟨108, _⟩ => ⟨S8x2048x64, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S2048x64, .f32⟩
  | .local _ .vmem, ⟨9, _⟩ => ⟨S256x64, .f32⟩
  | .local _ .vmem, ⟨10, _⟩ => ⟨S256x64, .f32⟩
  | .local _ .vmem, ⟨11, _⟩ => ⟨S256x64, .f32⟩
  | .local _ .vmem, ⟨12, _⟩ => ⟨S256x64, .f32⟩
  | .local _ .vmem, ⟨13, _⟩ => ⟨S64x64, .f32⟩
  | .local _ .vmem, ⟨14, _⟩ => ⟨S1x256x128, .f32⟩
  | .local _ .vmem, ⟨15, _⟩ => ⟨S1x256x128, .f32⟩
  | .local _ .vmem, ⟨16, _⟩ => ⟨S1x256x1, .f32⟩
  | .local _ .vmem, ⟨17, _⟩ => ⟨S1x256x1, .f32⟩
  | .local _ .vmem, ⟨18, _⟩ => ⟨S1x256x128, .f32⟩
  | .local _ .vmem, ⟨19, _⟩ => ⟨S1x256x128, .f32⟩
  | .local _ .vmem, ⟨20, _⟩ => ⟨S1x256x256, .bf16⟩
  | .local _ .vmem, ⟨21, _⟩ => ⟨S1x256x256, .bf16⟩
  | .local _ .vmem, ⟨22, _⟩ => ⟨S1x2048x256, .bf16⟩
  | .local _ .vmem, ⟨23, _⟩ => ⟨S1x2048x256, .bf16⟩
  | .local _ .vmem, ⟨24, _⟩ => ⟨S1x2048x64, .f32⟩
  | .local _ .vmem, ⟨25, _⟩ => ⟨S1x2048x64, .f32⟩
  | .local _ .vmem, ⟨26, _⟩ => ⟨S2048x256, .f32⟩
  | .local _ .vmem, ⟨27, _⟩ => ⟨S2048x64, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_3 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_5 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_cst_7 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_9 : Ref sig .tc := ⟨.hbm, 90, rfl⟩
abbrev main_v72 : Ref sig .tc := ⟨.hbm, 91, rfl⟩
abbrev main_v73 : Ref sig .tc := ⟨.hbm, 92, rfl⟩
abbrev main_cst_10 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86_0 : Ref sig .tc := ⟨.hbm, 106, rfl⟩
abbrev main_v86_1 : Ref sig .tc := ⟨.hbm, 107, rfl⟩
abbrev main_v86_2 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c0_i32_22 : BitVec 32 := 0#32
  let v28 : BitVec 1 := Scalar.cmpi .sge arg1 c0_i32_22
  let c1_i32 : BitVec 32 := 1#32
  let v29 : BitVec 1 := Scalar.cmpi .slt arg1 c1_i32
  let v30 : BitVec 1 := Scalar.andi v28 v29
  let v31 : BitVec 32 := Scalar.extui v30
  let c0_i32_23 : BitVec 32 := 0#32
  let v32 : BitVec 1 := Scalar.cmpi .ne v31 c0_i32_23
  v32

def k0_cond3 (i : grid0.Coords) : BitVec 1 :=
  let arg1 : BitVec 32 := BitVec.ofNat 32 (i 1).val
  let c1_i32_24 : BitVec 32 := 1#32
  let v33 : BitVec 1 := Scalar.cmpi .sge arg1 c1_i32_24
  let c2_i32 : BitVec 32 := 2#32
  let v34 : BitVec 1 := Scalar.cmpi .slt arg1 c2_i32
  let v35 : BitVec 1 := Scalar.andi v33 v34
  let v36 : BitVec 32 := Scalar.extui v35
  let c0_i32_25 : BitVec 32 := 0#32
  let v37 : BitVec 1 := Scalar.cmpi .ne v36 c0_i32_25
  v37

def k0_cond4 (i : grid0.Coords) : BitVec 1 :=
  let arg1 : BitVec 32 := BitVec.ofNat 32 (i 1).val
  let c2_i32_26 : BitVec 32 := 2#32
  let v38 : BitVec 1 := Scalar.cmpi .sge arg1 c2_i32_26
  let c3_i32 : BitVec 32 := 3#32
  let v39 : BitVec 1 := Scalar.cmpi .slt arg1 c3_i32
  let v40 : BitVec 1 := Scalar.andi v38 v39
  let v41 : BitVec 32 := Scalar.extui v40
  let c0_i32_27 : BitVec 32 := 0#32
  let v42 : BitVec 1 := Scalar.cmpi .ne v41 c0_i32_27
  v42

def k0_cond5 (i : grid0.Coords) : BitVec 1 :=
  let arg1 : BitVec 32 := BitVec.ofNat 32 (i 1).val
  let c3_i32_28 : BitVec 32 := 3#32
  let v43 : BitVec 1 := Scalar.cmpi .sge arg1 c3_i32_28
  let c4_i32 : BitVec 32 := 4#32
  let v44 : BitVec 1 := Scalar.cmpi .slt arg1 c4_i32
  let v45 : BitVec 1 := Scalar.andi v43 v44
  let v46 : BitVec 32 := Scalar.extui v45
  let c0_i32_29 : BitVec 32 := 0#32
  let v47 : BitVec 1 := Scalar.cmpi .ne v46 c0_i32_29
  v47

def k0_cond6 (i : grid0.Coords) : BitVec 1 :=
  let arg1 : BitVec 32 := BitVec.ofNat 32 (i 1).val
  let c4_i32_30 : BitVec 32 := 4#32
  let v48 : BitVec 1 := Scalar.cmpi .sge arg1 c4_i32_30
  let c5_i32 : BitVec 32 := 5#32
  let v49 : BitVec 1 := Scalar.cmpi .slt arg1 c5_i32
  let v50 : BitVec 1 := Scalar.andi v48 v49
  let v51 : BitVec 32 := Scalar.extui v50
  let c0_i32_31 : BitVec 32 := 0#32
  let v52 : BitVec 1 := Scalar.cmpi .ne v51 c0_i32_31
  v52

def k0_cond7 (i : grid0.Coords) : BitVec 1 :=
  let arg1 : BitVec 32 := BitVec.ofNat 32 (i 1).val
  let c5_i32_32 : BitVec 32 := 5#32
  let v53 : BitVec 1 := Scalar.cmpi .sge arg1 c5_i32_32
  let c6_i32 : BitVec 32 := 6#32
  let v54 : BitVec 1 := Scalar.cmpi .slt arg1 c6_i32
  let v55 : BitVec 1 := Scalar.andi v53 v54
  let v56 : BitVec 32 := Scalar.extui v55
  let c0_i32_33 : BitVec 32 := 0#32
  let v57 : BitVec 1 := Scalar.cmpi .ne v56 c0_i32_33
  v57

def k0_cond8 (i : grid0.Coords) : BitVec 1 :=
  let arg1 : BitVec 32 := BitVec.ofNat 32 (i 1).val
  let c6_i32_34 : BitVec 32 := 6#32
  let v58 : BitVec 1 := Scalar.cmpi .sge arg1 c6_i32_34
  let c7_i32 : BitVec 32 := 7#32
  let v59 : BitVec 1 := Scalar.cmpi .slt arg1 c7_i32
  let v60 : BitVec 1 := Scalar.andi v58 v59
  let v61 : BitVec 32 := Scalar.extui v60
  let c0_i32_35 : BitVec 32 := 0#32
  let v62 : BitVec 1 := Scalar.cmpi .ne v61 c0_i32_35
  v62

def k0_cond9 (i : grid0.Coords) : BitVec 1 :=
  let arg1 : BitVec 32 := BitVec.ofNat 32 (i 1).val
  let c7_i32_36 : BitVec 32 := 7#32
  let v63 : BitVec 1 := Scalar.cmpi .sge arg1 c7_i32_36
  let c8_i32 : BitVec 32 := 8#32
  let v64 : BitVec 1 := Scalar.cmpi .slt arg1 c8_i32
  let v65 : BitVec 1 := Scalar.andi v63 v64
  let v66 : BitVec 32 := Scalar.extui v65
  let c0_i32_37 : BitVec 32 := 0#32
  let v67 : BitVec 1 := Scalar.cmpi .ne v66 c0_i32_37
  v67

def k0_cond10 (i : grid0.Coords) : BitVec 1 :=
  let arg1 : BitVec 32 := BitVec.ofNat 32 (i 1).val
  let c7_i32_38 : BitVec 32 := 7#32
  let v68 : BitVec 1 := Scalar.cmpi .eq arg1 c7_i32_38
  let v69 : BitVec 32 := Scalar.extui v68
  let c0_i32_39 : BitVec 32 := 0#32
  let v70 : BitVec 1 := Scalar.cmpi .ne v69 c0_i32_39
  v70

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x2048x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8x2048x256 : Shape := ⟨3, ![8, 2048, 256]⟩
abbrev S2048x64 : Shape := ⟨2, ![2048, 64]⟩
abbrev S2048 : Shape := ⟨1, ![2048]⟩
abbrev S8x2048x128 : Shape := ⟨3, ![8, 2048, 128]⟩
abbrev S8x2048x64 : Shape := ⟨3, ![8, 2048, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S8x2048x32 : Shape := ⟨3, ![8, 2048, 32]⟩
abbrev S1x2048x32 : Shape := ⟨3, ![1, 2048, 32]⟩
abbrev S8x2048x2048 : Shape := ⟨3, ![8, 2048, 2048]⟩
abbrev S1x2048 : Shape := ⟨2, ![1, 2048]⟩
abbrev S2048x2048 : Shape := ⟨2, ![2048, 2048]⟩
abbrev S8x2048 : Shape := ⟨2, ![8, 2048]⟩
abbrev S8x2048x1 : Shape := ⟨3, ![8, 2048, 1]⟩
abbrev S8x128x2048 : Shape := ⟨3, ![8, 128, 2048]⟩

abbrev nBuf : Space → Nat
  | .hbm => 159
  | .vmem => 0
  | .smem => 0
  | _ => 0

abbrev hbmTy0_0 (i : Nat) : BufTy := match i % 128 with
  | 0 => ⟨S8x2048x256, .f32⟩
  | 1 => ⟨S8x2048x256, .f32⟩
  | 2 => ⟨S2048x64, .f32⟩
  | 3 => ⟨S2048, .i32⟩
  | 4 => ⟨S8x2048x128, .f32⟩
  | 5 => ⟨S8x2048x64, .f32⟩
  | 6 => ⟨S8x2048x128, .f32⟩
  | 7 => ⟨S8x2048x64, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S2048, .f32⟩
  | 17 => ⟨S2048x1, .f32⟩
  | 18 => ⟨S1x32, .f32⟩
  | 19 => ⟨S2048x32, .f32⟩
  | 20 => ⟨S2048x32, .f32⟩
  | 21 => ⟨S2048x32, .f32⟩
  | 22 => ⟨S2048x32, .f32⟩
  | 23 => ⟨S2048x32, .f32⟩
  | 24 => ⟨S8x2048x32, .f32⟩
  | 25 => ⟨S8x2048x32, .f32⟩
  | 26 => ⟨S1x2048x32, .f32⟩
  | 27 => ⟨S8x2048x32, .f32⟩
  | 28 => ⟨S8x2048x32, .f32⟩
  | 29 => ⟨S1x2048x32, .f32⟩
  | 30 => ⟨S8x2048x32, .f32⟩
  | 31 => ⟨S8x2048x32, .f32⟩
  | 32 => ⟨S8x2048x32, .f32⟩
  | 33 => ⟨S1x2048x32, .f32⟩
  | 34 => ⟨S8x2048x32, .f32⟩
  | 35 => ⟨S8x2048x32, .f32⟩
  | 36 => ⟨S1x2048x32, .f32⟩
  | 37 => ⟨S8x2048x32, .f32⟩
  | 38 => ⟨S8x2048x32, .f32⟩
  | 39 => ⟨S8x2048x32, .f32⟩
  | 40 => ⟨S8x2048x64, .f32⟩
  | 41 => ⟨S8x2048x128, .f32⟩
  | 42 => ⟨S8x2048x2048, .f32⟩
  | 43 => ⟨S8x2048x2048, .f32⟩
  | 44 => ⟨S8x2048x2048, .f32⟩
  | 45 => ⟨S_, .f32⟩
  | 46 => ⟨S8x2048x2048, .f32⟩
  | 47 => ⟨S8x2048x2048, .f32⟩
  | 48 => ⟨S2048, .i32⟩
  | 49 => ⟨S2048x1, .i32⟩
  | 50 => ⟨S2048, .i32⟩
  | 51 => ⟨S1x2048, .i32⟩
  | 52 => ⟨S2048x2048, .i32⟩
  | 53 => ⟨S2048x2048, .i32⟩
  | 54 => ⟨S2048x2048, .i1⟩
  | 55 => ⟨S_, .f32⟩
  | 56 => ⟨S_, .f32⟩
  | 57 => ⟨S8x2048x2048, .i1⟩
  | 58 => ⟨S8x2048x2048, .f32⟩
  | 59 => ⟨S8x2048x2048, .f32⟩
  | 60 => ⟨S_, .f32⟩
  | 61 => ⟨S8x2048x2048, .f32⟩
  | 62 => ⟨S_, .f32⟩
  | 63 => ⟨S8x2048, .f32⟩
  | 64 => ⟨S8x2048x1, .f32⟩
  | 65 => ⟨S8x2048x2048, .f32⟩
  | 66 => ⟨S8x2048x2048, .i1⟩
  | 67 => ⟨S8x2048x2048, .f32⟩
  | 68 => ⟨S_, .f32⟩
  | 69 => ⟨S8x2048, .f32⟩
  | 70 => ⟨S_, .f32⟩
  | 71 => ⟨S8x2048, .f32⟩
  | 72 => ⟨S8x2048, .f32⟩
  | 73 => ⟨S_, .f32⟩
  | 74 => ⟨S8x2048, .f32⟩
  | 75 => ⟨S8x2048, .i1⟩
  | 76 => ⟨S_, .f32⟩
  | 77 => ⟨S8x2048, .f32⟩
  | 78 => ⟨S8x2048, .i1⟩
  | 79 => ⟨S_, .f32⟩
  | 80 => ⟨S8x2048, .f32⟩
  | 81 => ⟨S_, .f32⟩
  | 82 => ⟨S8x2048, .f32⟩
  | 83 => ⟨S_, .f32⟩
  | 84 => ⟨S8x2048, .f32⟩
  | 85 => ⟨S8x2048, .f32⟩
  | 86 => ⟨S8x2048, .f32⟩
  | 87 => ⟨S8x2048x1, .f32⟩
  | 88 => ⟨S8x2048x2048, .f32⟩
  | 89 => ⟨S8x2048x2048, .f32⟩
  | 90 => ⟨S8x2048x2048, .f32⟩
  | 91 => ⟨S_, .f32⟩
  | 92 => ⟨S8x2048, .f32⟩
  | 93 => ⟨S8x2048x1, .f32⟩
  | 94 => ⟨S8x2048x2048, .f32⟩
  | 95 => ⟨S8x2048x2048, .f32⟩
  | 96 => ⟨S8x2048x1, .f32⟩
  | 97 => ⟨S_, .f32⟩
  | 98 => ⟨S8x2048x1, .f32⟩
  | 99 => ⟨S8x2048x1, .f32⟩
  | 100 => ⟨S8x2048x128, .f32⟩
  | 101 => ⟨S8x2048x128, .f32⟩
  | 102 => ⟨S8x128x2048, .f32⟩
  | 103 => ⟨S8x2048x128, .f32⟩
  | 104 => ⟨S8x2048x2048, .f32⟩
  | 105 => ⟨S_, .f32⟩
  | 106 => ⟨S8x2048x256, .f32⟩
  | 107 => ⟨S8x2048x2048, .f32⟩
  | 108 => ⟨S8x2048x2048, .f32⟩
  | 109 => ⟨S8x2048x2048, .f32⟩
  | 110 => ⟨S_, .f32⟩
  | 111 => ⟨S8x2048, .f32⟩
  | 112 => ⟨S8x2048x1, .f32⟩
  | 113 => ⟨S8x2048x1, .f32⟩
  | 114 => ⟨S8x2048x2048, .f32⟩
  | 115 => ⟨S8x2048x2048, .f32⟩
  | 116 => ⟨S_, .f32⟩
  | 117 => ⟨S8x2048, .f32⟩
  | 118 => ⟨S8x2048x2048, .f32⟩
  | 119 => ⟨S8x2048x2048, .f32⟩
  | 120 => ⟨S8x2048x2048, .f32⟩
  | 121 => ⟨S_, .f32⟩
  | 122 => ⟨S8x2048x2048, .f32⟩
  | 123 => ⟨S8x2048x2048, .f32⟩
  | 124 => ⟨S_, .f32⟩
  | 125 => ⟨S8x2048x2048, .f32⟩
  | 126 => ⟨S8x2048x2048, .f32⟩
  | 127 => ⟨S8x2048x64, .f32⟩
  | _ => ⟨S8x2048x256, .f32⟩

abbrev hbmTy0_1 (i : Nat) : BufTy := match i % 128 with
  | 0 => ⟨S8x2048x64, .f32⟩
  | 1 => ⟨S8x2048x128, .f32⟩
  | 2 => ⟨S8x2048x128, .f32⟩
  | 3 => ⟨S_, .f32⟩
  | 4 => ⟨S8x2048x256, .f32⟩
  | 5 => ⟨S8x2048x256, .f32⟩
  | 6 => ⟨S8x2048x32, .f32⟩
  | 7 => ⟨S8x2048x32, .f32⟩
  | 8 => ⟨S8x2048x32, .f32⟩
  | 9 => ⟨S8x2048x32, .f32⟩
  | 10 => ⟨S8x2048x32, .f32⟩
  | 11 => ⟨S8x2048x32, .f32⟩
  | 12 => ⟨S8x2048x32, .f32⟩
  | 13 => ⟨S8x2048x32, .f32⟩
  | 14 => ⟨S8x2048x32, .f32⟩
  | 15 => ⟨S8x2048x32, .f32⟩
  | 16 => ⟨S8x2048x32, .f32⟩
  | 17 => ⟨S8x2048x32, .f32⟩
  | 18 => ⟨S8x2048x32, .f32⟩
  | 19 => ⟨S_, .f32⟩
  | 20 => ⟨S8x2048x64, .f32⟩
  | 21 => ⟨S_, .f32⟩
  | 22 => ⟨S8x2048x64, .f32⟩
  | 23 => ⟨S8x2048x64, .f32⟩
  | 24 => ⟨S_, .f32⟩
  | 25 => ⟨S8x2048x256, .f32⟩
  | 26 => ⟨S_, .f32⟩
  | 27 => ⟨S8x2048x256, .f32⟩
  | 28 => ⟨S8x2048x256, .f32⟩
  | 29 => ⟨S8x2048x256, .bf16⟩
  | 30 => ⟨S8x2048x256, .bf16⟩
  | _ => ⟨S8x2048x256, .f32⟩

abbrev hbmTy (i : Nat) : BufTy := match i / 128 with
  | 0 => hbmTy0_0 i
  | 1 => hbmTy0_1 i
  | _ => ⟨S8x2048x256, .f32⟩

abbrev bufTy : (tb : Table) → Fin (tcTables nBuf tb) → BufTy
  | .hbm, ⟨i, _⟩ => hbmTy i
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_1 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_2 : Ref sig .tc := ⟨.hbm, 55, rfl⟩
abbrev main_call0_v0 : Ref sig .tc := ⟨.hbm, 56, rfl⟩
abbrev main_v47_1 : Ref sig .tc := ⟨.hbm, 57, rfl⟩
abbrev main_call0_v2 : Ref sig .tc := ⟨.hbm, 58, rfl⟩
abbrev main_v47_0 : Ref sig .tc := ⟨.hbm, 59, rfl⟩
abbrev main_call0_cst : Ref sig .tc := ⟨.hbm, 60, rfl⟩
abbrev main_v47_2 : Ref sig .tc := ⟨.hbm, 61, rfl⟩
abbrev main_cst_3 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_4 : Ref sig .tc := ⟨.hbm, 68, rfl⟩
abbrev main_v53 : Ref sig .tc := ⟨.hbm, 69, rfl⟩
abbrev main_cst_5 : Ref sig .tc := ⟨.hbm, 70, rfl⟩
abbrev main_v54 : Ref sig .tc := ⟨.hbm, 71, rfl⟩
abbrev main_v55 : Ref sig .tc := ⟨.hbm, 72, rfl⟩
abbrev main_cst_6 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_11 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_12 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_13 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_14 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_15 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_call1_cst : Ref sig .tc := ⟨.hbm, 121, rfl⟩
abbrev main_call1_v0 : Ref sig .tc := ⟨.hbm, 122, rfl⟩
abbrev main_v94 : Ref sig .tc := ⟨.hbm, 123, rfl⟩
abbrev main_cst_16 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_17 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_18 : Ref sig .tc := ⟨.hbm, 147, rfl⟩
abbrev main_v116 : Ref sig .tc := ⟨.hbm, 148, rfl⟩
abbrev main_cst_19 : Ref sig .tc := ⟨.hbm, 149, rfl⟩
abbrev main_v117 : Ref sig .tc := ⟨.hbm, 150, rfl⟩
abbrev main_v118 : Ref sig .tc := ⟨.hbm, 151, rfl⟩
abbrev main_cst_20 : Ref sig .tc := ⟨.hbm, 152, rfl⟩
abbrev main_v119 : Ref sig .tc := ⟨.hbm, 153, rfl⟩
abbrev main_cst_21 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩

abbrev nD : Nat := 1
abbrev τ : Topo := Topo.v7x

variable {F : FTy → Type} [FloatOps F]
-- ==== Gate.lean ====
abbrev S2048x2048 : Shape := ⟨2, ![2048, 2048]⟩
abbrev S2048x5632 : Shape := ⟨2, ![2048, 5632]⟩
abbrev S2048x8x704 : Shape := ⟨3, ![2048, 8, 704]⟩
abbrev S8x2048x704 : Shape := ⟨3, ![8, 2048, 704]⟩
abbrev S_ : Shape := ⟨0, ![]⟩
abbrev S8x2048x768 : Shape := ⟨3, ![8, 2048, 768]⟩
abbrev S2048x6144 : Shape := ⟨2, ![2048, 6144]⟩
abbrev S1x2048x768 : Shape := ⟨3, ![1, 2048, 768]⟩
abbrev S2048x768 : Shape := ⟨2, ![2048, 768]⟩

abbrev nBuf : Space → Nat
  | .hbm => 10
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x2048, .bf16⟩
  | .hbm, ⟨3, _⟩ => ⟨S2048x5632, .bf16⟩
  | .hbm, ⟨4, _⟩ => ⟨S2048x8x704, .bf16⟩
  | .hbm, ⟨5, _⟩ => ⟨S8x2048x704, .bf16⟩
  | .hbm, ⟨6, _⟩ => ⟨S_, .i32⟩
  | .hbm, ⟨7, _⟩ => ⟨S_, .bf16⟩
  | .hbm, ⟨8, _⟩ => ⟨S8x2048x768, .bf16⟩
  | .hbm, ⟨9, _⟩ => ⟨S2048x6144, .f32⟩
  | .local _ .vmem, ⟨0, _⟩ => ⟨S2048x2048, .bf16⟩
  | .local _ .vmem, ⟨1, _⟩ => ⟨S1x2048x768, .bf16⟩
  | .local _ .vmem, ⟨2, _⟩ => ⟨S1x2048x768, .bf16⟩
  | .local _ .vmem, ⟨3, _⟩ => ⟨S2048x768, .f32⟩
  | .local _ .vmem, ⟨4, _⟩ => ⟨S2048x768, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateReferenceIdeal.lean ====
abbrev S2048x2048 : Shape := ⟨2, ![2048, 2048]⟩
abbrev S2048x5632 : Shape := ⟨2, ![2048, 5632]⟩
abbrev S2048x8x704 : Shape := ⟨3, ![2048, 8, 704]⟩
abbrev S_ : Shape := ⟨0, ![]⟩
abbrev S2048x8x768 : Shape := ⟨3, ![2048, 8, 768]⟩
abbrev S2048x6144 : Shape := ⟨2, ![2048, 6144]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x8x704, .f32⟩
  | .hbm, ⟨4, _⟩ => ⟨S_, .i32⟩
  | .hbm, ⟨5, _⟩ => ⟨S_, .f32⟩
  | .hbm, ⟨6, _⟩ => ⟨S2048x8x768, .f32⟩
  | .hbm, ⟨7, _⟩ => ⟨S2048x6144, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Up.lean ====
abbrev S2048x2048 : Shape := ⟨2, ![2048, 2048]⟩
abbrev S2048x5632 : Shape := ⟨2, ![2048, 5632]⟩
abbrev S2048x8x704 : Shape := ⟨3, ![2048, 8, 704]⟩
abbrev S8x2048x704 : Shape := ⟨3, ![8, 2048, 704]⟩
abbrev S_ : Shape := ⟨0, ![]⟩
abbrev S8x2048x768 : Shape := ⟨3, ![8, 2048, 768]⟩
abbrev S2048x6144 : Shape := ⟨2, ![2048, 6144]⟩
abbrev S1x2048x768 : Shape := ⟨3, ![1, 2048, 768]⟩
abbrev S2048x768 : Shape := ⟨2, ![2048, 768]⟩

abbrev nBuf : Space → Nat
  | .hbm => 10
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x2048, .bf16⟩
  | .hbm, ⟨3, _⟩ => ⟨S2048x5632, .bf16⟩
  | .hbm, ⟨4, _⟩ => ⟨S2048x8x704, .bf16⟩
  | .hbm, ⟨5, _⟩ => ⟨S8x2048x704, .bf16⟩
  | .hbm, ⟨6, _⟩ => ⟨S_, .i32⟩
  | .hbm, ⟨7, _⟩ => ⟨S_, .bf16⟩
  | .hbm, ⟨8, _⟩ => ⟨S8x2048x768, .bf16⟩
  | .hbm, ⟨9, _⟩ => ⟨S2048x6144, .f32⟩
  | .local _ .vmem, ⟨0, _⟩ => ⟨S2048x2048, .bf16⟩
  | .local _ .vmem, ⟨1, _⟩ => ⟨S1x2048x768, .bf16⟩
  | .local _ .vmem, ⟨2, _⟩ => ⟨S1x2048x768, .bf16⟩
  | .local _ .vmem, ⟨3, _⟩ => ⟨S2048x768, .f32⟩
  | .local _ .vmem, ⟨4, _⟩ => ⟨S2048x768, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpReferenceIdeal.lean ====
abbrev S2048x2048 : Shape := ⟨2, ![2048, 2048]⟩
abbrev S2048x5632 : Shape := ⟨2, ![2048, 5632]⟩
abbrev S2048x8x704 : Shape := ⟨3, ![2048, 8, 704]⟩
abbrev S_ : Shape := ⟨0, ![]⟩
abbrev S2048x8x768 : Shape := ⟨3, ![2048, 8, 768]⟩
abbrev S2048x6144 : Shape := ⟨2, ![2048, 6144]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x5632, .f32⟩
  | .hbm, ⟨3, _⟩ => ⟨S2048x8x704, .f32⟩
  | .hbm, ⟨4, _⟩ => ⟨S_, .i32⟩
  | .hbm, ⟨5, _⟩ => ⟨S_, .f32⟩
  | .hbm, ⟨6, _⟩ => ⟨S2048x8x768, .f32⟩
  | .hbm, ⟨7, _⟩ => ⟨S2048x6144, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S2048x8x704 : Shape := ⟨3, ![2048, 8, 704]⟩
abbrev S_ : Shape := ⟨0, ![]⟩
abbrev S2048x8x768 : Shape := ⟨3, ![2048, 8, 768]⟩
abbrev S2048x6144 : Shape := ⟨2, ![2048, 6144]⟩
abbrev S8x704x2048 : Shape := ⟨3, ![8, 704, 2048]⟩
abbrev S8x768x2048 : Shape := ⟨3, ![8, 768, 2048]⟩
abbrev S6144x2048 : Shape := ⟨2, ![6144, 2048]⟩
abbrev S512x6144 : Shape := ⟨2, ![512, 6144]⟩
abbrev S6144x512 : Shape := ⟨2, ![6144, 512]⟩
abbrev S512x512 : Shape := ⟨2, ![512, 512]⟩

abbrev nBuf : Space → Nat
  | .hbm => 16
  | .vmem => 8
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x5632, .bf16⟩
  | .hbm, ⟨4, _⟩ => ⟨S2048x8x704, .bf16⟩
  | .hbm, ⟨5, _⟩ => ⟨S_, .i32⟩
  | .hbm, ⟨6, _⟩ => ⟨S_, .bf16⟩
  | .hbm, ⟨7, _⟩ => ⟨S2048x8x768, .bf16⟩
  | .hbm, ⟨8, _⟩ => ⟨S2048x6144, .bf16⟩
  | .hbm, ⟨9, _⟩ => ⟨S5632x2048, .bf16⟩
  | .hbm, ⟨10, _⟩ => ⟨S8x704x2048, .bf16⟩
  | .hbm, ⟨11, _⟩ => ⟨S_, .i32⟩
  | .hbm, ⟨12, _⟩ => ⟨S_, .bf16⟩
  | .hbm, ⟨13, _⟩ => ⟨S8x768x2048, .bf16⟩
  | .hbm, ⟨14, _⟩ => ⟨S6144x2048, .bf16⟩
  | .hbm, ⟨15, _⟩ => ⟨S2048x2048, .f32⟩
  | .local _ .vmem, ⟨0, _⟩ => ⟨S512x6144, .bf16⟩
  | .local _ .vmem, ⟨1, _⟩ => ⟨S512x6144, .bf16⟩
  | .local _ .vmem, ⟨2, _⟩ => ⟨S6144x512, .bf16⟩
  | .local _ .vmem, ⟨3, _⟩ => ⟨S6144x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownReferenceIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DAct.lean ====
abbrev S2048x2048 : Shape := ⟨2, ![2048, 2048]⟩
abbrev S5632x2048 : Shape := ⟨2, ![5632, 2048]⟩
abbrev S8x704x2048 : Shape := ⟨3, ![8, 704, 2048]⟩
abbrev S_ : Shape := ⟨0, ![]⟩
abbrev S8x768x2048 : Shape := ⟨3, ![8, 768, 2048]⟩
abbrev S6144x2048 : Shape := ⟨2, ![6144, 2048]⟩
abbrev S2048x6144 : Shape := ⟨2, ![2048, 6144]⟩
abbrev S1024x2048 : Shape := ⟨2, ![1024, 2048]⟩
abbrev S2048x1024 : Shape := ⟨2, ![2048, 1024]⟩

abbrev nBuf : Space → Nat
  | .hbm => 10
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S2048x2048, .bf16⟩
  | .hbm, ⟨3, _⟩ => ⟨S5632x2048, .bf16⟩
  | .hbm, ⟨4, _⟩ => ⟨S8x704x2048, .bf16⟩
  | .hbm, ⟨5, _⟩ => ⟨S_, .i32⟩
  | .hbm, ⟨6, _⟩ => ⟨S_, .bf16⟩
  | .hbm, ⟨7, _⟩ => ⟨S8x768x2048, .bf16⟩
  | .hbm, ⟨8, _⟩ => ⟨S6144x2048, .bf16⟩
  | .hbm, ⟨9, _⟩ => ⟨S2048x6144, .bf16⟩
  | .local _ .vmem, ⟨0, _⟩ => ⟨S2048x2048, .bf16⟩
  | .local _ .vmem, ⟨1, _⟩ => ⟨S1024x2048, .bf16⟩
  | .local _ .vmem, ⟨2, _⟩ => ⟨S1024x2048, .bf16⟩
  | .local _ .vmem, ⟨3, _⟩ => ⟨S2048x1024, .bf16⟩
  | .local _ .vmem, ⟨4, _⟩ => ⟨S2048x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DActReferenceIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩
abbrev S2048x8x704 : Shape := ⟨3, ![2048, 8, 704]⟩
abbrev S2048x8x768 : Shape := ⟨3, ![2048, 8, 768]⟩
abbrev S2048x6144 : Shape := ⟨2, ![2048, 6144]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5632x2048, .f32⟩
  | .hbm, ⟨2, _⟩ => ⟨S_, .f32⟩
  | .hbm, ⟨3, _⟩ => ⟨S2048x5632, .f32⟩
  | .hbm, ⟨4, _⟩ => ⟨S2048x2048, .f32⟩
  | .hbm, ⟨5, _⟩ => ⟨S2048x5632, .f32⟩
  | .hbm, ⟨6, _⟩ => ⟨S2048x8x704, .f32⟩
  | .hbm, ⟨7, _⟩ => ⟨S_, .i32⟩
  | .hbm, ⟨8, _⟩ => ⟨S_, .f32⟩
  | .hbm, ⟨9, _⟩ => ⟨S2048x8x768, .f32⟩
  | .hbm, ⟨10, _⟩ => ⟨S2048x6144, .f32⟩
  | .hbm, ⟨11, _⟩ => ⟨S2048x6144, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== DwDown.lean ====
abbrev S2048x5632 : Shape := ⟨2, ![2048, 5632]⟩
abbrev S2048x2048 : Shape := ⟨2, ![2048, 2048]⟩
abbrev S2048x8x704 : Shape := ⟨3, ![2048, 8, 704]⟩
abbrev S_ : Shape := ⟨0, ![]⟩
abbrev S2048x8x768 : Shape := ⟨3, ![2048, 8, 768]⟩
abbrev S2048x6144 : Shape := ⟨2, ![2048, 6144]⟩
abbrev S6144x2048 : Shape := ⟨2, ![6144, 2048]⟩
abbrev S2048x512 : Shape := ⟨2, ![2048, 512]⟩
abbrev S512x2048 : Shape := ⟨2, ![512, 2048]⟩

abbrev nBuf : Space → Nat
  | .hbm => 10
  | .vmem => 5
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x5632, .bf16⟩
  | .hbm, ⟨3, _⟩ => ⟨S2048x8x704, .bf16⟩
  | .hbm, ⟨4, _⟩ => ⟨S_, .i32⟩
  | .hbm, ⟨5, _⟩ => ⟨S_, .bf16⟩
  | .hbm, ⟨6, _⟩ => ⟨S2048x8x768, .bf16⟩
  | .hbm, ⟨7, _⟩ => ⟨S2048x6144, .bf16⟩
  | .hbm, ⟨8, _⟩ => ⟨S2048x2048, .bf16⟩
  | .hbm, ⟨9, _⟩ => ⟨S6144x2048, .f32⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![12, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwDownReferenceIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S8x704x2048 : Shape := ⟨3, ![8, 704, 2048]⟩
abbrev S8x768x2048 : Shape := ⟨3, ![8, 768, 2048]⟩
abbrev S6144x2048 : Shape := ⟨2, ![6144, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S_, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S5632x2048, .f32⟩
  | .hbm, ⟨7, _⟩ => ⟨S8x704x2048, .f32⟩
  | .hbm, ⟨8, _⟩ => ⟨S_, .i32⟩
  | .hbm, ⟨9, _⟩ => ⟨S_, .f32⟩
  | .hbm, ⟨10, _⟩ => ⟨S8x768x2048, .f32⟩
  | .hbm, ⟨11, _⟩ => ⟨S6144x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== DhGate.lean ====
abbrev S2048x5632 : Shape := ⟨2, ![2048, 5632]⟩
abbrev S2048x8x704 : Shape := ⟨3, ![2048, 8, 704]⟩
abbrev S_ : Shape := ⟨0, ![]⟩
abbrev S2048x8x768 : Shape := ⟨3, ![2048, 8, 768]⟩
abbrev S2048x6144 : Shape := ⟨2, ![2048, 6144]⟩
abbrev S8x2048x704 : Shape := ⟨3, ![8, 2048, 704]⟩
abbrev S8x2048x768 : Shape := ⟨3, ![8, 2048, 768]⟩
abbrev S2048x2048 : Shape := ⟨2, ![2048, 2048]⟩
abbrev S1024x768 : Shape := ⟨2, ![1024, 768]⟩
abbrev S1x2048x768 : Shape := ⟨3, ![1, 2048, 768]⟩
abbrev S1024x2048 : Shape := ⟨2, ![1024, 2048]⟩
abbrev S2048x768 : Shape := ⟨2, ![2048, 768]⟩

abbrev nBuf : Space → Nat
  | .hbm => 15
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x5632, .bf16⟩
  | .hbm, ⟨3, _⟩ => ⟨S2048x8x704, .bf16⟩
  | .hbm, ⟨4, _⟩ => ⟨S_, .i32⟩
  | .hbm, ⟨5, _⟩ => ⟨S_, .bf16⟩
  | .hbm, ⟨6, _⟩ => ⟨S2048x8x768, .bf16⟩
  | .hbm, ⟨7, _⟩ => ⟨S2048x6144, .bf16⟩
  | .hbm, ⟨8, _⟩ => ⟨S2048x5632, .bf16⟩
  | .hbm, ⟨9, _⟩ => ⟨S2048x8x704, .bf16⟩
  | .hbm, ⟨10, _⟩ => ⟨S8x2048x704, .bf16⟩
  | .hbm, ⟨11, _⟩ => ⟨S_, .i32⟩
  | .hbm, ⟨12, _⟩ => ⟨S_, .bf16⟩
  | .hbm, ⟨13, _⟩ => ⟨S8x2048x768, .bf16⟩
  | .hbm, ⟨14, _⟩ => ⟨S2048x2048, .f32⟩
  | .local _ .vmem, ⟨0, _⟩ => ⟨S1024x768, .bf16⟩
  | .local _ .vmem, ⟨1, _⟩ => ⟨S1024x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x2048, .f32⟩
  | .local _ .vmem, ⟨5, _⟩ => ⟨S1024x2048, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .ne arg1 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DhGateReferenceIdeal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S_, .f32⟩
  | .hbm, ⟨3, _⟩ => ⟨S2048x2048, .f32⟩
  | .hbm, ⟨4, _⟩ => ⟨S2048x5632, .f32⟩
  | .hbm, ⟨5, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DhUp.lean ====
abbrev S2048x5632 : Shape := ⟨2, ![2048, 5632]⟩
abbrev S2048x2048 : Shape := ⟨2, ![2048, 2048]⟩
abbrev S2048x8x704 : Shape := ⟨3, ![2048, 8, 704]⟩
abbrev S_ : Shape := ⟨0, ![]⟩
abbrev S2048x8x768 : Shape := ⟨3, ![2048, 8, 768]⟩
abbrev S2048x6144 : Shape := ⟨2, ![2048, 6144]⟩
abbrev S8x2048x704 : Shape := ⟨3, ![8, 2048, 704]⟩
abbrev S8x2048x768 : Shape := ⟨3, ![8, 2048, 768]⟩
abbrev S512x768 : Shape := ⟨2, ![512, 768]⟩
abbrev S1x2048x768 : Shape := ⟨3, ![1, 2048, 768]⟩
abbrev S512x2048 : Shape := ⟨2, ![512, 2048]⟩
abbrev S2048x768 : Shape := ⟨2, ![2048, 768]⟩

abbrev nBuf : Space → Nat
  | .hbm => 16
  | .vmem => 8
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x2048, .f32⟩
  | .hbm, ⟨3, _⟩ => ⟨S2048x5632, .bf16⟩
  | .hbm, ⟨4, _⟩ => ⟨S2048x8x704, .bf16⟩
  | .hbm, ⟨5, _⟩ => ⟨S_, .i32⟩
  | .hbm, ⟨6, _⟩ => ⟨S_, .bf16⟩
  | .hbm, ⟨7, _⟩ => ⟨S2048x8x768, .bf16⟩
  | .hbm, ⟨8, _⟩ => ⟨S2048x6144, .bf16⟩
  | .hbm, ⟨9, _⟩ => ⟨S2048x5632, .bf16⟩
  | .hbm, ⟨10, _⟩ => ⟨S2048x8x704, .bf16⟩
  | .hbm, ⟨11, _⟩ => ⟨S8x2048x704, .bf16⟩
  | .hbm, ⟨12, _⟩ => ⟨S_, .i32⟩
  | .hbm, ⟨13, _⟩ => ⟨S_, .bf16⟩
  | .hbm, ⟨14, _⟩ => ⟨S8x2048x768, .bf16⟩
  | .hbm, ⟨15, _⟩ => ⟨S2048x2048, .f32⟩
  | .local _ .vmem, ⟨0, _⟩ => ⟨S512x768, .bf16⟩
  | .local _ .vmem, ⟨1, _⟩ => ⟨S512x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .ne arg1 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DhUpReferenceIdeal.lean ====
abbrev S2048x5632 : Shape := ⟨2, ![2048, 5632]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x5632, .f32⟩
  | .hbm, ⟨6, _⟩ => ⟨S2048x2048, .f32⟩
  | .hbm, ⟨7, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DwGate.lean ====
abbrev S2048x2048 : Shape := ⟨2, ![2048, 2048]⟩
abbrev S2048x5632 : Shape := ⟨2, ![2048, 5632]⟩
abbrev S2048x8x704 : Shape := ⟨3, ![2048, 8, 704]⟩
abbrev S_ : Shape := ⟨0, ![]⟩
abbrev S2048x8x768 : Shape := ⟨3, ![2048, 8, 768]⟩
abbrev S2048x6144 : Shape := ⟨2, ![2048, 6144]⟩
abbrev S8x2048x768 : Shape := ⟨3, ![8, 2048, 768]⟩
abbrev S2048x768 : Shape := ⟨2, ![2048, 768]⟩
abbrev S1x2048x768 : Shape := ⟨3, ![1, 2048, 768]⟩

abbrev nBuf : Space → Nat
  | .hbm => 10
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x2048, .bf16⟩
  | .hbm, ⟨3, _⟩ => ⟨S2048x5632, .bf16⟩
  | .hbm, ⟨4, _⟩ => ⟨S2048x8x704, .bf16⟩
  | .hbm, ⟨5, _⟩ => ⟨S_, .i32⟩
  | .hbm, ⟨6, _⟩ => ⟨S_, .bf16⟩
  | .hbm, ⟨7, _⟩ => ⟨S2048x8x768, .bf16⟩
  | .hbm, ⟨8, _⟩ => ⟨S2048x6144, .bf16⟩
  | .hbm, ⟨9, _⟩ => ⟨S8x2048x768, .f32⟩
  | .local _ .vmem, ⟨0, _⟩ => ⟨S2048x2048, .bf16⟩
  | .local _ .vmem, ⟨1, _⟩ => ⟨S2048x768, .bf16⟩
  | .local _ .vmem, ⟨2, _⟩ => ⟨S2048x768, .bf16⟩
  | .local _ .vmem, ⟨3, _⟩ => ⟨S1x2048x768, .f32⟩
  | .local _ .vmem, ⟨4, _⟩ => ⟨S1x2048x768, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwGateReferenceIdeal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩
abbrev S2048x8x704 : Shape := ⟨3, ![2048, 8, 704]⟩
abbrev S2048x8x768 : Shape := ⟨3, ![2048, 8, 768]⟩
abbrev S8x2048x768 : Shape := ⟨3, ![8, 2048, 768]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S_, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048x5632, .f32⟩
  | .hbm, ⟨7, _⟩ => ⟨S2048x8x704, .f32⟩
  | .hbm, ⟨8, _⟩ => ⟨S_, .i32⟩
  | .hbm, ⟨9, _⟩ => ⟨S_, .f32⟩
  | .hbm, ⟨10, _⟩ => ⟨S2048x8x768, .f32⟩
  | .hbm, ⟨11, _⟩ => ⟨S8x2048x768, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== DwUp.lean ====
abbrev S2048x2048 : Shape := ⟨2, ![2048, 2048]⟩
abbrev S2048x5632 : Shape := ⟨2, ![2048, 5632]⟩
abbrev S2048x8x704 : Shape := ⟨3, ![2048, 8, 704]⟩
abbrev S_ : Shape := ⟨0, ![]⟩
abbrev S2048x8x768 : Shape := ⟨3, ![2048, 8, 768]⟩
abbrev S2048x6144 : Shape := ⟨2, ![2048, 6144]⟩
abbrev S8x2048x768 : Shape := ⟨3, ![8, 2048, 768]⟩
abbrev S2048x768 : Shape := ⟨2, ![2048, 768]⟩
abbrev S1x2048x768 : Shape := ⟨3, ![1, 2048, 768]⟩

abbrev nBuf : Space → Nat
  | .hbm => 10
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S2048x2048, .bf16⟩
  | .hbm, ⟨3, _⟩ => ⟨S2048x5632, .bf16⟩
  | .hbm, ⟨4, _⟩ => ⟨S2048x8x704, .bf16⟩
  | .hbm, ⟨5, _⟩ => ⟨S_, .i32⟩
  | .hbm, ⟨6, _⟩ => ⟨S_, .bf16⟩
  | .hbm, ⟨7, _⟩ => ⟨S2048x8x768, .bf16⟩
  | .hbm, ⟨8, _⟩ => ⟨S2048x6144, .bf16⟩
  | .hbm, ⟨9, _⟩ => ⟨S8x2048x768, .f32⟩
  | .local _ .vmem, ⟨0, _⟩ => ⟨S2048x2048, .bf16⟩
  | .local _ .vmem, ⟨1, _⟩ => ⟨S2048x768, .bf16⟩
  | .local _ .vmem, ⟨2, _⟩ => ⟨S2048x768, .bf16⟩
  | .local _ .vmem, ⟨3, _⟩ => ⟨S1x2048x768, .f32⟩
  | .local _ .vmem, ⟨4, _⟩ => ⟨S1x2048x768, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwUpReferenceIdeal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩
abbrev S2048x8x704 : Shape := ⟨3, ![2048, 8, 704]⟩
abbrev S2048x8x768 : Shape := ⟨3, ![2048, 8, 768]⟩
abbrev S8x2048x768 : Shape := ⟨3, ![8, 2048, 768]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5632, .f32⟩
  | .hbm, ⟨2, _⟩ => ⟨S_, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S2048x5632, .f32⟩
  | .hbm, ⟨7, _⟩ => ⟨S2048x8x704, .f32⟩
  | .hbm, ⟨8, _⟩ => ⟨S_, .i32⟩
  | .hbm, ⟨9, _⟩ => ⟨S_, .f32⟩
  | .hbm, ⟨10, _⟩ => ⟨S2048x8x768, .f32⟩
  | .hbm, ⟨11, _⟩ => ⟨S8x2048x768, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== ProjIn.lean ====
abbrev S2048x2048 : Shape := ⟨2, ![2048, 2048]⟩
abbrev S2048x4448 : Shape := ⟨2, ![2048, 4448]⟩
abbrev S_ : Shape := ⟨0, ![]⟩
abbrev S2048x4480 : Shape := ⟨2, ![2048, 4480]⟩
abbrev S2048x640 : Shape := ⟨2, ![2048, 640]⟩

abbrev nBuf : Space → Nat
  | .hbm => 8
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x4448, .f32⟩
  | .hbm, ⟨2, _⟩ => ⟨S2048x4448, .bf16⟩
  | .hbm, ⟨3, _⟩ => ⟨S2048x2048, .bf16⟩
  | .hbm, ⟨4, _⟩ => ⟨S_, .i32⟩
  | .hbm, ⟨5, _⟩ => ⟨S_, .bf16⟩
  | .hbm, ⟨6, _⟩ => ⟨S2048x4480, .bf16⟩
  | .hbm, ⟨7, _⟩ => ⟨S2048x4480, .f32⟩
  | .local _ .vmem, ⟨0, _⟩ => ⟨S2048x2048, .bf16⟩
  | .local _ .vmem, ⟨1, _⟩ => ⟨S2048x640, .bf16⟩
  | .local _ .vmem, ⟨2, _⟩ => ⟨S2048x640, .bf16⟩
  | .local _ .vmem, ⟨3, _⟩ => ⟨S2048x640, .f32⟩
  | .local _ .vmem, ⟨4, _⟩ => ⟨S2048x640, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjInReferenceIdeal.lean ====
abbrev S2048x2048 : Shape := ⟨2, ![2048, 2048]⟩
abbrev S2048x4448 : Shape := ⟨2, ![2048, 4448]⟩
abbrev S_ : Shape := ⟨0, ![]⟩
abbrev S2048x4480 : Shape := ⟨2, ![2048, 4480]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4448, .f32⟩
  | .hbm, ⟨2, _⟩ => ⟨S2048x4448, .f32⟩
  | .hbm, ⟨3, _⟩ => ⟨S_, .i32⟩
  | .hbm, ⟨4, _⟩ => ⟨S_, .f32⟩
  | .hbm, ⟨5, _⟩ => ⟨S2048x4480, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== DhIn.lean ====
abbrev S2048x4448 : Shape := ⟨2, ![2048, 4448]⟩
abbrev S2048x8x556 : Shape := ⟨3, ![2048, 8, 556]⟩
abbrev S_ : Shape := ⟨0, ![]⟩
abbrev S2048x8x640 : Shape := ⟨3, ![2048, 8, 640]⟩
abbrev S2048x5120 : Shape := ⟨2, ![2048, 5120]⟩
abbrev S8x2048x556 : Shape := ⟨3, ![8, 2048, 556]⟩
abbrev S8x2048x640 : Shape := ⟨3, ![8, 2048, 640]⟩
abbrev S2048x2048 : Shape := ⟨2, ![2048, 2048]⟩
abbrev S1024x640 : Shape := ⟨2, ![1024, 640]⟩
abbrev S1x2048x640 : Shape := ⟨3, ![1, 2048, 640]⟩
abbrev S1024x2048 : Shape := ⟨2, ![1024, 2048]⟩
abbrev S2048x640 : Shape := ⟨2, ![2048, 640]⟩

abbrev nBuf : Space → Nat
  | .hbm => 15
  | .vmem => 6
  | .smem => 0
  | _ => 0

abbrev bufTy : (tb : Table) → Fin (tcTables nBuf tb) → BufTy
  | .hbm, ⟨0, _⟩ => ⟨S2048x4448, .f32⟩
  | .hbm, ⟨1, _⟩ => ⟨S2048x4448, .f32⟩
  | .hbm, ⟨2, _⟩ => ⟨S2048x4448, .bf16⟩
  | .hbm, ⟨3, _⟩ => ⟨S2048x8x556, .bf16⟩
  | .hbm, ⟨4, _⟩ => ⟨S_, .i32⟩
  | .hbm, ⟨5, _⟩ => ⟨S_, .bf16⟩
  | .hbm, ⟨6, _⟩ => ⟨S2048x8x640, .bf16⟩
  | .hbm, ⟨7, _⟩ => ⟨S2048x5120, .bf16⟩
  | .hbm, ⟨8, _⟩ => ⟨S2048x4448, .bf16⟩
  | .hbm, ⟨9, _⟩ => ⟨S2048x8x556, .bf16⟩
  | .hbm, ⟨10, _⟩ => ⟨S8x2048x556, .bf16⟩
  | .hbm, ⟨11, _⟩ => ⟨S_, .i32⟩
  | .hbm, ⟨12, _⟩ => ⟨S_, .bf16⟩
  | .hbm, ⟨13, _⟩ => ⟨S8x2048x640, .bf16⟩
  | .hbm, ⟨14, _⟩ => ⟨S2048x2048, .f32⟩
  | .local _ .vmem, ⟨0, _⟩ => ⟨S1024x640, .bf16⟩
  | .local _ .vmem, ⟨1, _⟩ => ⟨S1024x640, .bf16⟩
  | .local _ .vmem, ⟨2, _⟩ => ⟨S1x2048x640, .bf16⟩
  | .local _ .vmem, ⟨3, _⟩ => ⟨S1x2048x640, .bf16⟩
  | .local _ .vmem, ⟨4, _⟩ => ⟨S1024x2048, .f32⟩
  | .local _ .vmem, ⟨5, _⟩ => ⟨S1024x2048, .f32⟩
  | _, _ => ⟨S2048x4448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .ne arg1 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DhInReferenceIdeal.lean ====
abbrev S2048x4448 : Shape := ⟨2, ![2048, 4448]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x4448, .f32⟩
  | .hbm, ⟨1, _⟩ => ⟨S2048x4448, .f32⟩
  | .hbm, ⟨2, _⟩ => ⟨S_, .f32⟩
  | .hbm, ⟨3, _⟩ => ⟨S2048x2048, .f32⟩
  | .hbm, ⟨4, _⟩ => ⟨S2048x4448, .f32⟩
  | .hbm, ⟨5, _⟩ => ⟨S2048x2048, .f32⟩
  | _, _ => ⟨S2048x4448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwIn.lean ====
abbrev S2048x2048 : Shape := ⟨2, ![2048, 2048]⟩
abbrev S2048x4448 : Shape := ⟨2, ![2048, 4448]⟩
abbrev S2048x8x556 : Shape := ⟨3, ![2048, 8, 556]⟩
abbrev S_ : Shape := ⟨0, ![]⟩
abbrev S2048x8x640 : Shape := ⟨3, ![2048, 8, 640]⟩
abbrev S2048x5120 : Shape := ⟨2, ![2048, 5120]⟩
abbrev S8x2048x640 : Shape := ⟨3, ![8, 2048, 640]⟩
abbrev S2048x640 : Shape := ⟨2, ![2048, 640]⟩
abbrev S1x2048x640 : Shape := ⟨3, ![1, 2048, 640]⟩

abbrev nBuf : Space → Nat
  | .hbm => 10
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x4448, .f32⟩
  | .hbm, ⟨2, _⟩ => ⟨S2048x2048, .bf16⟩
  | .hbm, ⟨3, _⟩ => ⟨S2048x4448, .bf16⟩
  | .hbm, ⟨4, _⟩ => ⟨S2048x8x556, .bf16⟩
  | .hbm, ⟨5, _⟩ => ⟨S_, .i32⟩
  | .hbm, ⟨6, _⟩ => ⟨S_, .bf16⟩
  | .hbm, ⟨7, _⟩ => ⟨S2048x8x640, .bf16⟩
  | .hbm, ⟨8, _⟩ => ⟨S2048x5120, .bf16⟩
  | .hbm, ⟨9, _⟩ => ⟨S8x2048x640, .f32⟩
  | .local _ .vmem, ⟨0, _⟩ => ⟨S2048x2048, .bf16⟩
  | .local _ .vmem, ⟨1, _⟩ => ⟨S2048x640, .bf16⟩
  | .local _ .vmem, ⟨2, _⟩ => ⟨S2048x640, .bf16⟩
  | .local _ .vmem, ⟨3, _⟩ => ⟨S1x2048x640, .f32⟩
  | .local _ .vmem, ⟨4, _⟩ => ⟨S1x2048x640, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwInReferenceIdeal.lean ====
abbrev S2048x2048 : Shape := ⟨2, ![2048, 2048]⟩
abbrev S2048x4448 : Shape := ⟨2, ![2048, 4448]⟩
abbrev S_ : Shape := ⟨0, ![]⟩
abbrev S4448x2048 : Shape := ⟨2, ![4448, 2048]⟩
abbrev S2048x8x556 : Shape := ⟨3, ![2048, 8, 556]⟩
abbrev S2048x8x640 : Shape := ⟨3, ![2048, 8, 640]⟩
abbrev S8x2048x640 : Shape := ⟨3, ![8, 2048, 640]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4448, .f32⟩
  | .hbm, ⟨2, _⟩ => ⟨S_, .f32⟩
  | .hbm, ⟨3, _⟩ => ⟨S2048x4448, .f32⟩
  | .hbm, ⟨4, _⟩ => ⟨S2048x4448, .f32⟩
  | .hbm, ⟨5, _⟩ => ⟨S4448x2048, .f32⟩
  | .hbm, ⟨6, _⟩ => ⟨S2048x4448, .f32⟩
  | .hbm, ⟨7, _⟩ => ⟨S2048x8x556, .f32⟩
  | .hbm, ⟨8, _⟩ => ⟨S_, .i32⟩
  | .hbm, ⟨9, _⟩ => ⟨S_, .f32⟩
  | .hbm, ⟨10, _⟩ => ⟨S2048x8x640, .f32⟩
  | .hbm, ⟨11, _⟩ => ⟨S8x2048x640, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== ProjOut.lean ====
abbrev S2048x2048 : Shape := ⟨2, ![2048, 2048]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjOutReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DY.lean ====
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S2048x2048, .bf16⟩
  | .local _ .vmem, ⟨1, _⟩ => ⟨S1024x2048, .bf16⟩
  | .local _ .vmem, ⟨2, _⟩ => ⟨S1024x2048, .bf16⟩
  | .local _ .vmem, ⟨3, _⟩ => ⟨S2048x1024, .f32⟩
  | .local _ .vmem, ⟨4, _⟩ => ⟨S2048x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DYReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwOut.lean ====
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwOutReferenceIdeal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjQ.lean ====
abbrev S2048x512 : Shape := ⟨2, ![2048, 512]⟩
abbrev S512x1536 : Shape := ⟨2, ![512, 1536]⟩
abbrev S512x8x192 : Shape := ⟨3, ![512, 8, 192]⟩
abbrev S8x512x192 : Shape := ⟨3, ![8, 512, 192]⟩
abbrev S_ : Shape := ⟨0, ![]⟩
abbrev S8x512x256 : Shape := ⟨3, ![8, 512, 256]⟩
abbrev S8x2048x256 : Shape := ⟨3, ![8, 2048, 256]⟩
abbrev S1x512x256 : Shape := ⟨3, ![1, 512, 256]⟩
abbrev S1x2048x256 : Shape := ⟨3, ![1, 2048, 256]⟩
abbrev S512x256 : Shape := ⟨2, ![512, 256]⟩
abbrev S2048x256 : Shape := ⟨2, ![2048, 256]⟩

abbrev nBuf : Space → Nat
  | .hbm => 10
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x1536, .f32⟩
  | .hbm, ⟨2, _⟩ => ⟨S2048x512, .bf16⟩
  | .hbm, ⟨3, _⟩ => ⟨S512x1536, .bf16⟩
  | .hbm, ⟨4, _⟩ => ⟨S512x8x192, .bf16⟩
  | .hbm, ⟨5, _⟩ => ⟨S8x512x192, .bf16⟩
  | .hbm, ⟨6, _⟩ => ⟨S_, .i32⟩
  | .hbm, ⟨7, _⟩ => ⟨S_, .bf16⟩
  | .hbm, ⟨8, _⟩ => ⟨S8x512x256, .bf16⟩
  | .hbm, ⟨9, _⟩ => ⟨S8x2048x256, .f32⟩
  | .local _ .vmem, ⟨0, _⟩ => ⟨S2048x512, .bf16⟩
  | .local _ .vmem, ⟨1, _⟩ => ⟨S1x512x256, .bf16⟩
  | .local _ .vmem, ⟨2, _⟩ => ⟨S1x512x256, .bf16⟩
  | .local _ .vmem, ⟨3, _⟩ => ⟨S1x2048x256, .f32⟩
  | .local _ .vmem, ⟨4, _⟩ => ⟨S1x2048x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjQReferenceIdeal.lean ====
abbrev S2048x512 : Shape := ⟨2, ![2048, 512]⟩
abbrev S512x1536 : Shape := ⟨2, ![512, 1536]⟩
abbrev S2048x1536 : Shape := ⟨2, ![2048, 1536]⟩
abbrev S2048x8x192 : Shape := ⟨3, ![2048, 8, 192]⟩
abbrev S_ : Shape := ⟨0, ![]⟩
abbrev S2048x8x256 : Shape := ⟨3, ![2048, 8, 256]⟩
abbrev S8x2048x256 : Shape := ⟨3, ![8, 2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1536, .f32⟩
  | .hbm, ⟨2, _⟩ => ⟨S2048x1536, .f32⟩
  | .hbm, ⟨3, _⟩ => ⟨S2048x8x192, .f32⟩
  | .hbm, ⟨4, _⟩ => ⟨S_, .i32⟩
  | .hbm, ⟨5, _⟩ => ⟨S_, .f32⟩
  | .hbm, ⟨6, _⟩ => ⟨S2048x8x256, .f32⟩
  | .hbm, ⟨7, _⟩ => ⟨S8x2048x256, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DQn.lean ====
abbrev S2048x1536 : Shape := ⟨2, ![2048, 1536]⟩
abbrev S512x1536 : Shape := ⟨2, ![512, 1536]⟩
abbrev S2048x8x192 : Shape := ⟨3, ![2048, 8, 192]⟩
abbrev S8x2048x192 : Shape := ⟨3, ![8, 2048, 192]⟩
abbrev S_ : Shape := ⟨0, ![]⟩
abbrev S8x2048x256 : Shape := ⟨3, ![8, 2048, 256]⟩
abbrev S512x8x192 : Shape := ⟨3, ![512, 8, 192]⟩
abbrev S8x512x192 : Shape := ⟨3, ![8, 512, 192]⟩
abbrev S8x512x256 : Shape := ⟨3, ![8, 512, 256]⟩
abbrev S2048x512 : Shape := ⟨2, ![2048, 512]⟩
abbrev S1x1024x256 : Shape := ⟨3, ![1, 1024, 256]⟩
abbrev S1x512x256 : Shape := ⟨3, ![1, 512, 256]⟩
abbrev S1024x512 : Shape := ⟨2, ![1024, 512]⟩
abbrev S1024x256 : Shape := ⟨2, ![1024, 256]⟩
abbrev S512x256 : Shape := ⟨2, ![512, 256]⟩

abbrev nBuf : Space → Nat
  | .hbm => 15
  | .vmem => 6
  | .smem => 0
  | _ => 0

abbrev bufTy : (tb : Table) → Fin (tcTables nBuf tb) → BufTy
  | .hbm, ⟨0, _⟩ => ⟨S2048x1536, .f32⟩
  | .hbm, ⟨1, _⟩ => ⟨S512x1536, .f32⟩
  | .hbm, ⟨2, _⟩ => ⟨S2048x1536, .bf16⟩
  | .hbm, ⟨3, _⟩ => ⟨S2048x8x192, .bf16⟩
  | .hbm, ⟨4, _⟩ => ⟨S8x2048x192, .bf16⟩
  | .hbm, ⟨5, _⟩ => ⟨S_, .i32⟩
  | .hbm, ⟨6, _⟩ => ⟨S_, .bf16⟩
  | .hbm, ⟨7, _⟩ => ⟨S8x2048x256, .bf16⟩
  | .hbm, ⟨8, _⟩ => ⟨S512x1536, .bf16⟩
  | .hbm, ⟨9, _⟩ => ⟨S512x8x192, .bf16⟩
  | .hbm, ⟨10, _⟩ => ⟨S8x512x192, .bf16⟩
  | .hbm, ⟨11, _⟩ => ⟨S_, .i32⟩
  | .hbm, ⟨12, _⟩ => ⟨S_, .bf16⟩
  | .hbm, ⟨13, _⟩ => ⟨S8x512x256, .bf16⟩
  | .hbm, ⟨14, _⟩ => ⟨S2048x512, .f32⟩
  | .local _ .vmem, ⟨0, _⟩ => ⟨S1x1024x256, .bf16⟩
  | .local _ .vmem, ⟨1, _⟩ => ⟨S1x1024x256, .bf16⟩
  | .local _ .vmem, ⟨2, _⟩ => ⟨S1x512x256, .bf16⟩
  | .local _ .vmem, ⟨3, _⟩ => ⟨S1x512x256, .bf16⟩
  | .local _ .vmem, ⟨4, _⟩ => ⟨S1024x512, .f32⟩
  | .local _ .vmem, ⟨5, _⟩ => ⟨S1024x512, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32_6 : BitVec 32 := 0#32
  let v8 : BitVec 1 := Scalar.cmpi .ne arg1 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DQnReferenceIdeal.lean ====
abbrev S2048x1536 : Shape := ⟨2, ![2048, 1536]⟩
abbrev S512x1536 : Shape := ⟨2, ![512, 1536]⟩
abbrev S_ : Shape := ⟨0, ![]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S512x1536, .f32⟩
  | .hbm, ⟨2, _⟩ => ⟨S_, .f32⟩
  | .hbm, ⟨3, _⟩ => ⟨S2048x512, .f32⟩
  | .hbm, ⟨4, _⟩ => ⟨S2048x1536, .f32⟩
  | .hbm, ⟨5, _⟩ => ⟨S2048x512, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwUq.lean ====
abbrev S2048x512 : Shape := ⟨2, ![2048, 512]⟩
abbrev S2048x1536 : Shape := ⟨2, ![2048, 1536]⟩
abbrev S2048x8x192 : Shape := ⟨3, ![2048, 8, 192]⟩
abbrev S8x2048x192 : Shape := ⟨3, ![8, 2048, 192]⟩
abbrev S_ : Shape := ⟨0, ![]⟩
abbrev S8x2048x256 : Shape := ⟨3, ![8, 2048, 256]⟩
abbrev S8x512x256 : Shape := ⟨3, ![8, 512, 256]⟩
abbrev S1x2048x256 : Shape := ⟨3, ![1, 2048, 256]⟩
abbrev S1x512x256 : Shape := ⟨3, ![1, 512, 256]⟩
abbrev S2048x256 : Shape := ⟨2, ![2048, 256]⟩
abbrev S512x256 : Shape := ⟨2, ![512, 256]⟩

abbrev nBuf : Space → Nat
  | .hbm => 10
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S2048x1536, .f32⟩
  | .hbm, ⟨2, _⟩ => ⟨S2048x512, .bf16⟩
  | .hbm, ⟨3, _⟩ => ⟨S2048x1536, .bf16⟩
  | .hbm, ⟨4, _⟩ => ⟨S2048x8x192, .bf16⟩
  | .hbm, ⟨5, _⟩ => ⟨S8x2048x192, .bf16⟩
  | .hbm, ⟨6, _⟩ => ⟨S_, .i32⟩
  | .hbm, ⟨7, _⟩ => ⟨S_, .bf16⟩
  | .hbm, ⟨8, _⟩ => ⟨S8x2048x256, .bf16⟩
  | .hbm, ⟨9, _⟩ => ⟨S8x512x256, .f32⟩
  | .local _ .vmem, ⟨0, _⟩ => ⟨S2048x512, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x512x256, .f32⟩
  | .local _ .vmem, ⟨4, _⟩ => ⟨S1x512x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwUqReferenceIdeal.lean ====
abbrev S2048x512 : Shape := ⟨2, ![2048, 512]⟩
abbrev S2048x1536 : Shape := ⟨2, ![2048, 1536]⟩
abbrev S_ : Shape := ⟨0, ![]⟩
abbrev S512x1536 : Shape := ⟨2, ![512, 1536]⟩
abbrev S1536x512 : Shape := ⟨2, ![1536, 512]⟩
abbrev S512x8x192 : Shape := ⟨3, ![512, 8, 192]⟩
abbrev S512x8x256 : Shape := ⟨3, ![512, 8, 256]⟩
abbrev S8x512x256 : Shape := ⟨3, ![8, 512, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1536, .f32⟩
  | .hbm, ⟨2, _⟩ => ⟨S_, .f32⟩
  | .hbm, ⟨3, _⟩ => ⟨S512x1536, .f32⟩
  | .hbm, ⟨4, _⟩ => ⟨S2048x1536, .f32⟩
  | .hbm, ⟨5, _⟩ => ⟨S1536x512, .f32⟩
  | .hbm, ⟨6, _⟩ => ⟨S512x1536, .f32⟩
  | .hbm, ⟨7, _⟩ => ⟨S512x8x192, .f32⟩
  | .hbm, ⟨8, _⟩ => ⟨S_, .i32⟩
  | .hbm, ⟨9, _⟩ => ⟨S_, .f32⟩
  | .hbm, ⟨10, _⟩ => ⟨S512x8x256, .f32⟩
  | .hbm, ⟨11, _⟩ => ⟨S8x512x256, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== ProjKv.lean ====
abbrev S2048x512 : Shape := ⟨2, ![2048, 512]⟩
abbrev S512x2048 : Shape := ⟨2, ![512, 2048]⟩
abbrev S512x8x256 : Shape := ⟨3, ![512, 8, 256]⟩
abbrev S8x512x256 : Shape := ⟨3, ![8, 512, 256]⟩
abbrev S_ : Shape := ⟨0, ![]⟩
abbrev S8x2048x256 : Shape := ⟨3, ![8, 2048, 256]⟩
abbrev S1x512x256 : Shape := ⟨3, ![1, 512, 256]⟩
abbrev S1x2048x256 : Shape := ⟨3, ![1, 2048, 256]⟩
abbrev S512x256 : Shape := ⟨2, ![512, 256]⟩
abbrev S2048x256 : Shape := ⟨2, ![2048, 256]⟩

abbrev nBuf : Space → Nat
  | .hbm => 10
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x512, .bf16⟩
  | .hbm, ⟨3, _⟩ => ⟨S512x2048, .bf16⟩
  | .hbm, ⟨4, _⟩ => ⟨S512x8x256, .bf16⟩
  | .hbm, ⟨5, _⟩ => ⟨S8x512x256, .bf16⟩
  | .hbm, ⟨6, _⟩ => ⟨S_, .i32⟩
  | .hbm, ⟨7, _⟩ => ⟨S_, .bf16⟩
  | .hbm, ⟨8, _⟩ => ⟨S8x512x256, .bf16⟩
  | .hbm, ⟨9, _⟩ => ⟨S8x2048x256, .f32⟩
  | .local _ .vmem, ⟨0, _⟩ => ⟨S2048x512, .bf16⟩
  | .local _ .vmem, ⟨1, _⟩ => ⟨S1x512x256, .bf16⟩
  | .local _ .vmem, ⟨2, _⟩ => ⟨S1x512x256, .bf16⟩
  | .local _ .vmem, ⟨3, _⟩ => ⟨S1x2048x256, .f32⟩
  | .local _ .vmem, ⟨4, _⟩ => ⟨S1x2048x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjKvReferenceIdeal.lean ====
abbrev S2048x512 : Shape := ⟨2, ![2048, 512]⟩
abbrev S512x2048 : Shape := ⟨2, ![512, 2048]⟩
abbrev S2048x2048 : Shape := ⟨2, ![2048, 2048]⟩
abbrev S2048x8x256 : Shape := ⟨3, ![2048, 8, 256]⟩
abbrev S_ : Shape := ⟨0, ![]⟩
abbrev S8x2048x256 : Shape := ⟨3, ![8, 2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x2048, .f32⟩
  | .hbm, ⟨3, _⟩ => ⟨S2048x8x256, .f32⟩
  | .hbm, ⟨4, _⟩ => ⟨S_, .i32⟩
  | .hbm, ⟨5, _⟩ => ⟨S_, .f32⟩
  | .hbm, ⟨6, _⟩ => ⟨S2048x8x256, .f32⟩
  | .hbm, ⟨7, _⟩ => ⟨S8x2048x256, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DKvn.lean ====
abbrev S2048x2048 : Shape := ⟨2, ![2048, 2048]⟩
abbrev S512x2048 : Shape := ⟨2, ![512, 2048]⟩
abbrev S2048x8x256 : Shape := ⟨3, ![2048, 8, 256]⟩
abbrev S8x2048x256 : Shape := ⟨3, ![8, 2048, 256]⟩
abbrev S_ : Shape := ⟨0, ![]⟩
abbrev S512x8x256 : Shape := ⟨3, ![512, 8, 256]⟩
abbrev S8x512x256 : Shape := ⟨3, ![8, 512, 256]⟩
abbrev S2048x512 : Shape := ⟨2, ![2048, 512]⟩
abbrev S1x1024x256 : Shape := ⟨3, ![1, 1024, 256]⟩
abbrev S1x512x256 : Shape := ⟨3, ![1, 512, 256]⟩
abbrev S1024x512 : Shape := ⟨2, ![1024, 512]⟩
abbrev S1024x256 : Shape := ⟨2, ![1024, 256]⟩
abbrev S512x256 : Shape := ⟨2, ![512, 256]⟩

abbrev nBuf : Space → Nat
  | .hbm => 15
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S512x2048, .f32⟩
  | .hbm, ⟨2, _⟩ => ⟨S2048x2048, .bf16⟩
  | .hbm, ⟨3, _⟩ => ⟨S2048x8x256, .bf16⟩
  | .hbm, ⟨4, _⟩ => ⟨S8x2048x256, .bf16⟩
  | .hbm, ⟨5, _⟩ => ⟨S_, .i32⟩
  | .hbm, ⟨6, _⟩ => ⟨S_, .bf16⟩
  | .hbm, ⟨7, _⟩ => ⟨S8x2048x256, .bf16⟩
  | .hbm, ⟨8, _⟩ => ⟨S512x2048, .bf16⟩
  | .hbm, ⟨9, _⟩ => ⟨S512x8x256, .bf16⟩
  | .hbm, ⟨10, _⟩ => ⟨S8x512x256, .bf16⟩
  | .hbm, ⟨11, _⟩ => ⟨S_, .i32⟩
  | .hbm, ⟨12, _⟩ => ⟨S_, .bf16⟩
  | .hbm, ⟨13, _⟩ => ⟨S8x512x256, .bf16⟩
  | .hbm, ⟨14, _⟩ => ⟨S2048x512, .f32⟩
  | .local _ .vmem, ⟨0, _⟩ => ⟨S1x1024x256, .bf16⟩
  | .local _ .vmem, ⟨1, _⟩ => ⟨S1x1024x256, .bf16⟩
  | .local _ .vmem, ⟨2, _⟩ => ⟨S1x512x256, .bf16⟩
  | .local _ .vmem, ⟨3, _⟩ => ⟨S1x512x256, .bf16⟩
  | .local _ .vmem, ⟨4, _⟩ => ⟨S1024x512, .f32⟩
  | .local _ .vmem, ⟨5, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32_6 : BitVec 32 := 0#32
  let v8 : BitVec 1 := Scalar.cmpi .ne arg1 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DKvnReferenceIdeal.lean ====
abbrev S2048x2048 : Shape := ⟨2, ![2048, 2048]⟩
abbrev S512x2048 : Shape := ⟨2, ![512, 2048]⟩
abbrev S_ : Shape := ⟨0, ![]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S512x2048, .f32⟩
  | .hbm, ⟨2, _⟩ => ⟨S_, .f32⟩
  | .hbm, ⟨3, _⟩ => ⟨S2048x512, .f32⟩
  | .hbm, ⟨4, _⟩ => ⟨S2048x2048, .f32⟩
  | .hbm, ⟨5, _⟩ => ⟨S2048x512, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwUkv.lean ====
abbrev S2048x512 : Shape := ⟨2, ![2048, 512]⟩
abbrev S2048x2048 : Shape := ⟨2, ![2048, 2048]⟩
abbrev S2048x8x256 : Shape := ⟨3, ![2048, 8, 256]⟩
abbrev S8x2048x256 : Shape := ⟨3, ![8, 2048, 256]⟩
abbrev S_ : Shape := ⟨0, ![]⟩
abbrev S8x512x256 : Shape := ⟨3, ![8, 512, 256]⟩
abbrev S1x2048x256 : Shape := ⟨3, ![1, 2048, 256]⟩
abbrev S1x512x256 : Shape := ⟨3, ![1, 512, 256]⟩
abbrev S2048x256 : Shape := ⟨2, ![2048, 256]⟩
abbrev S512x256 : Shape := ⟨2, ![512, 256]⟩

abbrev nBuf : Space → Nat
  | .hbm => 10
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S2048x512, .bf16⟩
  | .hbm, ⟨3, _⟩ => ⟨S2048x2048, .bf16⟩
  | .hbm, ⟨4, _⟩ => ⟨S2048x8x256, .bf16⟩
  | .hbm, ⟨5, _⟩ => ⟨S8x2048x256, .bf16⟩
  | .hbm, ⟨6, _⟩ => ⟨S_, .i32⟩
  | .hbm, ⟨7, _⟩ => ⟨S_, .bf16⟩
  | .hbm, ⟨8, _⟩ => ⟨S8x2048x256, .bf16⟩
  | .hbm, ⟨9, _⟩ => ⟨S8x512x256, .f32⟩
  | .local _ .vmem, ⟨0, _⟩ => ⟨S2048x512, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x512x256, .f32⟩
  | .local _ .vmem, ⟨4, _⟩ => ⟨S1x512x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwUkvReferenceIdeal.lean ====
abbrev S2048x512 : Shape := ⟨2, ![2048, 512]⟩
abbrev S2048x2048 : Shape := ⟨2, ![2048, 2048]⟩
abbrev S_ : Shape := ⟨0, ![]⟩
abbrev S512x2048 : Shape := ⟨2, ![512, 2048]⟩
abbrev S512x8x256 : Shape := ⟨3, ![512, 8, 256]⟩
abbrev S8x512x256 : Shape := ⟨3, ![8, 512, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S_, .f32⟩
  | .hbm, ⟨3, _⟩ => ⟨S512x2048, .f32⟩
  | .hbm, ⟨4, _⟩ => ⟨S2048x2048, .f32⟩
  | .hbm, ⟨5, _⟩ => ⟨S2048x512, .f32⟩
  | .hbm, ⟨6, _⟩ => ⟨S512x2048, .f32⟩
  | .hbm, ⟨7, _⟩ => ⟨S512x8x256, .f32⟩
  | .hbm, ⟨8, _⟩ => ⟨S_, .i32⟩
  | .hbm, ⟨9, _⟩ => ⟨S_, .f32⟩
  | .hbm, ⟨10, _⟩ => ⟨S512x8x256, .f32⟩
  | .hbm, ⟨11, _⟩ => ⟨S8x512x256, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== RmsAttn.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== RmsAttnReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RmsFfn.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== RmsFfnReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== DRmsAttn.lean ====
abbrev S2048x2048 : Shape := ⟨2, ![2048, 2048]⟩
abbrev S1x2048 : Shape := ⟨2, ![1, 2048]⟩
abbrev S1x8x1x2048 : Shape := ⟨4, ![1, 8, 1, 2048]⟩
abbrev S256x2048 : Shape := ⟨2, ![256, 2048]⟩
abbrev S1x1x1x2048 : Shape := ⟨4, ![1, 1, 1, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x8x1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x1x1x2048, .f32⟩
  | .local _ .vmem, ⟨10, _⟩ => ⟨S1x1x1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DRmsAttnReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S8x256x2048 : Shape := ⟨3, ![8, 256, 2048]⟩
abbrev S8x2048 : Shape := ⟨2, ![8, 2048]⟩
abbrev S1x8x1x2048 : Shape := ⟨4, ![1, 8, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S2048x2048, .f32⟩
  | .hbm, ⟨30, _⟩ => ⟨S2048x2048, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S8x256x2048, .f32⟩
  | .hbm, ⟨44, _⟩ => ⟨S_, .f32⟩
  | .hbm, ⟨45, _⟩ => ⟨S8x2048, .f32⟩
  | .hbm, ⟨46, _⟩ => ⟨S1x8x1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== DRmsFfn.lean ====
abbrev S2048x2048 : Shape := ⟨2, ![2048, 2048]⟩
abbrev S1x2048 : Shape := ⟨2, ![1, 2048]⟩
abbrev S1x8x1x2048 : Shape := ⟨4, ![1, 8, 1, 2048]⟩
abbrev S256x2048 : Shape := ⟨2, ![256, 2048]⟩
abbrev S1x1x1x2048 : Shape := ⟨4, ![1, 1, 1, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x8x1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x1x1x2048, .f32⟩
  | .local _ .vmem, ⟨10, _⟩ => ⟨S1x1x1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DRmsFfnReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S8x256x2048 : Shape := ⟨3, ![8, 256, 2048]⟩
abbrev S8x2048 : Shape := ⟨2, ![8, 2048]⟩
abbrev S1x8x1x2048 : Shape := ⟨4, ![1, 8, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S2048x2048, .f32⟩
  | .hbm, ⟨30, _⟩ => ⟨S2048x2048, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S8x256x2048, .f32⟩
  | .hbm, ⟨44, _⟩ => ⟨S_, .f32⟩
  | .hbm, ⟨45, _⟩ => ⟨S8x2048, .f32⟩
  | .hbm, ⟨46, _⟩ => ⟨S1x8x1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Loss.lean ====
abbrev S2048x2048 : Shape := ⟨2, ![2048, 2048]⟩
abbrev S1x2048 : Shape := ⟨2, ![1, 2048]⟩
abbrev S_ : Shape := ⟨0, ![]⟩
abbrev S2048x1 : Shape := ⟨2, ![2048, 1]⟩
abbrev S1x8x1x2048 : Shape := ⟨4, ![1, 8, 1, 2048]⟩
abbrev S256x2048 : Shape := ⟨2, ![256, 2048]⟩
abbrev S256x1 : Shape := ⟨2, ![256, 1]⟩
abbrev S1x1x1x2048 : Shape := ⟨4, ![1, 1, 1, 2048]⟩
abbrev S256 : Shape := ⟨1, ![256]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048x1, .f32⟩
  | .hbm, ⟨5, _⟩ => ⟨S2048x2048, .f32⟩
  | .hbm, ⟨6, _⟩ => ⟨S1x8x1x2048, .f32⟩
  | .hbm, ⟨7, _⟩ => ⟨S2048x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x1, .f32⟩
  | .local _ .vmem, ⟨6, _⟩ => ⟨S256x1, .f32⟩
  | .local _ .vmem, ⟨7, _⟩ => ⟨S256x2048, .f32⟩
  | .local _ .vmem, ⟨8, _⟩ => ⟨S256x2048, .f32⟩
  | .local _ .vmem, ⟨9, _⟩ => ⟨S1x1x1x2048, .f32⟩
  | .local _ .vmem, ⟨10, _⟩ => ⟨S1x1x1x2048, .f32⟩
  | .local _ .vmem, ⟨11, _⟩ => ⟨S256x1, .f32⟩
  | .local _ .vmem, ⟨12, _⟩ => ⟨S256x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== LossReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S8x256x2048 : Shape := ⟨3, ![8, 256, 2048]⟩
abbrev S8x2048 : Shape := ⟨2, ![8, 2048]⟩
abbrev S1x8x1x2048 : Shape := ⟨4, ![1, 8, 1, 2048]⟩

abbrev nBuf : Space → Nat
  | .hbm => 71
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S2048x2048, .f32⟩
  | .hbm, ⟨55, _⟩ => ⟨S2048x2048, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S_, .f32⟩
  | .hbm, ⟨61, _⟩ => ⟨S2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S8x256x2048, .f32⟩
  | .hbm, ⟨68, _⟩ => ⟨S_, .f32⟩
  | .hbm, ⟨69, _⟩ => ⟨S8x2048, .f32⟩
  | .hbm, ⟨70, _⟩ => ⟨S1x8x1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_11 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_12 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_14 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== FfnAct.lean ====
abbrev S2048x5632 : Shape := ⟨2, ![2048, 5632]⟩
abbrev S3x5632 : Shape := ⟨2, ![3, 5632]⟩
abbrev S1x5632 : Shape := ⟨2, ![1, 5632]⟩
abbrev S2048x8x704 : Shape := ⟨3, ![2048, 8, 704]⟩
abbrev S_ : Shape := ⟨0, ![]⟩
abbrev S2048x8x768 : Shape := ⟨3, ![2048, 8, 768]⟩
abbrev S2048x6144 : Shape := ⟨2, ![2048, 6144]⟩
abbrev S3x8x704 : Shape := ⟨3, ![3, 8, 704]⟩
abbrev S3x8x768 : Shape := ⟨3, ![3, 8, 768]⟩
abbrev S3x6144 : Shape := ⟨2, ![3, 6144]⟩
abbrev S1x8x704 : Shape := ⟨3, ![1, 8, 704]⟩
abbrev S1x8x768 : Shape := ⟨3, ![1, 8, 768]⟩
abbrev S1x6144 : Shape := ⟨2, ![1, 6144]⟩
abbrev S256x1024 : Shape := ⟨2, ![256, 1024]⟩
abbrev S8x1024 : Shape := ⟨2, ![8, 1024]⟩
abbrev S3x1024 : Shape := ⟨2, ![3, 1024]⟩
abbrev S1x1024 : Shape := ⟨2, ![1, 1024]⟩

abbrev nBuf : Space → Nat
  | .hbm => 25
  | .vmem => 12
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S3x5632, .f32⟩
  | .hbm, ⟨3, _⟩ => ⟨S1x5632, .f32⟩
  | .hbm, ⟨4, _⟩ => ⟨S2048x8x704, .f32⟩
  | .hbm, ⟨5, _⟩ => ⟨S_, .i32⟩
  | .hbm, ⟨6, _⟩ => ⟨S_, .f32⟩
  | .hbm, ⟨7, _⟩ => ⟨S2048x8x768, .f32⟩
  | .hbm, ⟨8, _⟩ => ⟨S2048x6144, .f32⟩
  | .hbm, ⟨9, _⟩ => ⟨S2048x8x704, .f32⟩
  | .hbm, ⟨10, _⟩ => ⟨S_, .i32⟩
  | .hbm, ⟨11, _⟩ => ⟨S_, .f32⟩
  | .hbm, ⟨12, _⟩ => ⟨S2048x8x768, .f32⟩
  | .hbm, ⟨13, _⟩ => ⟨S2048x6144, .f32⟩
  | .hbm, ⟨14, _⟩ => ⟨S3x8x704, .f32⟩
  | .hbm, ⟨15, _⟩ => ⟨S_, .i32⟩
  | .hbm, ⟨16, _⟩ => ⟨S_, .f32⟩
  | .hbm, ⟨17, _⟩ => ⟨S3x8x768, .f32⟩
  | .hbm, ⟨18, _⟩ => ⟨S3x6144, .f32⟩
  | .hbm, ⟨19, _⟩ => ⟨S1x8x704, .f32⟩
  | .hbm, ⟨20, _⟩ => ⟨S_, .i32⟩
  | .hbm, ⟨21, _⟩ => ⟨S_, .f32⟩
  | .hbm, ⟨22, _⟩ => ⟨S1x8x768, .f32⟩
  | .hbm, ⟨23, _⟩ => ⟨S1x6144, .f32⟩
  | .hbm, ⟨24, _⟩ => ⟨S2048x6144, .bf16⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S256x1024, .f32⟩
  | .local _ .vmem, ⟨5, _⟩ => ⟨S256x1024, .f32⟩
  | .local _ .vmem, ⟨6, _⟩ => ⟨S3x1024, .f32⟩
  | .local _ .vmem, ⟨7, _⟩ => ⟨S3x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnActReferenceIdeal.lean ====
abbrev S2048x5632 : Shape := ⟨2, ![2048, 5632]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S2050x5632 : Shape := ⟨2, ![2050, 5632]⟩
abbrev S2048x8x704 : Shape := ⟨3, ![2048, 8, 704]⟩
abbrev S2048x8x768 : Shape := ⟨3, ![2048, 8, 768]⟩
abbrev S2048x6144 : Shape := ⟨2, ![2048, 6144]⟩

abbrev nBuf : Space → Nat
  | .hbm => 38
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S3x5632, .f32⟩
  | .hbm, ⟨3, _⟩ => ⟨S1x5632, .f32⟩
  | .hbm, ⟨4, _⟩ => ⟨S1x5632, .f32⟩
  | .hbm, ⟨5, _⟩ => ⟨S1x5632, .f32⟩
  | .hbm, ⟨6, _⟩ => ⟨S1x5632, .f32⟩
  | .hbm, ⟨7, _⟩ => ⟨S_, .f32⟩
  | .hbm, ⟨8, _⟩ => ⟨S2x5632, .f32⟩
  | .hbm, ⟨9, _⟩ => ⟨S2050x5632, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S_, .f32⟩
  | .hbm, ⟨25, _⟩ => ⟨S2048x5632, .f32⟩
  | .hbm, ⟨26, _⟩ => ⟨S2048x5632, .f32⟩
  | .hbm, ⟨27, _⟩ => ⟨S_, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x8x704, .f32⟩
  | .hbm, ⟨33, _⟩ => ⟨S_, .i32⟩
  | .hbm, ⟨34, _⟩ => ⟨S_, .f32⟩
  | .hbm, ⟨35, _⟩ => ⟨S2048x8x768, .f32⟩
  | .hbm, ⟨36, _⟩ => ⟨S2048x6144, .f32⟩
  | .hbm, ⟨37, _⟩ => ⟨S2048x6144, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_call1_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== DConv.lean ====
abbrev S2048x5632 : Shape := ⟨2, ![2048, 5632]⟩
abbrev S3x5632 : Shape := ⟨2, ![3, 5632]⟩
abbrev S2048x8x704 : Shape := ⟨3, ![2048, 8, 704]⟩
abbrev S_ : Shape := ⟨0, ![]⟩
abbrev S2048x8x768 : Shape := ⟨3, ![2048, 8, 768]⟩
abbrev S2048x6144 : Shape := ⟨2, ![2048, 6144]⟩
abbrev S3x8x704 : Shape := ⟨3, ![3, 8, 704]⟩
abbrev S3x8x768 : Shape := ⟨3, ![3, 8, 768]⟩
abbrev S3x6144 : Shape := ⟨2, ![3, 6144]⟩
abbrev S256x1024 : Shape := ⟨2, ![256, 1024]⟩
abbrev S8x1024 : Shape := ⟨2, ![8, 1024]⟩
abbrev S3x1024 : Shape := ⟨2, ![3, 1024]⟩
abbrev S1x1024 : Shape := ⟨2, ![1, 1024]⟩

abbrev nBuf : Space → Nat
  | .hbm => 13
  | .vmem => 8
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S2048x8x704, .f32⟩
  | .hbm, ⟨3, _⟩ => ⟨S_, .i32⟩
  | .hbm, ⟨4, _⟩ => ⟨S_, .f32⟩
  | .hbm, ⟨5, _⟩ => ⟨S2048x8x768, .f32⟩
  | .hbm, ⟨6, _⟩ => ⟨S2048x6144, .f32⟩
  | .hbm, ⟨7, _⟩ => ⟨S3x8x704, .f32⟩
  | .hbm, ⟨8, _⟩ => ⟨S_, .i32⟩
  | .hbm, ⟨9, _⟩ => ⟨S_, .f32⟩
  | .hbm, ⟨10, _⟩ => ⟨S3x8x768, .f32⟩
  | .hbm, ⟨11, _⟩ => ⟨S3x6144, .f32⟩
  | .hbm, ⟨12, _⟩ => ⟨S2048x6144, .bf16⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S3x1024, .f32⟩
  | .local _ .vmem, ⟨5, _⟩ => ⟨S3x1024, .f32⟩
  | .local _ .vmem, ⟨6, _⟩ => ⟨S256x1024, .bf16⟩
  | .local _ .vmem, ⟨7, _⟩ => ⟨S256x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DConvReferenceIdeal.lean ====
abbrev S2048x5632 : Shape := ⟨2, ![2048, 5632]⟩
abbrev S3x5632 : Shape := ⟨2, ![3, 5632]⟩
abbrev S_ : Shape := ⟨0, ![]⟩
abbrev S1x5632 : Shape := ⟨2, ![1, 5632]⟩
abbrev S2x5632 : Shape := ⟨2, ![2, 5632]⟩
abbrev S2050x5632 : Shape := ⟨2, ![2050, 5632]⟩
abbrev S2048x8x704 : Shape := ⟨3, ![2048, 8, 704]⟩
abbrev S2048x8x768 : Shape := ⟨3, ![2048, 8, 768]⟩
abbrev S2048x6144 : Shape := ⟨2, ![2048, 6144]⟩

abbrev nBuf : Space → Nat
  | .hbm => 48
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S_, .f32⟩
  | .hbm, ⟨3, _⟩ => ⟨S1x5632, .f32⟩
  | .hbm, ⟨4, _⟩ => ⟨S_, .f32⟩
  | .hbm, ⟨5, _⟩ => ⟨S2048x5632, .f32⟩
  | .hbm, ⟨6, _⟩ => ⟨S1x5632, .f32⟩
  | .hbm, ⟨7, _⟩ => ⟨S1x5632, .f32⟩
  | .hbm, ⟨8, _⟩ => ⟨S1x5632, .f32⟩
  | .hbm, ⟨9, _⟩ => ⟨S_, .f32⟩
  | .hbm, ⟨10, _⟩ => ⟨S2x5632, .f32⟩
  | .hbm, ⟨11, _⟩ => ⟨S2050x5632, .f32⟩
  | .hbm, ⟨12, _⟩ => ⟨S_, .f32⟩
  | .hbm, ⟨13, _⟩ => ⟨S2x5632, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S_, .f32⟩
  | .hbm, ⟨33, _⟩ => ⟨S2050x5632, .f32⟩
  | .hbm, ⟨34, _⟩ => ⟨S2048x5632, .f32⟩
  | .hbm, ⟨35, _⟩ => ⟨S2048x5632, .f32⟩
  | .hbm, ⟨36, _⟩ => ⟨S_, .f32⟩
  | .hbm, ⟨37, _⟩ => ⟨S2050x5632, .f32⟩
  | .hbm, ⟨38, _⟩ => ⟨S2050x5632, .f32⟩
  | .hbm, ⟨39, _⟩ => ⟨S2x5632, .f32⟩
  | .hbm, ⟨40, _⟩ => ⟨S2048x5632, .f32⟩
  | .hbm, ⟨41, _⟩ => ⟨S2048x5632, .f32⟩
  | .hbm, ⟨42, _⟩ => ⟨S2048x8x704, .f32⟩
  | .hbm, ⟨43, _⟩ => ⟨S_, .i32⟩
  | .hbm, ⟨44, _⟩ => ⟨S_, .f32⟩
  | .hbm, ⟨45, _⟩ => ⟨S2048x8x768, .f32⟩
  | .hbm, ⟨46, _⟩ => ⟨S2048x6144, .f32⟩
  | .hbm, ⟨47, _⟩ => ⟨S2048x6144, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c : Ref sig .tc := ⟨.hbm, 43, rfl⟩
abbrev main_call0_v0 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== AdamwIn.lean ====
abbrev S1x2048x556 : Shape := ⟨3, ![1, 2048, 556]⟩
abbrev S4x2048x556 : Shape := ⟨3, ![4, 2048, 556]⟩
abbrev S2048x556 : Shape := ⟨2, ![2048, 556]⟩
abbrev S_ : Shape := ⟨0, ![]⟩
abbrev S2048x640 : Shape := ⟨2, ![2048, 640]⟩
abbrev S3x2048x556 : Shape := ⟨3, ![3, 2048, 556]⟩
abbrev S3x2048x640 : Shape := ⟨3, ![3, 2048, 640]⟩
abbrev S256x640 : Shape := ⟨2, ![256, 640]⟩
abbrev S1x256x640 : Shape := ⟨3, ![1, 256, 640]⟩
abbrev S1x256x556 : Shape := ⟨3, ![1, 256, 556]⟩
abbrev S256x556 : Shape := ⟨2, ![256, 556]⟩

abbrev nBuf : Space → Nat
  | .hbm => 18
  | .vmem => 22
  | .smem => 0
  | _ => 0

abbrev bufTy : (tb : Table) → Fin (tcTables nBuf tb) → BufTy
  | .hbm, ⟨0, _⟩ => ⟨S1x2048x556, .f32⟩
  | .hbm, ⟨1, _⟩ => ⟨S1x2048x556, .f32⟩
  | .hbm, ⟨2, _⟩ => ⟨S1x2048x556, .f32⟩
  | .hbm, ⟨3, _⟩ => ⟨S4x2048x556, .f32⟩
  | .hbm, ⟨4, _⟩ => ⟨S1x2048x556, .f32⟩
  | .hbm, ⟨5, _⟩ => ⟨S2048x556, .f32⟩
  | .hbm, ⟨6, _⟩ => ⟨S_, .i32⟩
  | .hbm, ⟨7, _⟩ => ⟨S_, .f32⟩
  | .hbm, ⟨8, _⟩ => ⟨S2048x640, .f32⟩
  | .hbm, ⟨9, _⟩ => ⟨S3x2048x556, .f32⟩
  | .hbm, ⟨10, _⟩ => ⟨S_, .i32⟩
  | .hbm, ⟨11, _⟩ => ⟨S_, .f32⟩
  | .hbm, ⟨12, _⟩ => ⟨S3x2048x640, .f32⟩
  | .hbm, ⟨13, _⟩ => ⟨S3x2048x640, .bf16⟩
  | .hbm, ⟨14, _⟩ => ⟨S1x2048x556, .f32⟩
  | .hbm, ⟨15, _⟩ => ⟨S1x2048x556, .f32⟩
  | .hbm, ⟨16, _⟩ => ⟨S1x2048x556, .f32⟩
  | .hbm, ⟨17, _⟩ => ⟨S1x2048x556, .f32⟩
  | .local _ .vmem, ⟨0, _⟩ => ⟨S256x640, .f32⟩
  | .local _ .vmem, ⟨1, _⟩ => ⟨S256x640, .f32⟩
  | .local _ .vmem, ⟨2, _⟩ => ⟨S1x256x640, .bf16⟩
  | .local _ .vmem, ⟨3, _⟩ => ⟨S1x256x640, .bf16⟩
  | .local _ .vmem, ⟨4, _⟩ => ⟨S1x256x640, .bf16⟩
  | .local _ .vmem, ⟨5, _⟩ => ⟨S1x256x640, .bf16⟩
  | .local _ .vmem, ⟨6, _⟩ => ⟨S1x256x640, .bf16⟩
  | .local _ .vmem, ⟨7, _⟩ => ⟨S1x256x640, .bf16⟩
  | .local _ .vmem, ⟨8, _⟩ => ⟨S1x256x556, .f32⟩
  | .local _ .vmem, ⟨9, _⟩ => ⟨S1x256x556, .f32⟩
  | .local _ .vmem, ⟨10, _⟩ => ⟨S1x256x556, .f32⟩
  | .local _ .vmem, ⟨11, _⟩ => ⟨S1x256x556, .f32⟩
  | .local _ .vmem, ⟨12, _⟩ => ⟨S1x256x556, .f32⟩
  | .local _ .vmem, ⟨13, _⟩ => ⟨S1x256x556, .f32⟩
  | .local _ .vmem, ⟨14, _⟩ => ⟨S1x256x556, .f32⟩
  | .local _ .vmem, ⟨15, _⟩ => ⟨S1x256x556, .f32⟩
  | .local _ .vmem, ⟨16, _⟩ => ⟨S1x256x556, .f32⟩
  | .local _ .vmem, ⟨17, _⟩ => ⟨S1x256x556, .f32⟩
  | .local _ .vmem, ⟨18, _⟩ => ⟨S1x256x556, .f32⟩
  | .local _ .vmem, ⟨19, _⟩ => ⟨S1x256x556, .f32⟩
  | .local _ .vmem, ⟨20, _⟩ => ⟨S1x256x556, .f32⟩
  | .local _ .vmem, ⟨21, _⟩ => ⟨S1x256x556, .f32⟩
  | _, _ => ⟨S1x2048x556, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x556 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x556 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x556 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x556 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x556 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x556 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x556 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamwInIdeal.lean ====
abbrev S1x2048x556 : Shape := ⟨3, ![1, 2048, 556]⟩
abbrev S4x2048x556 : Shape := ⟨3, ![4, 2048, 556]⟩
abbrev S2048x556 : Shape := ⟨2, ![2048, 556]⟩
abbrev S_ : Shape := ⟨0, ![]⟩
abbrev S2048x640 : Shape := ⟨2, ![2048, 640]⟩
abbrev S3x2048x556 : Shape := ⟨3, ![3, 2048, 556]⟩
abbrev S3x2048x640 : Shape := ⟨3, ![3, 2048, 640]⟩
abbrev S256x640 : Shape := ⟨2, ![256, 640]⟩
abbrev S1x256x640 : Shape := ⟨3, ![1, 256, 640]⟩
abbrev S1x256x556 : Shape := ⟨3, ![1, 256, 556]⟩
abbrev S256x556 : Shape := ⟨2, ![256, 556]⟩

abbrev nBuf : Space → Nat
  | .hbm => 18
  | .vmem => 22
  | .smem => 0
  | _ => 0

abbrev bufTy : (tb : Table) → Fin (tcTables nBuf tb) → BufTy
  | .hbm, ⟨0, _⟩ => ⟨S1x2048x556, .f32⟩
  | .hbm, ⟨1, _⟩ => ⟨S1x2048x556, .f32⟩
  | .hbm, ⟨2, _⟩ => ⟨S1x2048x556, .f32⟩
  | .hbm, ⟨3, _⟩ => ⟨S4x2048x556, .f32⟩
  | .hbm, ⟨4, _⟩ => ⟨S1x2048x556, .f32⟩
  | .hbm, ⟨5, _⟩ => ⟨S2048x556, .f32⟩
  | .hbm, ⟨6, _⟩ => ⟨S_, .i32⟩
  | .hbm, ⟨7, _⟩ => ⟨S_, .f32⟩
  | .hbm, ⟨8, _⟩ => ⟨S2048x640, .f32⟩
  | .hbm, ⟨9, _⟩ => ⟨S3x2048x556, .f32⟩
  | .hbm, ⟨10, _⟩ => ⟨S_, .i32⟩
  | .hbm, ⟨11, _⟩ => ⟨S_, .f32⟩
  | .hbm, ⟨12, _⟩ => ⟨S3x2048x640, .f32⟩
  | .hbm, ⟨13, _⟩ => ⟨S3x2048x640, .bf16⟩
  | .hbm, ⟨14, _⟩ => ⟨S1x2048x556, .f32⟩
  | .hbm, ⟨15, _⟩ => ⟨S1x2048x556, .f32⟩
  | .hbm, ⟨16, _⟩ => ⟨S1x2048x556, .f32⟩
  | .hbm, ⟨17, _⟩ => ⟨S1x2048x556, .f32⟩
  | .local _ .vmem, ⟨0, _⟩ => ⟨S256x640, .f32⟩
  | .local _ .vmem, ⟨1, _⟩ => ⟨S256x640, .f32⟩
  | .local _ .vmem, ⟨2, _⟩ => ⟨S1x256x640, .bf16⟩
  | .local _ .vmem, ⟨3, _⟩ => ⟨S1x256x640, .bf16⟩
  | .local _ .vmem, ⟨4, _⟩ => ⟨S1x256x640, .bf16⟩
  | .local _ .vmem, ⟨5, _⟩ => ⟨S1x256x640, .bf16⟩
  | .local _ .vmem, ⟨6, _⟩ => ⟨S1x256x640, .bf16⟩
  | .local _ .vmem, ⟨7, _⟩ => ⟨S1x256x640, .bf16⟩
  | .local _ .vmem, ⟨8, _⟩ => ⟨S1x256x556, .f32⟩
  | .local _ .vmem, ⟨9, _⟩ => ⟨S1x256x556, .f32⟩
  | .local _ .vmem, ⟨10, _⟩ => ⟨S1x256x556, .f32⟩
  | .local _ .vmem, ⟨11, _⟩ => ⟨S1x256x556, .f32⟩
  | .local _ .vmem, ⟨12, _⟩ => ⟨S1x256x556, .f32⟩
  | .local _ .vmem, ⟨13, _⟩ => ⟨S1x256x556, .f32⟩
  | .local _ .vmem, ⟨14, _⟩ => ⟨S1x256x556, .f32⟩
  | .local _ .vmem, ⟨15, _⟩ => ⟨S1x256x556, .f32⟩
  | .local _ .vmem, ⟨16, _⟩ => ⟨S1x256x556, .f32⟩
  | .local _ .vmem, ⟨17, _⟩ => ⟨S1x256x556, .f32⟩
  | .local _ .vmem, ⟨18, _⟩ => ⟨S1x256x556, .f32⟩
  | .local _ .vmem, ⟨19, _⟩ => ⟨S1x256x556, .f32⟩
  | .local _ .vmem, ⟨20, _⟩ => ⟨S1x256x556, .f32⟩
  | .local _ .vmem, ⟨21, _⟩ => ⟨S1x256x556, .f32⟩
  | _, _ => ⟨S1x2048x556, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x556 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x556 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x556 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x556 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x556 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x556 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x556 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamwInReferenceIdeal.lean ====
abbrev S1x2048x556 : Shape := ⟨3, ![1, 2048, 556]⟩
abbrev S4x2048x556 : Shape := ⟨3, ![4, 2048, 556]⟩
abbrev S_ : Shape := ⟨0, ![]⟩
abbrev S2048x556 : Shape := ⟨2, ![2048, 556]⟩

abbrev nBuf : Space → Nat
  | .hbm => 40
  | .vmem => 0
  | .smem => 0
  | _ => 0

abbrev bufTy : (tb : Table) → Fin (tcTables nBuf tb) → BufTy
  | .hbm, ⟨0, _⟩ => ⟨S1x2048x556, .f32⟩
  | .hbm, ⟨1, _⟩ => ⟨S1x2048x556, .f32⟩
  | .hbm, ⟨2, _⟩ => ⟨S1x2048x556, .f32⟩
  | .hbm, ⟨3, _⟩ => ⟨S4x2048x556, .f32⟩
  | .hbm, ⟨4, _⟩ => ⟨S_, .f32⟩
  | .hbm, ⟨5, _⟩ => ⟨S2048x556, .f32⟩
  | .hbm, ⟨6, _⟩ => ⟨S1x2048x556, .f32⟩
  | .hbm, ⟨7, _⟩ => ⟨S_, .f32⟩
  | .hbm, ⟨8, _⟩ => ⟨S1x2048x556, .f32⟩
  | .hbm, ⟨9, _⟩ => ⟨S1x2048x556, .f32⟩
  | .hbm, ⟨10, _⟩ => ⟨S_, .f32⟩
  | .hbm, ⟨11, _⟩ => ⟨S1x2048x556, .f32⟩
  | .hbm, ⟨12, _⟩ => ⟨S1x2048x556, .f32⟩
  | .hbm, ⟨13, _⟩ => ⟨S1x2048x556, .f32⟩
  | .hbm, ⟨14, _⟩ => ⟨S_, .f32⟩
  | .hbm, ⟨15, _⟩ => ⟨S1x2048x556, .f32⟩
  | .hbm, ⟨16, _⟩ => ⟨S1x2048x556, .f32⟩
  | .hbm, ⟨17, _⟩ => ⟨S1x2048x556, .f32⟩
  | .hbm, ⟨18, _⟩ => ⟨S_, .f32⟩
  | .hbm, ⟨19, _⟩ => ⟨S1x2048x556, .f32⟩
  | .hbm, ⟨20, _⟩ => ⟨S1x2048x556, .f32⟩
  | .hbm, ⟨21, _⟩ => ⟨S1x2048x556, .f32⟩
  | .hbm, ⟨22, _⟩ => ⟨S_, .f32⟩
  | .hbm, ⟨23, _⟩ => ⟨S1x2048x556, .f32⟩
  | .hbm, ⟨24, _⟩ => ⟨S1x2048x556, .f32⟩
  | .hbm, ⟨25, _⟩ => ⟨S_, .f32⟩
  | .hbm, ⟨26, _⟩ => ⟨S1x2048x556, .f32⟩
  | .hbm, ⟨27, _⟩ => ⟨S1x2048x556, .f32⟩
  | .hbm, ⟨28, _⟩ => ⟨S1x2048x556, .f32⟩
  | .hbm, ⟨29, _⟩ => ⟨S_, .f32⟩
  | .hbm, ⟨30, _⟩ => ⟨S1x2048x556, .f32⟩
  | .hbm, ⟨31, _⟩ => ⟨S1x2048x556, .f32⟩
  | .hbm, ⟨32, _⟩ => ⟨S1x2048x556, .f32⟩
  | .hbm, ⟨33, _⟩ => ⟨S_, .f32⟩
  | .hbm, ⟨34, _⟩ => ⟨S1x2048x556, .f32⟩
  | .hbm, ⟨35, _⟩ => ⟨S1x2048x556, .f32⟩
  | .hbm, ⟨36, _⟩ => ⟨S1x2048x556, .f32⟩
  | .hbm, ⟨37, _⟩ => ⟨S_, .f32⟩
  | .hbm, ⟨38, _⟩ => ⟨S1x2048x556, .f32⟩
  | .hbm, ⟨39, _⟩ => ⟨S1x2048x556, .f32⟩
  | _, _ => ⟨S1x2048x556, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwUq.lean ====
abbrev S1x512x192 : Shape := ⟨3, ![1, 512, 192]⟩
abbrev S4x512x192 : Shape := ⟨3, ![4, 512, 192]⟩
abbrev S512x192 : Shape := ⟨2, ![512, 192]⟩
abbrev S_ : Shape := ⟨0, ![]⟩
abbrev S512x256 : Shape := ⟨2, ![512, 256]⟩
abbrev S3x512x192 : Shape := ⟨3, ![3, 512, 192]⟩
abbrev S3x512x256 : Shape := ⟨3, ![3, 512, 256]⟩
abbrev S256x256 : Shape := ⟨2, ![256, 256]⟩
abbrev S1x256x256 : Shape := ⟨3, ![1, 256, 256]⟩
abbrev S1x256x192 : Shape := ⟨3, ![1, 256, 192]⟩
abbrev S256x192 : Shape := ⟨2, ![256, 192]⟩

abbrev nBuf : Space → Nat
  | .hbm => 18
  | .vmem => 22
  | .smem => 0
  | _ => 0

abbrev bufTy : (tb : Table) → Fin (tcTables nBuf tb) → BufTy
  | .hbm, ⟨0, _⟩ => ⟨S1x512x192, .f32⟩
  | .hbm, ⟨1, _⟩ => ⟨S1x512x192, .f32⟩
  | .hbm, ⟨2, _⟩ => ⟨S1x512x192, .f32⟩
  | .hbm, ⟨3, _⟩ => ⟨S4x512x192, .f32⟩
  | .hbm, ⟨4, _⟩ => ⟨S1x512x192, .f32⟩
  | .hbm, ⟨5, _⟩ => ⟨S512x192, .f32⟩
  | .hbm, ⟨6, _⟩ => ⟨S_, .i32⟩
  | .hbm, ⟨7, _⟩ => ⟨S_, .f32⟩
  | .hbm, ⟨8, _⟩ => ⟨S512x256, .f32⟩
  | .hbm, ⟨9, _⟩ => ⟨S3x512x192, .f32⟩
  | .hbm, ⟨10, _⟩ => ⟨S_, .i32⟩
  | .hbm, ⟨11, _⟩ => ⟨S_, .f32⟩
  | .hbm, ⟨12, _⟩ => ⟨S3x512x256, .f32⟩
  | .hbm, ⟨13, _⟩ => ⟨S3x512x256, .bf16⟩
  | .hbm, ⟨14, _⟩ => ⟨S1x512x192, .f32⟩
  | .hbm, ⟨15, _⟩ => ⟨S1x512x192, .f32⟩
  | .hbm, ⟨16, _⟩ => ⟨S1x512x192, .f32⟩
  | .hbm, ⟨17, _⟩ => ⟨S1x512x192, .f32⟩
  | .local _ .vmem, ⟨0, _⟩ => ⟨S256x256, .f32⟩
  | .local _ .vmem, ⟨1, _⟩ => ⟨S256x256, .f32⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x192, .f32⟩
  | .local _ .vmem, ⟨9, _⟩ => ⟨S1x256x192, .f32⟩
  | .local _ .vmem, ⟨10, _⟩ => ⟨S1x256x192, .f32⟩
  | .local _ .vmem, ⟨11, _⟩ => ⟨S1x256x192, .f32⟩
  | .local _ .vmem, ⟨12, _⟩ => ⟨S1x256x192, .f32⟩
  | .local _ .vmem, ⟨13, _⟩ => ⟨S1x256x192, .f32⟩
  | .local _ .vmem, ⟨14, _⟩ => ⟨S1x256x192, .f32⟩
  | .local _ .vmem, ⟨15, _⟩ => ⟨S1x256x192, .f32⟩
  | .local _ .vmem, ⟨16, _⟩ => ⟨S1x256x192, .f32⟩
  | .local _ .vmem, ⟨17, _⟩ => ⟨S1x256x192, .f32⟩
  | .local _ .vmem, ⟨18, _⟩ => ⟨S1x256x192, .f32⟩
  | .local _ .vmem, ⟨19, _⟩ => ⟨S1x256x192, .f32⟩
  | .local _ .vmem, ⟨20, _⟩ => ⟨S1x256x192, .f32⟩
  | .local _ .vmem, ⟨21, _⟩ => ⟨S1x256x192, .f32⟩
  | _, _ => ⟨S1x512x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamwUqIdeal.lean ====
abbrev S1x512x192 : Shape := ⟨3, ![1, 512, 192]⟩
abbrev S4x512x192 : Shape := ⟨3, ![4, 512, 192]⟩
abbrev S512x192 : Shape := ⟨2, ![512, 192]⟩
abbrev S_ : Shape := ⟨0, ![]⟩
abbrev S512x256 : Shape := ⟨2, ![512, 256]⟩
abbrev S3x512x192 : Shape := ⟨3, ![3, 512, 192]⟩
abbrev S3x512x256 : Shape := ⟨3, ![3, 512, 256]⟩
abbrev S256x256 : Shape := ⟨2, ![256, 256]⟩
abbrev S1x256x256 : Shape := ⟨3, ![1, 256, 256]⟩
abbrev S1x256x192 : Shape := ⟨3, ![1, 256, 192]⟩
abbrev S256x192 : Shape := ⟨2, ![256, 192]⟩

abbrev nBuf : Space → Nat
  | .hbm => 18
  | .vmem => 22
  | .smem => 0
  | _ => 0

abbrev bufTy : (tb : Table) → Fin (tcTables nBuf tb) → BufTy
  | .hbm, ⟨0, _⟩ => ⟨S1x512x192, .f32⟩
  | .hbm, ⟨1, _⟩ => ⟨S1x512x192, .f32⟩
  | .hbm, ⟨2, _⟩ => ⟨S1x512x192, .f32⟩
  | .hbm, ⟨3, _⟩ => ⟨S4x512x192, .f32⟩
  | .hbm, ⟨4, _⟩ => ⟨S1x512x192, .f32⟩
  | .hbm, ⟨5, _⟩ => ⟨S512x192, .f32⟩
  | .hbm, ⟨6, _⟩ => ⟨S_, .i32⟩
  | .hbm, ⟨7, _⟩ => ⟨S_, .f32⟩
  | .hbm, ⟨8, _⟩ => ⟨S512x256, .f32⟩
  | .hbm, ⟨9, _⟩ => ⟨S3x512x192, .f32⟩
  | .hbm, ⟨10, _⟩ => ⟨S_, .i32⟩
  | .hbm, ⟨11, _⟩ => ⟨S_, .f32⟩
  | .hbm, ⟨12, _⟩ => ⟨S3x512x256, .f32⟩
  | .hbm, ⟨13, _⟩ => ⟨S3x512x256, .bf16⟩
  | .hbm, ⟨14, _⟩ => ⟨S1x512x192, .f32⟩
  | .hbm, ⟨15, _⟩ => ⟨S1x512x192, .f32⟩
  | .hbm, ⟨16, _⟩ => ⟨S1x512x192, .f32⟩
  | .hbm, ⟨17, _⟩ => ⟨S1x512x192, .f32⟩
  | .local _ .vmem, ⟨0, _⟩ => ⟨S256x256, .f32⟩
  | .local _ .vmem, ⟨1, _⟩ => ⟨S256x256, .f32⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x192, .f32⟩
  | .local _ .vmem, ⟨9, _⟩ => ⟨S1x256x192, .f32⟩
  | .local _ .vmem, ⟨10, _⟩ => ⟨S1x256x192, .f32⟩
  | .local _ .vmem, ⟨11, _⟩ => ⟨S1x256x192, .f32⟩
  | .local _ .vmem, ⟨12, _⟩ => ⟨S1x256x192, .f32⟩
  | .local _ .vmem, ⟨13, _⟩ => ⟨S1x256x192, .f32⟩
  | .local _ .vmem, ⟨14, _⟩ => ⟨S1x256x192, .f32⟩
  | .local _ .vmem, ⟨15, _⟩ => ⟨S1x256x192, .f32⟩
  | .local _ .vmem, ⟨16, _⟩ => ⟨S1x256x192, .f32⟩
  | .local _ .vmem, ⟨17, _⟩ => ⟨S1x256x192, .f32⟩
  | .local _ .vmem, ⟨18, _⟩ => ⟨S1x256x192, .f32⟩
  | .local _ .vmem, ⟨19, _⟩ => ⟨S1x256x192, .f32⟩
  | .local _ .vmem, ⟨20, _⟩ => ⟨S1x256x192, .f32⟩
  | .local _ .vmem, ⟨21, _⟩ => ⟨S1x256x192, .f32⟩
  | _, _ => ⟨S1x512x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamwUqReferenceIdeal.lean ====
abbrev S1x512x192 : Shape := ⟨3, ![1, 512, 192]⟩
abbrev S4x512x192 : Shape := ⟨3, ![4, 512, 192]⟩
abbrev S_ : Shape := ⟨0, ![]⟩
abbrev S512x192 : Shape := ⟨2, ![512, 192]⟩

abbrev nBuf : Space → Nat
  | .hbm => 40
  | .vmem => 0
  | .smem => 0
  | _ => 0

abbrev bufTy : (tb : Table) → Fin (tcTables nBuf tb) → BufTy
  | .hbm, ⟨0, _⟩ => ⟨S1x512x192, .f32⟩
  | .hbm, ⟨1, _⟩ => ⟨S1x512x192, .f32⟩
  | .hbm, ⟨2, _⟩ => ⟨S1x512x192, .f32⟩
  | .hbm, ⟨3, _⟩ => ⟨S4x512x192, .f32⟩
  | .hbm, ⟨4, _⟩ => ⟨S_, .f32⟩
  | .hbm, ⟨5, _⟩ => ⟨S512x192, .f32⟩
  | .hbm, ⟨6, _⟩ => ⟨S1x512x192, .f32⟩
  | .hbm, ⟨7, _⟩ => ⟨S_, .f32⟩
  | .hbm, ⟨8, _⟩ => ⟨S1x512x192, .f32⟩
  | .hbm, ⟨9, _⟩ => ⟨S1x512x192, .f32⟩
  | .hbm, ⟨10, _⟩ => ⟨S_, .f32⟩
  | .hbm, ⟨11, _⟩ => ⟨S1x512x192, .f32⟩
  | .hbm, ⟨12, _⟩ => ⟨S1x512x192, .f32⟩
  | .hbm, ⟨13, _⟩ => ⟨S1x512x192, .f32⟩
  | .hbm, ⟨14, _⟩ => ⟨S_, .f32⟩
  | .hbm, ⟨15, _⟩ => ⟨S1x512x192, .f32⟩
  | .hbm, ⟨16, _⟩ => ⟨S1x512x192, .f32⟩
  | .hbm, ⟨17, _⟩ => ⟨S1x512x192, .f32⟩
  | .hbm, ⟨18, _⟩ => ⟨S_, .f32⟩
  | .hbm, ⟨19, _⟩ => ⟨S1x512x192, .f32⟩
  | .hbm, ⟨20, _⟩ => ⟨S1x512x192, .f32⟩
  | .hbm, ⟨21, _⟩ => ⟨S1x512x192, .f32⟩
  | .hbm, ⟨22, _⟩ => ⟨S_, .f32⟩
  | .hbm, ⟨23, _⟩ => ⟨S1x512x192, .f32⟩
  | .hbm, ⟨24, _⟩ => ⟨S1x512x192, .f32⟩
  | .hbm, ⟨25, _⟩ => ⟨S_, .f32⟩
  | .hbm, ⟨26, _⟩ => ⟨S1x512x192, .f32⟩
  | .hbm, ⟨27, _⟩ => ⟨S1x512x192, .f32⟩
  | .hbm, ⟨28, _⟩ => ⟨S1x512x192, .f32⟩
  | .hbm, ⟨29, _⟩ => ⟨S_, .f32⟩
  | .hbm, ⟨30, _⟩ => ⟨S1x512x192, .f32⟩
  | .hbm, ⟨31, _⟩ => ⟨S1x512x192, .f32⟩
  | .hbm, ⟨32, _⟩ => ⟨S1x512x192, .f32⟩
  | .hbm, ⟨33, _⟩ => ⟨S_, .f32⟩
  | .hbm, ⟨34, _⟩ => ⟨S1x512x192, .f32⟩
  | .hbm, ⟨35, _⟩ => ⟨S1x512x192, .f32⟩
  | .hbm, ⟨36, _⟩ => ⟨S1x512x192, .f32⟩
  | .hbm, ⟨37, _⟩ => ⟨S_, .f32⟩
  | .hbm, ⟨38, _⟩ => ⟨S1x512x192, .f32⟩
  | .hbm, ⟨39, _⟩ => ⟨S1x512x192, .f32⟩
  | _, _ => ⟨S1x512x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwUkv.lean ====
abbrev S1x512x256 : Shape := ⟨3, ![1, 512, 256]⟩
abbrev S4x512x256 : Shape := ⟨3, ![4, 512, 256]⟩
abbrev S512x256 : Shape := ⟨2, ![512, 256]⟩
abbrev S_ : Shape := ⟨0, ![]⟩
abbrev S3x512x256 : Shape := ⟨3, ![3, 512, 256]⟩
abbrev S256x256 : Shape := ⟨2, ![256, 256]⟩
abbrev S1x256x256 : Shape := ⟨3, ![1, 256, 256]⟩

abbrev nBuf : Space → Nat
  | .hbm => 18
  | .vmem => 22
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S4x512x256, .f32⟩
  | .hbm, ⟨4, _⟩ => ⟨S1x512x256, .f32⟩
  | .hbm, ⟨5, _⟩ => ⟨S512x256, .f32⟩
  | .hbm, ⟨6, _⟩ => ⟨S_, .i32⟩
  | .hbm, ⟨7, _⟩ => ⟨S_, .f32⟩
  | .hbm, ⟨8, _⟩ => ⟨S512x256, .f32⟩
  | .hbm, ⟨9, _⟩ => ⟨S3x512x256, .f32⟩
  | .hbm, ⟨10, _⟩ => ⟨S_, .i32⟩
  | .hbm, ⟨11, _⟩ => ⟨S_, .f32⟩
  | .hbm, ⟨12, _⟩ => ⟨S3x512x256, .f32⟩
  | .hbm, ⟨13, _⟩ => ⟨S3x512x256, .bf16⟩
  | .hbm, ⟨14, _⟩ => ⟨S1x512x256, .f32⟩
  | .hbm, ⟨15, _⟩ => ⟨S1x512x256, .f32⟩
  | .hbm, ⟨16, _⟩ => ⟨S1x512x256, .f32⟩
  | .hbm, ⟨17, _⟩ => ⟨S1x512x256, .f32⟩
  | .local _ .vmem, ⟨0, _⟩ => ⟨S256x256, .f32⟩
  | .local _ .vmem, ⟨1, _⟩ => ⟨S256x256, .f32⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamwUkvIdeal.lean ====
abbrev S1x512x256 : Shape := ⟨3, ![1, 512, 256]⟩
abbrev S4x512x256 : Shape := ⟨3, ![4, 512, 256]⟩
abbrev S512x256 : Shape := ⟨2, ![512, 256]⟩
abbrev S_ : Shape := ⟨0, ![]⟩
abbrev S3x512x256 : Shape := ⟨3, ![3, 512, 256]⟩
abbrev S256x256 : Shape := ⟨2, ![256, 256]⟩
abbrev S1x256x256 : Shape := ⟨3, ![1, 256, 256]⟩

abbrev nBuf : Space → Nat
  | .hbm => 18
  | .vmem => 22
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S4x512x256, .f32⟩
  | .hbm, ⟨4, _⟩ => ⟨S1x512x256, .f32⟩
  | .hbm, ⟨5, _⟩ => ⟨S512x256, .f32⟩
  | .hbm, ⟨6, _⟩ => ⟨S_, .i32⟩
  | .hbm, ⟨7, _⟩ => ⟨S_, .f32⟩
  | .hbm, ⟨8, _⟩ => ⟨S512x256, .f32⟩
  | .hbm, ⟨9, _⟩ => ⟨S3x512x256, .f32⟩
  | .hbm, ⟨10, _⟩ => ⟨S_, .i32⟩
  | .hbm, ⟨11, _⟩ => ⟨S_, .f32⟩
  | .hbm, ⟨12, _⟩ => ⟨S3x512x256, .f32⟩
  | .hbm, ⟨13, _⟩ => ⟨S3x512x256, .bf16⟩
  | .hbm, ⟨14, _⟩ => ⟨S1x512x256, .f32⟩
  | .hbm, ⟨15, _⟩ => ⟨S1x512x256, .f32⟩
  | .hbm, ⟨16, _⟩ => ⟨S1x512x256, .f32⟩
  | .hbm, ⟨17, _⟩ => ⟨S1x512x256, .f32⟩
  | .local _ .vmem, ⟨0, _⟩ => ⟨S256x256, .f32⟩
  | .local _ .vmem, ⟨1, _⟩ => ⟨S256x256, .f32⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamwUkvReferenceIdeal.lean ====
abbrev S1x512x256 : Shape := ⟨3, ![1, 512, 256]⟩
abbrev S4x512x256 : Shape := ⟨3, ![4, 512, 256]⟩
abbrev S_ : Shape := ⟨0, ![]⟩
abbrev S512x256 : Shape := ⟨2, ![512, 256]⟩

abbrev nBuf : Space → Nat
  | .hbm => 40
  | .vmem => 0
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S4x512x256, .f32⟩
  | .hbm, ⟨4, _⟩ => ⟨S_, .f32⟩
  | .hbm, ⟨5, _⟩ => ⟨S512x256, .f32⟩
  | .hbm, ⟨6, _⟩ => ⟨S1x512x256, .f32⟩
  | .hbm, ⟨7, _⟩ => ⟨S_, .f32⟩
  | .hbm, ⟨8, _⟩ => ⟨S1x512x256, .f32⟩
  | .hbm, ⟨9, _⟩ => ⟨S1x512x256, .f32⟩
  | .hbm, ⟨10, _⟩ => ⟨S_, .f32⟩
  | .hbm, ⟨11, _⟩ => ⟨S1x512x256, .f32⟩
  | .hbm, ⟨12, _⟩ => ⟨S1x512x256, .f32⟩
  | .hbm, ⟨13, _⟩ => ⟨S1x512x256, .f32⟩
  | .hbm, ⟨14, _⟩ => ⟨S_, .f32⟩
  | .hbm, ⟨15, _⟩ => ⟨S1x512x256, .f32⟩
  | .hbm, ⟨16, _⟩ => ⟨S1x512x256, .f32⟩
  | .hbm, ⟨17, _⟩ => ⟨S1x512x256, .f32⟩
  | .hbm, ⟨18, _⟩ => ⟨S_, .f32⟩
  | .hbm, ⟨19, _⟩ => ⟨S1x512x256, .f32⟩
  | .hbm, ⟨20, _⟩ => ⟨S1x512x256, .f32⟩
  | .hbm, ⟨21, _⟩ => ⟨S1x512x256, .f32⟩
  | .hbm, ⟨22, _⟩ => ⟨S_, .f32⟩
  | .hbm, ⟨23, _⟩ => ⟨S1x512x256, .f32⟩
  | .hbm, ⟨24, _⟩ => ⟨S1x512x256, .f32⟩
  | .hbm, ⟨25, _⟩ => ⟨S_, .f32⟩
  | .hbm, ⟨26, _⟩ => ⟨S1x512x256, .f32⟩
  | .hbm, ⟨27, _⟩ => ⟨S1x512x256, .f32⟩
  | .hbm, ⟨28, _⟩ => ⟨S1x512x256, .f32⟩
  | .hbm, ⟨29, _⟩ => ⟨S_, .f32⟩
  | .hbm, ⟨30, _⟩ => ⟨S1x512x256, .f32⟩
  | .hbm, ⟨31, _⟩ => ⟨S1x512x256, .f32⟩
  | .hbm, ⟨32, _⟩ => ⟨S1x512x256, .f32⟩
  | .hbm, ⟨33, _⟩ => ⟨S_, .f32⟩
  | .hbm, ⟨34, _⟩ => ⟨S1x512x256, .f32⟩
  | .hbm, ⟨35, _⟩ => ⟨S1x512x256, .f32⟩
  | .hbm, ⟨36, _⟩ => ⟨S1x512x256, .f32⟩
  | .hbm, ⟨37, _⟩ => ⟨S_, .f32⟩
  | .hbm, ⟨38, _⟩ => ⟨S1x512x256, .f32⟩
  | .hbm, ⟨39, _⟩ => ⟨S1x512x256, .f32⟩
  | _, _ => ⟨S1x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwOut.lean ====
abbrev S1x256x2048 : Shape := ⟨3, ![1, 256, 2048]⟩
abbrev S4x256x2048 : Shape := ⟨3, ![4, 256, 2048]⟩
abbrev S256x2048 : Shape := ⟨2, ![256, 2048]⟩
abbrev S_ : Shape := ⟨0, ![]⟩
abbrev S3x256x2048 : Shape := ⟨3, ![3, 256, 2048]⟩

abbrev nBuf : Space → Nat
  | .hbm => 18
  | .vmem => 11
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S4x256x2048, .f32⟩
  | .hbm, ⟨4, _⟩ => ⟨S1x256x2048, .f32⟩
  | .hbm, ⟨5, _⟩ => ⟨S256x2048, .f32⟩
  | .hbm, ⟨6, _⟩ => ⟨S_, .i32⟩
  | .hbm, ⟨7, _⟩ => ⟨S_, .f32⟩
  | .hbm, ⟨8, _⟩ => ⟨S256x2048, .f32⟩
  | .hbm, ⟨9, _⟩ => ⟨S3x256x2048, .f32⟩
  | .hbm, ⟨10, _⟩ => ⟨S_, .i32⟩
  | .hbm, ⟨11, _⟩ => ⟨S_, .f32⟩
  | .hbm, ⟨12, _⟩ => ⟨S3x256x2048, .f32⟩
  | .hbm, ⟨13, _⟩ => ⟨S3x256x2048, .bf16⟩
  | .hbm, ⟨14, _⟩ => ⟨S1x256x2048, .f32⟩
  | .hbm, ⟨15, _⟩ => ⟨S1x256x2048, .f32⟩
  | .hbm, ⟨16, _⟩ => ⟨S1x256x2048, .f32⟩
  | .hbm, ⟨17, _⟩ => ⟨S1x256x2048, .f32⟩
  | .local _ .vmem, ⟨0, _⟩ => ⟨S256x2048, .f32⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== AdamwOutIdeal.lean ====
abbrev S1x256x2048 : Shape := ⟨3, ![1, 256, 2048]⟩
abbrev S4x256x2048 : Shape := ⟨3, ![4, 256, 2048]⟩
abbrev S256x2048 : Shape := ⟨2, ![256, 2048]⟩
abbrev S_ : Shape := ⟨0, ![]⟩
abbrev S3x256x2048 : Shape := ⟨3, ![3, 256, 2048]⟩

abbrev nBuf : Space → Nat
  | .hbm => 18
  | .vmem => 11
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S4x256x2048, .f32⟩
  | .hbm, ⟨4, _⟩ => ⟨S1x256x2048, .f32⟩
  | .hbm, ⟨5, _⟩ => ⟨S256x2048, .f32⟩
  | .hbm, ⟨6, _⟩ => ⟨S_, .i32⟩
  | .hbm, ⟨7, _⟩ => ⟨S_, .f32⟩
  | .hbm, ⟨8, _⟩ => ⟨S256x2048, .f32⟩
  | .hbm, ⟨9, _⟩ => ⟨S3x256x2048, .f32⟩
  | .hbm, ⟨10, _⟩ => ⟨S_, .i32⟩
  | .hbm, ⟨11, _⟩ => ⟨S_, .f32⟩
  | .hbm, ⟨12, _⟩ => ⟨S3x256x2048, .f32⟩
  | .hbm, ⟨13, _⟩ => ⟨S3x256x2048, .bf16⟩
  | .hbm, ⟨14, _⟩ => ⟨S1x256x2048, .f32⟩
  | .hbm, ⟨15, _⟩ => ⟨S1x256x2048, .f32⟩
  | .hbm, ⟨16, _⟩ => ⟨S1x256x2048, .f32⟩
  | .hbm, ⟨17, _⟩ => ⟨S1x256x2048, .f32⟩
  | .local _ .vmem, ⟨0, _⟩ => ⟨S256x2048, .f32⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== AdamwOutReferenceIdeal.lean ====
abbrev S1x256x2048 : Shape := ⟨3, ![1, 256, 2048]⟩
abbrev S4x256x2048 : Shape := ⟨3, ![4, 256, 2048]⟩
abbrev S_ : Shape := ⟨0, ![]⟩
abbrev S256x2048 : Shape := ⟨2, ![256, 2048]⟩

abbrev nBuf : Space → Nat
  | .hbm => 40
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x256x2048, .f32⟩
  | .hbm, ⟨3, _⟩ => ⟨S4x256x2048, .f32⟩
  | .hbm, ⟨4, _⟩ => ⟨S_, .f32⟩
  | .hbm, ⟨5, _⟩ => ⟨S256x2048, .f32⟩
  | .hbm, ⟨6, _⟩ => ⟨S1x256x2048, .f32⟩
  | .hbm, ⟨7, _⟩ => ⟨S_, .f32⟩
  | .hbm, ⟨8, _⟩ => ⟨S1x256x2048, .f32⟩
  | .hbm, ⟨9, _⟩ => ⟨S1x256x2048, .f32⟩
  | .hbm, ⟨10, _⟩ => ⟨S_, .f32⟩
  | .hbm, ⟨11, _⟩ => ⟨S1x256x2048, .f32⟩
  | .hbm, ⟨12, _⟩ => ⟨S1x256x2048, .f32⟩
  | .hbm, ⟨13, _⟩ => ⟨S1x256x2048, .f32⟩
  | .hbm, ⟨14, _⟩ => ⟨S_, .f32⟩
  | .hbm, ⟨15, _⟩ => ⟨S1x256x2048, .f32⟩
  | .hbm, ⟨16, _⟩ => ⟨S1x256x2048, .f32⟩
  | .hbm, ⟨17, _⟩ => ⟨S1x256x2048, .f32⟩
  | .hbm, ⟨18, _⟩ => ⟨S_, .f32⟩
  | .hbm, ⟨19, _⟩ => ⟨S1x256x2048, .f32⟩
  | .hbm, ⟨20, _⟩ => ⟨S1x256x2048, .f32⟩
  | .hbm, ⟨21, _⟩ => ⟨S1x256x2048, .f32⟩
  | .hbm, ⟨22, _⟩ => ⟨S_, .f32⟩
  | .hbm, ⟨23, _⟩ => ⟨S1x256x2048, .f32⟩
  | .hbm, ⟨24, _⟩ => ⟨S1x256x2048, .f32⟩
  | .hbm, ⟨25, _⟩ => ⟨S_, .f32⟩
  | .hbm, ⟨26, _⟩ => ⟨S1x256x2048, .f32⟩
  | .hbm, ⟨27, _⟩ => ⟨S1x256x2048, .f32⟩
  | .hbm, ⟨28, _⟩ => ⟨S1x256x2048, .f32⟩
  | .hbm, ⟨29, _⟩ => ⟨S_, .f32⟩
  | .hbm, ⟨30, _⟩ => ⟨S1x256x2048, .f32⟩
  | .hbm, ⟨31, _⟩ => ⟨S1x256x2048, .f32⟩
  | .hbm, ⟨32, _⟩ => ⟨S1x256x2048, .f32⟩
  | .hbm, ⟨33, _⟩ => ⟨S_, .f32⟩
  | .hbm, ⟨34, _⟩ => ⟨S1x256x2048, .f32⟩
  | .hbm, ⟨35, _⟩ => ⟨S1x256x2048, .f32⟩
  | .hbm, ⟨36, _⟩ => ⟨S1x256x2048, .f32⟩
  | .hbm, ⟨37, _⟩ => ⟨S_, .f32⟩
  | .hbm, ⟨38, _⟩ => ⟨S1x256x2048, .f32⟩
  | .hbm, ⟨39, _⟩ => ⟨S1x256x2048, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwGate.lean ====
abbrev S1x2048x704 : Shape := ⟨3, ![1, 2048, 704]⟩
abbrev S4x2048x704 : Shape := ⟨3, ![4, 2048, 704]⟩
abbrev S2048x704 : Shape := ⟨2, ![2048, 704]⟩
abbrev S_ : Shape := ⟨0, ![]⟩
abbrev S2048x768 : Shape := ⟨2, ![2048, 768]⟩
abbrev S3x2048x704 : Shape := ⟨3, ![3, 2048, 704]⟩
abbrev S3x2048x768 : Shape := ⟨3, ![3, 2048, 768]⟩
abbrev S256x768 : Shape := ⟨2, ![256, 768]⟩
abbrev S1x256x768 : Shape := ⟨3, ![1, 256, 768]⟩
abbrev S1x256x704 : Shape := ⟨3, ![1, 256, 704]⟩
abbrev S256x704 : Shape := ⟨2, ![256, 704]⟩

abbrev nBuf : Space → Nat
  | .hbm => 18
  | .vmem => 22
  | .smem => 0
  | _ => 0

abbrev bufTy : (tb : Table) → Fin (tcTables nBuf tb) → BufTy
  | .hbm, ⟨0, _⟩ => ⟨S1x2048x704, .f32⟩
  | .hbm, ⟨1, _⟩ => ⟨S1x2048x704, .f32⟩
  | .hbm, ⟨2, _⟩ => ⟨S1x2048x704, .f32⟩
  | .hbm, ⟨3, _⟩ => ⟨S4x2048x704, .f32⟩
  | .hbm, ⟨4, _⟩ => ⟨S1x2048x704, .f32⟩
  | .hbm, ⟨5, _⟩ => ⟨S2048x704, .f32⟩
  | .hbm, ⟨6, _⟩ => ⟨S_, .i32⟩
  | .hbm, ⟨7, _⟩ => ⟨S_, .f32⟩
  | .hbm, ⟨8, _⟩ => ⟨S2048x768, .f32⟩
  | .hbm, ⟨9, _⟩ => ⟨S3x2048x704, .f32⟩
  | .hbm, ⟨10, _⟩ => ⟨S_, .i32⟩
  | .hbm, ⟨11, _⟩ => ⟨S_, .f32⟩
  | .hbm, ⟨12, _⟩ => ⟨S3x2048x768, .f32⟩
  | .hbm, ⟨13, _⟩ => ⟨S3x2048x768, .bf16⟩
  | .hbm, ⟨14, _⟩ => ⟨S1x2048x704, .f32⟩
  | .hbm, ⟨15, _⟩ => ⟨S1x2048x704, .f32⟩
  | .hbm, ⟨16, _⟩ => ⟨S1x2048x704, .f32⟩
  | .hbm, ⟨17, _⟩ => ⟨S1x2048x704, .f32⟩
  | .local _ .vmem, ⟨0, _⟩ => ⟨S256x768, .f32⟩
  | .local _ .vmem, ⟨1, _⟩ => ⟨S256x768, .f32⟩
  | .local _ .vmem, ⟨2, _⟩ => ⟨S1x256x768, .bf16⟩
  | .local _ .vmem, ⟨3, _⟩ => ⟨S1x256x768, .bf16⟩
  | .local _ .vmem, ⟨4, _⟩ => ⟨S1x256x768, .bf16⟩
  | .local _ .vmem, ⟨5, _⟩ => ⟨S1x256x768, .bf16⟩
  | .local _ .vmem, ⟨6, _⟩ => ⟨S1x256x768, .bf16⟩
  | .local _ .vmem, ⟨7, _⟩ => ⟨S1x256x768, .bf16⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | .local _ .vmem, ⟨16, _⟩ => ⟨S1x256x704, .f32⟩
  | .local _ .vmem, ⟨17, _⟩ => ⟨S1x256x704, .f32⟩
  | .local _ .vmem, ⟨18, _⟩ => ⟨S1x256x704, .f32⟩
  | .local _ .vmem, ⟨19, _⟩ => ⟨S1x256x704, .f32⟩
  | .local _ .vmem, ⟨20, _⟩ => ⟨S1x256x704, .f32⟩
  | .local _ .vmem, ⟨21, _⟩ => ⟨S1x256x704, .f32⟩
  | _, _ => ⟨S1x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamwGateIdeal.lean ====
abbrev S1x2048x704 : Shape := ⟨3, ![1, 2048, 704]⟩
abbrev S4x2048x704 : Shape := ⟨3, ![4, 2048, 704]⟩
abbrev S2048x704 : Shape := ⟨2, ![2048, 704]⟩
abbrev S_ : Shape := ⟨0, ![]⟩
abbrev S2048x768 : Shape := ⟨2, ![2048, 768]⟩
abbrev S3x2048x704 : Shape := ⟨3, ![3, 2048, 704]⟩
abbrev S3x2048x768 : Shape := ⟨3, ![3, 2048, 768]⟩
abbrev S256x768 : Shape := ⟨2, ![256, 768]⟩
abbrev S1x256x768 : Shape := ⟨3, ![1, 256, 768]⟩
abbrev S1x256x704 : Shape := ⟨3, ![1, 256, 704]⟩
abbrev S256x704 : Shape := ⟨2, ![256, 704]⟩

abbrev nBuf : Space → Nat
  | .hbm => 18
  | .vmem => 22
  | .smem => 0
  | _ => 0

abbrev bufTy : (tb : Table) → Fin (tcTables nBuf tb) → BufTy
  | .hbm, ⟨0, _⟩ => ⟨S1x2048x704, .f32⟩
  | .hbm, ⟨1, _⟩ => ⟨S1x2048x704, .f32⟩
  | .hbm, ⟨2, _⟩ => ⟨S1x2048x704, .f32⟩
  | .hbm, ⟨3, _⟩ => ⟨S4x2048x704, .f32⟩
  | .hbm, ⟨4, _⟩ => ⟨S1x2048x704, .f32⟩
  | .hbm, ⟨5, _⟩ => ⟨S2048x704, .f32⟩
  | .hbm, ⟨6, _⟩ => ⟨S_, .i32⟩
  | .hbm, ⟨7, _⟩ => ⟨S_, .f32⟩
  | .hbm, ⟨8, _⟩ => ⟨S2048x768, .f32⟩
  | .hbm, ⟨9, _⟩ => ⟨S3x2048x704, .f32⟩
  | .hbm, ⟨10, _⟩ => ⟨S_, .i32⟩
  | .hbm, ⟨11, _⟩ => ⟨S_, .f32⟩
  | .hbm, ⟨12, _⟩ => ⟨S3x2048x768, .f32⟩
  | .hbm, ⟨13, _⟩ => ⟨S3x2048x768, .bf16⟩
  | .hbm, ⟨14, _⟩ => ⟨S1x2048x704, .f32⟩
  | .hbm, ⟨15, _⟩ => ⟨S1x2048x704, .f32⟩
  | .hbm, ⟨16, _⟩ => ⟨S1x2048x704, .f32⟩
  | .hbm, ⟨17, _⟩ => ⟨S1x2048x704, .f32⟩
  | .local _ .vmem, ⟨0, _⟩ => ⟨S256x768, .f32⟩
  | .local _ .vmem, ⟨1, _⟩ => ⟨S256x768, .f32⟩
  | .local _ .vmem, ⟨2, _⟩ => ⟨S1x256x768, .bf16⟩
  | .local _ .vmem, ⟨3, _⟩ => ⟨S1x256x768, .bf16⟩
  | .local _ .vmem, ⟨4, _⟩ => ⟨S1x256x768, .bf16⟩
  | .local _ .vmem, ⟨5, _⟩ => ⟨S1x256x768, .bf16⟩
  | .local _ .vmem, ⟨6, _⟩ => ⟨S1x256x768, .bf16⟩
  | .local _ .vmem, ⟨7, _⟩ => ⟨S1x256x768, .bf16⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | .local _ .vmem, ⟨16, _⟩ => ⟨S1x256x704, .f32⟩
  | .local _ .vmem, ⟨17, _⟩ => ⟨S1x256x704, .f32⟩
  | .local _ .vmem, ⟨18, _⟩ => ⟨S1x256x704, .f32⟩
  | .local _ .vmem, ⟨19, _⟩ => ⟨S1x256x704, .f32⟩
  | .local _ .vmem, ⟨20, _⟩ => ⟨S1x256x704, .f32⟩
  | .local _ .vmem, ⟨21, _⟩ => ⟨S1x256x704, .f32⟩
  | _, _ => ⟨S1x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamwGateReferenceIdeal.lean ====
abbrev S1x2048x704 : Shape := ⟨3, ![1, 2048, 704]⟩
abbrev S4x2048x704 : Shape := ⟨3, ![4, 2048, 704]⟩
abbrev S_ : Shape := ⟨0, ![]⟩
abbrev S2048x704 : Shape := ⟨2, ![2048, 704]⟩

abbrev nBuf : Space → Nat
  | .hbm => 40
  | .vmem => 0
  | .smem => 0
  | _ => 0

abbrev bufTy : (tb : Table) → Fin (tcTables nBuf tb) → BufTy
  | .hbm, ⟨0, _⟩ => ⟨S1x2048x704, .f32⟩
  | .hbm, ⟨1, _⟩ => ⟨S1x2048x704, .f32⟩
  | .hbm, ⟨2, _⟩ => ⟨S1x2048x704, .f32⟩
  | .hbm, ⟨3, _⟩ => ⟨S4x2048x704, .f32⟩
  | .hbm, ⟨4, _⟩ => ⟨S_, .f32⟩
  | .hbm, ⟨5, _⟩ => ⟨S2048x704, .f32⟩
  | .hbm, ⟨6, _⟩ => ⟨S1x2048x704, .f32⟩
  | .hbm, ⟨7, _⟩ => ⟨S_, .f32⟩
  | .hbm, ⟨8, _⟩ => ⟨S1x2048x704, .f32⟩
  | .hbm, ⟨9, _⟩ => ⟨S1x2048x704, .f32⟩
  | .hbm, ⟨10, _⟩ => ⟨S_, .f32⟩
  | .hbm, ⟨11, _⟩ => ⟨S1x2048x704, .f32⟩
  | .hbm, ⟨12, _⟩ => ⟨S1x2048x704, .f32⟩
  | .hbm, ⟨13, _⟩ => ⟨S1x2048x704, .f32⟩
  | .hbm, ⟨14, _⟩ => ⟨S_, .f32⟩
  | .hbm, ⟨15, _⟩ => ⟨S1x2048x704, .f32⟩
  | .hbm, ⟨16, _⟩ => ⟨S1x2048x704, .f32⟩
  | .hbm, ⟨17, _⟩ => ⟨S1x2048x704, .f32⟩
  | .hbm, ⟨18, _⟩ => ⟨S_, .f32⟩
  | .hbm, ⟨19, _⟩ => ⟨S1x2048x704, .f32⟩
  | .hbm, ⟨20, _⟩ => ⟨S1x2048x704, .f32⟩
  | .hbm, ⟨21, _⟩ => ⟨S1x2048x704, .f32⟩
  | .hbm, ⟨22, _⟩ => ⟨S_, .f32⟩
  | .hbm, ⟨23, _⟩ => ⟨S1x2048x704, .f32⟩
  | .hbm, ⟨24, _⟩ => ⟨S1x2048x704, .f32⟩
  | .hbm, ⟨25, _⟩ => ⟨S_, .f32⟩
  | .hbm, ⟨26, _⟩ => ⟨S1x2048x704, .f32⟩
  | .hbm, ⟨27, _⟩ => ⟨S1x2048x704, .f32⟩
  | .hbm, ⟨28, _⟩ => ⟨S1x2048x704, .f32⟩
  | .hbm, ⟨29, _⟩ => ⟨S_, .f32⟩
  | .hbm, ⟨30, _⟩ => ⟨S1x2048x704, .f32⟩
  | .hbm, ⟨31, _⟩ => ⟨S1x2048x704, .f32⟩
  | .hbm, ⟨32, _⟩ => ⟨S1x2048x704, .f32⟩
  | .hbm, ⟨33, _⟩ => ⟨S_, .f32⟩
  | .hbm, ⟨34, _⟩ => ⟨S1x2048x704, .f32⟩
  | .hbm, ⟨35, _⟩ => ⟨S1x2048x704, .f32⟩
  | .hbm, ⟨36, _⟩ => ⟨S1x2048x704, .f32⟩
  | .hbm, ⟨37, _⟩ => ⟨S_, .f32⟩
  | .hbm, ⟨38, _⟩ => ⟨S1x2048x704, .f32⟩
  | .hbm, ⟨39, _⟩ => ⟨S1x2048x704, .f32⟩
  | _, _ => ⟨S1x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwUp.lean ====
abbrev S1x2048x704 : Shape := ⟨3, ![1, 2048, 704]⟩
abbrev S4x2048x704 : Shape := ⟨3, ![4, 2048, 704]⟩
abbrev S2048x704 : Shape := ⟨2, ![2048, 704]⟩
abbrev S_ : Shape := ⟨0, ![]⟩
abbrev S2048x768 : Shape := ⟨2, ![2048, 768]⟩
abbrev S3x2048x704 : Shape := ⟨3, ![3, 2048, 704]⟩
abbrev S3x2048x768 : Shape := ⟨3, ![3, 2048, 768]⟩
abbrev S256x768 : Shape := ⟨2, ![256, 768]⟩
abbrev S1x256x768 : Shape := ⟨3, ![1, 256, 768]⟩
abbrev S1x256x704 : Shape := ⟨3, ![1, 256, 704]⟩
abbrev S256x704 : Shape := ⟨2, ![256, 704]⟩

abbrev nBuf : Space → Nat
  | .hbm => 18
  | .vmem => 22
  | .smem => 0
  | _ => 0

abbrev bufTy : (tb : Table) → Fin (tcTables nBuf tb) → BufTy
  | .hbm, ⟨0, _⟩ => ⟨S1x2048x704, .f32⟩
  | .hbm, ⟨1, _⟩ => ⟨S1x2048x704, .f32⟩
  | .hbm, ⟨2, _⟩ => ⟨S1x2048x704, .f32⟩
  | .hbm, ⟨3, _⟩ => ⟨S4x2048x704, .f32⟩
  | .hbm, ⟨4, _⟩ => ⟨S1x2048x704, .f32⟩
  | .hbm, ⟨5, _⟩ => ⟨S2048x704, .f32⟩
  | .hbm, ⟨6, _⟩ => ⟨S_, .i32⟩
  | .hbm, ⟨7, _⟩ => ⟨S_, .f32⟩
  | .hbm, ⟨8, _⟩ => ⟨S2048x768, .f32⟩
  | .hbm, ⟨9, _⟩ => ⟨S3x2048x704, .f32⟩
  | .hbm, ⟨10, _⟩ => ⟨S_, .i32⟩
  | .hbm, ⟨11, _⟩ => ⟨S_, .f32⟩
  | .hbm, ⟨12, _⟩ => ⟨S3x2048x768, .f32⟩
  | .hbm, ⟨13, _⟩ => ⟨S3x2048x768, .bf16⟩
  | .hbm, ⟨14, _⟩ => ⟨S1x2048x704, .f32⟩
  | .hbm, ⟨15, _⟩ => ⟨S1x2048x704, .f32⟩
  | .hbm, ⟨16, _⟩ => ⟨S1x2048x704, .f32⟩
  | .hbm, ⟨17, _⟩ => ⟨S1x2048x704, .f32⟩
  | .local _ .vmem, ⟨0, _⟩ => ⟨S256x768, .f32⟩
  | .local _ .vmem, ⟨1, _⟩ => ⟨S256x768, .f32⟩
  | .local _ .vmem, ⟨2, _⟩ => ⟨S1x256x768, .bf16⟩
  | .local _ .vmem, ⟨3, _⟩ => ⟨S1x256x768, .bf16⟩
  | .local _ .vmem, ⟨4, _⟩ => ⟨S1x256x768, .bf16⟩
  | .local _ .vmem, ⟨5, _⟩ => ⟨S1x256x768, .bf16⟩
  | .local _ .vmem, ⟨6, _⟩ => ⟨S1x256x768, .bf16⟩
  | .local _ .vmem, ⟨7, _⟩ => ⟨S1x256x768, .bf16⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | .local _ .vmem, ⟨16, _⟩ => ⟨S1x256x704, .f32⟩
  | .local _ .vmem, ⟨17, _⟩ => ⟨S1x256x704, .f32⟩
  | .local _ .vmem, ⟨18, _⟩ => ⟨S1x256x704, .f32⟩
  | .local _ .vmem, ⟨19, _⟩ => ⟨S1x256x704, .f32⟩
  | .local _ .vmem, ⟨20, _⟩ => ⟨S1x256x704, .f32⟩
  | .local _ .vmem, ⟨21, _⟩ => ⟨S1x256x704, .f32⟩
  | _, _ => ⟨S1x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamwUpIdeal.lean ====
abbrev S1x2048x704 : Shape := ⟨3, ![1, 2048, 704]⟩
abbrev S4x2048x704 : Shape := ⟨3, ![4, 2048, 704]⟩
abbrev S2048x704 : Shape := ⟨2, ![2048, 704]⟩
abbrev S_ : Shape := ⟨0, ![]⟩
abbrev S2048x768 : Shape := ⟨2, ![2048, 768]⟩
abbrev S3x2048x704 : Shape := ⟨3, ![3, 2048, 704]⟩
abbrev S3x2048x768 : Shape := ⟨3, ![3, 2048, 768]⟩
abbrev S256x768 : Shape := ⟨2, ![256, 768]⟩
abbrev S1x256x768 : Shape := ⟨3, ![1, 256, 768]⟩
abbrev S1x256x704 : Shape := ⟨3, ![1, 256, 704]⟩
abbrev S256x704 : Shape := ⟨2, ![256, 704]⟩

abbrev nBuf : Space → Nat
  | .hbm => 18
  | .vmem => 22
  | .smem => 0
  | _ => 0

abbrev bufTy : (tb : Table) → Fin (tcTables nBuf tb) → BufTy
  | .hbm, ⟨0, _⟩ => ⟨S1x2048x704, .f32⟩
  | .hbm, ⟨1, _⟩ => ⟨S1x2048x704, .f32⟩
  | .hbm, ⟨2, _⟩ => ⟨S1x2048x704, .f32⟩
  | .hbm, ⟨3, _⟩ => ⟨S4x2048x704, .f32⟩
  | .hbm, ⟨4, _⟩ => ⟨S1x2048x704, .f32⟩
  | .hbm, ⟨5, _⟩ => ⟨S2048x704, .f32⟩
  | .hbm, ⟨6, _⟩ => ⟨S_, .i32⟩
  | .hbm, ⟨7, _⟩ => ⟨S_, .f32⟩
  | .hbm, ⟨8, _⟩ => ⟨S2048x768, .f32⟩
  | .hbm, ⟨9, _⟩ => ⟨S3x2048x704, .f32⟩
  | .hbm, ⟨10, _⟩ => ⟨S_, .i32⟩
  | .hbm, ⟨11, _⟩ => ⟨S_, .f32⟩
  | .hbm, ⟨12, _⟩ => ⟨S3x2048x768, .f32⟩
  | .hbm, ⟨13, _⟩ => ⟨S3x2048x768, .bf16⟩
  | .hbm, ⟨14, _⟩ => ⟨S1x2048x704, .f32⟩
  | .hbm, ⟨15, _⟩ => ⟨S1x2048x704, .f32⟩
  | .hbm, ⟨16, _⟩ => ⟨S1x2048x704, .f32⟩
  | .hbm, ⟨17, _⟩ => ⟨S1x2048x704, .f32⟩
  | .local _ .vmem, ⟨0, _⟩ => ⟨S256x768, .f32⟩
  | .local _ .vmem, ⟨1, _⟩ => ⟨S256x768, .f32⟩
  | .local _ .vmem, ⟨2, _⟩ => ⟨S1x256x768, .bf16⟩
  | .local _ .vmem, ⟨3, _⟩ => ⟨S1x256x768, .bf16⟩
  | .local _ .vmem, ⟨4, _⟩ => ⟨S1x256x768, .bf16⟩
  | .local _ .vmem, ⟨5, _⟩ => ⟨S1x256x768, .bf16⟩
  | .local _ .vmem, ⟨6, _⟩ => ⟨S1x256x768, .bf16⟩
  | .local _ .vmem, ⟨7, _⟩ => ⟨S1x256x768, .bf16⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | .local _ .vmem, ⟨16, _⟩ => ⟨S1x256x704, .f32⟩
  | .local _ .vmem, ⟨17, _⟩ => ⟨S1x256x704, .f32⟩
  | .local _ .vmem, ⟨18, _⟩ => ⟨S1x256x704, .f32⟩
  | .local _ .vmem, ⟨19, _⟩ => ⟨S1x256x704, .f32⟩
  | .local _ .vmem, ⟨20, _⟩ => ⟨S1x256x704, .f32⟩
  | .local _ .vmem, ⟨21, _⟩ => ⟨S1x256x704, .f32⟩
  | _, _ => ⟨S1x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamwUpReferenceIdeal.lean ====
abbrev S1x2048x704 : Shape := ⟨3, ![1, 2048, 704]⟩
abbrev S4x2048x704 : Shape := ⟨3, ![4, 2048, 704]⟩
abbrev S_ : Shape := ⟨0, ![]⟩
abbrev S2048x704 : Shape := ⟨2, ![2048, 704]⟩

abbrev nBuf : Space → Nat
  | .hbm => 40
  | .vmem => 0
  | .smem => 0
  | _ => 0

abbrev bufTy : (tb : Table) → Fin (tcTables nBuf tb) → BufTy
  | .hbm, ⟨0, _⟩ => ⟨S1x2048x704, .f32⟩
  | .hbm, ⟨1, _⟩ => ⟨S1x2048x704, .f32⟩
  | .hbm, ⟨2, _⟩ => ⟨S1x2048x704, .f32⟩
  | .hbm, ⟨3, _⟩ => ⟨S4x2048x704, .f32⟩
  | .hbm, ⟨4, _⟩ => ⟨S_, .f32⟩
  | .hbm, ⟨5, _⟩ => ⟨S2048x704, .f32⟩
  | .hbm, ⟨6, _⟩ => ⟨S1x2048x704, .f32⟩
  | .hbm, ⟨7, _⟩ => ⟨S_, .f32⟩
  | .hbm, ⟨8, _⟩ => ⟨S1x2048x704, .f32⟩
  | .hbm, ⟨9, _⟩ => ⟨S1x2048x704, .f32⟩
  | .hbm, ⟨10, _⟩ => ⟨S_, .f32⟩
  | .hbm, ⟨11, _⟩ => ⟨S1x2048x704, .f32⟩
  | .hbm, ⟨12, _⟩ => ⟨S1x2048x704, .f32⟩
  | .hbm, ⟨13, _⟩ => ⟨S1x2048x704, .f32⟩
  | .hbm, ⟨14, _⟩ => ⟨S_, .f32⟩
  | .hbm, ⟨15, _⟩ => ⟨S1x2048x704, .f32⟩
  | .hbm, ⟨16, _⟩ => ⟨S1x2048x704, .f32⟩
  | .hbm, ⟨17, _⟩ => ⟨S1x2048x704, .f32⟩
  | .hbm, ⟨18, _⟩ => ⟨S_, .f32⟩
  | .hbm, ⟨19, _⟩ => ⟨S1x2048x704, .f32⟩
  | .hbm, ⟨20, _⟩ => ⟨S1x2048x704, .f32⟩
  | .hbm, ⟨21, _⟩ => ⟨S1x2048x704, .f32⟩
  | .hbm, ⟨22, _⟩ => ⟨S_, .f32⟩
  | .hbm, ⟨23, _⟩ => ⟨S1x2048x704, .f32⟩
  | .hbm, ⟨24, _⟩ => ⟨S1x2048x704, .f32⟩
  | .hbm, ⟨25, _⟩ => ⟨S_, .f32⟩
  | .hbm, ⟨26, _⟩ => ⟨S1x2048x704, .f32⟩
  | .hbm, ⟨27, _⟩ => ⟨S1x2048x704, .f32⟩
  | .hbm, ⟨28, _⟩ => ⟨S1x2048x704, .f32⟩
  | .hbm, ⟨29, _⟩ => ⟨S_, .f32⟩
  | .hbm, ⟨30, _⟩ => ⟨S1x2048x704, .f32⟩
  | .hbm, ⟨31, _⟩ => ⟨S1x2048x704, .f32⟩
  | .hbm, ⟨32, _⟩ => ⟨S1x2048x704, .f32⟩
  | .hbm, ⟨33, _⟩ => ⟨S_, .f32⟩
  | .hbm, ⟨34, _⟩ => ⟨S1x2048x704, .f32⟩
  | .hbm, ⟨35, _⟩ => ⟨S1x2048x704, .f32⟩
  | .hbm, ⟨36, _⟩ => ⟨S1x2048x704, .f32⟩
  | .hbm, ⟨37, _⟩ => ⟨S_, .f32⟩
  | .hbm, ⟨38, _⟩ => ⟨S1x2048x704, .f32⟩
  | .hbm, ⟨39, _⟩ => ⟨S1x2048x704, .f32⟩
  | _, _ => ⟨S1x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwDown.lean ====
abbrev S1x704x2048 : Shape := ⟨3, ![1, 704, 2048]⟩
abbrev S4x704x2048 : Shape := ⟨3, ![4, 704, 2048]⟩
abbrev S704x2048 : Shape := ⟨2, ![704, 2048]⟩
abbrev S_ : Shape := ⟨0, ![]⟩
abbrev S3x704x2048 : Shape := ⟨3, ![3, 704, 2048]⟩
abbrev S176x2048 : Shape := ⟨2, ![176, 2048]⟩
abbrev S1x176x2048 : Shape := ⟨3, ![1, 176, 2048]⟩

abbrev nBuf : Space → Nat
  | .hbm => 18
  | .vmem => 22
  | .smem => 0
  | _ => 0

abbrev bufTy : (tb : Table) → Fin (tcTables nBuf tb) → BufTy
  | .hbm, ⟨0, _⟩ => ⟨S1x704x2048, .f32⟩
  | .hbm, ⟨1, _⟩ => ⟨S1x704x2048, .f32⟩
  | .hbm, ⟨2, _⟩ => ⟨S1x704x2048, .f32⟩
  | .hbm, ⟨3, _⟩ => ⟨S4x704x2048, .f32⟩
  | .hbm, ⟨4, _⟩ => ⟨S1x704x2048, .f32⟩
  | .hbm, ⟨5, _⟩ => ⟨S704x2048, .f32⟩
  | .hbm, ⟨6, _⟩ => ⟨S_, .i32⟩
  | .hbm, ⟨7, _⟩ => ⟨S_, .f32⟩
  | .hbm, ⟨8, _⟩ => ⟨S704x2048, .f32⟩
  | .hbm, ⟨9, _⟩ => ⟨S3x704x2048, .f32⟩
  | .hbm, ⟨10, _⟩ => ⟨S_, .i32⟩
  | .hbm, ⟨11, _⟩ => ⟨S_, .f32⟩
  | .hbm, ⟨12, _⟩ => ⟨S3x704x2048, .f32⟩
  | .hbm, ⟨13, _⟩ => ⟨S3x704x2048, .bf16⟩
  | .hbm, ⟨14, _⟩ => ⟨S1x704x2048, .f32⟩
  | .hbm, ⟨15, _⟩ => ⟨S1x704x2048, .f32⟩
  | .hbm, ⟨16, _⟩ => ⟨S1x704x2048, .f32⟩
  | .hbm, ⟨17, _⟩ => ⟨S1x704x2048, .f32⟩
  | .local _ .vmem, ⟨0, _⟩ => ⟨S176x2048, .f32⟩
  | .local _ .vmem, ⟨1, _⟩ => ⟨S176x2048, .f32⟩
  | .local _ .vmem, ⟨2, _⟩ => ⟨S1x176x2048, .bf16⟩
  | .local _ .vmem, ⟨3, _⟩ => ⟨S1x176x2048, .bf16⟩
  | .local _ .vmem, ⟨4, _⟩ => ⟨S1x176x2048, .bf16⟩
  | .local _ .vmem, ⟨5, _⟩ => ⟨S1x176x2048, .bf16⟩
  | .local _ .vmem, ⟨6, _⟩ => ⟨S1x176x2048, .bf16⟩
  | .local _ .vmem, ⟨7, _⟩ => ⟨S1x176x2048, .bf16⟩
  | .local _ .vmem, ⟨8, _⟩ => ⟨S1x176x2048, .f32⟩
  | .local _ .vmem, ⟨9, _⟩ => ⟨S1x176x2048, .f32⟩
  | .local _ .vmem, ⟨10, _⟩ => ⟨S1x176x2048, .f32⟩
  | .local _ .vmem, ⟨11, _⟩ => ⟨S1x176x2048, .f32⟩
  | .local _ .vmem, ⟨12, _⟩ => ⟨S1x176x2048, .f32⟩
  | .local _ .vmem, ⟨13, _⟩ => ⟨S1x176x2048, .f32⟩
  | .local _ .vmem, ⟨14, _⟩ => ⟨S1x176x2048, .f32⟩
  | .local _ .vmem, ⟨15, _⟩ => ⟨S1x176x2048, .f32⟩
  | .local _ .vmem, ⟨16, _⟩ => ⟨S1x176x2048, .f32⟩
  | .local _ .vmem, ⟨17, _⟩ => ⟨S1x176x2048, .f32⟩
  | .local _ .vmem, ⟨18, _⟩ => ⟨S1x176x2048, .f32⟩
  | .local _ .vmem, ⟨19, _⟩ => ⟨S1x176x2048, .f32⟩
  | .local _ .vmem, ⟨20, _⟩ => ⟨S1x176x2048, .f32⟩
  | .local _ .vmem, ⟨21, _⟩ => ⟨S1x176x2048, .f32⟩
  | _, _ => ⟨S1x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamwDownReferenceIdeal.lean ====
abbrev S1x704x2048 : Shape := ⟨3, ![1, 704, 2048]⟩
abbrev S4x704x2048 : Shape := ⟨3, ![4, 704, 2048]⟩
abbrev S_ : Shape := ⟨0, ![]⟩
abbrev S704x2048 : Shape := ⟨2, ![704, 2048]⟩

abbrev nBuf : Space → Nat
  | .hbm => 40
  | .vmem => 0
  | .smem => 0
  | _ => 0

abbrev bufTy : (tb : Table) → Fin (tcTables nBuf tb) → BufTy
  | .hbm, ⟨0, _⟩ => ⟨S1x704x2048, .f32⟩
  | .hbm, ⟨1, _⟩ => ⟨S1x704x2048, .f32⟩
  | .hbm, ⟨2, _⟩ => ⟨S1x704x2048, .f32⟩
  | .hbm, ⟨3, _⟩ => ⟨S4x704x2048, .f32⟩
  | .hbm, ⟨4, _⟩ => ⟨S_, .f32⟩
  | .hbm, ⟨5, _⟩ => ⟨S704x2048, .f32⟩
  | .hbm, ⟨6, _⟩ => ⟨S1x704x2048, .f32⟩
  | .hbm, ⟨7, _⟩ => ⟨S_, .f32⟩
  | .hbm, ⟨8, _⟩ => ⟨S1x704x2048, .f32⟩
  | .hbm, ⟨9, _⟩ => ⟨S1x704x2048, .f32⟩
  | .hbm, ⟨10, _⟩ => ⟨S_, .f32⟩
  | .hbm, ⟨11, _⟩ => ⟨S1x704x2048, .f32⟩
  | .hbm, ⟨12, _⟩ => ⟨S1x704x2048, .f32⟩
  | .hbm, ⟨13, _⟩ => ⟨S1x704x2048, .f32⟩
  | .hbm, ⟨14, _⟩ => ⟨S_, .f32⟩
  | .hbm, ⟨15, _⟩ => ⟨S1x704x2048, .f32⟩
  | .hbm, ⟨16, _⟩ => ⟨S1x704x2048, .f32⟩
  | .hbm, ⟨17, _⟩ => ⟨S1x704x2048, .f32⟩
  | .hbm, ⟨18, _⟩ => ⟨S_, .f32⟩
  | .hbm, ⟨19, _⟩ => ⟨S1x704x2048, .f32⟩
  | .hbm, ⟨20, _⟩ => ⟨S1x704x2048, .f32⟩
  | .hbm, ⟨21, _⟩ => ⟨S1x704x2048, .f32⟩
  | .hbm, ⟨22, _⟩ => ⟨S_, .f32⟩
  | .hbm, ⟨23, _⟩ => ⟨S1x704x2048, .f32⟩
  | .hbm, ⟨24, _⟩ => ⟨S1x704x2048, .f32⟩
  | .hbm, ⟨25, _⟩ => ⟨S_, .f32⟩
  | .hbm, ⟨26, _⟩ => ⟨S1x704x2048, .f32⟩
  | .hbm, ⟨27, _⟩ => ⟨S1x704x2048, .f32⟩
  | .hbm, ⟨28, _⟩ => ⟨S1x704x2048, .f32⟩
  | .hbm, ⟨29, _⟩ => ⟨S_, .f32⟩
  | .hbm, ⟨30, _⟩ => ⟨S1x704x2048, .f32⟩
  | .hbm, ⟨31, _⟩ => ⟨S1x704x2048, .f32⟩
  | .hbm, ⟨32, _⟩ => ⟨S1x704x2048, .f32⟩
  | .hbm, ⟨33, _⟩ => ⟨S_, .f32⟩
  | .hbm, ⟨34, _⟩ => ⟨S1x704x2048, .f32⟩
  | .hbm, ⟨35, _⟩ => ⟨S1x704x2048, .f32⟩
  | .hbm, ⟨36, _⟩ => ⟨S1x704x2048, .f32⟩
  | .hbm, ⟨37, _⟩ => ⟨S_, .f32⟩
  | .hbm, ⟨38, _⟩ => ⟨S1x704x2048, .f32⟩
  | .hbm, ⟨39, _⟩ => ⟨S1x704x2048, .f32⟩
  | _, _ => ⟨S1x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== DFfnAct.lean ====
abbrev S2048x5632 : Shape := ⟨2, ![2048, 5632]⟩
abbrev S3x5632 : Shape := ⟨2, ![3, 5632]⟩
abbrev S1x5632 : Shape := ⟨2, ![1, 5632]⟩
abbrev S2048x8x704 : Shape := ⟨3, ![2048, 8, 704]⟩
abbrev S_ : Shape := ⟨0, ![]⟩
abbrev S2048x8x768 : Shape := ⟨3, ![2048, 8, 768]⟩
abbrev S2048x6144 : Shape := ⟨2, ![2048, 6144]⟩
abbrev S3x8x704 : Shape := ⟨3, ![3, 8, 704]⟩
abbrev S3x8x768 : Shape := ⟨3, ![3, 8, 768]⟩
abbrev S3x6144 : Shape := ⟨2, ![3, 6144]⟩
abbrev S1x8x704 : Shape := ⟨3, ![1, 8, 704]⟩
abbrev S1x8x768 : Shape := ⟨3, ![1, 8, 768]⟩
abbrev S1x6144 : Shape := ⟨2, ![1, 6144]⟩
abbrev S8x3x6144 : Shape := ⟨3, ![8, 3, 6144]⟩
abbrev S8x1x6144 : Shape := ⟨3, ![8, 1, 6144]⟩
abbrev S256x1024 : Shape := ⟨2, ![256, 1024]⟩
abbrev S8x1024 : Shape := ⟨2, ![8, 1024]⟩
abbrev S3x1024 : Shape := ⟨2, ![3, 1024]⟩
abbrev S1x1024 : Shape := ⟨2, ![1, 1024]⟩
abbrev S1x3x1024 : Shape := ⟨3, ![1, 3, 1024]⟩
abbrev S1x1x1024 : Shape := ⟨3, ![1, 1, 1024]⟩
abbrev S1024 : Shape := ⟨1, ![1024]⟩

abbrev nBuf : Space → Nat
  | .hbm => 35
  | .vmem => 20
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S3x5632, .f32⟩
  | .hbm, ⟨3, _⟩ => ⟨S1x5632, .f32⟩
  | .hbm, ⟨4, _⟩ => ⟨S2048x5632, .f32⟩
  | .hbm, ⟨5, _⟩ => ⟨S2048x8x704, .f32⟩
  | .hbm, ⟨6, _⟩ => ⟨S_, .i32⟩
  | .hbm, ⟨7, _⟩ => ⟨S_, .f32⟩
  | .hbm, ⟨8, _⟩ => ⟨S2048x8x768, .f32⟩
  | .hbm, ⟨9, _⟩ => ⟨S2048x6144, .f32⟩
  | .hbm, ⟨10, _⟩ => ⟨S2048x8x704, .f32⟩
  | .hbm, ⟨11, _⟩ => ⟨S_, .i32⟩
  | .hbm, ⟨12, _⟩ => ⟨S_, .f32⟩
  | .hbm, ⟨13, _⟩ => ⟨S2048x8x768, .f32⟩
  | .hbm, ⟨14, _⟩ => ⟨S2048x6144, .f32⟩
  | .hbm, ⟨15, _⟩ => ⟨S3x8x704, .f32⟩
  | .hbm, ⟨16, _⟩ => ⟨S_, .i32⟩
  | .hbm, ⟨17, _⟩ => ⟨S_, .f32⟩
  | .hbm, ⟨18, _⟩ => ⟨S3x8x768, .f32⟩
  | .hbm, ⟨19, _⟩ => ⟨S3x6144, .f32⟩
  | .hbm, ⟨20, _⟩ => ⟨S1x8x704, .f32⟩
  | .hbm, ⟨21, _⟩ => ⟨S_, .i32⟩
  | .hbm, ⟨22, _⟩ => ⟨S_, .f32⟩
  | .hbm, ⟨23, _⟩ => ⟨S1x8x768, .f32⟩
  | .hbm, ⟨24, _⟩ => ⟨S1x6144, .f32⟩
  | .hbm, ⟨25, _⟩ => ⟨S2048x5632, .bf16⟩
  | .hbm, ⟨26, _⟩ => ⟨S2048x8x704, .bf16⟩
  | .hbm, ⟨27, _⟩ => ⟨S_, .i32⟩
  | .hbm, ⟨28, _⟩ => ⟨S_, .bf16⟩
  | .hbm, ⟨29, _⟩ => ⟨S2048x8x768, .bf16⟩
  | .hbm, ⟨30, _⟩ => ⟨S2048x6144, .bf16⟩
  | .hbm, ⟨31, _⟩ => ⟨S2048x6144, .f32⟩
  | .hbm, ⟨32, _⟩ => ⟨S2048x6144, .bf16⟩
  | .hbm, ⟨33, _⟩ => ⟨S8x3x6144, .f32⟩
  | .hbm, ⟨34, _⟩ => ⟨S8x1x6144, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S256x1024, .f32⟩
  | .local _ .vmem, ⟨5, _⟩ => ⟨S256x1024, .f32⟩
  | .local _ .vmem, ⟨6, _⟩ => ⟨S3x1024, .f32⟩
  | .local _ .vmem, ⟨7, _⟩ => ⟨S3x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x3x1024, .f32⟩
  | .local _ .vmem, ⟨17, _⟩ => ⟨S1x3x1024, .f32⟩
  | .local _ .vmem, ⟨18, _⟩ => ⟨S1x1x1024, .f32⟩
  | .local _ .vmem, ⟨19, _⟩ => ⟨S1x1x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_call3_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_call4_v0 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev main_v16_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x3x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== DFfnActReferenceIdeal.lean ====
abbrev S2048x5632 : Shape := ⟨2, ![2048, 5632]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S2050x5632 : Shape := ⟨2, ![2050, 5632]⟩
abbrev S8x256x5632 : Shape := ⟨3, ![8, 256, 5632]⟩
abbrev S8x5632 : Shape := ⟨2, ![8, 5632]⟩
abbrev S8x8x704 : Shape := ⟨3, ![8, 8, 704]⟩
abbrev S8x8x768 : Shape := ⟨3, ![8, 8, 768]⟩
abbrev S8x1x6144 : Shape := ⟨3, ![8, 1, 6144]⟩
abbrev S2048x8x704 : Shape := ⟨3, ![2048, 8, 704]⟩
abbrev S2048x8x768 : Shape := ⟨3, ![2048, 8, 768]⟩
abbrev S2048x6144 : Shape := ⟨2, ![2048, 6144]⟩
abbrev S8x3x6144 : Shape := ⟨3, ![8, 3, 6144]⟩

abbrev nBuf : Space → Nat
  | .hbm => 90
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S3x5632, .f32⟩
  | .hbm, ⟨3, _⟩ => ⟨S1x5632, .f32⟩
  | .hbm, ⟨4, _⟩ => ⟨S2048x5632, .f32⟩
  | .hbm, ⟨5, _⟩ => ⟨S1x5632, .f32⟩
  | .hbm, ⟨6, _⟩ => ⟨S1x5632, .f32⟩
  | .hbm, ⟨7, _⟩ => ⟨S1x5632, .f32⟩
  | .hbm, ⟨8, _⟩ => ⟨S2048x5632, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2x5632, .f32⟩
  | .hbm, ⟨14, _⟩ => ⟨S2050x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S_, .f32⟩
  | .hbm, ⟨26, _⟩ => ⟨S2048x5632, .f32⟩
  | .hbm, ⟨27, _⟩ => ⟨S2048x5632, .f32⟩
  | .hbm, ⟨28, _⟩ => ⟨S_, .f32⟩
  | .hbm, ⟨29, _⟩ => ⟨S2048x5632, .f32⟩
  | .hbm, ⟨30, _⟩ => ⟨S2048x5632, .f32⟩
  | .hbm, ⟨31, _⟩ => ⟨S_, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S2048x5632, .f32⟩
  | .hbm, ⟨37, _⟩ => ⟨S2048x5632, .f32⟩
  | .hbm, ⟨38, _⟩ => ⟨S2048x5632, .f32⟩
  | .hbm, ⟨39, _⟩ => ⟨S2048x5632, .f32⟩
  | .hbm, ⟨40, _⟩ => ⟨S2048x5632, .f32⟩
  | .hbm, ⟨41, _⟩ => ⟨S2048x5632, .f32⟩
  | .hbm, ⟨42, _⟩ => ⟨S2048x5632, .f32⟩
  | .hbm, ⟨43, _⟩ => ⟨S2048x5632, .f32⟩
  | .hbm, ⟨44, _⟩ => ⟨S2048x5632, .f32⟩
  | .hbm, ⟨45, _⟩ => ⟨S2048x5632, .f32⟩
  | .hbm, ⟨46, _⟩ => ⟨S8x256x5632, .f32⟩
  | .hbm, ⟨47, _⟩ => ⟨S_, .f32⟩
  | .hbm, ⟨48, _⟩ => ⟨S8x5632, .f32⟩
  | .hbm, ⟨49, _⟩ => ⟨S8x8x704, .f32⟩
  | .hbm, ⟨50, _⟩ => ⟨S_, .i32⟩
  | .hbm, ⟨51, _⟩ => ⟨S_, .f32⟩
  | .hbm, ⟨52, _⟩ => ⟨S8x8x768, .f32⟩
  | .hbm, ⟨53, _⟩ => ⟨S8x1x6144, .f32⟩
  | .hbm, ⟨54, _⟩ => ⟨S8x256x5632, .f32⟩
  | .hbm, ⟨55, _⟩ => ⟨S_, .f32⟩
  | .hbm, ⟨56, _⟩ => ⟨S8x5632, .f32⟩
  | .hbm, ⟨57, _⟩ => ⟨S8x8x704, .f32⟩
  | .hbm, ⟨58, _⟩ => ⟨S_, .i32⟩
  | .hbm, ⟨59, _⟩ => ⟨S_, .f32⟩
  | .hbm, ⟨60, _⟩ => ⟨S8x8x768, .f32⟩
  | .hbm, ⟨61, _⟩ => ⟨S8x1x6144, .f32⟩
  | .hbm, ⟨62, _⟩ => ⟨S8x256x5632, .f32⟩
  | .hbm, ⟨63, _⟩ => ⟨S_, .f32⟩
  | .hbm, ⟨64, _⟩ => ⟨S8x5632, .f32⟩
  | .hbm, ⟨65, _⟩ => ⟨S8x8x704, .f32⟩
  | .hbm, ⟨66, _⟩ => ⟨S_, .i32⟩
  | .hbm, ⟨67, _⟩ => ⟨S_, .f32⟩
  | .hbm, ⟨68, _⟩ => ⟨S8x8x768, .f32⟩
  | .hbm, ⟨69, _⟩ => ⟨S8x1x6144, .f32⟩
  | .hbm, ⟨70, _⟩ => ⟨S8x256x5632, .f32⟩
  | .hbm, ⟨71, _⟩ => ⟨S_, .f32⟩
  | .hbm, ⟨72, _⟩ => ⟨S8x5632, .f32⟩
  | .hbm, ⟨73, _⟩ => ⟨S8x8x704, .f32⟩
  | .hbm, ⟨74, _⟩ => ⟨S_, .i32⟩
  | .hbm, ⟨75, _⟩ => ⟨S_, .f32⟩
  | .hbm, ⟨76, _⟩ => ⟨S8x8x768, .f32⟩
  | .hbm, ⟨77, _⟩ => ⟨S8x1x6144, .f32⟩
  | .hbm, ⟨78, _⟩ => ⟨S2048x8x704, .f32⟩
  | .hbm, ⟨79, _⟩ => ⟨S_, .i32⟩
  | .hbm, ⟨80, _⟩ => ⟨S_, .f32⟩
  | .hbm, ⟨81, _⟩ => ⟨S2048x8x768, .f32⟩
  | .hbm, ⟨82, _⟩ => ⟨S2048x6144, .f32⟩
  | .hbm, ⟨83, _⟩ => ⟨S2048x8x704, .f32⟩
  | .hbm, ⟨84, _⟩ => ⟨S_, .i32⟩
  | .hbm, ⟨85, _⟩ => ⟨S_, .f32⟩
  | .hbm, ⟨86, _⟩ => ⟨S2048x8x768, .f32⟩
  | .hbm, ⟨87, _⟩ => ⟨S2048x6144, .f32⟩
  | .hbm, ⟨88, _⟩ => ⟨S2048x6144, .bf16⟩
  | .hbm, ⟨89, _⟩ => ⟨S8x3x6144, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v17_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v17_1 : Ref sig .tc := ⟨.hbm, 34, rfl⟩
abbrev main_v17_0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_0 : Ref sig .tc := ⟨.hbm, 47, rfl⟩
abbrev main_v26 : Ref sig .tc := ⟨.hbm, 48, rfl⟩
abbrev main_v27 : Ref sig .tc := ⟨.hbm, 49, rfl⟩
abbrev main_c : Ref sig .tc := ⟨.hbm, 50, rfl⟩
abbrev main_call2_v0 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_1 : Ref sig .tc := ⟨.hbm, 55, rfl⟩
abbrev main_v31 : Ref sig .tc := ⟨.hbm, 56, rfl⟩
abbrev main_v32 : Ref sig .tc := ⟨.hbm, 57, rfl⟩
abbrev main_c_2 : Ref sig .tc := ⟨.hbm, 58, rfl⟩
abbrev main_call3_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_3 : Ref sig .tc := ⟨.hbm, 63, rfl⟩
abbrev main_v36 : Ref sig .tc := ⟨.hbm, 64, rfl⟩
abbrev main_v37 : Ref sig .tc := ⟨.hbm, 65, rfl⟩
abbrev main_c_4 : Ref sig .tc := ⟨.hbm, 66, rfl⟩
abbrev main_call4_v0 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_5 : Ref sig .tc := ⟨.hbm, 71, rfl⟩
abbrev main_v41 : Ref sig .tc := ⟨.hbm, 72, rfl⟩
abbrev main_v42 : Ref sig .tc := ⟨.hbm, 73, rfl⟩
abbrev main_c_6 : Ref sig .tc := ⟨.hbm, 74, rfl⟩
abbrev main_call5_v0 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_7 : Ref sig .tc := ⟨.hbm, 79, rfl⟩
abbrev main_call6_v0 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_8 : Ref sig .tc := ⟨.hbm, 84, rfl⟩
abbrev main_call7_v0 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩

abbrev nD : Nat := 1
abbrev τ : Topo := Topo.v7x

variable {F : FTy → Type} [FloatOps F]
-- ==== AdamwSmall.lean ====
abbrev S64x1024 : Shape := ⟨2, ![64, 1024]⟩

abbrev nBuf : Space → Nat
  | .hbm => 7
  | .vmem => 7
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S64x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]
-- ==== AdamwSmallReferenceIdeal.lean ====
abbrev S64x1024 : Shape := ⟨2, ![64, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S_, .f32⟩
  | .hbm, ⟨5, _⟩ => ⟨S64x1024, .f32⟩
  | .hbm, ⟨6, _⟩ => ⟨S64x1024, .f32⟩
  | .hbm, ⟨7, _⟩ => ⟨S_, .f32⟩
  | .hbm, ⟨8, _⟩ => ⟨S64x1024, .f32⟩
  | .hbm, ⟨9, _⟩ => ⟨S64x1024, .f32⟩
  | .hbm, ⟨10, _⟩ => ⟨S64x1024, .f32⟩
  | .hbm, ⟨11, _⟩ => ⟨S_, .f32⟩
  | .hbm, ⟨12, _⟩ => ⟨S64x1024, .f32⟩
  | .hbm, ⟨13, _⟩ => ⟨S64x1024, .f32⟩
  | .hbm, ⟨14, _⟩ => ⟨S64x1024, .f32⟩
  | .hbm, ⟨15, _⟩ => ⟨S_, .f32⟩
  | .hbm, ⟨16, _⟩ => ⟨S64x1024, .f32⟩
  | .hbm, ⟨17, _⟩ => ⟨S64x1024, .f32⟩
  | .hbm, ⟨18, _⟩ => ⟨S64x1024, .f32⟩
  | .hbm, ⟨19, _⟩ => ⟨S_, .f32⟩
  | .hbm, ⟨20, _⟩ => ⟨S64x1024, .f32⟩
  | .hbm, ⟨21, _⟩ => ⟨S64x1024, .f32⟩
  | .hbm, ⟨22, _⟩ => ⟨S_, .f32⟩
  | .hbm, ⟨23, _⟩ => ⟨S64x1024, .f32⟩
  | .hbm, ⟨24, _⟩ => ⟨S64x1024, .f32⟩
  | .hbm, ⟨25, _⟩ => ⟨S64x1024, .f32⟩
  | .hbm, ⟨26, _⟩ => ⟨S_, .f32⟩
  | .hbm, ⟨27, _⟩ => ⟨S64x1024, .f32⟩
  | .hbm, ⟨28, _⟩ => ⟨S64x1024, .f32⟩
  | .hbm, ⟨29, _⟩ => ⟨S64x1024, .f32⟩
  | .hbm, ⟨30, _⟩ => ⟨S_, .f32⟩
  | .hbm, ⟨31, _⟩ => ⟨S64x1024, .f32⟩
  | .hbm, ⟨32, _⟩ => ⟨S64x1024, .f32⟩
  | .hbm, ⟨33, _⟩ => ⟨S64x1024, .f32⟩
  | .hbm, ⟨34, _⟩ => ⟨S_, .f32⟩
  | .hbm, ⟨35, _⟩ => ⟨S64x1024, .f32⟩
  | .hbm, ⟨36, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumChips.lean ====
abbrev S4x40x1024 : Shape := ⟨3, ![4, 40, 1024]⟩
abbrev S1x40x1024 : Shape := ⟨3, ![1, 40, 1024]⟩
abbrev S40x1024 : Shape := ⟨2, ![40, 1024]⟩
abbrev S3x40x1024 : Shape := ⟨3, ![3, 40, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4x40x1024, .f32⟩
  | .hbm, ⟨1, _⟩ => ⟨S1x40x1024, .f32⟩
  | .hbm, ⟨2, _⟩ => ⟨S40x1024, .f32⟩
  | .hbm, ⟨3, _⟩ => ⟨S3x40x1024, .f32⟩
  | .hbm, ⟨4, _⟩ => ⟨S3x40x1024, .bf16⟩
  | .hbm, ⟨5, _⟩ => ⟨S40x1024, .f32⟩
  | .local _ .vmem, ⟨0, _⟩ => ⟨S40x1024, .f32⟩
  | .local _ .vmem, ⟨1, _⟩ => ⟨S1x40x1024, .bf16⟩
  | .local _ .vmem, ⟨2, _⟩ => ⟨S1x40x1024, .bf16⟩
  | .local _ .vmem, ⟨3, _⟩ => ⟨S1x40x1024, .bf16⟩
  | .local _ .vmem, ⟨4, _⟩ => ⟨S40x1024, .f32⟩
  | _, _ => ⟨S4x40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x40x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x40x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x40x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S40x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== SumChipsReferenceIdeal.lean ====
abbrev S4x40x1024 : Shape := ⟨3, ![4, 40, 1024]⟩
abbrev S_ : Shape := ⟨0, ![]⟩
abbrev S40x1024 : Shape := ⟨2, ![40, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x40x1024, .f32⟩
  | .hbm, ⟨1, _⟩ => ⟨S_, .f32⟩
  | .hbm, ⟨2, _⟩ => ⟨S40x1024, .f32⟩
  | _, _ => ⟨S4x40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumDevices.lean ====
abbrev S8x24x1024 : Shape := ⟨3, ![8, 24, 1024]⟩
abbrev S8x24576 : Shape := ⟨2, ![8, 24576]⟩
abbrev S1x24576 : Shape := ⟨2, ![1, 24576]⟩

abbrev nBuf : Space → Nat
  | .hbm => 3
  | .vmem => 2
  | .smem => 0
  | _ => 0

abbrev bufTy : (tb : Table) → Fin (tcTables nBuf tb) → BufTy
  | .hbm, ⟨0, _⟩ => ⟨S8x24x1024, .f32⟩
  | .hbm, ⟨1, _⟩ => ⟨S8x24576, .f32⟩
  | .hbm, ⟨2, _⟩ => ⟨S1x24576, .f32⟩
  | .local _ .vmem, ⟨0, _⟩ => ⟨S8x24576, .f32⟩
  | .local _ .vmem, ⟨1, _⟩ => ⟨S1x24576, .f32⟩
  | _, _ => ⟨S8x24x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x24576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x24576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumDevicesReferenceIdeal.lean ====
abbrev S8x24x1024 : Shape := ⟨3, ![8, 24, 1024]⟩
abbrev S_ : Shape := ⟨0, ![]⟩
abbrev S24x1024 : Shape := ⟨2, ![24, 1024]⟩
abbrev S1x24576 : Shape := ⟨2, ![1, 24576]⟩

abbrev nBuf : Space → Nat
  | .hbm => 4
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S_, .f32⟩
  | .hbm, ⟨2, _⟩ => ⟨S24x1024, .f32⟩
  | .hbm, ⟨3, _⟩ => ⟨S1x24576, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumGain.lean ====
abbrev S1x8x1x2048 : Shape := ⟨4, ![1, 8, 1, 2048]⟩
abbrev S8x2048 : Shape := ⟨2, ![8, 2048]⟩
abbrev S1x2048 : Shape := ⟨2, ![1, 2048]⟩

abbrev nBuf : Space → Nat
  | .hbm => 3
  | .vmem => 2
  | .smem => 0
  | _ => 0

abbrev bufTy : (tb : Table) → Fin (tcTables nBuf tb) → BufTy
  | .hbm, ⟨0, _⟩ => ⟨S1x8x1x2048, .f32⟩
  | .hbm, ⟨1, _⟩ => ⟨S8x2048, .f32⟩
  | .hbm, ⟨2, _⟩ => ⟨S1x2048, .f32⟩
  | .local _ .vmem, ⟨0, _⟩ => ⟨S8x2048, .f32⟩
  | .local _ .vmem, ⟨1, _⟩ => ⟨S1x2048, .f32⟩
  | _, _ => ⟨S1x8x1x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumGainReferenceIdeal.lean ====
abbrev S1x8x1x2048 : Shape := ⟨4, ![1, 8, 1, 2048]⟩
abbrev S8x1x2048 : Shape := ⟨3, ![8, 1, 2048]⟩
abbrev S_ : Shape := ⟨0, ![]⟩
abbrev S1x2048 : Shape := ⟨2, ![1, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1x8x1x2048, .f32⟩
  | .hbm, ⟨1, _⟩ => ⟨S8x1x2048, .f32⟩
  | .hbm, ⟨2, _⟩ => ⟨S_, .f32⟩
  | .hbm, ⟨3, _⟩ => ⟨S1x2048, .f32⟩
  | _, _ => ⟨S1x8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumTaps.lean ====
abbrev S8x3x6144 : Shape := ⟨3, ![8, 3, 6144]⟩
abbrev S8x18432 : Shape := ⟨2, ![8, 18432]⟩
abbrev S1x18432 : Shape := ⟨2, ![1, 18432]⟩

abbrev nBuf : Space → Nat
  | .hbm => 3
  | .vmem => 2
  | .smem => 0
  | _ => 0

abbrev bufTy : (tb : Table) → Fin (tcTables nBuf tb) → BufTy
  | .hbm, ⟨0, _⟩ => ⟨S8x3x6144, .f32⟩
  | .hbm, ⟨1, _⟩ => ⟨S8x18432, .f32⟩
  | .hbm, ⟨2, _⟩ => ⟨S1x18432, .f32⟩
  | .local _ .vmem, ⟨0, _⟩ => ⟨S8x18432, .f32⟩
  | .local _ .vmem, ⟨1, _⟩ => ⟨S1x18432, .f32⟩
  | _, _ => ⟨S8x3x6144, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x18432 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x18432 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumTapsReferenceIdeal.lean ====
abbrev S8x3x6144 : Shape := ⟨3, ![8, 3, 6144]⟩
abbrev S_ : Shape := ⟨0, ![]⟩
abbrev S3x6144 : Shape := ⟨2, ![3, 6144]⟩
abbrev S1x18432 : Shape := ⟨2, ![1, 18432]⟩

abbrev nBuf : Space → Nat
  | .hbm => 4
  | .vmem => 0
  | .smem => 0
  | _ => 0

abbrev bufTy : (tb : Table) → Fin (tcTables nBuf tb) → BufTy
  | .hbm, ⟨0, _⟩ => ⟨S8x3x6144, .f32⟩
  | .hbm, ⟨1, _⟩ => ⟨S_, .f32⟩
  | .hbm, ⟨2, _⟩ => ⟨S3x6144, .f32⟩
  | .hbm, ⟨3, _⟩ => ⟨S1x18432, .f32⟩
  | _, _ => ⟨S8x3x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumBias.lean ====
abbrev S8x1x6144 : Shape := ⟨3, ![8, 1, 6144]⟩
abbrev S8x6144 : Shape := ⟨2, ![8, 6144]⟩
abbrev S1x6144 : Shape := ⟨2, ![1, 6144]⟩

abbrev nBuf : Space → Nat
  | .hbm => 3
  | .vmem => 2
  | .smem => 0
  | _ => 0

abbrev bufTy : (tb : Table) → Fin (tcTables nBuf tb) → BufTy
  | .hbm, ⟨0, _⟩ => ⟨S8x1x6144, .f32⟩
  | .hbm, ⟨1, _⟩ => ⟨S8x6144, .f32⟩
  | .hbm, ⟨2, _⟩ => ⟨S1x6144, .f32⟩
  | .local _ .vmem, ⟨0, _⟩ => ⟨S8x6144, .f32⟩
  | .local _ .vmem, ⟨1, _⟩ => ⟨S1x6144, .f32⟩
  | _, _ => ⟨S8x1x6144, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumBiasReferenceIdeal.lean ====
abbrev S8x1x6144 : Shape := ⟨3, ![8, 1, 6144]⟩
abbrev S_ : Shape := ⟨0, ![]⟩
abbrev S1x6144 : Shape := ⟨2, ![1, 6144]⟩

abbrev nBuf : Space → Nat
  | .hbm => 3
  | .vmem => 0
  | .smem => 0
  | _ => 0

abbrev bufTy : (tb : Table) → Fin (tcTables nBuf tb) → BufTy
  | .hbm, ⟨0, _⟩ => ⟨S8x1x6144, .f32⟩
  | .hbm, ⟨1, _⟩ => ⟨S_, .f32⟩
  | .hbm, ⟨2, _⟩ => ⟨S1x6144, .f32⟩
  | _, _ => ⟨S8x1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumHeads.lean ====
abbrev S8x2048x64 : Shape := ⟨3, ![8, 2048, 64]⟩
abbrev S2048x64 : Shape := ⟨2, ![2048, 64]⟩
abbrev S8x256x64 : Shape := ⟨3, ![8, 256, 64]⟩
abbrev S256x64 : Shape := ⟨2, ![256, 64]⟩
abbrev S1x256x64 : Shape := ⟨3, ![1, 256, 64]⟩

abbrev nBuf : Space → Nat
  | .hbm => 2
  | .vmem => 4
  | .smem => 0
  | _ => 0

abbrev bufTy : (tb : Table) → Fin (tcTables nBuf tb) → BufTy
  | .hbm, ⟨0, _⟩ => ⟨S8x2048x64, .f32⟩
  | .hbm, ⟨1, _⟩ => ⟨S2048x64, .f32⟩
  | .local _ .vmem, ⟨0, _⟩ => ⟨S8x256x64, .f32⟩
  | .local _ .vmem, ⟨1, _⟩ => ⟨S8x256x64, .f32⟩
  | .local _ .vmem, ⟨2, _⟩ => ⟨S256x64, .f32⟩
  | .local _ .vmem, ⟨3, _⟩ => ⟨S256x64, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumHeadsReferenceIdeal.lean ====
abbrev S8x2048x64 : Shape := ⟨3, ![8, 2048, 64]⟩
abbrev S_ : Shape := ⟨0, ![]⟩
abbrev S2048x64 : Shape := ⟨2, ![2048, 64]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S_, .f32⟩
  | .hbm, ⟨2, _⟩ => ⟨S2048x64, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumLoss.lean ====
abbrev S2048x1 : Shape := ⟨2, ![2048, 1]⟩
abbrev S256x8 : Shape := ⟨2, ![256, 8]⟩
abbrev S1x1 : Shape := ⟨2, ![1, 1]⟩
abbrev S1x256x8 : Shape := ⟨3, ![1, 256, 8]⟩
abbrev S1 : Shape := ⟨1, ![1]⟩
abbrev S1x1x1 : Shape := ⟨3, ![1, 1, 1]⟩

abbrev nBuf : Space → Nat
  | .hbm => 3
  | .vmem => 2
  | .smem => 0
  | _ => 0

abbrev bufTy : (tb : Table) → Fin (tcTables nBuf tb) → BufTy
  | .hbm, ⟨0, _⟩ => ⟨S2048x1, .f32⟩
  | .hbm, ⟨1, _⟩ => ⟨S256x8, .f32⟩
  | .hbm, ⟨2, _⟩ => ⟨S1x1, .f32⟩
  | .local _ .vmem, ⟨0, _⟩ => ⟨S256x8, .f32⟩
  | .local _ .vmem, ⟨1, _⟩ => ⟨S1x1, .f32⟩
  | _, _ => ⟨S2048x1, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S256x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumLossReferenceIdeal.lean ====
abbrev S2048x1 : Shape := ⟨2, ![2048, 1]⟩
abbrev S2048 : Shape := ⟨1, ![2048]⟩
abbrev S_ : Shape := ⟨0, ![]⟩
abbrev S1x1 : Shape := ⟨2, ![1, 1]⟩

abbrev nBuf : Space → Nat
  | .hbm => 5
  | .vmem => 0
  | .smem => 0
  | _ => 0

abbrev bufTy : (tb : Table) → Fin (tcTables nBuf tb) → BufTy
  | .hbm, ⟨0, _⟩ => ⟨S2048x1, .f32⟩
  | .hbm, ⟨1, _⟩ => ⟨S2048, .f32⟩
  | .hbm, ⟨2, _⟩ => ⟨S_, .f32⟩
  | .hbm, ⟨3, _⟩ => ⟨S_, .f32⟩
  | .hbm, ⟨4, _⟩ => ⟨S1x1, .f32⟩
  | _, _ => ⟨S2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Spec.lean ====
/- The gradient of causal attention with a rotated query part, over the real numbers: what both programs compute.
   Everything here is about functions `Fin n → ℝ` and finite sums; the programs' arrays come in elsewhere. -/
module

public import Mathlib.Data.EReal.Operations
public import Mathlib.Analysis.SpecialFunctions.Log.Basic
public import Mathlib.Algebra.BigOperators.Fin
public import Idealize.ShloMosaic.PureOps.Ideal

@[expose] public section

noncomputable section

namespace Cert.Attn

open Idealize.ShloMosaic

/-- A finite sum of reals, read as extended reals, is the sum of the readings. -/
theorem coe_sum {ι : Type*} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The quotient by a nonzero real is the real quotient. -/
theorem div_real (x : ℝ) {y : ℝ} (h : y ≠ 0) : Ideal.div (x : EReal) (y : EReal) = ((x / y : ℝ) : EReal) := by
  rw [Ideal.div_coe h, ← EReal.coe_mul, mul_one_div]

/-- The arrays of one attention head group as real numbers: queries, keys with values, the shared rotary key, the
    cosines and sines of the positions' angles, the cotangent of the output, and the scale of the scores. -/
structure Data where
  q : Fin 8 → Fin 2048 → Fin 256 → ℝ
  kv : Fin 8 → Fin 2048 → Fin 256 → ℝ
  kp : Fin 2048 → Fin 64 → ℝ
  cs : Fin 2048 → Fin 32 → ℝ
  sn : Fin 2048 → Fin 32 → ℝ
  g : Fin 8 → Fin 2048 → Fin 128 → ℝ
  sc : ℝ

namespace Data

variable (D : Data)

/-- The first 128 features of a query. -/
def qn (h : Fin 8) (i : Fin 2048) (d : Fin 128) : ℝ := D.q h i ⟨d, by omega⟩
/-- The next 64 features of a query, which the positions rotate. -/
def qp (h : Fin 8) (i : Fin 2048) (r : Fin 64) : ℝ := D.q h i ⟨128 + r, by omega⟩
/-- The first 128 features of a key. -/
def kn (h : Fin 8) (j : Fin 2048) (d : Fin 128) : ℝ := D.kv h j ⟨d, by omega⟩
/-- The value vectors. -/
def vv (h : Fin 8) (j : Fin 2048) (d : Fin 128) : ℝ := D.kv h j ⟨128 + d, by omega⟩

/-- The rotated part of a query: the halves `(a, b)` become `(a cos − b sin, b cos + a sin)`. -/
def qr (h : Fin 8) (i : Fin 2048) (r : Fin 64) : ℝ :=
  if hr : (r : ℕ) < 32 then
    D.qp h i r * D.cs i ⟨r, hr⟩ - D.qp h i ⟨r + 32, by omega⟩ * D.sn i ⟨r, hr⟩
  else D.qp h i r * D.cs i ⟨r - 32, by omega⟩ + D.qp h i ⟨r - 32, by omega⟩ * D.sn i ⟨r - 32, by omega⟩

/-- The rotated part of a query by its halves. -/
theorem qr_halves (h : Fin 8) (a : Fin 2048) (b : Fin 64) :
    (if hb : (b : ℕ) < 32 then
      ((D.q h a ⟨128 + b, by omega⟩ * D.cs a ⟨b, hb⟩ - D.q h a ⟨128 + (32 + b), by omega⟩ * D.sn a ⟨b, hb⟩ : ℝ) : EReal)
    else
      ((D.q h a ⟨128 + (32 + (b - 32)), by omega⟩ * D.cs a ⟨b - 32, by omega⟩
        + D.q h a ⟨128 + (b - 32), by omega⟩ * D.sn a ⟨b - 32, by omega⟩ : ℝ) : EReal)) = ((D.qr h a b : ℝ) : EReal) := by
  unfold qr qp
  split
  · have hb' : 128 + (32 + (b : ℕ)) = 128 + (b + 32) := by omega
    simp only [hb']
  · have hb' : 128 + (32 + ((b : ℕ) - 32)) = 128 + b := by omega
    simp only [hb']

/-- The scaled score of query `i` against key `j`. -/
def score (h : Fin 8) (i j : Fin 2048) : ℝ :=
  (∑ d, D.qn h i d * D.kn h j d + ∑ r, D.qr h i r * D.kp j r) * D.sc

/-- The masked score: `−∞` above the diagonal. -/
def masked (h : Fin 8) (i j : Fin 2048) : EReal := if j ≤ i then ((D.score h i j : ℝ) : EReal) else ⊥

/-- The largest score of a row, as the programs take it. -/
def topE (h : Fin 8) (i : Fin 2048) : EReal := Finset.univ.fold max ⊥ (D.masked h i)

/-- The largest score of a row, as a real number. -/
def top (h : Fin 8) (i : Fin 2048) : ℝ := (D.topE h i).toReal

/-- The largest score of a row is a real number: the diagonal one is, and none is `+∞`. -/
theorem topE_eq (h : Fin 8) (i : Fin 2048) : D.topE h i = ((D.top h i : ℝ) : EReal) := by
  refine (EReal.coe_toReal ?_ ?_).symm
  · refine ne_of_lt ?_
    unfold topE
    rw [Finset.fold_max_lt]
    refine ⟨bot_lt_top, fun j _ => ?_⟩
    unfold masked
    split
    · exact EReal.coe_lt_top _
    · exact bot_lt_top
  · refine ne_of_gt ?_
    unfold topE
    rw [Finset.lt_fold_max]
    right
    refine ⟨i, Finset.mem_univ _, ?_⟩
    unfold masked
    rw [if_pos le_rfl]
    exact EReal.bot_lt_coe _

/-- The exponential of a score less the row's largest; zero above the diagonal. -/
def ex (h : Fin 8) (i j : Fin 2048) : ℝ := if j ≤ i then Real.exp (D.score h i j - D.top h i) else 0
/-- The row sum of the exponentials. -/
def tot (h : Fin 8) (i : Fin 2048) : ℝ := ∑ j, D.ex h i j
/-- The attention weight. -/
def w (h : Fin 8) (i j : Fin 2048) : ℝ := D.ex h i j / D.tot h i
/-- The attention output. -/
def out (h : Fin 8) (i : Fin 2048) (d : Fin 128) : ℝ := ∑ j, D.w h i j * D.vv h j d
/-- The gradient of the attention weight. -/
def dp (h : Fin 8) (i j : Fin 2048) : ℝ := ∑ d, D.g h i d * D.vv h j d
/-- The row's mean gradient. -/
def del (h : Fin 8) (i : Fin 2048) : ℝ := ∑ d, D.g h i d * D.out h i d
/-- The gradient of the score before the scale. -/
def ds (h : Fin 8) (i j : Fin 2048) : ℝ := D.w h i j * (D.dp h i j - D.del h i) * D.sc

theorem ex_nonneg (h : Fin 8) (i j : Fin 2048) : 0 ≤ D.ex h i j := by
  unfold ex; split
  · exact (Real.exp_pos _).le
  · exact le_rfl

theorem tot_pos (h : Fin 8) (i : Fin 2048) : 0 < D.tot h i :=
  Finset.sum_pos' (fun j _ => D.ex_nonneg h i j) ⟨i, Finset.mem_univ _, by unfold ex; rw [if_pos le_rfl]; exact Real.exp_pos _⟩

theorem tot_ne (h : Fin 8) (i : Fin 2048) : D.tot h i ≠ 0 := (D.tot_pos h i).ne'

theorem w_of_lt {h : Fin 8} {i j : Fin 2048} (hij : i < j) : D.w h i j = 0 := by
  unfold w ex; rw [if_neg (not_le.mpr hij), zero_div]

theorem ds_of_lt {h : Fin 8} {i j : Fin 2048} (hij : i < j) : D.ds h i j = 0 := by
  unfold ds; rw [D.w_of_lt hij, zero_mul, zero_mul]

/-- The weight from the logarithm of the row sum. -/
theorem w_eq_exp {h : Fin 8} {i j : Fin 2048} (hij : j ≤ i) :
    Real.exp (D.score h i j - (D.top h i + Real.log (D.tot h i))) = D.w h i j := by
  unfold w ex
  rw [if_pos hij, ← sub_sub, Real.exp_sub, Real.exp_log (D.tot_pos h i)]

/-- The weight as the programs take it from a masked score. -/
theorem exp_masked (h : Fin 8) (i j : Fin 2048) :
    Ideal.exp (D.masked h i j - ((D.top h i + Real.log (D.tot h i) : ℝ) : EReal)) = ((D.w h i j : ℝ) : EReal) := by
  unfold masked
  split
  · next hij => rw [← EReal.coe_sub, Ideal.exp_coe, D.w_eq_exp hij]
  · next hij => rw [EReal.bot_sub, Ideal.exp_bot, D.w_of_lt (not_le.mp hij)]; rfl

/-- The exponential as the programs take it from a masked score. -/
theorem exp_masked_top (h : Fin 8) (i j : Fin 2048) :
    Ideal.exp (D.masked h i j - ((D.top h i : ℝ) : EReal)) = ((D.ex h i j : ℝ) : EReal) := by
  unfold masked ex
  split
  · rw [← EReal.coe_sub, Ideal.exp_coe]
  · rw [EReal.bot_sub, Ideal.exp_bot]; rfl

/-- The row's mean gradient is the weighted mean of the weights' gradients. -/
theorem del_eq (h : Fin 8) (i : Fin 2048) : D.del h i = ∑ j, D.w h i j * D.dp h i j := by
  unfold del out dp
  simp only [Finset.mul_sum]
  rw [Finset.sum_comm]
  exact Finset.sum_congr rfl fun j _ => Finset.sum_congr rfl fun d _ => by ring

/-- The gradient of the softmax as differentiation writes it: through the quotient by the row sum. -/
theorem ds_quotient (h : Fin 8) (i j : Fin 2048) :
    (D.dp h i j / D.tot h i + -∑ k, D.dp h i k * (1 / (D.tot h i * D.tot h i)) * D.ex h i k) * D.ex h i j * D.sc
      = D.ds h i j := by
  have hS : ∑ k, D.dp h i k * (1 / (D.tot h i * D.tot h i)) * D.ex h i k = D.del h i / D.tot h i := by
    rw [del_eq, Finset.sum_div]
    refine Finset.sum_congr rfl fun k _ => ?_
    unfold w
    have := D.tot_ne h i
    field_simp
  rw [hS]
  unfold ds w
  have := D.tot_ne h i
  field_simp
  ring

/-- The gradient of the rotated query part. -/
def dqr (h : Fin 8) (i : Fin 2048) (r : Fin 64) : ℝ := ∑ j, D.ds h i j * D.kp j r

/-- The gradient of a query: the plain part, the part rotated back, and nothing for the features past both. -/
def dq (h : Fin 8) (i : Fin 2048) (c : Fin 256) : ℝ :=
  if h1 : (c : ℕ) < 128 then ∑ j, D.ds h i j * D.kn h j ⟨c, h1⟩
  else if h2 : (c : ℕ) < 160 then
    D.dqr h i ⟨c - 128, by omega⟩ * D.cs i ⟨c - 128, by omega⟩ + D.dqr h i ⟨c - 96, by omega⟩ * D.sn i ⟨c - 128, by omega⟩
  else if h3 : (c : ℕ) < 192 then
    D.dqr h i ⟨c - 128, by omega⟩ * D.cs i ⟨c - 160, by omega⟩ - D.dqr h i ⟨c - 160, by omega⟩ * D.sn i ⟨c - 160, by omega⟩
  else 0

/-- The gradient of a key's plain part, the sum over the queries. -/
def dk (h : Fin 8) (j : Fin 2048) (d : Fin 128) : ℝ := ∑ i, D.ds h i j * D.qn h i d
/-- The gradient of a value vector. -/
def dv (h : Fin 8) (j : Fin 2048) (d : Fin 128) : ℝ := ∑ i, D.w h i j * D.g h i d

/-- The gradient of a key with its value. -/
def dkv (h : Fin 8) (j : Fin 2048) (c : Fin 256) : ℝ :=
  if h1 : (c : ℕ) < 128 then D.dk h j ⟨c, h1⟩ else D.dv h j ⟨c - 128, by omega⟩

/-- The gradient of the rotary key, head by head. -/
def dkp (h : Fin 8) (j : Fin 2048) (r : Fin 64) : ℝ := ∑ i, D.ds h i j * D.qr h i r

/-- The gradient of a query as a sum of padded parts, each zero outside its own features. -/
theorem dq_padded (h : Fin 8) (a : Fin 2048) (b : Fin 256) :
    ((if h1 : 128 ≤ (b : ℕ) ∧ (b : ℕ) - 128 < 64 then
        (if h2 : 32 ≤ (b : ℕ) - 128 ∧ (b : ℕ) - 128 - 32 < 32 then
            ((D.dqr h a ⟨32 + (b - 128 - 32), by omega⟩ * D.cs a ⟨b - 128 - 32, by omega⟩
              + -D.dqr h a ⟨b - 128 - 32, by omega⟩ * D.sn a ⟨b - 128 - 32, by omega⟩ : ℝ) : EReal)
          else 0) +
          (if h2 : (b : ℕ) - 128 < 32 then
            ((D.dqr h a ⟨32 + (b - 128), by omega⟩ * D.sn a ⟨b - 128, by omega⟩
              + D.dqr h a ⟨b - 128, by omega⟩ * D.cs a ⟨b - 128, by omega⟩ : ℝ) : EReal)
          else 0)
      else 0) +
      (if h1 : (b : ℕ) < 128 then ((∑ x, D.ds h a x * D.kv h x b : ℝ) : EReal) else 0) : EReal) = ((D.dq h a b : ℝ) : EReal) := by
  unfold dq kn
  by_cases h1 : (b : ℕ) < 128
  · rw [dif_neg (by omega), dif_pos h1, dif_pos h1, zero_add]
  rw [dif_neg h1, dif_neg h1, add_zero]
  by_cases h2 : (b : ℕ) < 160
  · rw [dif_pos h2, dif_pos (by omega), dif_neg (by omega), dif_pos (by omega), zero_add, EReal.coe_eq_coe_iff, add_comm]
    have e : 32 + ((b : ℕ) - 128) = b - 96 := by omega
    simp only [e]
  rw [dif_neg h2]
  by_cases h3 : (b : ℕ) < 192
  · rw [dif_pos h3, dif_pos (by omega), dif_pos (by omega), dif_neg (by omega), add_zero, EReal.coe_eq_coe_iff]
    have e : 32 + ((b : ℕ) - 160) = b - 128 := by omega
    have e' : (b : ℕ) - 128 - 32 = b - 160 := by omega
    simp only [e', e]
    rw [neg_mul, sub_eq_add_neg]
  · rw [dif_neg h3, dif_neg (by omega), EReal.coe_zero]

end Data

end Cert.Attn

end
-- ==== Proof.Inputs.lean ====
/- The programs' arrays read as real numbers: `Attn.ofArrays` takes the argument arrays of the attention gradient to the
   real data of Spec.lean, and the lemmas say that finite arrays ARE their readings, that the rotation's angles are real,
   and that the programs' causal mask is the order of the positions. -/
module

public import proofs.«01_k».proof.Proof.Spec
public import Idealize.ShloMosaic.Lib.Pointwise
public import Idealize.ShloMosaic.PureOps.Ideal.Laws

@[expose] public section

noncomputable section

namespace Cert.Attn

open Idealize.ShloMosaic

/-- The scale of the scores as the programs spell it. -/
theorem scale_real : Ideal.ofBits .f32 0x3D93CD3A#32 = (((Ideal.ofBits .f32 0x3D93CD3A#32).toReal : ℝ) : EReal) := by
  refine (EReal.coe_toReal ?_ ?_).symm <;> simp [Ideal.ofBits, Ideal.ieee, -EReal.coe_mul]

theorem ofBits_negInf : Ideal.ofBits .f32 0xFF800000#32 = ⊥ := by simp [Ideal.ofBits, Ideal.ieee]

theorem ofBits_posInf : Ideal.ofBits .f32 0x7F800000#32 = ⊤ := by simp [Ideal.ofBits, Ideal.ieee]

/-- The rotation's angle of position entry `p` at frequency `r`, as the programs spell it. -/
def angleE (p : BitVec 32) (r : ℕ) : EReal :=
  FloatOps.sitofp (F := Ideal) FTy.f32 p *
    Ideal.pow (Ideal.ofBits FTy.f32 0x461C4000#32)
      (Ideal.div (-FloatOps.sitofp (F := Ideal) FTy.f32 (BitVec.ofNat 32 r)) (Ideal.ofBits FTy.f32 0x42000000#32))

/-- The rotation's angle, as a real number. -/
def angle (p : BitVec 32) (r : ℕ) : ℝ := (angleE p r).toReal

theorem angleE_real (p : BitVec 32) (r : ℕ) : angleE p r = ((angle p r : ℝ) : EReal) := by
  have h : ∃ x : ℝ, angleE p r = (x : EReal) := by
    have h1 : Ideal.ofBits FTy.f32 0x461C4000#32 = ((10000 : ℝ) : EReal) := by
      simp [Ideal.ofBits, Ideal.ieee, -EReal.coe_mul]; norm_num
    have h2 : Ideal.ofBits FTy.f32 0x42000000#32 = ((32 : ℝ) : EReal) := by
      simp [Ideal.ofBits, Ideal.ieee, -EReal.coe_mul]; norm_num
    have h3 : ∀ z : BitVec 32, FloatOps.sitofp (F := Ideal) FTy.f32 z = (((z.toInt : ℝ)) : EReal) := fun z => rfl
    unfold angleE
    rw [h1, h2, h3, h3, ← EReal.coe_neg, div_real _ (by norm_num), Ideal.pow_coe_coe, ← EReal.coe_mul]
    exact ⟨_, rfl⟩
  obtain ⟨x, hx⟩ := h
  unfold angle
  rw [hx, EReal.toReal_coe]

/-- The real data the argument arrays hold. -/
def ofArrays (a0 a1 : FVec Ideal ⟨3, ![8, 2048, 256]⟩ .f32) (a2 : FVec Ideal ⟨2, ![2048, 64]⟩ .f32)
    (a3 : IVec ⟨1, ![2048]⟩ 32) (a4 : FVec Ideal ⟨3, ![8, 2048, 128]⟩ .f32) : Data where
  q h i c := EReal.toReal (a0 (ix3 h i c))
  kv h i c := EReal.toReal (a1 (ix3 h i c))
  kp i c := EReal.toReal (a2 (ix2 i c))
  cs i r := Real.cos (angle (a3 (ix1 i)) r)
  sn i r := Real.sin (angle (a3 (ix1 i)) r)
  g h i c := EReal.toReal (a4 (ix3 h i c))
  sc := EReal.toReal (Ideal.ofBits .f32 0x3D93CD3A#32)

/-- An extended real of finite magnitude is its reading. -/
theorem real_of_abs_lt {x : EReal} (h : max x (-x) < ⊤) : x = ((x.toReal : ℝ) : EReal) := by
  refine (EReal.coe_toReal ?_ ?_).symm
  · rintro rfl; simp at h
  · rintro rfl; simp at h

/-- The arrays hold the data: every entry is the real number the data say. -/
structure Holds (D : Data) (a0 a1 : FVec Ideal ⟨3, ![8, 2048, 256]⟩ .f32) (a2 : FVec Ideal ⟨2, ![2048, 64]⟩ .f32)
    (a3 : IVec ⟨1, ![2048]⟩ 32) (a4 : FVec Ideal ⟨3, ![8, 2048, 128]⟩ .f32) : Prop where
  q : ∀ h i c, a0 (ix3 h i c) = ((D.q h i c : ℝ) : EReal)
  kv : ∀ h i c, a1 (ix3 h i c) = ((D.kv h i c : ℝ) : EReal)
  kp : ∀ i c, a2 (ix2 i c) = ((D.kp i c : ℝ) : EReal)
  cs : ∀ (i : Fin 2048) (r : Fin 32), Ideal.cos (angleE (a3 (ix1 i)) r) = ((D.cs i r : ℝ) : EReal)
  sn : ∀ (i : Fin 2048) (r : Fin 32), Ideal.sin (angleE (a3 (ix1 i)) r) = ((D.sn i r : ℝ) : EReal)
  g : ∀ h i c, a4 (ix3 h i c) = ((D.g h i c : ℝ) : EReal)
  sc : Ideal.ofBits .f32 0x3D93CD3A#32 = ((D.sc : ℝ) : EReal)

/-- Finite arrays hold the data they are read as. -/
theorem ofArrays_holds (a0 a1 : FVec Ideal ⟨3, ![8, 2048, 256]⟩ .f32) (a2 : FVec Ideal ⟨2, ![2048, 64]⟩ .f32)
    (a3 : IVec ⟨1, ![2048]⟩ 32) (a4 : FVec Ideal ⟨3, ![8, 2048, 128]⟩ .f32)
    (h0 : ∀ i, max (a0 i : EReal) (-(a0 i : EReal)) < ⊤) (h1 : ∀ i, max (a1 i : EReal) (-(a1 i : EReal)) < ⊤)
    (h2 : ∀ i, max (a2 i : EReal) (-(a2 i : EReal)) < ⊤) (h4 : ∀ i, max (a4 i : EReal) (-(a4 i : EReal)) < ⊤) :
    Holds (ofArrays a0 a1 a2 a3 a4) a0 a1 a2 a3 a4 where
  q _ _ _ := real_of_abs_lt (h0 _)
  kv _ _ _ := real_of_abs_lt (h1 _)
  kp _ _ := real_of_abs_lt (h2 _)
  cs i r := by rw [angleE_real, Ideal.cos_coe]; rfl
  sn i r := by rw [angleE_real, Ideal.sin_coe]; rfl
  g _ _ _ := real_of_abs_lt (h4 _)
  sc := scale_real

/-- The signed comparison of two small numbers' words selects by their order. -/
theorem select_sge {α : Type} {a b : ℕ} (ha : a < 2 ^ 31) (hb : b < 2 ^ 31) (x y : α) :
    Scalar.select (IntOp.cmpi CmpIPredicate.sge (BitVec.ofNat 32 a) (BitVec.ofNat 32 b)) x y = if b ≤ a then x else y := by
  have h1 : (BitVec.ofNat 32 a).toInt = a := by
    rw [BitVec.toInt_eq_toNat_of_lt] <;> simp <;> omega
  have h2 : (BitVec.ofNat 32 b).toInt = b := by
    rw [BitVec.toInt_eq_toNat_of_lt] <;> simp <;> omega
  have h3 : (BitVec.ofNat 32 b).sle (BitVec.ofNat 32 a) = decide (b ≤ a) := by
    rw [BitVec.sle_eq_decide, h1, h2]; simp
  unfold IntOp.cmpi Scalar.select
  simp only [h3]
  by_cases hab : b ≤ a <;> simp [hab]

end Cert.Attn

end
-- ==== Proof.Tile.lean ====
/- What one query tile of the kernel works with: the rows' plain and rotated queries, cotangents, mean gradients and
   log-sums, read from the blocks the tile loads. A tile is 256 consecutive queries of one head. -/
module

public import proofs.«01_k».proof.Proof.Inputs
public import proofs.«01_k».proof.Proof.Gen.KernelIdeal.Skeleton
public import Idealize.ShloMosaic.Lib.Pointwise

@[expose] public section

set_option maxRecDepth 16384

noncomputable section

namespace Cert.Attn

open Idealize.ShloMosaic Cert.KernelIdeal Cert.KernelIdeal.Gen

/-- Query `r` of tile `t`. -/
def row (t : Fin 8) (r : Fin 256) : Fin 2048 := ⟨256 * t + r, by omega⟩

/-- Key `j` of a prefix of the keys. -/
def key {n : ℕ} (hn : n ≤ 2048) (j : Fin n) : Fin 2048 := ⟨j, by omega⟩

/-- A sum over a prefix of the keys is the sum over all of them where the rest contribute nothing. -/
theorem sum_prefix {n : ℕ} (hn : n ≤ 2048) (f : Fin 2048 → ℝ) (hf : ∀ j : Fin 2048, n ≤ j → f j = 0) :
    ∑ j : Fin n, f (key hn j) = ∑ j, f j := by
  let e : Fin n ↪ Fin 2048 := ⟨key hn, fun a b hab => by
    have := congrArg Fin.val hab
    exact Fin.ext this⟩
  have h1 : ∑ j : Fin n, f (key hn j) = ∑ j ∈ Finset.univ.map e, f j := by rw [Finset.sum_map]; rfl
  rw [h1]
  refine Finset.sum_subset (Finset.subset_univ _) fun j _ hj => hf j ?_
  by_contra hlt
  refine hj (Finset.mem_map.mpr ⟨⟨j, by omega⟩, Finset.mem_univ _, rfl⟩)

/-- The word of a row's position. -/
theorem row_word (t : Fin 8) (r : Fin 256) :
    IntOp.addi (Scalar.muli (BitVec.ofNat 32 t) 256#32) (BitVec.ofNat 32 r) = BitVec.ofNat 32 (row t r) := by
  unfold IntOp.addi Scalar.muli row
  apply BitVec.eq_of_toNat_eq
  simp [IntOp.muli]
  omega

/-- The rotation matrix. -/
def rot (x b : Fin 64) : ℝ := if (x : ℕ) = b + 32 then -1 else if (x : ℕ) + 32 = b then 1 else 0

/-- A row times the rotation matrix swaps its halves, the second one negated. -/
theorem sum_rot (u : Fin 64 → ℝ) (b : Fin 64) :
    ∑ x, u x * rot x b = if hb : (b : ℕ) < 32 then -u ⟨b + 32, by omega⟩ else u ⟨b - 32, by omega⟩ := by
  split
  · next hb =>
    rw [Finset.sum_eq_single (⟨b + 32, by omega⟩ : Fin 64)]
    · unfold rot; simp
    · intro x _ hx
      have : (x : ℕ) ≠ b + 32 := fun h => hx (Fin.ext h)
      unfold rot; rw [if_neg this, if_neg (by omega), mul_zero]
    · intro h; exact absurd (Finset.mem_univ _) h
  · next hb =>
    rw [Finset.sum_eq_single (⟨b - 32, by omega⟩ : Fin 64)]
    · unfold rot; rw [if_neg (show ¬(b : ℕ) - 32 = b + 32 by omega), if_pos (show (b : ℕ) - 32 + 32 = b by omega), mul_one]
    · intro x _ hx
      have : (x : ℕ) ≠ b - 32 := fun h => hx (Fin.ext h)
      unfold rot; rw [if_neg (by omega), if_neg (by omega), mul_zero]
    · intro h; exact absurd (Finset.mem_univ _) h

/-- A row times the transposed rotation matrix swaps its halves, the first one negated. -/
theorem sum_rot_t (u : Fin 64 → ℝ) (b : Fin 64) :
    ∑ x, u x * rot b x = if hb : (b : ℕ) < 32 then u ⟨b + 32, by omega⟩ else -u ⟨b - 32, by omega⟩ := by
  split
  · next hb =>
    rw [Finset.sum_eq_single (⟨b + 32, by omega⟩ : Fin 64)]
    · unfold rot; rw [if_neg (by omega), if_pos (by dsimp only), mul_one]
    · intro x _ hx
      have : (x : ℕ) ≠ b + 32 := fun h => hx (Fin.ext h)
      unfold rot; rw [if_neg (by omega), if_neg (by omega), mul_zero]
    · intro h; exact absurd (Finset.mem_univ _) h
  · next hb =>
    rw [Finset.sum_eq_single (⟨b - 32, by omega⟩ : Fin 64)]
    · unfold rot; rw [if_pos (show (b : ℕ) = b - 32 + 32 by omega), mul_neg, mul_one]
    · intro x _ hx
      have : (x : ℕ) ≠ b - 32 := fun h => hx (Fin.ext h)
      unfold rot; rw [if_neg (by omega), if_neg (by omega), mul_zero]
    · intro h; exact absurd (Finset.mem_univ _) h

namespace Data

variable (D : Data)

/-- The doubled cosines and sines. -/
def cs2 (i : Fin 2048) (b : Fin 64) : ℝ := D.cs i ⟨b % 32, by omega⟩
def sn2 (i : Fin 2048) (b : Fin 64) : ℝ := D.sn i ⟨b % 32, by omega⟩

/-- The rotated query part through the rotation matrix. -/
theorem qr_rot (h : Fin 8) (i : Fin 2048) (b : Fin 64) :
    D.qp h i b * D.cs2 i b + (∑ x, D.qp h i x * rot x b) * D.sn2 i b = D.qr h i b := by
  rw [sum_rot]
  unfold qr cs2 sn2
  split
  · next hb =>
    have e : (b : ℕ) % 32 = b := by omega
    simp only [e]; ring
  · next hb =>
    have e : (b : ℕ) % 32 = b - 32 := by omega
    simp only [e]

/-- The gradient of a query's rotated features through the rotation matrix. -/
theorem dq_rot (h : Fin 8) (i : Fin 2048) (b : Fin 64) :
    D.dqr h i b * D.cs2 i b + ∑ x, D.dqr h i x * D.sn2 i x * rot b x = D.dq h i ⟨128 + b, by omega⟩ := by
  rw [sum_rot_t (fun x => D.dqr h i x * D.sn2 i x)]
  unfold dq cs2 sn2
  dsimp only
  rw [dif_neg (show ¬128 + (b : ℕ) < 128 by omega)]
  split
  · next hb =>
    rw [dif_pos (show 128 + (b : ℕ) < 160 by omega)]
    have e : (b : ℕ) % 32 = b := by omega
    have e2 : ((b : ℕ) + 32) % 32 = b := by omega
    have e3 : 128 + (b : ℕ) - 128 = b := by omega
    have e4 : 128 + (b : ℕ) - 96 = b + 32 := by omega
    simp only [e, e2, e3, e4]
  · next hb =>
    rw [dif_neg (show ¬128 + (b : ℕ) < 160 by omega), dif_pos (show 128 + (b : ℕ) < 192 by omega)]
    have e : (b : ℕ) % 32 = b - 32 := by omega
    have e2 : ((b : ℕ) - 32) % 32 = b - 32 := by omega
    have e3 : 128 + (b : ℕ) - 128 = b := by omega
    have e4 : 128 + (b : ℕ) - 160 = b - 32 := by omega
    simp only [e, e2, e3, e4]; ring

end Data

/-- What a tile holds before its keys: rows of plain and rotated queries, cotangents, mean gradients and log-sums. -/
structure Pre (D : Data) (h t : Fin 8) (v10 : FVec Ideal S256x128 .bf16) (v17 : FVec Ideal S256x64 .bf16)
    (v20 : FVec Ideal S256x128 .bf16) (v25 v27 : FVec Ideal S256x1 .f32) : Prop where
  qn : ∀ r d, v10 (ix2 r d) = ((D.qn h (row t r) d : ℝ) : EReal)
  qr : ∀ r d, v17 (ix2 r d) = ((D.qr h (row t r) d : ℝ) : EReal)
  g : ∀ r d, v20 (ix2 r d) = ((D.g h (row t r) d : ℝ) : EReal)
  del : ∀ r, v25 (ix2 r 0) = ((D.del h (row t r) : ℝ) : EReal)
  lse : ∀ r, v27 (ix2 r 0) = ((D.top h (row t r) + Real.log (D.tot h (row t r)) : ℝ) : EReal)

/-- What the blocks a tile loads hold: its rows of queries, angles, output, log-sums and cotangents, and the matrix. -/
structure Loads (D : Data) (h t : Fin 8) (a0 : Vec Ideal S1x256x128 .f32) (a1 : Vec Ideal S1x256x64 .f32)
    (a5 a6 : Vec Ideal S256x64 .f32) (a7 : Vec Ideal S64x64 .f32) (a8 : Vec Ideal S1x256x128 .f32)
    (a9 : Vec Ideal S1x256x1 .f32) (a10 : Vec Ideal S1x256x128 .f32) : Prop where
  qn : ∀ (r : Fin 256) (d : Fin 128), a0 (ix3 0 r d) = ((D.qn h (row t r) d : ℝ) : EReal)
  qp : ∀ (r : Fin 256) (d : Fin 64), a1 (ix3 0 r d) = ((D.qp h (row t r) d : ℝ) : EReal)
  cs : ∀ (r : Fin 256) (d : Fin 64), a5 (ix2 r d) = ((D.cs2 (row t r) d : ℝ) : EReal)
  sn : ∀ (r : Fin 256) (d : Fin 64), a6 (ix2 r d) = ((D.sn2 (row t r) d : ℝ) : EReal)
  rot : ∀ x b : Fin 64, a7 (ix2 x b) = ((rot x b : ℝ) : EReal)
  out : ∀ (r : Fin 256) (d : Fin 128), a8 (ix3 0 r d) = ((D.out h (row t r) d : ℝ) : EReal)
  lse : ∀ r : Fin 256, a9 (ix3 0 r 0) = ((D.top h (row t r) + Real.log (D.tot h (row t r)) : ℝ) : EReal)
  g : ∀ (r : Fin 256) (d : Fin 128), a10 (ix3 0 r d) = ((D.g h (row t r) d : ℝ) : EReal)

variable {D : Data} {h t : Fin 8}

theorem pay50_at (v : Vec Ideal S256x64 .f32) (r : Fin 256) (d : Fin 64) : k0_pay50 v (ix2 r d) = v (ix2 r d) := by
  unfold k0_pay50; pointwise

theorem pay51_at (v : Vec Ideal S256x64 .f32) (r : Fin 256) (d : Fin 64) : k0_pay51 v (ix2 r d) = v (ix2 r d) := by
  unfold k0_pay51; pointwise

/-- The tile's values from the blocks it loads. -/
theorem Loads.pre {a0 a1 a5 a6 a7 a8 a9 a10} (L : Loads D h t a0 a1 a5 a6 a7 a8 a9 a10) :
    Pre D h t (k0_pay52 a0) (k0_pay53 a5 a6 a7 a1) (k0_pay55 a10) (k0_pay56 a10 a8) (k0_pay57 a9) where
  qn r d := by
    have e : k0_pay52 a0 (ix2 r d) = a0 (ix3 0 r d) := by unfold k0_pay52; pointwise
    rw [e, L.qn]
  qr r d := by
    have e : k0_pay53 a5 a6 a7 a1 (ix2 r d) = a1 (ix3 0 r d) * k0_pay50 a5 (ix2 r d)
        + (∑ x, a1 (ix3 0 r x) * a7 (ix2 x d)) * k0_pay51 a6 (ix2 r d) := by
      unfold k0_pay53
      generalize k0_pay50 a5 = A
      generalize k0_pay51 a6 = B
      pointwise
    rw [e, pay50_at, pay51_at, L.cs, L.sn, L.qp]
    simp only [L.qp, L.rot, ← EReal.coe_mul, ← coe_sum, ← EReal.coe_add]
    rw [D.qr_rot]
  g r d := by
    have e : k0_pay55 a10 (ix2 r d) = a10 (ix3 0 r d) := by unfold k0_pay55 k0_pay54; pointwise
    rw [e, L.g]
  del r := by
    have e : k0_pay56 a10 a8 (ix2 r 0) = ∑ x, a10 (ix3 0 r x) * a8 (ix3 0 r x) := by
      unfold k0_pay56 k0_pay54; pointwise
    rw [e]
    simp only [L.g, L.out, ← EReal.coe_mul, ← coe_sum]
    rfl
  lse r := by
    have e : k0_pay57 a9 (ix2 r 0) = a9 (ix3 0 r 0) := by unfold k0_pay57; pointwise
    rw [e, L.lse]

end Cert.Attn

end
-- ==== Proof.Pieces.lean ====
/- Buffers of two and three axes written by rectangles and read back at an index, and loads of a rectangle at an index. -/
module

public import Idealize.ShloMosaic.Lib.WritesUnit
public import Idealize.ShloMosaic.Lib.Pointwise
public import Idealize.ShloMosaic.Lib.Pipeline.ValueKit.Tiles

@[expose] public section

namespace Cert.Attn

open Idealize.ShloMosaic

variable {sig : RefSig} {κ : Kind} {sp : Space} {e : EltTy} {Val : EltTy → Type}

section Two
variable {n0 n1 o0 o1 m0 m1 : ℕ}

/-- Under the newest rectangle the buffer holds its payload. -/
theorem read2_hit (v : View sig κ sp ⟨2, ![n0, n1]⟩ e) (f : v.ty.Contents Val)
    (inb : ∀ a : Fin 2, (![o0, o1] : Fin 2 → ℕ) a + (![m0, m1] : Fin 2 → ℕ) a ≤ (![n0, n1] : Fin 2 → ℕ) a)
    (w : (⟨2, ![m0, m1]⟩ : Shape).Idx → Val e) (L : List (View.Piece Val ⟨2, ![n0, n1]⟩ e))
    (a : Fin n0) (b : Fin n1) (a' : Fin m0) (b' : Fin m1) (ha : (a : ℕ) = o0 + a') (hb : (b : ℕ) = o1 + b') :
    v.read Val (v.writes Val f
      ((⟨Rect.unit (s := ⟨2, ![n0, n1]⟩) ![o0, o1] ![m0, m1] inb, w⟩ : View.Piece Val ⟨2, ![n0, n1]⟩ e) :: L)) (ix2 a b)
      = w (ix2 a' b') :=
  View.read_writes_cons_unit_of_mem v f inb w L (ix2 a b) (ix2 a' b') rfl (Fin.forall_fin_two.mpr ⟨ha, hb⟩)

/-- Rows off the newest rectangle read what was there before. -/
theorem read2_miss0 (v : View sig κ sp ⟨2, ![n0, n1]⟩ e) (f : v.ty.Contents Val)
    (inb : ∀ a : Fin 2, (![o0, o1] : Fin 2 → ℕ) a + (![m0, m1] : Fin 2 → ℕ) a ≤ (![n0, n1] : Fin 2 → ℕ) a)
    (w : (⟨2, ![m0, m1]⟩ : Shape).Idx → Val e) (L : List (View.Piece Val ⟨2, ![n0, n1]⟩ e))
    (a : Fin n0) (b : Fin n1) (h : (a : ℕ) < o0 ∨ o0 + m0 ≤ a) :
    v.read Val (v.writes Val f
      ((⟨Rect.unit (s := ⟨2, ![n0, n1]⟩) ![o0, o1] ![m0, m1] inb, w⟩ : View.Piece Val ⟨2, ![n0, n1]⟩ e) :: L)) (ix2 a b)
      = v.read Val (v.writes Val f L) (ix2 a b) :=
  View.read_writes_cons_unit_of_not_mem v f inb w L (ix2 a b) rfl (0 : Fin 2) h

/-- Columns off the newest rectangle read what was there before. -/
theorem read2_miss1 (v : View sig κ sp ⟨2, ![n0, n1]⟩ e) (f : v.ty.Contents Val)
    (inb : ∀ a : Fin 2, (![o0, o1] : Fin 2 → ℕ) a + (![m0, m1] : Fin 2 → ℕ) a ≤ (![n0, n1] : Fin 2 → ℕ) a)
    (w : (⟨2, ![m0, m1]⟩ : Shape).Idx → Val e) (L : List (View.Piece Val ⟨2, ![n0, n1]⟩ e))
    (a : Fin n0) (b : Fin n1) (h : (b : ℕ) < o1 ∨ o1 + m1 ≤ b) :
    v.read Val (v.writes Val f
      ((⟨Rect.unit (s := ⟨2, ![n0, n1]⟩) ![o0, o1] ![m0, m1] inb, w⟩ : View.Piece Val ⟨2, ![n0, n1]⟩ e) :: L)) (ix2 a b)
      = v.read Val (v.writes Val f L) (ix2 a b) :=
  View.read_writes_cons_unit_of_not_mem v f inb w L (ix2 a b) rfl (1 : Fin 2) h

/-- A load of a rectangle at an index. -/
theorem ld2 (X : (⟨2, ![n0, n1]⟩ : Shape).Idx → Val e)
    (inb : ∀ a : Fin 2, (![o0, o1] : Fin 2 → ℕ) a + (![m0, m1] : Fin 2 → ℕ) a ≤ (![n0, n1] : Fin 2 → ℕ) a)
    (a' : Fin m0) (b' : Fin m1) (a : Fin n0) (b : Fin n1) (ha : (a : ℕ) = o0 + a') (hb : (b : ℕ) = o1 + b') :
    View.ld X (Rect.unit (s := ⟨2, ![n0, n1]⟩) ![o0, o1] ![m0, m1] inb) (ix2 a' b') = X (ix2 a b) :=
  View.ld_unit_apply_of X _ _ inb (ix2 a' b') (ix2 a b) (Fin.forall_fin_two.mpr ⟨ha, hb⟩)

/-- A load of written rectangles at an index. -/
theorem readCov2 [∀ e, Nonempty (Val e)] (v : View sig κ sp ⟨2, ![n0, n1]⟩ e)
    (inb : ∀ a : Fin 2, (![o0, o1] : Fin 2 → ℕ) a + (![m0, m1] : Fin 2 → ℕ) a ≤ (![n0, n1] : Fin 2 → ℕ) a)
    (L : List (View.Piece Val ⟨2, ![n0, n1]⟩ e))
    (a' : Fin m0) (b' : Fin m1) (a : Fin n0) (b : Fin n1) (ha : (a : ℕ) = o0 + a') (hb : (b : ℕ) = o1 + b') :
    v.readCov L (Rect.unit (s := ⟨2, ![n0, n1]⟩) ![o0, o1] ![m0, m1] inb).toLoadRect (ix2 a' b')
      = v.read Val (v.writes Val v.junk L) (ix2 a b) := by
  rw [View.readCov_eq_canon', View.read_writes_junk_eq_canon]
  exact View.ld_unit_apply_of (View.canon L) _ _ inb (ix2 a' b') (ix2 a b) (Fin.forall_fin_two.mpr ⟨ha, hb⟩)

end Two

section Three
variable {n0 n1 n2 o0 o1 o2 m0 m1 m2 : ℕ}

/-- Under the newest rectangle the buffer holds its payload. -/
theorem read3_hit (v : View sig κ sp ⟨3, ![n0, n1, n2]⟩ e) (f : v.ty.Contents Val)
    (inb : ∀ a : Fin 3, (![o0, o1, o2] : Fin 3 → ℕ) a + (![m0, m1, m2] : Fin 3 → ℕ) a ≤ (![n0, n1, n2] : Fin 3 → ℕ) a)
    (w : (⟨3, ![m0, m1, m2]⟩ : Shape).Idx → Val e) (L : List (View.Piece Val ⟨3, ![n0, n1, n2]⟩ e))
    (a : Fin n0) (b : Fin n1) (c : Fin n2) (a' : Fin m0) (b' : Fin m1) (c' : Fin m2)
    (ha : (a : ℕ) = o0 + a') (hb : (b : ℕ) = o1 + b') (hc : (c : ℕ) = o2 + c') :
    v.read Val (v.writes Val f
      ((⟨Rect.unit (s := ⟨3, ![n0, n1, n2]⟩) ![o0, o1, o2] ![m0, m1, m2] inb, w⟩ : View.Piece Val ⟨3, ![n0, n1, n2]⟩ e) :: L))
        (ix3 a b c) = w (ix3 a' b' c') :=
  View.read_writes_cons_unit_of_mem v f inb w L (ix3 a b c) (ix3 a' b' c') rfl fun x => by
    match x with
    | ⟨0, _⟩ => exact ha
    | ⟨1, _⟩ => exact hb
    | ⟨2, _⟩ => exact hc

/-- The last axis off the newest rectangle reads what was there before. -/
theorem read3_miss2 (v : View sig κ sp ⟨3, ![n0, n1, n2]⟩ e) (f : v.ty.Contents Val)
    (inb : ∀ a : Fin 3, (![o0, o1, o2] : Fin 3 → ℕ) a + (![m0, m1, m2] : Fin 3 → ℕ) a ≤ (![n0, n1, n2] : Fin 3 → ℕ) a)
    (w : (⟨3, ![m0, m1, m2]⟩ : Shape).Idx → Val e) (L : List (View.Piece Val ⟨3, ![n0, n1, n2]⟩ e))
    (a : Fin n0) (b : Fin n1) (c : Fin n2) (h : (c : ℕ) < o2 ∨ o2 + m2 ≤ c) :
    v.read Val (v.writes Val f
      ((⟨Rect.unit (s := ⟨3, ![n0, n1, n2]⟩) ![o0, o1, o2] ![m0, m1, m2] inb, w⟩ : View.Piece Val ⟨3, ![n0, n1, n2]⟩ e) :: L))
        (ix3 a b c) = v.read Val (v.writes Val f L) (ix3 a b c) :=
  View.read_writes_cons_unit_of_not_mem v f inb w L (ix3 a b c) rfl (2 : Fin 3) h

/-- A load of a rectangle at an index. -/
theorem ld3 (X : (⟨3, ![n0, n1, n2]⟩ : Shape).Idx → Val e)
    (inb : ∀ a : Fin 3, (![o0, o1, o2] : Fin 3 → ℕ) a + (![m0, m1, m2] : Fin 3 → ℕ) a ≤ (![n0, n1, n2] : Fin 3 → ℕ) a)
    (a' : Fin m0) (b' : Fin m1) (c' : Fin m2) (a : Fin n0) (b : Fin n1) (c : Fin n2)
    (ha : (a : ℕ) = o0 + a') (hb : (b : ℕ) = o1 + b') (hc : (c : ℕ) = o2 + c') :
    View.ld X (Rect.unit (s := ⟨3, ![n0, n1, n2]⟩) ![o0, o1, o2] ![m0, m1, m2] inb) (ix3 a' b' c') = X (ix3 a b c) :=
  View.ld_unit_apply_of X _ _ inb (ix3 a' b' c') (ix3 a b c) fun x => by
    match x with
    | ⟨0, _⟩ => exact ha
    | ⟨1, _⟩ => exact hb
    | ⟨2, _⟩ => exact hc

end Three

end Cert.Attn
-- ==== Proof.Blk.lean ====
/- What the eleven input blocks hold at a tile, what the tile loads of them, and what the tile adds to the gradients of
   the keys and values. -/
module

public import proofs.«01_k».proof.Proof.Tile
public import proofs.«01_k».proof.Proof.Pieces

@[expose] public section

set_option maxRecDepth 16384

noncomputable section

namespace Cert.Attn

open Idealize.ShloMosaic Cert.KernelIdeal Cert.KernelIdeal.Gen

/-- The input blocks at tile `t` of head `h`. -/
structure Blk (D : Data) (h t : Fin 8) (x0 x1 : Vec Ideal S1x256x128 .f32) (x2 x3 : Vec Ideal S1x2048x128 .f32)
    (x4 : Vec Ideal S2048x64 .f32) (x5 x6 : Vec Ideal S256x64 .f32) (x7 : Vec Ideal S64x64 .f32)
    (x8 : Vec Ideal S1x256x128 .f32) (x9 : Vec Ideal S1x256x1 .f32) (x10 : Vec Ideal S1x256x128 .f32) : Prop where
  qn : ∀ (r : Fin 256) (d : Fin 128), x0 (ix3 0 r d) = ((D.qn h (row t r) d : ℝ) : EReal)
  qp : ∀ (r : Fin 256) (d : Fin 64), x1 (ix3 0 r ⟨d, by omega⟩) = ((D.qp h (row t r) d : ℝ) : EReal)
  kn : ∀ (j : Fin 2048) (d : Fin 128), x2 (ix3 0 j d) = ((D.kn h j d : ℝ) : EReal)
  vv : ∀ (j : Fin 2048) (d : Fin 128), x3 (ix3 0 j d) = ((D.vv h j d : ℝ) : EReal)
  kp : ∀ (j : Fin 2048) (d : Fin 64), x4 (ix2 j d) = ((D.kp j d : ℝ) : EReal)
  cs : ∀ (r : Fin 256) (d : Fin 64), x5 (ix2 r d) = ((D.cs2 (row t r) d : ℝ) : EReal)
  sn : ∀ (r : Fin 256) (d : Fin 64), x6 (ix2 r d) = ((D.sn2 (row t r) d : ℝ) : EReal)
  rot : ∀ x b : Fin 64, x7 (ix2 x b) = ((rot x b : ℝ) : EReal)
  out : ∀ (r : Fin 256) (d : Fin 128), x8 (ix3 0 r d) = ((D.out h (row t r) d : ℝ) : EReal)
  lse : ∀ r : Fin 256, x9 (ix3 0 r 0) = ((D.top h (row t r) + Real.log (D.tot h (row t r)) : ℝ) : EReal)
  g : ∀ (r : Fin 256) (d : Fin 128), x10 (ix3 0 r d) = ((D.g h (row t r) d : ℝ) : EReal)
  sc : Ideal.ofBits .f32 0x3D93CD3A#32 = ((D.sc : ℝ) : EReal)

variable {D : Data} {h t : Fin 8} {x0 x1 : Vec Ideal S1x256x128 .f32} {x2 x3 : Vec Ideal S1x2048x128 .f32}
  {x4 : Vec Ideal S2048x64 .f32} {x5 x6 : Vec Ideal S256x64 .f32} {x7 : Vec Ideal S64x64 .f32}
  {x8 : Vec Ideal S1x256x128 .f32} {x9 : Vec Ideal S1x256x1 .f32} {x10 : Vec Ideal S1x256x128 .f32}

/-- What the tile loads of its own rows. -/
theorem Blk.loads (B : Blk D h t x0 x1 x2 x3 x4 x5 x6 x7 x8 x9 x10) :
    Loads D h t
      (View.ld x0 (Rect.unit ![0, 0, 0] ![1, 256, 128] inb_S1x256x128_S1x256x128_0_0_0))
      (View.ld x1 (Rect.unit ![0, 0, 0] ![1, 256, 64] inb_S1x256x128_S1x256x64_0_0_0))
      (View.ld x5 (Rect.unit ![0, 0] ![256, 64] inb_S256x64_S256x64_0_0))
      (View.ld x6 (Rect.unit ![0, 0] ![256, 64] inb_S256x64_S256x64_0_0))
      (View.ld x7 (Rect.unit ![0, 0] ![64, 64] inb_S64x64_S64x64_0_0))
      (View.ld x8 (Rect.unit ![0, 0, 0] ![1, 256, 128] inb_S1x256x128_S1x256x128_0_0_0))
      (View.ld x9 (Rect.unit ![0, 0, 0] ![1, 256, 1] inb_S1x256x1_S1x256x1_0_0_0))
      (View.ld x10 (Rect.unit ![0, 0, 0] ![1, 256, 128] inb_S1x256x128_S1x256x128_0_0_0)) where
  qn r d := (ld3 x0 _ 0 r d 0 r d (Nat.zero_add _).symm (Nat.zero_add _).symm (Nat.zero_add _).symm).trans (B.qn r d)
  qp r d := (ld3 x1 _ 0 r d 0 r ⟨d, by omega⟩ (Nat.zero_add _).symm (Nat.zero_add _).symm (Nat.zero_add _).symm).trans (B.qp r d)
  cs r d := (ld2 x5 _ r d r d (Nat.zero_add _).symm (Nat.zero_add _).symm).trans (B.cs r d)
  sn r d := (ld2 x6 _ r d r d (Nat.zero_add _).symm (Nat.zero_add _).symm).trans (B.sn r d)
  rot r d := (ld2 x7 _ r d r d (Nat.zero_add _).symm (Nat.zero_add _).symm).trans (B.rot r d)
  out r d := (ld3 x8 _ 0 r d 0 r d (Nat.zero_add _).symm (Nat.zero_add _).symm (Nat.zero_add _).symm).trans (B.out r d)
  lse r := (ld3 x9 _ 0 r 0 0 r 0 (Nat.zero_add _).symm (Nat.zero_add _).symm (Nat.zero_add _).symm).trans (B.lse r)
  g r d := (ld3 x10 _ 0 r d 0 r d (Nat.zero_add _).symm (Nat.zero_add _).symm (Nat.zero_add _).symm).trans (B.g r d)

namespace Data

variable (D : Data)

/-- What tile `t` adds to the gradient of key `j` with its value. -/
def tkv (h t : Fin 8) (j : Fin 2048) (c : Fin 256) : ℝ :=
  if h1 : (c : ℕ) < 128 then ∑ r, D.ds h (row t r) j * D.qn h (row t r) ⟨c, h1⟩
  else ∑ r, D.w h (row t r) j * D.g h (row t r) ⟨c - 128, by omega⟩

/-- What tile `t` adds to the gradient of rotary key `j`. -/
def tkp (h t : Fin 8) (j : Fin 2048) (d : Fin 64) : ℝ := ∑ r, D.ds h (row t r) j * D.qr h (row t r) d

theorem tkv_zero {h t : Fin 8} {j : Fin 2048} (hj : 256 * (t + 1) ≤ (j : ℕ)) (c : Fin 256) : D.tkv h t j c = 0 := by
  unfold tkv
  have hlt : ∀ r : Fin 256, row t r < j := fun r => by rw [Fin.lt_def]; unfold row; dsimp only; omega
  split
  · exact Finset.sum_eq_zero fun r _ => by rw [D.ds_of_lt (hlt r), zero_mul]
  · exact Finset.sum_eq_zero fun r _ => by rw [D.w_of_lt (hlt r), zero_mul]

theorem tkp_zero {h t : Fin 8} {j : Fin 2048} (hj : 256 * (t + 1) ≤ (j : ℕ)) (d : Fin 64) : D.tkp h t j d = 0 := by
  unfold tkp
  have hlt : ∀ r : Fin 256, row t r < j := fun r => by rw [Fin.lt_def]; unfold row; dsimp only; omega
  exact Finset.sum_eq_zero fun r _ => by rw [D.ds_of_lt (hlt r), zero_mul]

/-- The tiles of a head are its queries. -/
theorem sum_tiles (f : Fin 2048 → ℝ) : ∑ t : Fin 8, ∑ r : Fin 256, f (row t r) = ∑ i, f i := by
  rw [← Fintype.sum_prod_type' fun (t : Fin 8) (r : Fin 256) => f (row t r)]
  refine Finset.sum_nbij' (fun p => row p.1 p.2) (fun i => (⟨i / 256, by omega⟩, ⟨i % 256, by omega⟩)) ?_ ?_ ?_ ?_ ?_
  · intro _ _; exact Finset.mem_univ _
  · intro _ _; exact Finset.mem_univ _
  · rintro ⟨t, r⟩ _
    unfold row
    ext <;> dsimp only <;> omega
  · intro i _
    unfold row
    ext; dsimp only; omega
  · intro _ _; rfl

/-- The tiles' additions make the gradient of a key with its value. -/
theorem sum_tkv (h : Fin 8) (j : Fin 2048) (c : Fin 256) : ∑ t, D.tkv h t j c = D.dkv h j c := by
  unfold tkv dkv
  split
  · next hc => exact sum_tiles fun i => D.ds h i j * D.qn h i ⟨c, hc⟩
  · next hc => exact sum_tiles fun i => D.w h i j * D.g h i ⟨c - 128, by omega⟩

/-- The tiles' additions make the gradient of a rotary key. -/
theorem sum_tkp (h : Fin 8) (j : Fin 2048) (d : Fin 64) : ∑ t, D.tkp h t j d = D.dkp h j d :=
  sum_tiles fun i => D.ds h i j * D.qr h i d

end Data

end Cert.Attn

end
-- ==== Proof.HostValue.lean ====
/- What the kernel's host lines prepare for the pallas_call, entry by entry: the saved output and log-sums of the forward
   pass, the doubled cosines and sines, and the matrix that rotates. -/
module

public import proofs.«01_k».proof.Proof.Inputs
public import proofs.«01_k».proof.Proof.Gen.KernelIdeal.Frame.Runs
public import Idealize.ShloMosaic.Lib.Pointwise
public import Idealize.ShloMosaic.Lib.Tactic.CleanTypes
public import Idealize.ShloMosaic.Lib.StableHlo.RunRead
public import Idealize.ShloMosaic.Lib.StableHlo.ReadAt

@[expose] public section

set_option maxRecDepth 16384

noncomputable section

namespace Cert.Attn.Host

open Idealize.ShloMosaic Idealize.ShloMosaic.TcCoe Cert.KernelIdeal Cert.KernelIdeal.Gen
open Idealize.ShloMosaic.StableHlo

variable (m : (ℓ : Loc nD τ sig) → Buf (Elt Ideal) ℓ) (c : Dev nD)

variable {D : Data}

set_option maxHeartbeats 4000000 in
/-- The rotation's matrix as the program spells it. -/
theorem lit0_eq : ∀ x b : Fin 64, lit0 ⟨x * 64 + b, by omega⟩ =
    if (x : ℕ) = b + 32 then 0xBF800000#32 else if (x : ℕ) + 32 = b then 0x3F800000#32 else 0x00000000#32 := by
  decide +kernel

/-- The argument buffers of core `c` hold the data. -/
abbrev HoldsAt (D : Data) (m : (ℓ : Loc nD τ sig) → Buf (Elt Ideal) ℓ) (c : Dev nD) : Prop :=
  Holds D (m (c, Proc.devRef .tc main_arg0)) (m (c, Proc.devRef .tc main_arg1)) (m (c, Proc.devRef .tc main_arg2))
    (m (c, Proc.devRef .tc main_arg3)) (m (c, Proc.devRef .tc main_arg4))

/-- Two halves side by side. -/
def halves (a b : FVec Ideal S8x2048x32 .f32) : FVec Ideal S8x2048x64 .f32 :=
  concatenate S8x2048x64 2 [⟨S8x2048x32, a⟩, ⟨S8x2048x32, b⟩] concatenates_S8x2048x32_S8x2048x32_S8x2048x64_d2

theorem V33_eq : V m c main_v33 = halves (V m c main_v25) (V m c main_v32) := by
  have h : V m c main_v33 = halves (upto (List.flatten [hostOps0, hostOps0_1, hostOps0_2]) (fun b => m (c, b)) 36 (Proc.devRef .tc main_v25))
      (upto (List.flatten [hostOps0, hostOps0_1, hostOps0_2]) (fun b => m (c, b)) 36 (Proc.devRef .tc main_v32)) := by
    unfold V
    after_reads_simp
    rfl
  rw [h]
  refine congrArg₂ halves ?_ ?_
  · unfold V
    after_reads_simp
  · unfold V
    after_reads_simp

/-- The first half of the rotated query part. -/
theorem V25_at (hD : HoldsAt D m c) (h : Fin 8) (a : Fin 2048) (b : Fin 32) :
    (V m c main_v25 : FVec Ideal S8x2048x32 .f32) (ix3 h a b)
      = ((D.q h a ⟨128 + b, by omega⟩ * D.cs a b - D.q h a ⟨128 + (32 + b), by omega⟩ * D.sn a b : ℝ) : EReal) := by
  have hc := hD.cs a b
  have hs := hD.sn a b
  have hq := hD.q h a
  clear hD
  unfold V
  after_reads_simp
  revert hc hs hq
  generalize m (c, Proc.devRef .tc main_arg0) = A0
  generalize m (c, Proc.devRef .tc main_arg3) = A3
  change FVec Ideal S8x2048x256 .f32 at A0
  change IVec S2048 32 at A3
  intro hc hs hq
  unfold angleE at hc hs
  clean_types
  pointwise
  rw [hc, hs, hq, hq, EReal.coe_sub, EReal.coe_mul, EReal.coe_mul]

/-- The second half of the rotated query part. -/
theorem V32_at (hD : HoldsAt D m c) (h : Fin 8) (a : Fin 2048) (b : Fin 32) :
    (V m c main_v32 : FVec Ideal S8x2048x32 .f32) (ix3 h a b)
      = ((D.q h a ⟨128 + (32 + b), by omega⟩ * D.cs a b + D.q h a ⟨128 + b, by omega⟩ * D.sn a b : ℝ) : EReal) := by
  have hc := hD.cs a b
  have hs := hD.sn a b
  have hq := hD.q h a
  clear hD
  unfold V
  after_reads_simp
  revert hc hs hq
  generalize m (c, Proc.devRef .tc main_arg0) = A0
  generalize m (c, Proc.devRef .tc main_arg3) = A3
  change FVec Ideal S8x2048x256 .f32 at A0
  change IVec S2048 32 at A3
  intro hc hs hq
  unfold angleE at hc hs
  clean_types
  pointwise
  rw [hc, hs, hq, hq, EReal.coe_add, EReal.coe_mul, EReal.coe_mul]

/-- The rotated query part. -/
theorem V33_at (hD : HoldsAt D m c) (h : Fin 8) (a : Fin 2048) (b : Fin 64) :
    (V m c main_v33 : FVec Ideal S8x2048x64 .f32) (ix3 h a b) = ((D.qr h a b : ℝ) : EReal) := by
  have e25 := V25_at m c hD h a
  have e32 := V32_at m c hD h a
  rw [V33_eq]
  revert e25 e32
  generalize V m c main_v25 = A
  generalize V m c main_v32 = B
  change FVec Ideal S8x2048x32 .f32 at A
  change FVec Ideal S8x2048x32 .f32 at B
  intro e25 e32
  unfold halves
  pointwise
  simp only [e25, e32]
  exact D.qr_halves h a b

theorem V47_eq : V m c main_v47 = (select (broadcastInDim S8x2048x2048 ![1, 2] bcast_S2048x2048_S8x2048x2048_1_2 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (mulf (addf (Host.dotGeneral (φ₁ := .f32) (φ₂ := .f32) dot_S8x2048x128_S8x2048x128_S8x2048x2048_2_2_1_1_0_0 none (extractStridedSlice S8x2048x128 ![0, 0, 0] (m (c, Proc.devRef .tc main_arg0) : FVec Ideal S8x2048x256 .f32) slices_S8x2048x256_S8x2048x128_0_0_0) (extractStridedSlice S8x2048x128 ![0, 0, 0] (m (c, Proc.devRef .tc main_arg1) : FVec Ideal S8x2048x256 .f32) slices_S8x2048x256_S8x2048x128_0_0_0)) (Host.dotGeneral (φ₁ := .f32) (φ₂ := .f32) dot_S8x2048x64_S8x2048x64_S8x2048x2048_2_2_1_1_0_0 none (V m c main_v33 : FVec Ideal S8x2048x64 .f32) (broadcastInDim S8x2048x64 ![1, 2] bcast_S2048x64_S8x2048x64_1_2 (m (c, Proc.devRef .tc main_arg2) : FVec Ideal S2048x64 .f32)))) (broadcastInDim S8x2048x2048 ![] bcast_S_S8x2048x2048 (constant S_ .f32 0x3D93CD3A#32))) (broadcastInDim S8x2048x2048 ![] bcast_S_S8x2048x2048 (id (constant S_ .f32 0xFF800000#32))) : FVec Ideal S8x2048x2048 .f32) := by
  unfold V
  after_reads_simp
  rfl

theorem V48_eq : V m c main_v48 = (Host.reduce FloatOps.maximumf (V m c main_v47 : FVec Ideal S8x2048x2048 .f32) (constant S_ .f32 0xFF800000#32) reducesTo_S8x2048x2048_S8x2048_d2 h_S_ : FVec Ideal S8x2048 .f32) := by
  unfold V
  after_reads_simp

theorem V57_eq : V m c main_v57 = (V m c main_v48 : FVec Ideal S8x2048 .f32) := by
  unfold V
  after_reads_simp

theorem V52_eq : V m c main_v52 = (Host.exp (subf (V m c main_v47) (broadcastInDim S8x2048x2048 ![0, 1, 2] bcast_S8x2048x1_S8x2048x2048_0_1_2 (broadcastInDim S8x2048x1 ![0, 1] bcast_S8x2048_S8x2048x1_0_1 (V m c main_v48)))) : FVec Ideal S8x2048x2048 .f32) := by
  unfold V
  after_reads_simp

theorem V63_eq : V m c main_v63 = (Host.exp (subf (V m c main_v47) (broadcastInDim S8x2048x2048 ![0, 1, 2] bcast_S8x2048x1_S8x2048x2048_0_1_2 (broadcastInDim S8x2048x1 ![0, 1] bcast_S8x2048_S8x2048x1_0_1 (maximumf (broadcastInDim S8x2048 ![] bcast_S_S8x2048 (constant S_ .f32 0xFF800000#32)) (V m c main_v57))))) : FVec Ideal S8x2048x2048 .f32) := by
  unfold V
  after_reads_simp

theorem V56_eq : V m c main_v56 = (addf (broadcastInDim S8x2048x1 ![0, 1] bcast_S8x2048_S8x2048x1_0_1 (V m c main_v48)) (Host.log (broadcastInDim S8x2048x1 ![0, 1] bcast_S8x2048_S8x2048x1_0_1 (Host.reduceAdd (V m c main_v52) (constant S_ .f32 0x00000000#32) reducesTo_S8x2048x2048_S8x2048_d2 h_S_))) : FVec Ideal S8x2048x1 .f32) := by
  unfold V
  after_reads_simp

theorem V69_eq : V m c main_v69 = (Host.dotGeneral (φ₁ := .f32) (φ₂ := .f32) dot_S8x2048x2048_S8x2048x128_S8x2048x128_2_1_1_2_0_0 none (Host.divf (V m c main_v63) (broadcastInDim S8x2048x2048 ![0, 1, 2] bcast_S8x2048x1_S8x2048x2048_0_1_2 (broadcastInDim S8x2048x1 ![0, 1] bcast_S8x2048_S8x2048x1_0_1 (Host.reduceAdd (V m c main_v63) (constant S_ .f32 0x00000000#32) reducesTo_S8x2048x2048_S8x2048_d2 h_S_)))) (extractStridedSlice S8x2048x128 ![0, 0, 128] (m (c, Proc.devRef .tc main_arg1) : FVec Ideal S8x2048x256 .f32) slices_S8x2048x256_S8x2048x128_0_0_128) : FVec Ideal S8x2048x128 .f32) := by
  unfold V
  after_reads_simp

/-- The masked scores. -/
theorem V47_at (hD : HoldsAt D m c) (h : Fin 8) (a b : Fin 2048) :
    (V m c main_v47 : FVec Ideal S8x2048x2048 .f32) (ix3 h a b) = D.masked h a b := by
  have e33 := V33_at m c hD h
  rw [V47_eq]
  revert e33
  generalize V m c main_v33 = A
  change FVec Ideal S8x2048x64 .f32 at A
  intro e33
  clean_types
  pointwise
  rw [select_sge (by omega) (by omega)]
  simp only [hD.q, hD.kv, hD.kp, hD.sc, e33, ← EReal.coe_mul, ← EReal.coe_add, ← coe_sum]
  unfold Data.masked Data.score Data.qn Data.kn
  simp only [Fin.le_def]
  exact if_congr Iff.rfl rfl ofBits_negInf

/-- The rows' largest scores. -/
theorem V48_at (hD : HoldsAt D m c) (h : Fin 8) (a : Fin 2048) :
    (V m c main_v48 : FVec Ideal S8x2048 .f32) (ix2 h a) = ((D.top h a : ℝ) : EReal) := by
  have e47 := V47_at m c hD h a
  rw [V48_eq]
  revert e47
  generalize V m c main_v47 = A
  change FVec Ideal S8x2048x2048 .f32 at A
  intro e47
  clean_types
  pointwise
  simp only [e47, ofBits_negInf]
  exact D.topE_eq h a

/-- The exponentials the log-sum takes. -/
theorem V52_at (hD : HoldsAt D m c) (h : Fin 8) (a b : Fin 2048) :
    (V m c main_v52 : FVec Ideal S8x2048x2048 .f32) (ix3 h a b) = ((D.ex h a b : ℝ) : EReal) := by
  have e47 := V47_at m c hD h a b
  have e48 := V48_at m c hD h a
  rw [V52_eq]
  revert e47 e48
  generalize V m c main_v47 = A
  generalize V m c main_v48 = B
  change FVec Ideal S8x2048x2048 .f32 at A
  change FVec Ideal S8x2048 .f32 at B
  intro e47 e48
  clean_types
  pointwise
  rw [e47, e48, D.exp_masked_top]

/-- The exponentials the softmax takes. -/
theorem V63_at (hD : HoldsAt D m c) (h : Fin 8) (a b : Fin 2048) :
    (V m c main_v63 : FVec Ideal S8x2048x2048 .f32) (ix3 h a b) = ((D.ex h a b : ℝ) : EReal) := by
  have e47 := V47_at m c hD h a b
  have e48 := V48_at m c hD h a
  rw [V63_eq, V57_eq]
  revert e47 e48
  generalize V m c main_v47 = A
  generalize V m c main_v48 = B
  change FVec Ideal S8x2048x2048 .f32 at A
  change FVec Ideal S8x2048 .f32 at B
  intro e47 e48
  clean_types
  pointwise
  rw [e47, e48, ofBits_negInf, max_eq_right bot_le, D.exp_masked_top]

/-- The rows' log-sums, as the forward pass saves them. -/
theorem V56_at (hD : HoldsAt D m c) (h : Fin 8) (a : Fin 2048) (b : Fin 1) :
    (V m c main_v56 : FVec Ideal S8x2048x1 .f32) (ix3 h a b) = ((D.top h a + Real.log (D.tot h a) : ℝ) : EReal) := by
  have e48 := V48_at m c hD h a
  have e52 := V52_at m c hD h a
  rw [V56_eq]
  revert e48 e52
  generalize V m c main_v48 = B
  generalize V m c main_v52 = A
  change FVec Ideal S8x2048 .f32 at B
  change FVec Ideal S8x2048x2048 .f32 at A
  intro e48 e52
  clean_types
  pointwise
  simp only [e48, e52, ← coe_sum]
  have h1 := Ideal.log_coe (D.tot h a)
  rw [if_neg (not_le.mpr (D.tot_pos h a))] at h1
  unfold Data.tot at h1 ⊢
  rw [h1, EReal.coe_add]

/-- The output, as the forward pass saves it. -/
theorem V69_at (hD : HoldsAt D m c) (h : Fin 8) (a : Fin 2048) (d : Fin 128) :
    (V m c main_v69 : FVec Ideal S8x2048x128 .f32) (ix3 h a d) = ((D.out h a d : ℝ) : EReal) := by
  have e63 := V63_at m c hD h a
  rw [V69_eq]
  revert e63
  generalize V m c main_v63 = A
  change FVec Ideal S8x2048x2048 .f32 at A
  intro e63
  clean_types
  pointwise
  simp only [e63, hD.kv, ← coe_sum]
  have h1 : ∑ x, D.ex h a x = D.tot h a := rfl
  simp only [h1, div_real _ (D.tot_ne h a), ← EReal.coe_mul, ← coe_sum]
  rfl

/-- The doubled cosines. -/
theorem V84_at (hD : HoldsAt D m c) (a : Fin 2048) (b : Fin 64) :
    (V m c main_v84 : FVec Ideal S2048x64 .f32) (ix2 a b) = ((D.cs a ⟨b % 32, Nat.mod_lt _ (by norm_num)⟩ : ℝ) : EReal) := by
  have hc := hD.cs a
  unfold angleE at hc
  unfold V
  after_reads_simp
  clean_types
  pointwise
  split
  · next hb =>
    have hc' := hc ⟨b, hb⟩
    dsimp only at hc'
    rw [hc']
    have hb' : (b : ℕ) % 32 = b := Nat.mod_eq_of_lt hb
    simp only [hb']
  · have hc' := hc ⟨b - 32, by omega⟩
    dsimp only at hc'
    rw [hc']
    have hb' : (b : ℕ) % 32 = b - 32 := by omega
    simp only [hb']

/-- The doubled sines. -/
theorem V85_at (hD : HoldsAt D m c) (a : Fin 2048) (b : Fin 64) :
    (V m c main_v85 : FVec Ideal S2048x64 .f32) (ix2 a b) = ((D.sn a ⟨b % 32, Nat.mod_lt _ (by norm_num)⟩ : ℝ) : EReal) := by
  have hc := hD.sn a
  unfold angleE at hc
  unfold V
  after_reads_simp
  clean_types
  pointwise
  split
  · next hb =>
    have hc' := hc ⟨b, hb⟩
    dsimp only at hc'
    rw [hc']
    have hb' : (b : ℕ) % 32 = b := Nat.mod_eq_of_lt hb
    simp only [hb']
  · have hc' := hc ⟨b - 32, by omega⟩
    dsimp only at hc'
    rw [hc']
    have hb' : (b : ℕ) % 32 = b - 32 := by omega
    simp only [hb']

theorem Vcst_eq : V m c main_cst = (fun i => FloatOps.ofBits .f32 (lit0 (S64x64.rowMajor i)) : FVec Ideal S64x64 .f32) := by
  unfold V
  after_reads_simp
  rfl

/-- The rotation's matrix: `−1` and `1` between the halves, zero elsewhere. -/
theorem Vcst_at (x b : Fin 64) :
    (V m c main_cst : FVec Ideal S64x64 .f32) (ix2 x b)
      = (((if (x : ℕ) = b + 32 then -1 else if (x : ℕ) + 32 = b then 1 else 0) : ℝ) : EReal) := by
  rw [Vcst_eq]
  pointwise
  have hr : S64x64.rowMajor (ix2 x b) = (⟨x * 64 + b, by omega⟩ : Fin 4096) := Fin.ext (Shape.rowMajor_val_two _)
  rw [hr, lit0_eq]
  split
  · simp [Ideal.ofBits, Ideal.ieee, -EReal.coe_mul]; norm_num
  · split
    · exact Ideal.ofBits_one_f32
    · exact Ideal.ofBits_zero_f32

end Cert.Attn.Host
end
-- ==== Proof.Blocks.lean ====
/- The eleven input blocks of a grid point: point `8 h + t` reads tile `t` of head `h`, and the blocks hold what `Blk` says. -/
module

public import proofs.«01_k».proof.Proof.Blk
public import proofs.«01_k».proof.Proof.HostValue
public import proofs.«01_k».proof.Proof.Gen.KernelIdeal.Value
import Idealize.ShloMosaic.Lib.Pipeline.ValueKit.Geometry

@[expose] public section

set_option maxRecDepth 16384

noncomputable section

namespace Cert.Attn

open Idealize.ShloMosaic Cert.KernelIdeal Cert.KernelIdeal.Gen

variable (m : (ℓ : Loc nD τ sig) → Buf (Elt Ideal) ℓ) (c : Dev nD)

/-- The second grid coordinate of a point is its tile. -/
theorem tile_coord : ∀ p : Fin cfg0.N, (grid0.coords p 1 : ℕ) = p.val % 8 :=
  (by decide +kernel : ∀ p : Fin grid0.N, _)

theorem read0 (A : FVec Ideal S8x2048x256 .f32) (p : Fin cfg0.N) (h t : Fin 8) (hp : p.val = 8 * h + t) (r : Fin 256) (d : Fin 128) :
    (((cfg0.win 0).blk p).view.read (Elt Ideal) A : Vec Ideal S1x256x128 .f32) (ix3 0 r d) = A (ix3 h (row t r) ⟨d, by omega⟩) := by
  have e := (by decide +kernel : ∀ p : Fin grid0.N, win0_0.index p = ![p.val / 8, p.val % 8, 0]) p
  have e1 : p.val / 8 = h := by omega
  have e2 : p.val % 8 = t := by omega
  rw [e1, e2] at e
  refine congrArg A (?_ : ((cfg0.win 0).blk p).view.emb (ix3 0 r d : S1x256x128.Idx) = ix3 h (row t r) ⟨d, by omega⟩)
  unfold row
  blk_ext [e]

theorem read1 (A : FVec Ideal S8x2048x256 .f32) (p : Fin cfg0.N) (h t : Fin 8) (hp : p.val = 8 * h + t) (r : Fin 256) (d : Fin 128) :
    (((cfg0.win 1).blk p).view.read (Elt Ideal) A : Vec Ideal S1x256x128 .f32) (ix3 0 r d) = A (ix3 h (row t r) ⟨128 + d, by omega⟩) := by
  have e := (by decide +kernel : ∀ p : Fin grid0.N, win0_1.index p = ![p.val / 8, p.val % 8, 1]) p
  have e1 : p.val / 8 = h := by omega
  have e2 : p.val % 8 = t := by omega
  rw [e1, e2] at e
  refine congrArg A (?_ : ((cfg0.win 1).blk p).view.emb (ix3 0 r d : S1x256x128.Idx) = ix3 h (row t r) ⟨128 + d, by omega⟩)
  unfold row
  blk_ext [e]

theorem read2 (A : FVec Ideal S8x2048x256 .f32) (p : Fin cfg0.N) (h t : Fin 8) (hp : p.val = 8 * h + t) (r : Fin 2048) (d : Fin 128) :
    (((cfg0.win 2).blk p).view.read (Elt Ideal) A : Vec Ideal S1x2048x128 .f32) (ix3 0 r d) = A (ix3 h r ⟨d, by omega⟩) := by
  have e := (by decide +kernel : ∀ p : Fin grid0.N, win0_2.index p = ![p.val / 8, 0, 0]) p
  have e1 : p.val / 8 = h := by omega
  have e2 : p.val % 8 = t := by omega
  rw [e1] at e
  refine congrArg A (?_ : ((cfg0.win 2).blk p).view.emb _ = _)
  blk_ext [e]

theorem read3 (A : FVec Ideal S8x2048x256 .f32) (p : Fin cfg0.N) (h t : Fin 8) (hp : p.val = 8 * h + t) (r : Fin 2048) (d : Fin 128) :
    (((cfg0.win 3).blk p).view.read (Elt Ideal) A : Vec Ideal S1x2048x128 .f32) (ix3 0 r d) = A (ix3 h r ⟨128 + d, by omega⟩) := by
  have e := (by decide +kernel : ∀ p : Fin grid0.N, win0_3.index p = ![p.val / 8, 0, 1]) p
  have e1 : p.val / 8 = h := by omega
  have e2 : p.val % 8 = t := by omega
  rw [e1] at e
  refine congrArg A (?_ : ((cfg0.win 3).blk p).view.emb _ = _)
  blk_ext [e]

theorem read4 (A : FVec Ideal S2048x64 .f32) (p : Fin cfg0.N) (h t : Fin 8) (hp : p.val = 8 * h + t) (r : Fin 2048) (d : Fin 64) :
    (((cfg0.win 4).blk p).view.read (Elt Ideal) A : Vec Ideal S2048x64 .f32) (ix2 r d) = A (ix2 r d) := by
  have e := (by decide +kernel : ∀ p : Fin grid0.N, win0_4.index p = ![0, 0]) p
  have e1 : p.val / 8 = h := by omega
  have e2 : p.val % 8 = t := by omega
  refine congrArg A (?_ : ((cfg0.win 4).blk p).view.emb _ = _)
  blk_ext [e]

theorem read5 (A : FVec Ideal S2048x64 .f32) (p : Fin cfg0.N) (h t : Fin 8) (hp : p.val = 8 * h + t) (r : Fin 256) (d : Fin 64) :
    (((cfg0.win 5).blk p).view.read (Elt Ideal) A : Vec Ideal S256x64 .f32) (ix2 r d) = A (ix2 (row t r) d) := by
  have e := (by decide +kernel : ∀ p : Fin grid0.N, win0_5.index p = ![p.val % 8, 0]) p
  have e1 : p.val / 8 = h := by omega
  have e2 : p.val % 8 = t := by omega
  rw [e2] at e
  refine congrArg A (?_ : ((cfg0.win 5).blk p).view.emb (ix2 r d : S256x64.Idx) = ix2 (row t r) d)
  unfold row
  blk_ext [e]

theorem read6 (A : FVec Ideal S2048x64 .f32) (p : Fin cfg0.N) (h t : Fin 8) (hp : p.val = 8 * h + t) (r : Fin 256) (d : Fin 64) :
    (((cfg0.win 6).blk p).view.read (Elt Ideal) A : Vec Ideal S256x64 .f32) (ix2 r d) = A (ix2 (row t r) d) := by
  have e := (by decide +kernel : ∀ p : Fin grid0.N, win0_6.index p = ![p.val % 8, 0]) p
  have e1 : p.val / 8 = h := by omega
  have e2 : p.val % 8 = t := by omega
  rw [e2] at e
  refine congrArg A (?_ : ((cfg0.win 6).blk p).view.emb (ix2 r d : S256x64.Idx) = ix2 (row t r) d)
  unfold row
  blk_ext [e]

theorem read7 (A : FVec Ideal S64x64 .f32) (p : Fin cfg0.N) (h t : Fin 8) (hp : p.val = 8 * h + t) (r : Fin 64) (d : Fin 64) :
    (((cfg0.win 7).blk p).view.read (Elt Ideal) A : Vec Ideal S64x64 .f32) (ix2 r d) = A (ix2 r d) := by
  have e := (by decide +kernel : ∀ p : Fin grid0.N, win0_7.index p = ![0, 0]) p
  have e1 : p.val / 8 = h := by omega
  have e2 : p.val % 8 = t := by omega
  refine congrArg A (?_ : ((cfg0.win 7).blk p).view.emb _ = _)
  blk_ext [e]

theorem read8 (A : FVec Ideal S8x2048x128 .f32) (p : Fin cfg0.N) (h t : Fin 8) (hp : p.val = 8 * h + t) (r : Fin 256) (d : Fin 128) :
    (((cfg0.win 8).blk p).view.read (Elt Ideal) A : Vec Ideal S1x256x128 .f32) (ix3 0 r d) = A (ix3 h (row t r) d) := by
  have e := (by decide +kernel : ∀ p : Fin grid0.N, win0_8.index p = ![p.val / 8, p.val % 8, 0]) p
  have e1 : p.val / 8 = h := by omega
  have e2 : p.val % 8 = t := by omega
  rw [e1, e2] at e
  refine congrArg A (?_ : ((cfg0.win 8).blk p).view.emb (ix3 0 r d : S1x256x128.Idx) = ix3 h (row t r) d)
  unfold row
  blk_ext [e]

theorem read9 (A : FVec Ideal S8x2048x1 .f32) (p : Fin cfg0.N) (h t : Fin 8) (hp : p.val = 8 * h + t) (r : Fin 256) (d : Fin 1) :
    (((cfg0.win 9).blk p).view.read (Elt Ideal) A : Vec Ideal S1x256x1 .f32) (ix3 0 r d) = A (ix3 h (row t r) d) := by
  have e := (by decide +kernel : ∀ p : Fin grid0.N, win0_9.index p = ![p.val / 8, p.val % 8, 0]) p
  have e1 : p.val / 8 = h := by omega
  have e2 : p.val % 8 = t := by omega
  rw [e1, e2] at e
  refine congrArg A (?_ : ((cfg0.win 9).blk p).view.emb (ix3 0 r d : S1x256x1.Idx) = ix3 h (row t r) d)
  unfold row
  blk_ext [e]

theorem read10 (A : FVec Ideal S8x2048x128 .f32) (p : Fin cfg0.N) (h t : Fin 8) (hp : p.val = 8 * h + t) (r : Fin 256) (d : Fin 128) :
    (((cfg0.win 10).blk p).view.read (Elt Ideal) A : Vec Ideal S1x256x128 .f32) (ix3 0 r d) = A (ix3 h (row t r) d) := by
  have e := (by decide +kernel : ∀ p : Fin grid0.N, win0_10.index p = ![p.val / 8, p.val % 8, 0]) p
  have e1 : p.val / 8 = h := by omega
  have e2 : p.val % 8 = t := by omega
  rw [e1, e2] at e
  refine congrArg A (?_ : ((cfg0.win 10).blk p).view.emb (ix3 0 r d : S1x256x128.Idx) = ix3 h (row t r) d)
  unfold row
  blk_ext [e]

/-- The blocks of point `8 h + t` are those of tile `t` of head `h`. -/
theorem blk_at {D : Data} (hD : Host.HoldsAt D m c) (p : Fin cfg0.N) (h t : Fin 8) (hp : p.val = 8 * h + t) :
    Blk D h t (iblk m c 0 p) (iblk m c 1 p) (iblk m c 2 p) (iblk m c 3 p) (iblk m c 4 p) (iblk m c 5 p) (iblk m c 6 p)
      (iblk m c 7 p) (iblk m c 8 p) (iblk m c 9 p) (iblk m c 10 p) where
  qn r d := (read0 (V m c main_arg0) p h t hp r d).trans ((congrFun (V_main_arg0 m c) _).trans (hD.q _ _ _))
  qp r d := (read1 (V m c main_arg0) p h t hp r ⟨d, by omega⟩).trans ((congrFun (V_main_arg0 m c) _).trans (hD.q _ _ _))
  kn r d := (read2 (V m c main_arg1) p h t hp r d).trans ((congrFun (V_main_arg1 m c) _).trans (hD.kv _ _ _))
  vv r d := (read3 (V m c main_arg1) p h t hp r d).trans ((congrFun (V_main_arg1 m c) _).trans (hD.kv _ _ _))
  kp r d := (read4 (V m c main_arg2) p h t hp r d).trans ((congrFun (V_main_arg2 m c) _).trans (hD.kp _ _))
  cs r d := (read5 (V m c main_v84) p h t hp r d).trans (Host.V84_at m c hD _ _)
  sn r d := (read6 (V m c main_v85) p h t hp r d).trans (Host.V85_at m c hD _ _)
  rot x b := (read7 (V m c main_cst) p h t hp x b).trans (Host.Vcst_at m c x b)
  out r d := (read8 (V m c main_v69) p h t hp r d).trans (Host.V69_at m c hD _ _ _)
  lse r := (read9 (V m c main_v56) p h t hp r 0).trans (Host.V56_at m c hD _ _ _)
  g r d := (read10 (V m c main_arg4) p h t hp r d).trans ((congrFun (V_main_arg4 m c) _).trans (hD.g _ _ _))
  sc := hD.sc

end Cert.Attn

end
-- ==== Proof.Level.lean ====
/- A tile against a prefix of the keys, for a prefix of any length: the values the kernel's body forms, as the real numbers the
   specification names. -/
module

public import proofs.«01_k».proof.Proof.Tile

@[expose] public section

set_option maxRecDepth 16384

noncomputable section

namespace Cert.Attn

open Idealize.ShloMosaic Cert.KernelIdeal Cert.KernelIdeal.Gen

variable {D : Data} {h t : Fin 8} {n : ℕ} {hn : n ≤ 2048}

/-- The keys, rotary keys and values a tile loads. -/
structure Keys (D : Data) (h : Fin 8) {n : ℕ} (hn : n ≤ 2048) (v71 : Vec Ideal ⟨3, ![1, n, 128]⟩ .f32) (v74 : Vec Ideal ⟨2, ![n, 64]⟩ .f32)
    (v92 : Vec Ideal ⟨3, ![1, n, 128]⟩ .f32) : Prop where
  kn : ∀ (j : Fin n) (d : Fin 128), v71 (ix3 0 j d) = ((D.kn h (key hn j) d : ℝ) : EReal)
  kp : ∀ (j : Fin n) (d : Fin 64), v74 (ix2 j d) = ((D.kp (key hn j) d : ℝ) : EReal)
  vv : ∀ (j : Fin n) (d : Fin 128), v92 (ix3 0 j d) = ((D.vv h (key hn j) d : ℝ) : EReal)

variable {v10 : FVec Ideal S256x128 .bf16} {v17 : FVec Ideal S256x64 .bf16} {v20 : FVec Ideal S256x128 .bf16}
  {v25 v27 : FVec Ideal S256x1 .f32} {v71 : Vec Ideal ⟨3, ![1, n, 128]⟩ .f32} {v74 : Vec Ideal ⟨2, ![n, 64]⟩ .f32}
  {v92 : Vec Ideal ⟨3, ![1, n, 128]⟩ .f32}

/-- The exponential of the masked scores less the log-sums is the attention weight. -/
theorem weight_of (hs : Ideal.ofBits .f32 0x3D93CD3A#32 = ((D.sc : ℝ) : EReal)) (P : Pre D h t v10 v17 v20 v25 v27)
    (K : Keys D h hn v71 v74 v92) (r : Fin 256) (j : Fin n) :
    Ideal.exp (Scalar.select (IntOp.cmpi .sge (IntOp.addi (Scalar.muli (BitVec.ofNat 32 t) 256#32) (BitVec.ofNat 32 r))
        (BitVec.ofNat 32 j)) ((∑ x, v10 (ix2 r x) * v71 (ix3 0 j x) + ∑ x, v17 (ix2 r x) * v74 (ix2 j x))
          * Ideal.ofBits FTy.f32 0x3D93CD3A#32) (Named.named (F := Ideal) (φ := .f32) κ "mask" 0xF149F2CA#32) - v27 (ix2 r 0))
      = ((D.w h (row t r) (key hn j) : ℝ) : EReal) := by
  have hm : (Named.named κ "mask" 0xF149F2CA#32 : Ideal .f32) = (⊥ : EReal) :=
    IdealRules.named_const.ideal_named_scalar _ _ _ _ rfl
  rw [row_word, select_sge (by unfold row; dsimp only; omega) (by omega), hm, hs, P.lse, ← D.exp_masked]
  simp only [P.qn, P.qr, K.kn, K.kp, ← EReal.coe_mul, ← coe_sum, ← EReal.coe_add]
  rfl

/-- The gradient of the scores, from the weights. -/
theorem grad_of (hs : Ideal.ofBits .f32 0x3D93CD3A#32 = ((D.sc : ℝ) : EReal)) (P : Pre D h t v10 v17 v20 v25 v27)
    (K : Keys D h hn v71 v74 v92) (r : Fin 256) (j : Fin n) {w : EReal} (hw : w = ((D.w h (row t r) (key hn j) : ℝ) : EReal)) :
    w * (∑ x, v20 (ix2 r x) * v92 (ix3 0 j x) - v25 (ix2 r 0)) * Ideal.ofBits FTy.f32 0x3D93CD3A#32
      = ((D.ds h (row t r) (key hn j) : ℝ) : EReal) := by
  rw [hw, hs, P.del]
  simp only [P.g, K.vv, ← EReal.coe_mul, ← coe_sum, ← EReal.coe_sub]
  rfl

/-- A sum of products of real numbers added to an accumulator's entry. -/
theorem acc_of {ι : Type} [Fintype ι] {x : EReal} {A B : ι → EReal} {a b : ι → ℝ} (ha : ∀ r, A r = ((a r : ℝ) : EReal)) (hb : ∀ r, B r = ((b r : ℝ) : EReal)) :
    x + ∑ r, A r * B r = x + ((∑ r, a r * b r : ℝ) : EReal) := by
  simp only [ha, hb, ← EReal.coe_mul, ← coe_sum]

/-- The scores' gradient times the keys, over a prefix past the tile's last row. -/
theorem sum_of {A : Fin n → EReal} {B : Fin n → EReal} {b : Fin 2048 → ℝ} (ht : 256 * (t : ℕ) + 256 ≤ n) (r : Fin 256)
    (ha : ∀ j, A j = ((D.ds h (row t r) (key hn j) : ℝ) : EReal)) (hb : ∀ j, B j = ((b (key hn j) : ℝ) : EReal)) :
    ∑ j, A j * B j = ((∑ j, D.ds h (row t r) j * b j : ℝ) : EReal) := by
  simp only [ha, hb, ← EReal.coe_mul, ← coe_sum]
  rw [sum_prefix hn (fun j => D.ds h (row t r) j * b j) fun j hj => by
    rw [D.ds_of_lt (by unfold row; rw [Fin.lt_def]; dsimp only; omega), zero_mul]]

/-- The gradient of the plain part of the tile's queries. -/
theorem dqN_of {A : Fin n → EReal} (ht : 256 * (t : ℕ) + 256 ≤ n) (K : Keys D h hn v71 v74 v92) (r : Fin 256) (d : Fin 128)
    (ha : ∀ j, A j = ((D.ds h (row t r) (key hn j) : ℝ) : EReal)) :
    ∑ j, A j * v71 (ix3 0 j d) = ((D.dq h (row t r) ⟨d, by omega⟩ : ℝ) : EReal) := by
  rw [sum_of (b := fun j => D.kn h j d) ht r ha fun j => K.kn j d]
  unfold Data.dq
  rw [dif_pos (show (d : ℕ) < 128 by omega)]

/-- The gradient of the rotated part of the tile's queries. -/
theorem dqR_of {A : Fin n → EReal} (ht : 256 * (t : ℕ) + 256 ≤ n) (K : Keys D h hn v71 v74 v92) (r : Fin 256) (d : Fin 64)
    (ha : ∀ j, A j = ((D.ds h (row t r) (key hn j) : ℝ) : EReal)) {a5 a6 : Vec Ideal S256x64 .f32} {a7 : Vec Ideal S64x64 .f32}
    (hc : ∀ (r : Fin 256) (d : Fin 64), a5 (ix2 r d) = ((D.cs2 (row t r) d : ℝ) : EReal))
    (hr : ∀ (r : Fin 256) (d : Fin 64), a6 (ix2 r d) = ((D.sn2 (row t r) d : ℝ) : EReal))
    (hm : ∀ x b : Fin 64, a7 (ix2 x b) = ((rot x b : ℝ) : EReal)) :
    (∑ j, A j * v74 (ix2 j d)) * k0_pay50 a5 (ix2 r d) + ∑ x, (∑ j, A j * v74 (ix2 j x)) * k0_pay51 a6 (ix2 r x) * a7 (ix2 d x)
      = ((D.dq h (row t r) ⟨128 + d, by omega⟩ : ℝ) : EReal) := by
  have hsum : ∀ x : Fin 64, ∑ j, A j * v74 (ix2 j x) = ((D.dqr h (row t r) x : ℝ) : EReal) := fun x =>
    (sum_of (b := fun j => D.kp j x) ht r ha fun j => K.kp j x).trans rfl
  rw [pay50_at, hc]
  simp only [hsum, pay51_at, hr, hm, ← EReal.coe_mul, ← coe_sum, ← EReal.coe_add]
  rw [D.dq_rot]

end Cert.Attn

end
-- ==== Proof.Stores.lean ====
/- What a tile's stores leave in the accumulators and in the block of the queries' gradients, for a prefix of the keys of any length. -/
module

public import proofs.«01_k».proof.Proof.Blk
public import proofs.«01_k».proof.Proof.Level

@[expose] public section

set_option maxRecDepth 16384

noncomputable section

namespace Cert.Attn

open Idealize.ShloMosaic Cert.KernelIdeal Cert.KernelIdeal.Gen

variable {D : Data} {h t : Fin 8} {sig : RefSig} {κ : Kind} {sp : Space}

/-- The block of the queries' gradients: the plain part, the rotated part and zeros. -/
theorem q_of (v : View sig κ sp ⟨3, ![1, 256, 256]⟩ .bf16) (f : v.ty.Contents (Elt Ideal))
    (i0 : ∀ a : Fin 3, (![0, 0, 0] : Fin 3 → ℕ) a + (![1, 256, 128] : Fin 3 → ℕ) a ≤ (![1, 256, 256] : Fin 3 → ℕ) a)
    (i1 : ∀ a : Fin 3, (![0, 0, 128] : Fin 3 → ℕ) a + (![1, 256, 64] : Fin 3 → ℕ) a ≤ (![1, 256, 256] : Fin 3 → ℕ) a)
    (i2 : ∀ a : Fin 3, (![0, 0, 192] : Fin 3 → ℕ) a + (![1, 256, 64] : Fin 3 → ℕ) a ≤ (![1, 256, 256] : Fin 3 → ℕ) a)
    (pn : (⟨3, ![1, 256, 128]⟩ : Shape).Idx → Elt Ideal .bf16) (pr pz : (⟨3, ![1, 256, 64]⟩ : Shape).Idx → Elt Ideal .bf16)
    (L : List (View.Piece (Elt Ideal) ⟨3, ![1, 256, 256]⟩ .bf16))
    (hp : ∀ (r : Fin 256) (d : Fin 128), pn (ix3 0 r d) = ((D.dq h (row t r) ⟨d, by omega⟩ : ℝ) : EReal))
    (hr : ∀ (r : Fin 256) (d : Fin 64), pr (ix3 0 r d) = ((D.dq h (row t r) ⟨128 + d, by omega⟩ : ℝ) : EReal))
    (hz : ∀ (r : Fin 256) (d : Fin 64), pz (ix3 0 r d) = (0 : EReal)) (r : Fin 256) (d : Fin 256) :
    v.read (Elt Ideal) (v.writes (Elt Ideal) f
      ((⟨Rect.unit (s := ⟨3, ![1, 256, 256]⟩) ![0, 0, 192] ![1, 256, 64] i2, pz⟩ : View.Piece (Elt Ideal) ⟨3, ![1, 256, 256]⟩ .bf16) ::
        (⟨Rect.unit (s := ⟨3, ![1, 256, 256]⟩) ![0, 0, 128] ![1, 256, 64] i1, pr⟩ : View.Piece (Elt Ideal) ⟨3, ![1, 256, 256]⟩ .bf16) ::
          (⟨Rect.unit (s := ⟨3, ![1, 256, 256]⟩) ![0, 0, 0] ![1, 256, 128] i0, pn⟩ : View.Piece (Elt Ideal) ⟨3, ![1, 256, 256]⟩ .bf16) :: L)) (ix3 0 r d)
      = ((D.dq h (row t r) d : ℝ) : EReal) := by
  by_cases hd : (d : ℕ) < 128
  · exact ((read3_miss2 _ _ _ _ _ 0 r d (Or.inl (by omega))).trans ((read3_miss2 _ _ _ _ _ 0 r d (Or.inl (by omega))).trans
      (read3_hit _ _ _ _ _ 0 r d 0 r ⟨d, hd⟩ (Nat.zero_add _).symm (Nat.zero_add _).symm (Nat.zero_add _).symm))).trans (hp r ⟨d, hd⟩)
  by_cases hd2 : (d : ℕ) < 192
  · have e : 128 + ((d : ℕ) - 128) = d := by omega
    refine ((read3_miss2 _ _ _ _ _ 0 r d (Or.inl (by omega))).trans (read3_hit _ _ _ _ _ 0 r d 0 r ⟨d - 128, by omega⟩
      (Nat.zero_add _).symm (Nat.zero_add _).symm e.symm)).trans ((hr r _).trans ?_)
    simp only [e]
  · refine (read3_hit _ _ _ _ _ 0 r d 0 r ⟨d - 192, by omega⟩ (Nat.zero_add _).symm (Nat.zero_add _).symm (show (d : ℕ) = 192 + (d - 192) by omega)).trans ((hz r _).trans ?_)
    unfold Data.dq
    rw [dif_neg hd, dif_neg (by omega), dif_neg hd2, EReal.coe_zero]

variable {n : ℕ} {hn : n ≤ 2048}

/-- The keys a tile loads, from the input blocks. -/
theorem Blk.keys {x0 x1 : Vec Ideal S1x256x128 .f32} {x2 x3 : Vec Ideal S1x2048x128 .f32}
    {x4 : Vec Ideal S2048x64 .f32} {x5 x6 : Vec Ideal S256x64 .f32} {x7 : Vec Ideal S64x64 .f32}
    {x8 : Vec Ideal S1x256x128 .f32} {x9 : Vec Ideal S1x256x1 .f32} {x10 : Vec Ideal S1x256x128 .f32}
    (B : Blk D h t x0 x1 x2 x3 x4 x5 x6 x7 x8 x9 x10) (hn : n ≤ 2048)
    (i3 : ∀ a : Fin 3, (![0, 0, 0] : Fin 3 → ℕ) a + (![1, n, 128] : Fin 3 → ℕ) a ≤ (![1, 2048, 128] : Fin 3 → ℕ) a)
    (i2 : ∀ a : Fin 2, (![0, 0] : Fin 2 → ℕ) a + (![n, 64] : Fin 2 → ℕ) a ≤ (![2048, 64] : Fin 2 → ℕ) a) :
    Keys D h hn (View.ld x2 (Rect.unit (s := ⟨3, ![1, 2048, 128]⟩) ![0, 0, 0] ![1, n, 128] i3)) (View.ld x4 (Rect.unit (s := ⟨2, ![2048, 64]⟩) ![0, 0] ![n, 64] i2))
      (View.ld x3 (Rect.unit (s := ⟨3, ![1, 2048, 128]⟩) ![0, 0, 0] ![1, n, 128] i3)) where
  kn j d := (ld3 x2 _ 0 j d 0 (key hn j) d (Nat.zero_add _).symm (Nat.zero_add _).symm (Nat.zero_add _).symm).trans (B.kn _ d)
  kp j d := (ld2 x4 _ j d (key hn j) d (Nat.zero_add _).symm (Nat.zero_add _).symm).trans (B.kp _ d)
  vv j d := (ld3 x3 _ 0 j d 0 (key hn j) d (Nat.zero_add _).symm (Nat.zero_add _).symm (Nat.zero_add _).symm).trans (B.vv _ d)

/-- The accumulator of the gradient of the keys with their values. -/
theorem kv_of (ht : n = 256 * ((t : ℕ) + 1)) (v : View sig κ sp ⟨2, ![2048, 256]⟩ .f32) (f : v.ty.Contents (Elt Ideal))
    (i0 : ∀ a : Fin 2, (![0, 0] : Fin 2 → ℕ) a + (![n, 128] : Fin 2 → ℕ) a ≤ (![2048, 256] : Fin 2 → ℕ) a)
    (i1 : ∀ a : Fin 2, (![0, 128] : Fin 2 → ℕ) a + (![n, 128] : Fin 2 → ℕ) a ≤ (![2048, 256] : Fin 2 → ℕ) a)
    (pk pv : (⟨2, ![n, 128]⟩ : Shape).Idx → Elt Ideal .f32) (L : List (View.Piece (Elt Ideal) ⟨2, ![2048, 256]⟩ .f32)) (A : Fin 2048 → Fin 256 → ℝ)
    (hL : ∀ (j : Fin 2048) d, n ≤ (j : ℕ) → v.read (Elt Ideal) (v.writes (Elt Ideal) f L) (ix2 j d) = ((A j d : ℝ) : EReal))
    (hk : ∀ (j : Fin n) (d : Fin 128), pk (ix2 j d) = ((A (key hn j) ⟨d, by omega⟩ : ℝ) : EReal) + ((∑ r, D.ds h (row t r) (key hn j) * D.qn h (row t r) d : ℝ) : EReal))
    (hv : ∀ (j : Fin n) (d : Fin 128), pv (ix2 j d) = ((A (key hn j) ⟨128 + d, by omega⟩ : ℝ) : EReal) + ((∑ r, D.w h (row t r) (key hn j) * D.g h (row t r) d : ℝ) : EReal))
    (j : Fin 2048) (d : Fin 256) :
    v.read (Elt Ideal) (v.writes (Elt Ideal) f
      ((⟨Rect.unit (s := ⟨2, ![2048, 256]⟩) ![0, 128] ![n, 128] i1, pv⟩ : View.Piece (Elt Ideal) ⟨2, ![2048, 256]⟩ .f32) ::
        (⟨Rect.unit (s := ⟨2, ![2048, 256]⟩) ![0, 0] ![n, 128] i0, pk⟩ : View.Piece (Elt Ideal) ⟨2, ![2048, 256]⟩ .f32) :: L)) (ix2 j d)
      = ((A j d + D.tkv h t j d : ℝ) : EReal) := by
  by_cases hj : (j : ℕ) < n
  · rw [EReal.coe_add]
    by_cases hd : (d : ℕ) < 128
    · refine ((read2_miss1 _ _ _ _ _ j d (Or.inl hd)).trans (read2_hit _ _ _ _ _ j d ⟨j, hj⟩ ⟨d, hd⟩ (Nat.zero_add _).symm (Nat.zero_add _).symm)).trans ?_
      rw [hk]
      unfold Data.tkv
      rw [dif_pos hd]
      rfl
    · have e : 128 + ((d : ℕ) - 128) = d := by omega
      refine (read2_hit _ _ _ _ _ j d ⟨j, hj⟩ ⟨d - 128, by omega⟩ (Nat.zero_add _).symm e.symm).trans ?_
      rw [hv]
      unfold Data.tkv
      rw [dif_neg hd]
      simp only [e]
      rfl
  · rw [D.tkv_zero (by omega), add_zero]
    exact ((read2_miss0 _ _ _ _ _ j d (Or.inr (by omega))).trans (read2_miss0 _ _ _ _ _ j d (Or.inr (by omega)))).trans (hL j d (by omega))

/-- The accumulator of the gradient of the rotary keys. -/
theorem kp_of (ht : n = 256 * ((t : ℕ) + 1)) (v : View sig κ sp ⟨2, ![2048, 64]⟩ .f32) (f : v.ty.Contents (Elt Ideal))
    (i0 : ∀ a : Fin 2, (![0, 0] : Fin 2 → ℕ) a + (![n, 64] : Fin 2 → ℕ) a ≤ (![2048, 64] : Fin 2 → ℕ) a)
    (p : (⟨2, ![n, 64]⟩ : Shape).Idx → Elt Ideal .f32) (L : List (View.Piece (Elt Ideal) ⟨2, ![2048, 64]⟩ .f32)) (A : Fin 2048 → Fin 64 → ℝ)
    (hL : ∀ (j : Fin 2048) d, n ≤ (j : ℕ) → v.read (Elt Ideal) (v.writes (Elt Ideal) f L) (ix2 j d) = ((A j d : ℝ) : EReal))
    (hp : ∀ (j : Fin n) (d : Fin 64), p (ix2 j d) = ((A (key hn j) d : ℝ) : EReal) + ((∑ r, D.ds h (row t r) (key hn j) * D.qr h (row t r) d : ℝ) : EReal))
    (j : Fin 2048) (d : Fin 64) :
    v.read (Elt Ideal) (v.writes (Elt Ideal) f
      ((⟨Rect.unit (s := ⟨2, ![2048, 64]⟩) ![0, 0] ![n, 64] i0, p⟩ : View.Piece (Elt Ideal) ⟨2, ![2048, 64]⟩ .f32) :: L)) (ix2 j d)
      = ((A j d + D.tkp h t j d : ℝ) : EReal) := by
  by_cases hj : (j : ℕ) < n
  · rw [EReal.coe_add]
    exact (read2_hit _ _ _ _ _ j d ⟨j, hj⟩ d (Nat.zero_add _).symm (Nat.zero_add _).symm).trans (hp ⟨j, hj⟩ d)
  · rw [D.tkp_zero (by omega), add_zero]
    exact (read2_miss0 _ _ _ _ _ j d (Or.inr (by omega))).trans (hL j d (by omega))

end Cert.Attn

end
-- ==== Proof.Level256.lean ====
/- One level of the kernel's causal sweep: a tile against the first 256 keys. Each stored value is read entry by entry as
   the real number the specification names. -/
module

public import proofs.«01_k».proof.Proof.Level

@[expose] public section

set_option maxRecDepth 16384

noncomputable section

namespace Cert.Attn.Level256

open Idealize.ShloMosaic Cert.KernelIdeal Cert.KernelIdeal.Gen

variable {D : Data} {h t : Fin 8}

theorem hn : 256 ≤ 2048 := by decide

variable {v10 : FVec Ideal S256x128 .bf16} {v17 : FVec Ideal S256x64 .bf16} {v20 : FVec Ideal S256x128 .bf16}
  {v25 v27 : FVec Ideal S256x1 .f32} {v71 : Vec Ideal S1x256x128 .f32} {v74 : Vec Ideal S256x64 .f32} {v92 : Vec Ideal S1x256x128 .f32}

/-- The attention weight. -/
theorem weight (hs : Ideal.ofBits .f32 0x3D93CD3A#32 = ((D.sc : ℝ) : EReal)) (P : Pre D h t v10 v17 v20 v25 v27)
    (K : Keys D h hn v71 v74 v92) (r : Fin 256) (j : Fin 256) : k0_pay10 (BitVec.ofNat 32 t) v10 v17 v27 v71 v74 (ix2 r j) = ((D.w h (row t r) (key hn j) : ℝ) : EReal) := by
  refine Eq.trans ?_ (weight_of hs P K r j)
  unfold k0_pay10 k0_pay8 k0_pay9
  pointwise

/-- The gradient of the scores. -/
theorem grad (hs : Ideal.ofBits .f32 0x3D93CD3A#32 = ((D.sc : ℝ) : EReal)) (P : Pre D h t v10 v17 v20 v25 v27)
    (K : Keys D h hn v71 v74 v92) (r : Fin 256) (j : Fin 256) :
    k0_pay11 (BitVec.ofNat 32 t) v10 v17 v20 v25 v27 v71 v74 v92 (ix2 r j) = ((D.ds h (row t r) (key hn j) : ℝ) : EReal) := by
  refine Eq.trans ?_ (grad_of hs P K r j (weight hs P K r j))
  unfold k0_pay11
  generalize k0_pay10 (BitVec.ofNat 32 t) v10 v17 v27 v71 v74 = A
  pointwise

/-- What the tile adds to the gradient of the plain keys. -/
theorem accK (hs : Ideal.ofBits .f32 0x3D93CD3A#32 = ((D.sc : ℝ) : EReal)) (P : Pre D h t v10 v17 v20 v25 v27)
    (K : Keys D h hn v71 v74 v92) (x : Vec Ideal S256x128 .f32) (j : Fin 256) (d : Fin 128) :
    k0_pay12 (BitVec.ofNat 32 t) v10 v17 v20 v25 v27 v71 v74 v92 x (ix2 j d)
      = x (ix2 j d) + ((∑ r, D.ds h (row t r) (key hn j) * D.qn h (row t r) d : ℝ) : EReal) := by
  refine Eq.trans ?_ (acc_of (fun r => grad hs P K r j) fun r => P.qn r d)
  unfold k0_pay12
  generalize k0_pay11 (BitVec.ofNat 32 t) v10 v17 v20 v25 v27 v71 v74 v92 = A
  pointwise

/-- What the tile adds to the gradient of the values. -/
theorem accV (hs : Ideal.ofBits .f32 0x3D93CD3A#32 = ((D.sc : ℝ) : EReal)) (P : Pre D h t v10 v17 v20 v25 v27)
    (K : Keys D h hn v71 v74 v92) (x : Vec Ideal S256x128 .f32) (j : Fin 256) (d : Fin 128) :
    k0_pay58 v20 (k0_pay10 (BitVec.ofNat 32 t) v10 v17 v27 v71 v74) x (ix2 j d)
      = x (ix2 j d) + ((∑ r, D.w h (row t r) (key hn j) * D.g h (row t r) d : ℝ) : EReal) := by
  refine Eq.trans ?_ (acc_of (fun r => weight hs P K r j) fun r => P.g r d)
  unfold k0_pay58
  generalize k0_pay10 (BitVec.ofNat 32 t) v10 v17 v27 v71 v74 = A
  pointwise

/-- What the tile adds to the gradient of the rotary keys. -/
theorem accP (hs : Ideal.ofBits .f32 0x3D93CD3A#32 = ((D.sc : ℝ) : EReal)) (P : Pre D h t v10 v17 v20 v25 v27)
    (K : Keys D h hn v71 v74 v92) (x : Vec Ideal S256x64 .f32) (j : Fin 256) (d : Fin 64) :
    k0_pay59 v17 (k0_pay11 (BitVec.ofNat 32 t) v10 v17 v20 v25 v27 v71 v74 v92) x (ix2 j d)
      = x (ix2 j d) + ((∑ r, D.ds h (row t r) (key hn j) * D.qr h (row t r) d : ℝ) : EReal) := by
  refine Eq.trans ?_ (acc_of (fun r => grad hs P K r j) fun r => P.qr r d)
  unfold k0_pay59
  generalize k0_pay11 (BitVec.ofNat 32 t) v10 v17 v20 v25 v27 v71 v74 v92 = A
  pointwise

/-- The gradient of the plain part of the tile's queries. -/
theorem dqN (ht : (t : ℕ) = 0) (hs : Ideal.ofBits .f32 0x3D93CD3A#32 = ((D.sc : ℝ) : EReal)) (P : Pre D h t v10 v17 v20 v25 v27)
    (K : Keys D h hn v71 v74 v92) (r : Fin 256) (d : Fin 128) :
    k0_pay60 (k0_pay8 v71) (k0_pay11 (BitVec.ofNat 32 t) v10 v17 v20 v25 v27 v71 v74 v92) (ix3 0 r d) = ((D.dq h (row t r) ⟨d, by omega⟩ : ℝ) : EReal) := by
  refine Eq.trans ?_ (dqN_of (by omega) K r d fun j => grad hs P K r j)
  unfold k0_pay60 k0_pay8
  generalize k0_pay11 (BitVec.ofNat 32 t) v10 v17 v20 v25 v27 v71 v74 v92 = A
  pointwise

/-- The gradient of the rotated part of the tile's queries. -/
theorem dqR (ht : (t : ℕ) = 0) (hs : Ideal.ofBits .f32 0x3D93CD3A#32 = ((D.sc : ℝ) : EReal)) (P : Pre D h t v10 v17 v20 v25 v27)
    (K : Keys D h hn v71 v74 v92) {a5 a6 : Vec Ideal S256x64 .f32} {a7 : Vec Ideal S64x64 .f32}
    (hc : ∀ (r : Fin 256) (d : Fin 64), a5 (ix2 r d) = ((D.cs2 (row t r) d : ℝ) : EReal))
    (hr : ∀ (r : Fin 256) (d : Fin 64), a6 (ix2 r d) = ((D.sn2 (row t r) d : ℝ) : EReal))
    (hm : ∀ x b : Fin 64, a7 (ix2 x b) = ((rot x b : ℝ) : EReal)) (r : Fin 256) (d : Fin 64) :
    k0_pay61 (k0_pay50 a5) (k0_pay51 a6) a7 (k0_pay9 v74) (k0_pay11 (BitVec.ofNat 32 t) v10 v17 v20 v25 v27 v71 v74 v92) (ix3 0 r d)
      = ((D.dq h (row t r) ⟨128 + d, by omega⟩ : ℝ) : EReal) := by
  refine Eq.trans ?_ (dqR_of (by omega) K r d (fun j => grad hs P K r j) hc hr hm)
  unfold k0_pay61 k0_pay9
  generalize k0_pay11 (BitVec.ofNat 32 t) v10 v17 v20 v25 v27 v71 v74 v92 = A
  generalize k0_pay50 a5 = B
  generalize k0_pay51 a6 = C
  pointwise

/-- The features past both parts are zero. -/
theorem dqZ (r : Fin 256) (d : Fin 64) : (k0_pay62 (F := Ideal)) (ix3 0 r d) = (0 : EReal) := by
  unfold k0_pay62
  pointwise

end Cert.Attn.Level256

end
-- ==== Proof.CaseA.lean ====
/- The first tile of a head: what the kernel's body leaves in the two accumulators and in the block of the queries' gradients. -/
module

public import proofs.«01_k».proof.Proof.Stores
public import proofs.«01_k».proof.Proof.Level256
public import proofs.«01_k».proof.Proof.Gen.KernelIdeal.Frame
import Idealize.ShloMosaic.Lib.Pipeline.ValueKit.Acc

@[expose] public section

set_option maxRecDepth 16384

noncomputable section

namespace Cert.Attn.Level256

open Idealize.ShloMosaic Idealize.ShloMosaic.Tactic Cert.KernelIdeal Cert.KernelIdeal.Gen

variable {c : Dev nD} {i : grid0.Coords} {arg2 : Memref sig .tc .vmem S1x256x128 .f32} {harg2 : arg2.IsWhole} {arg3 : Memref sig .tc .vmem S1x256x128 .f32} {harg3 : arg3.IsWhole} {arg4 : Memref sig .tc .vmem S1x2048x128 .f32} {harg4 : arg4.IsWhole} {arg5 : Memref sig .tc .vmem S1x2048x128 .f32} {harg5 : arg5.IsWhole} {arg6 : Memref sig .tc .vmem S2048x64 .f32} {harg6 : arg6.IsWhole} {arg7 : Memref sig .tc .vmem S256x64 .f32} {harg7 : arg7.IsWhole} {arg8 : Memref sig .tc .vmem S256x64 .f32} {harg8 : arg8.IsWhole} {arg9 : Memref sig .tc .vmem S64x64 .f32} {harg9 : arg9.IsWhole} {arg10 : Memref sig .tc .vmem S1x256x128 .f32} {harg10 : arg10.IsWhole} {arg11 : Memref sig .tc .vmem S1x256x1 .f32} {harg11 : arg11.IsWhole} {arg12 : Memref sig .tc .vmem S1x256x128 .f32} {harg12 : arg12.IsWhole} {arg13 : Memref sig .tc .vmem S1x256x256 .bf16} {harg13 : arg13.IsWhole} {arg14 : Memref sig .tc .vmem S1x2048x256 .bf16} {harg14 : arg14.IsWhole} {arg15 : Memref sig .tc .vmem S1x2048x64 .f32} {harg15 : arg15.IsWhole} {arg16 : Memref sig .tc .vmem S2048x256 .f32} {harg16 : arg16.IsWhole} {arg17 : Memref sig .tc .vmem S2048x64 .f32} {harg17 : arg17.IsWhole} {hc0 : cond0_0 i} {hc1 : cond0_1 i} {hc2 : ¬cond0_2 i} {hc3 : ¬cond0_3 i} {hc4 : ¬cond0_4 i} {hc5 : ¬cond0_5 i} {hc6 : ¬cond0_6 i} {hc7 : ¬cond0_7 i} {hc8 : ¬cond0_8 i} {hc9 : ¬cond0_9 i}
    {x0 : Vec Ideal S1x256x128 .f32} {x1 : Vec Ideal S1x256x128 .f32} {x2 : Vec Ideal S1x2048x128 .f32} {x3 : Vec Ideal S1x2048x128 .f32} {x4 : Vec Ideal S2048x64 .f32} {x5 : Vec Ideal S256x64 .f32} {x6 : Vec Ideal S256x64 .f32} {x7 : Vec Ideal S64x64 .f32} {x8 : Vec Ideal S1x256x128 .f32} {x9 : Vec Ideal S1x256x1 .f32} {x10 : Vec Ideal S1x256x128 .f32}

variable {D : Data} {h t : Fin 8}

theorem zeros0 (j : Fin 2048) (d : Fin 256) : (k0_pay48 (F := Ideal)) (ix2 j d) = (0 : EReal) := by
  unfold k0_pay48
  pointwise

theorem zeros1 (j : Fin 2048) (d : Fin 64) : (k0_pay49 (F := Ideal)) (ix2 j d) = (0 : EReal) := by
  unfold k0_pay49
  pointwise

/-- The accumulator of the gradient of the keys with their values. -/
theorem scr0 (B : Blk D h t x0 x1 x2 x3 x4 x5 x6 x7 x8 x9 x10) (ht : (t : ℕ) = 0) (hi : (i 1 : ℕ) = t) (j : Fin 2048) (d : Fin 256) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 (ix2 j d)
      = ((D.tkv h t j d : ℝ) : EReal) := by
  unfold sout0_A_0 kernelRun0_A
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread]
  simp only [hi]
  have P := B.loads.pre
  have K := B.keys hn inb_S1x2048x128_S1x256x128_0_0_0 inb_S2048x64_S256x64_0_0
  rw [← zero_add (D.tkv h t j d)]
  refine kv_of (hn := hn) (by omega) _ _ _ _ _ _ _ (fun _ _ => 0) (fun j d hj => ?_) (fun j d => ?_) (fun j d => ?_) j d
  · exact (read2_hit _ _ _ _ _ j d j d (Nat.zero_add _).symm (Nat.zero_add _).symm).trans (zeros0 j d)
  · refine (accK B.sc P K _ j d).trans (congrArg (· + _) ?_)
    rw [readCov2 arg16.view _ _ j d (key hn j) (⟨d, by omega⟩ : Fin 256) (Nat.zero_add _).symm (Nat.zero_add _).symm]
    exact (read2_hit _ _ _ _ _ _ _ (key hn j) ⟨d, by omega⟩ (Nat.zero_add _).symm (Nat.zero_add _).symm).trans (zeros0 _ _)
  · refine (accV B.sc P K _ j d).trans (congrArg (· + _) ?_)
    rw [readCov2 arg16.view _ _ j d (key hn j) (⟨128 + d, by omega⟩ : Fin 256) (Nat.zero_add _).symm rfl]
    exact ((read2_miss1 _ _ _ _ _ _ _ (Or.inr (by dsimp only; omega))).trans (read2_hit _ _ _ _ _ _ _ (key hn j) ⟨128 + d, by omega⟩ (Nat.zero_add _).symm (Nat.zero_add _).symm)).trans (zeros0 _ _)

/-- The accumulator of the gradient of the rotary keys. -/
theorem scr1 (B : Blk D h t x0 x1 x2 x3 x4 x5 x6 x7 x8 x9 x10) (ht : (t : ℕ) = 0) (hi : (i 1 : ℕ) = t) (j : Fin 2048) (d : Fin 64) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 (ix2 j d)
      = ((D.tkp h t j d : ℝ) : EReal) := by
  unfold sout0_A_1 kernelRun0_A
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread]
  simp only [hi]
  have P := B.loads.pre
  have K := B.keys hn inb_S1x2048x128_S1x256x128_0_0_0 inb_S2048x64_S256x64_0_0
  rw [← zero_add (D.tkp h t j d)]
  refine kp_of (hn := hn) (by omega) _ _ _ _ _ (fun _ _ => 0) (fun j d hj => ?_) (fun j d => ?_) j d
  · exact (read2_hit _ _ _ _ _ j d j d (Nat.zero_add _).symm (Nat.zero_add _).symm).trans (zeros1 j d)
  · refine (accP B.sc P K _ j d).trans (congrArg (· + _) ?_)
    rw [readCov2 arg17.view _ _ j d (key hn j) d (Nat.zero_add _).symm (Nat.zero_add _).symm]
    exact (read2_hit _ _ _ _ _ _ _ (key hn j) d (Nat.zero_add _).symm (Nat.zero_add _).symm).trans (zeros1 _ _)

/-- The block of the queries' gradients. -/
theorem outq (B : Blk D h t x0 x1 x2 x3 x4 x5 x6 x7 x8 x9 x10) (ht : (t : ℕ) = 0) (hi : (i 1 : ℕ) = t) (r : Fin 256) (d : Fin 256) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 (ix3 0 r d)
      = ((D.dq h (row t r) d : ℝ) : EReal) := by
  unfold out0_A_11 kernelRun0_A
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread]
  simp only [hi]
  have P := B.loads.pre
  have K := B.keys hn inb_S1x2048x128_S1x256x128_0_0_0 inb_S2048x64_S256x64_0_0
  refine q_of _ _ _ _ _ _ _ _ _ (fun r d => ?_) (fun r d => ?_) (fun r d => ?_) r d
  · exact dqN ht B.sc P K r d
  · exact dqR ht B.sc P K B.loads.cs B.loads.sn B.loads.rot r d
  · exact dqZ r d

end Cert.Attn.Level256

end
-- ==== Proof.Level512.lean ====
/- One level of the kernel's causal sweep: a tile against the first 512 keys. Each stored value is read entry by entry as
   the real number the specification names. -/
module

public import proofs.«01_k».proof.Proof.Level

@[expose] public section

set_option maxRecDepth 16384

noncomputable section

namespace Cert.Attn.Level512

open Idealize.ShloMosaic Cert.KernelIdeal Cert.KernelIdeal.Gen

variable {D : Data} {h t : Fin 8}

theorem hn : 512 ≤ 2048 := by decide

variable {v10 : FVec Ideal S256x128 .bf16} {v17 : FVec Ideal S256x64 .bf16} {v20 : FVec Ideal S256x128 .bf16}
  {v25 v27 : FVec Ideal S256x1 .f32} {v71 : Vec Ideal S1x512x128 .f32} {v74 : Vec Ideal S512x64 .f32} {v92 : Vec Ideal S1x512x128 .f32}

/-- The attention weight. -/
theorem weight (hs : Ideal.ofBits .f32 0x3D93CD3A#32 = ((D.sc : ℝ) : EReal)) (P : Pre D h t v10 v17 v20 v25 v27)
    (K : Keys D h hn v71 v74 v92) (r : Fin 256) (j : Fin 512) : k0_pay15 (BitVec.ofNat 32 t) v10 v17 v27 v71 v74 (ix2 r j) = ((D.w h (row t r) (key hn j) : ℝ) : EReal) := by
  refine Eq.trans ?_ (weight_of hs P K r j)
  unfold k0_pay15 k0_pay13 k0_pay14
  pointwise

/-- The gradient of the scores. -/
theorem grad (hs : Ideal.ofBits .f32 0x3D93CD3A#32 = ((D.sc : ℝ) : EReal)) (P : Pre D h t v10 v17 v20 v25 v27)
    (K : Keys D h hn v71 v74 v92) (r : Fin 256) (j : Fin 512) :
    k0_pay16 (BitVec.ofNat 32 t) v10 v17 v20 v25 v27 v71 v74 v92 (ix2 r j) = ((D.ds h (row t r) (key hn j) : ℝ) : EReal) := by
  refine Eq.trans ?_ (grad_of hs P K r j (weight hs P K r j))
  unfold k0_pay16
  generalize k0_pay15 (BitVec.ofNat 32 t) v10 v17 v27 v71 v74 = A
  pointwise

/-- What the tile adds to the gradient of the plain keys. -/
theorem accK (hs : Ideal.ofBits .f32 0x3D93CD3A#32 = ((D.sc : ℝ) : EReal)) (P : Pre D h t v10 v17 v20 v25 v27)
    (K : Keys D h hn v71 v74 v92) (x : Vec Ideal S512x128 .f32) (j : Fin 512) (d : Fin 128) :
    k0_pay17 (BitVec.ofNat 32 t) v10 v17 v20 v25 v27 v71 v74 v92 x (ix2 j d)
      = x (ix2 j d) + ((∑ r, D.ds h (row t r) (key hn j) * D.qn h (row t r) d : ℝ) : EReal) := by
  refine Eq.trans ?_ (acc_of (fun r => grad hs P K r j) fun r => P.qn r d)
  unfold k0_pay17
  generalize k0_pay16 (BitVec.ofNat 32 t) v10 v17 v20 v25 v27 v71 v74 v92 = A
  pointwise

/-- What the tile adds to the gradient of the values. -/
theorem accV (hs : Ideal.ofBits .f32 0x3D93CD3A#32 = ((D.sc : ℝ) : EReal)) (P : Pre D h t v10 v17 v20 v25 v27)
    (K : Keys D h hn v71 v74 v92) (x : Vec Ideal S512x128 .f32) (j : Fin 512) (d : Fin 128) :
    k0_pay63 v20 (k0_pay15 (BitVec.ofNat 32 t) v10 v17 v27 v71 v74) x (ix2 j d)
      = x (ix2 j d) + ((∑ r, D.w h (row t r) (key hn j) * D.g h (row t r) d : ℝ) : EReal) := by
  refine Eq.trans ?_ (acc_of (fun r => weight hs P K r j) fun r => P.g r d)
  unfold k0_pay63
  generalize k0_pay15 (BitVec.ofNat 32 t) v10 v17 v27 v71 v74 = A
  pointwise

/-- What the tile adds to the gradient of the rotary keys. -/
theorem accP (hs : Ideal.ofBits .f32 0x3D93CD3A#32 = ((D.sc : ℝ) : EReal)) (P : Pre D h t v10 v17 v20 v25 v27)
    (K : Keys D h hn v71 v74 v92) (x : Vec Ideal S512x64 .f32) (j : Fin 512) (d : Fin 64) :
    k0_pay64 v17 (k0_pay16 (BitVec.ofNat 32 t) v10 v17 v20 v25 v27 v71 v74 v92) x (ix2 j d)
      = x (ix2 j d) + ((∑ r, D.ds h (row t r) (key hn j) * D.qr h (row t r) d : ℝ) : EReal) := by
  refine Eq.trans ?_ (acc_of (fun r => grad hs P K r j) fun r => P.qr r d)
  unfold k0_pay64
  generalize k0_pay16 (BitVec.ofNat 32 t) v10 v17 v20 v25 v27 v71 v74 v92 = A
  pointwise

/-- The gradient of the plain part of the tile's queries. -/
theorem dqN (ht : (t : ℕ) = 1) (hs : Ideal.ofBits .f32 0x3D93CD3A#32 = ((D.sc : ℝ) : EReal)) (P : Pre D h t v10 v17 v20 v25 v27)
    (K : Keys D h hn v71 v74 v92) (r : Fin 256) (d : Fin 128) :
    k0_pay65 (k0_pay13 v71) (k0_pay16 (BitVec.ofNat 32 t) v10 v17 v20 v25 v27 v71 v74 v92) (ix3 0 r d) = ((D.dq h (row t r) ⟨d, by omega⟩ : ℝ) : EReal) := by
  refine Eq.trans ?_ (dqN_of (by omega) K r d fun j => grad hs P K r j)
  unfold k0_pay65 k0_pay13
  generalize k0_pay16 (BitVec.ofNat 32 t) v10 v17 v20 v25 v27 v71 v74 v92 = A
  pointwise

/-- The gradient of the rotated part of the tile's queries. -/
theorem dqR (ht : (t : ℕ) = 1) (hs : Ideal.ofBits .f32 0x3D93CD3A#32 = ((D.sc : ℝ) : EReal)) (P : Pre D h t v10 v17 v20 v25 v27)
    (K : Keys D h hn v71 v74 v92) {a5 a6 : Vec Ideal S256x64 .f32} {a7 : Vec Ideal S64x64 .f32}
    (hc : ∀ (r : Fin 256) (d : Fin 64), a5 (ix2 r d) = ((D.cs2 (row t r) d : ℝ) : EReal))
    (hr : ∀ (r : Fin 256) (d : Fin 64), a6 (ix2 r d) = ((D.sn2 (row t r) d : ℝ) : EReal))
    (hm : ∀ x b : Fin 64, a7 (ix2 x b) = ((rot x b : ℝ) : EReal)) (r : Fin 256) (d : Fin 64) :
    k0_pay66 (k0_pay50 a5) (k0_pay51 a6) a7 (k0_pay14 v74) (k0_pay16 (BitVec.ofNat 32 t) v10 v17 v20 v25 v27 v71 v74 v92) (ix3 0 r d)
      = ((D.dq h (row t r) ⟨128 + d, by omega⟩ : ℝ) : EReal) := by
  refine Eq.trans ?_ (dqR_of (by omega) K r d (fun j => grad hs P K r j) hc hr hm)
  unfold k0_pay66 k0_pay14
  generalize k0_pay16 (BitVec.ofNat 32 t) v10 v17 v20 v25 v27 v71 v74 v92 = A
  generalize k0_pay50 a5 = B
  generalize k0_pay51 a6 = C
  pointwise

/-- The features past both parts are zero. -/
theorem dqZ (r : Fin 256) (d : Fin 64) : (k0_pay67 (F := Ideal)) (ix3 0 r d) = (0 : EReal) := by
  unfold k0_pay67
  pointwise

end Cert.Attn.Level512

end
-- ==== Proof.CaseB.lean ====
/- Tile 1 of a head: what the kernel's body leaves in the two accumulators and in the block of the queries' gradients. -/
module

public import proofs.«01_k».proof.Proof.Stores
public import proofs.«01_k».proof.Proof.Level512
public import proofs.«01_k».proof.Proof.Gen.KernelIdeal.Frame
import Idealize.ShloMosaic.Lib.Pipeline.ValueKit.Acc

@[expose] public section

set_option maxRecDepth 16384

noncomputable section

namespace Cert.Attn.Level512

open Idealize.ShloMosaic Idealize.ShloMosaic.Tactic Cert.KernelIdeal Cert.KernelIdeal.Gen

variable {c : Dev nD} {i : grid0.Coords} {arg2 : Memref sig .tc .vmem S1x256x128 .f32} {harg2 : arg2.IsWhole} {arg3 : Memref sig .tc .vmem S1x256x128 .f32} {harg3 : arg3.IsWhole} {arg4 : Memref sig .tc .vmem S1x2048x128 .f32} {harg4 : arg4.IsWhole} {arg5 : Memref sig .tc .vmem S1x2048x128 .f32} {harg5 : arg5.IsWhole} {arg6 : Memref sig .tc .vmem S2048x64 .f32} {harg6 : arg6.IsWhole} {arg7 : Memref sig .tc .vmem S256x64 .f32} {harg7 : arg7.IsWhole} {arg8 : Memref sig .tc .vmem S256x64 .f32} {harg8 : arg8.IsWhole} {arg9 : Memref sig .tc .vmem S64x64 .f32} {harg9 : arg9.IsWhole} {arg10 : Memref sig .tc .vmem S1x256x128 .f32} {harg10 : arg10.IsWhole} {arg11 : Memref sig .tc .vmem S1x256x1 .f32} {harg11 : arg11.IsWhole} {arg12 : Memref sig .tc .vmem S1x256x128 .f32} {harg12 : arg12.IsWhole} {arg13 : Memref sig .tc .vmem S1x256x256 .bf16} {harg13 : arg13.IsWhole} {arg14 : Memref sig .tc .vmem S1x2048x256 .bf16} {harg14 : arg14.IsWhole} {arg15 : Memref sig .tc .vmem S1x2048x64 .f32} {harg15 : arg15.IsWhole} {arg16 : Memref sig .tc .vmem S2048x256 .f32} {harg16 : arg16.IsWhole} {arg17 : Memref sig .tc .vmem S2048x64 .f32} {harg17 : arg17.IsWhole} {hc0 : ¬cond0_0 i} {hc1 : ¬cond0_1 i} {hc2 : cond0_2 i} {hc3 : ¬cond0_3 i} {hc4 : ¬cond0_4 i} {hc5 : ¬cond0_5 i} {hc6 : ¬cond0_6 i} {hc7 : ¬cond0_7 i} {hc8 : ¬cond0_8 i} {hc9 : ¬cond0_9 i}
    {x0 : Vec Ideal S1x256x128 .f32} {x1 : Vec Ideal S1x256x128 .f32} {x2 : Vec Ideal S1x2048x128 .f32} {x3 : Vec Ideal S1x2048x128 .f32} {x4 : Vec Ideal S2048x64 .f32} {x5 : Vec Ideal S256x64 .f32} {x6 : Vec Ideal S256x64 .f32} {x7 : Vec Ideal S64x64 .f32} {x8 : Vec Ideal S1x256x128 .f32} {x9 : Vec Ideal S1x256x1 .f32} {x10 : Vec Ideal S1x256x128 .f32} {xs0 : Vec Ideal S2048x256 .f32} {xs1 : Vec Ideal S2048x64 .f32}

variable {D : Data} {h t : Fin 8}

/-- The accumulator of the gradient of the keys with their values. -/
theorem scr0 (B : Blk D h t x0 x1 x2 x3 x4 x5 x6 x7 x8 x9 x10) (ht : (t : ℕ) = 1) (hi : (i 1 : ℕ) = t) (A : Fin 2048 → Fin 256 → ℝ)
    (hA : ∀ j d, xs0 (ix2 j d) = ((A j d : ℝ) : EReal)) (j : Fin 2048) (d : Fin 256) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix2 j d)
      = ((A j d + D.tkv h t j d : ℝ) : EReal) := by
  unfold sout0_B_0 kernelRun0_B
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x512x128_0_0_0 inb_S2048x64_S512x64_0_0
  refine kv_of (hn := hn) (by omega) _ _ _ _ _ _ _ A (fun j d hj => ?_) (fun j d => ?_) (fun j d => ?_) j d
  · rw [View.writes_nil, harg16.read_unread, hA]
  · exact (accK B.sc P K _ j d).trans (congrArg (· + _) ((ld2 xs0 _ j d (key hn j) ⟨d, by omega⟩ (Nat.zero_add _).symm (Nat.zero_add _).symm).trans (hA _ _)))
  · exact (accV B.sc P K _ j d).trans (congrArg (· + _) ((ld2 xs0 _ j d (key hn j) ⟨128 + d, by omega⟩ (Nat.zero_add _).symm rfl).trans (hA _ _)))

/-- The accumulator of the gradient of the rotary keys. -/
theorem scr1 (B : Blk D h t x0 x1 x2 x3 x4 x5 x6 x7 x8 x9 x10) (ht : (t : ℕ) = 1) (hi : (i 1 : ℕ) = t) (A : Fin 2048 → Fin 64 → ℝ)
    (hA : ∀ j d, xs1 (ix2 j d) = ((A j d : ℝ) : EReal)) (j : Fin 2048) (d : Fin 64) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix2 j d)
      = ((A j d + D.tkp h t j d : ℝ) : EReal) := by
  unfold sout0_B_1 kernelRun0_B
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x512x128_0_0_0 inb_S2048x64_S512x64_0_0
  refine kp_of (hn := hn) (by omega) _ _ _ _ _ A (fun j d hj => ?_) (fun j d => ?_) j d
  · rw [View.writes_nil, harg17.read_unread, hA]
  · exact (accP B.sc P K _ j d).trans (congrArg (· + _) ((ld2 xs1 _ j d (key hn j) d (Nat.zero_add _).symm (Nat.zero_add _).symm).trans (hA _ _)))

/-- The block of the queries' gradients. -/
theorem outq (B : Blk D h t x0 x1 x2 x3 x4 x5 x6 x7 x8 x9 x10) (ht : (t : ℕ) = 1) (hi : (i 1 : ℕ) = t) (r : Fin 256) (d : Fin 256) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix3 0 r d)
      = ((D.dq h (row t r) d : ℝ) : EReal) := by
  unfold out0_B_11 kernelRun0_B
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x512x128_0_0_0 inb_S2048x64_S512x64_0_0
  refine q_of _ _ _ _ _ _ _ _ _ (fun r d => ?_) (fun r d => ?_) (fun r d => ?_) r d
  · exact dqN ht B.sc P K r d
  · exact dqR ht B.sc P K B.loads.cs B.loads.sn B.loads.rot r d
  · exact dqZ r d

end Cert.Attn.Level512

end
-- ==== Proof.Level768.lean ====
/- One level of the kernel's causal sweep: a tile against the first 768 keys. Each stored value is read entry by entry as
   the real number the specification names. -/
module

public import proofs.«01_k».proof.Proof.Level

@[expose] public section

set_option maxRecDepth 16384

noncomputable section

namespace Cert.Attn.Level768

open Idealize.ShloMosaic Cert.KernelIdeal Cert.KernelIdeal.Gen

variable {D : Data} {h t : Fin 8}

theorem hn : 768 ≤ 2048 := by decide

variable {v10 : FVec Ideal S256x128 .bf16} {v17 : FVec Ideal S256x64 .bf16} {v20 : FVec Ideal S256x128 .bf16}
  {v25 v27 : FVec Ideal S256x1 .f32} {v71 : Vec Ideal S1x768x128 .f32} {v74 : Vec Ideal S768x64 .f32} {v92 : Vec Ideal S1x768x128 .f32}

/-- The attention weight. -/
theorem weight (hs : Ideal.ofBits .f32 0x3D93CD3A#32 = ((D.sc : ℝ) : EReal)) (P : Pre D h t v10 v17 v20 v25 v27)
    (K : Keys D h hn v71 v74 v92) (r : Fin 256) (j : Fin 768) : k0_pay20 (BitVec.ofNat 32 t) v10 v17 v27 v71 v74 (ix2 r j) = ((D.w h (row t r) (key hn j) : ℝ) : EReal) := by
  refine Eq.trans ?_ (weight_of hs P K r j)
  unfold k0_pay20 k0_pay18 k0_pay19
  pointwise

/-- The gradient of the scores. -/
theorem grad (hs : Ideal.ofBits .f32 0x3D93CD3A#32 = ((D.sc : ℝ) : EReal)) (P : Pre D h t v10 v17 v20 v25 v27)
    (K : Keys D h hn v71 v74 v92) (r : Fin 256) (j : Fin 768) :
    k0_pay21 (BitVec.ofNat 32 t) v10 v17 v20 v25 v27 v71 v74 v92 (ix2 r j) = ((D.ds h (row t r) (key hn j) : ℝ) : EReal) := by
  refine Eq.trans ?_ (grad_of hs P K r j (weight hs P K r j))
  unfold k0_pay21
  generalize k0_pay20 (BitVec.ofNat 32 t) v10 v17 v27 v71 v74 = A
  pointwise

/-- What the tile adds to the gradient of the plain keys. -/
theorem accK (hs : Ideal.ofBits .f32 0x3D93CD3A#32 = ((D.sc : ℝ) : EReal)) (P : Pre D h t v10 v17 v20 v25 v27)
    (K : Keys D h hn v71 v74 v92) (x : Vec Ideal S768x128 .f32) (j : Fin 768) (d : Fin 128) :
    k0_pay22 (BitVec.ofNat 32 t) v10 v17 v20 v25 v27 v71 v74 v92 x (ix2 j d)
      = x (ix2 j d) + ((∑ r, D.ds h (row t r) (key hn j) * D.qn h (row t r) d : ℝ) : EReal) := by
  refine Eq.trans ?_ (acc_of (fun r => grad hs P K r j) fun r => P.qn r d)
  unfold k0_pay22
  generalize k0_pay21 (BitVec.ofNat 32 t) v10 v17 v20 v25 v27 v71 v74 v92 = A
  pointwise

/-- What the tile adds to the gradient of the values. -/
theorem accV (hs : Ideal.ofBits .f32 0x3D93CD3A#32 = ((D.sc : ℝ) : EReal)) (P : Pre D h t v10 v17 v20 v25 v27)
    (K : Keys D h hn v71 v74 v92) (x : Vec Ideal S768x128 .f32) (j : Fin 768) (d : Fin 128) :
    k0_pay68 v20 (k0_pay20 (BitVec.ofNat 32 t) v10 v17 v27 v71 v74) x (ix2 j d)
      = x (ix2 j d) + ((∑ r, D.w h (row t r) (key hn j) * D.g h (row t r) d : ℝ) : EReal) := by
  refine Eq.trans ?_ (acc_of (fun r => weight hs P K r j) fun r => P.g r d)
  unfold k0_pay68
  generalize k0_pay20 (BitVec.ofNat 32 t) v10 v17 v27 v71 v74 = A
  pointwise

/-- What the tile adds to the gradient of the rotary keys. -/
theorem accP (hs : Ideal.ofBits .f32 0x3D93CD3A#32 = ((D.sc : ℝ) : EReal)) (P : Pre D h t v10 v17 v20 v25 v27)
    (K : Keys D h hn v71 v74 v92) (x : Vec Ideal S768x64 .f32) (j : Fin 768) (d : Fin 64) :
    k0_pay69 v17 (k0_pay21 (BitVec.ofNat 32 t) v10 v17 v20 v25 v27 v71 v74 v92) x (ix2 j d)
      = x (ix2 j d) + ((∑ r, D.ds h (row t r) (key hn j) * D.qr h (row t r) d : ℝ) : EReal) := by
  refine Eq.trans ?_ (acc_of (fun r => grad hs P K r j) fun r => P.qr r d)
  unfold k0_pay69
  generalize k0_pay21 (BitVec.ofNat 32 t) v10 v17 v20 v25 v27 v71 v74 v92 = A
  pointwise

/-- The gradient of the plain part of the tile's queries. -/
theorem dqN (ht : (t : ℕ) = 2) (hs : Ideal.ofBits .f32 0x3D93CD3A#32 = ((D.sc : ℝ) : EReal)) (P : Pre D h t v10 v17 v20 v25 v27)
    (K : Keys D h hn v71 v74 v92) (r : Fin 256) (d : Fin 128) :
    k0_pay70 (k0_pay18 v71) (k0_pay21 (BitVec.ofNat 32 t) v10 v17 v20 v25 v27 v71 v74 v92) (ix3 0 r d) = ((D.dq h (row t r) ⟨d, by omega⟩ : ℝ) : EReal) := by
  refine Eq.trans ?_ (dqN_of (by omega) K r d fun j => grad hs P K r j)
  unfold k0_pay70 k0_pay18
  generalize k0_pay21 (BitVec.ofNat 32 t) v10 v17 v20 v25 v27 v71 v74 v92 = A
  pointwise

/-- The gradient of the rotated part of the tile's queries. -/
theorem dqR (ht : (t : ℕ) = 2) (hs : Ideal.ofBits .f32 0x3D93CD3A#32 = ((D.sc : ℝ) : EReal)) (P : Pre D h t v10 v17 v20 v25 v27)
    (K : Keys D h hn v71 v74 v92) {a5 a6 : Vec Ideal S256x64 .f32} {a7 : Vec Ideal S64x64 .f32}
    (hc : ∀ (r : Fin 256) (d : Fin 64), a5 (ix2 r d) = ((D.cs2 (row t r) d : ℝ) : EReal))
    (hr : ∀ (r : Fin 256) (d : Fin 64), a6 (ix2 r d) = ((D.sn2 (row t r) d : ℝ) : EReal))
    (hm : ∀ x b : Fin 64, a7 (ix2 x b) = ((rot x b : ℝ) : EReal)) (r : Fin 256) (d : Fin 64) :
    k0_pay71 (k0_pay50 a5) (k0_pay51 a6) a7 (k0_pay19 v74) (k0_pay21 (BitVec.ofNat 32 t) v10 v17 v20 v25 v27 v71 v74 v92) (ix3 0 r d)
      = ((D.dq h (row t r) ⟨128 + d, by omega⟩ : ℝ) : EReal) := by
  refine Eq.trans ?_ (dqR_of (by omega) K r d (fun j => grad hs P K r j) hc hr hm)
  unfold k0_pay71 k0_pay19
  generalize k0_pay21 (BitVec.ofNat 32 t) v10 v17 v20 v25 v27 v71 v74 v92 = A
  generalize k0_pay50 a5 = B
  generalize k0_pay51 a6 = C
  pointwise

/-- The features past both parts are zero. -/
theorem dqZ (r : Fin 256) (d : Fin 64) : (k0_pay72 (F := Ideal)) (ix3 0 r d) = (0 : EReal) := by
  unfold k0_pay72
  pointwise

end Cert.Attn.Level768

end
-- ==== Proof.CaseC.lean ====
/- Tile 2 of a head: what the kernel's body leaves in the two accumulators and in the block of the queries' gradients. -/
module

public import proofs.«01_k».proof.Proof.Stores
public import proofs.«01_k».proof.Proof.Level768
public import proofs.«01_k».proof.Proof.Gen.KernelIdeal.Frame
import Idealize.ShloMosaic.Lib.Pipeline.ValueKit.Acc

@[expose] public section

set_option maxRecDepth 16384

noncomputable section

namespace Cert.Attn.Level768

open Idealize.ShloMosaic Idealize.ShloMosaic.Tactic Cert.KernelIdeal Cert.KernelIdeal.Gen

variable {c : Dev nD} {i : grid0.Coords} {arg2 : Memref sig .tc .vmem S1x256x128 .f32} {harg2 : arg2.IsWhole} {arg3 : Memref sig .tc .vmem S1x256x128 .f32} {harg3 : arg3.IsWhole} {arg4 : Memref sig .tc .vmem S1x2048x128 .f32} {harg4 : arg4.IsWhole} {arg5 : Memref sig .tc .vmem S1x2048x128 .f32} {harg5 : arg5.IsWhole} {arg6 : Memref sig .tc .vmem S2048x64 .f32} {harg6 : arg6.IsWhole} {arg7 : Memref sig .tc .vmem S256x64 .f32} {harg7 : arg7.IsWhole} {arg8 : Memref sig .tc .vmem S256x64 .f32} {harg8 : arg8.IsWhole} {arg9 : Memref sig .tc .vmem S64x64 .f32} {harg9 : arg9.IsWhole} {arg10 : Memref sig .tc .vmem S1x256x128 .f32} {harg10 : arg10.IsWhole} {arg11 : Memref sig .tc .vmem S1x256x1 .f32} {harg11 : arg11.IsWhole} {arg12 : Memref sig .tc .vmem S1x256x128 .f32} {harg12 : arg12.IsWhole} {arg13 : Memref sig .tc .vmem S1x256x256 .bf16} {harg13 : arg13.IsWhole} {arg14 : Memref sig .tc .vmem S1x2048x256 .bf16} {harg14 : arg14.IsWhole} {arg15 : Memref sig .tc .vmem S1x2048x64 .f32} {harg15 : arg15.IsWhole} {arg16 : Memref sig .tc .vmem S2048x256 .f32} {harg16 : arg16.IsWhole} {arg17 : Memref sig .tc .vmem S2048x64 .f32} {harg17 : arg17.IsWhole} {hc0 : ¬cond0_0 i} {hc1 : ¬cond0_1 i} {hc2 : ¬cond0_2 i} {hc3 : cond0_3 i} {hc4 : ¬cond0_4 i} {hc5 : ¬cond0_5 i} {hc6 : ¬cond0_6 i} {hc7 : ¬cond0_7 i} {hc8 : ¬cond0_8 i} {hc9 : ¬cond0_9 i}
    {x0 : Vec Ideal S1x256x128 .f32} {x1 : Vec Ideal S1x256x128 .f32} {x2 : Vec Ideal S1x2048x128 .f32} {x3 : Vec Ideal S1x2048x128 .f32} {x4 : Vec Ideal S2048x64 .f32} {x5 : Vec Ideal S256x64 .f32} {x6 : Vec Ideal S256x64 .f32} {x7 : Vec Ideal S64x64 .f32} {x8 : Vec Ideal S1x256x128 .f32} {x9 : Vec Ideal S1x256x1 .f32} {x10 : Vec Ideal S1x256x128 .f32} {xs0 : Vec Ideal S2048x256 .f32} {xs1 : Vec Ideal S2048x64 .f32}

variable {D : Data} {h t : Fin 8}

/-- The accumulator of the gradient of the keys with their values. -/
theorem scr0 (B : Blk D h t x0 x1 x2 x3 x4 x5 x6 x7 x8 x9 x10) (ht : (t : ℕ) = 2) (hi : (i 1 : ℕ) = t) (A : Fin 2048 → Fin 256 → ℝ)
    (hA : ∀ j d, xs0 (ix2 j d) = ((A j d : ℝ) : EReal)) (j : Fin 2048) (d : Fin 256) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix2 j d)
      = ((A j d + D.tkv h t j d : ℝ) : EReal) := by
  unfold sout0_C_0 kernelRun0_C
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x768x128_0_0_0 inb_S2048x64_S768x64_0_0
  refine kv_of (hn := hn) (by omega) _ _ _ _ _ _ _ A (fun j d hj => ?_) (fun j d => ?_) (fun j d => ?_) j d
  · rw [View.writes_nil, harg16.read_unread, hA]
  · exact (accK B.sc P K _ j d).trans (congrArg (· + _) ((ld2 xs0 _ j d (key hn j) ⟨d, by omega⟩ (Nat.zero_add _).symm (Nat.zero_add _).symm).trans (hA _ _)))
  · exact (accV B.sc P K _ j d).trans (congrArg (· + _) ((ld2 xs0 _ j d (key hn j) ⟨128 + d, by omega⟩ (Nat.zero_add _).symm rfl).trans (hA _ _)))

/-- The accumulator of the gradient of the rotary keys. -/
theorem scr1 (B : Blk D h t x0 x1 x2 x3 x4 x5 x6 x7 x8 x9 x10) (ht : (t : ℕ) = 2) (hi : (i 1 : ℕ) = t) (A : Fin 2048 → Fin 64 → ℝ)
    (hA : ∀ j d, xs1 (ix2 j d) = ((A j d : ℝ) : EReal)) (j : Fin 2048) (d : Fin 64) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix2 j d)
      = ((A j d + D.tkp h t j d : ℝ) : EReal) := by
  unfold sout0_C_1 kernelRun0_C
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x768x128_0_0_0 inb_S2048x64_S768x64_0_0
  refine kp_of (hn := hn) (by omega) _ _ _ _ _ A (fun j d hj => ?_) (fun j d => ?_) j d
  · rw [View.writes_nil, harg17.read_unread, hA]
  · exact (accP B.sc P K _ j d).trans (congrArg (· + _) ((ld2 xs1 _ j d (key hn j) d (Nat.zero_add _).symm (Nat.zero_add _).symm).trans (hA _ _)))

/-- The block of the queries' gradients. -/
theorem outq (B : Blk D h t x0 x1 x2 x3 x4 x5 x6 x7 x8 x9 x10) (ht : (t : ℕ) = 2) (hi : (i 1 : ℕ) = t) (r : Fin 256) (d : Fin 256) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix3 0 r d)
      = ((D.dq h (row t r) d : ℝ) : EReal) := by
  unfold out0_C_11 kernelRun0_C
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x768x128_0_0_0 inb_S2048x64_S768x64_0_0
  refine q_of _ _ _ _ _ _ _ _ _ (fun r d => ?_) (fun r d => ?_) (fun r d => ?_) r d
  · exact dqN ht B.sc P K r d
  · exact dqR ht B.sc P K B.loads.cs B.loads.sn B.loads.rot r d
  · exact dqZ r d

end Cert.Attn.Level768

end
-- ==== Proof.Level1024.lean ====
/- One level of the kernel's causal sweep: a tile against the first 1024 keys. Each stored value is read entry by entry as
   the real number the specification names. -/
module

public import proofs.«01_k».proof.Proof.Level

@[expose] public section

set_option maxRecDepth 16384

noncomputable section

namespace Cert.Attn.Level1024

open Idealize.ShloMosaic Cert.KernelIdeal Cert.KernelIdeal.Gen

variable {D : Data} {h t : Fin 8}

theorem hn : 1024 ≤ 2048 := by decide

variable {v10 : FVec Ideal S256x128 .bf16} {v17 : FVec Ideal S256x64 .bf16} {v20 : FVec Ideal S256x128 .bf16}
  {v25 v27 : FVec Ideal S256x1 .f32} {v71 : Vec Ideal S1x1024x128 .f32} {v74 : Vec Ideal S1024x64 .f32} {v92 : Vec Ideal S1x1024x128 .f32}

/-- The attention weight. -/
theorem weight (hs : Ideal.ofBits .f32 0x3D93CD3A#32 = ((D.sc : ℝ) : EReal)) (P : Pre D h t v10 v17 v20 v25 v27)
    (K : Keys D h hn v71 v74 v92) (r : Fin 256) (j : Fin 1024) : k0_pay25 (BitVec.ofNat 32 t) v10 v17 v27 v71 v74 (ix2 r j) = ((D.w h (row t r) (key hn j) : ℝ) : EReal) := by
  refine Eq.trans ?_ (weight_of hs P K r j)
  unfold k0_pay25 k0_pay23 k0_pay24
  pointwise

/-- The gradient of the scores. -/
theorem grad (hs : Ideal.ofBits .f32 0x3D93CD3A#32 = ((D.sc : ℝ) : EReal)) (P : Pre D h t v10 v17 v20 v25 v27)
    (K : Keys D h hn v71 v74 v92) (r : Fin 256) (j : Fin 1024) :
    k0_pay26 (BitVec.ofNat 32 t) v10 v17 v20 v25 v27 v71 v74 v92 (ix2 r j) = ((D.ds h (row t r) (key hn j) : ℝ) : EReal) := by
  refine Eq.trans ?_ (grad_of hs P K r j (weight hs P K r j))
  unfold k0_pay26
  generalize k0_pay25 (BitVec.ofNat 32 t) v10 v17 v27 v71 v74 = A
  pointwise

/-- What the tile adds to the gradient of the plain keys. -/
theorem accK (hs : Ideal.ofBits .f32 0x3D93CD3A#32 = ((D.sc : ℝ) : EReal)) (P : Pre D h t v10 v17 v20 v25 v27)
    (K : Keys D h hn v71 v74 v92) (x : Vec Ideal S1024x128 .f32) (j : Fin 1024) (d : Fin 128) :
    k0_pay27 (BitVec.ofNat 32 t) v10 v17 v20 v25 v27 v71 v74 v92 x (ix2 j d)
      = x (ix2 j d) + ((∑ r, D.ds h (row t r) (key hn j) * D.qn h (row t r) d : ℝ) : EReal) := by
  refine Eq.trans ?_ (acc_of (fun r => grad hs P K r j) fun r => P.qn r d)
  unfold k0_pay27
  generalize k0_pay26 (BitVec.ofNat 32 t) v10 v17 v20 v25 v27 v71 v74 v92 = A
  pointwise

/-- What the tile adds to the gradient of the values. -/
theorem accV (hs : Ideal.ofBits .f32 0x3D93CD3A#32 = ((D.sc : ℝ) : EReal)) (P : Pre D h t v10 v17 v20 v25 v27)
    (K : Keys D h hn v71 v74 v92) (x : Vec Ideal S1024x128 .f32) (j : Fin 1024) (d : Fin 128) :
    k0_pay73 v20 (k0_pay25 (BitVec.ofNat 32 t) v10 v17 v27 v71 v74) x (ix2 j d)
      = x (ix2 j d) + ((∑ r, D.w h (row t r) (key hn j) * D.g h (row t r) d : ℝ) : EReal) := by
  refine Eq.trans ?_ (acc_of (fun r => weight hs P K r j) fun r => P.g r d)
  unfold k0_pay73
  generalize k0_pay25 (BitVec.ofNat 32 t) v10 v17 v27 v71 v74 = A
  pointwise

/-- What the tile adds to the gradient of the rotary keys. -/
theorem accP (hs : Ideal.ofBits .f32 0x3D93CD3A#32 = ((D.sc : ℝ) : EReal)) (P : Pre D h t v10 v17 v20 v25 v27)
    (K : Keys D h hn v71 v74 v92) (x : Vec Ideal S1024x64 .f32) (j : Fin 1024) (d : Fin 64) :
    k0_pay74 v17 (k0_pay26 (BitVec.ofNat 32 t) v10 v17 v20 v25 v27 v71 v74 v92) x (ix2 j d)
      = x (ix2 j d) + ((∑ r, D.ds h (row t r) (key hn j) * D.qr h (row t r) d : ℝ) : EReal) := by
  refine Eq.trans ?_ (acc_of (fun r => grad hs P K r j) fun r => P.qr r d)
  unfold k0_pay74
  generalize k0_pay26 (BitVec.ofNat 32 t) v10 v17 v20 v25 v27 v71 v74 v92 = A
  pointwise

/-- The gradient of the plain part of the tile's queries. -/
theorem dqN (ht : (t : ℕ) = 3) (hs : Ideal.ofBits .f32 0x3D93CD3A#32 = ((D.sc : ℝ) : EReal)) (P : Pre D h t v10 v17 v20 v25 v27)
    (K : Keys D h hn v71 v74 v92) (r : Fin 256) (d : Fin 128) :
    k0_pay75 (k0_pay23 v71) (k0_pay26 (BitVec.ofNat 32 t) v10 v17 v20 v25 v27 v71 v74 v92) (ix3 0 r d) = ((D.dq h (row t r) ⟨d, by omega⟩ : ℝ) : EReal) := by
  refine Eq.trans ?_ (dqN_of (by omega) K r d fun j => grad hs P K r j)
  unfold k0_pay75 k0_pay23
  generalize k0_pay26 (BitVec.ofNat 32 t) v10 v17 v20 v25 v27 v71 v74 v92 = A
  pointwise

/-- The gradient of the rotated part of the tile's queries. -/
theorem dqR (ht : (t : ℕ) = 3) (hs : Ideal.ofBits .f32 0x3D93CD3A#32 = ((D.sc : ℝ) : EReal)) (P : Pre D h t v10 v17 v20 v25 v27)
    (K : Keys D h hn v71 v74 v92) {a5 a6 : Vec Ideal S256x64 .f32} {a7 : Vec Ideal S64x64 .f32}
    (hc : ∀ (r : Fin 256) (d : Fin 64), a5 (ix2 r d) = ((D.cs2 (row t r) d : ℝ) : EReal))
    (hr : ∀ (r : Fin 256) (d : Fin 64), a6 (ix2 r d) = ((D.sn2 (row t r) d : ℝ) : EReal))
    (hm : ∀ x b : Fin 64, a7 (ix2 x b) = ((rot x b : ℝ) : EReal)) (r : Fin 256) (d : Fin 64) :
    k0_pay76 (k0_pay50 a5) (k0_pay51 a6) a7 (k0_pay24 v74) (k0_pay26 (BitVec.ofNat 32 t) v10 v17 v20 v25 v27 v71 v74 v92) (ix3 0 r d)
      = ((D.dq h (row t r) ⟨128 + d, by omega⟩ : ℝ) : EReal) := by
  refine Eq.trans ?_ (dqR_of (by omega) K r d (fun j => grad hs P K r j) hc hr hm)
  unfold k0_pay76 k0_pay24
  generalize k0_pay26 (BitVec.ofNat 32 t) v10 v17 v20 v25 v27 v71 v74 v92 = A
  generalize k0_pay50 a5 = B
  generalize k0_pay51 a6 = C
  pointwise

/-- The features past both parts are zero. -/
theorem dqZ (r : Fin 256) (d : Fin 64) : (k0_pay77 (F := Ideal)) (ix3 0 r d) = (0 : EReal) := by
  unfold k0_pay77
  pointwise

end Cert.Attn.Level1024

end
-- ==== Proof.CaseD.lean ====
/- Tile 3 of a head: what the kernel's body leaves in the two accumulators and in the block of the queries' gradients. -/
module

public import proofs.«01_k».proof.Proof.Stores
public import proofs.«01_k».proof.Proof.Level1024
public import proofs.«01_k».proof.Proof.Gen.KernelIdeal.Frame
import Idealize.ShloMosaic.Lib.Pipeline.ValueKit.Acc

@[expose] public section

set_option maxRecDepth 16384

noncomputable section

namespace Cert.Attn.Level1024

open Idealize.ShloMosaic Idealize.ShloMosaic.Tactic Cert.KernelIdeal Cert.KernelIdeal.Gen

variable {c : Dev nD} {i : grid0.Coords} {arg2 : Memref sig .tc .vmem S1x256x128 .f32} {harg2 : arg2.IsWhole} {arg3 : Memref sig .tc .vmem S1x256x128 .f32} {harg3 : arg3.IsWhole} {arg4 : Memref sig .tc .vmem S1x2048x128 .f32} {harg4 : arg4.IsWhole} {arg5 : Memref sig .tc .vmem S1x2048x128 .f32} {harg5 : arg5.IsWhole} {arg6 : Memref sig .tc .vmem S2048x64 .f32} {harg6 : arg6.IsWhole} {arg7 : Memref sig .tc .vmem S256x64 .f32} {harg7 : arg7.IsWhole} {arg8 : Memref sig .tc .vmem S256x64 .f32} {harg8 : arg8.IsWhole} {arg9 : Memref sig .tc .vmem S64x64 .f32} {harg9 : arg9.IsWhole} {arg10 : Memref sig .tc .vmem S1x256x128 .f32} {harg10 : arg10.IsWhole} {arg11 : Memref sig .tc .vmem S1x256x1 .f32} {harg11 : arg11.IsWhole} {arg12 : Memref sig .tc .vmem S1x256x128 .f32} {harg12 : arg12.IsWhole} {arg13 : Memref sig .tc .vmem S1x256x256 .bf16} {harg13 : arg13.IsWhole} {arg14 : Memref sig .tc .vmem S1x2048x256 .bf16} {harg14 : arg14.IsWhole} {arg15 : Memref sig .tc .vmem S1x2048x64 .f32} {harg15 : arg15.IsWhole} {arg16 : Memref sig .tc .vmem S2048x256 .f32} {harg16 : arg16.IsWhole} {arg17 : Memref sig .tc .vmem S2048x64 .f32} {harg17 : arg17.IsWhole} {hc0 : ¬cond0_0 i} {hc1 : ¬cond0_1 i} {hc2 : ¬cond0_2 i} {hc3 : ¬cond0_3 i} {hc4 : cond0_4 i} {hc5 : ¬cond0_5 i} {hc6 : ¬cond0_6 i} {hc7 : ¬cond0_7 i} {hc8 : ¬cond0_8 i} {hc9 : ¬cond0_9 i}
    {x0 : Vec Ideal S1x256x128 .f32} {x1 : Vec Ideal S1x256x128 .f32} {x2 : Vec Ideal S1x2048x128 .f32} {x3 : Vec Ideal S1x2048x128 .f32} {x4 : Vec Ideal S2048x64 .f32} {x5 : Vec Ideal S256x64 .f32} {x6 : Vec Ideal S256x64 .f32} {x7 : Vec Ideal S64x64 .f32} {x8 : Vec Ideal S1x256x128 .f32} {x9 : Vec Ideal S1x256x1 .f32} {x10 : Vec Ideal S1x256x128 .f32} {xs0 : Vec Ideal S2048x256 .f32} {xs1 : Vec Ideal S2048x64 .f32}

variable {D : Data} {h t : Fin 8}

/-- The accumulator of the gradient of the keys with their values. -/
theorem scr0 (B : Blk D h t x0 x1 x2 x3 x4 x5 x6 x7 x8 x9 x10) (ht : (t : ℕ) = 3) (hi : (i 1 : ℕ) = t) (A : Fin 2048 → Fin 256 → ℝ)
    (hA : ∀ j d, xs0 (ix2 j d) = ((A j d : ℝ) : EReal)) (j : Fin 2048) (d : Fin 256) :
    sout0_D_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix2 j d)
      = ((A j d + D.tkv h t j d : ℝ) : EReal) := by
  unfold sout0_D_0 kernelRun0_D
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x1024x128_0_0_0 inb_S2048x64_S1024x64_0_0
  refine kv_of (hn := hn) (by omega) _ _ _ _ _ _ _ A (fun j d hj => ?_) (fun j d => ?_) (fun j d => ?_) j d
  · rw [View.writes_nil, harg16.read_unread, hA]
  · exact (accK B.sc P K _ j d).trans (congrArg (· + _) ((ld2 xs0 _ j d (key hn j) ⟨d, by omega⟩ (Nat.zero_add _).symm (Nat.zero_add _).symm).trans (hA _ _)))
  · exact (accV B.sc P K _ j d).trans (congrArg (· + _) ((ld2 xs0 _ j d (key hn j) ⟨128 + d, by omega⟩ (Nat.zero_add _).symm rfl).trans (hA _ _)))

/-- The accumulator of the gradient of the rotary keys. -/
theorem scr1 (B : Blk D h t x0 x1 x2 x3 x4 x5 x6 x7 x8 x9 x10) (ht : (t : ℕ) = 3) (hi : (i 1 : ℕ) = t) (A : Fin 2048 → Fin 64 → ℝ)
    (hA : ∀ j d, xs1 (ix2 j d) = ((A j d : ℝ) : EReal)) (j : Fin 2048) (d : Fin 64) :
    sout0_D_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix2 j d)
      = ((A j d + D.tkp h t j d : ℝ) : EReal) := by
  unfold sout0_D_1 kernelRun0_D
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x1024x128_0_0_0 inb_S2048x64_S1024x64_0_0
  refine kp_of (hn := hn) (by omega) _ _ _ _ _ A (fun j d hj => ?_) (fun j d => ?_) j d
  · rw [View.writes_nil, harg17.read_unread, hA]
  · exact (accP B.sc P K _ j d).trans (congrArg (· + _) ((ld2 xs1 _ j d (key hn j) d (Nat.zero_add _).symm (Nat.zero_add _).symm).trans (hA _ _)))

/-- The block of the queries' gradients. -/
theorem outq (B : Blk D h t x0 x1 x2 x3 x4 x5 x6 x7 x8 x9 x10) (ht : (t : ℕ) = 3) (hi : (i 1 : ℕ) = t) (r : Fin 256) (d : Fin 256) :
    out0_D_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix3 0 r d)
      = ((D.dq h (row t r) d : ℝ) : EReal) := by
  unfold out0_D_11 kernelRun0_D
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x1024x128_0_0_0 inb_S2048x64_S1024x64_0_0
  refine q_of _ _ _ _ _ _ _ _ _ (fun r d => ?_) (fun r d => ?_) (fun r d => ?_) r d
  · exact dqN ht B.sc P K r d
  · exact dqR ht B.sc P K B.loads.cs B.loads.sn B.loads.rot r d
  · exact dqZ r d

end Cert.Attn.Level1024

end
-- ==== Proof.Level1280.lean ====
/- One level of the kernel's causal sweep: a tile against the first 1280 keys. Each stored value is read entry by entry as
   the real number the specification names. -/
module

public import proofs.«01_k».proof.Proof.Level

@[expose] public section

set_option maxRecDepth 16384

noncomputable section

namespace Cert.Attn.Level1280

open Idealize.ShloMosaic Cert.KernelIdeal Cert.KernelIdeal.Gen

variable {D : Data} {h t : Fin 8}

theorem hn : 1280 ≤ 2048 := by decide

variable {v10 : FVec Ideal S256x128 .bf16} {v17 : FVec Ideal S256x64 .bf16} {v20 : FVec Ideal S256x128 .bf16}
  {v25 v27 : FVec Ideal S256x1 .f32} {v71 : Vec Ideal S1x1280x128 .f32} {v74 : Vec Ideal S1280x64 .f32} {v92 : Vec Ideal S1x1280x128 .f32}

/-- The attention weight. -/
theorem weight (hs : Ideal.ofBits .f32 0x3D93CD3A#32 = ((D.sc : ℝ) : EReal)) (P : Pre D h t v10 v17 v20 v25 v27)
    (K : Keys D h hn v71 v74 v92) (r : Fin 256) (j : Fin 1280) : k0_pay30 (BitVec.ofNat 32 t) v10 v17 v27 v71 v74 (ix2 r j) = ((D.w h (row t r) (key hn j) : ℝ) : EReal) := by
  refine Eq.trans ?_ (weight_of hs P K r j)
  unfold k0_pay30 k0_pay28 k0_pay29
  pointwise

/-- The gradient of the scores. -/
theorem grad (hs : Ideal.ofBits .f32 0x3D93CD3A#32 = ((D.sc : ℝ) : EReal)) (P : Pre D h t v10 v17 v20 v25 v27)
    (K : Keys D h hn v71 v74 v92) (r : Fin 256) (j : Fin 1280) :
    k0_pay31 (BitVec.ofNat 32 t) v10 v17 v20 v25 v27 v71 v74 v92 (ix2 r j) = ((D.ds h (row t r) (key hn j) : ℝ) : EReal) := by
  refine Eq.trans ?_ (grad_of hs P K r j (weight hs P K r j))
  unfold k0_pay31
  generalize k0_pay30 (BitVec.ofNat 32 t) v10 v17 v27 v71 v74 = A
  pointwise

/-- What the tile adds to the gradient of the plain keys. -/
theorem accK (hs : Ideal.ofBits .f32 0x3D93CD3A#32 = ((D.sc : ℝ) : EReal)) (P : Pre D h t v10 v17 v20 v25 v27)
    (K : Keys D h hn v71 v74 v92) (x : Vec Ideal S1280x128 .f32) (j : Fin 1280) (d : Fin 128) :
    k0_pay32 (BitVec.ofNat 32 t) v10 v17 v20 v25 v27 v71 v74 v92 x (ix2 j d)
      = x (ix2 j d) + ((∑ r, D.ds h (row t r) (key hn j) * D.qn h (row t r) d : ℝ) : EReal) := by
  refine Eq.trans ?_ (acc_of (fun r => grad hs P K r j) fun r => P.qn r d)
  unfold k0_pay32
  generalize k0_pay31 (BitVec.ofNat 32 t) v10 v17 v20 v25 v27 v71 v74 v92 = A
  pointwise

/-- What the tile adds to the gradient of the values. -/
theorem accV (hs : Ideal.ofBits .f32 0x3D93CD3A#32 = ((D.sc : ℝ) : EReal)) (P : Pre D h t v10 v17 v20 v25 v27)
    (K : Keys D h hn v71 v74 v92) (x : Vec Ideal S1280x128 .f32) (j : Fin 1280) (d : Fin 128) :
    k0_pay78 v20 (k0_pay30 (BitVec.ofNat 32 t) v10 v17 v27 v71 v74) x (ix2 j d)
      = x (ix2 j d) + ((∑ r, D.w h (row t r) (key hn j) * D.g h (row t r) d : ℝ) : EReal) := by
  refine Eq.trans ?_ (acc_of (fun r => weight hs P K r j) fun r => P.g r d)
  unfold k0_pay78
  generalize k0_pay30 (BitVec.ofNat 32 t) v10 v17 v27 v71 v74 = A
  pointwise

/-- What the tile adds to the gradient of the rotary keys. -/
theorem accP (hs : Ideal.ofBits .f32 0x3D93CD3A#32 = ((D.sc : ℝ) : EReal)) (P : Pre D h t v10 v17 v20 v25 v27)
    (K : Keys D h hn v71 v74 v92) (x : Vec Ideal S1280x64 .f32) (j : Fin 1280) (d : Fin 64) :
    k0_pay79 v17 (k0_pay31 (BitVec.ofNat 32 t) v10 v17 v20 v25 v27 v71 v74 v92) x (ix2 j d)
      = x (ix2 j d) + ((∑ r, D.ds h (row t r) (key hn j) * D.qr h (row t r) d : ℝ) : EReal) := by
  refine Eq.trans ?_ (acc_of (fun r => grad hs P K r j) fun r => P.qr r d)
  unfold k0_pay79
  generalize k0_pay31 (BitVec.ofNat 32 t) v10 v17 v20 v25 v27 v71 v74 v92 = A
  pointwise

/-- The gradient of the plain part of the tile's queries. -/
theorem dqN (ht : (t : ℕ) = 4) (hs : Ideal.ofBits .f32 0x3D93CD3A#32 = ((D.sc : ℝ) : EReal)) (P : Pre D h t v10 v17 v20 v25 v27)
    (K : Keys D h hn v71 v74 v92) (r : Fin 256) (d : Fin 128) :
    k0_pay80 (k0_pay28 v71) (k0_pay31 (BitVec.ofNat 32 t) v10 v17 v20 v25 v27 v71 v74 v92) (ix3 0 r d) = ((D.dq h (row t r) ⟨d, by omega⟩ : ℝ) : EReal) := by
  refine Eq.trans ?_ (dqN_of (by omega) K r d fun j => grad hs P K r j)
  unfold k0_pay80 k0_pay28
  generalize k0_pay31 (BitVec.ofNat 32 t) v10 v17 v20 v25 v27 v71 v74 v92 = A
  pointwise

/-- The gradient of the rotated part of the tile's queries. -/
theorem dqR (ht : (t : ℕ) = 4) (hs : Ideal.ofBits .f32 0x3D93CD3A#32 = ((D.sc : ℝ) : EReal)) (P : Pre D h t v10 v17 v20 v25 v27)
    (K : Keys D h hn v71 v74 v92) {a5 a6 : Vec Ideal S256x64 .f32} {a7 : Vec Ideal S64x64 .f32}
    (hc : ∀ (r : Fin 256) (d : Fin 64), a5 (ix2 r d) = ((D.cs2 (row t r) d : ℝ) : EReal))
    (hr : ∀ (r : Fin 256) (d : Fin 64), a6 (ix2 r d) = ((D.sn2 (row t r) d : ℝ) : EReal))
    (hm : ∀ x b : Fin 64, a7 (ix2 x b) = ((rot x b : ℝ) : EReal)) (r : Fin 256) (d : Fin 64) :
    k0_pay81 (k0_pay50 a5) (k0_pay51 a6) a7 (k0_pay29 v74) (k0_pay31 (BitVec.ofNat 32 t) v10 v17 v20 v25 v27 v71 v74 v92) (ix3 0 r d)
      = ((D.dq h (row t r) ⟨128 + d, by omega⟩ : ℝ) : EReal) := by
  refine Eq.trans ?_ (dqR_of (by omega) K r d (fun j => grad hs P K r j) hc hr hm)
  unfold k0_pay81 k0_pay29
  generalize k0_pay31 (BitVec.ofNat 32 t) v10 v17 v20 v25 v27 v71 v74 v92 = A
  generalize k0_pay50 a5 = B
  generalize k0_pay51 a6 = C
  pointwise

/-- The features past both parts are zero. -/
theorem dqZ (r : Fin 256) (d : Fin 64) : (k0_pay82 (F := Ideal)) (ix3 0 r d) = (0 : EReal) := by
  unfold k0_pay82
  pointwise

end Cert.Attn.Level1280

end
-- ==== Proof.CaseE.lean ====
/- Tile 4 of a head: what the kernel's body leaves in the two accumulators and in the block of the queries' gradients. -/
module

public import proofs.«01_k».proof.Proof.Stores
public import proofs.«01_k».proof.Proof.Level1280
public import proofs.«01_k».proof.Proof.Gen.KernelIdeal.Frame
import Idealize.ShloMosaic.Lib.Pipeline.ValueKit.Acc

@[expose] public section

set_option maxRecDepth 16384

noncomputable section

namespace Cert.Attn.Level1280

open Idealize.ShloMosaic Idealize.ShloMosaic.Tactic Cert.KernelIdeal Cert.KernelIdeal.Gen

variable {c : Dev nD} {i : grid0.Coords} {arg2 : Memref sig .tc .vmem S1x256x128 .f32} {harg2 : arg2.IsWhole} {arg3 : Memref sig .tc .vmem S1x256x128 .f32} {harg3 : arg3.IsWhole} {arg4 : Memref sig .tc .vmem S1x2048x128 .f32} {harg4 : arg4.IsWhole} {arg5 : Memref sig .tc .vmem S1x2048x128 .f32} {harg5 : arg5.IsWhole} {arg6 : Memref sig .tc .vmem S2048x64 .f32} {harg6 : arg6.IsWhole} {arg7 : Memref sig .tc .vmem S256x64 .f32} {harg7 : arg7.IsWhole} {arg8 : Memref sig .tc .vmem S256x64 .f32} {harg8 : arg8.IsWhole} {arg9 : Memref sig .tc .vmem S64x64 .f32} {harg9 : arg9.IsWhole} {arg10 : Memref sig .tc .vmem S1x256x128 .f32} {harg10 : arg10.IsWhole} {arg11 : Memref sig .tc .vmem S1x256x1 .f32} {harg11 : arg11.IsWhole} {arg12 : Memref sig .tc .vmem S1x256x128 .f32} {harg12 : arg12.IsWhole} {arg13 : Memref sig .tc .vmem S1x256x256 .bf16} {harg13 : arg13.IsWhole} {arg14 : Memref sig .tc .vmem S1x2048x256 .bf16} {harg14 : arg14.IsWhole} {arg15 : Memref sig .tc .vmem S1x2048x64 .f32} {harg15 : arg15.IsWhole} {arg16 : Memref sig .tc .vmem S2048x256 .f32} {harg16 : arg16.IsWhole} {arg17 : Memref sig .tc .vmem S2048x64 .f32} {harg17 : arg17.IsWhole} {hc0 : ¬cond0_0 i} {hc1 : ¬cond0_1 i} {hc2 : ¬cond0_2 i} {hc3 : ¬cond0_3 i} {hc4 : ¬cond0_4 i} {hc5 : cond0_5 i} {hc6 : ¬cond0_6 i} {hc7 : ¬cond0_7 i} {hc8 : ¬cond0_8 i} {hc9 : ¬cond0_9 i}
    {x0 : Vec Ideal S1x256x128 .f32} {x1 : Vec Ideal S1x256x128 .f32} {x2 : Vec Ideal S1x2048x128 .f32} {x3 : Vec Ideal S1x2048x128 .f32} {x4 : Vec Ideal S2048x64 .f32} {x5 : Vec Ideal S256x64 .f32} {x6 : Vec Ideal S256x64 .f32} {x7 : Vec Ideal S64x64 .f32} {x8 : Vec Ideal S1x256x128 .f32} {x9 : Vec Ideal S1x256x1 .f32} {x10 : Vec Ideal S1x256x128 .f32} {xs0 : Vec Ideal S2048x256 .f32} {xs1 : Vec Ideal S2048x64 .f32}

variable {D : Data} {h t : Fin 8}

/-- The accumulator of the gradient of the keys with their values. -/
theorem scr0 (B : Blk D h t x0 x1 x2 x3 x4 x5 x6 x7 x8 x9 x10) (ht : (t : ℕ) = 4) (hi : (i 1 : ℕ) = t) (A : Fin 2048 → Fin 256 → ℝ)
    (hA : ∀ j d, xs0 (ix2 j d) = ((A j d : ℝ) : EReal)) (j : Fin 2048) (d : Fin 256) :
    sout0_E_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix2 j d)
      = ((A j d + D.tkv h t j d : ℝ) : EReal) := by
  unfold sout0_E_0 kernelRun0_E
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x1280x128_0_0_0 inb_S2048x64_S1280x64_0_0
  refine kv_of (hn := hn) (by omega) _ _ _ _ _ _ _ A (fun j d hj => ?_) (fun j d => ?_) (fun j d => ?_) j d
  · rw [View.writes_nil, harg16.read_unread, hA]
  · exact (accK B.sc P K _ j d).trans (congrArg (· + _) ((ld2 xs0 _ j d (key hn j) ⟨d, by omega⟩ (Nat.zero_add _).symm (Nat.zero_add _).symm).trans (hA _ _)))
  · exact (accV B.sc P K _ j d).trans (congrArg (· + _) ((ld2 xs0 _ j d (key hn j) ⟨128 + d, by omega⟩ (Nat.zero_add _).symm rfl).trans (hA _ _)))

/-- The accumulator of the gradient of the rotary keys. -/
theorem scr1 (B : Blk D h t x0 x1 x2 x3 x4 x5 x6 x7 x8 x9 x10) (ht : (t : ℕ) = 4) (hi : (i 1 : ℕ) = t) (A : Fin 2048 → Fin 64 → ℝ)
    (hA : ∀ j d, xs1 (ix2 j d) = ((A j d : ℝ) : EReal)) (j : Fin 2048) (d : Fin 64) :
    sout0_E_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix2 j d)
      = ((A j d + D.tkp h t j d : ℝ) : EReal) := by
  unfold sout0_E_1 kernelRun0_E
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x1280x128_0_0_0 inb_S2048x64_S1280x64_0_0
  refine kp_of (hn := hn) (by omega) _ _ _ _ _ A (fun j d hj => ?_) (fun j d => ?_) j d
  · rw [View.writes_nil, harg17.read_unread, hA]
  · exact (accP B.sc P K _ j d).trans (congrArg (· + _) ((ld2 xs1 _ j d (key hn j) d (Nat.zero_add _).symm (Nat.zero_add _).symm).trans (hA _ _)))

/-- The block of the queries' gradients. -/
theorem outq (B : Blk D h t x0 x1 x2 x3 x4 x5 x6 x7 x8 x9 x10) (ht : (t : ℕ) = 4) (hi : (i 1 : ℕ) = t) (r : Fin 256) (d : Fin 256) :
    out0_E_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix3 0 r d)
      = ((D.dq h (row t r) d : ℝ) : EReal) := by
  unfold out0_E_11 kernelRun0_E
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x1280x128_0_0_0 inb_S2048x64_S1280x64_0_0
  refine q_of _ _ _ _ _ _ _ _ _ (fun r d => ?_) (fun r d => ?_) (fun r d => ?_) r d
  · exact dqN ht B.sc P K r d
  · exact dqR ht B.sc P K B.loads.cs B.loads.sn B.loads.rot r d
  · exact dqZ r d

end Cert.Attn.Level1280

end
-- ==== Proof.Level1536.lean ====
/- One level of the kernel's causal sweep: a tile against the first 1536 keys. Each stored value is read entry by entry as
   the real number the specification names. -/
module

public import proofs.«01_k».proof.Proof.Level

@[expose] public section

set_option maxRecDepth 16384

noncomputable section

namespace Cert.Attn.Level1536

open Idealize.ShloMosaic Cert.KernelIdeal Cert.KernelIdeal.Gen

variable {D : Data} {h t : Fin 8}

theorem hn : 1536 ≤ 2048 := by decide

variable {v10 : FVec Ideal S256x128 .bf16} {v17 : FVec Ideal S256x64 .bf16} {v20 : FVec Ideal S256x128 .bf16}
  {v25 v27 : FVec Ideal S256x1 .f32} {v71 : Vec Ideal S1x1536x128 .f32} {v74 : Vec Ideal S1536x64 .f32} {v92 : Vec Ideal S1x1536x128 .f32}

/-- The attention weight. -/
theorem weight (hs : Ideal.ofBits .f32 0x3D93CD3A#32 = ((D.sc : ℝ) : EReal)) (P : Pre D h t v10 v17 v20 v25 v27)
    (K : Keys D h hn v71 v74 v92) (r : Fin 256) (j : Fin 1536) : k0_pay35 (BitVec.ofNat 32 t) v10 v17 v27 v71 v74 (ix2 r j) = ((D.w h (row t r) (key hn j) : ℝ) : EReal) := by
  refine Eq.trans ?_ (weight_of hs P K r j)
  unfold k0_pay35 k0_pay33 k0_pay34
  pointwise

/-- The gradient of the scores. -/
theorem grad (hs : Ideal.ofBits .f32 0x3D93CD3A#32 = ((D.sc : ℝ) : EReal)) (P : Pre D h t v10 v17 v20 v25 v27)
    (K : Keys D h hn v71 v74 v92) (r : Fin 256) (j : Fin 1536) :
    k0_pay36 (BitVec.ofNat 32 t) v10 v17 v20 v25 v27 v71 v74 v92 (ix2 r j) = ((D.ds h (row t r) (key hn j) : ℝ) : EReal) := by
  refine Eq.trans ?_ (grad_of hs P K r j (weight hs P K r j))
  unfold k0_pay36
  generalize k0_pay35 (BitVec.ofNat 32 t) v10 v17 v27 v71 v74 = A
  pointwise

/-- What the tile adds to the gradient of the plain keys. -/
theorem accK (hs : Ideal.ofBits .f32 0x3D93CD3A#32 = ((D.sc : ℝ) : EReal)) (P : Pre D h t v10 v17 v20 v25 v27)
    (K : Keys D h hn v71 v74 v92) (x : Vec Ideal S1536x128 .f32) (j : Fin 1536) (d : Fin 128) :
    k0_pay37 (BitVec.ofNat 32 t) v10 v17 v20 v25 v27 v71 v74 v92 x (ix2 j d)
      = x (ix2 j d) + ((∑ r, D.ds h (row t r) (key hn j) * D.qn h (row t r) d : ℝ) : EReal) := by
  refine Eq.trans ?_ (acc_of (fun r => grad hs P K r j) fun r => P.qn r d)
  unfold k0_pay37
  generalize k0_pay36 (BitVec.ofNat 32 t) v10 v17 v20 v25 v27 v71 v74 v92 = A
  pointwise

/-- What the tile adds to the gradient of the values. -/
theorem accV (hs : Ideal.ofBits .f32 0x3D93CD3A#32 = ((D.sc : ℝ) : EReal)) (P : Pre D h t v10 v17 v20 v25 v27)
    (K : Keys D h hn v71 v74 v92) (x : Vec Ideal S1536x128 .f32) (j : Fin 1536) (d : Fin 128) :
    k0_pay83 v20 (k0_pay35 (BitVec.ofNat 32 t) v10 v17 v27 v71 v74) x (ix2 j d)
      = x (ix2 j d) + ((∑ r, D.w h (row t r) (key hn j) * D.g h (row t r) d : ℝ) : EReal) := by
  refine Eq.trans ?_ (acc_of (fun r => weight hs P K r j) fun r => P.g r d)
  unfold k0_pay83
  generalize k0_pay35 (BitVec.ofNat 32 t) v10 v17 v27 v71 v74 = A
  pointwise

/-- What the tile adds to the gradient of the rotary keys. -/
theorem accP (hs : Ideal.ofBits .f32 0x3D93CD3A#32 = ((D.sc : ℝ) : EReal)) (P : Pre D h t v10 v17 v20 v25 v27)
    (K : Keys D h hn v71 v74 v92) (x : Vec Ideal S1536x64 .f32) (j : Fin 1536) (d : Fin 64) :
    k0_pay84 v17 (k0_pay36 (BitVec.ofNat 32 t) v10 v17 v20 v25 v27 v71 v74 v92) x (ix2 j d)
      = x (ix2 j d) + ((∑ r, D.ds h (row t r) (key hn j) * D.qr h (row t r) d : ℝ) : EReal) := by
  refine Eq.trans ?_ (acc_of (fun r => grad hs P K r j) fun r => P.qr r d)
  unfold k0_pay84
  generalize k0_pay36 (BitVec.ofNat 32 t) v10 v17 v20 v25 v27 v71 v74 v92 = A
  pointwise

/-- The gradient of the plain part of the tile's queries. -/
theorem dqN (ht : (t : ℕ) = 5) (hs : Ideal.ofBits .f32 0x3D93CD3A#32 = ((D.sc : ℝ) : EReal)) (P : Pre D h t v10 v17 v20 v25 v27)
    (K : Keys D h hn v71 v74 v92) (r : Fin 256) (d : Fin 128) :
    k0_pay85 (k0_pay33 v71) (k0_pay36 (BitVec.ofNat 32 t) v10 v17 v20 v25 v27 v71 v74 v92) (ix3 0 r d) = ((D.dq h (row t r) ⟨d, by omega⟩ : ℝ) : EReal) := by
  refine Eq.trans ?_ (dqN_of (by omega) K r d fun j => grad hs P K r j)
  unfold k0_pay85 k0_pay33
  generalize k0_pay36 (BitVec.ofNat 32 t) v10 v17 v20 v25 v27 v71 v74 v92 = A
  pointwise

/-- The gradient of the rotated part of the tile's queries. -/
theorem dqR (ht : (t : ℕ) = 5) (hs : Ideal.ofBits .f32 0x3D93CD3A#32 = ((D.sc : ℝ) : EReal)) (P : Pre D h t v10 v17 v20 v25 v27)
    (K : Keys D h hn v71 v74 v92) {a5 a6 : Vec Ideal S256x64 .f32} {a7 : Vec Ideal S64x64 .f32}
    (hc : ∀ (r : Fin 256) (d : Fin 64), a5 (ix2 r d) = ((D.cs2 (row t r) d : ℝ) : EReal))
    (hr : ∀ (r : Fin 256) (d : Fin 64), a6 (ix2 r d) = ((D.sn2 (row t r) d : ℝ) : EReal))
    (hm : ∀ x b : Fin 64, a7 (ix2 x b) = ((rot x b : ℝ) : EReal)) (r : Fin 256) (d : Fin 64) :
    k0_pay86 (k0_pay50 a5) (k0_pay51 a6) a7 (k0_pay34 v74) (k0_pay36 (BitVec.ofNat 32 t) v10 v17 v20 v25 v27 v71 v74 v92) (ix3 0 r d)
      = ((D.dq h (row t r) ⟨128 + d, by omega⟩ : ℝ) : EReal) := by
  refine Eq.trans ?_ (dqR_of (by omega) K r d (fun j => grad hs P K r j) hc hr hm)
  unfold k0_pay86 k0_pay34
  generalize k0_pay36 (BitVec.ofNat 32 t) v10 v17 v20 v25 v27 v71 v74 v92 = A
  generalize k0_pay50 a5 = B
  generalize k0_pay51 a6 = C
  pointwise

/-- The features past both parts are zero. -/
theorem dqZ (r : Fin 256) (d : Fin 64) : (k0_pay87 (F := Ideal)) (ix3 0 r d) = (0 : EReal) := by
  unfold k0_pay87
  pointwise

end Cert.Attn.Level1536

end
-- ==== Proof.CaseF.lean ====
/- Tile 5 of a head: what the kernel's body leaves in the two accumulators and in the block of the queries' gradients. -/
module

public import proofs.«01_k».proof.Proof.Stores
public import proofs.«01_k».proof.Proof.Level1536
public import proofs.«01_k».proof.Proof.Gen.KernelIdeal.Frame
import Idealize.ShloMosaic.Lib.Pipeline.ValueKit.Acc

@[expose] public section

set_option maxRecDepth 16384

noncomputable section

namespace Cert.Attn.Level1536

open Idealize.ShloMosaic Idealize.ShloMosaic.Tactic Cert.KernelIdeal Cert.KernelIdeal.Gen

variable {c : Dev nD} {i : grid0.Coords} {arg2 : Memref sig .tc .vmem S1x256x128 .f32} {harg2 : arg2.IsWhole} {arg3 : Memref sig .tc .vmem S1x256x128 .f32} {harg3 : arg3.IsWhole} {arg4 : Memref sig .tc .vmem S1x2048x128 .f32} {harg4 : arg4.IsWhole} {arg5 : Memref sig .tc .vmem S1x2048x128 .f32} {harg5 : arg5.IsWhole} {arg6 : Memref sig .tc .vmem S2048x64 .f32} {harg6 : arg6.IsWhole} {arg7 : Memref sig .tc .vmem S256x64 .f32} {harg7 : arg7.IsWhole} {arg8 : Memref sig .tc .vmem S256x64 .f32} {harg8 : arg8.IsWhole} {arg9 : Memref sig .tc .vmem S64x64 .f32} {harg9 : arg9.IsWhole} {arg10 : Memref sig .tc .vmem S1x256x128 .f32} {harg10 : arg10.IsWhole} {arg11 : Memref sig .tc .vmem S1x256x1 .f32} {harg11 : arg11.IsWhole} {arg12 : Memref sig .tc .vmem S1x256x128 .f32} {harg12 : arg12.IsWhole} {arg13 : Memref sig .tc .vmem S1x256x256 .bf16} {harg13 : arg13.IsWhole} {arg14 : Memref sig .tc .vmem S1x2048x256 .bf16} {harg14 : arg14.IsWhole} {arg15 : Memref sig .tc .vmem S1x2048x64 .f32} {harg15 : arg15.IsWhole} {arg16 : Memref sig .tc .vmem S2048x256 .f32} {harg16 : arg16.IsWhole} {arg17 : Memref sig .tc .vmem S2048x64 .f32} {harg17 : arg17.IsWhole} {hc0 : ¬cond0_0 i} {hc1 : ¬cond0_1 i} {hc2 : ¬cond0_2 i} {hc3 : ¬cond0_3 i} {hc4 : ¬cond0_4 i} {hc5 : ¬cond0_5 i} {hc6 : cond0_6 i} {hc7 : ¬cond0_7 i} {hc8 : ¬cond0_8 i} {hc9 : ¬cond0_9 i}
    {x0 : Vec Ideal S1x256x128 .f32} {x1 : Vec Ideal S1x256x128 .f32} {x2 : Vec Ideal S1x2048x128 .f32} {x3 : Vec Ideal S1x2048x128 .f32} {x4 : Vec Ideal S2048x64 .f32} {x5 : Vec Ideal S256x64 .f32} {x6 : Vec Ideal S256x64 .f32} {x7 : Vec Ideal S64x64 .f32} {x8 : Vec Ideal S1x256x128 .f32} {x9 : Vec Ideal S1x256x1 .f32} {x10 : Vec Ideal S1x256x128 .f32} {xs0 : Vec Ideal S2048x256 .f32} {xs1 : Vec Ideal S2048x64 .f32}

variable {D : Data} {h t : Fin 8}

/-- The accumulator of the gradient of the keys with their values. -/
theorem scr0 (B : Blk D h t x0 x1 x2 x3 x4 x5 x6 x7 x8 x9 x10) (ht : (t : ℕ) = 5) (hi : (i 1 : ℕ) = t) (A : Fin 2048 → Fin 256 → ℝ)
    (hA : ∀ j d, xs0 (ix2 j d) = ((A j d : ℝ) : EReal)) (j : Fin 2048) (d : Fin 256) :
    sout0_F_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix2 j d)
      = ((A j d + D.tkv h t j d : ℝ) : EReal) := by
  unfold sout0_F_0 kernelRun0_F
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x1536x128_0_0_0 inb_S2048x64_S1536x64_0_0
  refine kv_of (hn := hn) (by omega) _ _ _ _ _ _ _ A (fun j d hj => ?_) (fun j d => ?_) (fun j d => ?_) j d
  · rw [View.writes_nil, harg16.read_unread, hA]
  · exact (accK B.sc P K _ j d).trans (congrArg (· + _) ((ld2 xs0 _ j d (key hn j) ⟨d, by omega⟩ (Nat.zero_add _).symm (Nat.zero_add _).symm).trans (hA _ _)))
  · exact (accV B.sc P K _ j d).trans (congrArg (· + _) ((ld2 xs0 _ j d (key hn j) ⟨128 + d, by omega⟩ (Nat.zero_add _).symm rfl).trans (hA _ _)))

/-- The accumulator of the gradient of the rotary keys. -/
theorem scr1 (B : Blk D h t x0 x1 x2 x3 x4 x5 x6 x7 x8 x9 x10) (ht : (t : ℕ) = 5) (hi : (i 1 : ℕ) = t) (A : Fin 2048 → Fin 64 → ℝ)
    (hA : ∀ j d, xs1 (ix2 j d) = ((A j d : ℝ) : EReal)) (j : Fin 2048) (d : Fin 64) :
    sout0_F_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix2 j d)
      = ((A j d + D.tkp h t j d : ℝ) : EReal) := by
  unfold sout0_F_1 kernelRun0_F
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x1536x128_0_0_0 inb_S2048x64_S1536x64_0_0
  refine kp_of (hn := hn) (by omega) _ _ _ _ _ A (fun j d hj => ?_) (fun j d => ?_) j d
  · rw [View.writes_nil, harg17.read_unread, hA]
  · exact (accP B.sc P K _ j d).trans (congrArg (· + _) ((ld2 xs1 _ j d (key hn j) d (Nat.zero_add _).symm (Nat.zero_add _).symm).trans (hA _ _)))

/-- The block of the queries' gradients. -/
theorem outq (B : Blk D h t x0 x1 x2 x3 x4 x5 x6 x7 x8 x9 x10) (ht : (t : ℕ) = 5) (hi : (i 1 : ℕ) = t) (r : Fin 256) (d : Fin 256) :
    out0_F_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix3 0 r d)
      = ((D.dq h (row t r) d : ℝ) : EReal) := by
  unfold out0_F_11 kernelRun0_F
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x1536x128_0_0_0 inb_S2048x64_S1536x64_0_0
  refine q_of _ _ _ _ _ _ _ _ _ (fun r d => ?_) (fun r d => ?_) (fun r d => ?_) r d
  · exact dqN ht B.sc P K r d
  · exact dqR ht B.sc P K B.loads.cs B.loads.sn B.loads.rot r d
  · exact dqZ r d

end Cert.Attn.Level1536

end
-- ==== Proof.Level1792.lean ====
/- One level of the kernel's causal sweep: a tile against the first 1792 keys. Each stored value is read entry by entry as
   the real number the specification names. -/
module

public import proofs.«01_k».proof.Proof.Level

@[expose] public section

set_option maxRecDepth 16384

noncomputable section

namespace Cert.Attn.Level1792

open Idealize.ShloMosaic Cert.KernelIdeal Cert.KernelIdeal.Gen

variable {D : Data} {h t : Fin 8}

theorem hn : 1792 ≤ 2048 := by decide

variable {v10 : FVec Ideal S256x128 .bf16} {v17 : FVec Ideal S256x64 .bf16} {v20 : FVec Ideal S256x128 .bf16}
  {v25 v27 : FVec Ideal S256x1 .f32} {v71 : Vec Ideal S1x1792x128 .f32} {v74 : Vec Ideal S1792x64 .f32} {v92 : Vec Ideal S1x1792x128 .f32}

/-- The attention weight. -/
theorem weight (hs : Ideal.ofBits .f32 0x3D93CD3A#32 = ((D.sc : ℝ) : EReal)) (P : Pre D h t v10 v17 v20 v25 v27)
    (K : Keys D h hn v71 v74 v92) (r : Fin 256) (j : Fin 1792) : k0_pay40 (BitVec.ofNat 32 t) v10 v17 v27 v71 v74 (ix2 r j) = ((D.w h (row t r) (key hn j) : ℝ) : EReal) := by
  refine Eq.trans ?_ (weight_of hs P K r j)
  unfold k0_pay40 k0_pay38 k0_pay39
  pointwise

/-- The gradient of the scores. -/
theorem grad (hs : Ideal.ofBits .f32 0x3D93CD3A#32 = ((D.sc : ℝ) : EReal)) (P : Pre D h t v10 v17 v20 v25 v27)
    (K : Keys D h hn v71 v74 v92) (r : Fin 256) (j : Fin 1792) :
    k0_pay41 (BitVec.ofNat 32 t) v10 v17 v20 v25 v27 v71 v74 v92 (ix2 r j) = ((D.ds h (row t r) (key hn j) : ℝ) : EReal) := by
  refine Eq.trans ?_ (grad_of hs P K r j (weight hs P K r j))
  unfold k0_pay41
  generalize k0_pay40 (BitVec.ofNat 32 t) v10 v17 v27 v71 v74 = A
  pointwise

/-- What the tile adds to the gradient of the plain keys. -/
theorem accK (hs : Ideal.ofBits .f32 0x3D93CD3A#32 = ((D.sc : ℝ) : EReal)) (P : Pre D h t v10 v17 v20 v25 v27)
    (K : Keys D h hn v71 v74 v92) (x : Vec Ideal S1792x128 .f32) (j : Fin 1792) (d : Fin 128) :
    k0_pay42 (BitVec.ofNat 32 t) v10 v17 v20 v25 v27 v71 v74 v92 x (ix2 j d)
      = x (ix2 j d) + ((∑ r, D.ds h (row t r) (key hn j) * D.qn h (row t r) d : ℝ) : EReal) := by
  refine Eq.trans ?_ (acc_of (fun r => grad hs P K r j) fun r => P.qn r d)
  unfold k0_pay42
  generalize k0_pay41 (BitVec.ofNat 32 t) v10 v17 v20 v25 v27 v71 v74 v92 = A
  pointwise

/-- What the tile adds to the gradient of the values. -/
theorem accV (hs : Ideal.ofBits .f32 0x3D93CD3A#32 = ((D.sc : ℝ) : EReal)) (P : Pre D h t v10 v17 v20 v25 v27)
    (K : Keys D h hn v71 v74 v92) (x : Vec Ideal S1792x128 .f32) (j : Fin 1792) (d : Fin 128) :
    k0_pay88 v20 (k0_pay40 (BitVec.ofNat 32 t) v10 v17 v27 v71 v74) x (ix2 j d)
      = x (ix2 j d) + ((∑ r, D.w h (row t r) (key hn j) * D.g h (row t r) d : ℝ) : EReal) := by
  refine Eq.trans ?_ (acc_of (fun r => weight hs P K r j) fun r => P.g r d)
  unfold k0_pay88
  generalize k0_pay40 (BitVec.ofNat 32 t) v10 v17 v27 v71 v74 = A
  pointwise

/-- What the tile adds to the gradient of the rotary keys. -/
theorem accP (hs : Ideal.ofBits .f32 0x3D93CD3A#32 = ((D.sc : ℝ) : EReal)) (P : Pre D h t v10 v17 v20 v25 v27)
    (K : Keys D h hn v71 v74 v92) (x : Vec Ideal S1792x64 .f32) (j : Fin 1792) (d : Fin 64) :
    k0_pay89 v17 (k0_pay41 (BitVec.ofNat 32 t) v10 v17 v20 v25 v27 v71 v74 v92) x (ix2 j d)
      = x (ix2 j d) + ((∑ r, D.ds h (row t r) (key hn j) * D.qr h (row t r) d : ℝ) : EReal) := by
  refine Eq.trans ?_ (acc_of (fun r => grad hs P K r j) fun r => P.qr r d)
  unfold k0_pay89
  generalize k0_pay41 (BitVec.ofNat 32 t) v10 v17 v20 v25 v27 v71 v74 v92 = A
  pointwise

/-- The gradient of the plain part of the tile's queries. -/
theorem dqN (ht : (t : ℕ) = 6) (hs : Ideal.ofBits .f32 0x3D93CD3A#32 = ((D.sc : ℝ) : EReal)) (P : Pre D h t v10 v17 v20 v25 v27)
    (K : Keys D h hn v71 v74 v92) (r : Fin 256) (d : Fin 128) :
    k0_pay90 (k0_pay38 v71) (k0_pay41 (BitVec.ofNat 32 t) v10 v17 v20 v25 v27 v71 v74 v92) (ix3 0 r d) = ((D.dq h (row t r) ⟨d, by omega⟩ : ℝ) : EReal) := by
  refine Eq.trans ?_ (dqN_of (by omega) K r d fun j => grad hs P K r j)
  unfold k0_pay90 k0_pay38
  generalize k0_pay41 (BitVec.ofNat 32 t) v10 v17 v20 v25 v27 v71 v74 v92 = A
  pointwise

/-- The gradient of the rotated part of the tile's queries. -/
theorem dqR (ht : (t : ℕ) = 6) (hs : Ideal.ofBits .f32 0x3D93CD3A#32 = ((D.sc : ℝ) : EReal)) (P : Pre D h t v10 v17 v20 v25 v27)
    (K : Keys D h hn v71 v74 v92) {a5 a6 : Vec Ideal S256x64 .f32} {a7 : Vec Ideal S64x64 .f32}
    (hc : ∀ (r : Fin 256) (d : Fin 64), a5 (ix2 r d) = ((D.cs2 (row t r) d : ℝ) : EReal))
    (hr : ∀ (r : Fin 256) (d : Fin 64), a6 (ix2 r d) = ((D.sn2 (row t r) d : ℝ) : EReal))
    (hm : ∀ x b : Fin 64, a7 (ix2 x b) = ((rot x b : ℝ) : EReal)) (r : Fin 256) (d : Fin 64) :
    k0_pay91 (k0_pay50 a5) (k0_pay51 a6) a7 (k0_pay39 v74) (k0_pay41 (BitVec.ofNat 32 t) v10 v17 v20 v25 v27 v71 v74 v92) (ix3 0 r d)
      = ((D.dq h (row t r) ⟨128 + d, by omega⟩ : ℝ) : EReal) := by
  refine Eq.trans ?_ (dqR_of (by omega) K r d (fun j => grad hs P K r j) hc hr hm)
  unfold k0_pay91 k0_pay39
  generalize k0_pay41 (BitVec.ofNat 32 t) v10 v17 v20 v25 v27 v71 v74 v92 = A
  generalize k0_pay50 a5 = B
  generalize k0_pay51 a6 = C
  pointwise

/-- The features past both parts are zero. -/
theorem dqZ (r : Fin 256) (d : Fin 64) : (k0_pay92 (F := Ideal)) (ix3 0 r d) = (0 : EReal) := by
  unfold k0_pay92
  pointwise

end Cert.Attn.Level1792

end
-- ==== Proof.CaseG.lean ====
/- Tile 6 of a head: what the kernel's body leaves in the two accumulators and in the block of the queries' gradients. -/
module

public import proofs.«01_k».proof.Proof.Stores
public import proofs.«01_k».proof.Proof.Level1792
public import proofs.«01_k».proof.Proof.Gen.KernelIdeal.Frame
import Idealize.ShloMosaic.Lib.Pipeline.ValueKit.Acc

@[expose] public section

set_option maxRecDepth 16384

noncomputable section

namespace Cert.Attn.Level1792

open Idealize.ShloMosaic Idealize.ShloMosaic.Tactic Cert.KernelIdeal Cert.KernelIdeal.Gen

variable {c : Dev nD} {i : grid0.Coords} {arg2 : Memref sig .tc .vmem S1x256x128 .f32} {harg2 : arg2.IsWhole} {arg3 : Memref sig .tc .vmem S1x256x128 .f32} {harg3 : arg3.IsWhole} {arg4 : Memref sig .tc .vmem S1x2048x128 .f32} {harg4 : arg4.IsWhole} {arg5 : Memref sig .tc .vmem S1x2048x128 .f32} {harg5 : arg5.IsWhole} {arg6 : Memref sig .tc .vmem S2048x64 .f32} {harg6 : arg6.IsWhole} {arg7 : Memref sig .tc .vmem S256x64 .f32} {harg7 : arg7.IsWhole} {arg8 : Memref sig .tc .vmem S256x64 .f32} {harg8 : arg8.IsWhole} {arg9 : Memref sig .tc .vmem S64x64 .f32} {harg9 : arg9.IsWhole} {arg10 : Memref sig .tc .vmem S1x256x128 .f32} {harg10 : arg10.IsWhole} {arg11 : Memref sig .tc .vmem S1x256x1 .f32} {harg11 : arg11.IsWhole} {arg12 : Memref sig .tc .vmem S1x256x128 .f32} {harg12 : arg12.IsWhole} {arg13 : Memref sig .tc .vmem S1x256x256 .bf16} {harg13 : arg13.IsWhole} {arg14 : Memref sig .tc .vmem S1x2048x256 .bf16} {harg14 : arg14.IsWhole} {arg15 : Memref sig .tc .vmem S1x2048x64 .f32} {harg15 : arg15.IsWhole} {arg16 : Memref sig .tc .vmem S2048x256 .f32} {harg16 : arg16.IsWhole} {arg17 : Memref sig .tc .vmem S2048x64 .f32} {harg17 : arg17.IsWhole} {hc0 : ¬cond0_0 i} {hc1 : ¬cond0_1 i} {hc2 : ¬cond0_2 i} {hc3 : ¬cond0_3 i} {hc4 : ¬cond0_4 i} {hc5 : ¬cond0_5 i} {hc6 : ¬cond0_6 i} {hc7 : cond0_7 i} {hc8 : ¬cond0_8 i} {hc9 : ¬cond0_9 i}
    {x0 : Vec Ideal S1x256x128 .f32} {x1 : Vec Ideal S1x256x128 .f32} {x2 : Vec Ideal S1x2048x128 .f32} {x3 : Vec Ideal S1x2048x128 .f32} {x4 : Vec Ideal S2048x64 .f32} {x5 : Vec Ideal S256x64 .f32} {x6 : Vec Ideal S256x64 .f32} {x7 : Vec Ideal S64x64 .f32} {x8 : Vec Ideal S1x256x128 .f32} {x9 : Vec Ideal S1x256x1 .f32} {x10 : Vec Ideal S1x256x128 .f32} {xs0 : Vec Ideal S2048x256 .f32} {xs1 : Vec Ideal S2048x64 .f32}

variable {D : Data} {h t : Fin 8}

/-- The accumulator of the gradient of the keys with their values. -/
theorem scr0 (B : Blk D h t x0 x1 x2 x3 x4 x5 x6 x7 x8 x9 x10) (ht : (t : ℕ) = 6) (hi : (i 1 : ℕ) = t) (A : Fin 2048 → Fin 256 → ℝ)
    (hA : ∀ j d, xs0 (ix2 j d) = ((A j d : ℝ) : EReal)) (j : Fin 2048) (d : Fin 256) :
    sout0_G_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix2 j d)
      = ((A j d + D.tkv h t j d : ℝ) : EReal) := by
  unfold sout0_G_0 kernelRun0_G
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x1792x128_0_0_0 inb_S2048x64_S1792x64_0_0
  refine kv_of (hn := hn) (by omega) _ _ _ _ _ _ _ A (fun j d hj => ?_) (fun j d => ?_) (fun j d => ?_) j d
  · rw [View.writes_nil, harg16.read_unread, hA]
  · exact (accK B.sc P K _ j d).trans (congrArg (· + _) ((ld2 xs0 _ j d (key hn j) ⟨d, by omega⟩ (Nat.zero_add _).symm (Nat.zero_add _).symm).trans (hA _ _)))
  · exact (accV B.sc P K _ j d).trans (congrArg (· + _) ((ld2 xs0 _ j d (key hn j) ⟨128 + d, by omega⟩ (Nat.zero_add _).symm rfl).trans (hA _ _)))

/-- The accumulator of the gradient of the rotary keys. -/
theorem scr1 (B : Blk D h t x0 x1 x2 x3 x4 x5 x6 x7 x8 x9 x10) (ht : (t : ℕ) = 6) (hi : (i 1 : ℕ) = t) (A : Fin 2048 → Fin 64 → ℝ)
    (hA : ∀ j d, xs1 (ix2 j d) = ((A j d : ℝ) : EReal)) (j : Fin 2048) (d : Fin 64) :
    sout0_G_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix2 j d)
      = ((A j d + D.tkp h t j d : ℝ) : EReal) := by
  unfold sout0_G_1 kernelRun0_G
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x1792x128_0_0_0 inb_S2048x64_S1792x64_0_0
  refine kp_of (hn := hn) (by omega) _ _ _ _ _ A (fun j d hj => ?_) (fun j d => ?_) j d
  · rw [View.writes_nil, harg17.read_unread, hA]
  · exact (accP B.sc P K _ j d).trans (congrArg (· + _) ((ld2 xs1 _ j d (key hn j) d (Nat.zero_add _).symm (Nat.zero_add _).symm).trans (hA _ _)))

/-- The block of the queries' gradients. -/
theorem outq (B : Blk D h t x0 x1 x2 x3 x4 x5 x6 x7 x8 x9 x10) (ht : (t : ℕ) = 6) (hi : (i 1 : ℕ) = t) (r : Fin 256) (d : Fin 256) :
    out0_G_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix3 0 r d)
      = ((D.dq h (row t r) d : ℝ) : EReal) := by
  unfold out0_G_11 kernelRun0_G
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x1792x128_0_0_0 inb_S2048x64_S1792x64_0_0
  refine q_of _ _ _ _ _ _ _ _ _ (fun r d => ?_) (fun r d => ?_) (fun r d => ?_) r d
  · exact dqN ht B.sc P K r d
  · exact dqR ht B.sc P K B.loads.cs B.loads.sn B.loads.rot r d
  · exact dqZ r d

end Cert.Attn.Level1792

end
-- ==== Proof.Level2048.lean ====
/- One level of the kernel's causal sweep: a tile against the first 2048 keys. Each stored value is read entry by entry as
   the real number the specification names. -/
module

public import proofs.«01_k».proof.Proof.Level

@[expose] public section

set_option maxRecDepth 16384

noncomputable section

namespace Cert.Attn.Level2048

open Idealize.ShloMosaic Cert.KernelIdeal Cert.KernelIdeal.Gen

variable {D : Data} {h t : Fin 8}

theorem hn : 2048 ≤ 2048 := by decide

variable {v10 : FVec Ideal S256x128 .bf16} {v17 : FVec Ideal S256x64 .bf16} {v20 : FVec Ideal S256x128 .bf16}
  {v25 v27 : FVec Ideal S256x1 .f32} {v71 : Vec Ideal S1x2048x128 .f32} {v74 : Vec Ideal S2048x64 .f32} {v92 : Vec Ideal S1x2048x128 .f32}

/-- The attention weight. -/
theorem weight (hs : Ideal.ofBits .f32 0x3D93CD3A#32 = ((D.sc : ℝ) : EReal)) (P : Pre D h t v10 v17 v20 v25 v27)
    (K : Keys D h hn v71 v74 v92) (r : Fin 256) (j : Fin 2048) : k0_pay45 (BitVec.ofNat 32 t) v10 v17 v27 v71 v74 (ix2 r j) = ((D.w h (row t r) (key hn j) : ℝ) : EReal) := by
  refine Eq.trans ?_ (weight_of hs P K r j)
  unfold k0_pay45 k0_pay43 k0_pay44
  pointwise

/-- The gradient of the scores. -/
theorem grad (hs : Ideal.ofBits .f32 0x3D93CD3A#32 = ((D.sc : ℝ) : EReal)) (P : Pre D h t v10 v17 v20 v25 v27)
    (K : Keys D h hn v71 v74 v92) (r : Fin 256) (j : Fin 2048) :
    k0_pay46 (BitVec.ofNat 32 t) v10 v17 v20 v25 v27 v71 v74 v92 (ix2 r j) = ((D.ds h (row t r) (key hn j) : ℝ) : EReal) := by
  refine Eq.trans ?_ (grad_of hs P K r j (weight hs P K r j))
  unfold k0_pay46
  generalize k0_pay45 (BitVec.ofNat 32 t) v10 v17 v27 v71 v74 = A
  pointwise

/-- What the tile adds to the gradient of the plain keys. -/
theorem accK (hs : Ideal.ofBits .f32 0x3D93CD3A#32 = ((D.sc : ℝ) : EReal)) (P : Pre D h t v10 v17 v20 v25 v27)
    (K : Keys D h hn v71 v74 v92) (x : Vec Ideal S2048x128 .f32) (j : Fin 2048) (d : Fin 128) :
    k0_pay47 (BitVec.ofNat 32 t) v10 v17 v20 v25 v27 v71 v74 v92 x (ix2 j d)
      = x (ix2 j d) + ((∑ r, D.ds h (row t r) (key hn j) * D.qn h (row t r) d : ℝ) : EReal) := by
  refine Eq.trans ?_ (acc_of (fun r => grad hs P K r j) fun r => P.qn r d)
  unfold k0_pay47
  generalize k0_pay46 (BitVec.ofNat 32 t) v10 v17 v20 v25 v27 v71 v74 v92 = A
  pointwise

/-- What the tile adds to the gradient of the values. -/
theorem accV (hs : Ideal.ofBits .f32 0x3D93CD3A#32 = ((D.sc : ℝ) : EReal)) (P : Pre D h t v10 v17 v20 v25 v27)
    (K : Keys D h hn v71 v74 v92) (x : Vec Ideal S2048x128 .f32) (j : Fin 2048) (d : Fin 128) :
    k0_pay1 v20 (k0_pay45 (BitVec.ofNat 32 t) v10 v17 v27 v71 v74) x (ix2 j d)
      = x (ix2 j d) + ((∑ r, D.w h (row t r) (key hn j) * D.g h (row t r) d : ℝ) : EReal) := by
  refine Eq.trans ?_ (acc_of (fun r => weight hs P K r j) fun r => P.g r d)
  unfold k0_pay1
  generalize k0_pay45 (BitVec.ofNat 32 t) v10 v17 v27 v71 v74 = A
  pointwise

/-- What the tile adds to the gradient of the rotary keys. -/
theorem accP (hs : Ideal.ofBits .f32 0x3D93CD3A#32 = ((D.sc : ℝ) : EReal)) (P : Pre D h t v10 v17 v20 v25 v27)
    (K : Keys D h hn v71 v74 v92) (x : Vec Ideal S2048x64 .f32) (j : Fin 2048) (d : Fin 64) :
    k0_pay2 v17 (k0_pay46 (BitVec.ofNat 32 t) v10 v17 v20 v25 v27 v71 v74 v92) x (ix2 j d)
      = x (ix2 j d) + ((∑ r, D.ds h (row t r) (key hn j) * D.qr h (row t r) d : ℝ) : EReal) := by
  refine Eq.trans ?_ (acc_of (fun r => grad hs P K r j) fun r => P.qr r d)
  unfold k0_pay2
  generalize k0_pay46 (BitVec.ofNat 32 t) v10 v17 v20 v25 v27 v71 v74 v92 = A
  pointwise

/-- The gradient of the plain part of the tile's queries. -/
theorem dqN (ht : (t : ℕ) = 7) (hs : Ideal.ofBits .f32 0x3D93CD3A#32 = ((D.sc : ℝ) : EReal)) (P : Pre D h t v10 v17 v20 v25 v27)
    (K : Keys D h hn v71 v74 v92) (r : Fin 256) (d : Fin 128) :
    k0_pay3 (k0_pay43 v71) (k0_pay46 (BitVec.ofNat 32 t) v10 v17 v20 v25 v27 v71 v74 v92) (ix3 0 r d) = ((D.dq h (row t r) ⟨d, by omega⟩ : ℝ) : EReal) := by
  refine Eq.trans ?_ (dqN_of (by omega) K r d fun j => grad hs P K r j)
  unfold k0_pay3 k0_pay43
  generalize k0_pay46 (BitVec.ofNat 32 t) v10 v17 v20 v25 v27 v71 v74 v92 = A
  pointwise

/-- The gradient of the rotated part of the tile's queries. -/
theorem dqR (ht : (t : ℕ) = 7) (hs : Ideal.ofBits .f32 0x3D93CD3A#32 = ((D.sc : ℝ) : EReal)) (P : Pre D h t v10 v17 v20 v25 v27)
    (K : Keys D h hn v71 v74 v92) {a5 a6 : Vec Ideal S256x64 .f32} {a7 : Vec Ideal S64x64 .f32}
    (hc : ∀ (r : Fin 256) (d : Fin 64), a5 (ix2 r d) = ((D.cs2 (row t r) d : ℝ) : EReal))
    (hr : ∀ (r : Fin 256) (d : Fin 64), a6 (ix2 r d) = ((D.sn2 (row t r) d : ℝ) : EReal))
    (hm : ∀ x b : Fin 64, a7 (ix2 x b) = ((rot x b : ℝ) : EReal)) (r : Fin 256) (d : Fin 64) :
    k0_pay4 (k0_pay50 a5) (k0_pay51 a6) a7 (k0_pay44 v74) (k0_pay46 (BitVec.ofNat 32 t) v10 v17 v20 v25 v27 v71 v74 v92) (ix3 0 r d)
      = ((D.dq h (row t r) ⟨128 + d, by omega⟩ : ℝ) : EReal) := by
  refine Eq.trans ?_ (dqR_of (by omega) K r d (fun j => grad hs P K r j) hc hr hm)
  unfold k0_pay4 k0_pay44
  generalize k0_pay46 (BitVec.ofNat 32 t) v10 v17 v20 v25 v27 v71 v74 v92 = A
  generalize k0_pay50 a5 = B
  generalize k0_pay51 a6 = C
  pointwise

/-- The features past both parts are zero. -/
theorem dqZ (r : Fin 256) (d : Fin 64) : (k0_pay5 (F := Ideal)) (ix3 0 r d) = (0 : EReal) := by
  unfold k0_pay5
  pointwise

end Cert.Attn.Level2048

end
-- ==== Proof.CaseH.lean ====
/- The last tile of a head: what the kernel's body leaves in the two accumulators and in the block of the queries' gradients, and what it writes back of the accumulators. -/
module

public import proofs.«01_k».proof.Proof.Stores
public import proofs.«01_k».proof.Proof.Level2048
public import proofs.«01_k».proof.Proof.Gen.KernelIdeal.Frame
import Idealize.ShloMosaic.Lib.Pipeline.ValueKit.Acc

@[expose] public section

set_option maxRecDepth 16384

noncomputable section

namespace Cert.Attn.Level2048

open Idealize.ShloMosaic Idealize.ShloMosaic.Tactic Cert.KernelIdeal Cert.KernelIdeal.Gen

variable {c : Dev nD} {i : grid0.Coords} {arg2 : Memref sig .tc .vmem S1x256x128 .f32} {harg2 : arg2.IsWhole} {arg3 : Memref sig .tc .vmem S1x256x128 .f32} {harg3 : arg3.IsWhole} {arg4 : Memref sig .tc .vmem S1x2048x128 .f32} {harg4 : arg4.IsWhole} {arg5 : Memref sig .tc .vmem S1x2048x128 .f32} {harg5 : arg5.IsWhole} {arg6 : Memref sig .tc .vmem S2048x64 .f32} {harg6 : arg6.IsWhole} {arg7 : Memref sig .tc .vmem S256x64 .f32} {harg7 : arg7.IsWhole} {arg8 : Memref sig .tc .vmem S256x64 .f32} {harg8 : arg8.IsWhole} {arg9 : Memref sig .tc .vmem S64x64 .f32} {harg9 : arg9.IsWhole} {arg10 : Memref sig .tc .vmem S1x256x128 .f32} {harg10 : arg10.IsWhole} {arg11 : Memref sig .tc .vmem S1x256x1 .f32} {harg11 : arg11.IsWhole} {arg12 : Memref sig .tc .vmem S1x256x128 .f32} {harg12 : arg12.IsWhole} {arg13 : Memref sig .tc .vmem S1x256x256 .bf16} {harg13 : arg13.IsWhole} {arg14 : Memref sig .tc .vmem S1x2048x256 .bf16} {harg14 : arg14.IsWhole} {arg15 : Memref sig .tc .vmem S1x2048x64 .f32} {harg15 : arg15.IsWhole} {arg16 : Memref sig .tc .vmem S2048x256 .f32} {harg16 : arg16.IsWhole} {arg17 : Memref sig .tc .vmem S2048x64 .f32} {harg17 : arg17.IsWhole} {hc0 : ¬cond0_0 i} {hc1 : ¬cond0_1 i} {hc2 : ¬cond0_2 i} {hc3 : ¬cond0_3 i} {hc4 : ¬cond0_4 i} {hc5 : ¬cond0_5 i} {hc6 : ¬cond0_6 i} {hc7 : ¬cond0_7 i} {hc8 : cond0_8 i} {hc9 : cond0_9 i}
    {x0 : Vec Ideal S1x256x128 .f32} {x1 : Vec Ideal S1x256x128 .f32} {x2 : Vec Ideal S1x2048x128 .f32} {x3 : Vec Ideal S1x2048x128 .f32} {x4 : Vec Ideal S2048x64 .f32} {x5 : Vec Ideal S256x64 .f32} {x6 : Vec Ideal S256x64 .f32} {x7 : Vec Ideal S64x64 .f32} {x8 : Vec Ideal S1x256x128 .f32} {x9 : Vec Ideal S1x256x1 .f32} {x10 : Vec Ideal S1x256x128 .f32} {xs0 : Vec Ideal S2048x256 .f32} {xs1 : Vec Ideal S2048x64 .f32}

variable {D : Data} {h t : Fin 8}

theorem pay6_at (v : Vec Ideal S2048x256 .f32) (j : Fin 2048) (d : Fin 256) : k0_pay6 v (ix3 0 j d) = v (ix2 j d) := by
  unfold k0_pay6; pointwise

theorem pay7_at (v : Vec Ideal S2048x64 .f32) (j : Fin 2048) (d : Fin 64) : k0_pay7 v (ix3 0 j d) = v (ix2 j d) := by
  unfold k0_pay7; pointwise

/-- The accumulator of the gradient of the keys with their values. -/
theorem scr0 (B : Blk D h t x0 x1 x2 x3 x4 x5 x6 x7 x8 x9 x10) (ht : (t : ℕ) = 7) (hi : (i 1 : ℕ) = t) (A : Fin 2048 → Fin 256 → ℝ)
    (hA : ∀ j d, xs0 (ix2 j d) = ((A j d : ℝ) : EReal)) (j : Fin 2048) (d : Fin 256) :
    sout0_H_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix2 j d)
      = ((A j d + D.tkv h t j d : ℝ) : EReal) := by
  unfold sout0_H_0 kernelRun0_H
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x2048x128_0_0_0 inb_S2048x64_S2048x64_0_0
  refine kv_of (hn := hn) (by omega) _ _ _ _ _ _ _ A (fun j d hj => ?_) (fun j d => ?_) (fun j d => ?_) j d
  · exact absurd j.isLt (by omega)
  · exact (accK B.sc P K _ j d).trans (congrArg (· + _) ((ld2 xs0 _ j d (key hn j) ⟨d, by omega⟩ (Nat.zero_add _).symm (Nat.zero_add _).symm).trans (hA _ _)))
  · exact (accV B.sc P K _ j d).trans (congrArg (· + _) ((ld2 xs0 _ j d (key hn j) ⟨128 + d, by omega⟩ (Nat.zero_add _).symm rfl).trans (hA _ _)))

/-- The accumulator of the gradient of the rotary keys. -/
theorem scr1 (B : Blk D h t x0 x1 x2 x3 x4 x5 x6 x7 x8 x9 x10) (ht : (t : ℕ) = 7) (hi : (i 1 : ℕ) = t) (A : Fin 2048 → Fin 64 → ℝ)
    (hA : ∀ j d, xs1 (ix2 j d) = ((A j d : ℝ) : EReal)) (j : Fin 2048) (d : Fin 64) :
    sout0_H_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix2 j d)
      = ((A j d + D.tkp h t j d : ℝ) : EReal) := by
  unfold sout0_H_1 kernelRun0_H
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x2048x128_0_0_0 inb_S2048x64_S2048x64_0_0
  refine kp_of (hn := hn) (by omega) _ _ _ _ _ A (fun j d hj => ?_) (fun j d => ?_) j d
  · exact absurd j.isLt (by omega)
  · exact (accP B.sc P K _ j d).trans (congrArg (· + _) ((ld2 xs1 _ j d (key hn j) d (Nat.zero_add _).symm (Nat.zero_add _).symm).trans (hA _ _)))

/-- The block of the queries' gradients. -/
theorem outq (B : Blk D h t x0 x1 x2 x3 x4 x5 x6 x7 x8 x9 x10) (ht : (t : ℕ) = 7) (hi : (i 1 : ℕ) = t) (r : Fin 256) (d : Fin 256) :
    out0_H_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix3 0 r d)
      = ((D.dq h (row t r) d : ℝ) : EReal) := by
  unfold out0_H_11 kernelRun0_H
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x2048x128_0_0_0 inb_S2048x64_S2048x64_0_0
  refine q_of _ _ _ _ _ _ _ _ _ (fun r d => ?_) (fun r d => ?_) (fun r d => ?_) r d
  · exact dqN ht B.sc P K r d
  · exact dqR ht B.sc P K B.loads.cs B.loads.sn B.loads.rot r d
  · exact dqZ r d

/-- What the last tile writes back of the gradient of the keys with their values. -/
theorem outkv (B : Blk D h t x0 x1 x2 x3 x4 x5 x6 x7 x8 x9 x10) (ht : (t : ℕ) = 7) (hi : (i 1 : ℕ) = t) (A : Fin 2048 → Fin 256 → ℝ)
    (hA : ∀ j d, xs0 (ix2 j d) = ((A j d : ℝ) : EReal)) (j : Fin 2048) (d : Fin 256) :
    out0_H_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix3 0 j d)
      = ((A j d + D.tkv h t j d : ℝ) : EReal) := by
  unfold out0_H_12 kernelRun0_H
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x2048x128_0_0_0 inb_S2048x64_S2048x64_0_0
  refine (read3_hit _ _ _ _ _ 0 j d 0 j d (Nat.zero_add _).symm (Nat.zero_add _).symm (Nat.zero_add _).symm).trans ?_
  refine (pay6_at _ j d).trans ?_
  rw [readCov2 arg16.view _ _ j d j d (Nat.zero_add _).symm (Nat.zero_add _).symm]
  refine kv_of (hn := hn) (by omega) _ _ _ _ _ _ _ A (fun j d hj => ?_) (fun j d => ?_) (fun j d => ?_) j d
  · exact absurd j.isLt (by omega)
  · exact (accK B.sc P K _ j d).trans (congrArg (· + _) ((ld2 xs0 _ j d (key hn j) ⟨d, by omega⟩ (Nat.zero_add _).symm (Nat.zero_add _).symm).trans (hA _ _)))
  · exact (accV B.sc P K _ j d).trans (congrArg (· + _) ((ld2 xs0 _ j d (key hn j) ⟨128 + d, by omega⟩ (Nat.zero_add _).symm rfl).trans (hA _ _)))

/-- What the last tile writes back of the gradient of the rotary keys. -/
theorem outkp (B : Blk D h t x0 x1 x2 x3 x4 x5 x6 x7 x8 x9 x10) (ht : (t : ℕ) = 7) (hi : (i 1 : ℕ) = t) (A : Fin 2048 → Fin 64 → ℝ)
    (hA : ∀ j d, xs1 (ix2 j d) = ((A j d : ℝ) : EReal)) (j : Fin 2048) (d : Fin 64) :
    out0_H_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 hc4 hc5 hc6 hc7 hc8 hc9 x0 x1 x2 x3 x4 x5 x6 x7 x8 x9 x10 xs0 xs1 (ix3 0 j d)
      = ((A j d + D.tkp h t j d : ℝ) : EReal) := by
  unfold out0_H_13 kernelRun0_H
  dsimp only
  sl_unfold_words
  simp only [View.readAt_eq_ld, harg2.read_unread, harg3.read_unread, harg4.read_unread, harg5.read_unread,
    harg6.read_unread, harg7.read_unread, harg8.read_unread, harg9.read_unread, harg10.read_unread, harg11.read_unread,
    harg12.read_unread, harg16.read_unread, harg17.read_unread]
  simp only [hi]
  have P := B.loads.pre
  have K := B.keys hn inb_S1x2048x128_S1x2048x128_0_0_0 inb_S2048x64_S2048x64_0_0
  refine (read3_hit _ _ _ _ _ 0 j d 0 j d (Nat.zero_add _).symm (Nat.zero_add _).symm (Nat.zero_add _).symm).trans ?_
  refine (pay7_at _ j d).trans ?_
  rw [readCov2 arg17.view _ _ j d j d (Nat.zero_add _).symm (Nat.zero_add _).symm]
  refine kp_of (hn := hn) (by omega) _ _ _ _ _ A (fun j d hj => ?_) (fun j d => ?_) j d
  · exact absurd j.isLt (by omega)
  · exact (accP B.sc P K _ j d).trans (congrArg (· + _) ((ld2 xs1 _ j d (key hn j) d (Nat.zero_add _).symm (Nat.zero_add _).symm).trans (hA _ _)))

end Cert.Attn.Level2048

end
-- ==== Proof.Fold.lean ====
/- The sweep of a head's eight tiles: after tile `t` the accumulators hold the sums of what tiles `0 … t` add, the block of
   the queries' gradients holds tile `t`'s, and after the last tile the output blocks of the keys' gradients hold the sums. -/
module

public import proofs.«01_k».proof.Proof.Blocks
public import proofs.«01_k».proof.Proof.CaseA
public import proofs.«01_k».proof.Proof.CaseB
public import proofs.«01_k».proof.Proof.CaseC
public import proofs.«01_k».proof.Proof.CaseD
public import proofs.«01_k».proof.Proof.CaseE
public import proofs.«01_k».proof.Proof.CaseF
public import proofs.«01_k».proof.Proof.CaseG
public import proofs.«01_k».proof.Proof.CaseH

@[expose] public section

set_option maxRecDepth 16384

noncomputable section

namespace Cert.Attn

open Idealize.ShloMosaic Cert.KernelIdeal Cert.KernelIdeal.Gen Cert.KernelIdeal.Value

namespace Data

variable (D : Data)

/-- What tiles `0 … n` add to the gradient of key `j` with its value. -/
def akv (h : Fin 8) (n : ℕ) (j : Fin 2048) (c : Fin 256) : ℝ :=
  ∑ s ∈ Finset.range (n + 1), if hs : s < 8 then D.tkv h ⟨s, hs⟩ j c else 0

/-- What tiles `0 … n` add to the gradient of rotary key `j`. -/
def akp (h : Fin 8) (n : ℕ) (j : Fin 2048) (d : Fin 64) : ℝ :=
  ∑ s ∈ Finset.range (n + 1), if hs : s < 8 then D.tkp h ⟨s, hs⟩ j d else 0

theorem akv_zero (h : Fin 8) (j : Fin 2048) (c : Fin 256) : D.akv h 0 j c = D.tkv h 0 j c := by simp [akv]

theorem akp_zero (h : Fin 8) (j : Fin 2048) (d : Fin 64) : D.akp h 0 j d = D.tkp h 0 j d := by simp [akp]

theorem akv_succ (h : Fin 8) (n : ℕ) (hn : n + 1 < 8) (j : Fin 2048) (c : Fin 256) :
    D.akv h (n + 1) j c = D.akv h n j c + D.tkv h ⟨n + 1, hn⟩ j c := by
  unfold akv
  rw [Finset.sum_range_succ _ (n + 1), dif_pos hn]

theorem akp_succ (h : Fin 8) (n : ℕ) (hn : n + 1 < 8) (j : Fin 2048) (d : Fin 64) :
    D.akp h (n + 1) j d = D.akp h n j d + D.tkp h ⟨n + 1, hn⟩ j d := by
  unfold akp
  rw [Finset.sum_range_succ _ (n + 1), dif_pos hn]

theorem akv_last (h : Fin 8) (j : Fin 2048) (c : Fin 256) : D.akv h 7 j c = D.dkv h j c := by
  rw [← D.sum_tkv]
  unfold akv
  rw [Finset.sum_range]
  refine Finset.sum_congr rfl fun s _ => ?_
  rw [dif_pos s.isLt]

theorem akp_last (h : Fin 8) (j : Fin 2048) (d : Fin 64) : D.akp h 7 j d = D.dkp h j d := by
  rw [← D.sum_tkp]
  unfold akp
  rw [Finset.sum_range]
  refine Finset.sum_congr rfl fun s _ => ?_
  rw [dif_pos s.isLt]

end Data

/-- The carried state: the three output blocks and the two accumulators. -/
abbrev Carried := Vec Ideal S1x256x256 .bf16 × Vec Ideal S1x2048x256 .bf16 × Vec Ideal S1x2048x64 .f32 × Vec Ideal S2048x256 .f32 × Vec Ideal S2048x64 .f32

/-- The carried state after tile `t` of head `h`, with the accumulators at the sums of tiles `0 … n`. -/
structure After (D : Data) (h t : Fin 8) (n : ℕ) (st : Carried) : Prop where
  q : ∀ (r : Fin 256) (d : Fin 256), st.1 (ix3 0 r d) = ((D.dq h (row t r) d : ℝ) : EReal)
  kv : ∀ (j : Fin 2048) (d : Fin 256), st.2.2.2.1 (ix2 j d) = ((D.akv h n j d : ℝ) : EReal)
  kp : ∀ (j : Fin 2048) (d : Fin 64), st.2.2.2.2 (ix2 j d) = ((D.akp h n j d : ℝ) : EReal)

variable (m : (ℓ : Loc nD τ sig) → Buf (Elt Ideal) ℓ) (c : Dev nD) {D : Data}

/-- Tile 0. -/
theorem tile0 (hD : Host.HoldsAt D m c) (h : Fin 8) (p : Fin cfg0.N) (hp : p.val = 8 * h + 0) (acc : Carried) :
    After D h 0 0 (stAt0 m c p.val p.isLt acc) := by
  have B := blk_at m c hD p h 0 hp
  have hi := tile_coord p
  rw [show p.val % 8 = 0 by omega] at hi
  rw [stAt0_A m c p acc (by omega) (by omega) (by omega) (by omega) (by omega) (by omega) (by omega) (by omega) (by omega) (by omega)]
  refine ⟨fun r d => ?_, fun j d => ?_, fun j d => ?_⟩ <;> dsimp only
  · exact Level256.outq B rfl hi r d
  · rw [Level256.scr0 B rfl hi j d, D.akv_zero]
  · rw [Level256.scr1 B rfl hi j d, D.akp_zero]

/-- Tile 1. -/
theorem tile1 (hD : Host.HoldsAt D m c) (h : Fin 8) (p : Fin cfg0.N) (hp : p.val = 8 * h + 1) (acc : Carried) (hacc : After D h 0 0 acc) :
    After D h 1 1 (stAt0 m c p.val p.isLt acc) := by
  have B := blk_at m c hD p h 1 hp
  have hi := tile_coord p
  rw [show p.val % 8 = 1 by omega] at hi
  rw [stAt0_B m c p acc (by omega) (by omega) (by omega) (by omega) (by omega) (by omega) (by omega) (by omega) (by omega) (by omega)]
  refine ⟨fun r d => ?_, fun j d => ?_, fun j d => ?_⟩ <;> dsimp only
  · exact Level512.outq B rfl hi r d
  · rw [Level512.scr0 B rfl hi (D.akv h 0) hacc.kv j d, D.akv_succ h 0 (by norm_num)]
    rfl
  · rw [Level512.scr1 B rfl hi (D.akp h 0) hacc.kp j d, D.akp_succ h 0 (by norm_num)]
    rfl

/-- Tile 2. -/
theorem tile2 (hD : Host.HoldsAt D m c) (h : Fin 8) (p : Fin cfg0.N) (hp : p.val = 8 * h + 2) (acc : Carried) (hacc : After D h 1 1 acc) :
    After D h 2 2 (stAt0 m c p.val p.isLt acc) := by
  have B := blk_at m c hD p h 2 hp
  have hi := tile_coord p
  rw [show p.val % 8 = 2 by omega] at hi
  rw [stAt0_C m c p acc (by omega) (by omega) (by omega) (by omega) (by omega) (by omega) (by omega) (by omega) (by omega) (by omega)]
  refine ⟨fun r d => ?_, fun j d => ?_, fun j d => ?_⟩ <;> dsimp only
  · exact Level768.outq B rfl hi r d
  · rw [Level768.scr0 B rfl hi (D.akv h 1) hacc.kv j d, D.akv_succ h 1 (by norm_num)]
    rfl
  · rw [Level768.scr1 B rfl hi (D.akp h 1) hacc.kp j d, D.akp_succ h 1 (by norm_num)]
    rfl

/-- Tile 3. -/
theorem tile3 (hD : Host.HoldsAt D m c) (h : Fin 8) (p : Fin cfg0.N) (hp : p.val = 8 * h + 3) (acc : Carried) (hacc : After D h 2 2 acc) :
    After D h 3 3 (stAt0 m c p.val p.isLt acc) := by
  have B := blk_at m c hD p h 3 hp
  have hi := tile_coord p
  rw [show p.val % 8 = 3 by omega] at hi
  rw [stAt0_D m c p acc (by omega) (by omega) (by omega) (by omega) (by omega) (by omega) (by omega) (by omega) (by omega) (by omega)]
  refine ⟨fun r d => ?_, fun j d => ?_, fun j d => ?_⟩ <;> dsimp only
  · exact Level1024.outq B rfl hi r d
  · rw [Level1024.scr0 B rfl hi (D.akv h 2) hacc.kv j d, D.akv_succ h 2 (by norm_num)]
    rfl
  · rw [Level1024.scr1 B rfl hi (D.akp h 2) hacc.kp j d, D.akp_succ h 2 (by norm_num)]
    rfl

/-- Tile 4. -/
theorem tile4 (hD : Host.HoldsAt D m c) (h : Fin 8) (p : Fin cfg0.N) (hp : p.val = 8 * h + 4) (acc : Carried) (hacc : After D h 3 3 acc) :
    After D h 4 4 (stAt0 m c p.val p.isLt acc) := by
  have B := blk_at m c hD p h 4 hp
  have hi := tile_coord p
  rw [show p.val % 8 = 4 by omega] at hi
  rw [stAt0_E m c p acc (by omega) (by omega) (by omega) (by omega) (by omega) (by omega) (by omega) (by omega) (by omega) (by omega)]
  refine ⟨fun r d => ?_, fun j d => ?_, fun j d => ?_⟩ <;> dsimp only
  · exact Level1280.outq B rfl hi r d
  · rw [Level1280.scr0 B rfl hi (D.akv h 3) hacc.kv j d, D.akv_succ h 3 (by norm_num)]
    rfl
  · rw [Level1280.scr1 B rfl hi (D.akp h 3) hacc.kp j d, D.akp_succ h 3 (by norm_num)]
    rfl

/-- Tile 5. -/
theorem tile5 (hD : Host.HoldsAt D m c) (h : Fin 8) (p : Fin cfg0.N) (hp : p.val = 8 * h + 5) (acc : Carried) (hacc : After D h 4 4 acc) :
    After D h 5 5 (stAt0 m c p.val p.isLt acc) := by
  have B := blk_at m c hD p h 5 hp
  have hi := tile_coord p
  rw [show p.val % 8 = 5 by omega] at hi
  rw [stAt0_F m c p acc (by omega) (by omega) (by omega) (by omega) (by omega) (by omega) (by omega) (by omega) (by omega) (by omega)]
  refine ⟨fun r d => ?_, fun j d => ?_, fun j d => ?_⟩ <;> dsimp only
  · exact Level1536.outq B rfl hi r d
  · rw [Level1536.scr0 B rfl hi (D.akv h 4) hacc.kv j d, D.akv_succ h 4 (by norm_num)]
    rfl
  · rw [Level1536.scr1 B rfl hi (D.akp h 4) hacc.kp j d, D.akp_succ h 4 (by norm_num)]
    rfl

/-- Tile 6. -/
theorem tile6 (hD : Host.HoldsAt D m c) (h : Fin 8) (p : Fin cfg0.N) (hp : p.val = 8 * h + 6) (acc : Carried) (hacc : After D h 5 5 acc) :
    After D h 6 6 (stAt0 m c p.val p.isLt acc) := by
  have B := blk_at m c hD p h 6 hp
  have hi := tile_coord p
  rw [show p.val % 8 = 6 by omega] at hi
  rw [stAt0_G m c p acc (by omega) (by omega) (by omega) (by omega) (by omega) (by omega) (by omega) (by omega) (by omega) (by omega)]
  refine ⟨fun r d => ?_, fun j d => ?_, fun j d => ?_⟩ <;> dsimp only
  · exact Level1792.outq B rfl hi r d
  · rw [Level1792.scr0 B rfl hi (D.akv h 5) hacc.kv j d, D.akv_succ h 5 (by norm_num)]
    rfl
  · rw [Level1792.scr1 B rfl hi (D.akp h 5) hacc.kp j d, D.akp_succ h 5 (by norm_num)]
    rfl

/-- Tile 7. -/
theorem tile7 (hD : Host.HoldsAt D m c) (h : Fin 8) (p : Fin cfg0.N) (hp : p.val = 8 * h + 7) (acc : Carried) (hacc : After D h 6 6 acc) :
    After D h 7 7 (stAt0 m c p.val p.isLt acc) := by
  have B := blk_at m c hD p h 7 hp
  have hi := tile_coord p
  rw [show p.val % 8 = 7 by omega] at hi
  rw [stAt0_H m c p acc (by omega) (by omega) (by omega) (by omega) (by omega) (by omega) (by omega) (by omega) (by omega) (by omega)]
  refine ⟨fun r d => ?_, fun j d => ?_, fun j d => ?_⟩ <;> dsimp only
  · exact Level2048.outq B rfl hi r d
  · rw [Level2048.scr0 B rfl hi (D.akv h 6) hacc.kv j d, D.akv_succ h 6 (by norm_num)]
    rfl
  · rw [Level2048.scr1 B rfl hi (D.akp h 6) hacc.kp j d, D.akp_succ h 6 (by norm_num)]
    rfl

/-- The blocks the last tile leaves for the gradients of the keys and values. -/
theorem last (hD : Host.HoldsAt D m c) (h : Fin 8) (p : Fin cfg0.N) (hp : p.val = 8 * h + 7) (acc : Carried) (hacc : After D h 6 6 acc) :
    (∀ (j : Fin 2048) (d : Fin 256), (stAt0 m c p.val p.isLt acc).2.1 (ix3 0 j d) = ((D.dkv h j d : ℝ) : EReal))
      ∧ ∀ (j : Fin 2048) (d : Fin 64), (stAt0 m c p.val p.isLt acc).2.2.1 (ix3 0 j d) = ((D.dkp h j d : ℝ) : EReal) := by
  have B := blk_at m c hD p h 7 hp
  have hi := tile_coord p
  rw [show p.val % 8 = 7 by omega] at hi
  rw [stAt0_H m c p acc (by omega) (by omega) (by omega) (by omega) (by omega) (by omega) (by omega) (by omega) (by omega) (by omega)]
  refine ⟨fun j d => ?_, fun j d => ?_⟩ <;> dsimp only
  · rw [Level2048.outkv B rfl hi (D.akv h 6) hacc.kv j d, ← D.akv_last, D.akv_succ h 6 (by norm_num)]
    rfl
  · rw [Level2048.outkp B rfl hi (D.akp h 6) hacc.kp j d, ← D.akp_last, D.akp_succ h 6 (by norm_num)]
    rfl

/-- The state the sweep carries to point `n`. -/
abbrev stateAt (n : ℕ) (hn : n < cfg0.N) : Carried := Pipeline.accAt (fun n h => stAt0 m c n h junk0) (stAt0 m c) 0 n (by omega)

theorem stateAt_zero (hn : 0 < cfg0.N) : stateAt m c 0 hn = stAt0 m c 0 hn junk0 := rfl

theorem stateAt_succ (n : ℕ) (hn : n + 1 < cfg0.N) :
    stateAt m c (n + 1) hn = stAt0 m c (n + 1) hn (stateAt m c n (by omega)) := by
  unfold stateAt
  rw [← outsAt0_sweep m c (n + 1) hn, ← outsAt0_sweep m c n (by omega)]
  rfl

/-- At every point the state is one step from some state, and the first tile of a head takes any. -/
theorem stateAt_step (n : ℕ) (hn : n < cfg0.N) : ∃ acc, stateAt m c n hn = stAt0 m c n hn acc := by
  cases n with
  | zero => exact ⟨_, stateAt_zero m c hn⟩
  | succ n => exact ⟨_, stateAt_succ m c n hn⟩

theorem after0 (hD : Host.HoldsAt D m c) (h : Fin 8) (hn : 8 * (h : ℕ) + 0 < cfg0.N) : After D h 0 0 (stateAt m c (8 * h + 0) hn) := by
  obtain ⟨acc, e⟩ := stateAt_step m c _ hn
  rw [e]
  exact tile0 m c hD h ⟨8 * h + 0, hn⟩ rfl acc

theorem after1 (hD : Host.HoldsAt D m c) (h : Fin 8) (hn : 8 * (h : ℕ) + 1 < cfg0.N) : After D h 1 1 (stateAt m c (8 * h + 1) hn) := by
  rw [stateAt_succ m c (8 * h + 0) hn]
  exact tile1 m c hD h ⟨8 * h + 1, hn⟩ rfl _ (after0 m c hD h (by omega))

theorem after2 (hD : Host.HoldsAt D m c) (h : Fin 8) (hn : 8 * (h : ℕ) + 2 < cfg0.N) : After D h 2 2 (stateAt m c (8 * h + 2) hn) := by
  rw [stateAt_succ m c (8 * h + 1) hn]
  exact tile2 m c hD h ⟨8 * h + 2, hn⟩ rfl _ (after1 m c hD h (by omega))

theorem after3 (hD : Host.HoldsAt D m c) (h : Fin 8) (hn : 8 * (h : ℕ) + 3 < cfg0.N) : After D h 3 3 (stateAt m c (8 * h + 3) hn) := by
  rw [stateAt_succ m c (8 * h + 2) hn]
  exact tile3 m c hD h ⟨8 * h + 3, hn⟩ rfl _ (after2 m c hD h (by omega))

theorem after4 (hD : Host.HoldsAt D m c) (h : Fin 8) (hn : 8 * (h : ℕ) + 4 < cfg0.N) : After D h 4 4 (stateAt m c (8 * h + 4) hn) := by
  rw [stateAt_succ m c (8 * h + 3) hn]
  exact tile4 m c hD h ⟨8 * h + 4, hn⟩ rfl _ (after3 m c hD h (by omega))

theorem after5 (hD : Host.HoldsAt D m c) (h : Fin 8) (hn : 8 * (h : ℕ) + 5 < cfg0.N) : After D h 5 5 (stateAt m c (8 * h + 5) hn) := by
  rw [stateAt_succ m c (8 * h + 4) hn]
  exact tile5 m c hD h ⟨8 * h + 5, hn⟩ rfl _ (after4 m c hD h (by omega))

theorem after6 (hD : Host.HoldsAt D m c) (h : Fin 8) (hn : 8 * (h : ℕ) + 6 < cfg0.N) : After D h 6 6 (stateAt m c (8 * h + 6) hn) := by
  rw [stateAt_succ m c (8 * h + 5) hn]
  exact tile6 m c hD h ⟨8 * h + 6, hn⟩ rfl _ (after5 m c hD h (by omega))

theorem after7 (hD : Host.HoldsAt D m c) (h : Fin 8) (hn : 8 * (h : ℕ) + 7 < cfg0.N) : After D h 7 7 (stateAt m c (8 * h + 7) hn) := by
  rw [stateAt_succ m c (8 * h + 6) hn]
  exact tile7 m c hD h ⟨8 * h + 7, hn⟩ rfl _ (after6 m c hD h (by omega))

theorem after_last (hD : Host.HoldsAt D m c) (h : Fin 8) (hn : 8 * (h : ℕ) + 7 < cfg0.N) :
    (∀ (j : Fin 2048) (d : Fin 256), (stateAt m c (8 * h + 7) hn).2.1 (ix3 0 j d) = ((D.dkv h j d : ℝ) : EReal))
      ∧ ∀ (j : Fin 2048) (d : Fin 64), (stateAt m c (8 * h + 7) hn).2.2.1 (ix3 0 j d) = ((D.dkp h j d : ℝ) : EReal) := by
  rw [stateAt_succ m c (8 * h + 6) hn]
  exact last m c hD h ⟨8 * h + 7, hn⟩ rfl _ (after6 m c hD h (by omega))

/-- After any tile. -/
theorem after_tile (hD : Host.HoldsAt D m c) (h t : Fin 8) (hn : 8 * (h : ℕ) + t < cfg0.N) : After D h t t (stateAt m c (8 * h + t) hn) := by
  fin_cases t
  · exact after0 m c hD h hn
  · exact after1 m c hD h hn
  · exact after2 m c hD h hn
  · exact after3 m c hD h hn
  · exact after4 m c hD h hn
  · exact after5 m c hD h hn
  · exact after6 m c hD h hn
  · exact after7 m c hD h hn

end Cert.Attn

end
-- ==== Proof.RefValue.lean ====
/- The reference's results, entry by entry: the gradients of causal attention of the data the arguments hold. -/
module

public import proofs.«01_k».proof.Proof.Inputs
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Attn.Ref

open Idealize.ShloMosaic Cert.ReferenceIdeal Cert.ReferenceIdeal.Value
open Idealize.ShloMosaic.StableHlo
open Cert.ReferenceIdeal.Facts

/-- The argument buffers hold the data. -/
abbrev HoldsAt (D : Data) (V0 : Valuation τ sig (Elt Ideal)) : Prop :=
  Holds D (V0 (Proc.devRef .tc main_arg0)) (V0 (Proc.devRef .tc main_arg1)) (V0 (Proc.devRef .tc main_arg2))
    (V0 (Proc.devRef .tc main_arg3)) (V0 (Proc.devRef .tc main_arg4))

variable {D : Data} {V0 : Valuation τ sig (Elt Ideal)}

theorem v14_at (a : Fin 2048) (b : Fin 32) :
    res_main_v14 V0 (ix2 a b) = angleE ((V0 (Proc.devRef .tc main_arg3) : IVec ⟨1, ![2048]⟩ 32) (ix1 a)) b := by
  unfold res_main_v14
  clean_types
  pointwise
  rfl

theorem v15_at (hD : HoldsAt D V0) (a : Fin 2048) (b : Fin 32) : res_main_v15 V0 (ix2 a b) = ((D.cs a b : ℝ) : EReal) := by
  rw [← hD.cs, ← v14_at]; rfl

theorem v16_at (hD : HoldsAt D V0) (a : Fin 2048) (b : Fin 32) : res_main_v16 V0 (ix2 a b) = ((D.sn a b : ℝ) : EReal) := by
  rw [← hD.sn, ← v14_at]; rfl

/-- The rotated query part. -/
theorem v33_at (hD : HoldsAt D V0) (h : Fin 8) (a : Fin 2048) (b : Fin 64) :
    res_main_v33 V0 (ix3 h a b) = ((D.qr h a b : ℝ) : EReal) := by
  have e15 := v15_at hD
  have e16 := v16_at hD
  unfold res_main_v33 res_main_v17 res_main_v18 res_main_v19 res_main_v22 res_main_v26 res_main_v29 res_main_v2
  revert e15 e16
  generalize res_main_v15 V0 = A15
  generalize res_main_v16 V0 = A16
  change FVec Ideal S2048x32 .f32 at A15
  change FVec Ideal S2048x32 .f32 at A16
  intro e15 e16
  clean_types
  pointwise
  simp only [hD.q, e15, e16]
  unfold Data.qr Data.qp
  split
  · have hb' : 128 + (32 + (b : ℕ)) = 128 + (b + 32) := by omega
    simp only [EReal.coe_mul, EReal.coe_sub, hb']
  · have hb' : 128 + (32 + ((b : ℕ) - 32)) = 128 + b := by omega
    simp only [EReal.coe_mul, EReal.coe_add, hb']

/-- The masked scores. -/
theorem v47_at (hD : HoldsAt D V0) (h : Fin 8) (a b : Fin 2048) :
    res_main_v47_0 V0 (ix3 h a b) = D.masked h a b := by
  have e33 := v33_at hD h
  unfold res_main_v47_0 res_main_v47_1 res_main_v1 res_main_v34 res_main_v0
  revert e33
  generalize res_main_v33 V0 = A
  change FVec Ideal S8x2048x64 .f32 at A
  intro e33
  clean_types
  pointwise
  rw [select_sge (by omega) (by omega)]
  simp only [hD.q, hD.kv, hD.kp, hD.sc, e33, ← EReal.coe_mul, ← EReal.coe_add, ← coe_sum]
  unfold Data.masked Data.score Data.qn Data.kn
  simp only [Fin.le_def]
  exact if_congr Iff.rfl rfl ofBits_negInf

/-- The rows' largest scores. -/
theorem v48_at (hD : HoldsAt D V0) (h : Fin 8) (a : Fin 2048) :
    res_main_v48 V0 (ix2 h a) = ((D.top h a : ℝ) : EReal) := by
  have e47 := v47_at hD h a
  unfold res_main_v48
  revert e47
  generalize res_main_v47_0 V0 = A
  change FVec Ideal S8x2048x2048 .f32 at A
  intro e47
  clean_types
  pointwise
  simp only [e47, ofBits_negInf]
  exact D.topE_eq h a

/-- The exponentials. -/
theorem v68_at (hD : HoldsAt D V0) (h : Fin 8) (a b : Fin 2048) :
    res_main_v68 V0 (ix3 h a b) = ((D.ex h a b : ℝ) : EReal) := by
  have e47 := v47_at hD h a b
  have e48 := v48_at hD h a
  unfold res_main_v68
  revert e47 e48
  generalize res_main_v47_0 V0 = A
  generalize res_main_v48 V0 = B
  change FVec Ideal S8x2048x2048 .f32 at A
  change FVec Ideal S8x2048 .f32 at B
  intro e47 e48
  clean_types
  pointwise
  rw [e47, e48, ofBits_negInf, max_eq_right bot_le, D.exp_masked_top]

/-- The row sums of the exponentials. -/
theorem v70_at (hD : HoldsAt D V0) (h : Fin 8) (a : Fin 2048) (b : Fin 1) :
    res_main_v70 V0 (ix3 h a b) = ((D.tot h a : ℝ) : EReal) := by
  have e68 := v68_at hD h a
  unfold res_main_v70
  revert e68
  generalize res_main_v68 V0 = A
  change FVec Ideal S8x2048x2048 .f32 at A
  intro e68
  clean_types
  pointwise
  simp only [e68, ← coe_sum]
  rfl

/-- The attention weights. -/
theorem v72_at (hD : HoldsAt D V0) (h : Fin 8) (a b : Fin 2048) :
    res_main_v72 V0 (ix3 h a b) = ((D.w h a b : ℝ) : EReal) := by
  have e68 := v68_at hD h a b
  have e70 := v70_at hD h a
  unfold res_main_v72
  revert e68 e70
  generalize res_main_v68 V0 = A
  generalize res_main_v70 V0 = B
  change FVec Ideal S8x2048x2048 .f32 at A
  change FVec Ideal S8x2048x1 .f32 at B
  intro e68 e70
  clean_types
  pointwise
  rw [e68, e70, div_real _ (D.tot_ne h a)]
  rfl

/-- The weights' gradients. -/
theorem v80_at (hD : HoldsAt D V0) (h : Fin 8) (a b : Fin 2048) :
    res_main_v80 V0 (ix3 h a b) = ((D.dp h a b : ℝ) : EReal) := by
  unfold res_main_v80 res_main_v76
  clean_types
  pointwise
  simp only [hD.g, hD.kv, ← EReal.coe_mul, ← coe_sum]
  rfl

/-- The scores' gradients. -/
theorem v96_at (hD : HoldsAt D V0) (h : Fin 8) (a b : Fin 2048) :
    res_main_v96 V0 (ix3 h a b) = ((D.ds h a b : ℝ) : EReal) := by
  have e68 := v68_at hD h a
  have e70 := v70_at hD h a
  have e80 := v80_at hD h a
  unfold res_main_v96 res_main_v47_1
  revert e68 e70 e80
  generalize res_main_v68 V0 = A
  generalize res_main_v70 V0 = B
  generalize res_main_v80 V0 = C
  change FVec Ideal S8x2048x2048 .f32 at A
  change FVec Ideal S8x2048x1 .f32 at B
  change FVec Ideal S8x2048x2048 .f32 at C
  intro e68 e70 e80
  clean_types
  pointwise
  rw [select_sge (by omega) (by omega)]
  simp only [e68, e70, e80, hD.sc, Fin.sum_univ_one]
  have h1 : (1 : EReal) = ((1 : ℝ) : EReal) := rfl
  have h2 : D.tot h a * D.tot h a ≠ 0 := mul_ne_zero (D.tot_ne h a) (D.tot_ne h a)
  rw [← EReal.coe_mul, h1, div_real _ h2, div_real _ (D.tot_ne h a)]
  simp only [← EReal.coe_mul, ← coe_sum, ← EReal.coe_neg, ← EReal.coe_add]
  rw [D.ds_quotient]
  split
  · rfl
  · next hab => rw [D.ds_of_lt (Fin.lt_def.mpr (by omega))]; rfl

/-- The gradient of the rotated query part. -/
theorem v98_at (hD : HoldsAt D V0) (h : Fin 8) (a : Fin 2048) (r : Fin 64) :
    res_main_v98 V0 (ix3 h a r) = ((D.dqr h a r : ℝ) : EReal) := by
  have e96 := v96_at hD h a
  unfold res_main_v98 res_main_v0
  revert e96
  generalize res_main_v96 V0 = A
  change FVec Ideal S8x2048x2048 .f32 at A
  intro e96
  clean_types
  pointwise
  simp only [e96, hD.kp, ← EReal.coe_mul, ← coe_sum]
  rfl

/-- The gradient of the queries. -/
theorem v122_at (hD : HoldsAt D V0) (h : Fin 8) (a : Fin 2048) (b : Fin 256) :
    val3 V0 (Proc.devRef .tc main_v122) (ix3 h a b) = ((D.dq h a b : ℝ) : EReal) := by
  rw [val3_main_v122]
  have e96 := v96_at hD h a
  have e98 := v98_at hD h a
  have e15 := v15_at hD a
  have e16 := v16_at hD a
  unfold res_main_v103 res_main_v104 res_main_v19 res_main_v22 res_main_v26 res_main_v29 res_main_v34
  revert e96 e98 e15 e16
  generalize res_main_v96 V0 = A
  generalize res_main_v98 V0 = B
  generalize res_main_v15 V0 = A15
  generalize res_main_v16 V0 = A16
  change FVec Ideal S8x2048x2048 .f32 at A
  change FVec Ideal S8x2048x64 .f32 at B
  change FVec Ideal S2048x32 .f32 at A15
  change FVec Ideal S2048x32 .f32 at A16
  intro e96 e98 e15 e16
  clean_types
  pointwise
  simp only [e96, e98, e15, e16, hD.kv, ← EReal.coe_neg, ← EReal.coe_mul, ← EReal.coe_add, ← coe_sum]
  exact D.dq_padded h a b

/-- The gradient of the keys with the values. -/
theorem v123_at (hD : HoldsAt D V0) (h : Fin 8) (a : Fin 2048) (b : Fin 256) :
    val3 V0 (Proc.devRef .tc main_v123) (ix3 h a b) = ((D.dkv h a b : ℝ) : EReal) := by
  rw [val3_main_v123]
  have e96 := v96_at hD h
  have e72 := v72_at hD h
  unfold res_main_v1
  revert e96 e72
  generalize res_main_v96 V0 = A
  generalize res_main_v72 V0 = B
  change FVec Ideal S8x2048x2048 .f32 at A
  change FVec Ideal S8x2048x2048 .f32 at B
  intro e96 e72
  clean_types
  pointwise
  simp only [e96, e72, hD.q, hD.g, ← EReal.coe_mul, ← coe_sum]
  unfold Data.dkv Data.dk Data.dv Data.qn
  by_cases h1 : (b : ℕ) < 128
  · rw [dif_neg (by omega), dif_pos h1, dif_pos h1, zero_add]
  · rw [dif_pos (by omega), dif_neg h1, dif_neg h1, add_zero, EReal.coe_eq_coe_iff]
    exact Finset.sum_congr rfl fun x _ => mul_comm _ _

/-- The gradient of the rotary key. -/
theorem v97_at (hD : HoldsAt D V0) (h : Fin 8) (a : Fin 2048) (r : Fin 64) :
    val3 V0 (Proc.devRef .tc main_v97) (ix3 h a r) = ((D.dkp h a r : ℝ) : EReal) := by
  rw [val3_main_v97]
  have e96 := v96_at hD h
  have e33 := v33_at hD h
  revert e96 e33
  generalize res_main_v96 V0 = A
  generalize res_main_v33 V0 = B
  change FVec Ideal S8x2048x2048 .f32 at A
  change FVec Ideal S8x2048x64 .f32 at B
  intro e96 e33
  clean_types
  pointwise
  simp only [e96, e33, ← EReal.coe_mul, ← coe_sum]
  rfl

end Cert.Attn.Ref
end
-- ==== Proof.Result.lean ====
/- The three result arrays of the kernel's program, entry by entry, and the attention gradient's claims: the rotated and
   plain queries' gradient, the keys' with the values' gradient, and the rotary keys' gradient per head are those of the
   reference wherever the float arguments are finite. -/
module

public import proofs.«01_k».proof.Defs
public import proofs.«01_k».proof.Proof.Fold
public import proofs.«01_k».proof.Proof.RefValue
public import proofs.«01_k».proof.Proof.Gen.Kernel.Frame
public import proofs.«01_k».proof.Proof.Gen.Pre_finite
public import Idealize.ShloMosaic.Lib.Quiescent

@[expose] public section

set_option maxRecDepth 16384

noncomputable section

namespace Cert.Attn

open Idealize.ShloMosaic Idealize.ShloMosaic.TcCoe Idealize.SL.Sem

section Kernel

open Cert.KernelIdeal Cert.KernelIdeal.Gen Cert.KernelIdeal.Value

variable (m : (ℓ : Loc nD τ sig) → Buf (Elt Ideal) ℓ) (c : Dev nD) {D : Data}

theorem stateAt_congr {n n' : ℕ} (e : n = n') (hn : n < cfg0.N) (hn' : n' < cfg0.N) : stateAt m c n hn = stateAt m c n' hn' := by
  subst e; rfl

/-- The array of the queries' gradients. -/
theorem G11_at (hD : Host.HoldsAt D m c) (h : Fin 8) (i : Fin 2048) (d : Fin 256) :
    (G11 m c : FVec Ideal S8x2048x256 .bf16) (ix3 h i d) = ((D.dq h i d : ℝ) : EReal) := by
  have hN : cfg0.N = 64 := N_0
  let t : Fin 8 := ⟨i / 256, by omega⟩
  let r : Fin 256 := ⟨i % 256, Nat.mod_lt _ (by norm_num)⟩
  have hi : row t r = i := Fin.ext (show 256 * (i.val / 256) + i.val % 256 = i.val by omega)
  have hp : pt11Of (ix3 h i d) = 8 * (h : ℕ) + t := by
    show 8 * (h.val / 1 - 0) + 1 * (i.val / 256 - 0) + 1 * (d.val / 256 - 0) = 8 * h.val + i.val / 256
    omega
  have hl : loc11Of (ix3 h i d) = ix3 0 r d := by
    funext a
    apply Fin.ext
    fin_cases a
    · show h.val % 1 = 0
      omega
    · rfl
    · show d.val % 256 = d.val
      omega
  have hlt : 8 * (h : ℕ) + t < cfg0.N := by omega
  unfold G11
  rw [dif_pos (by rw [hp]; exact hlt), hl]
  refine (congrArg (fun st : Carried => st.1 (ix3 0 r d)) (stateAt_congr m c hp (hp ▸ hlt) hlt)).trans ?_
  rw [← hi]
  exact (after_tile m c hD h t hlt).q r d

/-- The array of the gradients of the keys and values. -/
theorem G12_at (hD : Host.HoldsAt D m c) (h : Fin 8) (j : Fin 2048) (d : Fin 256) :
    (G12 m c : FVec Ideal S8x2048x256 .bf16) (ix3 h j d) = ((D.dkv h j d : ℝ) : EReal) := by
  have hN : cfg0.N = 64 := N_0
  have hp : pt12Of (ix3 h j d) = 8 * (h : ℕ) + 7 := by
    show 8 * (1 * (h.val / 1 - 0) + 1 * (j.val / 2048 - 0) + 1 * (d.val / 256 - 0)) + 7 = 8 * h.val + 7
    omega
  have hl : loc12Of (ix3 h j d) = ix3 0 j d := by
    funext a
    apply Fin.ext
    fin_cases a
    · show h.val % 1 = 0
      omega
    · show j.val % 2048 = j.val
      omega
    · show d.val % 256 = d.val
      omega
  have hlt : 8 * (h : ℕ) + 7 < cfg0.N := by omega
  unfold G12
  rw [dif_pos (by rw [hp]; exact hlt), hl]
  refine (congrArg (fun st : Carried => st.2.1 (ix3 0 j d)) (stateAt_congr m c hp (hp ▸ hlt) hlt)).trans ?_
  exact (after_last m c hD h hlt).1 j d

/-- The array of the rotary keys' gradients, one per head. -/
theorem G13_at (hD : Host.HoldsAt D m c) (h : Fin 8) (j : Fin 2048) (d : Fin 64) :
    (G13 m c : FVec Ideal S8x2048x64 .f32) (ix3 h j d) = ((D.dkp h j d : ℝ) : EReal) := by
  have hN : cfg0.N = 64 := N_0
  have hp : pt13Of (ix3 h j d) = 8 * (h : ℕ) + 7 := by
    show 8 * (1 * (h.val / 1 - 0) + 1 * (j.val / 2048 - 0) + 1 * (d.val / 64 - 0)) + 7 = 8 * h.val + 7
    omega
  have hl : loc13Of (ix3 h j d) = ix3 0 j d := by
    funext a
    apply Fin.ext
    fin_cases a
    · show h.val % 1 = 0
      omega
    · show j.val % 2048 = j.val
      omega
    · show d.val % 64 = d.val
      omega
  have hlt : 8 * (h : ℕ) + 7 < cfg0.N := by omega
  unfold G13
  rw [dif_pos (by rw [hp]; exact hlt), hl]
  refine (congrArg (fun st : Carried => st.2.2.1 (ix3 0 j d)) (stateAt_congr m c hp (hp ▸ hlt) hlt)).trans ?_
  exact (after_last m c hD h hlt).2 j d

end Kernel

/-- Arrays equal to arrays that hold the data hold it. -/
theorem holds_congr {D : Data} {a0 b0 a1 b1 : FVec Ideal ⟨3, ![8, 2048, 256]⟩ .f32} {a2 b2 : FVec Ideal ⟨2, ![2048, 64]⟩ .f32}
    {a3 b3 : IVec ⟨1, ![2048]⟩ 32} {a4 b4 : FVec Ideal ⟨3, ![8, 2048, 128]⟩ .f32} (e0 : b0 = a0) (e1 : b1 = a1) (e2 : b2 = a2)
    (e3 : b3 = a3) (e4 : b4 = a4) (H : Holds D a0 a1 a2 a3 a4) : Holds D b0 b1 b2 b3 b4 := by
  subst e0 e1 e2 e3 e4
  exact H

/-- A float below `+∞` in magnitude, as the precondition tests it. -/
theorem abs_lt_of_cmp {x : EReal} (h : FloatOps.cmpf (F := Ideal) (φ := .f32) .olt (max x (-x)) (Ideal.ofBits .f32 0x7F800000#32) = 1#1) :
    max x (-x) < ⊤ := by
  rw [ofBits_posInf] at h
  by_contra hn
  have : FloatOps.cmpf (F := Ideal) (φ := .f32) .olt (max x (-x)) (⊤ : EReal) = 0#1 := by
    show Ideal.cmp .olt _ _ = _
    unfold Ideal.cmp
    simp [hn]
  rw [this] at h
  exact absurd h (by decide)

/-- Where the precondition holds the arguments hold the real numbers they are read as. -/
theorem holds_of_pre (m : (ℓ : Loc Cert.KernelIdeal.nD Cert.KernelIdeal.τ Cert.KernelIdeal.sig) → Buf (Elt Ideal) ℓ)
    (hpre : Cert.Pre_KernelIdeal_finite m) (c : Dev Cert.KernelIdeal.nD) : ∃ D : Data, Host.HoldsAt D m c := by
  obtain ⟨h0, h1, h2, h4⟩ := hpre c
  exact ⟨_, ofArrays_holds _ _ _ _ _ (fun i => abs_lt_of_cmp (congrFun h0 i)) (fun i => abs_lt_of_cmp (congrFun h1 i))
    (fun i => abs_lt_of_cmp (congrFun h2 i)) (fun i => abs_lt_of_cmp (congrFun h4 i))⟩

/-- The kernel's program runs, keeps its arguments and leaves every counter at zero. -/
theorem frame_kernel : Cert.quiescent_Kernel := fun m ρ _ => Cert.Kernel.Gen.frame m ρ

/-- So does the program over the extended reals. -/
theorem frame_ideal : Cert.quiescent_KernelIdeal := fun m ρ _ => Cert.KernelIdeal.Gen.frame m ρ

/-- And where the precondition holds. -/
theorem frame_ideal_pre : Cert.quiescent_KernelIdeal_pre_finite := fun m ρ _ => Cert.KernelIdeal.Gen.frame m ρ

/-- The reference runs, keeps its arguments and leaves every counter at zero. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- And where the precondition holds. -/
theorem frame_reference_pre : Cert.quiescent_ReferenceIdeal_pre_finite := fun m ρ _ => frame_reference m ρ trivial

/-- The one named constant, the causal mask's bound, is read as `-∞`. -/
theorem preserves : Cert.preserves_Kernel_KernelIdeal :=
  IdealRules.named_const.statement Cert.KernelIdeal.κ "mask" .f32 0xF149F2CA#32 ⊥ rfl

/-- Over the extended reals the kernel's three gradients are the reference's, wherever the float arguments are finite. -/
theorem algebraic : Cert.algebraic_KernelIdeal_ReferenceIdeal_pre_finite := by
  intro m ρ m' ρ' hpre hagree
  refine ⟨_, _, _, Cert.KernelIdeal.Value.run (F := Ideal) m ρ, ?_⟩
  refine (θ_run Cert.ReferenceIdeal.defs _ _).mono (fun _ h c => ?_) (Cert.ReferenceIdeal.Value.run (F := Ideal) m' ρ')
  obtain ⟨D, hD⟩ := holds_of_pre m hpre c
  obtain ⟨g0, g1, g2, g3, g4⟩ := hagree c
  have hR : Ref.HoldsAt D (StableHlo.launchContents m' c) :=
    holds_congr g0 g1 g2 g3 g4 hD
  refine ⟨(h c).1.trans ?_, (h c).2.1.trans ?_, (h c).2.2.1.trans ?_, (h c).2.2.2⟩
  · refine (Cert.ReferenceIdeal.Value.val3_main_v122 (StableHlo.launchContents m' c)).symm.trans (funext fun i => ?_)
    obtain ⟨a, b, d, rfl⟩ : ∃ a b d, i = ix3 a b d := ⟨i 0, i 1, i 2, eq_ix3 i⟩
    exact (Ref.v122_at hR a b d).trans (G11_at m c hD a b d).symm
  · refine (Cert.ReferenceIdeal.Value.val3_main_v123 (StableHlo.launchContents m' c)).symm.trans (funext fun i => ?_)
    obtain ⟨a, b, d, rfl⟩ : ∃ a b d, i = ix3 a b d := ⟨i 0, i 1, i 2, eq_ix3 i⟩
    exact (Ref.v123_at hR a b d).trans (G12_at m c hD a b d).symm
  · refine (Cert.ReferenceIdeal.Value.val3_main_v97 (StableHlo.launchContents m' c)).symm.trans (funext fun i => ?_)
    obtain ⟨a, b, d, rfl⟩ : ∃ a b d, i = ix3 a b d := ⟨i 0, i 1, i 2, eq_ix3 i⟩
    exact (Ref.v97_at hR a b d).trans (G13_at m c hD a b d).symm

end Cert.Attn

end
-- ==== Proof.Base.lean ====
/- What the claims of the calls use of the library. -/
module

public import proofs.«01_k».proof.Defs
public import Idealize.ShloMosaic.Lib.Pointwise
public import Idealize.ShloMosaic.Lib.Tactic.CleanTypes
public import Idealize.ShloMosaic.Lib.StableHlo.RunRead
public import Idealize.ShloMosaic.Lib.StableHlo.ReadAt
public import Idealize.ShloMosaic.Lib.Quiescent
public import Idealize.ShloMosaic.Lib.Pipeline.ValueKit.Geometry

@[expose] public section

namespace Cert

open Idealize.ShloMosaic Idealize.SL.Sem

/-- Offsets all of which are zero. -/
theorem zeros {n : ℕ} {f : Fin n → ℕ} (h : ∀ a, f a = 0 := by intro a; fin_cases a <;> rfl) : f = fun _ => 0 := funext h

/-- Where there are no counters, a run that keeps its arguments also leaves every counter at zero. -/
theorem counters_zero {nD : ℕ} {τ : Topo} {sig : RefSig} {Val : EltTy → Type} {Λ : Labels} {defs : Defs nD τ sig Val Λ}
    {p : (c : Thread nD τ) → Prog (TpuEff nD τ sig Val Λ c.2) PUnit} {s : MemSt nD τ sig Val}
    {P K : PUnit × MemSt nD τ sig Val → Dev nD → Prop} (h : sig.nSem + sig.nDmaSem = 0) (k : ∀ {r c}, P r c → K r c)
    (run : θ_run defs p s fun r => ∀ c, P r c) : θ_run defs p s fun r => (∀ c, K r c) ∧ r.2.sem = fun _ => 0 :=
  (θ_run defs _ _).mono (fun r q => ⟨fun c => k (q c), sem_eq_zero_of_no_sems h r.2⟩) run

end Cert

end
-- ==== Proof.Parts.lean ====
/- A width in eight parts, each followed by zeros: a product that sums over the padded width is the product that sums over
   the width. -/
module

public import Idealize.ShloMosaic.PureOps.Ideal.Laws
public import Mathlib.Algebra.BigOperators.Fin
public import Mathlib.Data.EReal.Operations

@[expose] public section

noncomputable section

namespace Cert.Parts

open Idealize.ShloMosaic

variable {n : ℕ}

/-- Place `b` of part `p`, read off a row whose parts are `w` wide: beyond the part's entries it is zero. -/
def slot (w : ℕ) (f : Fin n → EReal) (p b : ℕ) : EReal :=
  if h : p * w + b < n ∧ b < w then f ⟨p * w + b, h.1⟩ else 0

/-- A padded row of eight parts, as the layout's operations spell it. -/
theorem slot_dite {w p b : ℕ} {f : Fin n → EReal} {z : EReal} (hz : z = 0) (hn : n = 8 * w) (h : ∀ q : p < 8 ∧ b < w, p * w + b < n) :
    slot w f p b = if q : p < 8 ∧ b < w then f ⟨p * w + b, h q⟩ else z := by
  subst hz
  unfold slot
  by_cases q : p < 8 ∧ b < w
  · rw [dif_pos q, dif_pos ⟨h q, q.2⟩]
  · rw [dif_neg q, dif_neg]
    rintro ⟨h1, h2⟩
    refine q ⟨?_, h2⟩
    by_contra h8
    have := Nat.mul_le_mul_right w (Nat.le_of_not_lt h8)
    omega

/-- The same where the part is known to be one of the eight. -/
theorem slot_dite' {w b : ℕ} {p : Fin 8} {f : Fin n → EReal} {z : EReal} (hz : z = 0) (h : ∀ q : b < w, (p : ℕ) * w + b < n) :
    slot w f p b = if q : b < w then f ⟨p * w + b, h q⟩ else z := by
  subst hz
  unfold slot
  by_cases q : b < w
  · rw [dif_pos q, dif_pos ⟨h q, q⟩]
  · rw [dif_neg q, dif_neg fun h => q h.2]

/-- A row padded on its right, as the padding spells it. -/
theorem slot_first {b : ℕ} {f : Fin n → EReal} {z : EReal} (hz : z = 0) (h : ∀ q : b < n, b < n) : slot n f 0 b = if q : b < n then f ⟨b, h q⟩ else z := by
  subst hz
  unfold slot
  by_cases q : b < n
  · rw [dif_pos q, dif_pos ⟨by omega, q⟩]
    exact congrArg f (Fin.ext (by show 0 * n + b = b; omega))
  · rw [dif_neg q, dif_neg fun h => q h.2]

/-- A place of a part no entry of which is padding. -/
theorem slot_full {w p b : ℕ} (f : Fin n → EReal) (h : p * w + b < n) (hb : b < w) : slot w f p b = f ⟨p * w + b, h⟩ :=
  dif_pos ⟨h, hb⟩

/-- A place named by its number in the padded width. -/
theorem slot_place {v : ℕ} (w : ℕ) (f : Fin n → EReal) (p : ℕ) {b : ℕ} (hb : b < v) :
    slot w f ((v * p + b) / v) ((v * p + b) % v) = slot w f p b := by
  rw [Nat.mul_add_div (by omega), Nat.div_eq_of_lt hb, Nat.add_zero, Nat.mul_add_mod, Nat.mod_eq_of_lt hb]

theorem mul_eq {a b c d : EReal} (h : a = b) (h' : c = d) : a * c = b * d := by rw [h, h']

theorem add_eq {a b c d : EReal} (h : a = b) (h' : c = d) : a + c = b + d := by rw [h, h']

variable (w : ℕ) (f g : Fin n → EReal) (p b : ℕ)

theorem slot_mul : slot w f p b * slot w g p b = slot w (fun i => f i * g i) p b := by
  unfold slot
  split
  · rfl
  · exact zero_mul 0

/-- A product with a padded factor is the padded product. -/
theorem mul_slot (a : EReal) : a * slot w g p b = slot w (fun i => a * g i) p b := by
  unfold slot
  split
  · rfl
  · exact mul_zero a

theorem slot_mul_right (a : EReal) : slot w g p b * a = slot w (fun i => g i * a) p b := by
  unfold slot
  split
  · rfl
  · exact zero_mul a

theorem sum_slot {ι : Type} [Fintype ι] (f : ι → Fin n → EReal) : ∑ k, slot w (f k) p b = slot w (fun i => ∑ k, f k i) p b := by
  unfold slot
  split
  · rfl
  · exact Finset.sum_const_zero

/-- The places of consecutive blocks are the places of the whole. -/
theorem sum_blocks (g : ℕ → EReal) (w : ℕ) : ∀ P : ℕ, ∑ p ∈ Finset.range P, ∑ b ∈ Finset.range w, g (p * w + b) = ∑ k ∈ Finset.range (P * w), g k
  | 0 => by simp
  | P + 1 => by rw [Finset.sum_range_succ, sum_blocks g w P, Nat.succ_mul, Finset.sum_range_add]

/-- The parts' sums make the whole sum. -/
theorem sum_parts {v : ℕ} (hn : n = 8 * w) (hv : w ≤ v) : ∑ p : Fin 8, ∑ b : Fin v, slot w f p b = ∑ i, f i := by
  subst hn
  let G : ℕ → EReal := fun k => if h : k < 8 * w then f ⟨k, h⟩ else 0
  have e : ∀ p, ∑ b : Fin v, slot w f p b = ∑ b ∈ Finset.range w, G (p * w + b) := fun p => by
    rw [Fin.sum_univ_eq_sum_range (fun b => slot w f p b) v]
    refine (Finset.sum_subset (Finset.range_subset_range.2 hv) fun b _ hb => ?_).symm.trans (Finset.sum_congr rfl fun b hb => ?_)
    · exact dif_neg fun h => hb (Finset.mem_range.2 h.2)
    · have hbw := Finset.mem_range.1 hb
      unfold slot
      dsimp only [G]
      by_cases h : p * w + b < 8 * w
      · rw [dif_pos ⟨h, hbw⟩, dif_pos h]
      · rw [dif_neg fun q => h q.1, dif_neg h]
  simp only [e]
  rw [Fin.sum_univ_eq_sum_range (fun p => ∑ b ∈ Finset.range w, G (p * w + b)) 8, sum_blocks, ← Fin.sum_univ_eq_sum_range]
  exact Finset.sum_congr rfl fun i _ => dif_pos i.isLt

/-- The padded width's places are the parts' places. -/
theorem sum_places (f : ℕ → ℕ → EReal) (v N : ℕ) (hN : N = 8 * v) :
    ∑ j : Fin N, f (j / v) (j % v) = ∑ p : Fin 8, ∑ b : Fin v, f p b := by
  subst hN
  have e : ∀ p, ∑ b : Fin v, f p b = ∑ b ∈ Finset.range v, f ((p * v + b) / v) ((p * v + b) % v) := fun p => by
    rw [Fin.sum_univ_eq_sum_range (fun b => f p b) v]
    refine Finset.sum_congr rfl fun b hb => ?_
    have hb := Finset.mem_range.1 hb
    rw [mul_comm p v, Nat.mul_add_div (by omega), Nat.div_eq_of_lt hb, Nat.add_zero, Nat.mul_add_mod, Nat.mod_eq_of_lt hb]
  simp only [e]
  rw [Fin.sum_univ_eq_sum_range (fun p => ∑ b ∈ Finset.range v, f ((p * v + b) / v) ((p * v + b) % v)) 8,
    sum_blocks fun k => f (k / v) (k % v), ← Fin.sum_univ_eq_sum_range]

/-- A sum over the padded width is the sum over the width. -/
theorem sum_padded (v N : ℕ) (hN : N = 8 * v) (hn : n = 8 * w) (hv : w ≤ v) :
    ∑ j : Fin N, slot w f (j / v) (j % v) = ∑ i, f i :=
  (sum_places (slot w f) v N hN).trans (sum_parts w f hn hv)

/-- What starts as the first of eight shares and takes up one more at every step ends as their sum. -/
theorem sum_run {f : (q : ℕ) → q < 8 → EReal} {s : ℕ → EReal} (x : EReal) (h0 : f 0 (by decide) = s 0 + x)
    (hs : ∀ (q : ℕ) (hq : q + 1 < 8), f (q + 1) hq = f q (Nat.lt_of_succ_lt hq) + s (q + 1)) :
    f 7 (by decide) = ∑ p : Fin 8, s p + x := by
  have e : ∀ (q : ℕ) (hq : q < 8), f q hq = ∑ p ∈ Finset.range (q + 1), s p + x := fun q => by
    induction q with
    | zero => exact fun _ => h0.trans (congrArg (· + x) (Finset.sum_range_one s).symm)
    | succ q ih =>
      intro hq
      rw [hs q hq, ih (Nat.lt_of_succ_lt hq), Finset.sum_range_succ s (q + 1)]
      exact add_right_comm _ _ _
  exact (e 7 (by decide)).trans (congrArg (· + x) (Fin.sum_univ_eq_sum_range s 8).symm)

/-- The integer zero read as a float is zero. -/
theorem sitofp_zero (φ : FTy) : (FloatOps.sitofp φ (0#32) : Ideal φ) = (0 : EReal) := by
  show (((0#32 : BitVec 32).toInt : ℝ) : EReal) = 0
  simp

end Cert.Parts

end
-- ==== Proof.Gate.lean ====
/- The product with the gate's weight, block by block: each of the eight parts' columns is the product of the tokens with
   that part of the weight. -/
module

public import proofs.«01_k».proof.Proof.Base
public import proofs.«01_k».proof.Proof.Parts
public import proofs.«01_k».proof.Proof.Gen.Gate.Frame
public import proofs.«01_k».proof.Proof.Gen.GateIdeal.Value
public import proofs.«01_k».proof.Proof.Gen.GateReferenceIdeal.Run

@[expose] public section

set_option maxRecDepth 16384

noncomputable section

namespace Cert.GateClaim

open Idealize.ShloMosaic Idealize.ShloMosaic.TcCoe Idealize.SL.Sem Cert.Parts

/-- The product at token `r`, column `b` of the padded width. -/
def spec (A : (⟨2, ![2048, 2048]⟩ : Shape).Idx → EReal) (B : (⟨2, ![2048, 5632]⟩ : Shape).Idx → EReal) (r : Fin 2048) (b : Fin 6144) : EReal :=
  slot 704 (fun i => ∑ k : Fin 2048, A (ix2 r k) * B (ix2 k i)) (b / 768) (b % 768)

section Kernel

open Cert.GateIdeal Cert.GateIdeal.Gen Cert.GateIdeal.Value Idealize.ShloMosaic.StableHlo

variable (m : (ℓ : Loc nD τ sig) → Buf (Elt Ideal) ℓ) (c : Dev nD)

/-- The arguments. -/
abbrev arg0 : FVec Ideal S2048x2048 .f32 := m (c, Proc.devRef .tc main_arg0)
abbrev arg1 : FVec Ideal S2048x5632 .f32 := m (c, Proc.devRef .tc main_arg1)

/-! What the host prepares. -/

theorem v0_at (i : Fin 2048) (j : Fin 2048) :
    (V m c main_v0 : FVec Ideal S2048x2048 .bf16) (ix2 i j) = arg0 m c (ix2 i j) := by
  unfold V
  after_reads_simp
  rfl

theorem v4_at (p : Fin 8) (i : Fin 2048) (b : Fin 768) :
    (V m c main_v4 : FVec Ideal S8x2048x768 .bf16) (ix3 p i b) = slot 704 (fun q => arg1 m c (ix2 i q)) p b := by
  unfold V
  after_reads_simp
  simp only [TRef.toBuf, TRef.ofBuf, cast_eq]
  pointwise
  symm
  apply slot_dite'
  exact sitofp_zero _

/-! What a point computes, and where its blocks lie. -/

theorem pay_at (v0 : Vec Ideal S2048x2048 .bf16) (v2 : Vec Ideal S1x2048x768 .bf16) (r : Fin 2048) (b : Fin 768) :
    k0_pay1 v0 v2 (ix2 r b) = ∑ k : Fin 2048, v0 (ix2 r k) * v2 (ix3 0 k b) := by
  unfold k0_pay1
  pointwise

theorem out_eq (v0 : Vec Ideal S2048x2048 .bf16) (v2 : Vec Ideal S1x2048x768 .bf16) : out0_2 v0 v2 = k0_pay1 v0 v2 := by
  unfold out0_2
  rw [View.canon_unit_zero zeros, View.ld_unit_zero zeros, View.ld_unit_zero zeros]

theorem read0 (A : FVec Ideal S2048x2048 .bf16) (p : Fin cfg0.N) (r : Fin 2048) (k : Fin 2048) :
    (((cfg0.win 0).blk p).view.read (Elt Ideal) A : Vec Ideal S2048x2048 .bf16) (ix2 r k) = A (ix2 r k) := by
  have e := (by decide +kernel : ∀ p : Fin grid0.N, win0_0.index p = ![0, 0]) p
  refine congrArg A (?_ : ((cfg0.win 0).blk p).view.emb _ = _)
  blk_ext [e]

theorem read1 (A : FVec Ideal S8x2048x768 .bf16) (p : Fin cfg0.N) (j : Fin 8) (hj : p.val = j) (k : Fin 2048) (l : Fin 768) :
    (((cfg0.win 1).blk p).view.read (Elt Ideal) A : Vec Ideal S1x2048x768 .bf16) (ix3 0 k l) = A (ix3 j k l) := by
  have e := (by decide +kernel : ∀ p : Fin grid0.N, win0_1.index p = ![p.val, 0, 0]) p
  rw [hj] at e
  refine congrArg A (?_ : ((cfg0.win 1).blk p).view.emb _ = _)
  blk_ext [e]

theorem read2 (A : FVec Ideal S2048x6144 .f32) (p : Fin cfg0.N) (j : Fin 8) (hj : p.val = j) (r : Fin 2048) (k : Fin 768) :
    (((cfg0.win 2).blk p).view.read (Elt Ideal) A : Vec Ideal S2048x768 .f32) (ix2 r k) = A (ix2 r ⟨768 * j + k, by omega⟩) := by
  have e := (by decide +kernel : ∀ p : Fin grid0.N, win0_2.index p = ![0, p.val]) p
  rw [hj] at e
  refine congrArg A (?_ : ((cfg0.win 2).blk p).view.emb _ = _)
  blk_ext [e]

theorem flush2 : ∀ p : Fin cfg0.N, (cfg0.win 2).flush p = true := (by decide +kernel : ∀ p : Fin grid0.N, _)

/-- The array the call returns, entry by entry. -/
theorem result_at (R : Fin 2048) (C : Fin 6144) :
    ((dats m 0 c).arrAt 2 cfg0.N : FVec Ideal S2048x6144 .f32) (ix2 R C) = spec (arg0 m c) (arg1 m c) R C := by
  have hN : cfg0.N = 8 := N_0
  let j : Fin 8 := ⟨C / 768, by omega⟩
  let b : Fin 768 := ⟨C % 768, by omega⟩
  have eb : (⟨768 * j + b, by omega⟩ : Fin 6144) = C := Fin.ext (show 768 * (C.val / 768) + C.val % 768 = C.val by omega)
  let p : Fin cfg0.N := ⟨j, by omega⟩
  have hj : p.val = j := rfl
  have e := congrFun ((blocks2 m c p (flush2 p)).trans (flushed2 m c p)) (ix2 R b)
  refine (congrArg (fun q => ((dats m 0 c).arrAt 2 cfg0.N : FVec Ideal S2048x6144 .f32) (ix2 R q)) eb).symm.trans ?_
  refine (read2 _ p j hj R b).symm.trans (e.trans ?_)
  refine (congrFun (out_eq _ _ ) (ix2 R b)).trans ((pay_at _ _ R b).trans ?_)
  have ea : ∀ k, (iblk m c 0 p : Vec Ideal S2048x2048 .bf16) (ix2 R k) = arg0 m c (ix2 R k) := fun k =>
    (read0 (V m c main_v0 : FVec Ideal S2048x2048 .bf16) p R k).trans (v0_at m c R k)
  have eb' : ∀ k, (iblk m c 1 p : Vec Ideal S1x2048x768 .bf16) (ix3 0 k b) = slot 704 (fun q => arg1 m c (ix2 k q)) j b := fun k =>
    (read1 (V m c main_v4 : FVec Ideal S8x2048x768 .bf16) p j hj k b).trans (v4_at m c j k b)
  exact (Finset.sum_congr rfl fun k _ => (mul_eq (ea k) (eb' k)).trans (mul_slot _ _ _ _ _)).trans (sum_slot _ _ _ _)

end Kernel

section Reference

open Cert.GateReferenceIdeal Cert.GateReferenceIdeal.Gen

/-- The reference's result, entry by entry. -/
theorem reference_at (A : FVec Ideal S2048x2048 .f32) (B : FVec Ideal S2048x5632 .f32) (r : Fin 2048) (b : Fin 6144) :
    (shapeCast _ (pad S2048x8x768 ![0, 0, 0] ![0, 0, 64] ![0, 0, 0] (shapeCast _ (Host.dotGeneral dot_S2048x2048_S2048x5632_S2048x5632_1_0_0_1_n_n none A B) shapeCasts_S2048x5632_S2048x8x704) (sitofp .f32 (constantI S_ 32 0#32)) pads_S2048x8x704_S2048x8x768_000_000_0640 h_S_) shapeCasts_S2048x8x768_S2048x6144 : FVec Ideal S2048x6144 .f32) (ix2 r b) = spec A B r b := by
  pointwise
  unfold spec
  symm
  apply slot_dite
  · exact sitofp_zero _
  · rfl

end Reference

/-- Over the extended reals the call's result is the reference's. -/
theorem algebraic : Cert.algebraic_GateIdeal_GateReferenceIdeal := by
  intro m ρ m' ρ' _ hagree
  refine ⟨_, Cert.GateIdeal.Value.run_blocks (F := Ideal) m ρ, ?_⟩
  refine (θ_run Cert.GateReferenceIdeal.defs _ _).mono (fun _ h c => ?_) (Cert.GateReferenceIdeal.Value.run (F := Ideal) m' ρ')
  obtain ⟨g0, g1⟩ := hagree c
  refine ⟨(h c).1.trans (funext fun i => ?_), (h c).2⟩
  obtain ⟨a, b, rfl⟩ : ∃ a b, i = ix2 a b := ⟨i 0, i 1, eq_ix2 i⟩
  refine (reference_at _ _ a b).trans (Eq.trans ?_ (result_at m c a b).symm)
  exact congrArg₂ (fun A B => spec A B a b) g0 g1

end Cert.GateClaim

end
-- ==== Proof.Up.lean ====
/- The product with the up projection's weight: the same lines as for the gate's, whose entries serve here. -/
module

public import proofs.«01_k».proof.Proof.Base
public import proofs.«01_k».proof.Proof.Gate
public import proofs.«01_k».proof.Proof.Gen.Up.Frame
public import proofs.«01_k».proof.Proof.Gen.UpIdeal.Value
public import proofs.«01_k».proof.Proof.Gen.UpReferenceIdeal.Run

@[expose] public section

set_option maxRecDepth 16384

noncomputable section

namespace Cert.UpClaim

open Idealize.ShloMosaic Idealize.ShloMosaic.TcCoe Idealize.SL.Sem Cert.GateClaim

/-- Over the extended reals the call's result is the reference's. -/
theorem algebraic : Cert.algebraic_UpIdeal_UpReferenceIdeal := by
  intro m ρ m' ρ' _ hagree
  refine ⟨_, Cert.UpIdeal.Value.run_blocks (F := Ideal) m ρ, ?_⟩
  refine (θ_run Cert.UpReferenceIdeal.defs _ _).mono (fun _ h c => ?_) (Cert.UpReferenceIdeal.Value.run (F := Ideal) m' ρ')
  obtain ⟨g0, g1⟩ := hagree c
  refine ⟨(h c).1.trans (funext fun i => ?_), (h c).2⟩
  obtain ⟨a, b, rfl⟩ : ∃ a b, i = ix2 a b := ⟨i 0, i 1, eq_ix2 i⟩
  refine (reference_at _ _ a b).trans (Eq.trans ?_ (result_at m c a b).symm)
  exact congrArg₂ (fun A B => spec A B a b) g0 g1

end Cert.UpClaim

end
-- ==== Proof.Down.lean ====
/- The product of the gated activations with the down projection's weight, added to the residual stream: a sum over the
   padded width, whose places past a part's entries contribute nothing. -/
module

public import proofs.«01_k».proof.Proof.Base
public import proofs.«01_k».proof.Proof.Parts
public import proofs.«01_k».proof.Proof.Gen.Down.Frame
public import proofs.«01_k».proof.Proof.Gen.DownIdeal.Value
public import proofs.«01_k».proof.Proof.Gen.DownReferenceIdeal.Run

@[expose] public section

set_option maxRecDepth 16384

noncomputable section

namespace Cert.DownClaim

open Idealize.ShloMosaic Idealize.ShloMosaic.TcCoe Idealize.SL.Sem Cert.Parts

/-- The sum at token `r`, channel `b`. -/
def spec (A : (⟨2, ![2048, 5632]⟩ : Shape).Idx → EReal) (B : (⟨2, ![5632, 2048]⟩ : Shape).Idx → EReal) (X : (⟨2, ![2048, 2048]⟩ : Shape).Idx → EReal) (r : Fin 2048) (b : Fin 2048) : EReal :=
  X (ix2 r b) + ∑ k : Fin 5632, A (ix2 r k) * B (ix2 k b)

section Kernel

open Cert.DownIdeal Cert.DownIdeal.Gen Cert.DownIdeal.Value Idealize.ShloMosaic.StableHlo

variable (m : (ℓ : Loc nD τ sig) → Buf (Elt Ideal) ℓ) (c : Dev nD)

/-- The arguments. -/
abbrev arg0 : FVec Ideal S2048x5632 .f32 := m (c, Proc.devRef .tc main_arg0)
abbrev arg1 : FVec Ideal S5632x2048 .f32 := m (c, Proc.devRef .tc main_arg1)
abbrev arg2 : FVec Ideal S2048x2048 .f32 := m (c, Proc.devRef .tc main_arg2)

/-! What the host prepares. -/

theorem v3_at (i : Fin 2048) (j : Fin 6144) :
    (V m c main_v3 : FVec Ideal S2048x6144 .bf16) (ix2 i j) = slot 704 (fun q => arg0 m c (ix2 i q)) (j / 768) (j % 768) := by
  unfold V
  after_reads_simp
  simp only [TRef.toBuf, TRef.ofBuf, cast_eq]
  pointwise
  symm
  apply slot_dite
  · exact sitofp_zero _
  · rfl

theorem v7_at (j : Fin 6144) (i : Fin 2048) :
    (V m c main_v7 : FVec Ideal S6144x2048 .bf16) (ix2 j i) = slot 704 (fun q => arg1 m c (ix2 q i)) (j / 768) (j % 768) := by
  unfold V
  after_reads_simp
  simp only [TRef.toBuf, TRef.ofBuf, cast_eq]
  pointwise
  symm
  apply slot_dite
  · exact sitofp_zero _
  · rfl

/-! What a point computes, and where its blocks lie. -/

theorem pay_at (v0 : Vec Ideal S512x6144 .bf16) (v2 : Vec Ideal S6144x512 .bf16) (v5 : Vec Ideal S512x512 .f32) (r : Fin 512) (b : Fin 512) :
    k0_pay1 v0 v2 v5 (ix2 r b) = (∑ k : Fin 6144, v0 (ix2 r k) * v2 (ix2 k b)) + v5 (ix2 r b) := by
  unfold k0_pay1
  pointwise

theorem out_eq (v0 : Vec Ideal S512x6144 .bf16) (v2 : Vec Ideal S6144x512 .bf16) (v5 : Vec Ideal S512x512 .f32) : out0_3 v0 v2 v5 = k0_pay1 v0 v2 v5 := by
  unfold out0_3
  rw [View.canon_unit_zero zeros, View.ld_unit_zero zeros, View.ld_unit_zero zeros, View.ld_unit_zero zeros]

theorem read0 (A : FVec Ideal S2048x6144 .bf16) (p : Fin cfg0.N) (i : Fin 4) (hi : p.val / 4 = i) (r : Fin 512) (k : Fin 6144) :
    (((cfg0.win 0).blk p).view.read (Elt Ideal) A : Vec Ideal S512x6144 .bf16) (ix2 r k) = A (ix2 ⟨512 * i + r, by omega⟩ k) := by
  have e := (by decide +kernel : ∀ p : Fin grid0.N, win0_0.index p = ![p.val / 4, 0]) p
  rw [hi] at e
  refine congrArg A (?_ : ((cfg0.win 0).blk p).view.emb _ = _)
  blk_ext [e]

theorem read1 (A : FVec Ideal S6144x2048 .bf16) (p : Fin cfg0.N) (j : Fin 4) (hj : p.val % 4 = j) (r : Fin 6144) (k : Fin 512) :
    (((cfg0.win 1).blk p).view.read (Elt Ideal) A : Vec Ideal S6144x512 .bf16) (ix2 r k) = A (ix2 r ⟨512 * j + k, by omega⟩) := by
  have e := (by decide +kernel : ∀ p : Fin grid0.N, win0_1.index p = ![0, p.val % 4]) p
  rw [hj] at e
  refine congrArg A (?_ : ((cfg0.win 1).blk p).view.emb _ = _)
  blk_ext [e]

theorem read2 (A : FVec Ideal S2048x2048 .f32) (p : Fin cfg0.N) (i : Fin 4) (j : Fin 4) (hi : p.val / 4 = i) (hj : p.val % 4 = j) (r : Fin 512) (k : Fin 512) :
    (((cfg0.win 2).blk p).view.read (Elt Ideal) A : Vec Ideal S512x512 .f32) (ix2 r k) = A (ix2 ⟨512 * i + r, by omega⟩ ⟨512 * j + k, by omega⟩) := by
  have e := (by decide +kernel : ∀ p : Fin grid0.N, win0_2.index p = ![p.val / 4, p.val % 4]) p
  rw [hi, hj] at e
  refine congrArg A (?_ : ((cfg0.win 2).blk p).view.emb _ = _)
  blk_ext [e]

theorem read3 (A : FVec Ideal S2048x2048 .f32) (p : Fin cfg0.N) (i : Fin 4) (j : Fin 4) (hi : p.val / 4 = i) (hj : p.val % 4 = j) (r : Fin 512) (k : Fin 512) :
    (((cfg0.win 3).blk p).view.read (Elt Ideal) A : Vec Ideal S512x512 .f32) (ix2 r k) = A (ix2 ⟨512 * i + r, by omega⟩ ⟨512 * j + k, by omega⟩) := by
  have e := (by decide +kernel : ∀ p : Fin grid0.N, win0_3.index p = ![p.val / 4, p.val % 4]) p
  rw [hi, hj] at e
  refine congrArg A (?_ : ((cfg0.win 3).blk p).view.emb _ = _)
  blk_ext [e]

theorem flush3 : ∀ p : Fin cfg0.N, (cfg0.win 3).flush p = true := (by decide +kernel : ∀ p : Fin grid0.N, _)

/-- The array the call returns, entry by entry. -/
theorem result_at (R : Fin 2048) (C : Fin 2048) :
    ((dats m 0 c).arrAt 3 cfg0.N : FVec Ideal S2048x2048 .f32) (ix2 R C) = spec (arg0 m c) (arg1 m c) (arg2 m c) R C := by
  have hN : cfg0.N = 16 := N_0
  let i : Fin 4 := ⟨R / 512, by omega⟩
  let r : Fin 512 := ⟨R % 512, by omega⟩
  have er : (⟨512 * i + r, by omega⟩ : Fin 2048) = R := Fin.ext (show 512 * (R.val / 512) + R.val % 512 = R.val by omega)
  let j : Fin 4 := ⟨C / 512, by omega⟩
  let b : Fin 512 := ⟨C % 512, by omega⟩
  have eb : (⟨512 * j + b, by omega⟩ : Fin 2048) = C := Fin.ext (show 512 * (C.val / 512) + C.val % 512 = C.val by omega)
  let p : Fin cfg0.N := ⟨4 * i + j, by omega⟩
  have hi : p.val / 4 = i := by show (4 * i.val + j.val) / 4 = i.val; omega
  have hj : p.val % 4 = j := by show (4 * i.val + j.val) % 4 = j.val; omega
  have e := congrFun ((blocks3 m c p (flush3 p)).trans (flushed3 m c p)) (ix2 r b)
  refine (congrArg (fun q => ((dats m 0 c).arrAt 3 cfg0.N : FVec Ideal S2048x2048 .f32) (ix2 q C)) er).symm.trans ?_
  refine (congrArg (fun q => ((dats m 0 c).arrAt 3 cfg0.N : FVec Ideal S2048x2048 .f32) (ix2 ⟨512 * i + r, by omega⟩ q)) eb).symm.trans ?_
  refine (read3 _ p i j hi hj r b).symm.trans (e.trans ?_)
  refine (congrFun (out_eq _ _ _ ) (ix2 r b)).trans ((pay_at _ _ _ r b).trans ?_)
  have ea : ∀ k, (iblk m c 0 p : Vec Ideal S512x6144 .bf16) (ix2 r k) = slot 704 (fun q => arg0 m c (ix2 R q)) (k / 768) (k % 768) := fun k =>
    (read0 (V m c main_v3 : FVec Ideal S2048x6144 .bf16) p i hi r k).trans ((congrArg (fun q => (V m c main_v3 : FVec Ideal S2048x6144 .bf16) (ix2 q k)) er).trans (v3_at m c R k))
  have eb' : ∀ k, (iblk m c 1 p : Vec Ideal S6144x512 .bf16) (ix2 k b) = slot 704 (fun q => arg1 m c (ix2 q C)) (k / 768) (k % 768) := fun k =>
    (read1 (V m c main_v7 : FVec Ideal S6144x2048 .bf16) p j hj k b).trans ((congrArg (fun q => (V m c main_v7 : FVec Ideal S6144x2048 .bf16) (ix2 k q)) eb).trans (v7_at m c k C))
  have ex : (iblk m c 2 p : Vec Ideal S512x512 .f32) (ix2 r b) = arg2 m c (ix2 R C) :=
    (read2 (V m c main_arg2 : FVec Ideal S2048x2048 .f32) p i j hi hj r b).trans ((congrArg (fun q => (V m c main_arg2 : FVec Ideal S2048x2048 .f32) (ix2 q ⟨512 * j + b, by omega⟩)) er).trans ((congrArg (fun q => (V m c main_arg2 : FVec Ideal S2048x2048 .f32) (ix2 R q)) eb).trans (congrFun (V_main_arg2 m c) (ix2 R C))))
  exact (add_eq ((Finset.sum_congr rfl fun k _ => (mul_eq (ea k) (eb' k)).trans (slot_mul _ _ _ _ _)).trans (sum_padded _ _ _ _ rfl rfl (by decide))) ex).trans (add_comm _ _)

end Kernel

section Reference

open Cert.DownReferenceIdeal Cert.DownReferenceIdeal.Gen

/-- The reference's result, entry by entry. -/
theorem reference_at (A : FVec Ideal S2048x5632 .f32) (B : FVec Ideal S5632x2048 .f32) (X : FVec Ideal S2048x2048 .f32) (r : Fin 2048) (b : Fin 2048) :
    (addf X (Host.dotGeneral dot_S2048x5632_S5632x2048_S2048x2048_1_0_0_1_n_n none A B) : FVec Ideal S2048x2048 .f32) (ix2 r b) = spec A B X r b := by
  pointwise
  rfl

end Reference

/-- Over the extended reals the call's result is the reference's. -/
theorem algebraic : Cert.algebraic_DownIdeal_DownReferenceIdeal := by
  intro m ρ m' ρ' _ hagree
  refine ⟨_, Cert.DownIdeal.Value.run_blocks (F := Ideal) m ρ, ?_⟩
  refine (θ_run Cert.DownReferenceIdeal.defs _ _).mono (fun _ h c => ?_) (Cert.DownReferenceIdeal.Value.run (F := Ideal) m' ρ')
  obtain ⟨g0, g1, g2⟩ := hagree c
  refine ⟨(h c).1.trans (funext fun i => ?_), (h c).2⟩
  obtain ⟨a, b, rfl⟩ : ∃ a b, i = ix2 a b := ⟨i 0, i 1, eq_ix2 i⟩
  refine (reference_at _ _ _ a b).trans (Eq.trans ?_ (result_at m c a b).symm)
  exact (congrArg₂ (fun A B => spec A B _ a b) g0 g1).trans (congrArg (fun X => spec _ _ X a b) g2)

end Cert.DownClaim

end
-- ==== Proof.DAct.lean ====
/- The gradient with respect to the gated activations: the product of the upstream gradient with the transposed down
   projection, block by block. -/
module

public import proofs.«01_k».proof.Proof.Base
public import proofs.«01_k».proof.Proof.Parts
public import proofs.«01_k».proof.Proof.Gen.DAct.Frame
public import proofs.«01_k».proof.Proof.Gen.DActIdeal.Value
public import proofs.«01_k».proof.Proof.Gen.DActReferenceIdeal.Run

@[expose] public section

set_option maxRecDepth 16384

noncomputable section

namespace Cert.DActClaim

open Idealize.ShloMosaic Idealize.ShloMosaic.TcCoe Idealize.SL.Sem Cert.Parts

/-- The gradient at token `r`, column `b` of the padded width. -/
def spec (A : (⟨2, ![2048, 2048]⟩ : Shape).Idx → EReal) (B : (⟨2, ![5632, 2048]⟩ : Shape).Idx → EReal) (r : Fin 2048) (b : Fin 6144) : EReal :=
  slot 704 (fun i => ∑ k : Fin 2048, A (ix2 r k) * B (ix2 i k)) (b / 768) (b % 768)

section Kernel

open Cert.DActIdeal Cert.DActIdeal.Gen Cert.DActIdeal.Value Idealize.ShloMosaic.StableHlo

variable (m : (ℓ : Loc nD τ sig) → Buf (Elt Ideal) ℓ) (c : Dev nD)

/-- The arguments. -/
abbrev arg0 : FVec Ideal S2048x2048 .f32 := m (c, Proc.devRef .tc main_arg0)
abbrev arg1 : FVec Ideal S5632x2048 .f32 := m (c, Proc.devRef .tc main_arg1)

/-! What the host prepares. -/

theorem v0_at (i : Fin 2048) (j : Fin 2048) :
    (V m c main_v0 : FVec Ideal S2048x2048 .bf16) (ix2 i j) = arg0 m c (ix2 i j) := by
  unfold V
  after_reads_simp
  rfl

theorem v4_at (j : Fin 6144) (i : Fin 2048) :
    (V m c main_v4 : FVec Ideal S6144x2048 .bf16) (ix2 j i) = slot 704 (fun q => arg1 m c (ix2 q i)) (j / 768) (j % 768) := by
  unfold V
  after_reads_simp
  simp only [TRef.toBuf, TRef.ofBuf, cast_eq]
  pointwise
  symm
  apply slot_dite
  · exact sitofp_zero _
  · rfl

/-! What a point computes, and where its blocks lie. -/

theorem pay_at (v0 : Vec Ideal S2048x2048 .bf16) (v2 : Vec Ideal S1024x2048 .bf16) (r : Fin 2048) (b : Fin 1024) :
    k0_pay1 v0 v2 (ix2 r b) = ∑ k : Fin 2048, v0 (ix2 r k) * v2 (ix2 b k) := by
  unfold k0_pay1
  pointwise

theorem out_eq (v0 : Vec Ideal S2048x2048 .bf16) (v2 : Vec Ideal S1024x2048 .bf16) : out0_2 v0 v2 = k0_pay1 v0 v2 := by
  unfold out0_2
  rw [View.canon_unit_zero zeros, View.ld_unit_zero zeros, View.ld_unit_zero zeros]

theorem read0 (A : FVec Ideal S2048x2048 .bf16) (p : Fin cfg0.N) (r : Fin 2048) (k : Fin 2048) :
    (((cfg0.win 0).blk p).view.read (Elt Ideal) A : Vec Ideal S2048x2048 .bf16) (ix2 r k) = A (ix2 r k) := by
  have e := (by decide +kernel : ∀ p : Fin grid0.N, win0_0.index p = ![0, 0]) p
  refine congrArg A (?_ : ((cfg0.win 0).blk p).view.emb _ = _)
  blk_ext [e]

theorem read1 (A : FVec Ideal S6144x2048 .bf16) (p : Fin cfg0.N) (j : Fin 6) (hj : p.val = j) (r : Fin 1024) (k : Fin 2048) :
    (((cfg0.win 1).blk p).view.read (Elt Ideal) A : Vec Ideal S1024x2048 .bf16) (ix2 r k) = A (ix2 ⟨1024 * j + r, by omega⟩ k) := by
  have e := (by decide +kernel : ∀ p : Fin grid0.N, win0_1.index p = ![p.val, 0]) p
  rw [hj] at e
  refine congrArg A (?_ : ((cfg0.win 1).blk p).view.emb _ = _)
  blk_ext [e]

theorem read2 (A : FVec Ideal S2048x6144 .bf16) (p : Fin cfg0.N) (j : Fin 6) (hj : p.val = j) (r : Fin 2048) (k : Fin 1024) :
    (((cfg0.win 2).blk p).view.read (Elt Ideal) A : Vec Ideal S2048x1024 .bf16) (ix2 r k) = A (ix2 r ⟨1024 * j + k, by omega⟩) := by
  have e := (by decide +kernel : ∀ p : Fin grid0.N, win0_2.index p = ![0, p.val]) p
  rw [hj] at e
  refine congrArg A (?_ : ((cfg0.win 2).blk p).view.emb _ = _)
  blk_ext [e]

theorem flush2 : ∀ p : Fin cfg0.N, (cfg0.win 2).flush p = true := (by decide +kernel : ∀ p : Fin grid0.N, _)

/-- The array the call returns, entry by entry. -/
theorem result_at (R : Fin 2048) (C : Fin 6144) :
    ((dats m 0 c).arrAt 2 cfg0.N : FVec Ideal S2048x6144 .bf16) (ix2 R C) = spec (arg0 m c) (arg1 m c) R C := by
  have hN : cfg0.N = 6 := N_0
  let j : Fin 6 := ⟨C / 1024, by omega⟩
  let b : Fin 1024 := ⟨C % 1024, by omega⟩
  have eb : (⟨1024 * j + b, by omega⟩ : Fin 6144) = C := Fin.ext (show 1024 * (C.val / 1024) + C.val % 1024 = C.val by omega)
  let p : Fin cfg0.N := ⟨j, by omega⟩
  have hj : p.val = j := rfl
  have e := congrFun ((blocks2 m c p (flush2 p)).trans (flushed2 m c p)) (ix2 R b)
  refine (congrArg (fun q => ((dats m 0 c).arrAt 2 cfg0.N : FVec Ideal S2048x6144 .bf16) (ix2 R q)) eb).symm.trans ?_
  refine (read2 _ p j hj R b).symm.trans (e.trans ?_)
  refine (congrFun (out_eq _ _ ) (ix2 R b)).trans ((pay_at _ _ R b).trans ?_)
  have ea : ∀ k, (iblk m c 0 p : Vec Ideal S2048x2048 .bf16) (ix2 R k) = arg0 m c (ix2 R k) := fun k =>
    (read0 (V m c main_v0 : FVec Ideal S2048x2048 .bf16) p R k).trans (v0_at m c R k)
  have eb' : ∀ k, (iblk m c 1 p : Vec Ideal S1024x2048 .bf16) (ix2 b k) = slot 704 (fun q => arg1 m c (ix2 q k)) (C / 768) (C % 768) := fun k =>
    (read1 (V m c main_v4 : FVec Ideal S6144x2048 .bf16) p j hj b k).trans ((congrArg (fun q => (V m c main_v4 : FVec Ideal S6144x2048 .bf16) (ix2 q k)) eb).trans (v4_at m c C k))
  exact (Finset.sum_congr rfl fun k _ => (mul_eq (ea k) (eb' k)).trans (mul_slot _ _ _ _ _)).trans (sum_slot _ _ _ _)

end Kernel

section Reference

open Cert.DActReferenceIdeal Cert.DActReferenceIdeal.Gen

/-- The reference's result, entry by entry. -/
theorem reference_at (A : FVec Ideal S2048x2048 .f32) (B : FVec Ideal S5632x2048 .f32) (r : Fin 2048) (b : Fin 6144) :
    (truncf .bf16 (shapeCast _ (pad S2048x8x768 ![0, 0, 0] ![0, 0, 64] ![0, 0, 0] (shapeCast _ (Host.dotGeneral dot_S2048x2048_S5632x2048_S2048x5632_1_1_0_0_n_n none A B) shapeCasts_S2048x5632_S2048x8x704) (sitofp .f32 (constantI S_ 32 0#32)) pads_S2048x8x704_S2048x8x768_000_000_0640 h_S_) shapeCasts_S2048x8x768_S2048x6144) bitsLt_bf16_f32 : FVec Ideal S2048x6144 .bf16) (ix2 r b) = spec A B r b := by
  pointwise
  unfold spec
  symm
  apply slot_dite
  · exact sitofp_zero _
  · rfl

end Reference

/-- Over the extended reals the call's result is the reference's. -/
theorem algebraic : Cert.algebraic_DActIdeal_DActReferenceIdeal := by
  intro m ρ m' ρ' _ hagree
  refine ⟨_, Cert.DActIdeal.Value.run_blocks (F := Ideal) m ρ, ?_⟩
  refine (θ_run Cert.DActReferenceIdeal.defs _ _).mono (fun _ h c => ?_) (Cert.DActReferenceIdeal.Value.run (F := Ideal) m' ρ')
  obtain ⟨g0, g1⟩ := hagree c
  refine ⟨(h c).1.trans (funext fun i => ?_), (h c).2⟩
  obtain ⟨a, b, rfl⟩ : ∃ a b, i = ix2 a b := ⟨i 0, i 1, eq_ix2 i⟩
  refine (reference_at _ _ a b).trans (Eq.trans ?_ (result_at m c a b).symm)
  exact congrArg₂ (fun A B => spec A B a b) g0 g1

end Cert.DActClaim

end
-- ==== Proof.DwDown.lean ====
/- The gradient of the down projection's weight: the product of the transposed activations with the upstream gradient,
   block by block. -/
module

public import proofs.«01_k».proof.Proof.Base
public import proofs.«01_k».proof.Proof.Parts
public import proofs.«01_k».proof.Proof.Gen.DwDown.Frame
public import proofs.«01_k».proof.Proof.Gen.DwDownIdeal.Value
public import proofs.«01_k».proof.Proof.Gen.DwDownReferenceIdeal.Run

@[expose] public section

set_option maxRecDepth 16384

noncomputable section

namespace Cert.DwDownClaim

open Idealize.ShloMosaic Idealize.ShloMosaic.TcCoe Idealize.SL.Sem Cert.Parts

/-- The gradient at row `r` of the padded width, channel `b`. -/
def spec (A : (⟨2, ![2048, 5632]⟩ : Shape).Idx → EReal) (B : (⟨2, ![2048, 2048]⟩ : Shape).Idx → EReal) (r : Fin 6144) (b : Fin 2048) : EReal :=
  slot 704 (fun i => ∑ k : Fin 2048, B (ix2 k b) * A (ix2 k i)) (r / 768) (r % 768)

section Kernel

open Cert.DwDownIdeal Cert.DwDownIdeal.Gen Cert.DwDownIdeal.Value Idealize.ShloMosaic.StableHlo

variable (m : (ℓ : Loc nD τ sig) → Buf (Elt Ideal) ℓ) (c : Dev nD)

/-- The arguments. -/
abbrev arg0 : FVec Ideal S2048x5632 .f32 := m (c, Proc.devRef .tc main_arg0)
abbrev arg1 : FVec Ideal S2048x2048 .f32 := m (c, Proc.devRef .tc main_arg1)

/-! What the host prepares. -/

theorem v3_at (i : Fin 2048) (j : Fin 6144) :
    (V m c main_v3 : FVec Ideal S2048x6144 .bf16) (ix2 i j) = slot 704 (fun q => arg0 m c (ix2 i q)) (j / 768) (j % 768) := by
  unfold V
  after_reads_simp
  simp only [TRef.toBuf, TRef.ofBuf, cast_eq]
  pointwise
  symm
  apply slot_dite
  · exact sitofp_zero _
  · rfl

theorem v4_at (i : Fin 2048) (j : Fin 2048) :
    (V m c main_v4 : FVec Ideal S2048x2048 .bf16) (ix2 i j) = arg1 m c (ix2 i j) := by
  unfold V
  after_reads_simp
  rfl

/-! What a point computes, and where its blocks lie. -/

theorem pay_at (v0 : Vec Ideal S2048x512 .bf16) (v2 : Vec Ideal S2048x2048 .bf16) (r : Fin 512) (b : Fin 2048) :
    k0_pay1 v0 v2 (ix2 r b) = ∑ k : Fin 2048, v0 (ix2 k r) * v2 (ix2 k b) := by
  unfold k0_pay1
  pointwise

theorem out_eq (v0 : Vec Ideal S2048x512 .bf16) (v2 : Vec Ideal S2048x2048 .bf16) : out0_2 v0 v2 = k0_pay1 v0 v2 := by
  unfold out0_2
  rw [View.canon_unit_zero zeros, View.ld_unit_zero zeros, View.ld_unit_zero zeros]

theorem read0 (A : FVec Ideal S2048x6144 .bf16) (p : Fin cfg0.N) (i : Fin 12) (hi : p.val = i) (r : Fin 2048) (k : Fin 512) :
    (((cfg0.win 0).blk p).view.read (Elt Ideal) A : Vec Ideal S2048x512 .bf16) (ix2 r k) = A (ix2 r ⟨512 * i + k, by omega⟩) := by
  have e := (by decide +kernel : ∀ p : Fin grid0.N, win0_0.index p = ![0, p.val]) p
  rw [hi] at e
  refine congrArg A (?_ : ((cfg0.win 0).blk p).view.emb _ = _)
  blk_ext [e]

theorem read1 (A : FVec Ideal S2048x2048 .bf16) (p : Fin cfg0.N) (r : Fin 2048) (k : Fin 2048) :
    (((cfg0.win 1).blk p).view.read (Elt Ideal) A : Vec Ideal S2048x2048 .bf16) (ix2 r k) = A (ix2 r k) := by
  have e := (by decide +kernel : ∀ p : Fin grid0.N, win0_1.index p = ![0, 0]) p
  refine congrArg A (?_ : ((cfg0.win 1).blk p).view.emb _ = _)
  blk_ext [e]

theorem read2 (A : FVec Ideal S6144x2048 .f32) (p : Fin cfg0.N) (i : Fin 12) (hi : p.val = i) (r : Fin 512) (k : Fin 2048) :
    (((cfg0.win 2).blk p).view.read (Elt Ideal) A : Vec Ideal S512x2048 .f32) (ix2 r k) = A (ix2 ⟨512 * i + r, by omega⟩ k) := by
  have e := (by decide +kernel : ∀ p : Fin grid0.N, win0_2.index p = ![p.val, 0]) p
  rw [hi] at e
  refine congrArg A (?_ : ((cfg0.win 2).blk p).view.emb _ = _)
  blk_ext [e]

theorem flush2 : ∀ p : Fin cfg0.N, (cfg0.win 2).flush p = true := (by decide +kernel : ∀ p : Fin grid0.N, _)

/-- The array the call returns, entry by entry. -/
theorem result_at (R : Fin 6144) (C : Fin 2048) :
    ((dats m 0 c).arrAt 2 cfg0.N : FVec Ideal S6144x2048 .f32) (ix2 R C) = spec (arg0 m c) (arg1 m c) R C := by
  have hN : cfg0.N = 12 := N_0
  let i : Fin 12 := ⟨R / 512, by omega⟩
  let r : Fin 512 := ⟨R % 512, by omega⟩
  have er : (⟨512 * i + r, by omega⟩ : Fin 6144) = R := Fin.ext (show 512 * (R.val / 512) + R.val % 512 = R.val by omega)
  let p : Fin cfg0.N := ⟨i, by omega⟩
  have hi : p.val = i := rfl
  have e := congrFun ((blocks2 m c p (flush2 p)).trans (flushed2 m c p)) (ix2 r C)
  refine (congrArg (fun q => ((dats m 0 c).arrAt 2 cfg0.N : FVec Ideal S6144x2048 .f32) (ix2 q C)) er).symm.trans ?_
  refine (read2 _ p i hi r C).symm.trans (e.trans ?_)
  refine (congrFun (out_eq _ _ ) (ix2 r C)).trans ((pay_at _ _ r C).trans ?_)
  have ea : ∀ k, (iblk m c 0 p : Vec Ideal S2048x512 .bf16) (ix2 k r) = slot 704 (fun q => arg0 m c (ix2 k q)) (R / 768) (R % 768) := fun k =>
    (read0 (V m c main_v3 : FVec Ideal S2048x6144 .bf16) p i hi k r).trans ((congrArg (fun q => (V m c main_v3 : FVec Ideal S2048x6144 .bf16) (ix2 k q)) er).trans (v3_at m c k R))
  have eb' : ∀ k, (iblk m c 1 p : Vec Ideal S2048x2048 .bf16) (ix2 k C) = arg1 m c (ix2 k C) := fun k =>
    (read1 (V m c main_v4 : FVec Ideal S2048x2048 .bf16) p k C).trans (v4_at m c k C)
  exact (Finset.sum_congr rfl fun k _ => (mul_eq (ea k) (eb' k)).trans ((mul_comm _ _).trans (mul_slot _ _ _ _ _))).trans (sum_slot _ _ _ _)

end Kernel

section Reference

open Cert.DwDownReferenceIdeal Cert.DwDownReferenceIdeal.Gen

/-- The reference's result, entry by entry. -/
theorem reference_at (A : FVec Ideal S2048x5632 .f32) (B : FVec Ideal S2048x2048 .f32) (r : Fin 6144) (b : Fin 2048) :
    (shapeCast _ (pad S8x768x2048 ![0, 0, 0] ![0, 64, 0] ![0, 0, 0] (shapeCast _ (transpose S5632x2048 [1, 0] (Host.dotGeneral dot_S2048x2048_S2048x5632_S2048x5632_0_0_1_1_n_n none B A) transposes_S2048x5632_S5632x2048_1_0) shapeCasts_S5632x2048_S8x704x2048) (sitofp .f32 (constantI S_ 32 0#32)) pads_S8x704x2048_S8x768x2048_000_0640_000 h_S_) shapeCasts_S8x768x2048_S6144x2048 : FVec Ideal S6144x2048 .f32) (ix2 r b) = spec A B r b := by
  pointwise
  unfold spec
  symm
  apply slot_dite
  · exact sitofp_zero _
  · rfl

end Reference

/-- Over the extended reals the call's result is the reference's. -/
theorem algebraic : Cert.algebraic_DwDownIdeal_DwDownReferenceIdeal := by
  intro m ρ m' ρ' _ hagree
  refine ⟨_, Cert.DwDownIdeal.Value.run_blocks (F := Ideal) m ρ, ?_⟩
  refine (θ_run Cert.DwDownReferenceIdeal.defs _ _).mono (fun _ h c => ?_) (Cert.DwDownReferenceIdeal.Value.run (F := Ideal) m' ρ')
  obtain ⟨g0, g1⟩ := hagree c
  refine ⟨(h c).1.trans (funext fun i => ?_), (h c).2⟩
  obtain ⟨a, b, rfl⟩ : ∃ a b, i = ix2 a b := ⟨i 0, i 1, eq_ix2 i⟩
  refine (reference_at _ _ a b).trans (Eq.trans ?_ (result_at m c a b).symm)
  exact congrArg₂ (fun A B => spec A B a b) g0 g1

end Cert.DwDownClaim

end
-- ==== Proof.DhGate.lean ====
/- The gradient with respect to the tokens through the gate: the product of the upstream gradient with the transposed
   weight, summed part by part. -/
module

public import proofs.«01_k».proof.Proof.Base
public import proofs.«01_k».proof.Proof.Parts
public import proofs.«01_k».proof.Proof.Gen.DhGate.Frame
public import proofs.«01_k».proof.Proof.Gen.DhGateIdeal.Value
public import proofs.«01_k».proof.Proof.Gen.DhGateReferenceIdeal.Run

@[expose] public section

set_option maxRecDepth 16384

noncomputable section

namespace Cert.DhGateClaim

open Idealize.ShloMosaic Idealize.ShloMosaic.TcCoe Idealize.SL.Sem Cert.Parts

/-- The gradient at token `r`, channel `b`. -/
def spec (A : (⟨2, ![2048, 5632]⟩ : Shape).Idx → EReal) (B : (⟨2, ![2048, 5632]⟩ : Shape).Idx → EReal) (r : Fin 2048) (b : Fin 2048) : EReal :=
  ∑ k : Fin 5632, A (ix2 r k) * B (ix2 b k)

/-- One part's share of the sum, its places past the part's entries contributing nothing. -/
def share (A : (⟨2, ![2048, 5632]⟩ : Shape).Idx → EReal) (B : (⟨2, ![2048, 5632]⟩ : Shape).Idx → EReal) (r : Fin 2048) (b : Fin 2048) (p : ℕ) : EReal :=
  ∑ k : Fin 768, slot 704 (fun q => A (ix2 r q) * B (ix2 b q)) p k

section Kernel

open Cert.DhGateIdeal Cert.DhGateIdeal.Gen Cert.DhGateIdeal.Value Idealize.ShloMosaic.StableHlo

variable (m : (ℓ : Loc nD τ sig) → Buf (Elt Ideal) ℓ) (c : Dev nD)

/-- The arguments. -/
abbrev arg0 : FVec Ideal S2048x5632 .f32 := m (c, Proc.devRef .tc main_arg0)
abbrev arg1 : FVec Ideal S2048x5632 .f32 := m (c, Proc.devRef .tc main_arg1)

/-! What the host prepares. -/

theorem v3_at (i : Fin 2048) (j : Fin 6144) :
    (V m c main_v3 : FVec Ideal S2048x6144 .bf16) (ix2 i j) = slot 704 (fun q => arg0 m c (ix2 i q)) (j / 768) (j % 768) := by
  unfold V
  after_reads_simp
  simp only [TRef.toBuf, TRef.ofBuf, cast_eq]
  pointwise
  symm
  apply slot_dite
  · exact sitofp_zero _
  · rfl

theorem v7_at (p : Fin 8) (i : Fin 2048) (b : Fin 768) :
    (V m c main_v7 : FVec Ideal S8x2048x768 .bf16) (ix3 p i b) = slot 704 (fun q => arg1 m c (ix2 i q)) p b := by
  unfold V
  after_reads_simp
  simp only [TRef.toBuf, TRef.ofBuf, cast_eq]
  pointwise
  symm
  apply slot_dite'
  exact sitofp_zero _

/-! What a point computes, and where its blocks lie. -/

theorem pay_at (v0 : Vec Ideal S1024x768 .bf16) (v2 : Vec Ideal S1x2048x768 .bf16) (r : Fin 1024) (b : Fin 2048) :
    k0_pay1 v0 v2 (ix2 r b) = ∑ k : Fin 768, v0 (ix2 r k) * v2 (ix3 0 b k) := by
  unfold k0_pay1
  pointwise

theorem pay_next_at (v0 : Vec Ideal S1024x768 .bf16) (v2 : Vec Ideal S1x2048x768 .bf16) (x : Vec Ideal S1024x2048 .f32) (r : Fin 1024) (b : Fin 2048) :
    k0_pay2 v0 v2 x (ix2 r b) = x (ix2 r b) + k0_pay1 v0 v2 (ix2 r b) := by
  unfold k0_pay2
  pointwise

/-- A row block's first part starts the sum. -/
theorem first_eq (t : Fin cfg0.N) (h0 : t.val % 8 = 0) (h1 : ¬1 ≤ t.val % 8) :
    outsAt0 m c t.val t.isLt = k0_pay1 (iblk m c 0 t) (iblk m c 1 t) := by
  rw [outsAt0_A m c t h0 h1]
  unfold out0_A_2 kernelRun0_A
  dsimp only
  simp only [View.readAt_eq_ld, (hs0_0 t).read_unread, (hs0_1 t).read_unread]
  rw [View.ld_unit_zero zeros, View.ld_unit_zero zeros, View.read_writes_junk_eq_canon,
    View.canon_unit_zero zeros]

/-- Every other part is added to what the part before left. -/
theorem next_eq (t : Fin cfg0.N) (h0 : ¬t.val % 8 = 0) (h1 : 1 ≤ t.val % 8) :
    outsAt0 m c t.val t.isLt = k0_pay2 (iblk m c 0 t) (iblk m c 1 t) (outsAt0 m c (t.val - 1) (Nat.lt_of_le_of_lt (Nat.sub_le _ _) t.isLt)) := by
  rw [outsAt0_B m c t h0 h1]
  unfold out0_B_2 kernelRun0_B
  dsimp only
  simp only [View.readAt_eq_ld, (hs0_0 t).read_unread, (hs0_1 t).read_unread, (hs0_2 t).read_unread]
  rw [View.ld_unit_zero zeros, View.ld_unit_zero zeros, View.ld_unit_zero zeros, View.read_writes_junk_eq_canon,
    View.canon_unit_zero zeros]

theorem read0 (A : FVec Ideal S2048x6144 .bf16) (p : Fin cfg0.N) (i : Fin 2) (j : Fin 8) (hi : p.val / 8 = i) (hj : p.val % 8 = j) (r : Fin 1024) (k : Fin 768) :
    (((cfg0.win 0).blk p).view.read (Elt Ideal) A : Vec Ideal S1024x768 .bf16) (ix2 r k) = A (ix2 ⟨1024 * i + r, by omega⟩ ⟨768 * j + k, by omega⟩) := by
  have e := (by decide +kernel : ∀ p : Fin grid0.N, win0_0.index p = ![p.val / 8, p.val % 8]) p
  rw [hi, hj] at e
  refine congrArg A (?_ : ((cfg0.win 0).blk p).view.emb _ = _)
  blk_ext [e]

theorem read1 (A : FVec Ideal S8x2048x768 .bf16) (p : Fin cfg0.N) (j : Fin 8) (hj : p.val % 8 = j) (k : Fin 2048) (l : Fin 768) :
    (((cfg0.win 1).blk p).view.read (Elt Ideal) A : Vec Ideal S1x2048x768 .bf16) (ix3 0 k l) = A (ix3 j k l) := by
  have e := (by decide +kernel : ∀ p : Fin grid0.N, win0_1.index p = ![p.val % 8, 0, 0]) p
  rw [hj] at e
  refine congrArg A (?_ : ((cfg0.win 1).blk p).view.emb _ = _)
  blk_ext [e]

theorem read2 (A : FVec Ideal S2048x2048 .f32) (p : Fin cfg0.N) (i : Fin 2) (hi : p.val / 8 = i) (r : Fin 1024) (k : Fin 2048) :
    (((cfg0.win 2).blk p).view.read (Elt Ideal) A : Vec Ideal S1024x2048 .f32) (ix2 r k) = A (ix2 ⟨1024 * i + r, by omega⟩ k) := by
  have e := (by decide +kernel : ∀ p : Fin grid0.N, win0_2.index p = ![p.val / 8, 0]) p
  rw [hi] at e
  refine congrArg A (?_ : ((cfg0.win 2).blk p).view.emb _ = _)
  blk_ext [e]

/-- A point adds its part's share. -/
theorem share_at (t : Fin cfg0.N) (i : Fin 2) (j : Fin 8) (hi : t.val / 8 = i) (hj : t.val % 8 = j) (r : Fin 1024) (b : Fin 2048) :
    k0_pay1 (iblk m c 0 t) (iblk m c 1 t) (ix2 r b) = share (arg0 m c) (arg1 m c) ⟨1024 * i + r, by omega⟩ b j := by
  refine (pay_at _ _ r b).trans ?_
  have ea : ∀ k, (iblk m c 0 t : Vec Ideal S1024x768 .bf16) (ix2 r k) = slot 704 (fun q => arg0 m c (ix2 ⟨1024 * i + r, by omega⟩ q)) j k := fun k =>
    (read0 (V m c main_v3 : FVec Ideal S2048x6144 .bf16) t i j hi hj r k).trans ((v3_at m c ⟨1024 * i + r, by omega⟩ ⟨768 * j + k, by omega⟩).trans (slot_place _ _ _ k.isLt))
  have eb : ∀ k, (iblk m c 1 t : Vec Ideal S1x2048x768 .bf16) (ix3 0 b k) = slot 704 (fun q => arg1 m c (ix2 b q)) j k := fun k =>
    (read1 (V m c main_v7 : FVec Ideal S8x2048x768 .bf16) t j hj b k).trans (v7_at m c j b k)
  exact Finset.sum_congr rfl fun k _ => (mul_eq (ea k) (eb k)).trans (slot_mul _ _ _ _ _)

theorem point_lt (i : Fin 2) {q : ℕ} (hq : q < 8) : 8 * i.val + q < cfg0.N := by
  have hN : cfg0.N = 16 := N_0
  omega

/-- After the last part it holds the whole sum. -/
theorem last_at (i : Fin 2) (r : Fin 1024) (b : Fin 2048) :
    (outsAt0 m c (8 * i.val + 7) (point_lt i (by decide)) : Vec Ideal S1024x2048 .f32) (ix2 r b) = spec (arg0 m c) (arg1 m c) ⟨1024 * i + r, by omega⟩ b := by
  let t (q : ℕ) (hq : q < 8) : Fin cfg0.N := ⟨8 * i.val + q, point_lt i hq⟩
  have hj (q : ℕ) (hq : q < 8) : (t q hq).val % 8 = q := by show (8 * i.val + q) % 8 = q; omega
  have hi (q : ℕ) (hq : q < 8) : (t q hq).val / 8 = i := by show (8 * i.val + q) / 8 = i.val; omega
  refine (sum_run (f := fun q hq => outsAt0 m c (8 * i.val + q) (point_lt i hq) (ix2 r b)) (s := share (arg0 m c) (arg1 m c) ⟨1024 * i + r, by omega⟩ b) 0 ?_ fun q hq => ?_).trans
    ((add_zero _).trans (sum_parts 704 _ rfl (by decide)))
  · have h8 : 0 < 8 := by decide
    have h := hj 0 h8
    exact (congrFun (first_eq m c (t 0 h8) h (by omega)) _).trans ((share_at m c (t 0 h8) i 0 (hi 0 h8) h r b).trans (add_zero _).symm)
  · have h := hj (q + 1) hq
    exact (congrFun (next_eq m c (t _ hq) (by omega) (by omega)) _).trans ((pay_next_at _ _ _ r b).trans
      (add_eq rfl (share_at m c (t _ hq) i ⟨q + 1, hq⟩ (hi _ hq) h r b)))

theorem flush2 : ∀ p : Fin cfg0.N, (cfg0.win 2).flush p = true ↔ p.val % 8 = 7 := (by decide +kernel : ∀ p : Fin grid0.N, _)

/-- The whole result, as an array. -/
def whole : FVec Ideal S2048x2048 .f32 := fun x => spec (arg0 m c) (arg1 m c) (x 0) (x 1)

theorem outs_congr {a b : ℕ} (h : a = b) (ha : a < cfg0.N) (hb : b < cfg0.N) : outsAt0 m c a ha = outsAt0 m c b hb := by subst h; rfl

/-- Every block written back is the result's. -/
theorem flushed_whole (t : Fin cfg0.N) (hf : (cfg0.win 2).flush t = true) :
    (dats m 0 c).flushed 2 t = ((cfg0.win 2).blk t).view.read (Elt Ideal) (whole m c) := by
  have hN : cfg0.N = 16 := N_0
  have h7 := (flush2 t).1 hf
  let i : Fin 2 := ⟨t.val / 8, by omega⟩
  have hi : t.val / 8 = i := rfl
  refine (flushed2 m c t).trans ?_
  rw [outs_congr m c (show t.val = 8 * i.val + 7 by show t.val = 8 * (t.val / 8) + 7; omega) t.isLt (point_lt i (by decide))]
  refine funext fun (y : S1024x2048.Idx) => ?_
  obtain ⟨r, b, rfl⟩ : ∃ r b, y = ix2 r b := ⟨y 0, y 1, eq_ix2 y⟩
  exact (last_at m c i r b).trans (read2 (whole m c) t i hi r b).symm

/-- The array the call returns, entry by entry. -/
theorem result_at (R : Fin 2048) (C : Fin 2048) :
    ((dats m 0 c).arrAt 2 cfg0.N : FVec Ideal S2048x2048 .f32) (ix2 R C) = spec (arg0 m c) (arg1 m c) R C := by
  let i : Fin 2 := ⟨R / 1024, by omega⟩
  let r : Fin 1024 := ⟨R % 1024, by omega⟩
  have er : (⟨1024 * i + r, by omega⟩ : Fin 2048) = R := Fin.ext (show 1024 * (R.val / 1024) + R.val % 1024 = R.val by omega)
  let p : Fin cfg0.N := ⟨8 * i.val + 7, point_lt i (by decide)⟩
  have hi : p.val / 8 = i := by show (8 * i.val + 7) / 8 = i.val; omega
  have hf : (cfg0.win 2).flush p = true := (flush2 p).2 (by show (8 * i.val + 7) % 8 = 7; omega)
  have e := congrFun ((dats m 0 c).read_blk_arrAt 2 (whole m c) (flushed_whole m c) p hf) (ix2 r C)
  have f := (read2 _ p i hi r C).symm.trans (e.trans (read2 (whole m c) p i hi r C))
  rw [er] at f
  exact f

end Kernel

section Reference

open Cert.DhGateReferenceIdeal Cert.DhGateReferenceIdeal.Gen

/-- The reference's result, entry by entry. -/
theorem reference_at (A : FVec Ideal S2048x5632 .f32) (B : FVec Ideal S2048x5632 .f32) (r : Fin 2048) (b : Fin 2048) :
    (Host.dotGeneral dot_S2048x5632_S2048x5632_S2048x2048_1_1_0_0_n_n none A B : FVec Ideal S2048x2048 .f32) (ix2 r b) = spec A B r b := by
  pointwise
  rfl

end Reference

/-- Over the extended reals the call's result is the reference's. -/
theorem algebraic : Cert.algebraic_DhGateIdeal_DhGateReferenceIdeal := by
  intro m ρ m' ρ' _ hagree
  refine ⟨_, Cert.DhGateIdeal.Value.run_blocks (F := Ideal) m ρ, ?_⟩
  refine (θ_run Cert.DhGateReferenceIdeal.defs _ _).mono (fun _ h c => ?_) (Cert.DhGateReferenceIdeal.Value.run (F := Ideal) m' ρ')
  obtain ⟨g0, g1⟩ := hagree c
  refine ⟨(h c).1.trans (funext fun i => ?_), (h c).2⟩
  obtain ⟨a, b, rfl⟩ : ∃ a b, i = ix2 a b := ⟨i 0, i 1, eq_ix2 i⟩
  refine (reference_at _ _ a b).trans (Eq.trans ?_ (result_at m c a b).symm)
  exact congrArg₂ (fun A B => spec A B a b) g0 g1

end Cert.DhGateClaim

end
-- ==== Proof.DhUp.lean ====
/- The gradient with respect to the tokens through the up projection: the product of the upstream gradient with the
   transposed weight, summed part by part and added to the gate's. -/
module

public import proofs.«01_k».proof.Proof.Base
public import proofs.«01_k».proof.Proof.Parts
public import proofs.«01_k».proof.Proof.Gen.DhUp.Frame
public import proofs.«01_k».proof.Proof.Gen.DhUpIdeal.Value
public import proofs.«01_k».proof.Proof.Gen.DhUpReferenceIdeal.Run

@[expose] public section

set_option maxRecDepth 16384

noncomputable section

namespace Cert.DhUpClaim

open Idealize.ShloMosaic Idealize.ShloMosaic.TcCoe Idealize.SL.Sem Cert.Parts

/-- The gradient at token `r`, channel `b`. -/
def spec (A : (⟨2, ![2048, 5632]⟩ : Shape).Idx → EReal) (B : (⟨2, ![2048, 5632]⟩ : Shape).Idx → EReal) (X : (⟨2, ![2048, 2048]⟩ : Shape).Idx → EReal) (r : Fin 2048) (b : Fin 2048) : EReal :=
  X (ix2 r b) + ∑ k : Fin 5632, A (ix2 r k) * B (ix2 b k)

/-- One part's share of the sum, its places past the part's entries contributing nothing. -/
def share (A : (⟨2, ![2048, 5632]⟩ : Shape).Idx → EReal) (B : (⟨2, ![2048, 5632]⟩ : Shape).Idx → EReal) (r : Fin 2048) (b : Fin 2048) (p : ℕ) : EReal :=
  ∑ k : Fin 768, slot 704 (fun q => A (ix2 r q) * B (ix2 b q)) p k

section Kernel

open Cert.DhUpIdeal Cert.DhUpIdeal.Gen Cert.DhUpIdeal.Value Idealize.ShloMosaic.StableHlo

variable (m : (ℓ : Loc nD τ sig) → Buf (Elt Ideal) ℓ) (c : Dev nD)

/-- The arguments. -/
abbrev arg0 : FVec Ideal S2048x5632 .f32 := m (c, Proc.devRef .tc main_arg0)
abbrev arg1 : FVec Ideal S2048x5632 .f32 := m (c, Proc.devRef .tc main_arg1)
abbrev arg2 : FVec Ideal S2048x2048 .f32 := m (c, Proc.devRef .tc main_arg2)

/-! What the host prepares. -/

theorem v3_at (i : Fin 2048) (j : Fin 6144) :
    (V m c main_v3 : FVec Ideal S2048x6144 .bf16) (ix2 i j) = slot 704 (fun q => arg0 m c (ix2 i q)) (j / 768) (j % 768) := by
  unfold V
  after_reads_simp
  simp only [TRef.toBuf, TRef.ofBuf, cast_eq]
  pointwise
  symm
  apply slot_dite
  · exact sitofp_zero _
  · rfl

theorem v7_at (p : Fin 8) (i : Fin 2048) (b : Fin 768) :
    (V m c main_v7 : FVec Ideal S8x2048x768 .bf16) (ix3 p i b) = slot 704 (fun q => arg1 m c (ix2 i q)) p b := by
  unfold V
  after_reads_simp
  simp only [TRef.toBuf, TRef.ofBuf, cast_eq]
  pointwise
  symm
  apply slot_dite'
  exact sitofp_zero _

/-! What a point computes, and where its blocks lie. -/

theorem pay_at (v0 : Vec Ideal S512x768 .bf16) (v2 : Vec Ideal S1x2048x768 .bf16) (r : Fin 512) (b : Fin 2048) :
    k0_pay1 v0 v2 (ix2 r b) = ∑ k : Fin 768, v0 (ix2 r k) * v2 (ix3 0 b k) := by
  unfold k0_pay1
  pointwise

theorem pay_add_at (v0 : Vec Ideal S512x768 .bf16) (v2 : Vec Ideal S1x2048x768 .bf16) (x : Vec Ideal S512x2048 .f32) (r : Fin 512) (b : Fin 2048) :
    k0_pay2 v0 v2 x (ix2 r b) = k0_pay1 v0 v2 (ix2 r b) + x (ix2 r b) := by
  unfold k0_pay2
  pointwise

theorem pay_next_at (v0 : Vec Ideal S512x768 .bf16) (v2 : Vec Ideal S1x2048x768 .bf16) (x : Vec Ideal S512x2048 .f32) (r : Fin 512) (b : Fin 2048) :
    k0_pay3 v0 v2 x (ix2 r b) = x (ix2 r b) + k0_pay1 v0 v2 (ix2 r b) := by
  unfold k0_pay3
  pointwise

/-- A row block's first part starts the sum. -/
theorem first_eq (t : Fin cfg0.N) (h0 : t.val % 8 = 0) (h1 : ¬1 ≤ t.val % 8) :
    outsAt0 m c t.val t.isLt = k0_pay2 (iblk m c 0 t) (iblk m c 1 t) (iblk m c 2 t) := by
  rw [outsAt0_A m c t h0 h1]
  unfold out0_A_3 kernelRun0_A
  dsimp only
  simp only [View.readAt_eq_ld, (hs0_0 t).read_unread, (hs0_1 t).read_unread, (hs0_2 t).read_unread]
  rw [View.ld_unit_zero zeros, View.ld_unit_zero zeros, View.ld_unit_zero zeros, View.read_writes_junk_eq_canon,
    View.canon_unit_zero zeros]

/-- Every other part is added to what the part before left. -/
theorem next_eq (t : Fin cfg0.N) (h0 : ¬t.val % 8 = 0) (h1 : 1 ≤ t.val % 8) :
    outsAt0 m c t.val t.isLt = k0_pay3 (iblk m c 0 t) (iblk m c 1 t) (outsAt0 m c (t.val - 1) (Nat.lt_of_le_of_lt (Nat.sub_le _ _) t.isLt)) := by
  rw [outsAt0_B m c t h0 h1]
  unfold out0_B_3 kernelRun0_B
  dsimp only
  simp only [View.readAt_eq_ld, (hs0_0 t).read_unread, (hs0_1 t).read_unread, (hs0_3 t).read_unread]
  rw [View.ld_unit_zero zeros, View.ld_unit_zero zeros, View.ld_unit_zero zeros, View.read_writes_junk_eq_canon,
    View.canon_unit_zero zeros]

theorem read0 (A : FVec Ideal S2048x6144 .bf16) (p : Fin cfg0.N) (i : Fin 4) (j : Fin 8) (hi : p.val / 8 = i) (hj : p.val % 8 = j) (r : Fin 512) (k : Fin 768) :
    (((cfg0.win 0).blk p).view.read (Elt Ideal) A : Vec Ideal S512x768 .bf16) (ix2 r k) = A (ix2 ⟨512 * i + r, by omega⟩ ⟨768 * j + k, by omega⟩) := by
  have e := (by decide +kernel : ∀ p : Fin grid0.N, win0_0.index p = ![p.val / 8, p.val % 8]) p
  rw [hi, hj] at e
  refine congrArg A (?_ : ((cfg0.win 0).blk p).view.emb _ = _)
  blk_ext [e]

theorem read1 (A : FVec Ideal S8x2048x768 .bf16) (p : Fin cfg0.N) (j : Fin 8) (hj : p.val % 8 = j) (k : Fin 2048) (l : Fin 768) :
    (((cfg0.win 1).blk p).view.read (Elt Ideal) A : Vec Ideal S1x2048x768 .bf16) (ix3 0 k l) = A (ix3 j k l) := by
  have e := (by decide +kernel : ∀ p : Fin grid0.N, win0_1.index p = ![p.val % 8, 0, 0]) p
  rw [hj] at e
  refine congrArg A (?_ : ((cfg0.win 1).blk p).view.emb _ = _)
  blk_ext [e]

theorem read2 (A : FVec Ideal S2048x2048 .f32) (p : Fin cfg0.N) (i : Fin 4) (hi : p.val / 8 = i) (r : Fin 512) (k : Fin 2048) :
    (((cfg0.win 2).blk p).view.read (Elt Ideal) A : Vec Ideal S512x2048 .f32) (ix2 r k) = A (ix2 ⟨512 * i + r, by omega⟩ k) := by
  have e := (by decide +kernel : ∀ p : Fin grid0.N, win0_2.index p = ![p.val / 8, 0]) p
  rw [hi] at e
  refine congrArg A (?_ : ((cfg0.win 2).blk p).view.emb _ = _)
  blk_ext [e]

theorem read3 (A : FVec Ideal S2048x2048 .f32) (p : Fin cfg0.N) (i : Fin 4) (hi : p.val / 8 = i) (r : Fin 512) (k : Fin 2048) :
    (((cfg0.win 3).blk p).view.read (Elt Ideal) A : Vec Ideal S512x2048 .f32) (ix2 r k) = A (ix2 ⟨512 * i + r, by omega⟩ k) := by
  have e := (by decide +kernel : ∀ p : Fin grid0.N, win0_3.index p = ![p.val / 8, 0]) p
  rw [hi] at e
  refine congrArg A (?_ : ((cfg0.win 3).blk p).view.emb _ = _)
  blk_ext [e]

/-- A point adds its part's share. -/
theorem share_at (t : Fin cfg0.N) (i : Fin 4) (j : Fin 8) (hi : t.val / 8 = i) (hj : t.val % 8 = j) (r : Fin 512) (b : Fin 2048) :
    k0_pay1 (iblk m c 0 t) (iblk m c 1 t) (ix2 r b) = share (arg0 m c) (arg1 m c) ⟨512 * i + r, by omega⟩ b j := by
  refine (pay_at _ _ r b).trans ?_
  have ea : ∀ k, (iblk m c 0 t : Vec Ideal S512x768 .bf16) (ix2 r k) = slot 704 (fun q => arg0 m c (ix2 ⟨512 * i + r, by omega⟩ q)) j k := fun k =>
    (read0 (V m c main_v3 : FVec Ideal S2048x6144 .bf16) t i j hi hj r k).trans ((v3_at m c ⟨512 * i + r, by omega⟩ ⟨768 * j + k, by omega⟩).trans (slot_place _ _ _ k.isLt))
  have eb : ∀ k, (iblk m c 1 t : Vec Ideal S1x2048x768 .bf16) (ix3 0 b k) = slot 704 (fun q => arg1 m c (ix2 b q)) j k := fun k =>
    (read1 (V m c main_v7 : FVec Ideal S8x2048x768 .bf16) t j hj b k).trans (v7_at m c j b k)
  exact Finset.sum_congr rfl fun k _ => (mul_eq (ea k) (eb k)).trans (slot_mul _ _ _ _ _)

theorem point_lt (i : Fin 4) {q : ℕ} (hq : q < 8) : 8 * i.val + q < cfg0.N := by
  have hN : cfg0.N = 32 := N_0
  omega

/-- After the last part it holds the whole sum. -/
theorem last_at (i : Fin 4) (r : Fin 512) (b : Fin 2048) :
    (outsAt0 m c (8 * i.val + 7) (point_lt i (by decide)) : Vec Ideal S512x2048 .f32) (ix2 r b) = spec (arg0 m c) (arg1 m c) (arg2 m c) ⟨512 * i + r, by omega⟩ b := by
  let t (q : ℕ) (hq : q < 8) : Fin cfg0.N := ⟨8 * i.val + q, point_lt i hq⟩
  have hj (q : ℕ) (hq : q < 8) : (t q hq).val % 8 = q := by show (8 * i.val + q) % 8 = q; omega
  have hi (q : ℕ) (hq : q < 8) : (t q hq).val / 8 = i := by show (8 * i.val + q) / 8 = i.val; omega
  refine (sum_run (f := fun q hq => outsAt0 m c (8 * i.val + q) (point_lt i hq) (ix2 r b)) (s := share (arg0 m c) (arg1 m c) ⟨512 * i + r, by omega⟩ b) (arg2 m c (ix2 ⟨512 * i + r, by omega⟩ b)) ?_ fun q hq => ?_).trans
    ((congrArg (· + _) (sum_parts 704 _ rfl (by decide))).trans (add_comm _ _))
  · have h8 : 0 < 8 := by decide
    have h := hj 0 h8
    exact (congrFun (first_eq m c (t 0 h8) h (by omega)) _).trans ((pay_add_at _ _ _ r b).trans (add_eq (share_at m c (t 0 h8) i 0 (hi 0 h8) h r b)
      ((read2 (V m c main_arg2 : FVec Ideal S2048x2048 .f32) (t 0 h8) i (hi 0 h8) r b).trans (congrFun (V_main_arg2 m c) _))))
  · have h := hj (q + 1) hq
    exact (congrFun (next_eq m c (t _ hq) (by omega) (by omega)) _).trans ((pay_next_at _ _ _ r b).trans
      (add_eq rfl (share_at m c (t _ hq) i ⟨q + 1, hq⟩ (hi _ hq) h r b)))

theorem flush3 : ∀ p : Fin cfg0.N, (cfg0.win 3).flush p = true ↔ p.val % 8 = 7 := (by decide +kernel : ∀ p : Fin grid0.N, _)

/-- The whole result, as an array. -/
def whole : FVec Ideal S2048x2048 .f32 := fun x => spec (arg0 m c) (arg1 m c) (arg2 m c) (x 0) (x 1)

theorem outs_congr {a b : ℕ} (h : a = b) (ha : a < cfg0.N) (hb : b < cfg0.N) : outsAt0 m c a ha = outsAt0 m c b hb := by subst h; rfl

/-- Every block written back is the result's. -/
theorem flushed_whole (t : Fin cfg0.N) (hf : (cfg0.win 3).flush t = true) :
    (dats m 0 c).flushed 3 t = ((cfg0.win 3).blk t).view.read (Elt Ideal) (whole m c) := by
  have hN : cfg0.N = 32 := N_0
  have h7 := (flush3 t).1 hf
  let i : Fin 4 := ⟨t.val / 8, by omega⟩
  have hi : t.val / 8 = i := rfl
  refine (flushed3 m c t).trans ?_
  rw [outs_congr m c (show t.val = 8 * i.val + 7 by show t.val = 8 * (t.val / 8) + 7; omega) t.isLt (point_lt i (by decide))]
  refine funext fun (y : S512x2048.Idx) => ?_
  obtain ⟨r, b, rfl⟩ : ∃ r b, y = ix2 r b := ⟨y 0, y 1, eq_ix2 y⟩
  exact (last_at m c i r b).trans (read3 (whole m c) t i hi r b).symm

/-- The array the call returns, entry by entry. -/
theorem result_at (R : Fin 2048) (C : Fin 2048) :
    ((dats m 0 c).arrAt 3 cfg0.N : FVec Ideal S2048x2048 .f32) (ix2 R C) = spec (arg0 m c) (arg1 m c) (arg2 m c) R C := by
  let i : Fin 4 := ⟨R / 512, by omega⟩
  let r : Fin 512 := ⟨R % 512, by omega⟩
  have er : (⟨512 * i + r, by omega⟩ : Fin 2048) = R := Fin.ext (show 512 * (R.val / 512) + R.val % 512 = R.val by omega)
  let p : Fin cfg0.N := ⟨8 * i.val + 7, point_lt i (by decide)⟩
  have hi : p.val / 8 = i := by show (8 * i.val + 7) / 8 = i.val; omega
  have hf : (cfg0.win 3).flush p = true := (flush3 p).2 (by show (8 * i.val + 7) % 8 = 7; omega)
  have e := congrFun ((dats m 0 c).read_blk_arrAt 3 (whole m c) (flushed_whole m c) p hf) (ix2 r C)
  have f := (read3 _ p i hi r C).symm.trans (e.trans (read3 (whole m c) p i hi r C))
  rw [er] at f
  exact f

end Kernel

section Reference

open Cert.DhUpReferenceIdeal Cert.DhUpReferenceIdeal.Gen

/-- The reference's result, entry by entry. -/
theorem reference_at (A : FVec Ideal S2048x5632 .f32) (B : FVec Ideal S2048x5632 .f32) (X : FVec Ideal S2048x2048 .f32) (r : Fin 2048) (b : Fin 2048) :
    (addf X (Host.dotGeneral dot_S2048x5632_S2048x5632_S2048x2048_1_1_0_0_n_n none A B) : FVec Ideal S2048x2048 .f32) (ix2 r b) = spec A B X r b := by
  pointwise
  rfl

end Reference

/-- Over the extended reals the call's result is the reference's. -/
theorem algebraic : Cert.algebraic_DhUpIdeal_DhUpReferenceIdeal := by
  intro m ρ m' ρ' _ hagree
  refine ⟨_, Cert.DhUpIdeal.Value.run_blocks (F := Ideal) m ρ, ?_⟩
  refine (θ_run Cert.DhUpReferenceIdeal.defs _ _).mono (fun _ h c => ?_) (Cert.DhUpReferenceIdeal.Value.run (F := Ideal) m' ρ')
  obtain ⟨g0, g1, g2⟩ := hagree c
  refine ⟨(h c).1.trans (funext fun i => ?_), (h c).2⟩
  obtain ⟨a, b, rfl⟩ : ∃ a b, i = ix2 a b := ⟨i 0, i 1, eq_ix2 i⟩
  refine (reference_at _ _ _ a b).trans (Eq.trans ?_ (result_at m c a b).symm)
  exact (congrArg₂ (fun A B => spec A B _ a b) g0 g1).trans (congrArg (fun X => spec _ _ X a b) g2)

end Cert.DhUpClaim

end
-- ==== Proof.DwGate.lean ====
/- The gradient of the gate's weight, part by part: the product of the transposed tokens with that part's columns of the
   upstream gradient. -/
module

public import proofs.«01_k».proof.Proof.Base
public import proofs.«01_k».proof.Proof.Parts
public import proofs.«01_k».proof.Proof.Gen.DwGate.Frame
public import proofs.«01_k».proof.Proof.Gen.DwGateIdeal.Value
public import proofs.«01_k».proof.Proof.Gen.DwGateReferenceIdeal.Run

@[expose] public section

set_option maxRecDepth 16384

noncomputable section

namespace Cert.DwGateClaim

open Idealize.ShloMosaic Idealize.ShloMosaic.TcCoe Idealize.SL.Sem Cert.Parts

/-- The gradient of part `p` at row `r`, place `b`. -/
def spec (A : (⟨2, ![2048, 2048]⟩ : Shape).Idx → EReal) (B : (⟨2, ![2048, 5632]⟩ : Shape).Idx → EReal) (p : Fin 8) (r : Fin 2048) (b : Fin 768) : EReal :=
  slot 704 (fun i => ∑ k : Fin 2048, B (ix2 k i) * A (ix2 k r)) p b

section Kernel

open Cert.DwGateIdeal Cert.DwGateIdeal.Gen Cert.DwGateIdeal.Value Idealize.ShloMosaic.StableHlo

variable (m : (ℓ : Loc nD τ sig) → Buf (Elt Ideal) ℓ) (c : Dev nD)

/-- The arguments. -/
abbrev arg0 : FVec Ideal S2048x2048 .f32 := m (c, Proc.devRef .tc main_arg0)
abbrev arg1 : FVec Ideal S2048x5632 .f32 := m (c, Proc.devRef .tc main_arg1)

/-! What the host prepares. -/

theorem v0_at (i : Fin 2048) (j : Fin 2048) :
    (V m c main_v0 : FVec Ideal S2048x2048 .bf16) (ix2 i j) = arg0 m c (ix2 i j) := by
  unfold V
  after_reads_simp
  rfl

theorem v4_at (i : Fin 2048) (j : Fin 6144) :
    (V m c main_v4 : FVec Ideal S2048x6144 .bf16) (ix2 i j) = slot 704 (fun q => arg1 m c (ix2 i q)) (j / 768) (j % 768) := by
  unfold V
  after_reads_simp
  simp only [TRef.toBuf, TRef.ofBuf, cast_eq]
  pointwise
  symm
  apply slot_dite
  · exact sitofp_zero _
  · rfl

/-! What a point computes, and where its blocks lie. -/

theorem pay_at (v0 : Vec Ideal S2048x2048 .bf16) (v2 : Vec Ideal S2048x768 .bf16) (r : Fin 2048) (b : Fin 768) :
    k0_pay1 v0 v2 (ix3 0 r b) = ∑ k : Fin 2048, v0 (ix2 k r) * v2 (ix2 k b) := by
  unfold k0_pay1
  pointwise

theorem out_eq (v0 : Vec Ideal S2048x2048 .bf16) (v2 : Vec Ideal S2048x768 .bf16) : out0_2 v0 v2 = k0_pay1 v0 v2 := by
  unfold out0_2
  rw [View.canon_unit_zero zeros, View.ld_unit_zero zeros, View.ld_unit_zero zeros]

theorem read0 (A : FVec Ideal S2048x2048 .bf16) (p : Fin cfg0.N) (r : Fin 2048) (k : Fin 2048) :
    (((cfg0.win 0).blk p).view.read (Elt Ideal) A : Vec Ideal S2048x2048 .bf16) (ix2 r k) = A (ix2 r k) := by
  have e := (by decide +kernel : ∀ p : Fin grid0.N, win0_0.index p = ![0, 0]) p
  refine congrArg A (?_ : ((cfg0.win 0).blk p).view.emb _ = _)
  blk_ext [e]

theorem read1 (A : FVec Ideal S2048x6144 .bf16) (p : Fin cfg0.N) (j : Fin 8) (hj : p.val = j) (r : Fin 2048) (k : Fin 768) :
    (((cfg0.win 1).blk p).view.read (Elt Ideal) A : Vec Ideal S2048x768 .bf16) (ix2 r k) = A (ix2 r ⟨768 * j + k, by omega⟩) := by
  have e := (by decide +kernel : ∀ p : Fin grid0.N, win0_1.index p = ![0, p.val]) p
  rw [hj] at e
  refine congrArg A (?_ : ((cfg0.win 1).blk p).view.emb _ = _)
  blk_ext [e]

theorem read2 (A : FVec Ideal S8x2048x768 .f32) (p : Fin cfg0.N) (j : Fin 8) (hj : p.val = j) (k : Fin 2048) (l : Fin 768) :
    (((cfg0.win 2).blk p).view.read (Elt Ideal) A : Vec Ideal S1x2048x768 .f32) (ix3 0 k l) = A (ix3 j k l) := by
  have e := (by decide +kernel : ∀ p : Fin grid0.N, win0_2.index p = ![p.val, 0, 0]) p
  rw [hj] at e
  refine congrArg A (?_ : ((cfg0.win 2).blk p).view.emb _ = _)
  blk_ext [e]

theorem flush2 : ∀ p : Fin cfg0.N, (cfg0.win 2).flush p = true := (by decide +kernel : ∀ p : Fin grid0.N, _)

/-- The array the call returns, entry by entry. -/
theorem result_at (P : Fin 8) (R : Fin 2048) (C : Fin 768) :
    ((dats m 0 c).arrAt 2 cfg0.N : FVec Ideal S8x2048x768 .f32) (ix3 P R C) = spec (arg0 m c) (arg1 m c) P R C := by
  have hN : cfg0.N = 8 := N_0
  let p : Fin cfg0.N := ⟨P, by omega⟩
  have hj : p.val = P := rfl
  have e := congrFun ((blocks2 m c p (flush2 p)).trans (flushed2 m c p)) (ix3 0 R C)
  refine (read2 _ p P hj R C).symm.trans (e.trans ?_)
  refine (congrFun (out_eq _ _ ) (ix3 0 R C)).trans ((pay_at _ _ R C).trans ?_)
  have ea : ∀ k, (iblk m c 0 p : Vec Ideal S2048x2048 .bf16) (ix2 k R) = arg0 m c (ix2 k R) := fun k =>
    (read0 (V m c main_v0 : FVec Ideal S2048x2048 .bf16) p k R).trans (v0_at m c k R)
  have eb' : ∀ k, (iblk m c 1 p : Vec Ideal S2048x768 .bf16) (ix2 k C) = slot 704 (fun q => arg1 m c (ix2 k q)) P C := fun k =>
    (read1 (V m c main_v4 : FVec Ideal S2048x6144 .bf16) p P hj k C).trans ((v4_at m c k ⟨768 * P + C, by omega⟩).trans (slot_place _ _ _ C.isLt))
  exact (Finset.sum_congr rfl fun k _ => (mul_eq (ea k) (eb' k)).trans ((mul_comm _ _).trans (slot_mul_right _ _ _ _ _))).trans (sum_slot _ _ _ _)

end Kernel

section Reference

open Cert.DwGateReferenceIdeal Cert.DwGateReferenceIdeal.Gen

/-- The reference's result, entry by entry. -/
theorem reference_at (A : FVec Ideal S2048x2048 .f32) (B : FVec Ideal S2048x5632 .f32) (p : Fin 8) (r : Fin 2048) (b : Fin 768) :
    (transpose S8x2048x768 [1, 0, 2] (pad S2048x8x768 ![0, 0, 0] ![0, 0, 64] ![0, 0, 0] (shapeCast _ (transpose S2048x5632 [1, 0] (Host.dotGeneral dot_S2048x5632_S2048x2048_S5632x2048_0_0_1_1_n_n none B A) transposes_S5632x2048_S2048x5632_1_0) shapeCasts_S2048x5632_S2048x8x704) (sitofp .f32 (constantI S_ 32 0#32)) pads_S2048x8x704_S2048x8x768_000_000_0640 h_S_) transposes_S2048x8x768_S8x2048x768_1_0_2 : FVec Ideal S8x2048x768 .f32) (ix3 p r b) = spec A B p r b := by
  pointwise
  unfold spec
  symm
  apply slot_dite'
  exact sitofp_zero _

end Reference

/-- Over the extended reals the call's result is the reference's. -/
theorem algebraic : Cert.algebraic_DwGateIdeal_DwGateReferenceIdeal := by
  intro m ρ m' ρ' _ hagree
  refine ⟨_, Cert.DwGateIdeal.Value.run_blocks (F := Ideal) m ρ, ?_⟩
  refine (θ_run Cert.DwGateReferenceIdeal.defs _ _).mono (fun _ h c => ?_) (Cert.DwGateReferenceIdeal.Value.run (F := Ideal) m' ρ')
  obtain ⟨g0, g1⟩ := hagree c
  refine ⟨(h c).1.trans (funext fun i => ?_), (h c).2⟩
  obtain ⟨a, b, d, rfl⟩ : ∃ a b d, i = ix3 a b d := ⟨i 0, i 1, i 2, eq_ix3 i⟩
  refine (reference_at _ _ a b d).trans (Eq.trans ?_ (result_at m c a b d).symm)
  exact congrArg₂ (fun A B => spec A B a b d) g0 g1

end Cert.DwGateClaim

end
-- ==== Proof.DwUp.lean ====
/- The gradient of the up projection's weight: the same lines as for the gate's, whose entries serve here. -/
module

public import proofs.«01_k».proof.Proof.Base
public import proofs.«01_k».proof.Proof.DwGate
public import proofs.«01_k».proof.Proof.Gen.DwUp.Frame
public import proofs.«01_k».proof.Proof.Gen.DwUpIdeal.Value
public import proofs.«01_k».proof.Proof.Gen.DwUpReferenceIdeal.Run

@[expose] public section

set_option maxRecDepth 16384

noncomputable section

namespace Cert.DwUpClaim

open Idealize.ShloMosaic Idealize.ShloMosaic.TcCoe Idealize.SL.Sem Cert.DwGateClaim

/-- Over the extended reals the call's result is the reference's. -/
theorem algebraic : Cert.algebraic_DwUpIdeal_DwUpReferenceIdeal := by
  intro m ρ m' ρ' _ hagree
  refine ⟨_, Cert.DwUpIdeal.Value.run_blocks (F := Ideal) m ρ, ?_⟩
  refine (θ_run Cert.DwUpReferenceIdeal.defs _ _).mono (fun _ h c => ?_) (Cert.DwUpReferenceIdeal.Value.run (F := Ideal) m' ρ')
  obtain ⟨g0, g1⟩ := hagree c
  refine ⟨(h c).1.trans (funext fun i => ?_), (h c).2⟩
  obtain ⟨a, b, d, rfl⟩ : ∃ a b d, i = ix3 a b d := ⟨i 0, i 1, i 2, eq_ix3 i⟩
  refine (reference_at _ _ a b d).trans (Eq.trans ?_ (result_at m c a b d).symm)
  exact congrArg₂ (fun A B => spec A B a b d) g0 g1

end Cert.DwUpClaim

end
-- ==== Proof.ProjIn.lean ====
/- The product with the in projection's weight, block by block, its width completed by zeros. -/
module

public import proofs.«01_k».proof.Proof.Base
public import proofs.«01_k».proof.Proof.Parts
public import proofs.«01_k».proof.Proof.Gen.ProjIn.Frame
public import proofs.«01_k».proof.Proof.Gen.ProjInIdeal.Value
public import proofs.«01_k».proof.Proof.Gen.ProjInReferenceIdeal.Run

@[expose] public section

set_option maxRecDepth 16384

noncomputable section

namespace Cert.ProjInClaim

open Idealize.ShloMosaic Idealize.ShloMosaic.TcCoe Idealize.SL.Sem Cert.Parts

/-- The product at token `r`, column `b` of the completed width. -/
def spec (A : (⟨2, ![2048, 2048]⟩ : Shape).Idx → EReal) (B : (⟨2, ![2048, 4448]⟩ : Shape).Idx → EReal) (r : Fin 2048) (b : Fin 4480) : EReal :=
  slot 4448 (fun i => ∑ k : Fin 2048, A (ix2 r k) * B (ix2 k i)) 0 b

section Kernel

open Cert.ProjInIdeal Cert.ProjInIdeal.Gen Cert.ProjInIdeal.Value Idealize.ShloMosaic.StableHlo

variable (m : (ℓ : Loc nD τ sig) → Buf (Elt Ideal) ℓ) (c : Dev nD)

/-- The arguments. -/
abbrev arg0 : FVec Ideal S2048x2048 .f32 := m (c, Proc.devRef .tc main_arg0)
abbrev arg1 : FVec Ideal S2048x4448 .f32 := m (c, Proc.devRef .tc main_arg1)

/-! What the host prepares. -/

theorem v1_at (i : Fin 2048) (j : Fin 2048) :
    (V m c main_v1 : FVec Ideal S2048x2048 .bf16) (ix2 i j) = arg0 m c (ix2 i j) := by
  unfold V
  after_reads_simp
  rfl

theorem v2_at (i : Fin 2048) (j : Fin 4480) :
    (V m c main_v2 : FVec Ideal S2048x4480 .bf16) (ix2 i j) = slot 4448 (fun q => arg1 m c (ix2 i q)) 0 j := by
  unfold V
  after_reads_simp
  simp only [TRef.toBuf, TRef.ofBuf, cast_eq]
  pointwise
  symm
  apply slot_first
  exact sitofp_zero _

/-! What a point computes, and where its blocks lie. -/

theorem pay_at (v0 : Vec Ideal S2048x2048 .bf16) (v2 : Vec Ideal S2048x640 .bf16) (r : Fin 2048) (b : Fin 640) :
    k0_pay1 v0 v2 (ix2 r b) = ∑ k : Fin 2048, v0 (ix2 r k) * v2 (ix2 k b) := by
  unfold k0_pay1
  pointwise

theorem out_eq (v0 : Vec Ideal S2048x2048 .bf16) (v2 : Vec Ideal S2048x640 .bf16) : out0_2 v0 v2 = k0_pay1 v0 v2 := by
  unfold out0_2
  rw [View.canon_unit_zero zeros, View.ld_unit_zero zeros, View.ld_unit_zero zeros]

theorem read0 (A : FVec Ideal S2048x2048 .bf16) (p : Fin cfg0.N) (r : Fin 2048) (k : Fin 2048) :
    (((cfg0.win 0).blk p).view.read (Elt Ideal) A : Vec Ideal S2048x2048 .bf16) (ix2 r k) = A (ix2 r k) := by
  have e := (by decide +kernel : ∀ p : Fin grid0.N, win0_0.index p = ![0, 0]) p
  refine congrArg A (?_ : ((cfg0.win 0).blk p).view.emb _ = _)
  blk_ext [e]

theorem read1 (A : FVec Ideal S2048x4480 .bf16) (p : Fin cfg0.N) (j : Fin 7) (hj : p.val = j) (r : Fin 2048) (k : Fin 640) :
    (((cfg0.win 1).blk p).view.read (Elt Ideal) A : Vec Ideal S2048x640 .bf16) (ix2 r k) = A (ix2 r ⟨640 * j + k, by omega⟩) := by
  have e := (by decide +kernel : ∀ p : Fin grid0.N, win0_1.index p = ![0, p.val]) p
  rw [hj] at e
  refine congrArg A (?_ : ((cfg0.win 1).blk p).view.emb _ = _)
  blk_ext [e]

theorem read2 (A : FVec Ideal S2048x4480 .f32) (p : Fin cfg0.N) (j : Fin 7) (hj : p.val = j) (r : Fin 2048) (k : Fin 640) :
    (((cfg0.win 2).blk p).view.read (Elt Ideal) A : Vec Ideal S2048x640 .f32) (ix2 r k) = A (ix2 r ⟨640 * j + k, by omega⟩) := by
  have e := (by decide +kernel : ∀ p : Fin grid0.N, win0_2.index p = ![0, p.val]) p
  rw [hj] at e
  refine congrArg A (?_ : ((cfg0.win 2).blk p).view.emb _ = _)
  blk_ext [e]

theorem flush2 : ∀ p : Fin cfg0.N, (cfg0.win 2).flush p = true := (by decide +kernel : ∀ p : Fin grid0.N, _)

/-- The array the call returns, entry by entry. -/
theorem result_at (R : Fin 2048) (C : Fin 4480) :
    ((dats m 0 c).arrAt 2 cfg0.N : FVec Ideal S2048x4480 .f32) (ix2 R C) = spec (arg0 m c) (arg1 m c) R C := by
  have hN : cfg0.N = 7 := N_0
  let j : Fin 7 := ⟨C / 640, by omega⟩
  let b : Fin 640 := ⟨C % 640, by omega⟩
  have eb : (⟨640 * j + b, by omega⟩ : Fin 4480) = C := Fin.ext (show 640 * (C.val / 640) + C.val % 640 = C.val by omega)
  let p : Fin cfg0.N := ⟨j, by omega⟩
  have hj : p.val = j := rfl
  have e := congrFun ((blocks2 m c p (flush2 p)).trans (flushed2 m c p)) (ix2 R b)
  refine (congrArg (fun q => ((dats m 0 c).arrAt 2 cfg0.N : FVec Ideal S2048x4480 .f32) (ix2 R q)) eb).symm.trans ?_
  refine (read2 _ p j hj R b).symm.trans (e.trans ?_)
  refine (congrFun (out_eq _ _ ) (ix2 R b)).trans ((pay_at _ _ R b).trans ?_)
  have ea : ∀ k, (iblk m c 0 p : Vec Ideal S2048x2048 .bf16) (ix2 R k) = arg0 m c (ix2 R k) := fun k =>
    (read0 (V m c main_v1 : FVec Ideal S2048x2048 .bf16) p R k).trans (v1_at m c R k)
  have eb' : ∀ k, (iblk m c 1 p : Vec Ideal S2048x640 .bf16) (ix2 k b) = slot 4448 (fun q => arg1 m c (ix2 k q)) 0 C := fun k =>
    (read1 (V m c main_v2 : FVec Ideal S2048x4480 .bf16) p j hj k b).trans ((congrArg (fun q => (V m c main_v2 : FVec Ideal S2048x4480 .bf16) (ix2 k q)) eb).trans (v2_at m c k C))
  exact (Finset.sum_congr rfl fun k _ => (mul_eq (ea k) (eb' k)).trans (mul_slot _ _ _ _ _)).trans (sum_slot _ _ _ _)

end Kernel

section Reference

open Cert.ProjInReferenceIdeal Cert.ProjInReferenceIdeal.Gen

/-- The reference's result, entry by entry. -/
theorem reference_at (A : FVec Ideal S2048x2048 .f32) (B : FVec Ideal S2048x4448 .f32) (r : Fin 2048) (b : Fin 4480) :
    (pad S2048x4480 ![0, 0] ![0, 32] ![0, 0] (Host.dotGeneral dot_S2048x2048_S2048x4448_S2048x4448_1_0_0_1_n_n none A B) (sitofp .f32 (constantI S_ 32 0#32)) pads_S2048x4448_S2048x4480_000_0320 h_S_ : FVec Ideal S2048x4480 .f32) (ix2 r b) = spec A B r b := by
  pointwise
  unfold spec
  symm
  apply slot_first
  exact sitofp_zero _

end Reference

/-- Over the extended reals the call's result is the reference's. -/
theorem algebraic : Cert.algebraic_ProjInIdeal_ProjInReferenceIdeal := by
  intro m ρ m' ρ' _ hagree
  refine ⟨_, Cert.ProjInIdeal.Value.run_blocks (F := Ideal) m ρ, ?_⟩
  refine (θ_run Cert.ProjInReferenceIdeal.defs _ _).mono (fun _ h c => ?_) (Cert.ProjInReferenceIdeal.Value.run (F := Ideal) m' ρ')
  obtain ⟨g0, g1⟩ := hagree c
  refine ⟨(h c).1.trans (funext fun i => ?_), (h c).2⟩
  obtain ⟨a, b, rfl⟩ : ∃ a b, i = ix2 a b := ⟨i 0, i 1, eq_ix2 i⟩
  refine (reference_at _ _ a b).trans (Eq.trans ?_ (result_at m c a b).symm)
  exact congrArg₂ (fun A B => spec A B a b) g0 g1

end Cert.ProjInClaim

end
-- ==== Proof.DhIn.lean ====
/- The gradient with respect to the tokens through the in projection: the product of the upstream gradient with the
   transposed weight, summed part by part. -/
module

public import proofs.«01_k».proof.Proof.Base
public import proofs.«01_k».proof.Proof.Parts
public import proofs.«01_k».proof.Proof.Gen.DhIn.Frame
public import proofs.«01_k».proof.Proof.Gen.DhInIdeal.Value
public import proofs.«01_k».proof.Proof.Gen.DhInReferenceIdeal.Run

@[expose] public section

set_option maxRecDepth 16384

noncomputable section

namespace Cert.DhInClaim

open Idealize.ShloMosaic Idealize.ShloMosaic.TcCoe Idealize.SL.Sem Cert.Parts

/-- The gradient at token `r`, channel `b`. -/
def spec (A : (⟨2, ![2048, 4448]⟩ : Shape).Idx → EReal) (B : (⟨2, ![2048, 4448]⟩ : Shape).Idx → EReal) (r : Fin 2048) (b : Fin 2048) : EReal :=
  ∑ k : Fin 4448, A (ix2 r k) * B (ix2 b k)

/-- One part's share of the sum, its places past the part's entries contributing nothing. -/
def share (A : (⟨2, ![2048, 4448]⟩ : Shape).Idx → EReal) (B : (⟨2, ![2048, 4448]⟩ : Shape).Idx → EReal) (r : Fin 2048) (b : Fin 2048) (p : ℕ) : EReal :=
  ∑ k : Fin 640, slot 556 (fun q => A (ix2 r q) * B (ix2 b q)) p k

section Kernel

open Cert.DhInIdeal Cert.DhInIdeal.Gen Cert.DhInIdeal.Value Idealize.ShloMosaic.StableHlo

variable (m : (ℓ : Loc nD τ sig) → Buf (Elt Ideal) ℓ) (c : Dev nD)

/-- The arguments. -/
abbrev arg0 : FVec Ideal S2048x4448 .f32 := m (c, Proc.devRef .tc main_arg0)
abbrev arg1 : FVec Ideal S2048x4448 .f32 := m (c, Proc.devRef .tc main_arg1)

/-! What the host prepares. -/

theorem v3_at (i : Fin 2048) (j : Fin 5120) :
    (V m c main_v3 : FVec Ideal S2048x5120 .bf16) (ix2 i j) = slot 556 (fun q => arg0 m c (ix2 i q)) (j / 640) (j % 640) := by
  unfold V
  after_reads_simp
  simp only [TRef.toBuf, TRef.ofBuf, cast_eq]
  pointwise
  symm
  apply slot_dite
  · exact sitofp_zero _
  · rfl

theorem v7_at (p : Fin 8) (i : Fin 2048) (b : Fin 640) :
    (V m c main_v7 : FVec Ideal S8x2048x640 .bf16) (ix3 p i b) = slot 556 (fun q => arg1 m c (ix2 i q)) p b := by
  unfold V
  after_reads_simp
  simp only [TRef.toBuf, TRef.ofBuf, cast_eq]
  pointwise
  symm
  apply slot_dite'
  exact sitofp_zero _

/-! What a point computes, and where its blocks lie. -/

theorem pay_at (v0 : Vec Ideal S1024x640 .bf16) (v2 : Vec Ideal S1x2048x640 .bf16) (r : Fin 1024) (b : Fin 2048) :
    k0_pay1 v0 v2 (ix2 r b) = ∑ k : Fin 640, v0 (ix2 r k) * v2 (ix3 0 b k) := by
  unfold k0_pay1
  pointwise

theorem pay_next_at (v0 : Vec Ideal S1024x640 .bf16) (v2 : Vec Ideal S1x2048x640 .bf16) (x : Vec Ideal S1024x2048 .f32) (r : Fin 1024) (b : Fin 2048) :
    k0_pay2 v0 v2 x (ix2 r b) = x (ix2 r b) + k0_pay1 v0 v2 (ix2 r b) := by
  unfold k0_pay2
  pointwise

/-- A row block's first part starts the sum. -/
theorem first_eq (t : Fin cfg0.N) (h0 : t.val % 8 = 0) (h1 : ¬1 ≤ t.val % 8) :
    outsAt0 m c t.val t.isLt = k0_pay1 (iblk m c 0 t) (iblk m c 1 t) := by
  rw [outsAt0_A m c t h0 h1]
  unfold out0_A_2 kernelRun0_A
  dsimp only
  simp only [View.readAt_eq_ld, (hs0_0 t).read_unread, (hs0_1 t).read_unread]
  rw [View.ld_unit_zero zeros, View.ld_unit_zero zeros, View.read_writes_junk_eq_canon,
    View.canon_unit_zero zeros]

/-- Every other part is added to what the part before left. -/
theorem next_eq (t : Fin cfg0.N) (h0 : ¬t.val % 8 = 0) (h1 : 1 ≤ t.val % 8) :
    outsAt0 m c t.val t.isLt = k0_pay2 (iblk m c 0 t) (iblk m c 1 t) (outsAt0 m c (t.val - 1) (Nat.lt_of_le_of_lt (Nat.sub_le _ _) t.isLt)) := by
  rw [outsAt0_B m c t h0 h1]
  unfold out0_B_2 kernelRun0_B
  dsimp only
  simp only [View.readAt_eq_ld, (hs0_0 t).read_unread, (hs0_1 t).read_unread, (hs0_2 t).read_unread]
  rw [View.ld_unit_zero zeros, View.ld_unit_zero zeros, View.ld_unit_zero zeros, View.read_writes_junk_eq_canon,
    View.canon_unit_zero zeros]

theorem read0 (A : FVec Ideal S2048x5120 .bf16) (p : Fin cfg0.N) (i : Fin 2) (j : Fin 8) (hi : p.val / 8 = i) (hj : p.val % 8 = j) (r : Fin 1024) (k : Fin 640) :
    (((cfg0.win 0).blk p).view.read (Elt Ideal) A : Vec Ideal S1024x640 .bf16) (ix2 r k) = A (ix2 ⟨1024 * i + r, by omega⟩ ⟨640 * j + k, by omega⟩) := by
  have e := (by decide +kernel : ∀ p : Fin grid0.N, win0_0.index p = ![p.val / 8, p.val % 8]) p
  rw [hi, hj] at e
  refine congrArg A (?_ : ((cfg0.win 0).blk p).view.emb _ = _)
  blk_ext [e]

theorem read1 (A : FVec Ideal S8x2048x640 .bf16) (p : Fin cfg0.N) (j : Fin 8) (hj : p.val % 8 = j) (k : Fin 2048) (l : Fin 640) :
    (((cfg0.win 1).blk p).view.read (Elt Ideal) A : Vec Ideal S1x2048x640 .bf16) (ix3 0 k l) = A (ix3 j k l) := by
  have e := (by decide +kernel : ∀ p : Fin grid0.N, win0_1.index p = ![p.val % 8, 0, 0]) p
  rw [hj] at e
  refine congrArg A (?_ : ((cfg0.win 1).blk p).view.emb _ = _)
  blk_ext [e]

theorem read2 (A : FVec Ideal S2048x2048 .f32) (p : Fin cfg0.N) (i : Fin 2) (hi : p.val / 8 = i) (r : Fin 1024) (k : Fin 2048) :
    (((cfg0.win 2).blk p).view.read (Elt Ideal) A : Vec Ideal S1024x2048 .f32) (ix2 r k) = A (ix2 ⟨1024 * i + r, by omega⟩ k) := by
  have e := (by decide +kernel : ∀ p : Fin grid0.N, win0_2.index p = ![p.val / 8, 0]) p
  rw [hi] at e
  refine congrArg A (?_ : ((cfg0.win 2).blk p).view.emb _ = _)
  blk_ext [e]

/-- A point adds its part's share. -/
theorem share_at (t : Fin cfg0.N) (i : Fin 2) (j : Fin 8) (hi : t.val / 8 = i) (hj : t.val % 8 = j) (r : Fin 1024) (b : Fin 2048) :
    k0_pay1 (iblk m c 0 t) (iblk m c 1 t) (ix2 r b) = share (arg0 m c) (arg1 m c) ⟨1024 * i + r, by omega⟩ b j := by
  refine (pay_at _ _ r b).trans ?_
  have ea : ∀ k, (iblk m c 0 t : Vec Ideal S1024x640 .bf16) (ix2 r k) = slot 556 (fun q => arg0 m c (ix2 ⟨1024 * i + r, by omega⟩ q)) j k := fun k =>
    (read0 (V m c main_v3 : FVec Ideal S2048x5120 .bf16) t i j hi hj r k).trans ((v3_at m c ⟨1024 * i + r, by omega⟩ ⟨640 * j + k, by omega⟩).trans (slot_place _ _ _ k.isLt))
  have eb : ∀ k, (iblk m c 1 t : Vec Ideal S1x2048x640 .bf16) (ix3 0 b k) = slot 556 (fun q => arg1 m c (ix2 b q)) j k := fun k =>
    (read1 (V m c main_v7 : FVec Ideal S8x2048x640 .bf16) t j hj b k).trans (v7_at m c j b k)
  exact Finset.sum_congr rfl fun k _ => (mul_eq (ea k) (eb k)).trans (slot_mul _ _ _ _ _)

theorem point_lt (i : Fin 2) {q : ℕ} (hq : q < 8) : 8 * i.val + q < cfg0.N := by
  have hN : cfg0.N = 16 := N_0
  omega

/-- After the last part it holds the whole sum. -/
theorem last_at (i : Fin 2) (r : Fin 1024) (b : Fin 2048) :
    (outsAt0 m c (8 * i.val + 7) (point_lt i (by decide)) : Vec Ideal S1024x2048 .f32) (ix2 r b) = spec (arg0 m c) (arg1 m c) ⟨1024 * i + r, by omega⟩ b := by
  let t (q : ℕ) (hq : q < 8) : Fin cfg0.N := ⟨8 * i.val + q, point_lt i hq⟩
  have hj (q : ℕ) (hq : q < 8) : (t q hq).val % 8 = q := by show (8 * i.val + q) % 8 = q; omega
  have hi (q : ℕ) (hq : q < 8) : (t q hq).val / 8 = i := by show (8 * i.val + q) / 8 = i.val; omega
  refine (sum_run (f := fun q hq => outsAt0 m c (8 * i.val + q) (point_lt i hq) (ix2 r b)) (s := share (arg0 m c) (arg1 m c) ⟨1024 * i + r, by omega⟩ b) 0 ?_ fun q hq => ?_).trans
    ((add_zero _).trans (sum_parts 556 _ rfl (by decide)))
  · have h8 : 0 < 8 := by decide
    have h := hj 0 h8
    exact (congrFun (first_eq m c (t 0 h8) h (by omega)) _).trans ((share_at m c (t 0 h8) i 0 (hi 0 h8) h r b).trans (add_zero _).symm)
  · have h := hj (q + 1) hq
    exact (congrFun (next_eq m c (t _ hq) (by omega) (by omega)) _).trans ((pay_next_at _ _ _ r b).trans
      (add_eq rfl (share_at m c (t _ hq) i ⟨q + 1, hq⟩ (hi _ hq) h r b)))

theorem flush2 : ∀ p : Fin cfg0.N, (cfg0.win 2).flush p = true ↔ p.val % 8 = 7 := (by decide +kernel : ∀ p : Fin grid0.N, _)

/-- The whole result, as an array. -/
def whole : FVec Ideal S2048x2048 .f32 := fun x => spec (arg0 m c) (arg1 m c) (x 0) (x 1)

theorem outs_congr {a b : ℕ} (h : a = b) (ha : a < cfg0.N) (hb : b < cfg0.N) : outsAt0 m c a ha = outsAt0 m c b hb := by subst h; rfl

/-- Every block written back is the result's. -/
theorem flushed_whole (t : Fin cfg0.N) (hf : (cfg0.win 2).flush t = true) :
    (dats m 0 c).flushed 2 t = ((cfg0.win 2).blk t).view.read (Elt Ideal) (whole m c) := by
  have hN : cfg0.N = 16 := N_0
  have h7 := (flush2 t).1 hf
  let i : Fin 2 := ⟨t.val / 8, by omega⟩
  have hi : t.val / 8 = i := rfl
  refine (flushed2 m c t).trans ?_
  rw [outs_congr m c (show t.val = 8 * i.val + 7 by show t.val = 8 * (t.val / 8) + 7; omega) t.isLt (point_lt i (by decide))]
  refine funext fun (y : S1024x2048.Idx) => ?_
  obtain ⟨r, b, rfl⟩ : ∃ r b, y = ix2 r b := ⟨y 0, y 1, eq_ix2 y⟩
  exact (last_at m c i r b).trans (read2 (whole m c) t i hi r b).symm

/-- The array the call returns, entry by entry. -/
theorem result_at (R : Fin 2048) (C : Fin 2048) :
    ((dats m 0 c).arrAt 2 cfg0.N : FVec Ideal S2048x2048 .f32) (ix2 R C) = spec (arg0 m c) (arg1 m c) R C := by
  let i : Fin 2 := ⟨R / 1024, by omega⟩
  let r : Fin 1024 := ⟨R % 1024, by omega⟩
  have er : (⟨1024 * i + r, by omega⟩ : Fin 2048) = R := Fin.ext (show 1024 * (R.val / 1024) + R.val % 1024 = R.val by omega)
  let p : Fin cfg0.N := ⟨8 * i.val + 7, point_lt i (by decide)⟩
  have hi : p.val / 8 = i := by show (8 * i.val + 7) / 8 = i.val; omega
  have hf : (cfg0.win 2).flush p = true := (flush2 p).2 (by show (8 * i.val + 7) % 8 = 7; omega)
  have e := congrFun ((dats m 0 c).read_blk_arrAt 2 (whole m c) (flushed_whole m c) p hf) (ix2 r C)
  have f := (read2 _ p i hi r C).symm.trans (e.trans (read2 (whole m c) p i hi r C))
  rw [er] at f
  exact f

end Kernel

section Reference

open Cert.DhInReferenceIdeal Cert.DhInReferenceIdeal.Gen

/-- The reference's result, entry by entry. -/
theorem reference_at (A : FVec Ideal S2048x4448 .f32) (B : FVec Ideal S2048x4448 .f32) (r : Fin 2048) (b : Fin 2048) :
    (Host.dotGeneral dot_S2048x4448_S2048x4448_S2048x2048_1_1_0_0_n_n none A B : FVec Ideal S2048x2048 .f32) (ix2 r b) = spec A B r b := by
  pointwise
  rfl

end Reference

/-- Over the extended reals the call's result is the reference's. -/
theorem algebraic : Cert.algebraic_DhInIdeal_DhInReferenceIdeal := by
  intro m ρ m' ρ' _ hagree
  refine ⟨_, Cert.DhInIdeal.Value.run_blocks (F := Ideal) m ρ, ?_⟩
  refine (θ_run Cert.DhInReferenceIdeal.defs _ _).mono (fun _ h c => ?_) (Cert.DhInReferenceIdeal.Value.run (F := Ideal) m' ρ')
  obtain ⟨g0, g1⟩ := hagree c
  refine ⟨(h c).1.trans (funext fun i => ?_), (h c).2⟩
  obtain ⟨a, b, rfl⟩ : ∃ a b, i = ix2 a b := ⟨i 0, i 1, eq_ix2 i⟩
  refine (reference_at _ _ a b).trans (Eq.trans ?_ (result_at m c a b).symm)
  exact congrArg₂ (fun A B => spec A B a b) g0 g1

end Cert.DhInClaim

end
-- ==== Proof.DwIn.lean ====
/- The gradient of the in projection's weight, part by part: the product of the transposed tokens with that part's columns of the
   upstream gradient. -/
module

public import proofs.«01_k».proof.Proof.Base
public import proofs.«01_k».proof.Proof.Parts
public import proofs.«01_k».proof.Proof.Gen.DwIn.Frame
public import proofs.«01_k».proof.Proof.Gen.DwInIdeal.Value
public import proofs.«01_k».proof.Proof.Gen.DwInReferenceIdeal.Run

@[expose] public section

set_option maxRecDepth 16384

noncomputable section

namespace Cert.DwInClaim

open Idealize.ShloMosaic Idealize.ShloMosaic.TcCoe Idealize.SL.Sem Cert.Parts

/-- The gradient of part `p` at row `r`, place `b`. -/
def spec (A : (⟨2, ![2048, 2048]⟩ : Shape).Idx → EReal) (B : (⟨2, ![2048, 4448]⟩ : Shape).Idx → EReal) (p : Fin 8) (r : Fin 2048) (b : Fin 640) : EReal :=
  slot 556 (fun i => ∑ k : Fin 2048, B (ix2 k i) * A (ix2 k r)) p b

section Kernel

open Cert.DwInIdeal Cert.DwInIdeal.Gen Cert.DwInIdeal.Value Idealize.ShloMosaic.StableHlo

variable (m : (ℓ : Loc nD τ sig) → Buf (Elt Ideal) ℓ) (c : Dev nD)

/-- The arguments. -/
abbrev arg0 : FVec Ideal S2048x2048 .f32 := m (c, Proc.devRef .tc main_arg0)
abbrev arg1 : FVec Ideal S2048x4448 .f32 := m (c, Proc.devRef .tc main_arg1)

/-! What the host prepares. -/

theorem v0_at (i : Fin 2048) (j : Fin 2048) :
    (V m c main_v0 : FVec Ideal S2048x2048 .bf16) (ix2 i j) = arg0 m c (ix2 i j) := by
  unfold V
  after_reads_simp
  rfl

theorem v4_at (i : Fin 2048) (j : Fin 5120) :
    (V m c main_v4 : FVec Ideal S2048x5120 .bf16) (ix2 i j) = slot 556 (fun q => arg1 m c (ix2 i q)) (j / 640) (j % 640) := by
  unfold V
  after_reads_simp
  simp only [TRef.toBuf, TRef.ofBuf, cast_eq]
  pointwise
  symm
  apply slot_dite
  · exact sitofp_zero _
  · rfl

/-! What a point computes, and where its blocks lie. -/

theorem pay_at (v0 : Vec Ideal S2048x2048 .bf16) (v2 : Vec Ideal S2048x640 .bf16) (r : Fin 2048) (b : Fin 640) :
    k0_pay1 v0 v2 (ix3 0 r b) = ∑ k : Fin 2048, v0 (ix2 k r) * v2 (ix2 k b) := by
  unfold k0_pay1
  pointwise

theorem out_eq (v0 : Vec Ideal S2048x2048 .bf16) (v2 : Vec Ideal S2048x640 .bf16) : out0_2 v0 v2 = k0_pay1 v0 v2 := by
  unfold out0_2
  rw [View.canon_unit_zero zeros, View.ld_unit_zero zeros, View.ld_unit_zero zeros]

theorem read0 (A : FVec Ideal S2048x2048 .bf16) (p : Fin cfg0.N) (r : Fin 2048) (k : Fin 2048) :
    (((cfg0.win 0).blk p).view.read (Elt Ideal) A : Vec Ideal S2048x2048 .bf16) (ix2 r k) = A (ix2 r k) := by
  have e := (by decide +kernel : ∀ p : Fin grid0.N, win0_0.index p = ![0, 0]) p
  refine congrArg A (?_ : ((cfg0.win 0).blk p).view.emb _ = _)
  blk_ext [e]

theorem read1 (A : FVec Ideal S2048x5120 .bf16) (p : Fin cfg0.N) (j : Fin 8) (hj : p.val = j) (r : Fin 2048) (k : Fin 640) :
    (((cfg0.win 1).blk p).view.read (Elt Ideal) A : Vec Ideal S2048x640 .bf16) (ix2 r k) = A (ix2 r ⟨640 * j + k, by omega⟩) := by
  have e := (by decide +kernel : ∀ p : Fin grid0.N, win0_1.index p = ![0, p.val]) p
  rw [hj] at e
  refine congrArg A (?_ : ((cfg0.win 1).blk p).view.emb _ = _)
  blk_ext [e]

theorem read2 (A : FVec Ideal S8x2048x640 .f32) (p : Fin cfg0.N) (j : Fin 8) (hj : p.val = j) (k : Fin 2048) (l : Fin 640) :
    (((cfg0.win 2).blk p).view.read (Elt Ideal) A : Vec Ideal S1x2048x640 .f32) (ix3 0 k l) = A (ix3 j k l) := by
  have e := (by decide +kernel : ∀ p : Fin grid0.N, win0_2.index p = ![p.val, 0, 0]) p
  rw [hj] at e
  refine congrArg A (?_ : ((cfg0.win 2).blk p).view.emb _ = _)
  blk_ext [e]

theorem flush2 : ∀ p : Fin cfg0.N, (cfg0.win 2).flush p = true := (by decide +kernel : ∀ p : Fin grid0.N, _)

/-- The array the call returns, entry by entry. -/
theorem result_at (P : Fin 8) (R : Fin 2048) (C : Fin 640) :
    ((dats m 0 c).arrAt 2 cfg0.N : FVec Ideal S8x2048x640 .f32) (ix3 P R C) = spec (arg0 m c) (arg1 m c) P R C := by
  have hN : cfg0.N = 8 := N_0
  let p : Fin cfg0.N := ⟨P, by omega⟩
  have hj : p.val = P := rfl
  have e := congrFun ((blocks2 m c p (flush2 p)).trans (flushed2 m c p)) (ix3 0 R C)
  refine (read2 _ p P hj R C).symm.trans (e.trans ?_)
  refine (congrFun (out_eq _ _ ) (ix3 0 R C)).trans ((pay_at _ _ R C).trans ?_)
  have ea : ∀ k, (iblk m c 0 p : Vec Ideal S2048x2048 .bf16) (ix2 k R) = arg0 m c (ix2 k R) := fun k =>
    (read0 (V m c main_v0 : FVec Ideal S2048x2048 .bf16) p k R).trans (v0_at m c k R)
  have eb' : ∀ k, (iblk m c 1 p : Vec Ideal S2048x640 .bf16) (ix2 k C) = slot 556 (fun q => arg1 m c (ix2 k q)) P C := fun k =>
    (read1 (V m c main_v4 : FVec Ideal S2048x5120 .bf16) p P hj k C).trans ((v4_at m c k ⟨640 * P + C, by omega⟩).trans (slot_place _ _ _ C.isLt))
  exact (Finset.sum_congr rfl fun k _ => (mul_eq (ea k) (eb' k)).trans ((mul_comm _ _).trans (slot_mul_right _ _ _ _ _))).trans (sum_slot _ _ _ _)

end Kernel

section Reference

open Cert.DwInReferenceIdeal Cert.DwInReferenceIdeal.Gen

/-- The reference's result, entry by entry. -/
theorem reference_at (A : FVec Ideal S2048x2048 .f32) (B : FVec Ideal S2048x4448 .f32) (p : Fin 8) (r : Fin 2048) (b : Fin 640) :
    (transpose S8x2048x640 [1, 0, 2] (pad S2048x8x640 ![0, 0, 0] ![0, 0, 84] ![0, 0, 0] (shapeCast _ (transpose S2048x4448 [1, 0] (Host.dotGeneral dot_S2048x4448_S2048x2048_S4448x2048_0_0_1_1_n_n none B A) transposes_S4448x2048_S2048x4448_1_0) shapeCasts_S2048x4448_S2048x8x556) (sitofp .f32 (constantI S_ 32 0#32)) pads_S2048x8x556_S2048x8x640_000_000_0840 h_S_) transposes_S2048x8x640_S8x2048x640_1_0_2 : FVec Ideal S8x2048x640 .f32) (ix3 p r b) = spec A B p r b := by
  pointwise
  unfold spec
  symm
  apply slot_dite'
  exact sitofp_zero _

end Reference

/-- Over the extended reals the call's result is the reference's. -/
theorem algebraic : Cert.algebraic_DwInIdeal_DwInReferenceIdeal := by
  intro m ρ m' ρ' _ hagree
  refine ⟨_, Cert.DwInIdeal.Value.run_blocks (F := Ideal) m ρ, ?_⟩
  refine (θ_run Cert.DwInReferenceIdeal.defs _ _).mono (fun _ h c => ?_) (Cert.DwInReferenceIdeal.Value.run (F := Ideal) m' ρ')
  obtain ⟨g0, g1⟩ := hagree c
  refine ⟨(h c).1.trans (funext fun i => ?_), (h c).2⟩
  obtain ⟨a, b, d, rfl⟩ : ∃ a b d, i = ix3 a b d := ⟨i 0, i 1, i 2, eq_ix3 i⟩
  refine (reference_at _ _ a b d).trans (Eq.trans ?_ (result_at m c a b d).symm)
  exact congrArg₂ (fun A B => spec A B a b d) g0 g1

end Cert.DwInClaim

end
-- ==== Proof.ProjOut.lean ====
/- The product with the out projection's weight, added to the residual stream, block by block. -/
module

public import proofs.«01_k».proof.Proof.Base
public import proofs.«01_k».proof.Proof.Parts
public import proofs.«01_k».proof.Proof.Gen.ProjOut.Frame
public import proofs.«01_k».proof.Proof.Gen.ProjOutIdeal.Value
public import proofs.«01_k».proof.Proof.Gen.ProjOutReferenceIdeal.Run

@[expose] public section

set_option maxRecDepth 16384

noncomputable section

namespace Cert.ProjOutClaim

open Idealize.ShloMosaic Idealize.ShloMosaic.TcCoe Idealize.SL.Sem Cert.Parts

/-- The sum at token `r`, channel `b`. -/
def spec (A : (⟨2, ![2048, 2048]⟩ : Shape).Idx → EReal) (B : (⟨2, ![2048, 2048]⟩ : Shape).Idx → EReal) (X : (⟨2, ![2048, 2048]⟩ : Shape).Idx → EReal) (r : Fin 2048) (b : Fin 2048) : EReal :=
  X (ix2 r b) + ∑ k : Fin 2048, A (ix2 r k) * B (ix2 k b)

section Kernel

open Cert.ProjOutIdeal Cert.ProjOutIdeal.Gen Cert.ProjOutIdeal.Value Idealize.ShloMosaic.StableHlo

variable (m : (ℓ : Loc nD τ sig) → Buf (Elt Ideal) ℓ) (c : Dev nD)

/-- The arguments. -/
abbrev arg0 : FVec Ideal S2048x2048 .f32 := m (c, Proc.devRef .tc main_arg0)
abbrev arg1 : FVec Ideal S2048x2048 .f32 := m (c, Proc.devRef .tc main_arg1)
abbrev arg2 : FVec Ideal S2048x2048 .f32 := m (c, Proc.devRef .tc main_arg2)

/-! What the host prepares. -/

theorem v0_at (i : Fin 2048) (j : Fin 2048) :
    (V m c main_v0 : FVec Ideal S2048x2048 .bf16) (ix2 i j) = arg0 m c (ix2 i j) := by
  unfold V
  after_reads_simp
  rfl

theorem v1_at (i : Fin 2048) (j : Fin 2048) :
    (V m c main_v1 : FVec Ideal S2048x2048 .bf16) (ix2 i j) = arg1 m c (ix2 i j) := by
  unfold V
  after_reads_simp
  rfl

/-! What a point computes, and where its blocks lie. -/

theorem pay_at (v0 : Vec Ideal S512x2048 .bf16) (v2 : Vec Ideal S2048x2048 .bf16) (v5 : Vec Ideal S512x2048 .f32) (r : Fin 512) (b : Fin 2048) :
    k0_pay1 v0 v2 v5 (ix2 r b) = (∑ k : Fin 2048, v0 (ix2 r k) * v2 (ix2 k b)) + v5 (ix2 r b) := by
  unfold k0_pay1
  pointwise

theorem out_eq (v0 : Vec Ideal S512x2048 .bf16) (v2 : Vec Ideal S2048x2048 .bf16) (v5 : Vec Ideal S512x2048 .f32) : out0_3 v0 v2 v5 = k0_pay1 v0 v2 v5 := by
  unfold out0_3
  rw [View.canon_unit_zero zeros, View.ld_unit_zero zeros, View.ld_unit_zero zeros, View.ld_unit_zero zeros]

theorem read0 (A : FVec Ideal S2048x2048 .bf16) (p : Fin cfg0.N) (i : Fin 4) (hi : p.val = i) (r : Fin 512) (k : Fin 2048) :
    (((cfg0.win 0).blk p).view.read (Elt Ideal) A : Vec Ideal S512x2048 .bf16) (ix2 r k) = A (ix2 ⟨512 * i + r, by omega⟩ k) := by
  have e := (by decide +kernel : ∀ p : Fin grid0.N, win0_0.index p = ![p.val, 0]) p
  rw [hi] at e
  refine congrArg A (?_ : ((cfg0.win 0).blk p).view.emb _ = _)
  blk_ext [e]

theorem read1 (A : FVec Ideal S2048x2048 .bf16) (p : Fin cfg0.N) (r : Fin 2048) (k : Fin 2048) :
    (((cfg0.win 1).blk p).view.read (Elt Ideal) A : Vec Ideal S2048x2048 .bf16) (ix2 r k) = A (ix2 r k) := by
  have e := (by decide +kernel : ∀ p : Fin grid0.N, win0_1.index p = ![0, 0]) p
  refine congrArg A (?_ : ((cfg0.win 1).blk p).view.emb _ = _)
  blk_ext [e]

theorem read2 (A : FVec Ideal S2048x2048 .f32) (p : Fin cfg0.N) (i : Fin 4) (hi : p.val = i) (r : Fin 512) (k : Fin 2048) :
    (((cfg0.win 2).blk p).view.read (Elt Ideal) A : Vec Ideal S512x2048 .f32) (ix2 r k) = A (ix2 ⟨512 * i + r, by omega⟩ k) := by
  have e := (by decide +kernel : ∀ p : Fin grid0.N, win0_2.index p = ![p.val, 0]) p
  rw [hi] at e
  refine congrArg A (?_ : ((cfg0.win 2).blk p).view.emb _ = _)
  blk_ext [e]

theorem read3 (A : FVec Ideal S2048x2048 .f32) (p : Fin cfg0.N) (i : Fin 4) (hi : p.val = i) (r : Fin 512) (k : Fin 2048) :
    (((cfg0.win 3).blk p).view.read (Elt Ideal) A : Vec Ideal S512x2048 .f32) (ix2 r k) = A (ix2 ⟨512 * i + r, by omega⟩ k) := by
  have e := (by decide +kernel : ∀ p : Fin grid0.N, win0_3.index p = ![p.val, 0]) p
  rw [hi] at e
  refine congrArg A (?_ : ((cfg0.win 3).blk p).view.emb _ = _)
  blk_ext [e]

theorem flush3 : ∀ p : Fin cfg0.N, (cfg0.win 3).flush p = true := (by decide +kernel : ∀ p : Fin grid0.N, _)

/-- The array the call returns, entry by entry. -/
theorem result_at (R : Fin 2048) (C : Fin 2048) :
    ((dats m 0 c).arrAt 3 cfg0.N : FVec Ideal S2048x2048 .f32) (ix2 R C) = spec (arg0 m c) (arg1 m c) (arg2 m c) R C := by
  have hN : cfg0.N = 4 := N_0
  let i : Fin 4 := ⟨R / 512, by omega⟩
  let r : Fin 512 := ⟨R % 512, by omega⟩
  have er : (⟨512 * i + r, by omega⟩ : Fin 2048) = R := Fin.ext (show 512 * (R.val / 512) + R.val % 512 = R.val by omega)
  let p : Fin cfg0.N := ⟨i, by omega⟩
  have hi : p.val = i := rfl
  have e := congrFun ((blocks3 m c p (flush3 p)).trans (flushed3 m c p)) (ix2 r C)
  refine (congrArg (fun q => ((dats m 0 c).arrAt 3 cfg0.N : FVec Ideal S2048x2048 .f32) (ix2 q C)) er).symm.trans ?_
  refine (read3 _ p i hi r C).symm.trans (e.trans ?_)
  refine (congrFun (out_eq _ _ _ ) (ix2 r C)).trans ((pay_at _ _ _ r C).trans ?_)
  have ea : ∀ k, (iblk m c 0 p : Vec Ideal S512x2048 .bf16) (ix2 r k) = arg0 m c (ix2 R k) := fun k =>
    (read0 (V m c main_v0 : FVec Ideal S2048x2048 .bf16) p i hi r k).trans ((congrArg (fun q => (V m c main_v0 : FVec Ideal S2048x2048 .bf16) (ix2 q k)) er).trans (v0_at m c R k))
  have eb' : ∀ k, (iblk m c 1 p : Vec Ideal S2048x2048 .bf16) (ix2 k C) = arg1 m c (ix2 k C) := fun k =>
    (read1 (V m c main_v1 : FVec Ideal S2048x2048 .bf16) p k C).trans (v1_at m c k C)
  have ex : (iblk m c 2 p : Vec Ideal S512x2048 .f32) (ix2 r C) = arg2 m c (ix2 R C) :=
    (read2 (V m c main_arg2 : FVec Ideal S2048x2048 .f32) p i hi r C).trans ((congrArg (fun q => (V m c main_arg2 : FVec Ideal S2048x2048 .f32) (ix2 q C)) er).trans (congrFun (V_main_arg2 m c) (ix2 R C)))
  exact (add_eq ((Finset.sum_congr rfl fun k _ => (mul_eq (ea k) (eb' k)).trans rfl)) ex).trans (add_comm _ _)

end Kernel

section Reference

open Cert.ProjOutReferenceIdeal Cert.ProjOutReferenceIdeal.Gen

/-- The reference's result, entry by entry. -/
theorem reference_at (A : FVec Ideal S2048x2048 .f32) (B : FVec Ideal S2048x2048 .f32) (X : FVec Ideal S2048x2048 .f32) (r : Fin 2048) (b : Fin 2048) :
    (addf X (Host.dotGeneral dot_S2048x2048_S2048x2048_S2048x2048_1_0_0_1_n_n none A B) : FVec Ideal S2048x2048 .f32) (ix2 r b) = spec A B X r b := by
  pointwise
  rfl

end Reference

/-- Over the extended reals the call's result is the reference's. -/
theorem algebraic : Cert.algebraic_ProjOutIdeal_ProjOutReferenceIdeal := by
  intro m ρ m' ρ' _ hagree
  refine ⟨_, Cert.ProjOutIdeal.Value.run_blocks (F := Ideal) m ρ, ?_⟩
  refine (θ_run Cert.ProjOutReferenceIdeal.defs _ _).mono (fun _ h c => ?_) (Cert.ProjOutReferenceIdeal.Value.run (F := Ideal) m' ρ')
  obtain ⟨g0, g1, g2⟩ := hagree c
  refine ⟨(h c).1.trans (funext fun i => ?_), (h c).2⟩
  obtain ⟨a, b, rfl⟩ : ∃ a b, i = ix2 a b := ⟨i 0, i 1, eq_ix2 i⟩
  refine (reference_at _ _ _ a b).trans (Eq.trans ?_ (result_at m c a b).symm)
  exact (congrArg₂ (fun A B => spec A B _ a b) g0 g1).trans (congrArg (fun X => spec _ _ X a b) g2)

end Cert.ProjOutClaim

end
-- ==== Proof.DY.lean ====
/- The gradient with respect to the mixed heads: the product of the upstream gradient with the transposed out projection,
   block by block. -/
module

public import proofs.«01_k».proof.Proof.Base
public import proofs.«01_k».proof.Proof.Parts
public import proofs.«01_k».proof.Proof.Gen.DY.Frame
public import proofs.«01_k».proof.Proof.Gen.DYIdeal.Value
public import proofs.«01_k».proof.Proof.Gen.DYReferenceIdeal.Run

@[expose] public section

set_option maxRecDepth 16384

noncomputable section

namespace Cert.DYClaim

open Idealize.ShloMosaic Idealize.ShloMosaic.TcCoe Idealize.SL.Sem Cert.Parts

/-- The gradient at token `r`, channel `b`. -/
def spec (A : (⟨2, ![2048, 2048]⟩ : Shape).Idx → EReal) (B : (⟨2, ![2048, 2048]⟩ : Shape).Idx → EReal) (r : Fin 2048) (b : Fin 2048) : EReal :=
  ∑ k : Fin 2048, A (ix2 r k) * B (ix2 b k)

section Kernel

open Cert.DYIdeal Cert.DYIdeal.Gen Cert.DYIdeal.Value Idealize.ShloMosaic.StableHlo

variable (m : (ℓ : Loc nD τ sig) → Buf (Elt Ideal) ℓ) (c : Dev nD)

/-- The arguments. -/
abbrev arg0 : FVec Ideal S2048x2048 .f32 := m (c, Proc.devRef .tc main_arg0)
abbrev arg1 : FVec Ideal S2048x2048 .f32 := m (c, Proc.devRef .tc main_arg1)

/-! What the host prepares. -/

theorem v0_at (i : Fin 2048) (j : Fin 2048) :
    (V m c main_v0 : FVec Ideal S2048x2048 .bf16) (ix2 i j) = arg0 m c (ix2 i j) := by
  unfold V
  after_reads_simp
  rfl

theorem v1_at (i : Fin 2048) (j : Fin 2048) :
    (V m c main_v1 : FVec Ideal S2048x2048 .bf16) (ix2 i j) = arg1 m c (ix2 i j) := by
  unfold V
  after_reads_simp
  rfl

/-! What a point computes, and where its blocks lie. -/

theorem pay_at (v0 : Vec Ideal S2048x2048 .bf16) (v2 : Vec Ideal S1024x2048 .bf16) (r : Fin 2048) (b : Fin 1024) :
    k0_pay1 v0 v2 (ix2 r b) = ∑ k : Fin 2048, v0 (ix2 r k) * v2 (ix2 b k) := by
  unfold k0_pay1
  pointwise

theorem out_eq (v0 : Vec Ideal S2048x2048 .bf16) (v2 : Vec Ideal S1024x2048 .bf16) : out0_2 v0 v2 = k0_pay1 v0 v2 := by
  unfold out0_2
  rw [View.canon_unit_zero zeros, View.ld_unit_zero zeros, View.ld_unit_zero zeros]

theorem read0 (A : FVec Ideal S2048x2048 .bf16) (p : Fin cfg0.N) (r : Fin 2048) (k : Fin 2048) :
    (((cfg0.win 0).blk p).view.read (Elt Ideal) A : Vec Ideal S2048x2048 .bf16) (ix2 r k) = A (ix2 r k) := by
  have e := (by decide +kernel : ∀ p : Fin grid0.N, win0_0.index p = ![0, 0]) p
  refine congrArg A (?_ : ((cfg0.win 0).blk p).view.emb _ = _)
  blk_ext [e]

theorem read1 (A : FVec Ideal S2048x2048 .bf16) (p : Fin cfg0.N) (j : Fin 2) (hj : p.val = j) (r : Fin 1024) (k : Fin 2048) :
    (((cfg0.win 1).blk p).view.read (Elt Ideal) A : Vec Ideal S1024x2048 .bf16) (ix2 r k) = A (ix2 ⟨1024 * j + r, by omega⟩ k) := by
  have e := (by decide +kernel : ∀ p : Fin grid0.N, win0_1.index p = ![p.val, 0]) p
  rw [hj] at e
  refine congrArg A (?_ : ((cfg0.win 1).blk p).view.emb _ = _)
  blk_ext [e]

theorem read2 (A : FVec Ideal S2048x2048 .f32) (p : Fin cfg0.N) (j : Fin 2) (hj : p.val = j) (r : Fin 2048) (k : Fin 1024) :
    (((cfg0.win 2).blk p).view.read (Elt Ideal) A : Vec Ideal S2048x1024 .f32) (ix2 r k) = A (ix2 r ⟨1024 * j + k, by omega⟩) := by
  have e := (by decide +kernel : ∀ p : Fin grid0.N, win0_2.index p = ![0, p.val]) p
  rw [hj] at e
  refine congrArg A (?_ : ((cfg0.win 2).blk p).view.emb _ = _)
  blk_ext [e]

theorem flush2 : ∀ p : Fin cfg0.N, (cfg0.win 2).flush p = true := (by decide +kernel : ∀ p : Fin grid0.N, _)

/-- The array the call returns, entry by entry. -/
theorem result_at (R : Fin 2048) (C : Fin 2048) :
    ((dats m 0 c).arrAt 2 cfg0.N : FVec Ideal S2048x2048 .f32) (ix2 R C) = spec (arg0 m c) (arg1 m c) R C := by
  have hN : cfg0.N = 2 := N_0
  let j : Fin 2 := ⟨C / 1024, by omega⟩
  let b : Fin 1024 := ⟨C % 1024, by omega⟩
  have eb : (⟨1024 * j + b, by omega⟩ : Fin 2048) = C := Fin.ext (show 1024 * (C.val / 1024) + C.val % 1024 = C.val by omega)
  let p : Fin cfg0.N := ⟨j, by omega⟩
  have hj : p.val = j := rfl
  have e := congrFun ((blocks2 m c p (flush2 p)).trans (flushed2 m c p)) (ix2 R b)
  refine (congrArg (fun q => ((dats m 0 c).arrAt 2 cfg0.N : FVec Ideal S2048x2048 .f32) (ix2 R q)) eb).symm.trans ?_
  refine (read2 _ p j hj R b).symm.trans (e.trans ?_)
  refine (congrFun (out_eq _ _ ) (ix2 R b)).trans ((pay_at _ _ R b).trans ?_)
  have ea : ∀ k, (iblk m c 0 p : Vec Ideal S2048x2048 .bf16) (ix2 R k) = arg0 m c (ix2 R k) := fun k =>
    (read0 (V m c main_v0 : FVec Ideal S2048x2048 .bf16) p R k).trans (v0_at m c R k)
  have eb' : ∀ k, (iblk m c 1 p : Vec Ideal S1024x2048 .bf16) (ix2 b k) = arg1 m c (ix2 C k) := fun k =>
    (read1 (V m c main_v1 : FVec Ideal S2048x2048 .bf16) p j hj b k).trans ((congrArg (fun q => (V m c main_v1 : FVec Ideal S2048x2048 .bf16) (ix2 q k)) eb).trans (v1_at m c C k))
  exact (Finset.sum_congr rfl fun k _ => (mul_eq (ea k) (eb' k)).trans rfl)

end Kernel

section Reference

open Cert.DYReferenceIdeal Cert.DYReferenceIdeal.Gen

/-- The reference's result, entry by entry. -/
theorem reference_at (A : FVec Ideal S2048x2048 .f32) (B : FVec Ideal S2048x2048 .f32) (r : Fin 2048) (b : Fin 2048) :
    (Host.dotGeneral dot_S2048x2048_S2048x2048_S2048x2048_1_1_0_0_n_n none A B : FVec Ideal S2048x2048 .f32) (ix2 r b) = spec A B r b := by
  pointwise
  rfl

end Reference

/-- Over the extended reals the call's result is the reference's. -/
theorem algebraic : Cert.algebraic_DYIdeal_DYReferenceIdeal := by
  intro m ρ m' ρ' _ hagree
  refine ⟨_, Cert.DYIdeal.Value.run_blocks (F := Ideal) m ρ, ?_⟩
  refine (θ_run Cert.DYReferenceIdeal.defs _ _).mono (fun _ h c => ?_) (Cert.DYReferenceIdeal.Value.run (F := Ideal) m' ρ')
  obtain ⟨g0, g1⟩ := hagree c
  refine ⟨(h c).1.trans (funext fun i => ?_), (h c).2⟩
  obtain ⟨a, b, rfl⟩ : ∃ a b, i = ix2 a b := ⟨i 0, i 1, eq_ix2 i⟩
  refine (reference_at _ _ a b).trans (Eq.trans ?_ (result_at m c a b).symm)
  exact congrArg₂ (fun A B => spec A B a b) g0 g1

end Cert.DYClaim

end
-- ==== Proof.DwOut.lean ====
/- The gradient of the out projection's weight: the product of the transposed tokens with the upstream gradient, block by
   block. -/
module

public import proofs.«01_k».proof.Proof.Base
public import proofs.«01_k».proof.Proof.Parts
public import proofs.«01_k».proof.Proof.Gen.DwOut.Frame
public import proofs.«01_k».proof.Proof.Gen.DwOutIdeal.Value
public import proofs.«01_k».proof.Proof.Gen.DwOutReferenceIdeal.Run

@[expose] public section

set_option maxRecDepth 16384

noncomputable section

namespace Cert.DwOutClaim

open Idealize.ShloMosaic Idealize.ShloMosaic.TcCoe Idealize.SL.Sem Cert.Parts

/-- The gradient at row `r`, channel `b`. -/
def spec (A : (⟨2, ![2048, 2048]⟩ : Shape).Idx → EReal) (B : (⟨2, ![2048, 2048]⟩ : Shape).Idx → EReal) (r : Fin 2048) (b : Fin 2048) : EReal :=
  ∑ k : Fin 2048, B (ix2 k b) * A (ix2 k r)

section Kernel

open Cert.DwOutIdeal Cert.DwOutIdeal.Gen Cert.DwOutIdeal.Value Idealize.ShloMosaic.StableHlo

variable (m : (ℓ : Loc nD τ sig) → Buf (Elt Ideal) ℓ) (c : Dev nD)

/-- The arguments. -/
abbrev arg0 : FVec Ideal S2048x2048 .f32 := m (c, Proc.devRef .tc main_arg0)
abbrev arg1 : FVec Ideal S2048x2048 .f32 := m (c, Proc.devRef .tc main_arg1)

/-! What the host prepares. -/

theorem v0_at (i : Fin 2048) (j : Fin 2048) :
    (V m c main_v0 : FVec Ideal S2048x2048 .bf16) (ix2 i j) = arg0 m c (ix2 i j) := by
  unfold V
  after_reads_simp
  rfl

theorem v1_at (i : Fin 2048) (j : Fin 2048) :
    (V m c main_v1 : FVec Ideal S2048x2048 .bf16) (ix2 i j) = arg1 m c (ix2 i j) := by
  unfold V
  after_reads_simp
  rfl

/-! What a point computes, and where its blocks lie. -/

theorem pay_at (v0 : Vec Ideal S2048x512 .bf16) (v2 : Vec Ideal S2048x2048 .bf16) (r : Fin 512) (b : Fin 2048) :
    k0_pay1 v0 v2 (ix2 r b) = ∑ k : Fin 2048, v0 (ix2 k r) * v2 (ix2 k b) := by
  unfold k0_pay1
  pointwise

theorem out_eq (v0 : Vec Ideal S2048x512 .bf16) (v2 : Vec Ideal S2048x2048 .bf16) : out0_2 v0 v2 = k0_pay1 v0 v2 := by
  unfold out0_2
  rw [View.canon_unit_zero zeros, View.ld_unit_zero zeros, View.ld_unit_zero zeros]

theorem read0 (A : FVec Ideal S2048x2048 .bf16) (p : Fin cfg0.N) (i : Fin 4) (hi : p.val = i) (r : Fin 2048) (k : Fin 512) :
    (((cfg0.win 0).blk p).view.read (Elt Ideal) A : Vec Ideal S2048x512 .bf16) (ix2 r k) = A (ix2 r ⟨512 * i + k, by omega⟩) := by
  have e := (by decide +kernel : ∀ p : Fin grid0.N, win0_0.index p = ![0, p.val]) p
  rw [hi] at e
  refine congrArg A (?_ : ((cfg0.win 0).blk p).view.emb _ = _)
  blk_ext [e]

theorem read1 (A : FVec Ideal S2048x2048 .bf16) (p : Fin cfg0.N) (r : Fin 2048) (k : Fin 2048) :
    (((cfg0.win 1).blk p).view.read (Elt Ideal) A : Vec Ideal S2048x2048 .bf16) (ix2 r k) = A (ix2 r k) := by
  have e := (by decide +kernel : ∀ p : Fin grid0.N, win0_1.index p = ![0, 0]) p
  refine congrArg A (?_ : ((cfg0.win 1).blk p).view.emb _ = _)
  blk_ext [e]

theorem read2 (A : FVec Ideal S2048x2048 .f32) (p : Fin cfg0.N) (i : Fin 4) (hi : p.val = i) (r : Fin 512) (k : Fin 2048) :
    (((cfg0.win 2).blk p).view.read (Elt Ideal) A : Vec Ideal S512x2048 .f32) (ix2 r k) = A (ix2 ⟨512 * i + r, by omega⟩ k) := by
  have e := (by decide +kernel : ∀ p : Fin grid0.N, win0_2.index p = ![p.val, 0]) p
  rw [hi] at e
  refine congrArg A (?_ : ((cfg0.win 2).blk p).view.emb _ = _)
  blk_ext [e]

theorem flush2 : ∀ p : Fin cfg0.N, (cfg0.win 2).flush p = true := (by decide +kernel : ∀ p : Fin grid0.N, _)

/-- The array the call returns, entry by entry. -/
theorem result_at (R : Fin 2048) (C : Fin 2048) :
    ((dats m 0 c).arrAt 2 cfg0.N : FVec Ideal S2048x2048 .f32) (ix2 R C) = spec (arg0 m c) (arg1 m c) R C := by
  have hN : cfg0.N = 4 := N_0
  let i : Fin 4 := ⟨R / 512, by omega⟩
  let r : Fin 512 := ⟨R % 512, by omega⟩
  have er : (⟨512 * i + r, by omega⟩ : Fin 2048) = R := Fin.ext (show 512 * (R.val / 512) + R.val % 512 = R.val by omega)
  let p : Fin cfg0.N := ⟨i, by omega⟩
  have hi : p.val = i := rfl
  have e := congrFun ((blocks2 m c p (flush2 p)).trans (flushed2 m c p)) (ix2 r C)
  refine (congrArg (fun q => ((dats m 0 c).arrAt 2 cfg0.N : FVec Ideal S2048x2048 .f32) (ix2 q C)) er).symm.trans ?_
  refine (read2 _ p i hi r C).symm.trans (e.trans ?_)
  refine (congrFun (out_eq _ _ ) (ix2 r C)).trans ((pay_at _ _ r C).trans ?_)
  have ea : ∀ k, (iblk m c 0 p : Vec Ideal S2048x512 .bf16) (ix2 k r) = arg0 m c (ix2 k R) := fun k =>
    (read0 (V m c main_v0 : FVec Ideal S2048x2048 .bf16) p i hi k r).trans ((congrArg (fun q => (V m c main_v0 : FVec Ideal S2048x2048 .bf16) (ix2 k q)) er).trans (v0_at m c k R))
  have eb' : ∀ k, (iblk m c 1 p : Vec Ideal S2048x2048 .bf16) (ix2 k C) = arg1 m c (ix2 k C) := fun k =>
    (read1 (V m c main_v1 : FVec Ideal S2048x2048 .bf16) p k C).trans (v1_at m c k C)
  exact (Finset.sum_congr rfl fun k _ => (mul_eq (ea k) (eb' k)).trans (mul_comm _ _))

end Kernel

section Reference

open Cert.DwOutReferenceIdeal Cert.DwOutReferenceIdeal.Gen

/-- The reference's result, entry by entry. -/
theorem reference_at (A : FVec Ideal S2048x2048 .f32) (B : FVec Ideal S2048x2048 .f32) (r : Fin 2048) (b : Fin 2048) :
    (transpose S2048x2048 [1, 0] (Host.dotGeneral dot_S2048x2048_S2048x2048_S2048x2048_0_0_1_1_n_n none B A) transposes_S2048x2048_S2048x2048_1_0 : FVec Ideal S2048x2048 .f32) (ix2 r b) = spec A B r b := by
  pointwise
  rfl

end Reference

/-- Over the extended reals the call's result is the reference's. -/
theorem algebraic : Cert.algebraic_DwOutIdeal_DwOutReferenceIdeal := by
  intro m ρ m' ρ' _ hagree
  refine ⟨_, Cert.DwOutIdeal.Value.run_blocks (F := Ideal) m ρ, ?_⟩
  refine (θ_run Cert.DwOutReferenceIdeal.defs _ _).mono (fun _ h c => ?_) (Cert.DwOutReferenceIdeal.Value.run (F := Ideal) m' ρ')
  obtain ⟨g0, g1⟩ := hagree c
  refine ⟨(h c).1.trans (funext fun i => ?_), (h c).2⟩
  obtain ⟨a, b, rfl⟩ : ∃ a b, i = ix2 a b := ⟨i 0, i 1, eq_ix2 i⟩
  refine (reference_at _ _ a b).trans (Eq.trans ?_ (result_at m c a b).symm)
  exact congrArg₂ (fun A B => spec A B a b) g0 g1

end Cert.DwOutClaim

end
-- ==== Proof.ProjQ.lean ====
/- The product of the latents with the weight of the queries, part by part. -/
module

public import proofs.«01_k».proof.Proof.Base
public import proofs.«01_k».proof.Proof.Parts
public import proofs.«01_k».proof.Proof.Gen.ProjQ.Frame
public import proofs.«01_k».proof.Proof.Gen.ProjQIdeal.Value
public import proofs.«01_k».proof.Proof.Gen.ProjQReferenceIdeal.Run

@[expose] public section

set_option maxRecDepth 16384

noncomputable section

namespace Cert.ProjQClaim

open Idealize.ShloMosaic Idealize.ShloMosaic.TcCoe Idealize.SL.Sem Cert.Parts

/-- The product of part `p` at token `r`, place `b`. -/
def spec (A : (⟨2, ![2048, 512]⟩ : Shape).Idx → EReal) (B : (⟨2, ![512, 1536]⟩ : Shape).Idx → EReal) (p : Fin 8) (r : Fin 2048) (b : Fin 256) : EReal :=
  slot 192 (fun i => ∑ k : Fin 512, A (ix2 r k) * B (ix2 k i)) p b

section Kernel

open Cert.ProjQIdeal Cert.ProjQIdeal.Gen Cert.ProjQIdeal.Value Idealize.ShloMosaic.StableHlo

variable (m : (ℓ : Loc nD τ sig) → Buf (Elt Ideal) ℓ) (c : Dev nD)

/-- The arguments. -/
abbrev arg0 : FVec Ideal S2048x512 .f32 := m (c, Proc.devRef .tc main_arg0)
abbrev arg1 : FVec Ideal S512x1536 .f32 := m (c, Proc.devRef .tc main_arg1)

/-! What the host prepares. -/

theorem v0_at (i : Fin 2048) (j : Fin 512) :
    (V m c main_v0 : FVec Ideal S2048x512 .bf16) (ix2 i j) = arg0 m c (ix2 i j) := by
  unfold V
  after_reads_simp
  rfl

theorem v4_at (p : Fin 8) (i : Fin 512) (b : Fin 256) :
    (V m c main_v4 : FVec Ideal S8x512x256 .bf16) (ix3 p i b) = slot 192 (fun q => arg1 m c (ix2 i q)) p b := by
  unfold V
  after_reads_simp
  simp only [TRef.toBuf, TRef.ofBuf, cast_eq]
  pointwise
  symm
  apply slot_dite'
  exact sitofp_zero _

/-! What a point computes, and where its blocks lie. -/

theorem pay_at (v0 : Vec Ideal S2048x512 .bf16) (v2 : Vec Ideal S1x512x256 .bf16) (r : Fin 2048) (b : Fin 256) :
    k0_pay1 v0 v2 (ix3 0 r b) = ∑ k : Fin 512, v0 (ix2 r k) * v2 (ix3 0 k b) := by
  unfold k0_pay1
  pointwise

theorem out_eq (v0 : Vec Ideal S2048x512 .bf16) (v2 : Vec Ideal S1x512x256 .bf16) : out0_2 v0 v2 = k0_pay1 v0 v2 := by
  unfold out0_2
  rw [View.canon_unit_zero zeros, View.ld_unit_zero zeros, View.ld_unit_zero zeros]

theorem read0 (A : FVec Ideal S2048x512 .bf16) (p : Fin cfg0.N) (r : Fin 2048) (k : Fin 512) :
    (((cfg0.win 0).blk p).view.read (Elt Ideal) A : Vec Ideal S2048x512 .bf16) (ix2 r k) = A (ix2 r k) := by
  have e := (by decide +kernel : ∀ p : Fin grid0.N, win0_0.index p = ![0, 0]) p
  refine congrArg A (?_ : ((cfg0.win 0).blk p).view.emb _ = _)
  blk_ext [e]

theorem read1 (A : FVec Ideal S8x512x256 .bf16) (p : Fin cfg0.N) (j : Fin 8) (hj : p.val = j) (k : Fin 512) (l : Fin 256) :
    (((cfg0.win 1).blk p).view.read (Elt Ideal) A : Vec Ideal S1x512x256 .bf16) (ix3 0 k l) = A (ix3 j k l) := by
  have e := (by decide +kernel : ∀ p : Fin grid0.N, win0_1.index p = ![p.val, 0, 0]) p
  rw [hj] at e
  refine congrArg A (?_ : ((cfg0.win 1).blk p).view.emb _ = _)
  blk_ext [e]

theorem read2 (A : FVec Ideal S8x2048x256 .f32) (p : Fin cfg0.N) (j : Fin 8) (hj : p.val = j) (k : Fin 2048) (l : Fin 256) :
    (((cfg0.win 2).blk p).view.read (Elt Ideal) A : Vec Ideal S1x2048x256 .f32) (ix3 0 k l) = A (ix3 j k l) := by
  have e := (by decide +kernel : ∀ p : Fin grid0.N, win0_2.index p = ![p.val, 0, 0]) p
  rw [hj] at e
  refine congrArg A (?_ : ((cfg0.win 2).blk p).view.emb _ = _)
  blk_ext [e]

theorem flush2 : ∀ p : Fin cfg0.N, (cfg0.win 2).flush p = true := (by decide +kernel : ∀ p : Fin grid0.N, _)

/-- The array the call returns, entry by entry. -/
theorem result_at (P : Fin 8) (R : Fin 2048) (C : Fin 256) :
    ((dats m 0 c).arrAt 2 cfg0.N : FVec Ideal S8x2048x256 .f32) (ix3 P R C) = spec (arg0 m c) (arg1 m c) P R C := by
  have hN : cfg0.N = 8 := N_0
  let p : Fin cfg0.N := ⟨P, by omega⟩
  have hj : p.val = P := rfl
  have e := congrFun ((blocks2 m c p (flush2 p)).trans (flushed2 m c p)) (ix3 0 R C)
  refine (read2 _ p P hj R C).symm.trans (e.trans ?_)
  refine (congrFun (out_eq _ _ ) (ix3 0 R C)).trans ((pay_at _ _ R C).trans ?_)
  have ea : ∀ k, (iblk m c 0 p : Vec Ideal S2048x512 .bf16) (ix2 R k) = arg0 m c (ix2 R k) := fun k =>
    (read0 (V m c main_v0 : FVec Ideal S2048x512 .bf16) p R k).trans (v0_at m c R k)
  have eb' : ∀ k, (iblk m c 1 p : Vec Ideal S1x512x256 .bf16) (ix3 0 k C) = slot 192 (fun q => arg1 m c (ix2 k q)) P C := fun k =>
    (read1 (V m c main_v4 : FVec Ideal S8x512x256 .bf16) p P hj k C).trans (v4_at m c P k C)
  exact (Finset.sum_congr rfl fun k _ => (mul_eq (ea k) (eb' k)).trans (mul_slot _ _ _ _ _)).trans (sum_slot _ _ _ _)

end Kernel

section Reference

open Cert.ProjQReferenceIdeal Cert.ProjQReferenceIdeal.Gen

/-- The reference's result, entry by entry. -/
theorem reference_at (A : FVec Ideal S2048x512 .f32) (B : FVec Ideal S512x1536 .f32) (p : Fin 8) (r : Fin 2048) (b : Fin 256) :
    (transpose S8x2048x256 [1, 0, 2] (pad S2048x8x256 ![0, 0, 0] ![0, 0, 64] ![0, 0, 0] (shapeCast _ (Host.dotGeneral dot_S2048x512_S512x1536_S2048x1536_1_0_0_1_n_n none A B) shapeCasts_S2048x1536_S2048x8x192) (sitofp .f32 (constantI S_ 32 0#32)) pads_S2048x8x192_S2048x8x256_000_000_0640 h_S_) transposes_S2048x8x256_S8x2048x256_1_0_2 : FVec Ideal S8x2048x256 .f32) (ix3 p r b) = spec A B p r b := by
  pointwise
  unfold spec
  symm
  apply slot_dite'
  exact sitofp_zero _

end Reference

/-- Over the extended reals the call's result is the reference's. -/
theorem algebraic : Cert.algebraic_ProjQIdeal_ProjQReferenceIdeal := by
  intro m ρ m' ρ' _ hagree
  refine ⟨_, Cert.ProjQIdeal.Value.run_blocks (F := Ideal) m ρ, ?_⟩
  refine (θ_run Cert.ProjQReferenceIdeal.defs _ _).mono (fun _ h c => ?_) (Cert.ProjQReferenceIdeal.Value.run (F := Ideal) m' ρ')
  obtain ⟨g0, g1⟩ := hagree c
  refine ⟨(h c).1.trans (funext fun i => ?_), (h c).2⟩
  obtain ⟨a, b, d, rfl⟩ : ∃ a b d, i = ix3 a b d := ⟨i 0, i 1, i 2, eq_ix3 i⟩
  refine (reference_at _ _ a b d).trans (Eq.trans ?_ (result_at m c a b d).symm)
  exact congrArg₂ (fun A B => spec A B a b d) g0 g1

end Cert.ProjQClaim

end
-- ==== Proof.DQn.lean ====
/- The gradient with respect to the queries' latents: the product of the upstream gradient with the transposed weight,
   summed part by part. -/
module

public import proofs.«01_k».proof.Proof.Base
public import proofs.«01_k».proof.Proof.Parts
public import proofs.«01_k».proof.Proof.Gen.DQn.Frame
public import proofs.«01_k».proof.Proof.Gen.DQnIdeal.Value
public import proofs.«01_k».proof.Proof.Gen.DQnReferenceIdeal.Run

@[expose] public section

set_option maxRecDepth 16384

noncomputable section

namespace Cert.DQnClaim

open Idealize.ShloMosaic Idealize.ShloMosaic.TcCoe Idealize.SL.Sem Cert.Parts

/-- The gradient at token `r`, channel `b`. -/
def spec (A : (⟨2, ![2048, 1536]⟩ : Shape).Idx → EReal) (B : (⟨2, ![512, 1536]⟩ : Shape).Idx → EReal) (r : Fin 2048) (b : Fin 512) : EReal :=
  ∑ k : Fin 1536, A (ix2 r k) * B (ix2 b k)

/-- One part's share of the sum, its places past the part's entries contributing nothing. -/
def share (A : (⟨2, ![2048, 1536]⟩ : Shape).Idx → EReal) (B : (⟨2, ![512, 1536]⟩ : Shape).Idx → EReal) (r : Fin 2048) (b : Fin 512) (p : ℕ) : EReal :=
  ∑ k : Fin 256, slot 192 (fun q => A (ix2 r q) * B (ix2 b q)) p k

section Kernel

open Cert.DQnIdeal Cert.DQnIdeal.Gen Cert.DQnIdeal.Value Idealize.ShloMosaic.StableHlo

variable (m : (ℓ : Loc nD τ sig) → Buf (Elt Ideal) ℓ) (c : Dev nD)

/-- The arguments. -/
abbrev arg0 : FVec Ideal S2048x1536 .f32 := m (c, Proc.devRef .tc main_arg0)
abbrev arg1 : FVec Ideal S512x1536 .f32 := m (c, Proc.devRef .tc main_arg1)

/-! What the host prepares. -/

theorem v3_at (p : Fin 8) (i : Fin 2048) (b : Fin 256) :
    (V m c main_v3 : FVec Ideal S8x2048x256 .bf16) (ix3 p i b) = slot 192 (fun q => arg0 m c (ix2 i q)) p b := by
  unfold V
  after_reads_simp
  simp only [TRef.toBuf, TRef.ofBuf, cast_eq]
  pointwise
  symm
  apply slot_dite'
  exact sitofp_zero _

theorem v7_at (p : Fin 8) (i : Fin 512) (b : Fin 256) :
    (V m c main_v7 : FVec Ideal S8x512x256 .bf16) (ix3 p i b) = slot 192 (fun q => arg1 m c (ix2 i q)) p b := by
  unfold V
  after_reads_simp
  simp only [TRef.toBuf, TRef.ofBuf, cast_eq]
  pointwise
  symm
  apply slot_dite'
  exact sitofp_zero _

/-! What a point computes, and where its blocks lie. -/

theorem pay_at (v0 : Vec Ideal S1x1024x256 .bf16) (v2 : Vec Ideal S1x512x256 .bf16) (r : Fin 1024) (b : Fin 512) :
    k0_pay1 v0 v2 (ix2 r b) = ∑ k : Fin 256, v0 (ix3 0 r k) * v2 (ix3 0 b k) := by
  unfold k0_pay1
  pointwise

theorem pay_next_at (v0 : Vec Ideal S1x1024x256 .bf16) (v2 : Vec Ideal S1x512x256 .bf16) (x : Vec Ideal S1024x512 .f32) (r : Fin 1024) (b : Fin 512) :
    k0_pay2 v0 v2 x (ix2 r b) = x (ix2 r b) + k0_pay1 v0 v2 (ix2 r b) := by
  unfold k0_pay2
  pointwise

/-- A row block's first part starts the sum. -/
theorem first_eq (t : Fin cfg0.N) (h0 : t.val % 8 = 0) (h1 : ¬1 ≤ t.val % 8) :
    outsAt0 m c t.val t.isLt = k0_pay1 (iblk m c 0 t) (iblk m c 1 t) := by
  rw [outsAt0_A m c t h0 h1]
  unfold out0_A_2 kernelRun0_A
  dsimp only
  simp only [View.readAt_eq_ld, (hs0_0 t).read_unread, (hs0_1 t).read_unread]
  rw [View.ld_unit_zero zeros, View.ld_unit_zero zeros, View.read_writes_junk_eq_canon,
    View.canon_unit_zero zeros]

/-- Every other part is added to what the part before left. -/
theorem next_eq (t : Fin cfg0.N) (h0 : ¬t.val % 8 = 0) (h1 : 1 ≤ t.val % 8) :
    outsAt0 m c t.val t.isLt = k0_pay2 (iblk m c 0 t) (iblk m c 1 t) (outsAt0 m c (t.val - 1) (Nat.lt_of_le_of_lt (Nat.sub_le _ _) t.isLt)) := by
  rw [outsAt0_B m c t h0 h1]
  unfold out0_B_2 kernelRun0_B
  dsimp only
  simp only [View.readAt_eq_ld, (hs0_0 t).read_unread, (hs0_1 t).read_unread, (hs0_2 t).read_unread]
  rw [View.ld_unit_zero zeros, View.ld_unit_zero zeros, View.ld_unit_zero zeros, View.read_writes_junk_eq_canon,
    View.canon_unit_zero zeros]

theorem read0 (A : FVec Ideal S8x2048x256 .bf16) (p : Fin cfg0.N) (i : Fin 2) (j : Fin 8) (hi : p.val / 8 = i) (hj : p.val % 8 = j) (k : Fin 1024) (l : Fin 256) :
    (((cfg0.win 0).blk p).view.read (Elt Ideal) A : Vec Ideal S1x1024x256 .bf16) (ix3 0 k l) = A (ix3 j ⟨1024 * i + k, by omega⟩ l) := by
  have e := (by decide +kernel : ∀ p : Fin grid0.N, win0_0.index p = ![p.val % 8, p.val / 8, 0]) p
  rw [hi, hj] at e
  refine congrArg A (?_ : ((cfg0.win 0).blk p).view.emb _ = _)
  blk_ext [e]

theorem read1 (A : FVec Ideal S8x512x256 .bf16) (p : Fin cfg0.N) (j : Fin 8) (hj : p.val % 8 = j) (k : Fin 512) (l : Fin 256) :
    (((cfg0.win 1).blk p).view.read (Elt Ideal) A : Vec Ideal S1x512x256 .bf16) (ix3 0 k l) = A (ix3 j k l) := by
  have e := (by decide +kernel : ∀ p : Fin grid0.N, win0_1.index p = ![p.val % 8, 0, 0]) p
  rw [hj] at e
  refine congrArg A (?_ : ((cfg0.win 1).blk p).view.emb _ = _)
  blk_ext [e]

theorem read2 (A : FVec Ideal S2048x512 .f32) (p : Fin cfg0.N) (i : Fin 2) (hi : p.val / 8 = i) (r : Fin 1024) (k : Fin 512) :
    (((cfg0.win 2).blk p).view.read (Elt Ideal) A : Vec Ideal S1024x512 .f32) (ix2 r k) = A (ix2 ⟨1024 * i + r, by omega⟩ k) := by
  have e := (by decide +kernel : ∀ p : Fin grid0.N, win0_2.index p = ![p.val / 8, 0]) p
  rw [hi] at e
  refine congrArg A (?_ : ((cfg0.win 2).blk p).view.emb _ = _)
  blk_ext [e]

/-- A point adds its part's share. -/
theorem share_at (t : Fin cfg0.N) (i : Fin 2) (j : Fin 8) (hi : t.val / 8 = i) (hj : t.val % 8 = j) (r : Fin 1024) (b : Fin 512) :
    k0_pay1 (iblk m c 0 t) (iblk m c 1 t) (ix2 r b) = share (arg0 m c) (arg1 m c) ⟨1024 * i + r, by omega⟩ b j := by
  refine (pay_at _ _ r b).trans ?_
  have ea : ∀ k, (iblk m c 0 t : Vec Ideal S1x1024x256 .bf16) (ix3 0 r k) = slot 192 (fun q => arg0 m c (ix2 ⟨1024 * i + r, by omega⟩ q)) j k := fun k =>
    (read0 (V m c main_v3 : FVec Ideal S8x2048x256 .bf16) t i j hi hj r k).trans (v3_at m c j ⟨1024 * i + r, by omega⟩ k)
  have eb : ∀ k, (iblk m c 1 t : Vec Ideal S1x512x256 .bf16) (ix3 0 b k) = slot 192 (fun q => arg1 m c (ix2 b q)) j k := fun k =>
    (read1 (V m c main_v7 : FVec Ideal S8x512x256 .bf16) t j hj b k).trans (v7_at m c j b k)
  exact Finset.sum_congr rfl fun k _ => (mul_eq (ea k) (eb k)).trans (slot_mul _ _ _ _ _)

theorem point_lt (i : Fin 2) {q : ℕ} (hq : q < 8) : 8 * i.val + q < cfg0.N := by
  have hN : cfg0.N = 16 := N_0
  omega

/-- After the last part it holds the whole sum. -/
theorem last_at (i : Fin 2) (r : Fin 1024) (b : Fin 512) :
    (outsAt0 m c (8 * i.val + 7) (point_lt i (by decide)) : Vec Ideal S1024x512 .f32) (ix2 r b) = spec (arg0 m c) (arg1 m c) ⟨1024 * i + r, by omega⟩ b := by
  let t (q : ℕ) (hq : q < 8) : Fin cfg0.N := ⟨8 * i.val + q, point_lt i hq⟩
  have hj (q : ℕ) (hq : q < 8) : (t q hq).val % 8 = q := by show (8 * i.val + q) % 8 = q; omega
  have hi (q : ℕ) (hq : q < 8) : (t q hq).val / 8 = i := by show (8 * i.val + q) / 8 = i.val; omega
  refine (sum_run (f := fun q hq => outsAt0 m c (8 * i.val + q) (point_lt i hq) (ix2 r b)) (s := share (arg0 m c) (arg1 m c) ⟨1024 * i + r, by omega⟩ b) 0 ?_ fun q hq => ?_).trans
    ((add_zero _).trans (sum_parts 192 _ rfl (by decide)))
  · have h8 : 0 < 8 := by decide
    have h := hj 0 h8
    exact (congrFun (first_eq m c (t 0 h8) h (by omega)) _).trans ((share_at m c (t 0 h8) i 0 (hi 0 h8) h r b).trans (add_zero _).symm)
  · have h := hj (q + 1) hq
    exact (congrFun (next_eq m c (t _ hq) (by omega) (by omega)) _).trans ((pay_next_at _ _ _ r b).trans
      (add_eq rfl (share_at m c (t _ hq) i ⟨q + 1, hq⟩ (hi _ hq) h r b)))

theorem flush2 : ∀ p : Fin cfg0.N, (cfg0.win 2).flush p = true ↔ p.val % 8 = 7 := (by decide +kernel : ∀ p : Fin grid0.N, _)

/-- The whole result, as an array. -/
def whole : FVec Ideal S2048x512 .f32 := fun x => spec (arg0 m c) (arg1 m c) (x 0) (x 1)

theorem outs_congr {a b : ℕ} (h : a = b) (ha : a < cfg0.N) (hb : b < cfg0.N) : outsAt0 m c a ha = outsAt0 m c b hb := by subst h; rfl

/-- Every block written back is the result's. -/
theorem flushed_whole (t : Fin cfg0.N) (hf : (cfg0.win 2).flush t = true) :
    (dats m 0 c).flushed 2 t = ((cfg0.win 2).blk t).view.read (Elt Ideal) (whole m c) := by
  have hN : cfg0.N = 16 := N_0
  have h7 := (flush2 t).1 hf
  let i : Fin 2 := ⟨t.val / 8, by omega⟩
  have hi : t.val / 8 = i := rfl
  refine (flushed2 m c t).trans ?_
  rw [outs_congr m c (show t.val = 8 * i.val + 7 by show t.val = 8 * (t.val / 8) + 7; omega) t.isLt (point_lt i (by decide))]
  refine funext fun (y : S1024x512.Idx) => ?_
  obtain ⟨r, b, rfl⟩ : ∃ r b, y = ix2 r b := ⟨y 0, y 1, eq_ix2 y⟩
  exact (last_at m c i r b).trans (read2 (whole m c) t i hi r b).symm

/-- The array the call returns, entry by entry. -/
theorem result_at (R : Fin 2048) (C : Fin 512) :
    ((dats m 0 c).arrAt 2 cfg0.N : FVec Ideal S2048x512 .f32) (ix2 R C) = spec (arg0 m c) (arg1 m c) R C := by
  let i : Fin 2 := ⟨R / 1024, by omega⟩
  let r : Fin 1024 := ⟨R % 1024, by omega⟩
  have er : (⟨1024 * i + r, by omega⟩ : Fin 2048) = R := Fin.ext (show 1024 * (R.val / 1024) + R.val % 1024 = R.val by omega)
  let p : Fin cfg0.N := ⟨8 * i.val + 7, point_lt i (by decide)⟩
  have hi : p.val / 8 = i := by show (8 * i.val + 7) / 8 = i.val; omega
  have hf : (cfg0.win 2).flush p = true := (flush2 p).2 (by show (8 * i.val + 7) % 8 = 7; omega)
  have e := congrFun ((dats m 0 c).read_blk_arrAt 2 (whole m c) (flushed_whole m c) p hf) (ix2 r C)
  have f := (read2 _ p i hi r C).symm.trans (e.trans (read2 (whole m c) p i hi r C))
  rw [er] at f
  exact f

end Kernel

section Reference

open Cert.DQnReferenceIdeal Cert.DQnReferenceIdeal.Gen

/-- The reference's result, entry by entry. -/
theorem reference_at (A : FVec Ideal S2048x1536 .f32) (B : FVec Ideal S512x1536 .f32) (r : Fin 2048) (b : Fin 512) :
    (Host.dotGeneral dot_S2048x1536_S512x1536_S2048x512_1_1_0_0_n_n none A B : FVec Ideal S2048x512 .f32) (ix2 r b) = spec A B r b := by
  pointwise
  rfl

end Reference

/-- Over the extended reals the call's result is the reference's. -/
theorem algebraic : Cert.algebraic_DQnIdeal_DQnReferenceIdeal := by
  intro m ρ m' ρ' _ hagree
  refine ⟨_, Cert.DQnIdeal.Value.run_blocks (F := Ideal) m ρ, ?_⟩
  refine (θ_run Cert.DQnReferenceIdeal.defs _ _).mono (fun _ h c => ?_) (Cert.DQnReferenceIdeal.Value.run (F := Ideal) m' ρ')
  obtain ⟨g0, g1⟩ := hagree c
  refine ⟨(h c).1.trans (funext fun i => ?_), (h c).2⟩
  obtain ⟨a, b, rfl⟩ : ∃ a b, i = ix2 a b := ⟨i 0, i 1, eq_ix2 i⟩
  refine (reference_at _ _ a b).trans (Eq.trans ?_ (result_at m c a b).symm)
  exact congrArg₂ (fun A B => spec A B a b) g0 g1

end Cert.DQnClaim

end
-- ==== Proof.DwUq.lean ====
/- The gradient of the weight of the queries, part by part: the product of the transposed latents with that part of the
   upstream gradient. -/
module

public import proofs.«01_k».proof.Proof.Base
public import proofs.«01_k».proof.Proof.Parts
public import proofs.«01_k».proof.Proof.Gen.DwUq.Frame
public import proofs.«01_k».proof.Proof.Gen.DwUqIdeal.Value
public import proofs.«01_k».proof.Proof.Gen.DwUqReferenceIdeal.Run

@[expose] public section

set_option maxRecDepth 16384

noncomputable section

namespace Cert.DwUqClaim

open Idealize.ShloMosaic Idealize.ShloMosaic.TcCoe Idealize.SL.Sem Cert.Parts

/-- The gradient of part `p` at row `r`, place `b`. -/
def spec (A : (⟨2, ![2048, 512]⟩ : Shape).Idx → EReal) (B : (⟨2, ![2048, 1536]⟩ : Shape).Idx → EReal) (p : Fin 8) (r : Fin 512) (b : Fin 256) : EReal :=
  slot 192 (fun i => ∑ k : Fin 2048, B (ix2 k i) * A (ix2 k r)) p b

section Kernel

open Cert.DwUqIdeal Cert.DwUqIdeal.Gen Cert.DwUqIdeal.Value Idealize.ShloMosaic.StableHlo

variable (m : (ℓ : Loc nD τ sig) → Buf (Elt Ideal) ℓ) (c : Dev nD)

/-- The arguments. -/
abbrev arg0 : FVec Ideal S2048x512 .f32 := m (c, Proc.devRef .tc main_arg0)
abbrev arg1 : FVec Ideal S2048x1536 .f32 := m (c, Proc.devRef .tc main_arg1)

/-! What the host prepares. -/

theorem v0_at (i : Fin 2048) (j : Fin 512) :
    (V m c main_v0 : FVec Ideal S2048x512 .bf16) (ix2 i j) = arg0 m c (ix2 i j) := by
  unfold V
  after_reads_simp
  rfl

theorem v4_at (p : Fin 8) (i : Fin 2048) (b : Fin 256) :
    (V m c main_v4 : FVec Ideal S8x2048x256 .bf16) (ix3 p i b) = slot 192 (fun q => arg1 m c (ix2 i q)) p b := by
  unfold V
  after_reads_simp
  simp only [TRef.toBuf, TRef.ofBuf, cast_eq]
  pointwise
  symm
  apply slot_dite'
  exact sitofp_zero _

/-! What a point computes, and where its blocks lie. -/

theorem pay_at (v0 : Vec Ideal S2048x512 .bf16) (v2 : Vec Ideal S1x2048x256 .bf16) (r : Fin 512) (b : Fin 256) :
    k0_pay1 v0 v2 (ix3 0 r b) = ∑ k : Fin 2048, v0 (ix2 k r) * v2 (ix3 0 k b) := by
  unfold k0_pay1
  pointwise

theorem out_eq (v0 : Vec Ideal S2048x512 .bf16) (v2 : Vec Ideal S1x2048x256 .bf16) : out0_2 v0 v2 = k0_pay1 v0 v2 := by
  unfold out0_2
  rw [View.canon_unit_zero zeros, View.ld_unit_zero zeros, View.ld_unit_zero zeros]

theorem read0 (A : FVec Ideal S2048x512 .bf16) (p : Fin cfg0.N) (r : Fin 2048) (k : Fin 512) :
    (((cfg0.win 0).blk p).view.read (Elt Ideal) A : Vec Ideal S2048x512 .bf16) (ix2 r k) = A (ix2 r k) := by
  have e := (by decide +kernel : ∀ p : Fin grid0.N, win0_0.index p = ![0, 0]) p
  refine congrArg A (?_ : ((cfg0.win 0).blk p).view.emb _ = _)
  blk_ext [e]

theorem read1 (A : FVec Ideal S8x2048x256 .bf16) (p : Fin cfg0.N) (j : Fin 8) (hj : p.val = j) (k : Fin 2048) (l : Fin 256) :
    (((cfg0.win 1).blk p).view.read (Elt Ideal) A : Vec Ideal S1x2048x256 .bf16) (ix3 0 k l) = A (ix3 j k l) := by
  have e := (by decide +kernel : ∀ p : Fin grid0.N, win0_1.index p = ![p.val, 0, 0]) p
  rw [hj] at e
  refine congrArg A (?_ : ((cfg0.win 1).blk p).view.emb _ = _)
  blk_ext [e]

theorem read2 (A : FVec Ideal S8x512x256 .f32) (p : Fin cfg0.N) (j : Fin 8) (hj : p.val = j) (k : Fin 512) (l : Fin 256) :
    (((cfg0.win 2).blk p).view.read (Elt Ideal) A : Vec Ideal S1x512x256 .f32) (ix3 0 k l) = A (ix3 j k l) := by
  have e := (by decide +kernel : ∀ p : Fin grid0.N, win0_2.index p = ![p.val, 0, 0]) p
  rw [hj] at e
  refine congrArg A (?_ : ((cfg0.win 2).blk p).view.emb _ = _)
  blk_ext [e]

theorem flush2 : ∀ p : Fin cfg0.N, (cfg0.win 2).flush p = true := (by decide +kernel : ∀ p : Fin grid0.N, _)

/-- The array the call returns, entry by entry. -/
theorem result_at (P : Fin 8) (R : Fin 512) (C : Fin 256) :
    ((dats m 0 c).arrAt 2 cfg0.N : FVec Ideal S8x512x256 .f32) (ix3 P R C) = spec (arg0 m c) (arg1 m c) P R C := by
  have hN : cfg0.N = 8 := N_0
  let p : Fin cfg0.N := ⟨P, by omega⟩
  have hj : p.val = P := rfl
  have e := congrFun ((blocks2 m c p (flush2 p)).trans (flushed2 m c p)) (ix3 0 R C)
  refine (read2 _ p P hj R C).symm.trans (e.trans ?_)
  refine (congrFun (out_eq _ _ ) (ix3 0 R C)).trans ((pay_at _ _ R C).trans ?_)
  have ea : ∀ k, (iblk m c 0 p : Vec Ideal S2048x512 .bf16) (ix2 k R) = arg0 m c (ix2 k R) := fun k =>
    (read0 (V m c main_v0 : FVec Ideal S2048x512 .bf16) p k R).trans (v0_at m c k R)
  have eb' : ∀ k, (iblk m c 1 p : Vec Ideal S1x2048x256 .bf16) (ix3 0 k C) = slot 192 (fun q => arg1 m c (ix2 k q)) P C := fun k =>
    (read1 (V m c main_v4 : FVec Ideal S8x2048x256 .bf16) p P hj k C).trans (v4_at m c P k C)
  exact (Finset.sum_congr rfl fun k _ => (mul_eq (ea k) (eb' k)).trans ((mul_comm _ _).trans (slot_mul_right _ _ _ _ _))).trans (sum_slot _ _ _ _)

end Kernel

section Reference

open Cert.DwUqReferenceIdeal Cert.DwUqReferenceIdeal.Gen

/-- The reference's result, entry by entry. -/
theorem reference_at (A : FVec Ideal S2048x512 .f32) (B : FVec Ideal S2048x1536 .f32) (p : Fin 8) (r : Fin 512) (b : Fin 256) :
    (transpose S8x512x256 [1, 0, 2] (pad S512x8x256 ![0, 0, 0] ![0, 0, 64] ![0, 0, 0] (shapeCast _ (transpose S512x1536 [1, 0] (Host.dotGeneral dot_S2048x1536_S2048x512_S1536x512_0_0_1_1_n_n none B A) transposes_S1536x512_S512x1536_1_0) shapeCasts_S512x1536_S512x8x192) (sitofp .f32 (constantI S_ 32 0#32)) pads_S512x8x192_S512x8x256_000_000_0640 h_S_) transposes_S512x8x256_S8x512x256_1_0_2 : FVec Ideal S8x512x256 .f32) (ix3 p r b) = spec A B p r b := by
  pointwise
  unfold spec
  symm
  apply slot_dite'
  exact sitofp_zero _

end Reference

/-- Over the extended reals the call's result is the reference's. -/
theorem algebraic : Cert.algebraic_DwUqIdeal_DwUqReferenceIdeal := by
  intro m ρ m' ρ' _ hagree
  refine ⟨_, Cert.DwUqIdeal.Value.run_blocks (F := Ideal) m ρ, ?_⟩
  refine (θ_run Cert.DwUqReferenceIdeal.defs _ _).mono (fun _ h c => ?_) (Cert.DwUqReferenceIdeal.Value.run (F := Ideal) m' ρ')
  obtain ⟨g0, g1⟩ := hagree c
  refine ⟨(h c).1.trans (funext fun i => ?_), (h c).2⟩
  obtain ⟨a, b, d, rfl⟩ : ∃ a b d, i = ix3 a b d := ⟨i 0, i 1, i 2, eq_ix3 i⟩
  refine (reference_at _ _ a b d).trans (Eq.trans ?_ (result_at m c a b d).symm)
  exact congrArg₂ (fun A B => spec A B a b d) g0 g1

end Cert.DwUqClaim

end
-- ==== Proof.ProjKv.lean ====
/- The product of the latents with the weight of the keys and values, part by part. -/
module

public import proofs.«01_k».proof.Proof.Base
public import proofs.«01_k».proof.Proof.Parts
public import proofs.«01_k».proof.Proof.Gen.ProjKv.Frame
public import proofs.«01_k».proof.Proof.Gen.ProjKvIdeal.Value
public import proofs.«01_k».proof.Proof.Gen.ProjKvReferenceIdeal.Run

@[expose] public section

set_option maxRecDepth 16384

noncomputable section

namespace Cert.ProjKvClaim

open Idealize.ShloMosaic Idealize.ShloMosaic.TcCoe Idealize.SL.Sem Cert.Parts

/-- The product of part `p` at token `r`, place `b`. -/
def spec (A : (⟨2, ![2048, 512]⟩ : Shape).Idx → EReal) (B : (⟨2, ![512, 2048]⟩ : Shape).Idx → EReal) (p : Fin 8) (r : Fin 2048) (b : Fin 256) : EReal :=
  slot 256 (fun i => ∑ k : Fin 512, A (ix2 r k) * B (ix2 k i)) p b

section Kernel

open Cert.ProjKvIdeal Cert.ProjKvIdeal.Gen Cert.ProjKvIdeal.Value Idealize.ShloMosaic.StableHlo

variable (m : (ℓ : Loc nD τ sig) → Buf (Elt Ideal) ℓ) (c : Dev nD)

/-- The arguments. -/
abbrev arg0 : FVec Ideal S2048x512 .f32 := m (c, Proc.devRef .tc main_arg0)
abbrev arg1 : FVec Ideal S512x2048 .f32 := m (c, Proc.devRef .tc main_arg1)

/-! What the host prepares. -/

theorem v0_at (i : Fin 2048) (j : Fin 512) :
    (V m c main_v0 : FVec Ideal S2048x512 .bf16) (ix2 i j) = arg0 m c (ix2 i j) := by
  unfold V
  after_reads_simp
  rfl

theorem v4_at (p : Fin 8) (i : Fin 512) (b : Fin 256) :
    (V m c main_v4 : FVec Ideal S8x512x256 .bf16) (ix3 p i b) = slot 256 (fun q => arg1 m c (ix2 i q)) p b := by
  unfold V
  after_reads_simp
  simp only [TRef.toBuf, TRef.ofBuf, cast_eq]
  pointwise
  symm
  apply slot_full
  exact b.isLt

/-! What a point computes, and where its blocks lie. -/

theorem pay_at (v0 : Vec Ideal S2048x512 .bf16) (v2 : Vec Ideal S1x512x256 .bf16) (r : Fin 2048) (b : Fin 256) :
    k0_pay1 v0 v2 (ix3 0 r b) = ∑ k : Fin 512, v0 (ix2 r k) * v2 (ix3 0 k b) := by
  unfold k0_pay1
  pointwise

theorem out_eq (v0 : Vec Ideal S2048x512 .bf16) (v2 : Vec Ideal S1x512x256 .bf16) : out0_2 v0 v2 = k0_pay1 v0 v2 := by
  unfold out0_2
  rw [View.canon_unit_zero zeros, View.ld_unit_zero zeros, View.ld_unit_zero zeros]

theorem read0 (A : FVec Ideal S2048x512 .bf16) (p : Fin cfg0.N) (r : Fin 2048) (k : Fin 512) :
    (((cfg0.win 0).blk p).view.read (Elt Ideal) A : Vec Ideal S2048x512 .bf16) (ix2 r k) = A (ix2 r k) := by
  have e := (by decide +kernel : ∀ p : Fin grid0.N, win0_0.index p = ![0, 0]) p
  refine congrArg A (?_ : ((cfg0.win 0).blk p).view.emb _ = _)
  blk_ext [e]

theorem read1 (A : FVec Ideal S8x512x256 .bf16) (p : Fin cfg0.N) (j : Fin 8) (hj : p.val = j) (k : Fin 512) (l : Fin 256) :
    (((cfg0.win 1).blk p).view.read (Elt Ideal) A : Vec Ideal S1x512x256 .bf16) (ix3 0 k l) = A (ix3 j k l) := by
  have e := (by decide +kernel : ∀ p : Fin grid0.N, win0_1.index p = ![p.val, 0, 0]) p
  rw [hj] at e
  refine congrArg A (?_ : ((cfg0.win 1).blk p).view.emb _ = _)
  blk_ext [e]

theorem read2 (A : FVec Ideal S8x2048x256 .f32) (p : Fin cfg0.N) (j : Fin 8) (hj : p.val = j) (k : Fin 2048) (l : Fin 256) :
    (((cfg0.win 2).blk p).view.read (Elt Ideal) A : Vec Ideal S1x2048x256 .f32) (ix3 0 k l) = A (ix3 j k l) := by
  have e := (by decide +kernel : ∀ p : Fin grid0.N, win0_2.index p = ![p.val, 0, 0]) p
  rw [hj] at e
  refine congrArg A (?_ : ((cfg0.win 2).blk p).view.emb _ = _)
  blk_ext [e]

theorem flush2 : ∀ p : Fin cfg0.N, (cfg0.win 2).flush p = true := (by decide +kernel : ∀ p : Fin grid0.N, _)

/-- The array the call returns, entry by entry. -/
theorem result_at (P : Fin 8) (R : Fin 2048) (C : Fin 256) :
    ((dats m 0 c).arrAt 2 cfg0.N : FVec Ideal S8x2048x256 .f32) (ix3 P R C) = spec (arg0 m c) (arg1 m c) P R C := by
  have hN : cfg0.N = 8 := N_0
  let p : Fin cfg0.N := ⟨P, by omega⟩
  have hj : p.val = P := rfl
  have e := congrFun ((blocks2 m c p (flush2 p)).trans (flushed2 m c p)) (ix3 0 R C)
  refine (read2 _ p P hj R C).symm.trans (e.trans ?_)
  refine (congrFun (out_eq _ _ ) (ix3 0 R C)).trans ((pay_at _ _ R C).trans ?_)
  have ea : ∀ k, (iblk m c 0 p : Vec Ideal S2048x512 .bf16) (ix2 R k) = arg0 m c (ix2 R k) := fun k =>
    (read0 (V m c main_v0 : FVec Ideal S2048x512 .bf16) p R k).trans (v0_at m c R k)
  have eb' : ∀ k, (iblk m c 1 p : Vec Ideal S1x512x256 .bf16) (ix3 0 k C) = slot 256 (fun q => arg1 m c (ix2 k q)) P C := fun k =>
    (read1 (V m c main_v4 : FVec Ideal S8x512x256 .bf16) p P hj k C).trans (v4_at m c P k C)
  exact (Finset.sum_congr rfl fun k _ => (mul_eq (ea k) (eb' k)).trans (mul_slot _ _ _ _ _)).trans (sum_slot _ _ _ _)

end Kernel

section Reference

open Cert.ProjKvReferenceIdeal Cert.ProjKvReferenceIdeal.Gen

/-- The reference's result, entry by entry. -/
theorem reference_at (A : FVec Ideal S2048x512 .f32) (B : FVec Ideal S512x2048 .f32) (p : Fin 8) (r : Fin 2048) (b : Fin 256) :
    (transpose S8x2048x256 [1, 0, 2] (pad S2048x8x256 ![0, 0, 0] ![0, 0, 0] ![0, 0, 0] (shapeCast _ (Host.dotGeneral dot_S2048x512_S512x2048_S2048x2048_1_0_0_1_n_n none A B) shapeCasts_S2048x2048_S2048x8x256) (sitofp .f32 (constantI S_ 32 0#32)) pads_S2048x8x256_S2048x8x256_000_000_000 h_S_) transposes_S2048x8x256_S8x2048x256_1_0_2 : FVec Ideal S8x2048x256 .f32) (ix3 p r b) = spec A B p r b := by
  pointwise
  unfold spec
  symm
  exact slot_full (fun i => _) _ b.isLt

end Reference

/-- Over the extended reals the call's result is the reference's. -/
theorem algebraic : Cert.algebraic_ProjKvIdeal_ProjKvReferenceIdeal := by
  intro m ρ m' ρ' _ hagree
  refine ⟨_, Cert.ProjKvIdeal.Value.run_blocks (F := Ideal) m ρ, ?_⟩
  refine (θ_run Cert.ProjKvReferenceIdeal.defs _ _).mono (fun _ h c => ?_) (Cert.ProjKvReferenceIdeal.Value.run (F := Ideal) m' ρ')
  obtain ⟨g0, g1⟩ := hagree c
  refine ⟨(h c).1.trans (funext fun i => ?_), (h c).2⟩
  obtain ⟨a, b, d, rfl⟩ : ∃ a b d, i = ix3 a b d := ⟨i 0, i 1, i 2, eq_ix3 i⟩
  refine (reference_at _ _ a b d).trans (Eq.trans ?_ (result_at m c a b d).symm)
  exact congrArg₂ (fun A B => spec A B a b d) g0 g1

end Cert.ProjKvClaim

end
-- ==== Proof.DKvn.lean ====
/- The gradient with respect to the latents of the keys and values: the product of the upstream gradient with the
   transposed weight, summed part by part. -/
module

public import proofs.«01_k».proof.Proof.Base
public import proofs.«01_k».proof.Proof.Parts
public import proofs.«01_k».proof.Proof.Gen.DKvn.Frame
public import proofs.«01_k».proof.Proof.Gen.DKvnIdeal.Value
public import proofs.«01_k».proof.Proof.Gen.DKvnReferenceIdeal.Run

@[expose] public section

set_option maxRecDepth 16384

noncomputable section

namespace Cert.DKvnClaim

open Idealize.ShloMosaic Idealize.ShloMosaic.TcCoe Idealize.SL.Sem Cert.Parts

/-- The gradient at token `r`, channel `b`. -/
def spec (A : (⟨2, ![2048, 2048]⟩ : Shape).Idx → EReal) (B : (⟨2, ![512, 2048]⟩ : Shape).Idx → EReal) (r : Fin 2048) (b : Fin 512) : EReal :=
  ∑ k : Fin 2048, A (ix2 r k) * B (ix2 b k)

/-- One part's share of the sum, its places past the part's entries contributing nothing. -/
def share (A : (⟨2, ![2048, 2048]⟩ : Shape).Idx → EReal) (B : (⟨2, ![512, 2048]⟩ : Shape).Idx → EReal) (r : Fin 2048) (b : Fin 512) (p : ℕ) : EReal :=
  ∑ k : Fin 256, slot 256 (fun q => A (ix2 r q) * B (ix2 b q)) p k

section Kernel

open Cert.DKvnIdeal Cert.DKvnIdeal.Gen Cert.DKvnIdeal.Value Idealize.ShloMosaic.StableHlo

variable (m : (ℓ : Loc nD τ sig) → Buf (Elt Ideal) ℓ) (c : Dev nD)

/-- The arguments. -/
abbrev arg0 : FVec Ideal S2048x2048 .f32 := m (c, Proc.devRef .tc main_arg0)
abbrev arg1 : FVec Ideal S512x2048 .f32 := m (c, Proc.devRef .tc main_arg1)

/-! What the host prepares. -/

theorem v3_at (p : Fin 8) (i : Fin 2048) (b : Fin 256) :
    (V m c main_v3 : FVec Ideal S8x2048x256 .bf16) (ix3 p i b) = slot 256 (fun q => arg0 m c (ix2 i q)) p b := by
  unfold V
  after_reads_simp
  simp only [TRef.toBuf, TRef.ofBuf, cast_eq]
  pointwise
  symm
  apply slot_full
  exact b.isLt

theorem v7_at (p : Fin 8) (i : Fin 512) (b : Fin 256) :
    (V m c main_v7 : FVec Ideal S8x512x256 .bf16) (ix3 p i b) = slot 256 (fun q => arg1 m c (ix2 i q)) p b := by
  unfold V
  after_reads_simp
  simp only [TRef.toBuf, TRef.ofBuf, cast_eq]
  pointwise
  symm
  apply slot_full
  exact b.isLt

/-! What a point computes, and where its blocks lie. -/

theorem pay_at (v0 : Vec Ideal S1x1024x256 .bf16) (v2 : Vec Ideal S1x512x256 .bf16) (r : Fin 1024) (b : Fin 512) :
    k0_pay1 v0 v2 (ix2 r b) = ∑ k : Fin 256, v0 (ix3 0 r k) * v2 (ix3 0 b k) := by
  unfold k0_pay1
  pointwise

theorem pay_next_at (v0 : Vec Ideal S1x1024x256 .bf16) (v2 : Vec Ideal S1x512x256 .bf16) (x : Vec Ideal S1024x512 .f32) (r : Fin 1024) (b : Fin 512) :
    k0_pay2 v0 v2 x (ix2 r b) = x (ix2 r b) + k0_pay1 v0 v2 (ix2 r b) := by
  unfold k0_pay2
  pointwise

/-- A row block's first part starts the sum. -/
theorem first_eq (t : Fin cfg0.N) (h0 : t.val % 8 = 0) (h1 : ¬1 ≤ t.val % 8) :
    outsAt0 m c t.val t.isLt = k0_pay1 (iblk m c 0 t) (iblk m c 1 t) := by
  rw [outsAt0_A m c t h0 h1]
  unfold out0_A_2 kernelRun0_A
  dsimp only
  simp only [View.readAt_eq_ld, (hs0_0 t).read_unread, (hs0_1 t).read_unread]
  rw [View.ld_unit_zero zeros, View.ld_unit_zero zeros, View.read_writes_junk_eq_canon,
    View.canon_unit_zero zeros]

/-- Every other part is added to what the part before left. -/
theorem next_eq (t : Fin cfg0.N) (h0 : ¬t.val % 8 = 0) (h1 : 1 ≤ t.val % 8) :
    outsAt0 m c t.val t.isLt = k0_pay2 (iblk m c 0 t) (iblk m c 1 t) (outsAt0 m c (t.val - 1) (Nat.lt_of_le_of_lt (Nat.sub_le _ _) t.isLt)) := by
  rw [outsAt0_B m c t h0 h1]
  unfold out0_B_2 kernelRun0_B
  dsimp only
  simp only [View.readAt_eq_ld, (hs0_0 t).read_unread, (hs0_1 t).read_unread, (hs0_2 t).read_unread]
  rw [View.ld_unit_zero zeros, View.ld_unit_zero zeros, View.ld_unit_zero zeros, View.read_writes_junk_eq_canon,
    View.canon_unit_zero zeros]

theorem read0 (A : FVec Ideal S8x2048x256 .bf16) (p : Fin cfg0.N) (i : Fin 2) (j : Fin 8) (hi : p.val / 8 = i) (hj : p.val % 8 = j) (k : Fin 1024) (l : Fin 256) :
    (((cfg0.win 0).blk p).view.read (Elt Ideal) A : Vec Ideal S1x1024x256 .bf16) (ix3 0 k l) = A (ix3 j ⟨1024 * i + k, by omega⟩ l) := by
  have e := (by decide +kernel : ∀ p : Fin grid0.N, win0_0.index p = ![p.val % 8, p.val / 8, 0]) p
  rw [hi, hj] at e
  refine congrArg A (?_ : ((cfg0.win 0).blk p).view.emb _ = _)
  blk_ext [e]

theorem read1 (A : FVec Ideal S8x512x256 .bf16) (p : Fin cfg0.N) (j : Fin 8) (hj : p.val % 8 = j) (k : Fin 512) (l : Fin 256) :
    (((cfg0.win 1).blk p).view.read (Elt Ideal) A : Vec Ideal S1x512x256 .bf16) (ix3 0 k l) = A (ix3 j k l) := by
  have e := (by decide +kernel : ∀ p : Fin grid0.N, win0_1.index p = ![p.val % 8, 0, 0]) p
  rw [hj] at e
  refine congrArg A (?_ : ((cfg0.win 1).blk p).view.emb _ = _)
  blk_ext [e]

theorem read2 (A : FVec Ideal S2048x512 .f32) (p : Fin cfg0.N) (i : Fin 2) (hi : p.val / 8 = i) (r : Fin 1024) (k : Fin 512) :
    (((cfg0.win 2).blk p).view.read (Elt Ideal) A : Vec Ideal S1024x512 .f32) (ix2 r k) = A (ix2 ⟨1024 * i + r, by omega⟩ k) := by
  have e := (by decide +kernel : ∀ p : Fin grid0.N, win0_2.index p = ![p.val / 8, 0]) p
  rw [hi] at e
  refine congrArg A (?_ : ((cfg0.win 2).blk p).view.emb _ = _)
  blk_ext [e]

/-- A point adds its part's share. -/
theorem share_at (t : Fin cfg0.N) (i : Fin 2) (j : Fin 8) (hi : t.val / 8 = i) (hj : t.val % 8 = j) (r : Fin 1024) (b : Fin 512) :
    k0_pay1 (iblk m c 0 t) (iblk m c 1 t) (ix2 r b) = share (arg0 m c) (arg1 m c) ⟨1024 * i + r, by omega⟩ b j := by
  refine (pay_at _ _ r b).trans ?_
  have ea : ∀ k, (iblk m c 0 t : Vec Ideal S1x1024x256 .bf16) (ix3 0 r k) = slot 256 (fun q => arg0 m c (ix2 ⟨1024 * i + r, by omega⟩ q)) j k := fun k =>
    (read0 (V m c main_v3 : FVec Ideal S8x2048x256 .bf16) t i j hi hj r k).trans (v3_at m c j ⟨1024 * i + r, by omega⟩ k)
  have eb : ∀ k, (iblk m c 1 t : Vec Ideal S1x512x256 .bf16) (ix3 0 b k) = slot 256 (fun q => arg1 m c (ix2 b q)) j k := fun k =>
    (read1 (V m c main_v7 : FVec Ideal S8x512x256 .bf16) t j hj b k).trans (v7_at m c j b k)
  exact Finset.sum_congr rfl fun k _ => (mul_eq (ea k) (eb k)).trans (slot_mul _ _ _ _ _)

theorem point_lt (i : Fin 2) {q : ℕ} (hq : q < 8) : 8 * i.val + q < cfg0.N := by
  have hN : cfg0.N = 16 := N_0
  omega

/-- After the last part it holds the whole sum. -/
theorem last_at (i : Fin 2) (r : Fin 1024) (b : Fin 512) :
    (outsAt0 m c (8 * i.val + 7) (point_lt i (by decide)) : Vec Ideal S1024x512 .f32) (ix2 r b) = spec (arg0 m c) (arg1 m c) ⟨1024 * i + r, by omega⟩ b := by
  let t (q : ℕ) (hq : q < 8) : Fin cfg0.N := ⟨8 * i.val + q, point_lt i hq⟩
  have hj (q : ℕ) (hq : q < 8) : (t q hq).val % 8 = q := by show (8 * i.val + q) % 8 = q; omega
  have hi (q : ℕ) (hq : q < 8) : (t q hq).val / 8 = i := by show (8 * i.val + q) / 8 = i.val; omega
  refine (sum_run (f := fun q hq => outsAt0 m c (8 * i.val + q) (point_lt i hq) (ix2 r b)) (s := share (arg0 m c) (arg1 m c) ⟨1024 * i + r, by omega⟩ b) 0 ?_ fun q hq => ?_).trans
    ((add_zero _).trans (sum_parts 256 _ rfl (by decide)))
  · have h8 : 0 < 8 := by decide
    have h := hj 0 h8
    exact (congrFun (first_eq m c (t 0 h8) h (by omega)) _).trans ((share_at m c (t 0 h8) i 0 (hi 0 h8) h r b).trans (add_zero _).symm)
  · have h := hj (q + 1) hq
    exact (congrFun (next_eq m c (t _ hq) (by omega) (by omega)) _).trans ((pay_next_at _ _ _ r b).trans
      (add_eq rfl (share_at m c (t _ hq) i ⟨q + 1, hq⟩ (hi _ hq) h r b)))

theorem flush2 : ∀ p : Fin cfg0.N, (cfg0.win 2).flush p = true ↔ p.val % 8 = 7 := (by decide +kernel : ∀ p : Fin grid0.N, _)

/-- The whole result, as an array. -/
def whole : FVec Ideal S2048x512 .f32 := fun x => spec (arg0 m c) (arg1 m c) (x 0) (x 1)

theorem outs_congr {a b : ℕ} (h : a = b) (ha : a < cfg0.N) (hb : b < cfg0.N) : outsAt0 m c a ha = outsAt0 m c b hb := by subst h; rfl

/-- Every block written back is the result's. -/
theorem flushed_whole (t : Fin cfg0.N) (hf : (cfg0.win 2).flush t = true) :
    (dats m 0 c).flushed 2 t = ((cfg0.win 2).blk t).view.read (Elt Ideal) (whole m c) := by
  have hN : cfg0.N = 16 := N_0
  have h7 := (flush2 t).1 hf
  let i : Fin 2 := ⟨t.val / 8, by omega⟩
  have hi : t.val / 8 = i := rfl
  refine (flushed2 m c t).trans ?_
  rw [outs_congr m c (show t.val = 8 * i.val + 7 by show t.val = 8 * (t.val / 8) + 7; omega) t.isLt (point_lt i (by decide))]
  refine funext fun (y : S1024x512.Idx) => ?_
  obtain ⟨r, b, rfl⟩ : ∃ r b, y = ix2 r b := ⟨y 0, y 1, eq_ix2 y⟩
  exact (last_at m c i r b).trans (read2 (whole m c) t i hi r b).symm

/-- The array the call returns, entry by entry. -/
theorem result_at (R : Fin 2048) (C : Fin 512) :
    ((dats m 0 c).arrAt 2 cfg0.N : FVec Ideal S2048x512 .f32) (ix2 R C) = spec (arg0 m c) (arg1 m c) R C := by
  let i : Fin 2 := ⟨R / 1024, by omega⟩
  let r : Fin 1024 := ⟨R % 1024, by omega⟩
  have er : (⟨1024 * i + r, by omega⟩ : Fin 2048) = R := Fin.ext (show 1024 * (R.val / 1024) + R.val % 1024 = R.val by omega)
  let p : Fin cfg0.N := ⟨8 * i.val + 7, point_lt i (by decide)⟩
  have hi : p.val / 8 = i := by show (8 * i.val + 7) / 8 = i.val; omega
  have hf : (cfg0.win 2).flush p = true := (flush2 p).2 (by show (8 * i.val + 7) % 8 = 7; omega)
  have e := congrFun ((dats m 0 c).read_blk_arrAt 2 (whole m c) (flushed_whole m c) p hf) (ix2 r C)
  have f := (read2 _ p i hi r C).symm.trans (e.trans (read2 (whole m c) p i hi r C))
  rw [er] at f
  exact f

end Kernel

section Reference

open Cert.DKvnReferenceIdeal Cert.DKvnReferenceIdeal.Gen

/-- The reference's result, entry by entry. -/
theorem reference_at (A : FVec Ideal S2048x2048 .f32) (B : FVec Ideal S512x2048 .f32) (r : Fin 2048) (b : Fin 512) :
    (Host.dotGeneral dot_S2048x2048_S512x2048_S2048x512_1_1_0_0_n_n none A B : FVec Ideal S2048x512 .f32) (ix2 r b) = spec A B r b := by
  pointwise
  rfl

end Reference

/-- Over the extended reals the call's result is the reference's. -/
theorem algebraic : Cert.algebraic_DKvnIdeal_DKvnReferenceIdeal := by
  intro m ρ m' ρ' _ hagree
  refine ⟨_, Cert.DKvnIdeal.Value.run_blocks (F := Ideal) m ρ, ?_⟩
  refine (θ_run Cert.DKvnReferenceIdeal.defs _ _).mono (fun _ h c => ?_) (Cert.DKvnReferenceIdeal.Value.run (F := Ideal) m' ρ')
  obtain ⟨g0, g1⟩ := hagree c
  refine ⟨(h c).1.trans (funext fun i => ?_), (h c).2⟩
  obtain ⟨a, b, rfl⟩ : ∃ a b, i = ix2 a b := ⟨i 0, i 1, eq_ix2 i⟩
  refine (reference_at _ _ a b).trans (Eq.trans ?_ (result_at m c a b).symm)
  exact congrArg₂ (fun A B => spec A B a b) g0 g1

end Cert.DKvnClaim

end
-- ==== Proof.DwUkv.lean ====
/- The gradient of the weight of the keys and values, part by part: the product of the transposed latents with that part of the
   upstream gradient. -/
module

public import proofs.«01_k».proof.Proof.Base
public import proofs.«01_k».proof.Proof.Parts
public import proofs.«01_k».proof.Proof.Gen.DwUkv.Frame
public import proofs.«01_k».proof.Proof.Gen.DwUkvIdeal.Value
public import proofs.«01_k».proof.Proof.Gen.DwUkvReferenceIdeal.Run

@[expose] public section

set_option maxRecDepth 16384

noncomputable section

namespace Cert.DwUkvClaim

open Idealize.ShloMosaic Idealize.ShloMosaic.TcCoe Idealize.SL.Sem Cert.Parts

/-- The gradient of part `p` at row `r`, place `b`. -/
def spec (A : (⟨2, ![2048, 512]⟩ : Shape).Idx → EReal) (B : (⟨2, ![2048, 2048]⟩ : Shape).Idx → EReal) (p : Fin 8) (r : Fin 512) (b : Fin 256) : EReal :=
  slot 256 (fun i => ∑ k : Fin 2048, B (ix2 k i) * A (ix2 k r)) p b

section Kernel

open Cert.DwUkvIdeal Cert.DwUkvIdeal.Gen Cert.DwUkvIdeal.Value Idealize.ShloMosaic.StableHlo

variable (m : (ℓ : Loc nD τ sig) → Buf (Elt Ideal) ℓ) (c : Dev nD)

/-- The arguments. -/
abbrev arg0 : FVec Ideal S2048x512 .f32 := m (c, Proc.devRef .tc main_arg0)
abbrev arg1 : FVec Ideal S2048x2048 .f32 := m (c, Proc.devRef .tc main_arg1)

/-! What the host prepares. -/

theorem v0_at (i : Fin 2048) (j : Fin 512) :
    (V m c main_v0 : FVec Ideal S2048x512 .bf16) (ix2 i j) = arg0 m c (ix2 i j) := by
  unfold V
  after_reads_simp
  rfl

theorem v4_at (p : Fin 8) (i : Fin 2048) (b : Fin 256) :
    (V m c main_v4 : FVec Ideal S8x2048x256 .bf16) (ix3 p i b) = slot 256 (fun q => arg1 m c (ix2 i q)) p b := by
  unfold V
  after_reads_simp
  simp only [TRef.toBuf, TRef.ofBuf, cast_eq]
  pointwise
  symm
  apply slot_full
  exact b.isLt

/-! What a point computes, and where its blocks lie. -/

theorem pay_at (v0 : Vec Ideal S2048x512 .bf16) (v2 : Vec Ideal S1x2048x256 .bf16) (r : Fin 512) (b : Fin 256) :
    k0_pay1 v0 v2 (ix3 0 r b) = ∑ k : Fin 2048, v0 (ix2 k r) * v2 (ix3 0 k b) := by
  unfold k0_pay1
  pointwise

theorem out_eq (v0 : Vec Ideal S2048x512 .bf16) (v2 : Vec Ideal S1x2048x256 .bf16) : out0_2 v0 v2 = k0_pay1 v0 v2 := by
  unfold out0_2
  rw [View.canon_unit_zero zeros, View.ld_unit_zero zeros, View.ld_unit_zero zeros]

theorem read0 (A : FVec Ideal S2048x512 .bf16) (p : Fin cfg0.N) (r : Fin 2048) (k : Fin 512) :
    (((cfg0.win 0).blk p).view.read (Elt Ideal) A : Vec Ideal S2048x512 .bf16) (ix2 r k) = A (ix2 r k) := by
  have e := (by decide +kernel : ∀ p : Fin grid0.N, win0_0.index p = ![0, 0]) p
  refine congrArg A (?_ : ((cfg0.win 0).blk p).view.emb _ = _)
  blk_ext [e]

theorem read1 (A : FVec Ideal S8x2048x256 .bf16) (p : Fin cfg0.N) (j : Fin 8) (hj : p.val = j) (k : Fin 2048) (l : Fin 256) :
    (((cfg0.win 1).blk p).view.read (Elt Ideal) A : Vec Ideal S1x2048x256 .bf16) (ix3 0 k l) = A (ix3 j k l) := by
  have e := (by decide +kernel : ∀ p : Fin grid0.N, win0_1.index p = ![p.val, 0, 0]) p
  rw [hj] at e
  refine congrArg A (?_ : ((cfg0.win 1).blk p).view.emb _ = _)
  blk_ext [e]

theorem read2 (A : FVec Ideal S8x512x256 .f32) (p : Fin cfg0.N) (j : Fin 8) (hj : p.val = j) (k : Fin 512) (l : Fin 256) :
    (((cfg0.win 2).blk p).view.read (Elt Ideal) A : Vec Ideal S1x512x256 .f32) (ix3 0 k l) = A (ix3 j k l) := by
  have e := (by decide +kernel : ∀ p : Fin grid0.N, win0_2.index p = ![p.val, 0, 0]) p
  rw [hj] at e
  refine congrArg A (?_ : ((cfg0.win 2).blk p).view.emb _ = _)
  blk_ext [e]

theorem flush2 : ∀ p : Fin cfg0.N, (cfg0.win 2).flush p = true := (by decide +kernel : ∀ p : Fin grid0.N, _)

/-- The array the call returns, entry by entry. -/
theorem result_at (P : Fin 8) (R : Fin 512) (C : Fin 256) :
    ((dats m 0 c).arrAt 2 cfg0.N : FVec Ideal S8x512x256 .f32) (ix3 P R C) = spec (arg0 m c) (arg1 m c) P R C := by
  have hN : cfg0.N = 8 := N_0
  let p : Fin cfg0.N := ⟨P, by omega⟩
  have hj : p.val = P := rfl
  have e := congrFun ((blocks2 m c p (flush2 p)).trans (flushed2 m c p)) (ix3 0 R C)
  refine (read2 _ p P hj R C).symm.trans (e.trans ?_)
  refine (congrFun (out_eq _ _ ) (ix3 0 R C)).trans ((pay_at _ _ R C).trans ?_)
  have ea : ∀ k, (iblk m c 0 p : Vec Ideal S2048x512 .bf16) (ix2 k R) = arg0 m c (ix2 k R) := fun k =>
    (read0 (V m c main_v0 : FVec Ideal S2048x512 .bf16) p k R).trans (v0_at m c k R)
  have eb' : ∀ k, (iblk m c 1 p : Vec Ideal S1x2048x256 .bf16) (ix3 0 k C) = slot 256 (fun q => arg1 m c (ix2 k q)) P C := fun k =>
    (read1 (V m c main_v4 : FVec Ideal S8x2048x256 .bf16) p P hj k C).trans (v4_at m c P k C)
  exact (Finset.sum_congr rfl fun k _ => (mul_eq (ea k) (eb' k)).trans ((mul_comm _ _).trans (slot_mul_right _ _ _ _ _))).trans (sum_slot _ _ _ _)

end Kernel

section Reference

open Cert.DwUkvReferenceIdeal Cert.DwUkvReferenceIdeal.Gen

/-- The reference's result, entry by entry. -/
theorem reference_at (A : FVec Ideal S2048x512 .f32) (B : FVec Ideal S2048x2048 .f32) (p : Fin 8) (r : Fin 512) (b : Fin 256) :
    (transpose S8x512x256 [1, 0, 2] (pad S512x8x256 ![0, 0, 0] ![0, 0, 0] ![0, 0, 0] (shapeCast _ (transpose S512x2048 [1, 0] (Host.dotGeneral dot_S2048x2048_S2048x512_S2048x512_0_0_1_1_n_n none B A) transposes_S2048x512_S512x2048_1_0) shapeCasts_S512x2048_S512x8x256) (sitofp .f32 (constantI S_ 32 0#32)) pads_S512x8x256_S512x8x256_000_000_000 h_S_) transposes_S512x8x256_S8x512x256_1_0_2 : FVec Ideal S8x512x256 .f32) (ix3 p r b) = spec A B p r b := by
  pointwise
  unfold spec
  symm
  exact slot_full (fun i => _) _ b.isLt

end Reference

/-- Over the extended reals the call's result is the reference's. -/
theorem algebraic : Cert.algebraic_DwUkvIdeal_DwUkvReferenceIdeal := by
  intro m ρ m' ρ' _ hagree
  refine ⟨_, Cert.DwUkvIdeal.Value.run_blocks (F := Ideal) m ρ, ?_⟩
  refine (θ_run Cert.DwUkvReferenceIdeal.defs _ _).mono (fun _ h c => ?_) (Cert.DwUkvReferenceIdeal.Value.run (F := Ideal) m' ρ')
  obtain ⟨g0, g1⟩ := hagree c
  refine ⟨(h c).1.trans (funext fun i => ?_), (h c).2⟩
  obtain ⟨a, b, d, rfl⟩ : ∃ a b d, i = ix3 a b d := ⟨i 0, i 1, i 2, eq_ix3 i⟩
  refine (reference_at _ _ a b d).trans (Eq.trans ?_ (result_at m c a b d).symm)
  exact congrArg₂ (fun A B => spec A B a b d) g0 g1

end Cert.DwUkvClaim

end
-- ==== Proof.Rows.lean ====
/- A token's row: its norm by the root mean square, the loss's row, and their gradients, as sums and products of extended
   reals. -/
module

public import Idealize.ShloMosaic.PureOps.Ideal.Laws
public import Mathlib.Algebra.BigOperators.Fin
public import Mathlib.Data.EReal.Operations

@[expose] public section

noncomputable section

namespace Cert.Rows

open Idealize.ShloMosaic

/-- The entries of a row, a channel each. -/
abbrev Row := Fin 2048 → EReal

/-- The number of channels. -/
def width : EReal := Ideal.ofBits FTy.f32 0x45000000#32

/-- A row's mean square, kept off zero. -/
def meanSq (X : Row) : EReal := Ideal.div (∑ q, X q * X q) width + Ideal.ofBits FTy.f32 0x358637BD#32

/-- The factor the norm multiplies a row by. -/
def factor (X : Row) : EReal := Ideal.rsqrt (meanSq X)

/-- The normalised row times the gain. -/
def norm (X G : Row) (b : Fin 2048) : EReal := X b * factor X * G b

/-- Half of what the gradient in the factor contributes at a channel, per unit of the row. -/
def factorGrad (X G D : Row) : EReal :=
  ∑ _ : Fin 1, Ideal.div ((∑ q, X q * (D q * G q)) * (Ideal.ofBits FTy.f32 0xBF000000#32 * Ideal.div (factor X) (meanSq X))) width

/-- The gradient of the norm in its row, for the upstream gradient `D`. -/
def normGrad (X G D : Row) (b : Fin 2048) : EReal :=
  D b * G b * factor X + X b * factorGrad X G D + factorGrad X G D * X b

/-- The gradient of the norms of 256 rows in the gain. -/
def gainGrad (X D : Fin 256 → Row) (b : Fin 2048) : EReal := ∑ x, X x b * factor (X x) * D x b

/-- Token `x` of block `t`. -/
def token (t : Fin 8) (x : Fin 256) : Fin 2048 := ⟨t * 256 + x, by omega⟩

theorem token_eq (t : Fin 8) (x : Fin 256) {h : 256 * t.val + x.val < 2048} : (⟨256 * t.val + x.val, h⟩ : Fin 2048) = token t x :=
  Fin.ext (by show 256 * t.val + x.val = t.val * 256 + x.val; omega)

/-- A row's distance from its target, channel by channel. -/
def error (X G T : Row) (b : Fin 2048) : EReal := norm X G b - T b

/-- The loss's row: half the mean of the squared errors. -/
def loss (X G T : Row) : EReal :=
  Ideal.ofBits FTy.f32 0x3F000000#32 * Ideal.div (∑ q, error X G T q * error X G T q) width

/-- The gradient of the loss's row in the normalised row, for the upstream gradient `c`. -/
def lossGrad (X G T : Row) (c : EReal) (b : Fin 2048) : EReal :=
  (∑ _ : Fin 1, Ideal.div (Ideal.ofBits FTy.f32 0x3F000000#32 * c) width) * (Ideal.ofBits FTy.f32 0x40000000#32 * error X G T b)

/-- The loss is the rows' sum, so the upstream gradient of each is one. -/
theorem lossGrad_one (X G T : Row) :
    lossGrad X G T 1 = fun b => (∑ _ : Fin 1, Ideal.div (Ideal.ofBits FTy.f32 0x3F000000#32) width) *
      (Ideal.ofBits FTy.f32 0x40000000#32 * error X G T b) := by
  unfold lossGrad
  rw [mul_one]

end Cert.Rows

end
-- ==== Proof.RmsAttn.lean ====
/- The norm of the tokens: a block of 256 tokens at a point, each token's row divided by its root mean square and scaled by
   the gain. -/
module

public import proofs.«01_k».proof.Proof.Base
public import proofs.«01_k».proof.Proof.Parts
public import proofs.«01_k».proof.Proof.Gen.RmsAttn.Frame
public import proofs.«01_k».proof.Proof.Gen.RmsAttnIdeal.Value
public import proofs.«01_k».proof.Proof.Gen.RmsAttnReferenceIdeal.Run
public import proofs.«01_k».proof.Proof.Rows

@[expose] public section

set_option maxRecDepth 16384

noncomputable section

namespace Cert.RmsAttnClaim

open Idealize.ShloMosaic Idealize.ShloMosaic.TcCoe Idealize.SL.Sem Cert.Parts Cert.Rows

/-- The normalised token `r` at channel `b`. -/
def spec (A0 : (⟨2, ![2048, 2048]⟩ : Shape).Idx → EReal) (A1 : (⟨2, ![1, 2048]⟩ : Shape).Idx → EReal) (r : Fin 2048) (b : Fin 2048) : EReal :=
  norm (fun q => A0 (ix2 r q)) (fun q => A1 (ix2 0 q)) b

section Kernel

open Cert.RmsAttnIdeal Cert.RmsAttnIdeal.Gen Cert.RmsAttnIdeal.Value Idealize.ShloMosaic.StableHlo

variable (m : (ℓ : Loc nD τ sig) → Buf (Elt Ideal) ℓ) (c : Dev nD)

/-- The arguments. -/
abbrev arg0 : FVec Ideal S2048x2048 .f32 := m (c, Proc.devRef .tc main_arg0)
abbrev arg1 : FVec Ideal S1x2048 .f32 := m (c, Proc.devRef .tc main_arg1)

/-! What a point computes, and where its blocks lie. -/

theorem out2_at (x0 : Vec Ideal S256x2048 .f32) (x1 : Vec Ideal S1x2048 .f32) (r : Fin 256) (k : Fin 2048) :
    out0_2 x0 x1 (ix2 r k) = norm (fun q => x0 (ix2 r q)) (fun q => x1 (ix2 0 q)) k := by
  unfold out0_2
  rw [View.canon_unit_zero zeros, View.ld_unit_zero zeros, View.ld_unit_zero zeros]
  unfold k0_pay1
  pointwise
  rfl

theorem read0 (A : FVec Ideal S2048x2048 .f32) (p : Fin cfg0.N) (i : Fin 8) (hi : p.val = i) (r : Fin 256) (k : Fin 2048) :
    (((cfg0.win 0).blk p).view.read (Elt Ideal) A : Vec Ideal S256x2048 .f32) (ix2 r k) = A (ix2 ⟨256 * i + r, by omega⟩ k) := by
  have e := (by decide +kernel : ∀ p : Fin grid0.N, win0_0.index p = ![p.val, 0]) p
  rw [hi] at e
  refine congrArg A (?_ : ((cfg0.win 0).blk p).view.emb _ = _)
  blk_ext [e]

theorem read1 (A : FVec Ideal S1x2048 .f32) (p : Fin cfg0.N) (k : Fin 2048) :
    (((cfg0.win 1).blk p).view.read (Elt Ideal) A : Vec Ideal S1x2048 .f32) (ix2 0 k) = A (ix2 0 k) := by
  have e := (by decide +kernel : ∀ p : Fin grid0.N, win0_1.index p = ![0, 0]) p
  refine congrArg A (?_ : ((cfg0.win 1).blk p).view.emb _ = _)
  blk_ext [e]

theorem read2 (A : FVec Ideal S2048x2048 .bf16) (p : Fin cfg0.N) (i : Fin 8) (hi : p.val = i) (r : Fin 256) (k : Fin 2048) :
    (((cfg0.win 2).blk p).view.read (Elt Ideal) A : Vec Ideal S256x2048 .bf16) (ix2 r k) = A (ix2 ⟨256 * i + r, by omega⟩ k) := by
  have e := (by decide +kernel : ∀ p : Fin grid0.N, win0_2.index p = ![p.val, 0]) p
  rw [hi] at e
  refine congrArg A (?_ : ((cfg0.win 2).blk p).view.emb _ = _)
  blk_ext [e]

theorem flush2 : ∀ p : Fin cfg0.N, (cfg0.win 2).flush p = true := (by decide +kernel : ∀ p : Fin grid0.N, _)

theorem blk0_at (p : Fin cfg0.N) (i : Fin 8) (hi : p.val = i) (r : Fin 256) (k : Fin 2048) :
    (iblk m c 0 p : Vec Ideal S256x2048 .f32) (ix2 r k) = arg0 m c (ix2 ⟨256 * i + r, by omega⟩ k) :=
  (read0 (V m c main_arg0 : FVec Ideal S2048x2048 .f32) p i hi r k).trans (congrFun (V_main_arg0 m c) _)

theorem blk1_at (p : Fin cfg0.N)   (k : Fin 2048) :
    (iblk m c 1 p : Vec Ideal S1x2048 .f32) (ix2 0 k) = arg1 m c (ix2 0 k) :=
  (read1 (V m c main_arg1 : FVec Ideal S1x2048 .f32) p  k).trans (congrFun (V_main_arg1 m c) _)

/-- The array the call returns, entry by entry. -/
theorem result2_at (i : Fin 8) (r : Fin 256) (k : Fin 2048) :
    ((dats m 0 c).arrAt 2 cfg0.N : FVec Ideal S2048x2048 .bf16) (ix2 ⟨256 * i + r, by omega⟩ k) = spec (arg0 m c) (arg1 m c) ⟨256 * i + r, by omega⟩ k := by
  have hN : cfg0.N = 8 := N_0
  let p : Fin cfg0.N := ⟨i, by omega⟩
  have hi : p.val = i := rfl
  refine (read2 _ p i hi r k).symm.trans ((congrFun ((blocks2 m c p (flush2 p)).trans (flushed2 m c p)) (ix2 r k)).trans ?_)
  refine (out2_at _ _ r k).trans ?_
  simp only [blk0_at m c p i hi, blk1_at m c p]
  rfl

end Kernel

section Reference

open Cert.RmsAttnReferenceIdeal Cert.RmsAttnReferenceIdeal.Gen Cert.RmsAttnReferenceIdeal.Value

theorem reference2_at (A0 : FVec Ideal S2048x2048 .f32) (A1 : FVec Ideal S1x2048 .f32) (r : Fin 2048) (b : Fin 2048) :
    (truncf .bf16 (mulf (mulf A0 (broadcastInDim S2048x2048 ![0, 1] bcast_S2048x1_S2048x2048_0_1 (Host.rsqrt (addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A1)) bitsLt_bf16_f32 : FVec Ideal S2048x2048 .bf16) (ix2 r b) = spec A0 A1 r b := by
  pointwise
  rfl

end Reference

/-- Over the extended reals the call's result is the reference's. -/
theorem algebraic : Cert.algebraic_RmsAttnIdeal_RmsAttnReferenceIdeal := by
  intro m ρ m' ρ' _ hagree
  refine ⟨_, Cert.RmsAttnIdeal.Value.run_blocks (F := Ideal) m ρ, ?_⟩
  refine (θ_run Cert.RmsAttnReferenceIdeal.defs _ _).mono (fun _ h c => ?_) (Cert.RmsAttnReferenceIdeal.Value.run (F := Ideal) m' ρ')
  obtain ⟨g0, g1⟩ := hagree c
  refine ⟨(h c).1.trans (funext fun i => ?_), (h c).2⟩
  · obtain ⟨r, b, rfl⟩ : ∃ r b, i = ix2 r b := ⟨i 0, i 1, eq_ix2 i⟩
    obtain ⟨i, r, rfl⟩ : ∃ (i : Fin 8) (q : Fin 256), r = ⟨256 * i + q, by omega⟩ :=
      ⟨⟨r / 256, by omega⟩, ⟨r % 256, by omega⟩, Fin.ext (show r.val = 256 * (r.val / 256) + r.val % 256 by omega)⟩
    refine (reference2_at _ _  _ _ ).trans (Eq.trans ?_ (result2_at m c i r b).symm)
    exact (congrArg (fun A => spec A _ _ _) g0).trans (congrArg (fun A => spec _ A _ _) g1)

end Cert.RmsAttnClaim

end
-- ==== Proof.RmsFfn.lean ====
/- The norm before the feed-forward: the same lines as the norm before the mixers, whose entries serve here. -/
module

public import proofs.«01_k».proof.Proof.Base
public import proofs.«01_k».proof.Proof.RmsAttn
public import proofs.«01_k».proof.Proof.Gen.RmsFfn.Frame
public import proofs.«01_k».proof.Proof.Gen.RmsFfnIdeal.Value
public import proofs.«01_k».proof.Proof.Gen.RmsFfnReferenceIdeal.Run

@[expose] public section

set_option maxRecDepth 16384

noncomputable section

namespace Cert.RmsFfnClaim

open Idealize.ShloMosaic Idealize.ShloMosaic.TcCoe Idealize.SL.Sem Cert.RmsAttnClaim

/-- Over the extended reals the call's result is the reference's. -/
theorem algebraic : Cert.algebraic_RmsFfnIdeal_RmsFfnReferenceIdeal := by
  intro m ρ m' ρ' _ hagree
  refine ⟨_, Cert.RmsFfnIdeal.Value.run_blocks (F := Ideal) m ρ, ?_⟩
  refine (θ_run Cert.RmsFfnReferenceIdeal.defs _ _).mono (fun _ h c => ?_) (Cert.RmsFfnReferenceIdeal.Value.run (F := Ideal) m' ρ')
  obtain ⟨g0, g1⟩ := hagree c
  refine ⟨(h c).1.trans (funext fun i => ?_), (h c).2⟩
  · obtain ⟨r, b, rfl⟩ : ∃ r b, i = ix2 r b := ⟨i 0, i 1, eq_ix2 i⟩
    obtain ⟨i, r, rfl⟩ : ∃ (i : Fin 8) (q : Fin 256), r = ⟨256 * i + q, by omega⟩ :=
      ⟨⟨r / 256, by omega⟩, ⟨r % 256, by omega⟩, Fin.ext (show r.val = 256 * (r.val / 256) + r.val % 256 by omega)⟩
    refine (reference2_at _ _  _ _ ).trans (Eq.trans ?_ (result2_at m c i r b).symm)
    exact (congrArg (fun A => spec A _ _ _) g0).trans (congrArg (fun A => spec _ A _ _) g1)

end Cert.RmsFfnClaim

end
-- ==== Proof.DRmsAttn.lean ====
/- The norm's gradients: of the upstream gradient with respect to the tokens, added to the residual stream's gradient, and with
   respect to the gain, each block of 256 tokens summed for itself. -/
module

public import proofs.«01_k».proof.Proof.Base
public import proofs.«01_k».proof.Proof.Parts
public import proofs.«01_k».proof.Proof.Gen.DRmsAttn.Frame
public import proofs.«01_k».proof.Proof.Gen.DRmsAttnIdeal.Value
public import proofs.«01_k».proof.Proof.Gen.DRmsAttnReferenceIdeal.Run
public import proofs.«01_k».proof.Proof.Rows

@[expose] public section

set_option maxRecDepth 16384

noncomputable section

namespace Cert.DRmsAttnClaim

open Idealize.ShloMosaic Idealize.ShloMosaic.TcCoe Idealize.SL.Sem Cert.Parts Cert.Rows

/-- The gradient at token `r`, channel `b`. -/
def spec (A0 : (⟨2, ![2048, 2048]⟩ : Shape).Idx → EReal) (A1 : (⟨2, ![1, 2048]⟩ : Shape).Idx → EReal) (A2 : (⟨2, ![2048, 2048]⟩ : Shape).Idx → EReal) (A3 : (⟨2, ![2048, 2048]⟩ : Shape).Idx → EReal) (r : Fin 2048) (b : Fin 2048) : EReal :=
  normGrad (fun q => A0 (ix2 r q)) (fun q => A1 (ix2 0 q)) (fun q => A2 (ix2 r q)) b + A3 (ix2 r b)

/-- The gain's gradient over the tokens of block `t`, at channel `b`. -/
def gainSpec (A0 : (⟨2, ![2048, 2048]⟩ : Shape).Idx → EReal) (A2 : (⟨2, ![2048, 2048]⟩ : Shape).Idx → EReal) (t : Fin 8) (b : Fin 2048) : EReal :=
  gainGrad (fun x q => A0 (ix2 (token t x) q)) (fun x q => A2 (ix2 (token t x) q)) b

section Kernel

open Cert.DRmsAttnIdeal Cert.DRmsAttnIdeal.Gen Cert.DRmsAttnIdeal.Value Idealize.ShloMosaic.StableHlo

variable (m : (ℓ : Loc nD τ sig) → Buf (Elt Ideal) ℓ) (c : Dev nD)

/-- The arguments. -/
abbrev arg0 : FVec Ideal S2048x2048 .f32 := m (c, Proc.devRef .tc main_arg0)
abbrev arg1 : FVec Ideal S1x2048 .f32 := m (c, Proc.devRef .tc main_arg1)
abbrev arg2 : FVec Ideal S2048x2048 .f32 := m (c, Proc.devRef .tc main_arg2)
abbrev arg3 : FVec Ideal S2048x2048 .f32 := m (c, Proc.devRef .tc main_arg3)

/-! What a point computes, and where its blocks lie. -/

theorem out4_at (x0 : Vec Ideal S256x2048 .f32) (x1 : Vec Ideal S1x2048 .f32) (x2 : Vec Ideal S256x2048 .f32) (x3 : Vec Ideal S256x2048 .f32) (r : Fin 256) (k : Fin 2048) :
    out0_4 x0 x1 x2 x3 (ix2 r k) = normGrad (fun q => x0 (ix2 r q)) (fun q => x1 (ix2 0 q)) (fun q => x2 (ix2 r q)) k + x3 (ix2 r k) := by
  unfold out0_4
  rw [View.canon_unit_zero zeros, View.ld_unit_zero zeros, View.ld_unit_zero zeros, View.ld_unit_zero zeros, View.ld_unit_zero zeros]
  unfold k0_pay5 k0_pay3 k0_pay2
  pointwise
  rfl

theorem out5_at (x0 : Vec Ideal S256x2048 .f32) (x1 : Vec Ideal S1x2048 .f32) (x2 : Vec Ideal S256x2048 .f32) (x3 : Vec Ideal S256x2048 .f32) (b : Fin 2048) :
    out0_5 x0 x1 x2 x3 (ix4 0 0 0 b) = gainGrad (fun x q => x0 (ix2 x q)) (fun x q => x2 (ix2 x q)) b := by
  unfold out0_5
  rw [View.canon_unit_zero zeros, View.ld_unit_zero zeros, View.ld_unit_zero zeros]
  unfold k0_pay1 k0_pay4 k0_pay3 k0_pay2
  pointwise
  rfl

theorem read0 (A : FVec Ideal S2048x2048 .f32) (p : Fin cfg0.N) (i : Fin 8) (hi : p.val = i) (r : Fin 256) (k : Fin 2048) :
    (((cfg0.win 0).blk p).view.read (Elt Ideal) A : Vec Ideal S256x2048 .f32) (ix2 r k) = A (ix2 ⟨256 * i + r, by omega⟩ k) := by
  have e := (by decide +kernel : ∀ p : Fin grid0.N, win0_0.index p = ![p.val, 0]) p
  rw [hi] at e
  refine congrArg A (?_ : ((cfg0.win 0).blk p).view.emb _ = _)
  blk_ext [e]

theorem read1 (A : FVec Ideal S1x2048 .f32) (p : Fin cfg0.N) (k : Fin 2048) :
    (((cfg0.win 1).blk p).view.read (Elt Ideal) A : Vec Ideal S1x2048 .f32) (ix2 0 k) = A (ix2 0 k) := by
  have e := (by decide +kernel : ∀ p : Fin grid0.N, win0_1.index p = ![0, 0]) p
  refine congrArg A (?_ : ((cfg0.win 1).blk p).view.emb _ = _)
  blk_ext [e]

theorem read2 (A : FVec Ideal S2048x2048 .f32) (p : Fin cfg0.N) (i : Fin 8) (hi : p.val = i) (r : Fin 256) (k : Fin 2048) :
    (((cfg0.win 2).blk p).view.read (Elt Ideal) A : Vec Ideal S256x2048 .f32) (ix2 r k) = A (ix2 ⟨256 * i + r, by omega⟩ k) := by
  have e := (by decide +kernel : ∀ p : Fin grid0.N, win0_2.index p = ![p.val, 0]) p
  rw [hi] at e
  refine congrArg A (?_ : ((cfg0.win 2).blk p).view.emb _ = _)
  blk_ext [e]

theorem read3 (A : FVec Ideal S2048x2048 .f32) (p : Fin cfg0.N) (i : Fin 8) (hi : p.val = i) (r : Fin 256) (k : Fin 2048) :
    (((cfg0.win 3).blk p).view.read (Elt Ideal) A : Vec Ideal S256x2048 .f32) (ix2 r k) = A (ix2 ⟨256 * i + r, by omega⟩ k) := by
  have e := (by decide +kernel : ∀ p : Fin grid0.N, win0_3.index p = ![p.val, 0]) p
  rw [hi] at e
  refine congrArg A (?_ : ((cfg0.win 3).blk p).view.emb _ = _)
  blk_ext [e]

theorem read4 (A : FVec Ideal S2048x2048 .f32) (p : Fin cfg0.N) (i : Fin 8) (hi : p.val = i) (r : Fin 256) (k : Fin 2048) :
    (((cfg0.win 4).blk p).view.read (Elt Ideal) A : Vec Ideal S256x2048 .f32) (ix2 r k) = A (ix2 ⟨256 * i + r, by omega⟩ k) := by
  have e := (by decide +kernel : ∀ p : Fin grid0.N, win0_4.index p = ![p.val, 0]) p
  rw [hi] at e
  refine congrArg A (?_ : ((cfg0.win 4).blk p).view.emb _ = _)
  blk_ext [e]

theorem flush4 : ∀ p : Fin cfg0.N, (cfg0.win 4).flush p = true := (by decide +kernel : ∀ p : Fin grid0.N, _)

theorem read5 (A : FVec Ideal S1x8x1x2048 .f32) (p : Fin cfg0.N) (i : Fin 8) (hi : p.val = i) (b : Fin 2048) :
    (((cfg0.win 5).blk p).view.read (Elt Ideal) A : Vec Ideal S1x1x1x2048 .f32) (ix4 0 0 0 b) = A (ix4 0 i 0 b) := by
  have e := (by decide +kernel : ∀ p : Fin grid0.N, win0_5.index p = ![0, p.val, 0, 0]) p
  rw [hi] at e
  refine congrArg A (?_ : ((cfg0.win 5).blk p).view.emb _ = _)
  blk_ext [e]

theorem flush5 : ∀ p : Fin cfg0.N, (cfg0.win 5).flush p = true := (by decide +kernel : ∀ p : Fin grid0.N, _)

theorem blk0_at (p : Fin cfg0.N) (i : Fin 8) (hi : p.val = i) (r : Fin 256) (k : Fin 2048) :
    (iblk m c 0 p : Vec Ideal S256x2048 .f32) (ix2 r k) = arg0 m c (ix2 ⟨256 * i + r, by omega⟩ k) :=
  (read0 (V m c main_arg0 : FVec Ideal S2048x2048 .f32) p i hi r k).trans (congrFun (V_main_arg0 m c) _)

theorem blk1_at (p : Fin cfg0.N)   (k : Fin 2048) :
    (iblk m c 1 p : Vec Ideal S1x2048 .f32) (ix2 0 k) = arg1 m c (ix2 0 k) :=
  (read1 (V m c main_arg1 : FVec Ideal S1x2048 .f32) p  k).trans (congrFun (V_main_arg1 m c) _)

theorem blk2_at (p : Fin cfg0.N) (i : Fin 8) (hi : p.val = i) (r : Fin 256) (k : Fin 2048) :
    (iblk m c 2 p : Vec Ideal S256x2048 .f32) (ix2 r k) = arg2 m c (ix2 ⟨256 * i + r, by omega⟩ k) :=
  (read2 (V m c main_arg2 : FVec Ideal S2048x2048 .f32) p i hi r k).trans (congrFun (V_main_arg2 m c) _)

theorem blk3_at (p : Fin cfg0.N) (i : Fin 8) (hi : p.val = i) (r : Fin 256) (k : Fin 2048) :
    (iblk m c 3 p : Vec Ideal S256x2048 .f32) (ix2 r k) = arg3 m c (ix2 ⟨256 * i + r, by omega⟩ k) :=
  (read3 (V m c main_arg3 : FVec Ideal S2048x2048 .f32) p i hi r k).trans (congrFun (V_main_arg3 m c) _)

/-- The tokens' gradient, entry by entry. -/
theorem result4_at (i : Fin 8) (r : Fin 256) (k : Fin 2048) :
    ((dats m 0 c).arrAt 4 cfg0.N : FVec Ideal S2048x2048 .f32) (ix2 ⟨256 * i + r, by omega⟩ k) = spec (arg0 m c) (arg1 m c) (arg2 m c) (arg3 m c) ⟨256 * i + r, by omega⟩ k := by
  have hN : cfg0.N = 8 := N_0
  let p : Fin cfg0.N := ⟨i, by omega⟩
  have hi : p.val = i := rfl
  refine (read4 _ p i hi r k).symm.trans ((congrFun ((blocks4 m c p (flush4 p)).trans (flushed4 m c p)) (ix2 r k)).trans ?_)
  refine (out4_at _ _ _ _ r k).trans ?_
  simp only [blk0_at m c p i hi, blk1_at m c p, blk2_at m c p i hi, blk3_at m c p i hi]
  rfl

/-- The gain's gradient, block by block. -/
theorem result5_at (i : Fin 8) (b : Fin 2048) :
    ((dats m 0 c).arrAt 5 cfg0.N : FVec Ideal S1x8x1x2048 .f32) (ix4 0 i 0 b) = gainSpec (arg0 m c) (arg2 m c) i b := by
  have hN : cfg0.N = 8 := N_0
  let p : Fin cfg0.N := ⟨i, by omega⟩
  have hi : p.val = i := rfl
  refine (read5 _ p i hi b).symm.trans ((congrFun ((blocks5 m c p (flush5 p)).trans (flushed5 m c p)) (ix4 0 0 0 b)).trans ?_)
  refine (out5_at _ _ _ _ b).trans ?_
  simp only [blk0_at m c p i hi, blk2_at m c p i hi, token_eq]
  rfl

end Kernel

section Reference

open Cert.DRmsAttnReferenceIdeal Cert.DRmsAttnReferenceIdeal.Gen Cert.DRmsAttnReferenceIdeal.Value

theorem reference4_at (A0 : FVec Ideal S2048x2048 .f32) (A1 : FVec Ideal S1x2048 .f32) (A2 : FVec Ideal S2048x2048 .f32) (A3 : FVec Ideal S2048x2048 .f32) (r : Fin 2048) (b : Fin 2048) :
    (addf (addf (addf (mulf (mulf A2 (broadcastInDim S2048x2048 ![0, 1] bcast_S1x2048_S2048x2048_0_1 A1)) (broadcastInDim S2048x2048 ![0, 1] bcast_S2048x1_S2048x2048_0_1 (Host.rsqrt (addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (mulf A0 (broadcastInDim S2048x2048 ![0] bcast_S2048_S2048x2048_0 (Host.reduceAdd (Host.divf (mulf (shapeCast _ (Host.reduceAdd (mulf A0 (mulf A2 (broadcastInDim S2048x2048 ![0, 1] bcast_S1x2048_S2048x2048_0_1 A1))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)))) (mulf (broadcastInDim S2048x2048 ![0] bcast_S2048_S2048x2048_0 (Host.reduceAdd (Host.divf (mulf (shapeCast _ (Host.reduceAdd (mulf A0 (mulf A2 (broadcastInDim S2048x2048 ![0, 1] bcast_S1x2048_S2048x2048_0_1 A1))) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))) (addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x1 ![] bcast_S_S2048x1 (constant S_ .f32 0x45000000#32))) (constant S_ .f32 0x00000000#32) reducesTo_S2048x1_S2048_d1 h_S_)) A0)) A3 : FVec Ideal S2048x2048 .f32) (ix2 r b) = spec A0 A1 A2 A3 r b := by
  pointwise
  rfl

theorem reference5_at (A0 : FVec Ideal S2048x2048 .f32) (A2 : FVec Ideal S2048x2048 .f32) (t : Fin 8) (b : Fin 2048) :
    (shapeCast _ (Host.reduceAdd (shapeCast _ (mulf (mulf A0 (broadcastInDim S2048x2048 ![0, 1] bcast_S2048x1_S2048x2048_0_1 (Host.rsqrt (addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) A2) shapeCasts_S2048x2048_S8x256x2048) (constant S_ .f32 0x00000000#32) reducesTo_S8x256x2048_S8x2048_d1 h_S_) shapeCasts_S8x2048_S1x8x1x2048 : FVec Ideal S1x8x1x2048 .f32) (ix4 0 t 0 b) = gainSpec A0 A2 t b := by
  pointwise
  rfl

end Reference

/-- Over the extended reals the call's result is the reference's. -/
theorem algebraic : Cert.algebraic_DRmsAttnIdeal_DRmsAttnReferenceIdeal := by
  intro m ρ m' ρ' _ hagree
  refine ⟨_, _, Cert.DRmsAttnIdeal.Value.run_blocks (F := Ideal) m ρ, ?_⟩
  refine (θ_run Cert.DRmsAttnReferenceIdeal.defs _ _).mono (fun _ h c => ?_) (Cert.DRmsAttnReferenceIdeal.Value.run (F := Ideal) m' ρ')
  obtain ⟨g0, g1, g2, g3⟩ := hagree c
  refine ⟨(h c).1.trans (funext fun i => ?_), (h c).2.1.trans (funext fun i => ?_), (h c).2.2⟩
  · obtain ⟨r, b, rfl⟩ : ∃ r b, i = ix2 r b := ⟨i 0, i 1, eq_ix2 i⟩
    obtain ⟨i, r, rfl⟩ : ∃ (i : Fin 8) (q : Fin 256), r = ⟨256 * i + q, by omega⟩ :=
      ⟨⟨r / 256, by omega⟩, ⟨r % 256, by omega⟩, Fin.ext (show r.val = 256 * (r.val / 256) + r.val % 256 by omega)⟩
    refine (reference4_at _ _ _ _  _ _ ).trans (Eq.trans ?_ (result4_at m c i r b).symm)
    exact (congrArg (fun A => spec A _ _ _ _ _) g0).trans ((congrArg (fun A => spec _ A _ _ _ _) g1).trans ((congrArg (fun A => spec _ _ A _ _ _) g2).trans (congrArg (fun A => spec _ _ _ A _ _) g3)))
  · obtain ⟨z0, t, z2, b, rfl⟩ : ∃ z0 t z2 b, i = ix4 z0 t z2 b := ⟨i 0, i 1, i 2, i 3, eq_ix4 i⟩
    obtain rfl : z0 = 0 := Subsingleton.elim _ _
    obtain rfl : z2 = 0 := Subsingleton.elim _ _
    refine (reference5_at _ _  _ _ ).trans (Eq.trans ?_ (result5_at m c t b).symm)
    exact (congrArg (fun A => gainSpec A _ _ _) g0).trans (congrArg (fun A => gainSpec _ A _ _) g2)

end Cert.DRmsAttnClaim

end
-- ==== Proof.DRmsFfn.lean ====
/- The gradients of the norm before the feed-forward: the same lines as for the norm before the mixers, whose entries serve here. -/
module

public import proofs.«01_k».proof.Proof.Base
public import proofs.«01_k».proof.Proof.DRmsAttn
public import proofs.«01_k».proof.Proof.Gen.DRmsFfn.Frame
public import proofs.«01_k».proof.Proof.Gen.DRmsFfnIdeal.Value
public import proofs.«01_k».proof.Proof.Gen.DRmsFfnReferenceIdeal.Run

@[expose] public section

set_option maxRecDepth 16384

noncomputable section

namespace Cert.DRmsFfnClaim

open Idealize.ShloMosaic Idealize.ShloMosaic.TcCoe Idealize.SL.Sem Cert.DRmsAttnClaim

/-- Over the extended reals the call's result is the reference's. -/
theorem algebraic : Cert.algebraic_DRmsFfnIdeal_DRmsFfnReferenceIdeal := by
  intro m ρ m' ρ' _ hagree
  refine ⟨_, _, Cert.DRmsFfnIdeal.Value.run_blocks (F := Ideal) m ρ, ?_⟩
  refine (θ_run Cert.DRmsFfnReferenceIdeal.defs _ _).mono (fun _ h c => ?_) (Cert.DRmsFfnReferenceIdeal.Value.run (F := Ideal) m' ρ')
  obtain ⟨g0, g1, g2, g3⟩ := hagree c
  refine ⟨(h c).1.trans (funext fun i => ?_), (h c).2.1.trans (funext fun i => ?_), (h c).2.2⟩
  · obtain ⟨r, b, rfl⟩ : ∃ r b, i = ix2 r b := ⟨i 0, i 1, eq_ix2 i⟩
    obtain ⟨i, r, rfl⟩ : ∃ (i : Fin 8) (q : Fin 256), r = ⟨256 * i + q, by omega⟩ :=
      ⟨⟨r / 256, by omega⟩, ⟨r % 256, by omega⟩, Fin.ext (show r.val = 256 * (r.val / 256) + r.val % 256 by omega)⟩
    refine (reference4_at _ _ _ _  _ _ ).trans (Eq.trans ?_ (result4_at m c i r b).symm)
    exact (congrArg (fun A => spec A _ _ _ _ _) g0).trans ((congrArg (fun A => spec _ A _ _ _ _) g1).trans ((congrArg (fun A => spec _ _ A _ _ _) g2).trans (congrArg (fun A => spec _ _ _ A _ _) g3)))
  · obtain ⟨z0, t, z2, b, rfl⟩ : ∃ z0 t z2 b, i = ix4 z0 t z2 b := ⟨i 0, i 1, i 2, i 3, eq_ix4 i⟩
    obtain rfl : z0 = 0 := Subsingleton.elim _ _
    obtain rfl : z2 = 0 := Subsingleton.elim _ _
    refine (reference5_at _ _  _ _ ).trans (Eq.trans ?_ (result5_at m c t b).symm)
    exact (congrArg (fun A => gainSpec A _ _ _) g0).trans (congrArg (fun A => gainSpec _ A _ _) g2)

end Cert.DRmsFfnClaim

end
-- ==== Proof.Loss.lean ====
/- The loss and its gradients: at a point, the loss's rows of 256 tokens, the gradient with respect to the tokens and, summed
   over the block, with respect to the gain. -/
module

public import proofs.«01_k».proof.Proof.Base
public import proofs.«01_k».proof.Proof.Parts
public import proofs.«01_k».proof.Proof.Gen.Loss.Frame
public import proofs.«01_k».proof.Proof.Gen.LossIdeal.Value
public import proofs.«01_k».proof.Proof.Gen.LossReferenceIdeal.Run
public import proofs.«01_k».proof.Proof.Rows
import Idealize.ShloMosaic.Lib.IdealHost

@[expose] public section

set_option maxRecDepth 16384

noncomputable section

namespace Cert.LossClaim

open Idealize.ShloMosaic Idealize.ShloMosaic.TcCoe Idealize.SL.Sem Cert.Parts Cert.Rows

/-- The gradient at token `r`, channel `b`. -/
def spec (A0 : (⟨2, ![2048, 2048]⟩ : Shape).Idx → EReal) (A1 : (⟨2, ![1, 2048]⟩ : Shape).Idx → EReal) (A2 : (⟨2, ![2048, 2048]⟩ : Shape).Idx → EReal) (r : Fin 2048) (b : Fin 2048) : EReal :=
  normGrad (fun q => A0 (ix2 r q)) (fun q => A1 (ix2 0 q)) (lossGrad (fun q => A0 (ix2 r q)) (fun q => A1 (ix2 0 q)) (fun q => A2 (ix2 r q)) 1) b

/-- The gain's gradient over the tokens of block `t`, at channel `b`. -/
def gainSpec (A0 : (⟨2, ![2048, 2048]⟩ : Shape).Idx → EReal) (A1 : (⟨2, ![1, 2048]⟩ : Shape).Idx → EReal) (A2 : (⟨2, ![2048, 2048]⟩ : Shape).Idx → EReal) (t : Fin 8) (b : Fin 2048) : EReal :=
  gainGrad (fun x q => A0 (ix2 (token t x) q))
    (fun x => lossGrad (fun q => A0 (ix2 (token t x) q)) (fun q => A1 (ix2 0 q)) (fun q => A2 (ix2 (token t x) q)) 1) b

/-- The loss's row of token `r`. -/
def rowSpec (A0 : (⟨2, ![2048, 2048]⟩ : Shape).Idx → EReal) (A1 : (⟨2, ![1, 2048]⟩ : Shape).Idx → EReal) (A2 : (⟨2, ![2048, 2048]⟩ : Shape).Idx → EReal) (r : Fin 2048) : EReal :=
  loss (fun q => A0 (ix2 r q)) (fun q => A1 (ix2 0 q)) (fun q => A2 (ix2 r q))

section Kernel

open Cert.LossIdeal Cert.LossIdeal.Gen Cert.LossIdeal.Value Idealize.ShloMosaic.StableHlo

variable (m : (ℓ : Loc nD τ sig) → Buf (Elt Ideal) ℓ) (c : Dev nD)

/-- The arguments. -/
abbrev arg0 : FVec Ideal S2048x2048 .f32 := m (c, Proc.devRef .tc main_arg0)
abbrev arg1 : FVec Ideal S1x2048 .f32 := m (c, Proc.devRef .tc main_arg1)
abbrev arg2 : FVec Ideal S2048x2048 .f32 := m (c, Proc.devRef .tc main_arg2)

/-- The upstream gradient the host prepares: one for each token. -/
theorem ones_at (i : Fin 2048) : (V m c main_v0 : FVec Ideal S2048x1 .f32) (ix2 i 0) = (1 : EReal) := by
  unfold V
  after_reads_simp
  exact Ideal.ofBits_one_f32

/-! What a point computes, and where its blocks lie. -/

theorem out4_at (x0 : Vec Ideal S256x2048 .f32) (x1 : Vec Ideal S1x2048 .f32) (x2 : Vec Ideal S256x2048 .f32) (x3 : Vec Ideal S256x1 .f32) (r : Fin 256) (k : Fin 2048) :
    out0_4 x0 x1 x2 x3 (ix2 r k) = normGrad (fun q => x0 (ix2 r q)) (fun q => x1 (ix2 0 q)) (lossGrad (fun q => x0 (ix2 r q)) (fun q => x1 (ix2 0 q)) (fun q => x2 (ix2 r q)) (x3 (ix2 r 0))) k := by
  unfold out0_4
  rw [View.canon_unit_zero zeros, View.ld_unit_zero zeros, View.ld_unit_zero zeros, View.ld_unit_zero zeros, View.ld_unit_zero zeros]
  unfold k0_pay1 k0_pay4 k0_pay5 k0_pay9 k0_pay7 k0_pay6 k0_pay4 k0_pay3
  pointwise
  rfl

theorem out5_at (x0 : Vec Ideal S256x2048 .f32) (x1 : Vec Ideal S1x2048 .f32) (x2 : Vec Ideal S256x2048 .f32) (x3 : Vec Ideal S256x1 .f32) (b : Fin 2048) :
    out0_5 x0 x1 x2 x3 (ix4 0 0 0 b) = gainGrad (fun x q => x0 (ix2 x q)) (fun x => lossGrad (fun q => x0 (ix2 x q)) (fun q => x1 (ix2 0 q)) (fun q => x2 (ix2 x q)) (x3 (ix2 x 0))) b := by
  unfold out0_5
  rw [View.canon_unit_zero zeros, View.ld_unit_zero zeros, View.ld_unit_zero zeros, View.ld_unit_zero zeros, View.ld_unit_zero zeros]
  unfold k0_pay2 k0_pay10 k0_pay9 k0_pay7 k0_pay6 k0_pay4 k0_pay3
  pointwise
  rfl

theorem out6_at (x0 : Vec Ideal S256x2048 .f32) (x1 : Vec Ideal S1x2048 .f32) (x2 : Vec Ideal S256x2048 .f32) (x3 : Vec Ideal S256x1 .f32) (r : Fin 256) :
    out0_6 x0 x1 x2 x3 (ix2 r 0) = loss (fun q => x0 (ix2 r q)) (fun q => x1 (ix2 0 q)) (fun q => x2 (ix2 r q)) := by
  unfold out0_6
  rw [View.canon_unit_zero zeros, View.ld_unit_zero zeros, View.ld_unit_zero zeros, View.ld_unit_zero zeros]
  unfold k0_pay8 k0_pay7 k0_pay6 k0_pay4 k0_pay3
  pointwise
  rfl

theorem read0 (A : FVec Ideal S2048x2048 .f32) (p : Fin cfg0.N) (i : Fin 8) (hi : p.val = i) (r : Fin 256) (k : Fin 2048) :
    (((cfg0.win 0).blk p).view.read (Elt Ideal) A : Vec Ideal S256x2048 .f32) (ix2 r k) = A (ix2 ⟨256 * i + r, by omega⟩ k) := by
  have e := (by decide +kernel : ∀ p : Fin grid0.N, win0_0.index p = ![p.val, 0]) p
  rw [hi] at e
  refine congrArg A (?_ : ((cfg0.win 0).blk p).view.emb _ = _)
  blk_ext [e]

theorem read1 (A : FVec Ideal S1x2048 .f32) (p : Fin cfg0.N) (k : Fin 2048) :
    (((cfg0.win 1).blk p).view.read (Elt Ideal) A : Vec Ideal S1x2048 .f32) (ix2 0 k) = A (ix2 0 k) := by
  have e := (by decide +kernel : ∀ p : Fin grid0.N, win0_1.index p = ![0, 0]) p
  refine congrArg A (?_ : ((cfg0.win 1).blk p).view.emb _ = _)
  blk_ext [e]

theorem read2 (A : FVec Ideal S2048x2048 .f32) (p : Fin cfg0.N) (i : Fin 8) (hi : p.val = i) (r : Fin 256) (k : Fin 2048) :
    (((cfg0.win 2).blk p).view.read (Elt Ideal) A : Vec Ideal S256x2048 .f32) (ix2 r k) = A (ix2 ⟨256 * i + r, by omega⟩ k) := by
  have e := (by decide +kernel : ∀ p : Fin grid0.N, win0_2.index p = ![p.val, 0]) p
  rw [hi] at e
  refine congrArg A (?_ : ((cfg0.win 2).blk p).view.emb _ = _)
  blk_ext [e]

theorem read3 (A : FVec Ideal S2048x1 .f32) (p : Fin cfg0.N) (i : Fin 8) (hi : p.val = i) (r : Fin 256) :
    (((cfg0.win 3).blk p).view.read (Elt Ideal) A : Vec Ideal S256x1 .f32) (ix2 r 0) = A (ix2 ⟨256 * i + r, by omega⟩ 0) := by
  have e := (by decide +kernel : ∀ p : Fin grid0.N, win0_3.index p = ![p.val, 0]) p
  rw [hi] at e
  refine congrArg A (?_ : ((cfg0.win 3).blk p).view.emb _ = _)
  blk_ext [e]

theorem read4 (A : FVec Ideal S2048x2048 .f32) (p : Fin cfg0.N) (i : Fin 8) (hi : p.val = i) (r : Fin 256) (k : Fin 2048) :
    (((cfg0.win 4).blk p).view.read (Elt Ideal) A : Vec Ideal S256x2048 .f32) (ix2 r k) = A (ix2 ⟨256 * i + r, by omega⟩ k) := by
  have e := (by decide +kernel : ∀ p : Fin grid0.N, win0_4.index p = ![p.val, 0]) p
  rw [hi] at e
  refine congrArg A (?_ : ((cfg0.win 4).blk p).view.emb _ = _)
  blk_ext [e]

theorem flush4 : ∀ p : Fin cfg0.N, (cfg0.win 4).flush p = true := (by decide +kernel : ∀ p : Fin grid0.N, _)

theorem read5 (A : FVec Ideal S1x8x1x2048 .f32) (p : Fin cfg0.N) (i : Fin 8) (hi : p.val = i) (b : Fin 2048) :
    (((cfg0.win 5).blk p).view.read (Elt Ideal) A : Vec Ideal S1x1x1x2048 .f32) (ix4 0 0 0 b) = A (ix4 0 i 0 b) := by
  have e := (by decide +kernel : ∀ p : Fin grid0.N, win0_5.index p = ![0, p.val, 0, 0]) p
  rw [hi] at e
  refine congrArg A (?_ : ((cfg0.win 5).blk p).view.emb _ = _)
  blk_ext [e]

theorem flush5 : ∀ p : Fin cfg0.N, (cfg0.win 5).flush p = true := (by decide +kernel : ∀ p : Fin grid0.N, _)

theorem read6 (A : FVec Ideal S2048x1 .f32) (p : Fin cfg0.N) (i : Fin 8) (hi : p.val = i) (r : Fin 256) :
    (((cfg0.win 6).blk p).view.read (Elt Ideal) A : Vec Ideal S256x1 .f32) (ix2 r 0) = A (ix2 ⟨256 * i + r, by omega⟩ 0) := by
  have e := (by decide +kernel : ∀ p : Fin grid0.N, win0_6.index p = ![p.val, 0]) p
  rw [hi] at e
  refine congrArg A (?_ : ((cfg0.win 6).blk p).view.emb _ = _)
  blk_ext [e]

theorem flush6 : ∀ p : Fin cfg0.N, (cfg0.win 6).flush p = true := (by decide +kernel : ∀ p : Fin grid0.N, _)

theorem blk0_at (p : Fin cfg0.N) (i : Fin 8) (hi : p.val = i) (r : Fin 256) (k : Fin 2048) :
    (iblk m c 0 p : Vec Ideal S256x2048 .f32) (ix2 r k) = arg0 m c (ix2 ⟨256 * i + r, by omega⟩ k) :=
  (read0 (V m c main_arg0 : FVec Ideal S2048x2048 .f32) p i hi r k).trans (congrFun (V_main_arg0 m c) _)

theorem blk1_at (p : Fin cfg0.N)   (k : Fin 2048) :
    (iblk m c 1 p : Vec Ideal S1x2048 .f32) (ix2 0 k) = arg1 m c (ix2 0 k) :=
  (read1 (V m c main_arg1 : FVec Ideal S1x2048 .f32) p  k).trans (congrFun (V_main_arg1 m c) _)

theorem blk2_at (p : Fin cfg0.N) (i : Fin 8) (hi : p.val = i) (r : Fin 256) (k : Fin 2048) :
    (iblk m c 2 p : Vec Ideal S256x2048 .f32) (ix2 r k) = arg2 m c (ix2 ⟨256 * i + r, by omega⟩ k) :=
  (read2 (V m c main_arg2 : FVec Ideal S2048x2048 .f32) p i hi r k).trans (congrFun (V_main_arg2 m c) _)

theorem blk3_at (p : Fin cfg0.N) (i : Fin 8) (hi : p.val = i) (r : Fin 256) :
    (iblk m c 3 p : Vec Ideal S256x1 .f32) (ix2 r 0) = (1 : EReal) :=
  (read3 (V m c main_v0 : FVec Ideal S2048x1 .f32) p i hi r).trans (ones_at m c _)

/-- The tokens' gradient, entry by entry. -/
theorem result4_at (i : Fin 8) (r : Fin 256) (k : Fin 2048) :
    ((dats m 0 c).arrAt 4 cfg0.N : FVec Ideal S2048x2048 .f32) (ix2 ⟨256 * i + r, by omega⟩ k) = spec (arg0 m c) (arg1 m c) (arg2 m c) ⟨256 * i + r, by omega⟩ k := by
  have hN : cfg0.N = 8 := N_0
  let p : Fin cfg0.N := ⟨i, by omega⟩
  have hi : p.val = i := rfl
  refine (read4 _ p i hi r k).symm.trans ((congrFun ((blocks4 m c p (flush4 p)).trans (flushed4 m c p)) (ix2 r k)).trans ?_)
  refine (out4_at _ _ _ _ r k).trans ?_
  simp only [blk0_at m c p i hi, blk1_at m c p, blk2_at m c p i hi, blk3_at m c p i hi]
  rfl

/-- The gain's gradient, block by block. -/
theorem result5_at (i : Fin 8) (b : Fin 2048) :
    ((dats m 0 c).arrAt 5 cfg0.N : FVec Ideal S1x8x1x2048 .f32) (ix4 0 i 0 b) = gainSpec (arg0 m c) (arg1 m c) (arg2 m c) i b := by
  have hN : cfg0.N = 8 := N_0
  let p : Fin cfg0.N := ⟨i, by omega⟩
  have hi : p.val = i := rfl
  refine (read5 _ p i hi b).symm.trans ((congrFun ((blocks5 m c p (flush5 p)).trans (flushed5 m c p)) (ix4 0 0 0 b)).trans ?_)
  refine (out5_at _ _ _ _ b).trans ?_
  simp only [blk0_at m c p i hi, blk1_at m c p, blk2_at m c p i hi, blk3_at m c p i hi, token_eq]
  rfl

/-- The loss's rows, token by token. -/
theorem result6_at (i : Fin 8) (r : Fin 256) :
    ((dats m 0 c).arrAt 6 cfg0.N : FVec Ideal S2048x1 .f32) (ix2 ⟨256 * i + r, by omega⟩ 0) = rowSpec (arg0 m c) (arg1 m c) (arg2 m c) ⟨256 * i + r, by omega⟩ := by
  have hN : cfg0.N = 8 := N_0
  let p : Fin cfg0.N := ⟨i, by omega⟩
  have hi : p.val = i := rfl
  refine (read6 _ p i hi r).symm.trans ((congrFun ((blocks6 m c p (flush6 p)).trans (flushed6 m c p)) (ix2 r 0)).trans ?_)
  refine (out6_at _ _ _ _ r).trans ?_
  simp only [blk0_at m c p i hi, blk1_at m c p, blk2_at m c p i hi, blk3_at m c p i hi]
  rfl

end Kernel

section Reference

open Cert.LossReferenceIdeal Cert.LossReferenceIdeal.Gen Cert.LossReferenceIdeal.Value

theorem reference4_at (m : (ℓ : Loc nD τ sig) → Buf (Elt Ideal) ℓ) (c : Dev nD) (r : Fin 2048) (b : Fin 2048) :
    (res_main_v48 m c : FVec Ideal S2048x2048 .f32) (ix2 r b) =
      spec (m ((c.tc : Thread nD τ).loc main_arg0)) (m ((c.tc : Thread nD τ).loc main_arg1)) (m ((c.tc : Thread nD τ).loc main_arg2)) r b := by
  unfold res_main_v48
  unfold spec
  rw [lossGrad_one]
  pointwise
  rfl

theorem reference5_at (A0 : FVec Ideal S2048x2048 .f32) (A1 : FVec Ideal S1x2048 .f32) (A2 : FVec Ideal S2048x2048 .f32) (t : Fin 8) (b : Fin 2048) :
    (shapeCast _ (Host.reduceAdd (shapeCast _ (mulf (mulf A0 (broadcastInDim S2048x2048 ![0, 1] bcast_S2048x1_S2048x2048_0_1 (Host.rsqrt (addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (mulf (broadcastInDim S2048x2048 ![0] bcast_S2048_S2048x2048_0 (Host.reduceAdd (Host.divf (mulf (broadcastInDim S2048x1 ![] bcast_S_S2048x1 (constant S_ .f32 0x3F000000#32)) (broadcastInDim S2048x1 ![] bcast_S_S2048x1 (constant S_ .f32 0x3F800000#32))) (broadcastInDim S2048x1 ![] bcast_S_S2048x1 (constant S_ .f32 0x45000000#32))) (constant S_ .f32 0x00000000#32) reducesTo_S2048x1_S2048_d1 h_S_)) (mulf (broadcastInDim S2048x2048 ![] bcast_S_S2048x2048 (constant S_ .f32 0x40000000#32)) (subf (mulf (mulf A0 (broadcastInDim S2048x2048 ![0, 1] bcast_S2048x1_S2048x2048_0_1 (Host.rsqrt (addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A1)) A2)))) shapeCasts_S2048x2048_S8x256x2048) (constant S_ .f32 0x00000000#32) reducesTo_S8x256x2048_S8x2048_d1 h_S_) shapeCasts_S8x2048_S1x8x1x2048 : FVec Ideal S1x8x1x2048 .f32) (ix4 0 t 0 b) = gainSpec A0 A1 A2 t b := by
  unfold gainSpec
  simp only [lossGrad_one]
  pointwise
  rfl

theorem reference6_at (A0 : FVec Ideal S2048x2048 .f32) (A1 : FVec Ideal S1x2048 .f32) (A2 : FVec Ideal S2048x2048 .f32) (r : Fin 2048) :
    (mulf (broadcastInDim S2048x1 ![] bcast_S_S2048x1 (constant S_ .f32 0x3F000000#32)) (Host.divf (broadcastInDim S2048x1 ![0] bcast_S2048_S2048x1_0 (Host.reduceAdd (mulf (subf (mulf (mulf A0 (broadcastInDim S2048x2048 ![0, 1] bcast_S2048x1_S2048x2048_0_1 (Host.rsqrt (addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A1)) A2) (subf (mulf (mulf A0 (broadcastInDim S2048x2048 ![0, 1] bcast_S2048x1_S2048x2048_0_1 (Host.rsqrt (addf (Host.divf (broadcastInDim S2048x1 ![0] bcast_S2048_S2048x1_0 (Host.reduceAdd (mulf A0 A0) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 A1)) A2)) (constant S_ .f32 0x00000000#32) reducesTo_S2048x2048_S2048_d1 h_S_)) (broadcastInDim S2048x1 ![] bcast_S_S2048x1 (constant S_ .f32 0x45000000#32))) : FVec Ideal S2048x1 .f32) (ix2 r 0) = rowSpec A0 A1 A2 r := by
  pointwise
  rfl

end Reference

/-- Over the extended reals the call's result is the reference's. -/
theorem algebraic : Cert.algebraic_LossIdeal_LossReferenceIdeal := by
  intro m ρ m' ρ' _ hagree
  refine ⟨_, _, _, Cert.LossIdeal.Value.run_blocks (F := Ideal) m ρ, ?_⟩
  refine (θ_run Cert.LossReferenceIdeal.defs _ _).mono (fun _ h c => ?_) (Cert.LossReferenceIdeal.Value.run (F := Ideal) m' ρ')
  obtain ⟨g0, g1, g2⟩ := hagree c
  refine ⟨(h c).1.trans (funext fun i => ?_), (h c).2.1.trans (funext fun i => ?_), (h c).2.2.1.trans (funext fun i => ?_), (h c).2.2.2⟩
  · obtain ⟨r, b, rfl⟩ : ∃ r b, i = ix2 r b := ⟨i 0, i 1, eq_ix2 i⟩
    obtain ⟨i, r, rfl⟩ : ∃ (i : Fin 8) (q : Fin 256), r = ⟨256 * i + q, by omega⟩ :=
      ⟨⟨r / 256, by omega⟩, ⟨r % 256, by omega⟩, Fin.ext (show r.val = 256 * (r.val / 256) + r.val % 256 by omega)⟩
    refine (reference4_at m' c _ _ ).trans (Eq.trans ?_ (result4_at m c i r b).symm)
    exact (congrArg (fun A => spec A _ _ _ _) g0).trans ((congrArg (fun A => spec _ A _ _ _) g1).trans (congrArg (fun A => spec _ _ A _ _) g2))
  · obtain ⟨z0, t, z2, b, rfl⟩ : ∃ z0 t z2 b, i = ix4 z0 t z2 b := ⟨i 0, i 1, i 2, i 3, eq_ix4 i⟩
    obtain rfl : z0 = 0 := Subsingleton.elim _ _
    obtain rfl : z2 = 0 := Subsingleton.elim _ _
    refine (reference5_at _ _ _  _ _ ).trans (Eq.trans ?_ (result5_at m c t b).symm)
    exact (congrArg (fun A => gainSpec A _ _ _ _) g0).trans ((congrArg (fun A => gainSpec _ A _ _ _) g1).trans (congrArg (fun A => gainSpec _ _ A _ _) g2))
  · obtain ⟨r, z1, rfl⟩ : ∃ r z1, i = ix2 r z1 := ⟨i 0, i 1, eq_ix2 i⟩
    obtain rfl : z1 = 0 := Subsingleton.elim _ _
    obtain ⟨i, r, rfl⟩ : ∃ (i : Fin 8) (q : Fin 256), r = ⟨256 * i + q, by omega⟩ :=
      ⟨⟨r / 256, by omega⟩, ⟨r % 256, by omega⟩, Fin.ext (show r.val = 256 * (r.val / 256) + r.val % 256 by omega)⟩
    refine (reference6_at _ _ _  _ ).trans (Eq.trans ?_ (result6_at m c i r).symm)
    exact (congrArg (fun A => rowSpec A _ _ _) g0).trans ((congrArg (fun A => rowSpec _ A _ _) g1).trans (congrArg (fun A => rowSpec _ _ A _) g2))

end Cert.LossClaim

end
-- ==== Proof.Conv.lean ====
/- The gate's causal convolution along the tokens, its gating, and their form in a block of 256 tokens: the rows before the
   block's first come from the last rows of the block before, and are zero in the first block. -/
module

public import proofs.«01_k».proof.Proof.Parts
public import Idealize.ShloMosaic.PureOps.Ideal.Laws

@[expose] public section

noncomputable section

namespace Cert.Conv

open Idealize.ShloMosaic Cert.Parts

variable {N : ℕ}

/-- A column's entry `n` tokens before token `r`, zero before the first. -/
def back (n : ℕ) (G : Fin N → EReal) (r : Fin N) : EReal := if h : n ≤ r.val then G ⟨r.val - n, by omega⟩ else 0

/-- A column's entry `n` tokens after token `r`, zero after the last. -/
def ahead (n : ℕ) (G : Fin N → EReal) (r : Fin N) : EReal := if h : r.val + n < N then G ⟨r.val + n, h⟩ else 0

/-- The convolution of three taps with a bias, at token `r`. -/
def conv (w0 w1 w2 b : EReal) (G : Fin N → EReal) (r : Fin N) : EReal := w0 * back 2 G r + w1 * back 1 G r + w2 * G r + b

/-- Its gradient with respect to the column: each token receives from itself and the two tokens after it. -/
def convGrad (w0 w1 w2 : EReal) (D : Fin N → EReal) (r : Fin N) : EReal := w2 * D r + w1 * ahead 1 D r + w0 * ahead 2 D r

/-- The gating: `x · logistic(x) · u`. -/
def gated (x u : EReal) : EReal := x * Ideal.logistic x * u

/-- A choice between two values by a test of equality of two small numbers. -/
theorem select_eq {α : Type} (n k : ℕ) (hn : n < 2 ^ 32) (hk : k < 2 ^ 32) (a b : α) :
    Scalar.select (IntOp.cmpi CmpIPredicate.eq (BitVec.ofNat 32 n) (BitVec.ofNat 32 k)) a b = if n = k then a else b := by
  have e : (BitVec.ofNat 32 n = BitVec.ofNat 32 k) ↔ n = k := by
    rw [← BitVec.toNat_inj, BitVec.toNat_ofNat, BitVec.toNat_ofNat, Nat.mod_eq_of_lt hn, Nat.mod_eq_of_lt hk]
  unfold Scalar.select IntOp.cmpi
  by_cases h : n = k
  · subst h; simp
  · have h' : ¬ BitVec.ofNat 32 n = BitVec.ofNat 32 k := fun q => h (e.mp q)
    rw [if_neg h, if_neg]
    show ¬ BitVec.ofBool (BitVec.ofNat 32 n == BitVec.ofNat 32 k) = 1#1
    rw [beq_eq_false_iff_ne.mpr h']
    decide

/-! A tap in a block: `first` is the block's number, `p`, `q` the last two rows of the block before, `X` the block's rows. -/

/-- The row before row `r` of a block. -/
def tap1 (first : ℕ) (q : EReal) (X : Fin 256 → EReal) (r : Fin 256) : EReal :=
  if r.val = 0 then if first = 0 then 0 else q else X ⟨(r.val + 256 - 1) % 256, by omega⟩

/-- The row two before row `r` of a block. -/
def tap2 (first : ℕ) (p q : EReal) (X : Fin 256 → EReal) (r : Fin 256) : EReal :=
  if r.val = 1 then if first = 0 then 0 else q
  else if r.val = 0 then if first = 0 then 0 else p else X ⟨(r.val + 256 - 2) % 256, by omega⟩

/-- The row after row `r` of a block: `p`, `q` are the first two rows of the block after. -/
def next1 (last : Prop) [Decidable last] (p : EReal) (X : Fin 256 → EReal) (r : Fin 256) : EReal :=
  if r.val = 255 then if last then 0 else p else X ⟨(r.val + 256 - 255) % 256, by omega⟩

/-- The row two after row `r` of a block. -/
def next2 (last : Prop) [Decidable last] (p q : EReal) (X : Fin 256 → EReal) (r : Fin 256) : EReal :=
  if r.val = 255 then if last then 0 else q
  else if r.val = 254 then if last then 0 else p else X ⟨(r.val + 256 - 254) % 256, by omega⟩

theorem tap1_block (G : Fin 2048 → EReal) (i : Fin 8) (r : Fin 256) :
    tap1 i.val (G ⟨8 * (32 * i.val - 1) + 7, by omega⟩) (fun x => G ⟨256 * i.val + x.val, by omega⟩) r = back 1 G ⟨256 * i.val + r.val, by omega⟩ := by
  unfold tap1 back
  split
  · split
    · rw [dif_neg]; show ¬ 1 ≤ 256 * i.val + r.val; omega
    · rw [dif_pos (show 1 ≤ 256 * i.val + r.val by omega)]
      exact congrArg G (Fin.ext (show 8 * (32 * i.val - 1) + 7 = 256 * i.val + r.val - 1 by omega))
  · rw [dif_pos (show 1 ≤ 256 * i.val + r.val by omega)]
    exact congrArg G (Fin.ext (show 256 * i.val + (r.val + 256 - 1) % 256 = 256 * i.val + r.val - 1 by omega))

theorem tap2_block (G : Fin 2048 → EReal) (i : Fin 8) (r : Fin 256) :
    tap2 i.val (G ⟨8 * (32 * i.val - 1) + 6, by omega⟩) (G ⟨8 * (32 * i.val - 1) + 7, by omega⟩) (fun x => G ⟨256 * i.val + x.val, by omega⟩) r
      = back 2 G ⟨256 * i.val + r.val, by omega⟩ := by
  unfold tap2 back
  split
  · split
    · rw [dif_neg]; show ¬ 2 ≤ 256 * i.val + r.val; omega
    · rw [dif_pos (show 2 ≤ 256 * i.val + r.val by omega)]
      exact congrArg G (Fin.ext (show 8 * (32 * i.val - 1) + 7 = 256 * i.val + r.val - 2 by omega))
  · split
    · split
      · rw [dif_neg]; show ¬ 2 ≤ 256 * i.val + r.val; omega
      · rw [dif_pos (show 2 ≤ 256 * i.val + r.val by omega)]
        exact congrArg G (Fin.ext (show 8 * (32 * i.val - 1) + 6 = 256 * i.val + r.val - 2 by omega))
    · rw [dif_pos (show 2 ≤ 256 * i.val + r.val by omega)]
      exact congrArg G (Fin.ext (show 256 * i.val + (r.val + 256 - 2) % 256 = 256 * i.val + r.val - 2 by omega))

theorem next1_block (G : Fin 2048 → EReal) (i : Fin 8) (r : Fin 256) :
    next1 (i.val = 7) (G ⟨8 * min (32 * (i.val + 1)) 255, by omega⟩) (fun x => G ⟨256 * i.val + x.val, by omega⟩) r = ahead 1 G ⟨256 * i.val + r.val, by omega⟩ := by
  unfold next1 ahead
  split
  · split
    · rw [dif_neg]; show ¬ 256 * i.val + r.val + 1 < 2048; omega
    · rw [dif_pos (show 256 * i.val + r.val + 1 < 2048 by omega)]
      exact congrArg G (Fin.ext (show 8 * min (32 * (i.val + 1)) 255 = 256 * i.val + r.val + 1 by omega))
  · rw [dif_pos (show 256 * i.val + r.val + 1 < 2048 by omega)]
    exact congrArg G (Fin.ext (show 256 * i.val + (r.val + 256 - 255) % 256 = 256 * i.val + r.val + 1 by omega))

theorem next2_block (G : Fin 2048 → EReal) (i : Fin 8) (r : Fin 256) :
    next2 (i.val = 7) (G ⟨8 * min (32 * (i.val + 1)) 255, by omega⟩) (G ⟨8 * min (32 * (i.val + 1)) 255 + 1, by omega⟩) (fun x => G ⟨256 * i.val + x.val, by omega⟩) r
      = ahead 2 G ⟨256 * i.val + r.val, by omega⟩ := by
  unfold next2 ahead
  split
  · split
    · rw [dif_neg]; show ¬ 256 * i.val + r.val + 2 < 2048; omega
    · rw [dif_pos (show 256 * i.val + r.val + 2 < 2048 by omega)]
      exact congrArg G (Fin.ext (show 8 * min (32 * (i.val + 1)) 255 + 1 = 256 * i.val + r.val + 2 by omega))
  · split
    · split
      · rw [dif_neg]; show ¬ 256 * i.val + r.val + 2 < 2048; omega
      · rw [dif_pos (show 256 * i.val + r.val + 2 < 2048 by omega)]
        exact congrArg G (Fin.ext (show 8 * min (32 * (i.val + 1)) 255 = 256 * i.val + r.val + 2 by omega))
    · rw [dif_pos (show 256 * i.val + r.val + 2 < 2048 by omega)]
      exact congrArg G (Fin.ext (show 256 * i.val + (r.val + 256 - 254) % 256 = 256 * i.val + r.val + 2 by omega))

/-! The padded width's columns are the width's, and zero beyond them. -/

theorem back_zero (n : ℕ) (r : Fin N) : back n (fun _ => 0) r = 0 := by unfold back; split <;> rfl

theorem ahead_zero (n : ℕ) (r : Fin N) : ahead n (fun _ => 0) r = 0 := by unfold ahead; split <;> rfl

variable {n : ℕ} (w : ℕ) (A : Fin N → Fin n → EReal) (W0 W1 W2 B U : Fin n → EReal) (r : Fin N) (p b : ℕ)

theorem slot_gated :
    gated (conv (slot w W0 p b) (slot w W1 p b) (slot w W2 p b) (slot w B p b) (fun t => slot w (A t) p b) r) (slot w U p b)
      = slot w (fun q => gated (conv (W0 q) (W1 q) (W2 q) (B q) (fun t => A t q) r) (U q)) p b := by
  unfold slot
  split
  · rfl
  · simp only [gated, mul_zero]

theorem slot_convGrad :
    convGrad (slot w W0 p b) (slot w W1 p b) (slot w W2 p b) (fun t => slot w (A t) p b) r
      = slot w (fun q => convGrad (W0 q) (W1 q) (W2 q) (fun t => A t q) r) p b := by
  unfold slot
  split
  · rfl
  · simp only [convGrad, ahead_zero, mul_zero, add_zero]

/-- A padded row of eight parts, as the layout's operations spell it, entry by entry. -/
theorem slot_dite_at {f : Fin n → EReal} {z : EReal} {w p b : ℕ} {F : p < 8 ∧ b < w → EReal} (hz : z = 0) (hn : n = 8 * w) (h : ∀ q : p < 8 ∧ b < w, p * w + b < n)
    (e : ∀ q : p < 8 ∧ b < w, f ⟨p * w + b, h q⟩ = F q) : slot w f p b = if q : p < 8 ∧ b < w then F q else z := by
  rw [slot_dite hz hn h]
  by_cases q : p < 8 ∧ b < w
  · rw [dif_pos q, dif_pos q, e q]
  · rw [dif_neg q, dif_neg q]

/-- The convolution with the taps on the right, its shifts read off a column that begins with two zeros. -/
theorem conv_eq (w0 w1 w2 b : EReal) (G : Fin N → EReal) :
    conv w0 w1 w2 b G r = (if h : r.val < 2 then 0 else G ⟨r.val - 2, by omega⟩) * w0
      + (if h : 1 + r.val < 2 then 0 else G ⟨1 + r.val - 2, by omega⟩) * w1 + G r * w2 + b := by
  have e2 : (if h : r.val < 2 then 0 else G ⟨r.val - 2, by omega⟩) = back 2 G r := by
    unfold back
    by_cases h : r.val < 2
    · rw [dif_pos h, dif_neg (by omega)]
    · rw [dif_neg h, dif_pos (by omega)]
  have e1 : (if h : 1 + r.val < 2 then 0 else G ⟨1 + r.val - 2, by omega⟩) = back 1 G r := by
    unfold back
    by_cases h : 1 + r.val < 2
    · rw [dif_pos h, dif_neg (by omega)]
    · rw [dif_neg h, dif_pos (by omega)]
      exact congrArg G (Fin.ext (show 1 + r.val - 2 = r.val - 1 by omega))
  rw [e1, e2, mul_comm _ w0, mul_comm _ w1, mul_comm _ w2]
  rfl

/-- The convolution's gradient with the taps on the right, its shifts read off columns padded with zeros. -/
theorem convGrad_eq (C : Prop) [Decidable C] (hC : C) (w0 w1 w2 : EReal) (D : Fin N → EReal) :
    convGrad w0 w1 w2 D r = D r * w2 + ((if h : (1 ≤ 2 + r.val ∧ 2 + r.val - 1 < N) ∧ C then D ⟨2 + r.val - 1, h.1.2⟩ * w1 else 0)
      + if h : 2 + r.val < N ∧ C then D ⟨2 + r.val, h.1⟩ * w0 else 0) := by
  have e1 : (if h : (1 ≤ 2 + r.val ∧ 2 + r.val - 1 < N) ∧ C then D ⟨2 + r.val - 1, h.1.2⟩ * w1 else 0) = w1 * ahead 1 D r := by
    unfold ahead
    by_cases h : r.val + 1 < N
    · rw [dif_pos h, dif_pos ⟨⟨by omega, by omega⟩, hC⟩, mul_comm]
      exact congrArg (fun q => w1 * D q) (Fin.ext (show 2 + r.val - 1 = r.val + 1 by omega))
    · rw [dif_neg h, dif_neg fun q => h (by omega), mul_zero]
  have e2 : (if h : 2 + r.val < N ∧ C then D ⟨2 + r.val, h.1⟩ * w0 else 0) = w0 * ahead 2 D r := by
    unfold ahead
    by_cases h : r.val + 2 < N
    · rw [dif_pos h, dif_pos ⟨by omega, hC⟩, mul_comm]
      exact congrArg (fun q => w0 * D q) (Fin.ext (show 2 + r.val = r.val + 2 by omega))
    · rw [dif_neg h, dif_neg fun q => h (by omega), mul_zero]
  rw [e1, e2, mul_comm _ w2, ← add_assoc]
  rfl

end Cert.Conv

end
-- ==== Proof.FfnAct.lean ====
/- The gated convolution: a block of 256 tokens and 1024 channels at a point, the two tokens before the block read from the
   eight rows before it. -/
module

public import proofs.«01_k».proof.Proof.Base
public import proofs.«01_k».proof.Proof.Parts
public import proofs.«01_k».proof.Proof.Gen.FfnAct.Frame
public import proofs.«01_k».proof.Proof.Gen.FfnActIdeal.Value
public import proofs.«01_k».proof.Proof.Gen.FfnActReferenceIdeal.Run
public import proofs.«01_k».proof.Proof.Conv

@[expose] public section

set_option maxRecDepth 16384

noncomputable section

namespace Cert.FfnActClaim

open Idealize.ShloMosaic Idealize.ShloMosaic.TcCoe Idealize.SL.Sem Cert.Parts Cert.Conv

/-- The gated convolution at token `r`, column `b` of the padded width. -/
def spec (A0 : (⟨2, ![2048, 5632]⟩ : Shape).Idx → EReal) (A1 : (⟨2, ![2048, 5632]⟩ : Shape).Idx → EReal) (A2 : (⟨2, ![3, 5632]⟩ : Shape).Idx → EReal) (A3 : (⟨2, ![1, 5632]⟩ : Shape).Idx → EReal) (r : Fin 2048) (b : Fin 6144) : EReal :=
  slot 704 (fun q => gated (conv (A2 (ix2 0 q)) (A2 (ix2 1 q)) (A2 (ix2 2 q)) (A3 (ix2 0 q)) (fun t => A0 (ix2 t q)) r) (A1 (ix2 r q))) (b / 768) (b % 768)

section Kernel

open Cert.FfnActIdeal Cert.FfnActIdeal.Gen Cert.FfnActIdeal.Value Idealize.ShloMosaic.StableHlo

variable (m : (ℓ : Loc nD τ sig) → Buf (Elt Ideal) ℓ) (c : Dev nD)

/-- The arguments. -/
abbrev arg0 : FVec Ideal S2048x5632 .f32 := m (c, Proc.devRef .tc main_arg0)
abbrev arg1 : FVec Ideal S2048x5632 .f32 := m (c, Proc.devRef .tc main_arg1)
abbrev arg2 : FVec Ideal S3x5632 .f32 := m (c, Proc.devRef .tc main_arg2)
abbrev arg3 : FVec Ideal S1x5632 .f32 := m (c, Proc.devRef .tc main_arg3)

/-! What the host prepares: each of the eight parts on whole lanes. -/

theorem v2_at (i : Fin 2048) (b : Fin 6144) :
    (V m c main_v2 : FVec Ideal S2048x6144 .f32) (ix2 i b) = slot 704 (fun q => arg0 m c (ix2 i q)) (b / 768) (b % 768) := by
  unfold V
  after_reads_simp
  simp only [TRef.toBuf, TRef.ofBuf, cast_eq]
  pointwise
  symm
  apply slot_dite
  · exact sitofp_zero _
  · rfl

theorem v5_at (i : Fin 2048) (b : Fin 6144) :
    (V m c main_v5 : FVec Ideal S2048x6144 .f32) (ix2 i b) = slot 704 (fun q => arg1 m c (ix2 i q)) (b / 768) (b % 768) := by
  unfold V
  after_reads_simp
  simp only [TRef.toBuf, TRef.ofBuf, cast_eq]
  pointwise
  symm
  apply slot_dite
  · exact sitofp_zero _
  · rfl

theorem v8_at (i : Fin 3) (b : Fin 6144) :
    (V m c main_v8 : FVec Ideal S3x6144 .f32) (ix2 i b) = slot 704 (fun q => arg2 m c (ix2 i q)) (b / 768) (b % 768) := by
  unfold V
  after_reads_simp
  simp only [TRef.toBuf, TRef.ofBuf, cast_eq]
  pointwise
  symm
  apply slot_dite
  · exact sitofp_zero _
  · rfl

theorem v11_at (i : Fin 1) (b : Fin 6144) :
    (V m c main_v11 : FVec Ideal S1x6144 .f32) (ix2 i b) = slot 704 (fun q => arg3 m c (ix2 i q)) (b / 768) (b % 768) := by
  obtain rfl : i = 0 := Subsingleton.elim _ _
  unfold V
  after_reads_simp
  simp only [TRef.toBuf, TRef.ofBuf, cast_eq]
  pointwise
  symm
  apply slot_dite
  · exact sitofp_zero _
  · rfl

theorem ld0 (v : Vec Ideal S256x1024 .f32) : View.ld v r0_0 = v :=
  View.ld_unit_zero zeros _ v

theorem ld1 (v : Vec Ideal S8x1024 .f32) : View.ld v r0_1 = v :=
  View.ld_unit_zero zeros _ v

theorem ld2 (v : Vec Ideal S3x1024 .f32) : View.ld v r0_2 = v :=
  View.ld_unit_zero zeros _ v

theorem ld3 (v : Vec Ideal S1x1024 .f32) : View.ld v r0_3 = v :=
  View.ld_unit_zero zeros _ v

theorem coord0 : ∀ p : Fin cfg0.N, (grid0.coords p 0).val = p.val / 6 := (by decide +kernel : ∀ p : Fin grid0.N, _)

/-! What a point computes, and where its blocks lie. -/

theorem out5_at (i : grid0.Coords) (x0 : Vec Ideal S256x1024 .f32) (x1 : Vec Ideal S8x1024 .f32) (x2 : Vec Ideal S256x1024 .f32) (x3 : Vec Ideal S3x1024 .f32) (x4 : Vec Ideal S1x1024 .f32) (r : Fin 256) (k : Fin 1024) :
    out0_5 i x0 x1 x2 x3 x4 (ix2 r k) = gated (x3 (ix2 0 k) * tap2 (i 0).val (x1 (ix2 6 k)) (x1 (ix2 7 k)) (fun q => x0 (ix2 q k)) r + x3 (ix2 1 k) * tap1 (i 0).val (x1 (ix2 7 k)) (fun q => x0 (ix2 q k)) r + x3 (ix2 2 k) * x0 (ix2 r k) + x4 (ix2 0 k)) (x2 (ix2 r k)) := by
  have h0 : (i 0).val < 8 := (i 0).isLt
  have s0 := select_eq (α := EReal) r.val 0 (by omega) (by decide)
  have s1 := select_eq (α := EReal) r.val 1 (by omega) (by decide)
  have f := select_eq (α := EReal) (i 0).val 0 (by omega) (by decide)
  unfold out0_5
  rw [View.canon_unit_zero zeros]
  simp only [ld0, ld1, ld2, ld3]
  unfold k0_pay1 k0_pay2 k0_pay4 k0_pay5 k0_pay6 k0_pay7 k0_pay8 k0_pay3 k0_pay4 k0_pay2
  pointwise
  simp only [Scalar.cmpi, s0, s1, f]
  rfl

theorem read0 (A : FVec Ideal S2048x6144 .f32) (p : Fin cfg0.N) (i : Fin 8) (j : Fin 6) (hi : p.val / 6 = i) (hj : p.val % 6 = j) (r : Fin 256) (k : Fin 1024) :
    (((cfg0.win 0).blk p).view.read (Elt Ideal) A : Vec Ideal S256x1024 .f32) (ix2 r k) = A (ix2 ⟨256 * i + r, by omega⟩ ⟨1024 * j + k, by omega⟩) := by
  have e := (by decide +kernel : ∀ p : Fin grid0.N, win0_0.index p = ![p.val / 6, p.val % 6]) p
  rw [hi, hj] at e
  refine congrArg A (?_ : ((cfg0.win 0).blk p).view.emb _ = _)
  blk_ext [e]

theorem read1 (A : FVec Ideal S2048x6144 .f32) (p : Fin cfg0.N) (i : Fin 8) (j : Fin 6) (hi : p.val / 6 = i) (hj : p.val % 6 = j) (r : Fin 8) (k : Fin 1024) :
    (((cfg0.win 1).blk p).view.read (Elt Ideal) A : Vec Ideal S8x1024 .f32) (ix2 r k) = A (ix2 ⟨8 * (32 * i.val - 1) + r.val, by omega⟩ ⟨1024 * j + k, by omega⟩) := by
  have e := (by decide +kernel : ∀ p : Fin grid0.N, win0_1.index p = ![32 * (p.val / 6) - 1, p.val % 6]) p
  rw [hi, hj] at e
  refine congrArg A (?_ : ((cfg0.win 1).blk p).view.emb _ = _)
  blk_ext [e]

theorem read2 (A : FVec Ideal S2048x6144 .f32) (p : Fin cfg0.N) (i : Fin 8) (j : Fin 6) (hi : p.val / 6 = i) (hj : p.val % 6 = j) (r : Fin 256) (k : Fin 1024) :
    (((cfg0.win 2).blk p).view.read (Elt Ideal) A : Vec Ideal S256x1024 .f32) (ix2 r k) = A (ix2 ⟨256 * i + r, by omega⟩ ⟨1024 * j + k, by omega⟩) := by
  have e := (by decide +kernel : ∀ p : Fin grid0.N, win0_2.index p = ![p.val / 6, p.val % 6]) p
  rw [hi, hj] at e
  refine congrArg A (?_ : ((cfg0.win 2).blk p).view.emb _ = _)
  blk_ext [e]

theorem read3 (A : FVec Ideal S3x6144 .f32) (p : Fin cfg0.N) (j : Fin 6) (hj : p.val % 6 = j) (r : Fin 3) (k : Fin 1024) :
    (((cfg0.win 3).blk p).view.read (Elt Ideal) A : Vec Ideal S3x1024 .f32) (ix2 r k) = A (ix2 r ⟨1024 * j + k, by omega⟩) := by
  have e := (by decide +kernel : ∀ p : Fin grid0.N, win0_3.index p = ![0, p.val % 6]) p
  rw [hj] at e
  refine congrArg A (?_ : ((cfg0.win 3).blk p).view.emb _ = _)
  blk_ext [e]

theorem read4 (A : FVec Ideal S1x6144 .f32) (p : Fin cfg0.N) (j : Fin 6) (hj : p.val % 6 = j) (k : Fin 1024) :
    (((cfg0.win 4).blk p).view.read (Elt Ideal) A : Vec Ideal S1x1024 .f32) (ix2 0 k) = A (ix2 0 ⟨1024 * j + k, by omega⟩) := by
  have e := (by decide +kernel : ∀ p : Fin grid0.N, win0_4.index p = ![0, p.val % 6]) p
  rw [hj] at e
  refine congrArg A (?_ : ((cfg0.win 4).blk p).view.emb _ = _)
  blk_ext [e]

theorem read5 (A : FVec Ideal S2048x6144 .bf16) (p : Fin cfg0.N) (i : Fin 8) (j : Fin 6) (hi : p.val / 6 = i) (hj : p.val % 6 = j) (r : Fin 256) (k : Fin 1024) :
    (((cfg0.win 5).blk p).view.read (Elt Ideal) A : Vec Ideal S256x1024 .bf16) (ix2 r k) = A (ix2 ⟨256 * i + r, by omega⟩ ⟨1024 * j + k, by omega⟩) := by
  have e := (by decide +kernel : ∀ p : Fin grid0.N, win0_5.index p = ![p.val / 6, p.val % 6]) p
  rw [hi, hj] at e
  refine congrArg A (?_ : ((cfg0.win 5).blk p).view.emb _ = _)
  blk_ext [e]

theorem flush5 : ∀ p : Fin cfg0.N, (cfg0.win 5).flush p = true := (by decide +kernel : ∀ p : Fin grid0.N, _)

theorem blk0_at (p : Fin cfg0.N) (i : Fin 8) (j : Fin 6) (hi : p.val / 6 = i) (hj : p.val % 6 = j) (r : Fin 256) (k : Fin 1024) :
    (iblk m c 0 p : Vec Ideal S256x1024 .f32) (ix2 r k) = slot 704 (fun q => arg0 m c (ix2 ⟨256 * i + r, by omega⟩ q)) ((1024 * j.val + k.val) / 768) ((1024 * j.val + k.val) % 768) :=
  (read0 (V m c main_v2 : FVec Ideal S2048x6144 .f32) p i j hi hj r k).trans (v2_at m c _ _)

theorem blk1_at (p : Fin cfg0.N) (i : Fin 8) (j : Fin 6) (hi : p.val / 6 = i) (hj : p.val % 6 = j) (r : Fin 8) (k : Fin 1024) :
    (iblk m c 1 p : Vec Ideal S8x1024 .f32) (ix2 r k) = slot 704 (fun q => arg0 m c (ix2 ⟨8 * (32 * i.val - 1) + r.val, by omega⟩ q)) ((1024 * j.val + k.val) / 768) ((1024 * j.val + k.val) % 768) :=
  (read1 (V m c main_v2 : FVec Ideal S2048x6144 .f32) p i j hi hj r k).trans (v2_at m c _ _)

theorem blk2_at (p : Fin cfg0.N) (i : Fin 8) (j : Fin 6) (hi : p.val / 6 = i) (hj : p.val % 6 = j) (r : Fin 256) (k : Fin 1024) :
    (iblk m c 2 p : Vec Ideal S256x1024 .f32) (ix2 r k) = slot 704 (fun q => arg1 m c (ix2 ⟨256 * i + r, by omega⟩ q)) ((1024 * j.val + k.val) / 768) ((1024 * j.val + k.val) % 768) :=
  (read2 (V m c main_v5 : FVec Ideal S2048x6144 .f32) p i j hi hj r k).trans (v5_at m c _ _)

theorem blk3_at (p : Fin cfg0.N) (j : Fin 6) (hj : p.val % 6 = j) (r : Fin 3) (k : Fin 1024) :
    (iblk m c 3 p : Vec Ideal S3x1024 .f32) (ix2 r k) = slot 704 (fun q => arg2 m c (ix2 r q)) ((1024 * j.val + k.val) / 768) ((1024 * j.val + k.val) % 768) :=
  (read3 (V m c main_v8 : FVec Ideal S3x6144 .f32) p j hj r k).trans (v8_at m c _ _)

theorem blk4_at (p : Fin cfg0.N) (j : Fin 6) (hj : p.val % 6 = j) (k : Fin 1024) :
    (iblk m c 4 p : Vec Ideal S1x1024 .f32) (ix2 0 k) = slot 704 (fun q => arg3 m c (ix2 0 q)) ((1024 * j.val + k.val) / 768) ((1024 * j.val + k.val) % 768) :=
  (read4 (V m c main_v11 : FVec Ideal S1x6144 .f32) p j hj k).trans (v11_at m c _ _)

/-- The array the call returns, entry by entry. -/
theorem result5_at (i : Fin 8) (j : Fin 6) (r : Fin 256) (k : Fin 1024) :
    ((dats m 0 c).arrAt 5 cfg0.N : FVec Ideal S2048x6144 .bf16) (ix2 ⟨256 * i + r, by omega⟩ ⟨1024 * j + k, by omega⟩) = spec (arg0 m c) (arg1 m c) (arg2 m c) (arg3 m c) ⟨256 * i + r, by omega⟩ ⟨1024 * j + k, by omega⟩ := by
  have hN : cfg0.N = 48 := N_0
  let p : Fin cfg0.N := ⟨6 * i + j, by omega⟩
  have hi : p.val / 6 = i := by show (6 * i.val + j.val) / 6 = i.val; omega
  have hj : p.val % 6 = j := by show (6 * i.val + j.val) % 6 = j.val; omega
  refine (read5 _ p i j hi hj r k).symm.trans ((congrFun ((blocks5 m c p (flush5 p)).trans (flushed5 m c p)) (ix2 r k)).trans ?_)
  refine (out5_at _ _ _ _ _ _ r k).trans ?_
  have e1 := tap1_block (fun t => slot 704 (fun q => arg0 m c (ix2 t q)) ((1024 * j.val + k.val) / 768) ((1024 * j.val + k.val) % 768)) i r
  have e2 := tap2_block (fun t => slot 704 (fun q => arg0 m c (ix2 t q)) ((1024 * j.val + k.val) / 768) ((1024 * j.val + k.val) % 768)) i r
  simp only [coord0, hi, blk0_at m c p i j hi hj, blk1_at m c p i j hi hj, blk2_at m c p i j hi hj, blk3_at m c p j hj, blk4_at m c p j hj]
  exact (congrArg₂ (fun a b => gated (_ * a + _ * b + _ * _ + _) _) e2 e1).trans
    (slot_gated 704 (fun t q => arg0 m c (ix2 t q)) (fun q => arg2 m c (ix2 0 q)) (fun q => arg2 m c (ix2 1 q)) (fun q => arg2 m c (ix2 2 q))
      (fun q => arg3 m c (ix2 0 q)) (fun q => arg1 m c (ix2 ⟨256 * i + r, by omega⟩ q)) _ _ _)

end Kernel

section Reference

open Cert.FfnActReferenceIdeal Cert.FfnActReferenceIdeal.Gen Cert.FfnActReferenceIdeal.Value

theorem reference5_at (A0 : FVec Ideal S2048x5632 .f32) (A1 : FVec Ideal S2048x5632 .f32) (A2 : FVec Ideal S3x5632 .f32) (A3 : FVec Ideal S1x5632 .f32) (r : Fin 2048) (b : Fin 6144) :
    (truncf .bf16 (shapeCast _ (pad S2048x8x768 ![0, 0, 0] ![0, 0, 64] ![0, 0, 0] (shapeCast _ (mulf (mulf (addf (addf (addf (mulf (extractStridedSlice S2048x5632 ![0, 0] (concatenate S2050x5632 0 [⟨S2x5632, (broadcastInDim S2x5632 ![] bcast_S_S2x5632 (constant S_ .f32 0x00000000#32))⟩, ⟨S2048x5632, A0⟩] concatenates_S2x5632_S2048x5632_S2050x5632_d0) slices_S2050x5632_S2048x5632_0_0) (broadcastInDim S2048x5632 ![0, 1] bcast_S1x5632_S2048x5632_0_1 (extractStridedSlice S1x5632 ![0, 0] A2 slices_S3x5632_S1x5632_0_0))) (mulf (extractStridedSlice S2048x5632 ![1, 0] (concatenate S2050x5632 0 [⟨S2x5632, (broadcastInDim S2x5632 ![] bcast_S_S2x5632 (constant S_ .f32 0x00000000#32))⟩, ⟨S2048x5632, A0⟩] concatenates_S2x5632_S2048x5632_S2050x5632_d0) slices_S2050x5632_S2048x5632_1_0) (broadcastInDim S2048x5632 ![0, 1] bcast_S1x5632_S2048x5632_0_1 (extractStridedSlice S1x5632 ![1, 0] A2 slices_S3x5632_S1x5632_1_0)))) (mulf A0 (broadcastInDim S2048x5632 ![0, 1] bcast_S1x5632_S2048x5632_0_1 (extractStridedSlice S1x5632 ![2, 0] A2 slices_S3x5632_S1x5632_2_0)))) (broadcastInDim S2048x5632 ![0, 1] bcast_S1x5632_S2048x5632_0_1 A3)) (Host.divf (broadcastInDim S2048x5632 ![] bcast_S_S2048x5632 (constant S_ .f32 0x3F800000#32)) (addf (broadcastInDim S2048x5632 ![] bcast_S_S2048x5632 (constant S_ .f32 0x3F800000#32)) (Host.exp (Host.negf (addf (addf (addf (mulf (extractStridedSlice S2048x5632 ![0, 0] (concatenate S2050x5632 0 [⟨S2x5632, (broadcastInDim S2x5632 ![] bcast_S_S2x5632 (constant S_ .f32 0x00000000#32))⟩, ⟨S2048x5632, A0⟩] concatenates_S2x5632_S2048x5632_S2050x5632_d0) slices_S2050x5632_S2048x5632_0_0) (broadcastInDim S2048x5632 ![0, 1] bcast_S1x5632_S2048x5632_0_1 (extractStridedSlice S1x5632 ![0, 0] A2 slices_S3x5632_S1x5632_0_0))) (mulf (extractStridedSlice S2048x5632 ![1, 0] (concatenate S2050x5632 0 [⟨S2x5632, (broadcastInDim S2x5632 ![] bcast_S_S2x5632 (constant S_ .f32 0x00000000#32))⟩, ⟨S2048x5632, A0⟩] concatenates_S2x5632_S2048x5632_S2050x5632_d0) slices_S2050x5632_S2048x5632_1_0) (broadcastInDim S2048x5632 ![0, 1] bcast_S1x5632_S2048x5632_0_1 (extractStridedSlice S1x5632 ![1, 0] A2 slices_S3x5632_S1x5632_1_0)))) (mulf A0 (broadcastInDim S2048x5632 ![0, 1] bcast_S1x5632_S2048x5632_0_1 (extractStridedSlice S1x5632 ![2, 0] A2 slices_S3x5632_S1x5632_2_0)))) (broadcastInDim S2048x5632 ![0, 1] bcast_S1x5632_S2048x5632_0_1 A3))))))) A1) shapeCasts_S2048x5632_S2048x8x704) (sitofp .f32 (constantI S_ 32 0#32)) pads_S2048x8x704_S2048x8x768_000_000_0640 h_S_) shapeCasts_S2048x8x768_S2048x6144) bitsLt_bf16_f32 : FVec Ideal S2048x6144 .bf16) (ix2 r b) = spec A0 A1 A2 A3 r b := by
  unfold spec
  pointwise
  symm
  refine slot_dite_at (sitofp_zero _) rfl (fun q => by omega) fun q => ?_
  exact congrArg (fun x => gated x _) (conv_eq _ _ _ _ _ _)

end Reference

/-- Over the extended reals the call's result is the reference's. -/
theorem algebraic : Cert.algebraic_FfnActIdeal_FfnActReferenceIdeal := by
  intro m ρ m' ρ' _ hagree
  refine ⟨_, Cert.FfnActIdeal.Value.run_blocks (F := Ideal) m ρ, ?_⟩
  refine (θ_run Cert.FfnActReferenceIdeal.defs _ _).mono (fun _ h c => ?_) (Cert.FfnActReferenceIdeal.Value.run (F := Ideal) m' ρ')
  obtain ⟨g0, g1, g2, g3⟩ := hagree c
  refine ⟨(h c).1.trans (funext fun i => ?_), (h c).2⟩
  · obtain ⟨r, b, rfl⟩ : ∃ r b, i = ix2 r b := ⟨i 0, i 1, eq_ix2 i⟩
    obtain ⟨i, r, rfl⟩ : ∃ (i : Fin 8) (q : Fin 256), r = ⟨256 * i + q, by omega⟩ :=
      ⟨⟨r / 256, by omega⟩, ⟨r % 256, by omega⟩, Fin.ext (show r.val = 256 * (r.val / 256) + r.val % 256 by omega)⟩
    obtain ⟨j, b, rfl⟩ : ∃ (j : Fin 6) (q : Fin 1024), b = ⟨1024 * j + q, by omega⟩ :=
      ⟨⟨b / 1024, by omega⟩, ⟨b % 1024, by omega⟩, Fin.ext (show b.val = 1024 * (b.val / 1024) + b.val % 1024 by omega)⟩
    refine (reference5_at _ _ _ _  _ _ ).trans (Eq.trans ?_ (result5_at m c i j r b).symm)
    exact (congrArg (fun A => spec A _ _ _ _ _) g0).trans ((congrArg (fun A => spec _ A _ _ _ _) g1).trans ((congrArg (fun A => spec _ _ A _ _ _) g2).trans (congrArg (fun A => spec _ _ _ A _ _) g3)))

end Cert.FfnActClaim

end
-- ==== Proof.DConv.lean ====
/- The convolution's gradient with respect to its input: a block of 256 tokens and 1024 channels at a point, the two tokens
   after the block read from the eight rows after it. -/
module

public import proofs.«01_k».proof.Proof.Base
public import proofs.«01_k».proof.Proof.Parts
public import proofs.«01_k».proof.Proof.Gen.DConv.Frame
public import proofs.«01_k».proof.Proof.Gen.DConvIdeal.Value
public import proofs.«01_k».proof.Proof.Gen.DConvReferenceIdeal.Run
public import proofs.«01_k».proof.Proof.Conv

@[expose] public section

set_option maxRecDepth 16384

noncomputable section

namespace Cert.DConvClaim

open Idealize.ShloMosaic Idealize.ShloMosaic.TcCoe Idealize.SL.Sem Cert.Parts Cert.Conv

/-- The gradient at token `r`, column `b` of the padded width. -/
def spec (A0 : (⟨2, ![2048, 5632]⟩ : Shape).Idx → EReal) (A1 : (⟨2, ![3, 5632]⟩ : Shape).Idx → EReal) (r : Fin 2048) (b : Fin 6144) : EReal :=
  slot 704 (fun q => convGrad (A1 (ix2 0 q)) (A1 (ix2 1 q)) (A1 (ix2 2 q)) (fun t => A0 (ix2 t q)) r) (b / 768) (b % 768)

section Kernel

open Cert.DConvIdeal Cert.DConvIdeal.Gen Cert.DConvIdeal.Value Idealize.ShloMosaic.StableHlo

variable (m : (ℓ : Loc nD τ sig) → Buf (Elt Ideal) ℓ) (c : Dev nD)

/-- The arguments. -/
abbrev arg0 : FVec Ideal S2048x5632 .f32 := m (c, Proc.devRef .tc main_arg0)
abbrev arg1 : FVec Ideal S3x5632 .f32 := m (c, Proc.devRef .tc main_arg1)

/-! What the host prepares: each of the eight parts on whole lanes. -/

theorem v2_at (i : Fin 2048) (b : Fin 6144) :
    (V m c main_v2 : FVec Ideal S2048x6144 .f32) (ix2 i b) = slot 704 (fun q => arg0 m c (ix2 i q)) (b / 768) (b % 768) := by
  unfold V
  after_reads_simp
  simp only [TRef.toBuf, TRef.ofBuf, cast_eq]
  pointwise
  symm
  apply slot_dite
  · exact sitofp_zero _
  · rfl

theorem v5_at (i : Fin 3) (b : Fin 6144) :
    (V m c main_v5 : FVec Ideal S3x6144 .f32) (ix2 i b) = slot 704 (fun q => arg1 m c (ix2 i q)) (b / 768) (b % 768) := by
  unfold V
  after_reads_simp
  simp only [TRef.toBuf, TRef.ofBuf, cast_eq]
  pointwise
  symm
  apply slot_dite
  · exact sitofp_zero _
  · rfl

theorem ld0 (v : Vec Ideal S256x1024 .f32) : View.ld v r0_0 = v :=
  View.ld_unit_zero zeros _ v

theorem ld1 (v : Vec Ideal S3x1024 .f32) : View.ld v r0_1 = v :=
  View.ld_unit_zero zeros _ v

theorem ld2 (v : Vec Ideal S8x1024 .f32) : View.ld v r0_2 = v :=
  View.ld_unit_zero zeros _ v

theorem coord0 : ∀ p : Fin cfg0.N, (grid0.coords p 0).val = p.val / 6 := (by decide +kernel : ∀ p : Fin grid0.N, _)

/-! What a point computes, and where its blocks lie. -/

theorem out3_at (i : grid0.Coords) (x0 : Vec Ideal S256x1024 .f32) (x1 : Vec Ideal S8x1024 .f32) (x2 : Vec Ideal S3x1024 .f32) (r : Fin 256) (k : Fin 1024) :
    out0_3 i x0 x1 x2 (ix2 r k) = x2 (ix2 2 k) * x0 (ix2 r k) + x2 (ix2 1 k) * next1 ((i 0).val = 7) (x1 (ix2 0 k)) (fun q => x0 (ix2 q k)) r + x2 (ix2 0 k) * next2 ((i 0).val = 7) (x1 (ix2 0 k)) (x1 (ix2 1 k)) (fun q => x0 (ix2 q k)) r := by
  have h0 : (i 0).val < 8 := (i 0).isLt
  have s254 := select_eq (α := EReal) r.val 254 (by omega) (by decide)
  have s255 := select_eq (α := EReal) r.val 255 (by omega) (by decide)
  have f := select_eq (α := EReal) (i 0).val 7 (by omega) (by decide)
  unfold out0_3
  rw [View.canon_unit_zero zeros]
  simp only [ld0, ld1, ld2]
  unfold k0_pay1 k0_pay4 k0_pay5 k0_pay6 k0_pay7 k0_pay3 k0_pay2
  pointwise
  simp only [Scalar.cmpi, s254, s255, f]
  rfl

theorem read0 (A : FVec Ideal S2048x6144 .f32) (p : Fin cfg0.N) (i : Fin 8) (j : Fin 6) (hi : p.val / 6 = i) (hj : p.val % 6 = j) (r : Fin 256) (k : Fin 1024) :
    (((cfg0.win 0).blk p).view.read (Elt Ideal) A : Vec Ideal S256x1024 .f32) (ix2 r k) = A (ix2 ⟨256 * i + r, by omega⟩ ⟨1024 * j + k, by omega⟩) := by
  have e := (by decide +kernel : ∀ p : Fin grid0.N, win0_0.index p = ![p.val / 6, p.val % 6]) p
  rw [hi, hj] at e
  refine congrArg A (?_ : ((cfg0.win 0).blk p).view.emb _ = _)
  blk_ext [e]

theorem read1 (A : FVec Ideal S2048x6144 .f32) (p : Fin cfg0.N) (i : Fin 8) (j : Fin 6) (hi : p.val / 6 = i) (hj : p.val % 6 = j) (r : Fin 8) (k : Fin 1024) :
    (((cfg0.win 1).blk p).view.read (Elt Ideal) A : Vec Ideal S8x1024 .f32) (ix2 r k) = A (ix2 ⟨8 * (min (32 * (i.val + 1)) 255) + r.val, by omega⟩ ⟨1024 * j + k, by omega⟩) := by
  have e := (by decide +kernel : ∀ p : Fin grid0.N, win0_1.index p = ![min (32 * ((p.val / 6) + 1)) 255, p.val % 6]) p
  rw [hi, hj] at e
  refine congrArg A (?_ : ((cfg0.win 1).blk p).view.emb _ = _)
  blk_ext [e]

theorem read2 (A : FVec Ideal S3x6144 .f32) (p : Fin cfg0.N) (j : Fin 6) (hj : p.val % 6 = j) (r : Fin 3) (k : Fin 1024) :
    (((cfg0.win 2).blk p).view.read (Elt Ideal) A : Vec Ideal S3x1024 .f32) (ix2 r k) = A (ix2 r ⟨1024 * j + k, by omega⟩) := by
  have e := (by decide +kernel : ∀ p : Fin grid0.N, win0_2.index p = ![0, p.val % 6]) p
  rw [hj] at e
  refine congrArg A (?_ : ((cfg0.win 2).blk p).view.emb _ = _)
  blk_ext [e]

theorem read3 (A : FVec Ideal S2048x6144 .bf16) (p : Fin cfg0.N) (i : Fin 8) (j : Fin 6) (hi : p.val / 6 = i) (hj : p.val % 6 = j) (r : Fin 256) (k : Fin 1024) :
    (((cfg0.win 3).blk p).view.read (Elt Ideal) A : Vec Ideal S256x1024 .bf16) (ix2 r k) = A (ix2 ⟨256 * i + r, by omega⟩ ⟨1024 * j + k, by omega⟩) := by
  have e := (by decide +kernel : ∀ p : Fin grid0.N, win0_3.index p = ![p.val / 6, p.val % 6]) p
  rw [hi, hj] at e
  refine congrArg A (?_ : ((cfg0.win 3).blk p).view.emb _ = _)
  blk_ext [e]

theorem flush3 : ∀ p : Fin cfg0.N, (cfg0.win 3).flush p = true := (by decide +kernel : ∀ p : Fin grid0.N, _)

theorem blk0_at (p : Fin cfg0.N) (i : Fin 8) (j : Fin 6) (hi : p.val / 6 = i) (hj : p.val % 6 = j) (r : Fin 256) (k : Fin 1024) :
    (iblk m c 0 p : Vec Ideal S256x1024 .f32) (ix2 r k) = slot 704 (fun q => arg0 m c (ix2 ⟨256 * i + r, by omega⟩ q)) ((1024 * j.val + k.val) / 768) ((1024 * j.val + k.val) % 768) :=
  (read0 (V m c main_v2 : FVec Ideal S2048x6144 .f32) p i j hi hj r k).trans (v2_at m c _ _)

theorem blk1_at (p : Fin cfg0.N) (i : Fin 8) (j : Fin 6) (hi : p.val / 6 = i) (hj : p.val % 6 = j) (r : Fin 8) (k : Fin 1024) :
    (iblk m c 1 p : Vec Ideal S8x1024 .f32) (ix2 r k) = slot 704 (fun q => arg0 m c (ix2 ⟨8 * (min (32 * (i.val + 1)) 255) + r.val, by omega⟩ q)) ((1024 * j.val + k.val) / 768) ((1024 * j.val + k.val) % 768) :=
  (read1 (V m c main_v2 : FVec Ideal S2048x6144 .f32) p i j hi hj r k).trans (v2_at m c _ _)

theorem blk2_at (p : Fin cfg0.N) (j : Fin 6) (hj : p.val % 6 = j) (r : Fin 3) (k : Fin 1024) :
    (iblk m c 2 p : Vec Ideal S3x1024 .f32) (ix2 r k) = slot 704 (fun q => arg1 m c (ix2 r q)) ((1024 * j.val + k.val) / 768) ((1024 * j.val + k.val) % 768) :=
  (read2 (V m c main_v5 : FVec Ideal S3x6144 .f32) p j hj r k).trans (v5_at m c _ _)

/-- The array the call returns, entry by entry. -/
theorem result3_at (i : Fin 8) (j : Fin 6) (r : Fin 256) (k : Fin 1024) :
    ((dats m 0 c).arrAt 3 cfg0.N : FVec Ideal S2048x6144 .bf16) (ix2 ⟨256 * i + r, by omega⟩ ⟨1024 * j + k, by omega⟩) = spec (arg0 m c) (arg1 m c) ⟨256 * i + r, by omega⟩ ⟨1024 * j + k, by omega⟩ := by
  have hN : cfg0.N = 48 := N_0
  let p : Fin cfg0.N := ⟨6 * i + j, by omega⟩
  have hi : p.val / 6 = i := by show (6 * i.val + j.val) / 6 = i.val; omega
  have hj : p.val % 6 = j := by show (6 * i.val + j.val) % 6 = j.val; omega
  refine (read3 _ p i j hi hj r k).symm.trans ((congrFun ((blocks3 m c p (flush3 p)).trans (flushed3 m c p)) (ix2 r k)).trans ?_)
  refine (out3_at _ _ _ _ r k).trans ?_
  have e1 := next1_block (fun t => slot 704 (fun q => arg0 m c (ix2 t q)) ((1024 * j.val + k.val) / 768) ((1024 * j.val + k.val) % 768)) i r
  have e2 := next2_block (fun t => slot 704 (fun q => arg0 m c (ix2 t q)) ((1024 * j.val + k.val) / 768) ((1024 * j.val + k.val) % 768)) i r
  simp only [coord0, hi, blk0_at m c p i j hi hj, blk1_at m c p i j hi hj, blk2_at m c p j hj]
  exact (congrArg₂ (fun a b => _ * _ + _ * a + _ * b) e1 e2).trans
    (slot_convGrad 704 (fun t q => arg0 m c (ix2 t q)) (fun q => arg1 m c (ix2 0 q)) (fun q => arg1 m c (ix2 1 q)) (fun q => arg1 m c (ix2 2 q)) _ _ _)

end Kernel

section Reference

open Cert.DConvReferenceIdeal Cert.DConvReferenceIdeal.Gen Cert.DConvReferenceIdeal.Value

theorem reference3_at (A0 : FVec Ideal S2048x5632 .f32) (A1 : FVec Ideal S3x5632 .f32) (r : Fin 2048) (b : Fin 6144) :
    (truncf .bf16 (shapeCast _ (pad S2048x8x768 ![0, 0, 0] ![0, 0, 64] ![0, 0, 0] (shapeCast _ (addf (mulf (shapeCast _ A0 shapeCasts_S2048x5632_S2048x5632) (broadcastInDim S2048x5632 ![0, 1] bcast_S1x5632_S2048x5632_0_1 (extractStridedSlice S1x5632 ![2, 0] A1 slices_S3x5632_S1x5632_2_0))) (extractStridedSlice S2048x5632 ![2, 0] (addf (pad S2050x5632 ![1, 0] ![1, 0] ![0, 0] (mulf (shapeCast _ A0 shapeCasts_S2048x5632_S2048x5632) (broadcastInDim S2048x5632 ![0, 1] bcast_S1x5632_S2048x5632_0_1 (extractStridedSlice S1x5632 ![1, 0] A1 slices_S3x5632_S1x5632_1_0))) (constant S_ .f32 0x00000000#32) pads_S2048x5632_S2050x5632_110_000 h_S_) (pad S2050x5632 ![0, 0] ![2, 0] ![0, 0] (mulf (shapeCast _ A0 shapeCasts_S2048x5632_S2048x5632) (broadcastInDim S2048x5632 ![0, 1] bcast_S1x5632_S2048x5632_0_1 (extractStridedSlice S1x5632 ![0, 0] A1 slices_S3x5632_S1x5632_0_0))) (constant S_ .f32 0x00000000#32) pads_S2048x5632_S2050x5632_020_000 h_S_)) slices_S2050x5632_S2048x5632_2_0)) shapeCasts_S2048x5632_S2048x8x704) (sitofp .f32 (constantI S_ 32 0#32)) pads_S2048x8x704_S2048x8x768_000_000_0640 h_S_) shapeCasts_S2048x8x768_S2048x6144) bitsLt_bf16_f32 : FVec Ideal S2048x6144 .bf16) (ix2 r b) = spec A0 A1 r b := by
  unfold spec
  pointwise
  symm
  refine slot_dite_at (sitofp_zero _) rfl (fun q => by omega) fun q => ?_
  exact convGrad_eq _ (b.val / 768 * 704 + b.val % 768 < 5632) (by omega) _ _ _ _

end Reference

/-- Over the extended reals the call's result is the reference's. -/
theorem algebraic : Cert.algebraic_DConvIdeal_DConvReferenceIdeal := by
  intro m ρ m' ρ' _ hagree
  refine ⟨_, Cert.DConvIdeal.Value.run_blocks (F := Ideal) m ρ, ?_⟩
  refine (θ_run Cert.DConvReferenceIdeal.defs _ _).mono (fun _ h c => ?_) (Cert.DConvReferenceIdeal.Value.run (F := Ideal) m' ρ')
  obtain ⟨g0, g1⟩ := hagree c
  refine ⟨(h c).1.trans (funext fun i => ?_), (h c).2⟩
  · obtain ⟨r, b, rfl⟩ : ∃ r b, i = ix2 r b := ⟨i 0, i 1, eq_ix2 i⟩
    obtain ⟨i, r, rfl⟩ : ∃ (i : Fin 8) (q : Fin 256), r = ⟨256 * i + q, by omega⟩ :=
      ⟨⟨r / 256, by omega⟩, ⟨r % 256, by omega⟩, Fin.ext (show r.val = 256 * (r.val / 256) + r.val % 256 by omega)⟩
    obtain ⟨j, b, rfl⟩ : ∃ (j : Fin 6) (q : Fin 1024), b = ⟨1024 * j + q, by omega⟩ :=
      ⟨⟨b / 1024, by omega⟩, ⟨b % 1024, by omega⟩, Fin.ext (show b.val = 1024 * (b.val / 1024) + b.val % 1024 by omega)⟩
    refine (reference3_at _ _  _ _ ).trans (Eq.trans ?_ (result3_at m c i j r b).symm)
    exact (congrArg (fun A => spec A _ _ _) g0).trans (congrArg (fun A => spec _ A _ _) g1)

end Cert.DConvClaim

end
-- ==== Proof.Adam.lean ====
/- AdamW's update of a device's part of a weight, as sums and products of extended reals. -/
module

public import Idealize.ShloMosaic.PureOps.Ideal.Laws
public import Mathlib.Data.EReal.Operations
public import Idealize.ShloMosaic.Lib.Pointwise

@[expose] public section

noncomputable section

namespace Cert.Adam

open Idealize.ShloMosaic

/-- The first moment after a gradient `g`. -/
def momentum (M g : EReal) : EReal := Ideal.ofBits FTy.f32 0x3F666666#32 * M + Ideal.ofBits FTy.f32 0x3DCCCCCD#32 * g

/-- The second moment after a gradient `g`. -/
def second (V g : EReal) : EReal := Ideal.ofBits FTy.f32 0x3F7FBE77#32 * V + Ideal.ofBits FTy.f32 0x3A83126F#32 * (g * g)

/-- What the weight changes by: the corrected first moment over the root of the corrected second, and the weight's decay. -/
def change (W M V : EReal) : EReal :=
  Ideal.ofBits FTy.f32 0xBA83126F#32 *
    (Ideal.div (Ideal.div M (Ideal.ofBits FTy.f32 0x3F26BD02#32))
        (Ideal.sqrt (Ideal.div V (Ideal.ofBits FTy.f32 0x3C231ACC#32)) + Ideal.ofBits FTy.f32 0x322BCC77#32) +
      Ideal.ofBits FTy.f32 0x3C23D70A#32 * W)

variable {a b : ℕ}

/-- A device's part of a weight of `a` rows of `b`. -/
abbrev Part (a b : ℕ) : Type := (⟨3, ![1, a, b]⟩ : Shape).Idx → EReal

/-- The sum of the four chips' gradients. -/
def gradOf (G : (⟨3, ![4, a, b]⟩ : Shape).Idx → EReal) : Part a b := fun i => ∑ s : Fin 4, G (ix3 s (i 1) (i 2))

/-- The first moment of every entry. -/
def momentumOf (M : Part a b) (G : (⟨3, ![4, a, b]⟩ : Shape).Idx → EReal) : Part a b := fun i => momentum (M i) (gradOf G i)

/-- The second moment of every entry. -/
def secondOf (V : Part a b) (G : (⟨3, ![4, a, b]⟩ : Shape).Idx → EReal) : Part a b := fun i => second (V i) (gradOf G i)

/-- What every entry changes by. -/
def changeOf (W M V : Part a b) (G : (⟨3, ![4, a, b]⟩ : Shape).Idx → EReal) : Part a b :=
  fun i => change (W i) (momentumOf M G i) (secondOf V G i)

/-- Two parts with the same entries are equal. -/
theorem ext_part {X Y : Part a b} (h : ∀ r l, X (ix3 0 r l) = Y (ix3 0 r l)) : X = Y := by
  funext j
  obtain ⟨z, r, l, rfl⟩ : ∃ z r l, j = ix3 z r l := ⟨j 0, j 1, j 2, eq_ix3 j⟩
  obtain rfl : z = 0 := Subsingleton.elim _ _
  exact h r l

/-- Two parts whose blocks of `t` rows have the same entries are equal. -/
theorem ext_blocks {n t : ℕ} (ht : 0 < t) {X Y : Part (t * n) b}
    (h : ∀ (i : Fin n) (k : Fin t) (l : Fin b) (hk : t * i + k < t * n),
      X (ix3 0 ⟨t * i + k, hk⟩ l) = Y (ix3 0 ⟨t * i + k, hk⟩ l)) : X = Y := by
  refine ext_part fun r l => ?_
  have e := Nat.div_add_mod r.val t
  have hr : t * (r.val / t) + r.val % t < t * n := e.trans_lt r.isLt
  have := h ⟨r / t, Nat.div_lt_of_lt_mul r.isLt⟩ ⟨r % t, Nat.mod_lt _ ht⟩ l hr
  rwa [show (⟨t * (r.val / t) + r.val % t, hr⟩ : Fin (t * n)) = r from Fin.ext e] at this

/-- What is written block by block from the blocks of a weight, its moments and its gradient is AdamW's update. -/
theorem updates {n t : ℕ} (ht : 0 < t) {W M V R D P Q : Part (t * n) b} {G : (⟨3, ![4, t * n, b]⟩ : Shape).Idx → EReal}
    (h : ∀ (i : Fin n) (k : Fin t) (l : Fin b) (hk : t * i + k < t * n), ∃ w m v g : EReal,
      w = W (ix3 0 ⟨t * i + k, hk⟩ l) ∧ m = M (ix3 0 ⟨t * i + k, hk⟩ l) ∧ v = V (ix3 0 ⟨t * i + k, hk⟩ l) ∧
      g = gradOf G (ix3 0 ⟨t * i + k, hk⟩ l) ∧ R (ix3 0 ⟨t * i + k, hk⟩ l) = g ∧
      D (ix3 0 ⟨t * i + k, hk⟩ l) = change w (momentum m g) (second v g) ∧
      P (ix3 0 ⟨t * i + k, hk⟩ l) = momentum m g ∧ Q (ix3 0 ⟨t * i + k, hk⟩ l) = second v g) :
    R = gradOf G ∧ D = changeOf W M V G ∧ P = momentumOf M G ∧ Q = secondOf V G := by
  refine ⟨ext_blocks ht fun i k l hk => ?_, ext_blocks ht fun i k l hk => ?_, ext_blocks ht fun i k l hk => ?_,
    ext_blocks ht fun i k l hk => ?_⟩ <;>
    obtain ⟨w, m, v, g, rfl, rfl, rfl, rfl, hR, hD, hP, hQ⟩ := h i k l hk
  · exact hR
  · exact hD
  · exact hP
  · exact hQ

end Cert.Adam

end
-- ==== Proof.AdamwIn.lean ====
/- The sum of the four chips' gradients of a device's part of the input projection's weight and AdamW's update of that part, block by
   block of its rows. -/
module

public import proofs.«01_k».proof.Proof.Base
public import proofs.«01_k».proof.Proof.Adam
public import proofs.«01_k».proof.Proof.Gen.AdamwIn.Frame
public import proofs.«01_k».proof.Proof.Gen.AdamwInIdeal.Value
public import proofs.«01_k».proof.Proof.Gen.AdamwInReferenceIdeal.Run

@[expose] public section

set_option maxRecDepth 16384

noncomputable section

namespace Cert.AdamwInClaim

open Idealize.ShloMosaic Idealize.ShloMosaic.TcCoe Idealize.SL.Sem Cert.Adam

section Kernel

open Cert.AdamwInIdeal Cert.AdamwInIdeal.Gen Cert.AdamwInIdeal.Value Idealize.ShloMosaic.StableHlo

theorem ld0 (v : Vec Ideal S256x640 .f32) : View.ld v r0_0 = v := View.ld_unit_zero zeros _ v
theorem ld1 (v : Vec Ideal S1x256x640 .bf16) : View.ld v r0_1 = v := View.ld_unit_zero zeros _ v
theorem ld2 (v : Vec Ideal S1x256x556 .f32) : View.ld v r0_2 = v := View.ld_unit_zero zeros _ v

section Point

variable (x0 : Vec Ideal S256x640 .f32) (x1 x2 x3 : Vec Ideal S1x256x640 .bf16) (x4 x5 x6 : Vec Ideal S1x256x556 .f32) (k : Fin 256) (l : Fin 556)

/-- The sum of a point's four blocks at an entry. -/
def total : EReal := x0 (ix2 k ⟨l, by omega⟩) + x1 (ix3 0 k ⟨l, by omega⟩) + x2 (ix3 0 k ⟨l, by omega⟩) + x3 (ix3 0 k ⟨l, by omega⟩)

/-- A point writes the sum, … -/
theorem out7_at : out0_7 x0 x1 x2 x3 x4 x5 x6 (ix3 0 k l) = total x0 x1 x2 x3 k l := by
  unfold out0_7 total
  rw [View.canon_unit_zero zeros]
  unfold k0_pay6 k0_pay5
  simp only [ld0, ld1, ld2]
  pointwise

/-- … what the weight changes by, … -/
theorem out8_at : out0_8 x0 x1 x2 x3 x4 x5 x6 (ix3 0 k l) = change (x4 (ix3 0 k l)) (momentum (x5 (ix3 0 k l)) (total x0 x1 x2 x3 k l)) (second (x6 (ix3 0 k l)) (total x0 x1 x2 x3 k l)) := by
  unfold out0_8 total
  rw [View.canon_unit_zero zeros]
  unfold k0_pay2 k0_pay1 k0_pay13 k0_pay12 k0_pay11 k0_pay10 k0_pay9 k0_pay8 k0_pay7 k0_pay5
  simp only [ld0, ld1, ld2]
  pointwise
  rfl

/-- … the first moment … -/
theorem out9_at : out0_9 x0 x1 x2 x3 x4 x5 x6 (ix3 0 k l) = momentum (x5 (ix3 0 k l)) (total x0 x1 x2 x3 k l) := by
  unfold out0_9 total
  rw [View.canon_unit_zero zeros]
  unfold k0_pay3 k0_pay11 k0_pay8 k0_pay5
  simp only [ld0, ld1, ld2]
  pointwise
  rfl

/-- … and the second. -/
theorem out10_at : out0_10 x0 x1 x2 x3 x4 x5 x6 (ix3 0 k l) = second (x6 (ix3 0 k l)) (total x0 x1 x2 x3 k l) := by
  unfold out0_10 total
  rw [View.canon_unit_zero zeros]
  unfold k0_pay4 k0_pay1 k0_pay13 k0_pay12 k0_pay10 k0_pay9 k0_pay5
  simp only [ld0, ld1, ld2]
  pointwise
  rfl

end Point

/-! Where a point's blocks lie. -/

theorem read0 (A : FVec Ideal S2048x640 .f32) (p : Fin cfg0.N) (i : Fin 8) (hi : p.val = i) (k : Fin 256) (l : Fin 640) :
    (((cfg0.win 0).blk p).view.read (Elt Ideal) A : Vec Ideal S256x640 .f32) (ix2 k l) = A (ix2 ⟨256 * i + k, by omega⟩ l) := by
  have e := (by decide +kernel : ∀ p : Fin grid0.N, win0_0.index p = ![p.val, 0]) p
  rw [hi] at e
  refine congrArg A (?_ : ((cfg0.win 0).blk p).view.emb _ = _)
  blk_ext [e]

theorem read1 (A : FVec Ideal S3x2048x640 .bf16) (p : Fin cfg0.N) (i : Fin 8) (hi : p.val = i) (k : Fin 256) (l : Fin 640) :
    (((cfg0.win 1).blk p).view.read (Elt Ideal) A : Vec Ideal S1x256x640 .bf16) (ix3 0 k l) = A (ix3 0 ⟨256 * i + k, by omega⟩ l) := by
  have e := (by decide +kernel : ∀ p : Fin grid0.N, win0_1.index p = ![0, p.val, 0]) p
  rw [hi] at e
  refine congrArg A (?_ : ((cfg0.win 1).blk p).view.emb _ = _)
  blk_ext [e]

theorem read2 (A : FVec Ideal S3x2048x640 .bf16) (p : Fin cfg0.N) (i : Fin 8) (hi : p.val = i) (k : Fin 256) (l : Fin 640) :
    (((cfg0.win 2).blk p).view.read (Elt Ideal) A : Vec Ideal S1x256x640 .bf16) (ix3 0 k l) = A (ix3 1 ⟨256 * i + k, by omega⟩ l) := by
  have e := (by decide +kernel : ∀ p : Fin grid0.N, win0_2.index p = ![1, p.val, 0]) p
  rw [hi] at e
  refine congrArg A (?_ : ((cfg0.win 2).blk p).view.emb _ = _)
  blk_ext [e]

theorem read3 (A : FVec Ideal S3x2048x640 .bf16) (p : Fin cfg0.N) (i : Fin 8) (hi : p.val = i) (k : Fin 256) (l : Fin 640) :
    (((cfg0.win 3).blk p).view.read (Elt Ideal) A : Vec Ideal S1x256x640 .bf16) (ix3 0 k l) = A (ix3 2 ⟨256 * i + k, by omega⟩ l) := by
  have e := (by decide +kernel : ∀ p : Fin grid0.N, win0_3.index p = ![2, p.val, 0]) p
  rw [hi] at e
  refine congrArg A (?_ : ((cfg0.win 3).blk p).view.emb _ = _)
  blk_ext [e]

/-- The weight's and the moments' blocks, and the results', lie alike. -/
theorem read4 (A : FVec Ideal S1x2048x556 .f32) (p : Fin cfg0.N) (i : Fin 8) (hi : p.val = i) (k : Fin 256) (l : Fin 556) :
    (((cfg0.win 4).blk p).view.read (Elt Ideal) A : Vec Ideal S1x256x556 .f32) (ix3 0 k l) = A (ix3 0 ⟨256 * i + k, by omega⟩ l) := by
  have e := (by decide +kernel : ∀ p : Fin grid0.N, win0_4.index p = ![0, p.val, 0]) p
  rw [hi] at e
  refine congrArg A (?_ : ((cfg0.win 4).blk p).view.emb _ = _)
  blk_ext [e]

variable (m : (ℓ : Loc nD τ sig) → Buf (Elt Ideal) ℓ) (c : Dev nD)

/-- The arguments. -/
abbrev arg0 : FVec Ideal S1x2048x556 .f32 := m (c, Proc.devRef .tc main_arg0)
abbrev arg1 : FVec Ideal S1x2048x556 .f32 := m (c, Proc.devRef .tc main_arg1)
abbrev arg2 : FVec Ideal S1x2048x556 .f32 := m (c, Proc.devRef .tc main_arg2)
abbrev arg3 : FVec Ideal S4x2048x556 .f32 := m (c, Proc.devRef .tc main_arg3)

/-- The device's own sum, on whole lanes. -/
theorem own_at (r : Fin 2048) (l : Fin 556) : (V m c main_v2 : FVec Ideal S2048x640 .f32) (ix2 r ⟨l, by omega⟩) = arg3 m c (ix3 0 r l) := by
  unfold V
  after_reads_simp
  simp only [TRef.toBuf, TRef.ofBuf, cast_eq]
  pointwise

/-- The three chips' sums, on whole lanes. -/
theorem chips_at (s : Fin 3) (r : Fin 2048) (l : Fin 556) : (V m c main_v5 : FVec Ideal S3x2048x640 .bf16) (ix3 s r ⟨l, by omega⟩) = arg3 m c (ix3 s.succ r l) := by
  unfold V
  after_reads_simp
  simp only [TRef.toBuf, TRef.ofBuf, cast_eq]
  pointwise
  exact congrArg (fun q => arg3 m c (ix3 q r l)) (Fin.ext (Nat.add_comm _ _))

/-- The sum of a point's blocks is the gradient of its rows. -/
theorem total_at (p : Fin cfg0.N) (i : Fin 8) (hi : p.val = i) (k : Fin 256) (l : Fin 556) :
    total (iblk m c 0 p) (iblk m c 1 p) (iblk m c 2 p) (iblk m c 3 p) k l = gradOf (arg3 m c) (ix3 0 ⟨256 * i + k, by omega⟩ l) := by
  refine Eq.trans ?_ (Fin.sum_univ_four fun s : Fin 4 => arg3 m c (ix3 s ⟨256 * i + k, by omega⟩ l)).symm
  have h0 := (read0 (V m c main_v2) p i hi k ⟨l, by omega⟩).trans (own_at m c _ l)
  have h1 := (read1 (V m c main_v5) p i hi k ⟨l, by omega⟩).trans (chips_at m c 0 _ l)
  have h2 := (read2 (V m c main_v5) p i hi k ⟨l, by omega⟩).trans (chips_at m c 1 _ l)
  have h3 := (read3 (V m c main_v5) p i hi k ⟨l, by omega⟩).trans (chips_at m c 2 _ l)
  exact congrArg₂ (HAdd.hAdd (α := EReal)) (congrArg₂ (HAdd.hAdd (α := EReal)) (congrArg₂ (HAdd.hAdd (α := EReal)) h0 h1) h2) h3

theorem flush : ∀ p : Fin cfg0.N, (cfg0.win 7).flush p = true ∧ (cfg0.win 8).flush p = true ∧ (cfg0.win 9).flush p = true ∧ (cfg0.win 10).flush p = true :=
  (by decide +kernel : ∀ p : Fin grid0.N, _)

theorem point (i : Fin 8) : ∃ p : Fin cfg0.N, p.val = i := ⟨⟨i, by have : cfg0.N = 8 := N_0; omega⟩, rfl⟩

/-- The call writes the gradient, the change of the weight and the two moments. -/
theorem result : (dats m 0 c).arrAt 7 cfg0.N = gradOf (arg3 m c) ∧
    (dats m 0 c).arrAt 8 cfg0.N = changeOf (arg0 m c) (arg1 m c) (arg2 m c) (arg3 m c) ∧
    (dats m 0 c).arrAt 9 cfg0.N = momentumOf (arg1 m c) (arg3 m c) ∧
    (dats m 0 c).arrAt 10 cfg0.N = secondOf (arg2 m c) (arg3 m c) := by
  refine updates (n := 8) (t := 256) (by decide) fun i k l _ => ?_
  obtain ⟨p, hi⟩ := point i
  exact ⟨_, _, _, _, (read4 (V m c main_arg0) p i hi k l).trans (congrFun (V_main_arg0 m c) _),
    (read4 (V m c main_arg1) p i hi k l).trans (congrFun (V_main_arg1 m c) _), (read4 (V m c main_arg2) p i hi k l).trans (congrFun (V_main_arg2 m c) _),
    total_at m c p i hi k l, (read4 _ p i hi k l).symm.trans ((congrFun ((blocks7 m c p (flush p).1).trans (flushed7 m c p)) _).trans (out7_at _ _ _ _ _ _ _ k l)),
    (read4 _ p i hi k l).symm.trans ((congrFun ((blocks8 m c p (flush p).2.1).trans (flushed8 m c p)) _).trans (out8_at _ _ _ _ _ _ _ k l)),
    (read4 _ p i hi k l).symm.trans ((congrFun ((blocks9 m c p (flush p).2.2.1).trans (flushed9 m c p)) _).trans (out9_at _ _ _ _ _ _ _ k l)),
    (read4 _ p i hi k l).symm.trans ((congrFun ((blocks10 m c p (flush p).2.2.2).trans (flushed10 m c p)) _).trans (out10_at _ _ _ _ _ _ _ k l))⟩

end Kernel

/-- Over the extended reals the call's results are the reference's. -/
theorem algebraic : Cert.algebraic_AdamwInIdeal_AdamwInReferenceIdeal := by
  intro m ρ m' ρ' _ hagree
  refine ⟨_, _, _, _, Cert.AdamwInIdeal.Value.run_blocks (F := Ideal) m ρ, ?_⟩
  refine (θ_run Cert.AdamwInReferenceIdeal.defs _ _).mono (fun _ h c => ?_) (Cert.AdamwInReferenceIdeal.Value.run (F := Ideal) m' ρ')
  obtain ⟨g0, g1, g2, g3⟩ := hagree c
  obtain ⟨r7, r8, r9, r10⟩ := result m c
  refine ⟨(h c).1.trans (Eq.trans (ext_part fun r b => ?_) ((congrArg gradOf g3).trans r7.symm)),
    (h c).2.1.trans (Eq.trans (ext_part fun r b => ?_) ((congr (congr (congr (congrArg changeOf g0) g1) g2) g3).trans r8.symm)),
    (h c).2.2.1.trans (Eq.trans (ext_part fun r b => ?_) ((congr (congrArg momentumOf g1) g3).trans r9.symm)),
    (h c).2.2.2.1.trans (Eq.trans (ext_part fun r b => ?_) ((congr (congrArg secondOf g2) g3).trans r10.symm)), (h c).2.2.2.2⟩ <;>
    simp only [changeOf, momentumOf, secondOf, gradOf] <;> pointwise <;> rfl

end Cert.AdamwInClaim

end
-- ==== Proof.AdamwUq.lean ====
/- The sum of the four chips' gradients of a device's part of the queries' up-projection's weight and AdamW's update of that part, block by
   block of its rows. -/
module

public import proofs.«01_k».proof.Proof.Base
public import proofs.«01_k».proof.Proof.Adam
public import proofs.«01_k».proof.Proof.Gen.AdamwUq.Frame
public import proofs.«01_k».proof.Proof.Gen.AdamwUqIdeal.Value
public import proofs.«01_k».proof.Proof.Gen.AdamwUqReferenceIdeal.Run

@[expose] public section

set_option maxRecDepth 16384

noncomputable section

namespace Cert.AdamwUqClaim

open Idealize.ShloMosaic Idealize.ShloMosaic.TcCoe Idealize.SL.Sem Cert.Adam

section Kernel

open Cert.AdamwUqIdeal Cert.AdamwUqIdeal.Gen Cert.AdamwUqIdeal.Value Idealize.ShloMosaic.StableHlo

theorem ld0 (v : Vec Ideal S256x256 .f32) : View.ld v r0_0 = v := View.ld_unit_zero zeros _ v
theorem ld1 (v : Vec Ideal S1x256x256 .bf16) : View.ld v r0_1 = v := View.ld_unit_zero zeros _ v
theorem ld2 (v : Vec Ideal S1x256x192 .f32) : View.ld v r0_2 = v := View.ld_unit_zero zeros _ v

section Point

variable (x0 : Vec Ideal S256x256 .f32) (x1 x2 x3 : Vec Ideal S1x256x256 .bf16) (x4 x5 x6 : Vec Ideal S1x256x192 .f32) (k : Fin 256) (l : Fin 192)

/-- The sum of a point's four blocks at an entry. -/
def total : EReal := x0 (ix2 k ⟨l, by omega⟩) + x1 (ix3 0 k ⟨l, by omega⟩) + x2 (ix3 0 k ⟨l, by omega⟩) + x3 (ix3 0 k ⟨l, by omega⟩)

/-- A point writes the sum, … -/
theorem out7_at : out0_7 x0 x1 x2 x3 x4 x5 x6 (ix3 0 k l) = total x0 x1 x2 x3 k l := by
  unfold out0_7 total
  rw [View.canon_unit_zero zeros]
  unfold k0_pay6 k0_pay5
  simp only [ld0, ld1, ld2]
  pointwise

/-- … what the weight changes by, … -/
theorem out8_at : out0_8 x0 x1 x2 x3 x4 x5 x6 (ix3 0 k l) = change (x4 (ix3 0 k l)) (momentum (x5 (ix3 0 k l)) (total x0 x1 x2 x3 k l)) (second (x6 (ix3 0 k l)) (total x0 x1 x2 x3 k l)) := by
  unfold out0_8 total
  rw [View.canon_unit_zero zeros]
  unfold k0_pay2 k0_pay1 k0_pay13 k0_pay12 k0_pay11 k0_pay10 k0_pay9 k0_pay8 k0_pay7 k0_pay5
  simp only [ld0, ld1, ld2]
  pointwise
  rfl

/-- … the first moment … -/
theorem out9_at : out0_9 x0 x1 x2 x3 x4 x5 x6 (ix3 0 k l) = momentum (x5 (ix3 0 k l)) (total x0 x1 x2 x3 k l) := by
  unfold out0_9 total
  rw [View.canon_unit_zero zeros]
  unfold k0_pay3 k0_pay11 k0_pay8 k0_pay5
  simp only [ld0, ld1, ld2]
  pointwise
  rfl

/-- … and the second. -/
theorem out10_at : out0_10 x0 x1 x2 x3 x4 x5 x6 (ix3 0 k l) = second (x6 (ix3 0 k l)) (total x0 x1 x2 x3 k l) := by
  unfold out0_10 total
  rw [View.canon_unit_zero zeros]
  unfold k0_pay4 k0_pay1 k0_pay13 k0_pay12 k0_pay10 k0_pay9 k0_pay5
  simp only [ld0, ld1, ld2]
  pointwise
  rfl

end Point

/-! Where a point's blocks lie. -/

theorem read0 (A : FVec Ideal S512x256 .f32) (p : Fin cfg0.N) (i : Fin 2) (hi : p.val = i) (k : Fin 256) (l : Fin 256) :
    (((cfg0.win 0).blk p).view.read (Elt Ideal) A : Vec Ideal S256x256 .f32) (ix2 k l) = A (ix2 ⟨256 * i + k, by omega⟩ l) := by
  have e := (by decide +kernel : ∀ p : Fin grid0.N, win0_0.index p = ![p.val, 0]) p
  rw [hi] at e
  refine congrArg A (?_ : ((cfg0.win 0).blk p).view.emb _ = _)
  blk_ext [e]

theorem read1 (A : FVec Ideal S3x512x256 .bf16) (p : Fin cfg0.N) (i : Fin 2) (hi : p.val = i) (k : Fin 256) (l : Fin 256) :
    (((cfg0.win 1).blk p).view.read (Elt Ideal) A : Vec Ideal S1x256x256 .bf16) (ix3 0 k l) = A (ix3 0 ⟨256 * i + k, by omega⟩ l) := by
  have e := (by decide +kernel : ∀ p : Fin grid0.N, win0_1.index p = ![0, p.val, 0]) p
  rw [hi] at e
  refine congrArg A (?_ : ((cfg0.win 1).blk p).view.emb _ = _)
  blk_ext [e]

theorem read2 (A : FVec Ideal S3x512x256 .bf16) (p : Fin cfg0.N) (i : Fin 2) (hi : p.val = i) (k : Fin 256) (l : Fin 256) :
    (((cfg0.win 2).blk p).view.read (Elt Ideal) A : Vec Ideal S1x256x256 .bf16) (ix3 0 k l) = A (ix3 1 ⟨256 * i + k, by omega⟩ l) := by
  have e := (by decide +kernel : ∀ p : Fin grid0.N, win0_2.index p = ![1, p.val, 0]) p
  rw [hi] at e
  refine congrArg A (?_ : ((cfg0.win 2).blk p).view.emb _ = _)
  blk_ext [e]

theorem read3 (A : FVec Ideal S3x512x256 .bf16) (p : Fin cfg0.N) (i : Fin 2) (hi : p.val = i) (k : Fin 256) (l : Fin 256) :
    (((cfg0.win 3).blk p).view.read (Elt Ideal) A : Vec Ideal S1x256x256 .bf16) (ix3 0 k l) = A (ix3 2 ⟨256 * i + k, by omega⟩ l) := by
  have e := (by decide +kernel : ∀ p : Fin grid0.N, win0_3.index p = ![2, p.val, 0]) p
  rw [hi] at e
  refine congrArg A (?_ : ((cfg0.win 3).blk p).view.emb _ = _)
  blk_ext [e]

/-- The weight's and the moments' blocks, and the results', lie alike. -/
theorem read4 (A : FVec Ideal S1x512x192 .f32) (p : Fin cfg0.N) (i : Fin 2) (hi : p.val = i) (k : Fin 256) (l : Fin 192) :
    (((cfg0.win 4).blk p).view.read (Elt Ideal) A : Vec Ideal S1x256x192 .f32) (ix3 0 k l) = A (ix3 0 ⟨256 * i + k, by omega⟩ l) := by
  have e := (by decide +kernel : ∀ p : Fin grid0.N, win0_4.index p = ![0, p.val, 0]) p
  rw [hi] at e
  refine congrArg A (?_ : ((cfg0.win 4).blk p).view.emb _ = _)
  blk_ext [e]

variable (m : (ℓ : Loc nD τ sig) → Buf (Elt Ideal) ℓ) (c : Dev nD)

/-- The arguments. -/
abbrev arg0 : FVec Ideal S1x512x192 .f32 := m (c, Proc.devRef .tc main_arg0)
abbrev arg1 : FVec Ideal S1x512x192 .f32 := m (c, Proc.devRef .tc main_arg1)
abbrev arg2 : FVec Ideal S1x512x192 .f32 := m (c, Proc.devRef .tc main_arg2)
abbrev arg3 : FVec Ideal S4x512x192 .f32 := m (c, Proc.devRef .tc main_arg3)

/-- The device's own sum, on whole lanes. -/
theorem own_at (r : Fin 512) (l : Fin 192) : (V m c main_v2 : FVec Ideal S512x256 .f32) (ix2 r ⟨l, by omega⟩) = arg3 m c (ix3 0 r l) := by
  unfold V
  after_reads_simp
  simp only [TRef.toBuf, TRef.ofBuf, cast_eq]
  pointwise

/-- The three chips' sums, on whole lanes. -/
theorem chips_at (s : Fin 3) (r : Fin 512) (l : Fin 192) : (V m c main_v5 : FVec Ideal S3x512x256 .bf16) (ix3 s r ⟨l, by omega⟩) = arg3 m c (ix3 s.succ r l) := by
  unfold V
  after_reads_simp
  simp only [TRef.toBuf, TRef.ofBuf, cast_eq]
  pointwise
  exact congrArg (fun q => arg3 m c (ix3 q r l)) (Fin.ext (Nat.add_comm _ _))

/-- The sum of a point's blocks is the gradient of its rows. -/
theorem total_at (p : Fin cfg0.N) (i : Fin 2) (hi : p.val = i) (k : Fin 256) (l : Fin 192) :
    total (iblk m c 0 p) (iblk m c 1 p) (iblk m c 2 p) (iblk m c 3 p) k l = gradOf (arg3 m c) (ix3 0 ⟨256 * i + k, by omega⟩ l) := by
  refine Eq.trans ?_ (Fin.sum_univ_four fun s : Fin 4 => arg3 m c (ix3 s ⟨256 * i + k, by omega⟩ l)).symm
  have h0 := (read0 (V m c main_v2) p i hi k ⟨l, by omega⟩).trans (own_at m c _ l)
  have h1 := (read1 (V m c main_v5) p i hi k ⟨l, by omega⟩).trans (chips_at m c 0 _ l)
  have h2 := (read2 (V m c main_v5) p i hi k ⟨l, by omega⟩).trans (chips_at m c 1 _ l)
  have h3 := (read3 (V m c main_v5) p i hi k ⟨l, by omega⟩).trans (chips_at m c 2 _ l)
  exact congrArg₂ (HAdd.hAdd (α := EReal)) (congrArg₂ (HAdd.hAdd (α := EReal)) (congrArg₂ (HAdd.hAdd (α := EReal)) h0 h1) h2) h3

theorem flush : ∀ p : Fin cfg0.N, (cfg0.win 7).flush p = true ∧ (cfg0.win 8).flush p = true ∧ (cfg0.win 9).flush p = true ∧ (cfg0.win 10).flush p = true :=
  (by decide +kernel : ∀ p : Fin grid0.N, _)

theorem point (i : Fin 2) : ∃ p : Fin cfg0.N, p.val = i := ⟨⟨i, by have : cfg0.N = 2 := N_0; omega⟩, rfl⟩

/-- The call writes the gradient, the change of the weight and the two moments. -/
theorem result : (dats m 0 c).arrAt 7 cfg0.N = gradOf (arg3 m c) ∧
    (dats m 0 c).arrAt 8 cfg0.N = changeOf (arg0 m c) (arg1 m c) (arg2 m c) (arg3 m c) ∧
    (dats m 0 c).arrAt 9 cfg0.N = momentumOf (arg1 m c) (arg3 m c) ∧
    (dats m 0 c).arrAt 10 cfg0.N = secondOf (arg2 m c) (arg3 m c) := by
  refine updates (n := 2) (t := 256) (by decide) fun i k l _ => ?_
  obtain ⟨p, hi⟩ := point i
  exact ⟨_, _, _, _, (read4 (V m c main_arg0) p i hi k l).trans (congrFun (V_main_arg0 m c) _),
    (read4 (V m c main_arg1) p i hi k l).trans (congrFun (V_main_arg1 m c) _), (read4 (V m c main_arg2) p i hi k l).trans (congrFun (V_main_arg2 m c) _),
    total_at m c p i hi k l, (read4 _ p i hi k l).symm.trans ((congrFun ((blocks7 m c p (flush p).1).trans (flushed7 m c p)) _).trans (out7_at _ _ _ _ _ _ _ k l)),
    (read4 _ p i hi k l).symm.trans ((congrFun ((blocks8 m c p (flush p).2.1).trans (flushed8 m c p)) _).trans (out8_at _ _ _ _ _ _ _ k l)),
    (read4 _ p i hi k l).symm.trans ((congrFun ((blocks9 m c p (flush p).2.2.1).trans (flushed9 m c p)) _).trans (out9_at _ _ _ _ _ _ _ k l)),
    (read4 _ p i hi k l).symm.trans ((congrFun ((blocks10 m c p (flush p).2.2.2).trans (flushed10 m c p)) _).trans (out10_at _ _ _ _ _ _ _ k l))⟩

end Kernel

/-- Over the extended reals the call's results are the reference's. -/
theorem algebraic : Cert.algebraic_AdamwUqIdeal_AdamwUqReferenceIdeal := by
  intro m ρ m' ρ' _ hagree
  refine ⟨_, _, _, _, Cert.AdamwUqIdeal.Value.run_blocks (F := Ideal) m ρ, ?_⟩
  refine (θ_run Cert.AdamwUqReferenceIdeal.defs _ _).mono (fun _ h c => ?_) (Cert.AdamwUqReferenceIdeal.Value.run (F := Ideal) m' ρ')
  obtain ⟨g0, g1, g2, g3⟩ := hagree c
  obtain ⟨r7, r8, r9, r10⟩ := result m c
  refine ⟨(h c).1.trans (Eq.trans (ext_part fun r b => ?_) ((congrArg gradOf g3).trans r7.symm)),
    (h c).2.1.trans (Eq.trans (ext_part fun r b => ?_) ((congr (congr (congr (congrArg changeOf g0) g1) g2) g3).trans r8.symm)),
    (h c).2.2.1.trans (Eq.trans (ext_part fun r b => ?_) ((congr (congrArg momentumOf g1) g3).trans r9.symm)),
    (h c).2.2.2.1.trans (Eq.trans (ext_part fun r b => ?_) ((congr (congrArg secondOf g2) g3).trans r10.symm)), (h c).2.2.2.2⟩ <;>
    simp only [changeOf, momentumOf, secondOf, gradOf] <;> pointwise <;> rfl

end Cert.AdamwUqClaim

end
-- ==== Proof.AdamwUkv.lean ====
/- The sum of the four chips' gradients of a device's part of the keys' and values' up-projection's weight and AdamW's update of that part, block by
   block of its rows. -/
module

public import proofs.«01_k».proof.Proof.Base
public import proofs.«01_k».proof.Proof.Adam
public import proofs.«01_k».proof.Proof.Gen.AdamwUkv.Frame
public import proofs.«01_k».proof.Proof.Gen.AdamwUkvIdeal.Value
public import proofs.«01_k».proof.Proof.Gen.AdamwUkvReferenceIdeal.Run

@[expose] public section

set_option maxRecDepth 16384

noncomputable section

namespace Cert.AdamwUkvClaim

open Idealize.ShloMosaic Idealize.ShloMosaic.TcCoe Idealize.SL.Sem Cert.Adam

section Kernel

open Cert.AdamwUkvIdeal Cert.AdamwUkvIdeal.Gen Cert.AdamwUkvIdeal.Value Idealize.ShloMosaic.StableHlo

theorem ld0 (v : Vec Ideal S256x256 .f32) : View.ld v r0_0 = v := View.ld_unit_zero zeros _ v
theorem ld1 (v : Vec Ideal S1x256x256 .bf16) : View.ld v r0_1 = v := View.ld_unit_zero zeros _ v
theorem ld2 (v : Vec Ideal S1x256x256 .f32) : View.ld v r0_1 = v := View.ld_unit_zero zeros _ v

section Point

variable (x0 : Vec Ideal S256x256 .f32) (x1 x2 x3 : Vec Ideal S1x256x256 .bf16) (x4 x5 x6 : Vec Ideal S1x256x256 .f32) (k : Fin 256) (l : Fin 256)

/-- The sum of a point's four blocks at an entry. -/
def total : EReal := x0 (ix2 k l) + x1 (ix3 0 k l) + x2 (ix3 0 k l) + x3 (ix3 0 k l)

/-- A point writes the sum, … -/
theorem out7_at : out0_7 x0 x1 x2 x3 x4 x5 x6 (ix3 0 k l) = total x0 x1 x2 x3 k l := by
  unfold out0_7 total
  rw [View.canon_unit_zero zeros]
  unfold k0_pay6 k0_pay5
  simp only [ld0, ld1, ld2]
  pointwise

/-- … what the weight changes by, … -/
theorem out8_at : out0_8 x0 x1 x2 x3 x4 x5 x6 (ix3 0 k l) = change (x4 (ix3 0 k l)) (momentum (x5 (ix3 0 k l)) (total x0 x1 x2 x3 k l)) (second (x6 (ix3 0 k l)) (total x0 x1 x2 x3 k l)) := by
  unfold out0_8 total
  rw [View.canon_unit_zero zeros]
  unfold k0_pay2 k0_pay1 k0_pay13 k0_pay12 k0_pay11 k0_pay10 k0_pay9 k0_pay8 k0_pay7 k0_pay5
  simp only [ld0, ld1, ld2]
  pointwise
  rfl

/-- … the first moment … -/
theorem out9_at : out0_9 x0 x1 x2 x3 x4 x5 x6 (ix3 0 k l) = momentum (x5 (ix3 0 k l)) (total x0 x1 x2 x3 k l) := by
  unfold out0_9 total
  rw [View.canon_unit_zero zeros]
  unfold k0_pay3 k0_pay11 k0_pay8 k0_pay5
  simp only [ld0, ld1, ld2]
  pointwise
  rfl

/-- … and the second. -/
theorem out10_at : out0_10 x0 x1 x2 x3 x4 x5 x6 (ix3 0 k l) = second (x6 (ix3 0 k l)) (total x0 x1 x2 x3 k l) := by
  unfold out0_10 total
  rw [View.canon_unit_zero zeros]
  unfold k0_pay4 k0_pay1 k0_pay13 k0_pay12 k0_pay10 k0_pay9 k0_pay5
  simp only [ld0, ld1, ld2]
  pointwise
  rfl

end Point

/-! Where a point's blocks lie. -/

theorem read0 (A : FVec Ideal S512x256 .f32) (p : Fin cfg0.N) (i : Fin 2) (hi : p.val = i) (k : Fin 256) (l : Fin 256) :
    (((cfg0.win 0).blk p).view.read (Elt Ideal) A : Vec Ideal S256x256 .f32) (ix2 k l) = A (ix2 ⟨256 * i + k, by omega⟩ l) := by
  have e := (by decide +kernel : ∀ p : Fin grid0.N, win0_0.index p = ![p.val, 0]) p
  rw [hi] at e
  refine congrArg A (?_ : ((cfg0.win 0).blk p).view.emb _ = _)
  blk_ext [e]

theorem read1 (A : FVec Ideal S3x512x256 .bf16) (p : Fin cfg0.N) (i : Fin 2) (hi : p.val = i) (k : Fin 256) (l : Fin 256) :
    (((cfg0.win 1).blk p).view.read (Elt Ideal) A : Vec Ideal S1x256x256 .bf16) (ix3 0 k l) = A (ix3 0 ⟨256 * i + k, by omega⟩ l) := by
  have e := (by decide +kernel : ∀ p : Fin grid0.N, win0_1.index p = ![0, p.val, 0]) p
  rw [hi] at e
  refine congrArg A (?_ : ((cfg0.win 1).blk p).view.emb _ = _)
  blk_ext [e]

theorem read2 (A : FVec Ideal S3x512x256 .bf16) (p : Fin cfg0.N) (i : Fin 2) (hi : p.val = i) (k : Fin 256) (l : Fin 256) :
    (((cfg0.win 2).blk p).view.read (Elt Ideal) A : Vec Ideal S1x256x256 .bf16) (ix3 0 k l) = A (ix3 1 ⟨256 * i + k, by omega⟩ l) := by
  have e := (by decide +kernel : ∀ p : Fin grid0.N, win0_2.index p = ![1, p.val, 0]) p
  rw [hi] at e
  refine congrArg A (?_ : ((cfg0.win 2).blk p).view.emb _ = _)
  blk_ext [e]

theorem read3 (A : FVec Ideal S3x512x256 .bf16) (p : Fin cfg0.N) (i : Fin 2) (hi : p.val = i) (k : Fin 256) (l : Fin 256) :
    (((cfg0.win 3).blk p).view.read (Elt Ideal) A : Vec Ideal S1x256x256 .bf16) (ix3 0 k l) = A (ix3 2 ⟨256 * i + k, by omega⟩ l) := by
  have e := (by decide +kernel : ∀ p : Fin grid0.N, win0_3.index p = ![2, p.val, 0]) p
  rw [hi] at e
  refine congrArg A (?_ : ((cfg0.win 3).blk p).view.emb _ = _)
  blk_ext [e]

/-- The weight's and the moments' blocks, and the results', lie alike. -/
theorem read4 (A : FVec Ideal S1x512x256 .f32) (p : Fin cfg0.N) (i : Fin 2) (hi : p.val = i) (k : Fin 256) (l : Fin 256) :
    (((cfg0.win 4).blk p).view.read (Elt Ideal) A : Vec Ideal S1x256x256 .f32) (ix3 0 k l) = A (ix3 0 ⟨256 * i + k, by omega⟩ l) := by
  have e := (by decide +kernel : ∀ p : Fin grid0.N, win0_4.index p = ![0, p.val, 0]) p
  rw [hi] at e
  refine congrArg A (?_ : ((cfg0.win 4).blk p).view.emb _ = _)
  blk_ext [e]

variable (m : (ℓ : Loc nD τ sig) → Buf (Elt Ideal) ℓ) (c : Dev nD)

/-- The arguments. -/
abbrev arg0 : FVec Ideal S1x512x256 .f32 := m (c, Proc.devRef .tc main_arg0)
abbrev arg1 : FVec Ideal S1x512x256 .f32 := m (c, Proc.devRef .tc main_arg1)
abbrev arg2 : FVec Ideal S1x512x256 .f32 := m (c, Proc.devRef .tc main_arg2)
abbrev arg3 : FVec Ideal S4x512x256 .f32 := m (c, Proc.devRef .tc main_arg3)

/-- The device's own sum, on whole lanes. -/
theorem own_at (r : Fin 512) (l : Fin 256) : (V m c main_v2 : FVec Ideal S512x256 .f32) (ix2 r l) = arg3 m c (ix3 0 r l) := by
  unfold V
  after_reads_simp
  simp only [TRef.toBuf, TRef.ofBuf, cast_eq]
  pointwise

/-- The three chips' sums, on whole lanes. -/
theorem chips_at (s : Fin 3) (r : Fin 512) (l : Fin 256) : (V m c main_v5 : FVec Ideal S3x512x256 .bf16) (ix3 s r l) = arg3 m c (ix3 s.succ r l) := by
  unfold V
  after_reads_simp
  simp only [TRef.toBuf, TRef.ofBuf, cast_eq]
  pointwise
  exact congrArg (fun q => arg3 m c (ix3 q r l)) (Fin.ext (Nat.add_comm _ _))

/-- The sum of a point's blocks is the gradient of its rows. -/
theorem total_at (p : Fin cfg0.N) (i : Fin 2) (hi : p.val = i) (k : Fin 256) (l : Fin 256) :
    total (iblk m c 0 p) (iblk m c 1 p) (iblk m c 2 p) (iblk m c 3 p) k l = gradOf (arg3 m c) (ix3 0 ⟨256 * i + k, by omega⟩ l) := by
  refine Eq.trans ?_ (Fin.sum_univ_four fun s : Fin 4 => arg3 m c (ix3 s ⟨256 * i + k, by omega⟩ l)).symm
  have h0 := (read0 (V m c main_v2) p i hi k l).trans (own_at m c _ l)
  have h1 := (read1 (V m c main_v5) p i hi k l).trans (chips_at m c 0 _ l)
  have h2 := (read2 (V m c main_v5) p i hi k l).trans (chips_at m c 1 _ l)
  have h3 := (read3 (V m c main_v5) p i hi k l).trans (chips_at m c 2 _ l)
  exact congrArg₂ (HAdd.hAdd (α := EReal)) (congrArg₂ (HAdd.hAdd (α := EReal)) (congrArg₂ (HAdd.hAdd (α := EReal)) h0 h1) h2) h3

theorem flush : ∀ p : Fin cfg0.N, (cfg0.win 7).flush p = true ∧ (cfg0.win 8).flush p = true ∧ (cfg0.win 9).flush p = true ∧ (cfg0.win 10).flush p = true :=
  (by decide +kernel : ∀ p : Fin grid0.N, _)

theorem point (i : Fin 2) : ∃ p : Fin cfg0.N, p.val = i := ⟨⟨i, by have : cfg0.N = 2 := N_0; omega⟩, rfl⟩

/-- The call writes the gradient, the change of the weight and the two moments. -/
theorem result : (dats m 0 c).arrAt 7 cfg0.N = gradOf (arg3 m c) ∧
    (dats m 0 c).arrAt 8 cfg0.N = changeOf (arg0 m c) (arg1 m c) (arg2 m c) (arg3 m c) ∧
    (dats m 0 c).arrAt 9 cfg0.N = momentumOf (arg1 m c) (arg3 m c) ∧
    (dats m 0 c).arrAt 10 cfg0.N = secondOf (arg2 m c) (arg3 m c) := by
  refine updates (n := 2) (t := 256) (by decide) fun i k l _ => ?_
  obtain ⟨p, hi⟩ := point i
  exact ⟨_, _, _, _, (read4 (V m c main_arg0) p i hi k l).trans (congrFun (V_main_arg0 m c) _),
    (read4 (V m c main_arg1) p i hi k l).trans (congrFun (V_main_arg1 m c) _), (read4 (V m c main_arg2) p i hi k l).trans (congrFun (V_main_arg2 m c) _),
    total_at m c p i hi k l, (read4 _ p i hi k l).symm.trans ((congrFun ((blocks7 m c p (flush p).1).trans (flushed7 m c p)) _).trans (out7_at _ _ _ _ _ _ _ k l)),
    (read4 _ p i hi k l).symm.trans ((congrFun ((blocks8 m c p (flush p).2.1).trans (flushed8 m c p)) _).trans (out8_at _ _ _ _ _ _ _ k l)),
    (read4 _ p i hi k l).symm.trans ((congrFun ((blocks9 m c p (flush p).2.2.1).trans (flushed9 m c p)) _).trans (out9_at _ _ _ _ _ _ _ k l)),
    (read4 _ p i hi k l).symm.trans ((congrFun ((blocks10 m c p (flush p).2.2.2).trans (flushed10 m c p)) _).trans (out10_at _ _ _ _ _ _ _ k l))⟩

end Kernel

/-- Over the extended reals the call's results are the reference's. -/
theorem algebraic : Cert.algebraic_AdamwUkvIdeal_AdamwUkvReferenceIdeal := by
  intro m ρ m' ρ' _ hagree
  refine ⟨_, _, _, _, Cert.AdamwUkvIdeal.Value.run_blocks (F := Ideal) m ρ, ?_⟩
  refine (θ_run Cert.AdamwUkvReferenceIdeal.defs _ _).mono (fun _ h c => ?_) (Cert.AdamwUkvReferenceIdeal.Value.run (F := Ideal) m' ρ')
  obtain ⟨g0, g1, g2, g3⟩ := hagree c
  obtain ⟨r7, r8, r9, r10⟩ := result m c
  refine ⟨(h c).1.trans (Eq.trans (ext_part fun r b => ?_) ((congrArg gradOf g3).trans r7.symm)),
    (h c).2.1.trans (Eq.trans (ext_part fun r b => ?_) ((congr (congr (congr (congrArg changeOf g0) g1) g2) g3).trans r8.symm)),
    (h c).2.2.1.trans (Eq.trans (ext_part fun r b => ?_) ((congr (congrArg momentumOf g1) g3).trans r9.symm)),
    (h c).2.2.2.1.trans (Eq.trans (ext_part fun r b => ?_) ((congr (congrArg secondOf g2) g3).trans r10.symm)), (h c).2.2.2.2⟩ <;>
    simp only [changeOf, momentumOf, secondOf, gradOf] <;> pointwise <;> rfl

end Cert.AdamwUkvClaim

end
-- ==== Proof.AdamwOut.lean ====
/- The sum of the four chips' gradients of a device's part of the output projection's weight and AdamW's update of that part, block by
   block of its rows. -/
module

public import proofs.«01_k».proof.Proof.Base
public import proofs.«01_k».proof.Proof.Adam
public import proofs.«01_k».proof.Proof.Gen.AdamwOut.Frame
public import proofs.«01_k».proof.Proof.Gen.AdamwOutIdeal.Value
public import proofs.«01_k».proof.Proof.Gen.AdamwOutReferenceIdeal.Run

@[expose] public section

set_option maxRecDepth 16384

noncomputable section

namespace Cert.AdamwOutClaim

open Idealize.ShloMosaic Idealize.ShloMosaic.TcCoe Idealize.SL.Sem Cert.Adam

section Kernel

open Cert.AdamwOutIdeal Cert.AdamwOutIdeal.Gen Cert.AdamwOutIdeal.Value Idealize.ShloMosaic.StableHlo

theorem ld0 (v : Vec Ideal S256x2048 .f32) : View.ld v r0_0 = v := View.ld_unit_zero zeros _ v
theorem ld1 (v : Vec Ideal S1x256x2048 .bf16) : View.ld v r0_1 = v := View.ld_unit_zero zeros _ v
theorem ld2 (v : Vec Ideal S1x256x2048 .f32) : View.ld v r0_1 = v := View.ld_unit_zero zeros _ v

section Point

variable (x0 : Vec Ideal S256x2048 .f32) (x1 x2 x3 : Vec Ideal S1x256x2048 .bf16) (x4 x5 x6 : Vec Ideal S1x256x2048 .f32) (k : Fin 256) (l : Fin 2048)

/-- The sum of a point's four blocks at an entry. -/
def total : EReal := x0 (ix2 k l) + x1 (ix3 0 k l) + x2 (ix3 0 k l) + x3 (ix3 0 k l)

/-- A point writes the sum, … -/
theorem out7_at : out0_7 x0 x1 x2 x3 x4 x5 x6 (ix3 0 k l) = total x0 x1 x2 x3 k l := by
  unfold out0_7 total
  rw [View.canon_unit_zero zeros]
  unfold k0_pay6 k0_pay5
  simp only [ld0, ld1, ld2]
  pointwise

/-- … what the weight changes by, … -/
theorem out8_at : out0_8 x0 x1 x2 x3 x4 x5 x6 (ix3 0 k l) = change (x4 (ix3 0 k l)) (momentum (x5 (ix3 0 k l)) (total x0 x1 x2 x3 k l)) (second (x6 (ix3 0 k l)) (total x0 x1 x2 x3 k l)) := by
  unfold out0_8 total
  rw [View.canon_unit_zero zeros]
  unfold k0_pay2 k0_pay1 k0_pay13 k0_pay12 k0_pay11 k0_pay10 k0_pay9 k0_pay8 k0_pay7 k0_pay5
  simp only [ld0, ld1, ld2]
  pointwise
  rfl

/-- … the first moment … -/
theorem out9_at : out0_9 x0 x1 x2 x3 x4 x5 x6 (ix3 0 k l) = momentum (x5 (ix3 0 k l)) (total x0 x1 x2 x3 k l) := by
  unfold out0_9 total
  rw [View.canon_unit_zero zeros]
  unfold k0_pay3 k0_pay11 k0_pay8 k0_pay5
  simp only [ld0, ld1, ld2]
  pointwise
  rfl

/-- … and the second. -/
theorem out10_at : out0_10 x0 x1 x2 x3 x4 x5 x6 (ix3 0 k l) = second (x6 (ix3 0 k l)) (total x0 x1 x2 x3 k l) := by
  unfold out0_10 total
  rw [View.canon_unit_zero zeros]
  unfold k0_pay4 k0_pay1 k0_pay13 k0_pay12 k0_pay10 k0_pay9 k0_pay5
  simp only [ld0, ld1, ld2]
  pointwise
  rfl

end Point

/-! Where a point's blocks lie. -/

theorem read0 (A : FVec Ideal S256x2048 .f32) (p : Fin cfg0.N) (i : Fin 1) (hi : p.val = i) (k : Fin 256) (l : Fin 2048) :
    (((cfg0.win 0).blk p).view.read (Elt Ideal) A : Vec Ideal S256x2048 .f32) (ix2 k l) = A (ix2 ⟨256 * i + k, by omega⟩ l) := by
  have e := (by decide +kernel : ∀ p : Fin grid0.N, win0_0.index p = ![p.val, 0]) p
  rw [hi] at e
  refine congrArg A (?_ : ((cfg0.win 0).blk p).view.emb _ = _)
  blk_ext [e]

theorem read1 (A : FVec Ideal S3x256x2048 .bf16) (p : Fin cfg0.N) (i : Fin 1) (hi : p.val = i) (k : Fin 256) (l : Fin 2048) :
    (((cfg0.win 1).blk p).view.read (Elt Ideal) A : Vec Ideal S1x256x2048 .bf16) (ix3 0 k l) = A (ix3 0 ⟨256 * i + k, by omega⟩ l) := by
  have e := (by decide +kernel : ∀ p : Fin grid0.N, win0_1.index p = ![0, p.val, 0]) p
  rw [hi] at e
  refine congrArg A (?_ : ((cfg0.win 1).blk p).view.emb _ = _)
  blk_ext [e]

theorem read2 (A : FVec Ideal S3x256x2048 .bf16) (p : Fin cfg0.N) (i : Fin 1) (hi : p.val = i) (k : Fin 256) (l : Fin 2048) :
    (((cfg0.win 2).blk p).view.read (Elt Ideal) A : Vec Ideal S1x256x2048 .bf16) (ix3 0 k l) = A (ix3 1 ⟨256 * i + k, by omega⟩ l) := by
  have e := (by decide +kernel : ∀ p : Fin grid0.N, win0_2.index p = ![1, p.val, 0]) p
  rw [hi] at e
  refine congrArg A (?_ : ((cfg0.win 2).blk p).view.emb _ = _)
  blk_ext [e]

theorem read3 (A : FVec Ideal S3x256x2048 .bf16) (p : Fin cfg0.N) (i : Fin 1) (hi : p.val = i) (k : Fin 256) (l : Fin 2048) :
    (((cfg0.win 3).blk p).view.read (Elt Ideal) A : Vec Ideal S1x256x2048 .bf16) (ix3 0 k l) = A (ix3 2 ⟨256 * i + k, by omega⟩ l) := by
  have e := (by decide +kernel : ∀ p : Fin grid0.N, win0_3.index p = ![2, p.val, 0]) p
  rw [hi] at e
  refine congrArg A (?_ : ((cfg0.win 3).blk p).view.emb _ = _)
  blk_ext [e]

/-- The weight's and the moments' blocks, and the results', lie alike. -/
theorem read4 (A : FVec Ideal S1x256x2048 .f32) (p : Fin cfg0.N) (i : Fin 1) (hi : p.val = i) (k : Fin 256) (l : Fin 2048) :
    (((cfg0.win 4).blk p).view.read (Elt Ideal) A : Vec Ideal S1x256x2048 .f32) (ix3 0 k l) = A (ix3 0 ⟨256 * i + k, by omega⟩ l) := by
  have e := (by decide +kernel : ∀ p : Fin grid0.N, win0_4.index p = ![0, p.val, 0]) p
  rw [hi] at e
  refine congrArg A (?_ : ((cfg0.win 4).blk p).view.emb _ = _)
  blk_ext [e]

variable (m : (ℓ : Loc nD τ sig) → Buf (Elt Ideal) ℓ) (c : Dev nD)

/-- The arguments. -/
abbrev arg0 : FVec Ideal S1x256x2048 .f32 := m (c, Proc.devRef .tc main_arg0)
abbrev arg1 : FVec Ideal S1x256x2048 .f32 := m (c, Proc.devRef .tc main_arg1)
abbrev arg2 : FVec Ideal S1x256x2048 .f32 := m (c, Proc.devRef .tc main_arg2)
abbrev arg3 : FVec Ideal S4x256x2048 .f32 := m (c, Proc.devRef .tc main_arg3)

/-- The device's own sum, on whole lanes. -/
theorem own_at (r : Fin 256) (l : Fin 2048) : (V m c main_v2 : FVec Ideal S256x2048 .f32) (ix2 r l) = arg3 m c (ix3 0 r l) := by
  unfold V
  after_reads_simp
  simp only [TRef.toBuf, TRef.ofBuf, cast_eq]
  pointwise

/-- The three chips' sums, on whole lanes. -/
theorem chips_at (s : Fin 3) (r : Fin 256) (l : Fin 2048) : (V m c main_v5 : FVec Ideal S3x256x2048 .bf16) (ix3 s r l) = arg3 m c (ix3 s.succ r l) := by
  unfold V
  after_reads_simp
  simp only [TRef.toBuf, TRef.ofBuf, cast_eq]
  pointwise
  exact congrArg (fun q => arg3 m c (ix3 q r l)) (Fin.ext (Nat.add_comm _ _))

/-- The sum of a point's blocks is the gradient of its rows. -/
theorem total_at (p : Fin cfg0.N) (i : Fin 1) (hi : p.val = i) (k : Fin 256) (l : Fin 2048) :
    total (iblk m c 0 p) (iblk m c 1 p) (iblk m c 2 p) (iblk m c 3 p) k l = gradOf (arg3 m c) (ix3 0 ⟨256 * i + k, by omega⟩ l) := by
  refine Eq.trans ?_ (Fin.sum_univ_four fun s : Fin 4 => arg3 m c (ix3 s ⟨256 * i + k, by omega⟩ l)).symm
  have h0 := (read0 (V m c main_v2) p i hi k l).trans (own_at m c _ l)
  have h1 := (read1 (V m c main_v5) p i hi k l).trans (chips_at m c 0 _ l)
  have h2 := (read2 (V m c main_v5) p i hi k l).trans (chips_at m c 1 _ l)
  have h3 := (read3 (V m c main_v5) p i hi k l).trans (chips_at m c 2 _ l)
  exact congrArg₂ (HAdd.hAdd (α := EReal)) (congrArg₂ (HAdd.hAdd (α := EReal)) (congrArg₂ (HAdd.hAdd (α := EReal)) h0 h1) h2) h3

theorem flush : ∀ p : Fin cfg0.N, (cfg0.win 7).flush p = true ∧ (cfg0.win 8).flush p = true ∧ (cfg0.win 9).flush p = true ∧ (cfg0.win 10).flush p = true :=
  (by decide +kernel : ∀ p : Fin grid0.N, _)

theorem point (i : Fin 1) : ∃ p : Fin cfg0.N, p.val = i := ⟨⟨i, by have : cfg0.N = 1 := N_0; omega⟩, rfl⟩

/-- The call writes the gradient, the change of the weight and the two moments. -/
theorem result : (dats m 0 c).arrAt 7 cfg0.N = gradOf (arg3 m c) ∧
    (dats m 0 c).arrAt 8 cfg0.N = changeOf (arg0 m c) (arg1 m c) (arg2 m c) (arg3 m c) ∧
    (dats m 0 c).arrAt 9 cfg0.N = momentumOf (arg1 m c) (arg3 m c) ∧
    (dats m 0 c).arrAt 10 cfg0.N = secondOf (arg2 m c) (arg3 m c) := by
  refine updates (n := 1) (t := 256) (by decide) fun i k l _ => ?_
  obtain ⟨p, hi⟩ := point i
  exact ⟨_, _, _, _, (read4 (V m c main_arg0) p i hi k l).trans (congrFun (V_main_arg0 m c) _),
    (read4 (V m c main_arg1) p i hi k l).trans (congrFun (V_main_arg1 m c) _), (read4 (V m c main_arg2) p i hi k l).trans (congrFun (V_main_arg2 m c) _),
    total_at m c p i hi k l, (read4 _ p i hi k l).symm.trans ((congrFun ((blocks7 m c p (flush p).1).trans (flushed7 m c p)) _).trans (out7_at _ _ _ _ _ _ _ k l)),
    (read4 _ p i hi k l).symm.trans ((congrFun ((blocks8 m c p (flush p).2.1).trans (flushed8 m c p)) _).trans (out8_at _ _ _ _ _ _ _ k l)),
    (read4 _ p i hi k l).symm.trans ((congrFun ((blocks9 m c p (flush p).2.2.1).trans (flushed9 m c p)) _).trans (out9_at _ _ _ _ _ _ _ k l)),
    (read4 _ p i hi k l).symm.trans ((congrFun ((blocks10 m c p (flush p).2.2.2).trans (flushed10 m c p)) _).trans (out10_at _ _ _ _ _ _ _ k l))⟩

end Kernel

/-- Over the extended reals the call's results are the reference's. -/
theorem algebraic : Cert.algebraic_AdamwOutIdeal_AdamwOutReferenceIdeal := by
  intro m ρ m' ρ' _ hagree
  refine ⟨_, _, _, _, Cert.AdamwOutIdeal.Value.run_blocks (F := Ideal) m ρ, ?_⟩
  refine (θ_run Cert.AdamwOutReferenceIdeal.defs _ _).mono (fun _ h c => ?_) (Cert.AdamwOutReferenceIdeal.Value.run (F := Ideal) m' ρ')
  obtain ⟨g0, g1, g2, g3⟩ := hagree c
  obtain ⟨r7, r8, r9, r10⟩ := result m c
  refine ⟨(h c).1.trans (Eq.trans (ext_part fun r b => ?_) ((congrArg gradOf g3).trans r7.symm)),
    (h c).2.1.trans (Eq.trans (ext_part fun r b => ?_) ((congr (congr (congr (congrArg changeOf g0) g1) g2) g3).trans r8.symm)),
    (h c).2.2.1.trans (Eq.trans (ext_part fun r b => ?_) ((congr (congrArg momentumOf g1) g3).trans r9.symm)),
    (h c).2.2.2.1.trans (Eq.trans (ext_part fun r b => ?_) ((congr (congrArg secondOf g2) g3).trans r10.symm)), (h c).2.2.2.2⟩ <;>
    simp only [changeOf, momentumOf, secondOf, gradOf] <;> pointwise <;> rfl

end Cert.AdamwOutClaim

end
-- ==== Proof.AdamwGate.lean ====
/- The sum of the four chips' gradients of a device's part of the gate's weight and AdamW's update of that part, block by
   block of its rows. -/
module

public import proofs.«01_k».proof.Proof.Base
public import proofs.«01_k».proof.Proof.Adam
public import proofs.«01_k».proof.Proof.Gen.AdamwGate.Frame
public import proofs.«01_k».proof.Proof.Gen.AdamwGateIdeal.Value
public import proofs.«01_k».proof.Proof.Gen.AdamwGateReferenceIdeal.Run

@[expose] public section

set_option maxRecDepth 16384

noncomputable section

namespace Cert.AdamwGateClaim

open Idealize.ShloMosaic Idealize.ShloMosaic.TcCoe Idealize.SL.Sem Cert.Adam

section Kernel

open Cert.AdamwGateIdeal Cert.AdamwGateIdeal.Gen Cert.AdamwGateIdeal.Value Idealize.ShloMosaic.StableHlo

theorem ld0 (v : Vec Ideal S256x768 .f32) : View.ld v r0_0 = v := View.ld_unit_zero zeros _ v
theorem ld1 (v : Vec Ideal S1x256x768 .bf16) : View.ld v r0_1 = v := View.ld_unit_zero zeros _ v
theorem ld2 (v : Vec Ideal S1x256x704 .f32) : View.ld v r0_2 = v := View.ld_unit_zero zeros _ v

section Point

variable (x0 : Vec Ideal S256x768 .f32) (x1 x2 x3 : Vec Ideal S1x256x768 .bf16) (x4 x5 x6 : Vec Ideal S1x256x704 .f32) (k : Fin 256) (l : Fin 704)

/-- The sum of a point's four blocks at an entry. -/
def total : EReal := x0 (ix2 k ⟨l, by omega⟩) + x1 (ix3 0 k ⟨l, by omega⟩) + x2 (ix3 0 k ⟨l, by omega⟩) + x3 (ix3 0 k ⟨l, by omega⟩)

/-- A point writes the sum, … -/
theorem out7_at : out0_7 x0 x1 x2 x3 x4 x5 x6 (ix3 0 k l) = total x0 x1 x2 x3 k l := by
  unfold out0_7 total
  rw [View.canon_unit_zero zeros]
  unfold k0_pay6 k0_pay5
  simp only [ld0, ld1, ld2]
  pointwise

/-- … what the weight changes by, … -/
theorem out8_at : out0_8 x0 x1 x2 x3 x4 x5 x6 (ix3 0 k l) = change (x4 (ix3 0 k l)) (momentum (x5 (ix3 0 k l)) (total x0 x1 x2 x3 k l)) (second (x6 (ix3 0 k l)) (total x0 x1 x2 x3 k l)) := by
  unfold out0_8 total
  rw [View.canon_unit_zero zeros]
  unfold k0_pay2 k0_pay1 k0_pay13 k0_pay12 k0_pay11 k0_pay10 k0_pay9 k0_pay8 k0_pay7 k0_pay5
  simp only [ld0, ld1, ld2]
  pointwise
  rfl

/-- … the first moment … -/
theorem out9_at : out0_9 x0 x1 x2 x3 x4 x5 x6 (ix3 0 k l) = momentum (x5 (ix3 0 k l)) (total x0 x1 x2 x3 k l) := by
  unfold out0_9 total
  rw [View.canon_unit_zero zeros]
  unfold k0_pay3 k0_pay11 k0_pay8 k0_pay5
  simp only [ld0, ld1, ld2]
  pointwise
  rfl

/-- … and the second. -/
theorem out10_at : out0_10 x0 x1 x2 x3 x4 x5 x6 (ix3 0 k l) = second (x6 (ix3 0 k l)) (total x0 x1 x2 x3 k l) := by
  unfold out0_10 total
  rw [View.canon_unit_zero zeros]
  unfold k0_pay4 k0_pay1 k0_pay13 k0_pay12 k0_pay10 k0_pay9 k0_pay5
  simp only [ld0, ld1, ld2]
  pointwise
  rfl

end Point

/-! Where a point's blocks lie. -/

theorem read0 (A : FVec Ideal S2048x768 .f32) (p : Fin cfg0.N) (i : Fin 8) (hi : p.val = i) (k : Fin 256) (l : Fin 768) :
    (((cfg0.win 0).blk p).view.read (Elt Ideal) A : Vec Ideal S256x768 .f32) (ix2 k l) = A (ix2 ⟨256 * i + k, by omega⟩ l) := by
  have e := (by decide +kernel : ∀ p : Fin grid0.N, win0_0.index p = ![p.val, 0]) p
  rw [hi] at e
  refine congrArg A (?_ : ((cfg0.win 0).blk p).view.emb _ = _)
  blk_ext [e]

theorem read1 (A : FVec Ideal S3x2048x768 .bf16) (p : Fin cfg0.N) (i : Fin 8) (hi : p.val = i) (k : Fin 256) (l : Fin 768) :
    (((cfg0.win 1).blk p).view.read (Elt Ideal) A : Vec Ideal S1x256x768 .bf16) (ix3 0 k l) = A (ix3 0 ⟨256 * i + k, by omega⟩ l) := by
  have e := (by decide +kernel : ∀ p : Fin grid0.N, win0_1.index p = ![0, p.val, 0]) p
  rw [hi] at e
  refine congrArg A (?_ : ((cfg0.win 1).blk p).view.emb _ = _)
  blk_ext [e]

theorem read2 (A : FVec Ideal S3x2048x768 .bf16) (p : Fin cfg0.N) (i : Fin 8) (hi : p.val = i) (k : Fin 256) (l : Fin 768) :
    (((cfg0.win 2).blk p).view.read (Elt Ideal) A : Vec Ideal S1x256x768 .bf16) (ix3 0 k l) = A (ix3 1 ⟨256 * i + k, by omega⟩ l) := by
  have e := (by decide +kernel : ∀ p : Fin grid0.N, win0_2.index p = ![1, p.val, 0]) p
  rw [hi] at e
  refine congrArg A (?_ : ((cfg0.win 2).blk p).view.emb _ = _)
  blk_ext [e]

theorem read3 (A : FVec Ideal S3x2048x768 .bf16) (p : Fin cfg0.N) (i : Fin 8) (hi : p.val = i) (k : Fin 256) (l : Fin 768) :
    (((cfg0.win 3).blk p).view.read (Elt Ideal) A : Vec Ideal S1x256x768 .bf16) (ix3 0 k l) = A (ix3 2 ⟨256 * i + k, by omega⟩ l) := by
  have e := (by decide +kernel : ∀ p : Fin grid0.N, win0_3.index p = ![2, p.val, 0]) p
  rw [hi] at e
  refine congrArg A (?_ : ((cfg0.win 3).blk p).view.emb _ = _)
  blk_ext [e]

/-- The weight's and the moments' blocks, and the results', lie alike. -/
theorem read4 (A : FVec Ideal S1x2048x704 .f32) (p : Fin cfg0.N) (i : Fin 8) (hi : p.val = i) (k : Fin 256) (l : Fin 704) :
    (((cfg0.win 4).blk p).view.read (Elt Ideal) A : Vec Ideal S1x256x704 .f32) (ix3 0 k l) = A (ix3 0 ⟨256 * i + k, by omega⟩ l) := by
  have e := (by decide +kernel : ∀ p : Fin grid0.N, win0_4.index p = ![0, p.val, 0]) p
  rw [hi] at e
  refine congrArg A (?_ : ((cfg0.win 4).blk p).view.emb _ = _)
  blk_ext [e]

variable (m : (ℓ : Loc nD τ sig) → Buf (Elt Ideal) ℓ) (c : Dev nD)

/-- The arguments. -/
abbrev arg0 : FVec Ideal S1x2048x704 .f32 := m (c, Proc.devRef .tc main_arg0)
abbrev arg1 : FVec Ideal S1x2048x704 .f32 := m (c, Proc.devRef .tc main_arg1)
abbrev arg2 : FVec Ideal S1x2048x704 .f32 := m (c, Proc.devRef .tc main_arg2)
abbrev arg3 : FVec Ideal S4x2048x704 .f32 := m (c, Proc.devRef .tc main_arg3)

/-- The device's own sum, on whole lanes. -/
theorem own_at (r : Fin 2048) (l : Fin 704) : (V m c main_v2 : FVec Ideal S2048x768 .f32) (ix2 r ⟨l, by omega⟩) = arg3 m c (ix3 0 r l) := by
  unfold V
  after_reads_simp
  simp only [TRef.toBuf, TRef.ofBuf, cast_eq]
  pointwise

/-- The three chips' sums, on whole lanes. -/
theorem chips_at (s : Fin 3) (r : Fin 2048) (l : Fin 704) : (V m c main_v5 : FVec Ideal S3x2048x768 .bf16) (ix3 s r ⟨l, by omega⟩) = arg3 m c (ix3 s.succ r l) := by
  unfold V
  after_reads_simp
  simp only [TRef.toBuf, TRef.ofBuf, cast_eq]
  pointwise
  exact congrArg (fun q => arg3 m c (ix3 q r l)) (Fin.ext (Nat.add_comm _ _))

/-- The sum of a point's blocks is the gradient of its rows. -/
theorem total_at (p : Fin cfg0.N) (i : Fin 8) (hi : p.val = i) (k : Fin 256) (l : Fin 704) :
    total (iblk m c 0 p) (iblk m c 1 p) (iblk m c 2 p) (iblk m c 3 p) k l = gradOf (arg3 m c) (ix3 0 ⟨256 * i + k, by omega⟩ l) := by
  refine Eq.trans ?_ (Fin.sum_univ_four fun s : Fin 4 => arg3 m c (ix3 s ⟨256 * i + k, by omega⟩ l)).symm
  have h0 := (read0 (V m c main_v2) p i hi k ⟨l, by omega⟩).trans (own_at m c _ l)
  have h1 := (read1 (V m c main_v5) p i hi k ⟨l, by omega⟩).trans (chips_at m c 0 _ l)
  have h2 := (read2 (V m c main_v5) p i hi k ⟨l, by omega⟩).trans (chips_at m c 1 _ l)
  have h3 := (read3 (V m c main_v5) p i hi k ⟨l, by omega⟩).trans (chips_at m c 2 _ l)
  exact congrArg₂ (HAdd.hAdd (α := EReal)) (congrArg₂ (HAdd.hAdd (α := EReal)) (congrArg₂ (HAdd.hAdd (α := EReal)) h0 h1) h2) h3

theorem flush : ∀ p : Fin cfg0.N, (cfg0.win 7).flush p = true ∧ (cfg0.win 8).flush p = true ∧ (cfg0.win 9).flush p = true ∧ (cfg0.win 10).flush p = true :=
  (by decide +kernel : ∀ p : Fin grid0.N, _)

theorem point (i : Fin 8) : ∃ p : Fin cfg0.N, p.val = i := ⟨⟨i, by have : cfg0.N = 8 := N_0; omega⟩, rfl⟩

/-- The call writes the gradient, the change of the weight and the two moments. -/
theorem result : (dats m 0 c).arrAt 7 cfg0.N = gradOf (arg3 m c) ∧
    (dats m 0 c).arrAt 8 cfg0.N = changeOf (arg0 m c) (arg1 m c) (arg2 m c) (arg3 m c) ∧
    (dats m 0 c).arrAt 9 cfg0.N = momentumOf (arg1 m c) (arg3 m c) ∧
    (dats m 0 c).arrAt 10 cfg0.N = secondOf (arg2 m c) (arg3 m c) := by
  refine updates (n := 8) (t := 256) (by decide) fun i k l _ => ?_
  obtain ⟨p, hi⟩ := point i
  exact ⟨_, _, _, _, (read4 (V m c main_arg0) p i hi k l).trans (congrFun (V_main_arg0 m c) _),
    (read4 (V m c main_arg1) p i hi k l).trans (congrFun (V_main_arg1 m c) _), (read4 (V m c main_arg2) p i hi k l).trans (congrFun (V_main_arg2 m c) _),
    total_at m c p i hi k l, (read4 _ p i hi k l).symm.trans ((congrFun ((blocks7 m c p (flush p).1).trans (flushed7 m c p)) _).trans (out7_at _ _ _ _ _ _ _ k l)),
    (read4 _ p i hi k l).symm.trans ((congrFun ((blocks8 m c p (flush p).2.1).trans (flushed8 m c p)) _).trans (out8_at _ _ _ _ _ _ _ k l)),
    (read4 _ p i hi k l).symm.trans ((congrFun ((blocks9 m c p (flush p).2.2.1).trans (flushed9 m c p)) _).trans (out9_at _ _ _ _ _ _ _ k l)),
    (read4 _ p i hi k l).symm.trans ((congrFun ((blocks10 m c p (flush p).2.2.2).trans (flushed10 m c p)) _).trans (out10_at _ _ _ _ _ _ _ k l))⟩

end Kernel

/-- Over the extended reals the call's results are the reference's. -/
theorem algebraic : Cert.algebraic_AdamwGateIdeal_AdamwGateReferenceIdeal := by
  intro m ρ m' ρ' _ hagree
  refine ⟨_, _, _, _, Cert.AdamwGateIdeal.Value.run_blocks (F := Ideal) m ρ, ?_⟩
  refine (θ_run Cert.AdamwGateReferenceIdeal.defs _ _).mono (fun _ h c => ?_) (Cert.AdamwGateReferenceIdeal.Value.run (F := Ideal) m' ρ')
  obtain ⟨g0, g1, g2, g3⟩ := hagree c
  obtain ⟨r7, r8, r9, r10⟩ := result m c
  refine ⟨(h c).1.trans (Eq.trans (ext_part fun r b => ?_) ((congrArg gradOf g3).trans r7.symm)),
    (h c).2.1.trans (Eq.trans (ext_part fun r b => ?_) ((congr (congr (congr (congrArg changeOf g0) g1) g2) g3).trans r8.symm)),
    (h c).2.2.1.trans (Eq.trans (ext_part fun r b => ?_) ((congr (congrArg momentumOf g1) g3).trans r9.symm)),
    (h c).2.2.2.1.trans (Eq.trans (ext_part fun r b => ?_) ((congr (congrArg secondOf g2) g3).trans r10.symm)), (h c).2.2.2.2⟩ <;>
    simp only [changeOf, momentumOf, secondOf, gradOf] <;> pointwise <;> rfl

end Cert.AdamwGateClaim

end
-- ==== Proof.AdamwUp.lean ====
/- AdamW's update of a device's part of the up projection's weight: the same lines as for the gate's, whose entries serve here. -/
module

public import proofs.«01_k».proof.Proof.Base
public import proofs.«01_k».proof.Proof.AdamwGate
public import proofs.«01_k».proof.Proof.Gen.AdamwUp.Frame
public import proofs.«01_k».proof.Proof.Gen.AdamwUpIdeal.Value
public import proofs.«01_k».proof.Proof.Gen.AdamwUpReferenceIdeal.Run

@[expose] public section

set_option maxRecDepth 16384

noncomputable section

namespace Cert.AdamwUpClaim

open Idealize.ShloMosaic Idealize.ShloMosaic.TcCoe Idealize.SL.Sem Cert.Adam Cert.AdamwGateClaim

/-- Over the extended reals the call's results are the reference's. -/
theorem algebraic : Cert.algebraic_AdamwUpIdeal_AdamwUpReferenceIdeal := by
  intro m ρ m' ρ' _ hagree
  refine ⟨_, _, _, _, Cert.AdamwUpIdeal.Value.run_blocks (F := Ideal) m ρ, ?_⟩
  refine (θ_run Cert.AdamwUpReferenceIdeal.defs _ _).mono (fun _ h c => ?_) (Cert.AdamwUpReferenceIdeal.Value.run (F := Ideal) m' ρ')
  obtain ⟨g0, g1, g2, g3⟩ := hagree c
  obtain ⟨r7, r8, r9, r10⟩ := result m c
  refine ⟨(h c).1.trans (Eq.trans (ext_part fun r b => ?_) ((congrArg gradOf g3).trans r7.symm)),
    (h c).2.1.trans (Eq.trans (ext_part fun r b => ?_) ((congr (congr (congr (congrArg changeOf g0) g1) g2) g3).trans r8.symm)),
    (h c).2.2.1.trans (Eq.trans (ext_part fun r b => ?_) ((congr (congrArg momentumOf g1) g3).trans r9.symm)),
    (h c).2.2.2.1.trans (Eq.trans (ext_part fun r b => ?_) ((congr (congrArg secondOf g2) g3).trans r10.symm)), (h c).2.2.2.2⟩ <;>
    simp only [changeOf, momentumOf, secondOf, gradOf] <;> pointwise <;> rfl

end Cert.AdamwUpClaim

end
-- ==== Proof.AdamwDown.lean ====
/- The sum of the four chips' gradients of a device's part of the down projection's weight and AdamW's update of that part, block by
   block of its rows. -/
module

public import proofs.«01_k».proof.Proof.Base
public import proofs.«01_k».proof.Proof.Adam
public import proofs.«01_k».proof.Proof.Gen.AdamwDown.Frame
public import proofs.«01_k».proof.Proof.Gen.AdamwDownIdeal.Value
public import proofs.«01_k».proof.Proof.Gen.AdamwDownReferenceIdeal.Run

@[expose] public section

set_option maxRecDepth 16384

noncomputable section

namespace Cert.AdamwDownClaim

open Idealize.ShloMosaic Idealize.ShloMosaic.TcCoe Idealize.SL.Sem Cert.Adam

section Kernel

open Cert.AdamwDownIdeal Cert.AdamwDownIdeal.Gen Cert.AdamwDownIdeal.Value Idealize.ShloMosaic.StableHlo

theorem ld0 (v : Vec Ideal S176x2048 .f32) : View.ld v r0_0 = v := View.ld_unit_zero zeros _ v
theorem ld1 (v : Vec Ideal S1x176x2048 .bf16) : View.ld v r0_1 = v := View.ld_unit_zero zeros _ v
theorem ld2 (v : Vec Ideal S1x176x2048 .f32) : View.ld v r0_1 = v := View.ld_unit_zero zeros _ v

section Point

variable (x0 : Vec Ideal S176x2048 .f32) (x1 x2 x3 : Vec Ideal S1x176x2048 .bf16) (x4 x5 x6 : Vec Ideal S1x176x2048 .f32) (k : Fin 176) (l : Fin 2048)

/-- The sum of a point's four blocks at an entry. -/
def total : EReal := x0 (ix2 k l) + x1 (ix3 0 k l) + x2 (ix3 0 k l) + x3 (ix3 0 k l)

/-- A point writes the sum, … -/
theorem out7_at : out0_7 x0 x1 x2 x3 x4 x5 x6 (ix3 0 k l) = total x0 x1 x2 x3 k l := by
  unfold out0_7 total
  rw [View.canon_unit_zero zeros]
  unfold k0_pay6 k0_pay5
  simp only [ld0, ld1, ld2]
  pointwise

/-- … what the weight changes by, … -/
theorem out8_at : out0_8 x0 x1 x2 x3 x4 x5 x6 (ix3 0 k l) = change (x4 (ix3 0 k l)) (momentum (x5 (ix3 0 k l)) (total x0 x1 x2 x3 k l)) (second (x6 (ix3 0 k l)) (total x0 x1 x2 x3 k l)) := by
  unfold out0_8 total
  rw [View.canon_unit_zero zeros]
  unfold k0_pay2 k0_pay1 k0_pay13 k0_pay12 k0_pay11 k0_pay10 k0_pay9 k0_pay8 k0_pay7 k0_pay5
  simp only [ld0, ld1, ld2]
  pointwise
  rfl

/-- … the first moment … -/
theorem out9_at : out0_9 x0 x1 x2 x3 x4 x5 x6 (ix3 0 k l) = momentum (x5 (ix3 0 k l)) (total x0 x1 x2 x3 k l) := by
  unfold out0_9 total
  rw [View.canon_unit_zero zeros]
  unfold k0_pay3 k0_pay11 k0_pay8 k0_pay5
  simp only [ld0, ld1, ld2]
  pointwise
  rfl

/-- … and the second. -/
theorem out10_at : out0_10 x0 x1 x2 x3 x4 x5 x6 (ix3 0 k l) = second (x6 (ix3 0 k l)) (total x0 x1 x2 x3 k l) := by
  unfold out0_10 total
  rw [View.canon_unit_zero zeros]
  unfold k0_pay4 k0_pay1 k0_pay13 k0_pay12 k0_pay10 k0_pay9 k0_pay5
  simp only [ld0, ld1, ld2]
  pointwise
  rfl

end Point

/-! Where a point's blocks lie. -/

theorem read0 (A : FVec Ideal S704x2048 .f32) (p : Fin cfg0.N) (i : Fin 4) (hi : p.val = i) (k : Fin 176) (l : Fin 2048) :
    (((cfg0.win 0).blk p).view.read (Elt Ideal) A : Vec Ideal S176x2048 .f32) (ix2 k l) = A (ix2 ⟨176 * i + k, by omega⟩ l) := by
  have e := (by decide +kernel : ∀ p : Fin grid0.N, win0_0.index p = ![p.val, 0]) p
  rw [hi] at e
  refine congrArg A (?_ : ((cfg0.win 0).blk p).view.emb _ = _)
  blk_ext [e]

theorem read1 (A : FVec Ideal S3x704x2048 .bf16) (p : Fin cfg0.N) (i : Fin 4) (hi : p.val = i) (k : Fin 176) (l : Fin 2048) :
    (((cfg0.win 1).blk p).view.read (Elt Ideal) A : Vec Ideal S1x176x2048 .bf16) (ix3 0 k l) = A (ix3 0 ⟨176 * i + k, by omega⟩ l) := by
  have e := (by decide +kernel : ∀ p : Fin grid0.N, win0_1.index p = ![0, p.val, 0]) p
  rw [hi] at e
  refine congrArg A (?_ : ((cfg0.win 1).blk p).view.emb _ = _)
  blk_ext [e]

theorem read2 (A : FVec Ideal S3x704x2048 .bf16) (p : Fin cfg0.N) (i : Fin 4) (hi : p.val = i) (k : Fin 176) (l : Fin 2048) :
    (((cfg0.win 2).blk p).view.read (Elt Ideal) A : Vec Ideal S1x176x2048 .bf16) (ix3 0 k l) = A (ix3 1 ⟨176 * i + k, by omega⟩ l) := by
  have e := (by decide +kernel : ∀ p : Fin grid0.N, win0_2.index p = ![1, p.val, 0]) p
  rw [hi] at e
  refine congrArg A (?_ : ((cfg0.win 2).blk p).view.emb _ = _)
  blk_ext [e]

theorem read3 (A : FVec Ideal S3x704x2048 .bf16) (p : Fin cfg0.N) (i : Fin 4) (hi : p.val = i) (k : Fin 176) (l : Fin 2048) :
    (((cfg0.win 3).blk p).view.read (Elt Ideal) A : Vec Ideal S1x176x2048 .bf16) (ix3 0 k l) = A (ix3 2 ⟨176 * i + k, by omega⟩ l) := by
  have e := (by decide +kernel : ∀ p : Fin grid0.N, win0_3.index p = ![2, p.val, 0]) p
  rw [hi] at e
  refine congrArg A (?_ : ((cfg0.win 3).blk p).view.emb _ = _)
  blk_ext [e]

/-- The weight's and the moments' blocks, and the results', lie alike. -/
theorem read4 (A : FVec Ideal S1x704x2048 .f32) (p : Fin cfg0.N) (i : Fin 4) (hi : p.val = i) (k : Fin 176) (l : Fin 2048) :
    (((cfg0.win 4).blk p).view.read (Elt Ideal) A : Vec Ideal S1x176x2048 .f32) (ix3 0 k l) = A (ix3 0 ⟨176 * i + k, by omega⟩ l) := by
  have e := (by decide +kernel : ∀ p : Fin grid0.N, win0_4.index p = ![0, p.val, 0]) p
  rw [hi] at e
  refine congrArg A (?_ : ((cfg0.win 4).blk p).view.emb _ = _)
  blk_ext [e]

variable (m : (ℓ : Loc nD τ sig) → Buf (Elt Ideal) ℓ) (c : Dev nD)

/-- The arguments. -/
abbrev arg0 : FVec Ideal S1x704x2048 .f32 := m (c, Proc.devRef .tc main_arg0)
abbrev arg1 : FVec Ideal S1x704x2048 .f32 := m (c, Proc.devRef .tc main_arg1)
abbrev arg2 : FVec Ideal S1x704x2048 .f32 := m (c, Proc.devRef .tc main_arg2)
abbrev arg3 : FVec Ideal S4x704x2048 .f32 := m (c, Proc.devRef .tc main_arg3)

/-- The device's own sum, on whole lanes. -/
theorem own_at (r : Fin 704) (l : Fin 2048) : (V m c main_v2 : FVec Ideal S704x2048 .f32) (ix2 r l) = arg3 m c (ix3 0 r l) := by
  unfold V
  after_reads_simp
  simp only [TRef.toBuf, TRef.ofBuf, cast_eq]
  pointwise

/-- The three chips' sums, on whole lanes. -/
theorem chips_at (s : Fin 3) (r : Fin 704) (l : Fin 2048) : (V m c main_v5 : FVec Ideal S3x704x2048 .bf16) (ix3 s r l) = arg3 m c (ix3 s.succ r l) := by
  unfold V
  after_reads_simp
  simp only [TRef.toBuf, TRef.ofBuf, cast_eq]
  pointwise
  exact congrArg (fun q => arg3 m c (ix3 q r l)) (Fin.ext (Nat.add_comm _ _))

/-- The sum of a point's blocks is the gradient of its rows. -/
theorem total_at (p : Fin cfg0.N) (i : Fin 4) (hi : p.val = i) (k : Fin 176) (l : Fin 2048) :
    total (iblk m c 0 p) (iblk m c 1 p) (iblk m c 2 p) (iblk m c 3 p) k l = gradOf (arg3 m c) (ix3 0 ⟨176 * i + k, by omega⟩ l) := by
  refine Eq.trans ?_ (Fin.sum_univ_four fun s : Fin 4 => arg3 m c (ix3 s ⟨176 * i + k, by omega⟩ l)).symm
  have h0 := (read0 (V m c main_v2) p i hi k l).trans (own_at m c _ l)
  have h1 := (read1 (V m c main_v5) p i hi k l).trans (chips_at m c 0 _ l)
  have h2 := (read2 (V m c main_v5) p i hi k l).trans (chips_at m c 1 _ l)
  have h3 := (read3 (V m c main_v5) p i hi k l).trans (chips_at m c 2 _ l)
  exact congrArg₂ (HAdd.hAdd (α := EReal)) (congrArg₂ (HAdd.hAdd (α := EReal)) (congrArg₂ (HAdd.hAdd (α := EReal)) h0 h1) h2) h3

theorem flush : ∀ p : Fin cfg0.N, (cfg0.win 7).flush p = true ∧ (cfg0.win 8).flush p = true ∧ (cfg0.win 9).flush p = true ∧ (cfg0.win 10).flush p = true :=
  (by decide +kernel : ∀ p : Fin grid0.N, _)

theorem point (i : Fin 4) : ∃ p : Fin cfg0.N, p.val = i := ⟨⟨i, by have : cfg0.N = 4 := N_0; omega⟩, rfl⟩

/-- The call writes the gradient, the change of the weight and the two moments. -/
theorem result : (dats m 0 c).arrAt 7 cfg0.N = gradOf (arg3 m c) ∧
    (dats m 0 c).arrAt 8 cfg0.N = changeOf (arg0 m c) (arg1 m c) (arg2 m c) (arg3 m c) ∧
    (dats m 0 c).arrAt 9 cfg0.N = momentumOf (arg1 m c) (arg3 m c) ∧
    (dats m 0 c).arrAt 10 cfg0.N = secondOf (arg2 m c) (arg3 m c) := by
  refine updates (n := 4) (t := 176) (by decide) fun i k l _ => ?_
  obtain ⟨p, hi⟩ := point i
  exact ⟨_, _, _, _, (read4 (V m c main_arg0) p i hi k l).trans (congrFun (V_main_arg0 m c) _),
    (read4 (V m c main_arg1) p i hi k l).trans (congrFun (V_main_arg1 m c) _), (read4 (V m c main_arg2) p i hi k l).trans (congrFun (V_main_arg2 m c) _),
    total_at m c p i hi k l, (read4 _ p i hi k l).symm.trans ((congrFun ((blocks7 m c p (flush p).1).trans (flushed7 m c p)) _).trans (out7_at _ _ _ _ _ _ _ k l)),
    (read4 _ p i hi k l).symm.trans ((congrFun ((blocks8 m c p (flush p).2.1).trans (flushed8 m c p)) _).trans (out8_at _ _ _ _ _ _ _ k l)),
    (read4 _ p i hi k l).symm.trans ((congrFun ((blocks9 m c p (flush p).2.2.1).trans (flushed9 m c p)) _).trans (out9_at _ _ _ _ _ _ _ k l)),
    (read4 _ p i hi k l).symm.trans ((congrFun ((blocks10 m c p (flush p).2.2.2).trans (flushed10 m c p)) _).trans (out10_at _ _ _ _ _ _ _ k l))⟩

end Kernel

/-- Over the extended reals the call's results are the reference's. -/
theorem algebraic : Cert.algebraic_AdamwDownIdeal_AdamwDownReferenceIdeal := by
  intro m ρ m' ρ' _ hagree
  refine ⟨_, _, _, _, Cert.AdamwDownIdeal.Value.run_blocks (F := Ideal) m ρ, ?_⟩
  refine (θ_run Cert.AdamwDownReferenceIdeal.defs _ _).mono (fun _ h c => ?_) (Cert.AdamwDownReferenceIdeal.Value.run (F := Ideal) m' ρ')
  obtain ⟨g0, g1, g2, g3⟩ := hagree c
  obtain ⟨r7, r8, r9, r10⟩ := result m c
  refine ⟨(h c).1.trans (Eq.trans (ext_part fun r b => ?_) ((congrArg gradOf g3).trans r7.symm)),
    (h c).2.1.trans (Eq.trans (ext_part fun r b => ?_) ((congr (congr (congr (congrArg changeOf g0) g1) g2) g3).trans r8.symm)),
    (h c).2.2.1.trans (Eq.trans (ext_part fun r b => ?_) ((congr (congrArg momentumOf g1) g3).trans r9.symm)),
    (h c).2.2.2.1.trans (Eq.trans (ext_part fun r b => ?_) ((congr (congrArg secondOf g2) g3).trans r10.symm)), (h c).2.2.2.2⟩ <;>
    simp only [changeOf, momentumOf, secondOf, gradOf] <;> pointwise <;> rfl

end Cert.AdamwDownClaim

end
-- ==== Proof.ConvGrad.lean ====
/- The gradients of the gated convolution, column by column, and their form on the padded width. -/
module

public import proofs.«01_k».proof.Proof.Conv
public import Idealize.ShloMosaic.Lib.Pointwise

@[expose] public section

noncomputable section

namespace Cert.Conv

open Idealize.ShloMosaic Cert.Parts

variable {N : ℕ}

/-! The gradients of the gated convolution with respect to a column's entries, taps and bias: `G` the column of gates, `U` what it
   is gated with, `D` the result's gradient. -/

/-- The gradient with respect to what is gated, from `x` and the product `z` of the result's gradient with the other factor. -/
def gateGrad (x z : EReal) : EReal := z * (Ideal.logistic x * (1 + x * (1 - Ideal.logistic x)))

/-- It is the sum of the two factors' gradients wherever `z` is finite. -/
theorem gateGrad_eq (x : EReal) (z : ℝ) :
    gateGrad x z = z * Ideal.logistic x + x * z * (Ideal.logistic x * (1 - Ideal.logistic x)) := by
  unfold gateGrad
  induction x with
  | bot => simp
  | coe x =>
    rw [Ideal.logistic_coe]
    norm_cast
    ring
  | top =>
    have : (1 : EReal) - 1 = 0 := by rw [← EReal.coe_one, ← EReal.coe_sub, sub_self, EReal.coe_zero]
    simp [this]

/-- Token `x` of block `t`. -/
def at256 (t : Fin 8) (x : Fin 256) : Fin 2048 := ⟨256 * t.val + x.val, by omega⟩

/-- The gate's gradient at token `r`. -/
def dGate (r : Fin 2048) (w0 w1 w2 b : EReal) (G U D : Fin 2048 → EReal) : EReal := gateGrad (conv w0 w1 w2 b G r) (D r * U r)

/-- The other factor's gradient at token `r`. -/
def dUp (r : Fin 2048) (w0 w1 w2 b : EReal) (G _U D : Fin 2048 → EReal) : EReal :=
  D r * conv w0 w1 w2 b G r * Ideal.logistic (conv w0 w1 w2 b G r)

/-- The gradient of the tap `n` tokens back, over block `t`. -/
def dTap (n : ℕ) (t : Fin 8) (w0 w1 w2 b : EReal) (G U D : Fin 2048 → EReal) : EReal :=
  ∑ x : Fin 256, dGate (at256 t x) w0 w1 w2 b G U D * back n G (at256 t x)

/-- The bias's gradient over block `t`. -/
def dBias (t : Fin 8) (w0 w1 w2 b : EReal) (G U D : Fin 2048 → EReal) : EReal := ∑ x : Fin 256, dGate (at256 t x) w0 w1 w2 b G U D

theorem dGate_zero (r : Fin 2048) (w0 w1 w2 b : EReal) (G U : Fin 2048 → EReal) : dGate r w0 w1 w2 b G U (fun _ => 0) = 0 := by
  unfold dGate gateGrad
  rw [zero_mul, zero_mul]

theorem dUp_zero (r : Fin 2048) (w0 w1 w2 b : EReal) (G U : Fin 2048 → EReal) : dUp r w0 w1 w2 b G U (fun _ => 0) = 0 := by
  unfold dUp
  rw [zero_mul, zero_mul]

theorem dTap_zero (n : ℕ) (t : Fin 8) (w0 w1 w2 b : EReal) (G U : Fin 2048 → EReal) : dTap n t w0 w1 w2 b G U (fun _ => 0) = 0 :=
  Finset.sum_eq_zero fun x _ => by rw [dGate_zero, zero_mul]

theorem dBias_zero (t : Fin 8) (w0 w1 w2 b : EReal) (G U : Fin 2048 → EReal) : dBias t w0 w1 w2 b G U (fun _ => 0) = 0 :=
  Finset.sum_eq_zero fun x _ => dGate_zero _ _ _ _ _ _ _

theorem back_none (G : Fin N → EReal) (r : Fin N) : back 0 G r = G r := dif_pos (Nat.zero_le _)

/-- The shifts read off a column that begins with two zeros. -/
theorem back_two (G : Fin N → EReal) (r : Fin N) : (if h : r.val < 2 then 0 else G ⟨r.val - 2, by omega⟩) = back 2 G r := by
  unfold back
  by_cases h : r.val < 2
  · rw [dif_pos h, dif_neg (by omega)]
  · rw [dif_neg h, dif_pos (by omega)]

theorem back_one (G : Fin N → EReal) (r : Fin N) : (if h : 1 + r.val < 2 then 0 else G ⟨1 + r.val - 2, by omega⟩) = back 1 G r := by
  unfold back
  by_cases h : 1 + r.val < 2
  · rw [dif_pos h, dif_neg (by omega)]
  · rw [dif_neg h, dif_pos (by omega)]
    exact congrArg G (Fin.ext (show 1 + r.val - 2 = r.val - 1 by omega))

/-- A column's function `f` at column `b` of the padded width. -/
def column (f : (w0 w1 w2 b : EReal) → (G U D : Fin 2048 → EReal) → EReal) (A0 A1 : (⟨2, ![2048, 5632]⟩ : Shape).Idx → EReal)
    (A2 : (⟨2, ![3, 5632]⟩ : Shape).Idx → EReal) (A3 : (⟨2, ![1, 5632]⟩ : Shape).Idx → EReal) (A4 : (⟨2, ![2048, 5632]⟩ : Shape).Idx → EReal)
    (b : Fin 6144) : EReal :=
  slot 704 (fun q => f (A2 (ix2 0 q)) (A2 (ix2 1 q)) (A2 (ix2 2 q)) (A3 (ix2 0 q)) (fun t => A0 (ix2 t q)) (fun t => A1 (ix2 t q))
    (fun t => A4 (ix2 t q))) (b / 768) (b % 768)

/-- The function of column `b` of the padded arguments. -/
def padded (f : (w0 w1 w2 b : EReal) → (G U D : Fin 2048 → EReal) → EReal) (A0 A1 : (⟨2, ![2048, 5632]⟩ : Shape).Idx → EReal)
    (A2 : (⟨2, ![3, 5632]⟩ : Shape).Idx → EReal) (A3 : (⟨2, ![1, 5632]⟩ : Shape).Idx → EReal) (A4 : (⟨2, ![2048, 5632]⟩ : Shape).Idx → EReal)
    (b : Fin 6144) : EReal :=
  f (slot 704 (fun q => A2 (ix2 0 q)) (b / 768) (b % 768)) (slot 704 (fun q => A2 (ix2 1 q)) (b / 768) (b % 768))
    (slot 704 (fun q => A2 (ix2 2 q)) (b / 768) (b % 768)) (slot 704 (fun q => A3 (ix2 0 q)) (b / 768) (b % 768))
    (fun t => slot 704 (fun q => A0 (ix2 t q)) (b / 768) (b % 768)) (fun t => slot 704 (fun q => A1 (ix2 t q)) (b / 768) (b % 768))
    (fun t => slot 704 (fun q => A4 (ix2 t q)) (b / 768) (b % 768))

/-- It is the function's column padded, if the function is zero where the result's gradient is. -/
theorem column_eq {f : (w0 w1 w2 b : EReal) → (G U D : Fin 2048 → EReal) → EReal} (hf : ∀ w0 w1 w2 b G U, f w0 w1 w2 b G U (fun _ => 0) = 0)
    (A0 A1 : (⟨2, ![2048, 5632]⟩ : Shape).Idx → EReal) (A2 : (⟨2, ![3, 5632]⟩ : Shape).Idx → EReal) (A3 : (⟨2, ![1, 5632]⟩ : Shape).Idx → EReal)
    (A4 : (⟨2, ![2048, 5632]⟩ : Shape).Idx → EReal) (b : Fin 6144) : padded f A0 A1 A2 A3 A4 b = column f A0 A1 A2 A3 A4 b := by
  unfold padded column slot
  split
  · rfl
  · exact hf _ _ _ _ _ _

end Cert.Conv

end
-- ==== Proof.DFfnAct.lean ====
/- The gradients of the gated convolution: a block of 256 tokens and 1024 channels at a point, the two tokens before the block read
   from the eight rows before it. -/
module

public import proofs.«01_k».proof.Proof.Base
public import proofs.«01_k».proof.Proof.ConvGrad
public import proofs.«01_k».proof.Proof.Result
public import proofs.«01_k».proof.Proof.Gen.DFfnAct.Frame
public import proofs.«01_k».proof.Proof.Gen.DFfnActIdeal.Value
public import proofs.«01_k».proof.Proof.Gen.DFfnActReferenceIdeal.Run
public import proofs.«01_k».proof.Proof.Gen.Pre_finite_ffn

@[expose] public section

set_option maxRecDepth 16384

noncomputable section

namespace Cert.DFfnActClaim

open Idealize.ShloMosaic Idealize.ShloMosaic.TcCoe Idealize.SL.Sem Cert.Parts Cert.Conv

section Kernel

open Cert.DFfnActIdeal Cert.DFfnActIdeal.Gen Cert.DFfnActIdeal.Value Idealize.ShloMosaic.StableHlo

theorem ld0 (v : Vec Ideal S256x1024 .f32) : View.ld v r0_0 = v := View.ld_unit_zero zeros _ v
theorem ld0' (v : Vec Ideal S256x1024 .bf16) : View.ld v r0_0 = v := View.ld_unit_zero zeros _ v
theorem ld1 (v : Vec Ideal S8x1024 .f32) : View.ld v r0_1 = v := View.ld_unit_zero zeros _ v
theorem ld2 (v : Vec Ideal S3x1024 .f32) : View.ld v r0_2 = v := View.ld_unit_zero zeros _ v
theorem ld3 (v : Vec Ideal S1x1024 .f32) : View.ld v r0_3 = v := View.ld_unit_zero zeros _ v

theorem coord0 : ∀ p : Fin cfg0.N, (grid0.coords p 0).val = p.val / 6 := (by decide +kernel : ∀ p : Fin grid0.N, _)

section Point

/-! What a point computes. -/

variable (i : grid0.Coords) (x0 : Vec Ideal S256x1024 .f32) (x1 : Vec Ideal S8x1024 .f32) (x2 : Vec Ideal S256x1024 .f32)
  (x3 : Vec Ideal S3x1024 .f32) (x4 : Vec Ideal S1x1024 .f32) (x5 : Vec Ideal S256x1024 .bf16) (r : Fin 256) (k : Fin 1024)

/-- The rows one and two before row `r`. -/
def one : EReal := tap1 (i 0).val (x1 (ix2 7 k)) (fun q => x0 (ix2 q k)) r
def two : EReal := tap2 (i 0).val (x1 (ix2 6 k)) (x1 (ix2 7 k)) (fun q => x0 (ix2 q k)) r

/-- The convolution at row `r`. -/
def gate : EReal := x3 (ix2 0 k) * two i x0 x1 r k + x3 (ix2 1 k) * one i x0 x1 r k + x3 (ix2 2 k) * x0 (ix2 r k) + x4 (ix2 0 k)

/-- Its gradient. -/
def grad : EReal := gateGrad (gate i x0 x1 x3 x4 r k) (x5 (ix2 r k) * x2 (ix2 r k))

/-- What a point makes of a row's entries is the gate's gradient. -/
theorem pay15_at : k0_pay15 (k0_pay18 i x0 x1 x2 x3 x4 x5) (k0_pay19 i x0 x1 x2 x3 x4 x5) (k0_pay20 i x0 x1 x2 x3 x4 x5)
    (k0_pay21 i x0 x1 x2 x3 x4 x5) (k0_pay22 i x0 x1 x2 x3 x4 x5) (k0_pay23 i x0 x1 x2 x3 x4 x5) x5 x2 (ix2 r k)
      = grad i x0 x1 x2 x3 x4 x5 r k := by
  have h0 : (i 0).val < 8 := (i 0).isLt
  have s0 := select_eq (α := EReal) r.val 0 (by omega) (by decide)
  have s1 := select_eq (α := EReal) r.val 1 (by omega) (by decide)
  have f := select_eq (α := EReal) (i 0).val 0 (by omega) (by decide)
  unfold k0_pay15 k0_pay18 k0_pay19 k0_pay20 k0_pay21 k0_pay22 k0_pay23 k0_pay13 k0_pay12 k0_pay11 k0_pay10 k0_pay9 k0_pay8 k0_pay7 k0_pay6 k0_pay5 k0_pay4 k0_pay3
  simp only [ld0, ld0', ld1, ld2, ld3]
  pointwise
  simp only [Scalar.cmpi, s0, s1, f]
  rfl

/-- The row before, as a point reads it, … -/
theorem one_at : k0_pay21 i x0 x1 x2 x3 x4 x5 (ix2 r k) = one i x0 x1 r k := by
  have h0 : (i 0).val < 8 := (i 0).isLt
  have s0 := select_eq (α := EReal) r.val 0 (by omega) (by decide)
  have f := select_eq (α := EReal) (i 0).val 0 (by omega) (by decide)
  unfold k0_pay21 k0_pay7 k0_pay4 k0_pay3
  rw [ld0, ld1]
  pointwise
  simp only [Scalar.cmpi, s0, f]
  rfl

/-- … the one before that, … -/
theorem two_at : k0_pay8 i x0 x1 (ix2 r k) = two i x0 x1 r k := by
  have h0 : (i 0).val < 8 := (i 0).isLt
  have s0 := select_eq (α := EReal) r.val 0 (by omega) (by decide)
  have s1 := select_eq (α := EReal) r.val 1 (by omega) (by decide)
  have f := select_eq (α := EReal) (i 0).val 0 (by omega) (by decide)
  unfold k0_pay8 k0_pay4 k0_pay3
  pointwise
  simp only [Scalar.cmpi, s0, s1, f]
  rfl

/-- … and the row itself. -/
theorem same_at : k0_pay18 i x0 x1 x2 x3 x4 x5 (ix2 r k) = x0 (ix2 r k) := by
  unfold k0_pay18 k0_pay3
  rw [ld0]
  pointwise

/-- A point writes the gate's gradient, … -/
theorem out6_at : out0_6 i x0 x1 x2 x3 x4 x5 (ix2 r k) = grad i x0 x1 x2 x3 x4 x5 r k := by
  unfold out0_6
  rw [View.canon_unit_zero zeros, ld0, ld0']
  exact pay15_at i x0 x1 x2 x3 x4 x5 r k

/-- … the other factor's, … -/
theorem out7_at : out0_7 i x0 x1 x2 x3 x4 x5 (ix2 r k)
    = x5 (ix2 r k) * gate i x0 x1 x3 x4 r k * Ideal.logistic (gate i x0 x1 x3 x4 r k) := by
  have h0 : (i 0).val < 8 := (i 0).isLt
  have s0 := select_eq (α := EReal) r.val 0 (by omega) (by decide)
  have s1 := select_eq (α := EReal) r.val 1 (by omega) (by decide)
  have f := select_eq (α := EReal) (i 0).val 0 (by omega) (by decide)
  unfold out0_7
  rw [View.canon_unit_zero zeros, ld0']
  unfold k0_pay14 k0_pay18 k0_pay19 k0_pay20 k0_pay21 k0_pay22 k0_pay23 k0_pay13 k0_pay12 k0_pay11 k0_pay10 k0_pay9 k0_pay8 k0_pay7 k0_pay6 k0_pay5 k0_pay4 k0_pay3
  simp only [ld0, ld1, ld2, ld3]
  pointwise
  simp only [Scalar.cmpi, s0, s1, f]
  rfl

/-- A column's sum of products. -/
theorem sum_at (u v : FVec Ideal S256x1024 .f32) : k0_pay1 u v (ix3 0 0 k) = ∑ x : Fin 256, v (ix2 x k) * u (ix2 x k) := by
  unfold k0_pay1
  pointwise

/-- The rows the three taps read at row `r`. -/
def shift (d : Fin 3) : EReal := ![two i x0 x1 r k, one i x0 x1 r k, x0 (ix2 r k)] d

/-- A tap's sum over the rows of a block. -/
theorem tap_at {d : Fin 3} {u v : FVec Ideal S256x1024 .f32} (hu : ∀ x, u (ix2 x k) = shift i x0 x1 x k d)
    (hv : v = k0_pay15 (k0_pay18 i x0 x1 x2 x3 x4 x5) (k0_pay19 i x0 x1 x2 x3 x4 x5) (k0_pay20 i x0 x1 x2 x3 x4 x5)
      (k0_pay21 i x0 x1 x2 x3 x4 x5) (k0_pay22 i x0 x1 x2 x3 x4 x5) (k0_pay23 i x0 x1 x2 x3 x4 x5) x5 x2) :
    k0_pay1 u v (ix3 0 0 k) = ∑ x : Fin 256, grad i x0 x1 x2 x3 x4 x5 x k * shift i x0 x1 x k d := by
  subst hv
  exact (sum_at k u _).trans (Finset.sum_congr rfl fun x _ => congrArg₂ (HMul.hMul (α := EReal)) (pay15_at i x0 x1 x2 x3 x4 x5 x k) (hu x))

/-- A row of the taps' block: the rectangle of row `n` holds entry `(d, k)` only for `d = n`, at column `k`. -/
theorem row_eq (n : ℕ) {d : Fin 3} {k : Fin 1024} {x : S1x1x1024.Idx} (h : ∀ a, ((ix3 0 d k : S1x3x1024.Idx) a : ℕ) = ![0, n, 0] a + x a) :
    d.val = n ∧ x = ix3 0 0 k := by
  have h1 : d.val = n + (x 1).val := h 1
  have h2 : k.val = 0 + (x 2).val := h 2
  have e1 : x 1 = (0 : Fin 1) := Subsingleton.elim (α := Fin 1) _ _
  have e1' : (x 1).val = 0 := congrArg Fin.val e1
  refine ⟨by omega, ?_⟩
  rw [eq_ix3 x, e1, show x 0 = (0 : Fin 1) from Subsingleton.elim (α := Fin 1) _ _, show x 2 = k from Fin.ext (by omega)]

/-- … the taps' over its rows … -/
theorem out8_at (d : Fin 3) : out0_8 i x0 x1 x2 x3 x4 x5 (ix3 0 d k)
    = ∑ x : Fin 256, grad i x0 x1 x2 x3 x4 x5 x k * shift i x0 x1 x k d := by
  unfold out0_8
  rw [ld0 x0, ld0 x2, ld1, ld0']
  refine View.canon_eq_of_allAt _ _ _ (cover0_8 _ _ _ _) ?_
  refine View.allAt_cons_unit _ _ _ _ _ (fun x h => ?_) (View.allAt_cons_unit _ _ _ _ _ (fun x h => ?_) (View.allAt_cons_unit _ _ _ _ _ (fun x h => ?_) (View.allAt_nil _ _)))
  · obtain ⟨hd, rfl⟩ := row_eq 2 h
    obtain rfl : d = 2 := Fin.ext hd
    exact tap_at i x0 x1 x2 x3 x4 x5 k (d := 2) (fun x => same_at i x0 x1 x2 x3 x4 x5 x k) (by unfold k0_pay24; rw [ld0, ld0'])
  · obtain ⟨hd, rfl⟩ := row_eq 1 h
    obtain rfl : d = 1 := Fin.ext hd
    exact tap_at i x0 x1 x2 x3 x4 x5 k (d := 1) (fun x => one_at i x0 x1 x2 x3 x4 x5 x k) (by unfold k0_pay24; rw [ld0, ld0'])
  · obtain ⟨hd, rfl⟩ := row_eq 0 h
    obtain rfl : d = 0 := Fin.ext hd
    exact tap_at i x0 x1 x2 x3 x4 x5 k (d := 0) (fun x => two_at i x0 x1 x k) rfl

/-- … and the bias's. -/
theorem out9_at : out0_9 i x0 x1 x2 x3 x4 x5 (ix3 0 0 k) = ∑ x : Fin 256, grad i x0 x1 x2 x3 x4 x5 x k := by
  unfold out0_9
  rw [View.canon_unit_zero zeros, ld0, ld0']
  unfold k0_pay16
  refine Eq.trans ?_ (Finset.sum_congr rfl fun x _ => pay15_at i x0 x1 x2 x3 x4 x5 x k)
  generalize k0_pay15 (k0_pay18 i x0 x1 x2 x3 x4 x5) (k0_pay19 i x0 x1 x2 x3 x4 x5) (k0_pay20 i x0 x1 x2 x3 x4 x5) (k0_pay21 i x0 x1 x2 x3 x4 x5)
    (k0_pay22 i x0 x1 x2 x3 x4 x5) (k0_pay23 i x0 x1 x2 x3 x4 x5) x5 x2 = v
  pointwise

end Point

section Blocks

/-- Column `k` of block `j` of the padded width. -/
abbrev col (j : Fin 6) (k : Fin 1024) : Fin 6144 := ⟨1024 * j + k, by omega⟩

variable (m : (ℓ : Loc nD τ sig) → Buf (Elt Ideal) ℓ) (c : Dev nD)

/-! The arguments, and what the host prepares of them: each of the eight parts on whole lanes. -/

abbrev arg0 : FVec Ideal S2048x5632 .f32 := m (c, Proc.devRef .tc main_arg0)
abbrev arg1 : FVec Ideal S2048x5632 .f32 := m (c, Proc.devRef .tc main_arg1)
abbrev arg2 : FVec Ideal S3x5632 .f32 := m (c, Proc.devRef .tc main_arg2)
abbrev arg3 : FVec Ideal S1x5632 .f32 := m (c, Proc.devRef .tc main_arg3)
abbrev arg4 : FVec Ideal S2048x5632 .f32 := m (c, Proc.devRef .tc main_arg4)

/-- The gate, … -/
theorem v2_at (i : Fin 2048) (b : Fin 6144) :
    (V m c main_v2 : FVec Ideal S2048x6144 .f32) (ix2 i b) = slot 704 (fun q => arg0 m c (ix2 i q)) (b / 768) (b % 768) := by
  unfold V
  after_reads_simp
  simp only [TRef.toBuf, TRef.ofBuf, cast_eq]
  pointwise
  symm
  apply slot_dite
  · exact sitofp_zero _
  · rfl

/-- … the other factor, … -/
theorem v5_at (i : Fin 2048) (b : Fin 6144) :
    (V m c main_v5 : FVec Ideal S2048x6144 .f32) (ix2 i b) = slot 704 (fun q => arg1 m c (ix2 i q)) (b / 768) (b % 768) := by
  unfold V
  after_reads_simp
  simp only [TRef.toBuf, TRef.ofBuf, cast_eq]
  pointwise
  symm
  apply slot_dite
  · exact sitofp_zero _
  · rfl

/-- … the taps, … -/
theorem v8_at (i : Fin 3) (b : Fin 6144) :
    (V m c main_v8 : FVec Ideal S3x6144 .f32) (ix2 i b) = slot 704 (fun q => arg2 m c (ix2 i q)) (b / 768) (b % 768) := by
  unfold V
  after_reads_simp
  simp only [TRef.toBuf, TRef.ofBuf, cast_eq]
  pointwise
  symm
  apply slot_dite
  · exact sitofp_zero _
  · rfl

/-- … the bias … -/
theorem v11_at (i : Fin 1) (b : Fin 6144) :
    (V m c main_v11 : FVec Ideal S1x6144 .f32) (ix2 i b) = slot 704 (fun q => arg3 m c (ix2 i q)) (b / 768) (b % 768) := by
  obtain rfl : i = 0 := Subsingleton.elim _ _
  unfold V
  after_reads_simp
  simp only [TRef.toBuf, TRef.ofBuf, cast_eq]
  pointwise
  symm
  apply slot_dite
  · exact sitofp_zero _
  · rfl

/-- … and the result's gradient, each of eight parts on whole lanes. -/
theorem v15_at (i : Fin 2048) (b : Fin 6144) :
    (V m c main_v15 : FVec Ideal S2048x6144 .bf16) (ix2 i b) = slot 704 (fun q => arg4 m c (ix2 i q)) (b / 768) (b % 768) := by
  unfold V
  after_reads_simp
  simp only [TRef.toBuf, TRef.ofBuf, cast_eq]
  pointwise
  symm
  apply slot_dite
  · exact sitofp_zero _
  · rfl

/-! Where the blocks of point `6 i + j` lie. -/

variable (p : Fin cfg0.N) (i : Fin 8) (j : Fin 6) (hi : p.val / 6 = i) (hj : p.val % 6 = j)

include hi hj

/-- Where the windows' blocks lie. -/
theorem read0 (A : FVec Ideal S2048x6144 .f32) (r : Fin 256) (k : Fin 1024) :
    (((cfg0.win 0).blk p).view.read (Elt Ideal) A : Vec Ideal S256x1024 .f32) (ix2 r k) = A (ix2 (at256 i r) (col j k)) := by
  have e := (by decide +kernel : ∀ p : Fin grid0.N, win0_0.index p = ![p.val / 6, p.val % 6]) p
  rw [hi, hj] at e
  refine congrArg A (?_ : ((cfg0.win 0).blk p).view.emb _ = _)
  blk_ext [e, at256]

theorem read1 (A : FVec Ideal S2048x6144 .f32)(r : Fin 8) (k : Fin 1024) :
    (((cfg0.win 1).blk p).view.read (Elt Ideal) A : Vec Ideal S8x1024 .f32) (ix2 r k) = A (ix2 ⟨8 * (32 * i.val - 1) + r.val, by omega⟩ (col j k)) := by
  have e := (by decide +kernel : ∀ p : Fin grid0.N, win0_1.index p = ![32 * (p.val / 6) - 1, p.val % 6]) p
  rw [hi, hj] at e
  refine congrArg A (?_ : ((cfg0.win 1).blk p).view.emb _ = _)
  blk_ext [e]

omit hi in
theorem read3 (A : FVec Ideal S3x6144 .f32)(r : Fin 3) (k : Fin 1024) :
    (((cfg0.win 3).blk p).view.read (Elt Ideal) A : Vec Ideal S3x1024 .f32) (ix2 r k) = A (ix2 r (col j k)) := by
  have e := (by decide +kernel : ∀ p : Fin grid0.N, win0_3.index p = ![0, p.val % 6]) p
  rw [hj] at e
  refine congrArg A (?_ : ((cfg0.win 3).blk p).view.emb _ = _)
  blk_ext [e]

omit hi in
theorem read4 (A : FVec Ideal S1x6144 .f32) (k : Fin 1024) :
    (((cfg0.win 4).blk p).view.read (Elt Ideal) A : Vec Ideal S1x1024 .f32) (ix2 0 k) = A (ix2 0 (col j k)) := by
  have e := (by decide +kernel : ∀ p : Fin grid0.N, win0_4.index p = ![0, p.val % 6]) p
  rw [hj] at e
  refine congrArg A (?_ : ((cfg0.win 4).blk p).view.emb _ = _)
  blk_ext [e]

theorem read5 (A : FVec Ideal S2048x6144 .bf16) (r : Fin 256) (k : Fin 1024) :
    (((cfg0.win 5).blk p).view.read (Elt Ideal) A : Vec Ideal S256x1024 .bf16) (ix2 r k) = A (ix2 (at256 i r) (col j k)) := by
  have e := (by decide +kernel : ∀ p : Fin grid0.N, win0_5.index p = ![p.val / 6, p.val % 6]) p
  rw [hi, hj] at e
  refine congrArg A (?_ : ((cfg0.win 5).blk p).view.emb _ = _)
  blk_ext [e, at256]

theorem read8 (A : FVec Ideal S8x3x6144 .f32) (d : Fin 3) (k : Fin 1024) :
    (((cfg0.win 8).blk p).view.read (Elt Ideal) A : Vec Ideal S1x3x1024 .f32) (ix3 0 d k) = A (ix3 i d (col j k)) := by
  have e := (by decide +kernel : ∀ p : Fin grid0.N, win0_8.index p = ![p.val / 6, 0, p.val % 6]) p
  rw [hi, hj] at e
  refine congrArg A (?_ : ((cfg0.win 8).blk p).view.emb _ = _)
  blk_ext [e]

theorem read9 (A : FVec Ideal S8x1x6144 .f32) (k : Fin 1024) :
    (((cfg0.win 9).blk p).view.read (Elt Ideal) A : Vec Ideal S1x1x1024 .f32) (ix3 0 0 k) = A (ix3 i 0 (col j k)) := by
  have e := (by decide +kernel : ∀ p : Fin grid0.N, win0_9.index p = ![p.val / 6, 0, p.val % 6]) p
  rw [hi, hj] at e
  refine congrArg A (?_ : ((cfg0.win 9).blk p).view.emb _ = _)
  blk_ext [e]

/-- What the blocks hold of the arguments. -/
theorem blk0_at (r : Fin 256) (k : Fin 1024) : (iblk m c 0 p : Vec Ideal S256x1024 .f32) (ix2 r k) = slot 704 (fun q => arg0 m c (ix2 (at256 i r) q)) ((col j k).val / 768) ((col j k).val % 768) :=
  (read0 p i j hi hj (V m c main_v2 : FVec Ideal S2048x6144 .f32) r k).trans (v2_at m c _ _)

theorem blk1_at (r : Fin 8) (k : Fin 1024) : (iblk m c 1 p : Vec Ideal S8x1024 .f32) (ix2 r k) = slot 704 (fun q => arg0 m c (ix2 ⟨8 * (32 * i.val - 1) + r.val, by omega⟩ q)) ((col j k).val / 768) ((col j k).val % 768) :=
  (read1 p i j hi hj (V m c main_v2 : FVec Ideal S2048x6144 .f32) r k).trans (v2_at m c _ _)

theorem blk2_at (r : Fin 256) (k : Fin 1024) : (iblk m c 2 p : Vec Ideal S256x1024 .f32) (ix2 r k) = slot 704 (fun q => arg1 m c (ix2 (at256 i r) q)) ((col j k).val / 768) ((col j k).val % 768) :=
  (read0 p i j hi hj (V m c main_v5 : FVec Ideal S2048x6144 .f32) r k).trans (v5_at m c _ _)

omit hi in
theorem blk3_at (r : Fin 3) (k : Fin 1024) : (iblk m c 3 p : Vec Ideal S3x1024 .f32) (ix2 r k) = slot 704 (fun q => arg2 m c (ix2 r q)) ((col j k).val / 768) ((col j k).val % 768) :=
  (read3 p j hj (V m c main_v8 : FVec Ideal S3x6144 .f32) r k).trans (v8_at m c _ _)

omit hi in
theorem blk4_at (k : Fin 1024) : (iblk m c 4 p : Vec Ideal S1x1024 .f32) (ix2 0 k) = slot 704 (fun q => arg3 m c (ix2 0 q)) ((col j k).val / 768) ((col j k).val % 768) :=
  (read4 p j hj (V m c main_v11 : FVec Ideal S1x6144 .f32) k).trans (v11_at m c _ _)

theorem blk5_at (r : Fin 256) (k : Fin 1024) : (iblk m c 5 p : Vec Ideal S256x1024 .bf16) (ix2 r k) = slot 704 (fun q => arg4 m c (ix2 (at256 i r) q)) ((col j k).val / 768) ((col j k).val % 768) :=
  (read5 p i j hi hj (V m c main_v15 : FVec Ideal S2048x6144 .bf16) r k).trans (v15_at m c _ _)

/-- The rows before a row of a block are the tokens before it, … -/
theorem one_block (r : Fin 256) (k : Fin 1024) : one (grid0.coords p) (iblk m c 0 p) (iblk m c 1 p) r k
    = back 1 (fun t => slot 704 (fun q => arg0 m c (ix2 t q)) ((col j k).val / 768) ((col j k).val % 768)) (at256 i r) := by
  unfold one
  simp only [coord0, hi, blk0_at m c p i j hi hj, blk1_at m c p i j hi hj]
  exact tap1_block (fun t => slot 704 (fun q => arg0 m c (ix2 t q)) ((col j k).val / 768) ((col j k).val % 768)) i r

theorem two_block (r : Fin 256) (k : Fin 1024) : two (grid0.coords p) (iblk m c 0 p) (iblk m c 1 p) r k
    = back 2 (fun t => slot 704 (fun q => arg0 m c (ix2 t q)) ((col j k).val / 768) ((col j k).val % 768)) (at256 i r) := by
  unfold two
  simp only [coord0, hi, blk0_at m c p i j hi hj, blk1_at m c p i j hi hj]
  exact tap2_block (fun t => slot 704 (fun q => arg0 m c (ix2 t q)) ((col j k).val / 768) ((col j k).val % 768)) i r

/-- … so the shifted rows are the shifted column, … -/
theorem shift_block (d : Fin 3) (r : Fin 256) (k : Fin 1024) : shift (grid0.coords p) (iblk m c 0 p) (iblk m c 1 p) r k d
    = back (2 - d.val) (fun t => slot 704 (fun q => arg0 m c (ix2 t q)) ((col j k).val / 768) ((col j k).val % 768)) (at256 i r) := by
  fin_cases d
  · exact two_block m c p i j hi hj r k
  · exact one_block m c p i j hi hj r k
  · exact (blk0_at m c p i j hi hj r k).trans (back_none (fun t => slot 704 (fun q => arg0 m c (ix2 t q)) ((col j k).val / 768) ((col j k).val % 768)) (at256 i r)).symm

/-- … the convolution is the column's … -/
theorem gate_block (r : Fin 256) (k : Fin 1024) : gate (grid0.coords p) (iblk m c 0 p) (iblk m c 1 p) (iblk m c 3 p) (iblk m c 4 p) r k
    = padded (fun w0 w1 w2 b G _ _ => conv w0 w1 w2 b G (at256 i r)) (arg0 m c) (arg1 m c) (arg2 m c) (arg3 m c) (arg4 m c) (col j k) := by
  unfold gate
  rw [one_block m c p i j hi hj, two_block m c p i j hi hj, blk3_at m c p j hj, blk3_at m c p j hj, blk3_at m c p j hj, blk4_at m c p j hj, blk0_at m c p i j hi hj]
  rfl

/-- … and so is its gradient. -/
theorem grad_block (r : Fin 256) (k : Fin 1024) : grad (grid0.coords p) (iblk m c 0 p) (iblk m c 1 p) (iblk m c 2 p) (iblk m c 3 p) (iblk m c 4 p) (iblk m c 5 p) r k
    = padded (dGate (at256 i r)) (arg0 m c) (arg1 m c) (arg2 m c) (arg3 m c) (arg4 m c) (col j k) := by
  unfold grad
  rw [gate_block m c p i j hi hj, blk5_at m c p i j hi hj, blk2_at m c p i j hi hj]
  rfl

omit hi hj

/-! The arrays the call returns, entry by entry. -/

theorem flush6 : ∀ p : Fin cfg0.N, (cfg0.win 6).flush p = true := (by decide +kernel : ∀ p : Fin grid0.N, _)
theorem flush7 : ∀ p : Fin cfg0.N, (cfg0.win 7).flush p = true := (by decide +kernel : ∀ p : Fin grid0.N, _)
theorem flush8 : ∀ p : Fin cfg0.N, (cfg0.win 8).flush p = true := (by decide +kernel : ∀ p : Fin grid0.N, _)
theorem flush9 : ∀ p : Fin cfg0.N, (cfg0.win 9).flush p = true := (by decide +kernel : ∀ p : Fin grid0.N, _)

/-- The point of block `(i, j)`. -/
theorem point (i : Fin 8) (j : Fin 6) : ∃ p : Fin cfg0.N, p.val / 6 = i ∧ p.val % 6 = j := by
  have hN : cfg0.N = 48 := N_0
  exact ⟨⟨6 * i + j, by omega⟩, (by show (6 * i.val + j.val) / 6 = i.val; omega), (by show (6 * i.val + j.val) % 6 = j.val; omega)⟩

/-- The arrays the call returns, entry by entry: the gate's gradient, … -/
theorem result6_at (r : Fin 256) (k : Fin 1024) : ((dats m 0 c).arrAt 6 cfg0.N : FVec Ideal S2048x6144 .f32) (ix2 (at256 i r) (col j k))
    = column (dGate (at256 i r)) (arg0 m c) (arg1 m c) (arg2 m c) (arg3 m c) (arg4 m c) (col j k) := by
  obtain ⟨p, hi, hj⟩ := point i j
  refine (read0 p i j hi hj _ r k).symm.trans ((congrFun ((blocks6 m c p (flush6 p)).trans (flushed6 m c p)) (ix2 r k)).trans ?_)
  exact (out6_at _ _ _ _ _ _ _ r k).trans ((grad_block m c p i j hi hj r k).trans (column_eq (dGate_zero _) _ _ _ _ _ _))

/-- … the other factor's, … -/
theorem result7_at (r : Fin 256) (k : Fin 1024) : ((dats m 0 c).arrAt 7 cfg0.N : FVec Ideal S2048x6144 .bf16) (ix2 (at256 i r) (col j k))
    = column (dUp (at256 i r)) (arg0 m c) (arg1 m c) (arg2 m c) (arg3 m c) (arg4 m c) (col j k) := by
  obtain ⟨p, hi, hj⟩ := point i j
  refine (read5 p i j hi hj _ r k).symm.trans ((congrFun ((blocks7 m c p (flush7 p)).trans (flushed7 m c p)) (ix2 r k)).trans ?_)
  refine (out7_at _ _ _ _ _ _ _ r k).trans (Eq.trans ?_ (column_eq (dUp_zero _) _ _ _ _ _ _))
  rw [gate_block m c p i j hi hj, blk5_at m c p i j hi hj]
  rfl

/-- … the taps' … -/
theorem result8_at (d : Fin 3) (k : Fin 1024) : ((dats m 0 c).arrAt 8 cfg0.N : FVec Ideal S8x3x6144 .f32) (ix3 i d (col j k))
    = column (dTap (2 - d.val) i) (arg0 m c) (arg1 m c) (arg2 m c) (arg3 m c) (arg4 m c) (col j k) := by
  obtain ⟨p, hi, hj⟩ := point i j
  refine (read8 p i j hi hj _ d k).symm.trans ((congrFun ((blocks8 m c p (flush8 p)).trans (flushed8 m c p)) (ix3 0 d k)).trans ?_)
  refine (out8_at _ _ _ _ _ _ _ k d).trans (Eq.trans ?_ (column_eq (dTap_zero _ _) _ _ _ _ _ _))
  exact Finset.sum_congr rfl fun x _ => congrArg₂ (HMul.hMul (α := EReal)) (grad_block m c p i j hi hj x k) (shift_block m c p i j hi hj d x k)

/-- … and the bias's. -/
theorem result9_at (k : Fin 1024) : ((dats m 0 c).arrAt 9 cfg0.N : FVec Ideal S8x1x6144 .f32) (ix3 i 0 (col j k))
    = column (dBias i) (arg0 m c) (arg1 m c) (arg2 m c) (arg3 m c) (arg4 m c) (col j k) := by
  obtain ⟨p, hi, hj⟩ := point i j
  refine (read9 p i j hi hj _ k).symm.trans ((congrFun ((blocks9 m c p (flush9 p)).trans (flushed9 m c p)) (ix3 0 0 k)).trans ?_)
  refine (out9_at _ _ _ _ _ _ _ k).trans (Eq.trans ?_ (column_eq (dBias_zero _) _ _ _ _ _ _))
  exact Finset.sum_congr rfl fun x _ => grad_block m c p i j hi hj x k

end Blocks

end Kernel

section Reference

open Cert.DFfnActReferenceIdeal Cert.DFfnActReferenceIdeal.Gen Cert.DFfnActReferenceIdeal.Value

/-- The gate's gradient as the reference sums it. -/
theorem dGate_eq {x y z : EReal} (hx : x = y) (hz : ∃ a : ℝ, z = a) :
    gateGrad x z = z * Ideal.logistic y + y * z * (Ideal.logistic y * (1 - Ideal.logistic y)) := by
  obtain ⟨a, rfl⟩ := hz
  subst hx
  exact gateGrad_eq x a

/-- A sum over each block of tokens, each of the eight parts on whole lanes. -/
def blockTerm (v : FVec Ideal S2048x5632 .f32) : FVec Ideal S8x1x6144 .f32 :=
  shapeCast _ (pad S8x8x768 ![0, 0, 0] ![0, 0, 64] ![0, 0, 0] (shapeCast _ (Host.reduceAdd (shapeCast _ v shapeCasts_S2048x5632_S8x256x5632) (constant S_ .f32 0x00000000#32) reducesTo_S8x256x5632_S8x5632_d1 h_S_) shapeCasts_S8x5632_S8x8x704) (sitofp .f32 (constantI S_ 32 0#32)) pads_S8x8x704_S8x8x768_000_000_0640 h_S_) shapeCasts_S8x8x768_S8x1x6144

/-- A sum over the tokens of a block, on whole lanes. -/
theorem block_sum (v : FVec Ideal S2048x5632 .f32) (t : Fin 8) (b : Fin 6144) :
    blockTerm v (ix3 t 0 b) = slot 704 (fun q => ∑ x : Fin 256, v (ix2 (at256 t x) q)) (b / 768) (b % 768) := by
  unfold blockTerm
  pointwise
  symm
  refine slot_dite_at (sitofp_zero _) rfl (fun q => by omega) fun q => ?_
  exact Finset.sum_congr rfl fun x _ => congrArg (fun r => v (ix2 r _)) (Fin.ext (show 256 * t.val + x.val = t.val * 256 + x.val by omega))

/-- The three taps' rows, one after the other. -/
theorem rows_at (v0 v1 v2 : FVec Ideal S8x1x6144 .f32) (t : Fin 8) (d : Fin 3) (b : Fin 6144) :
    (concatenate S8x3x6144 1 [⟨S8x1x6144, v0⟩, ⟨S8x1x6144, v1⟩, ⟨S8x1x6144, v2⟩] concatenates_S8x1x6144_S8x1x6144_S8x1x6144_S8x3x6144_d1 : FVec Ideal S8x3x6144 .f32) (ix3 t d b)
      = (![v0, v1, v2] d) (ix3 t 0 b) := by
  fin_cases d
  · pointwise
  · pointwise
  · pointwise

section Terms

variable (A0 A1 : FVec Ideal S2048x5632 .f32) (A2 : FVec Ideal S3x5632 .f32) (A3 : FVec Ideal S1x5632 .f32) (A4 : FVec Ideal S2048x5632 .f32)

/-! The terms the reference's results are made of. -/

/-- The gates after two rows of zeros. -/
def zeros2 : FVec Ideal S2050x5632 .f32 :=
  concatenate S2050x5632 0 [⟨S2x5632, (broadcastInDim S2x5632 ![] bcast_S_S2x5632 (constant S_ .f32 0x00000000#32))⟩, ⟨S2048x5632, A0⟩] concatenates_S2x5632_S2048x5632_S2050x5632_d0

/-- The convolution. -/
def convTerm : FVec Ideal S2048x5632 .f32 :=
  addf (addf (addf (mulf (extractStridedSlice S2048x5632 ![0, 0] (zeros2 A0) slices_S2050x5632_S2048x5632_0_0) (broadcastInDim S2048x5632 ![0, 1] bcast_S1x5632_S2048x5632_0_1 (extractStridedSlice S1x5632 ![0, 0] A2 slices_S3x5632_S1x5632_0_0))) (mulf (extractStridedSlice S2048x5632 ![1, 0] (zeros2 A0) slices_S2050x5632_S2048x5632_1_0) (broadcastInDim S2048x5632 ![0, 1] bcast_S1x5632_S2048x5632_0_1 (extractStridedSlice S1x5632 ![1, 0] A2 slices_S3x5632_S1x5632_1_0)))) (mulf A0 (broadcastInDim S2048x5632 ![0, 1] bcast_S1x5632_S2048x5632_0_1 (extractStridedSlice S1x5632 ![2, 0] A2 slices_S3x5632_S1x5632_2_0)))) (broadcastInDim S2048x5632 ![0, 1] bcast_S1x5632_S2048x5632_0_1 A3)

/-- Its logistic function. -/
def sigmoidTerm : FVec Ideal S2048x5632 .f32 :=
  Host.divf (broadcastInDim S2048x5632 ![] bcast_S_S2048x5632 (constant S_ .f32 0x3F800000#32)) (addf (broadcastInDim S2048x5632 ![] bcast_S_S2048x5632 (constant S_ .f32 0x3F800000#32)) (Host.exp (Host.negf (convTerm A0 A2 A3))))

/-- The gate's gradient. -/
def gradTerm : FVec Ideal S2048x5632 .f32 :=
  addf (mulf (mulf A4 A1) (sigmoidTerm A0 A2 A3)) (mulf (mulf (convTerm A0 A2 A3) (mulf A4 A1)) (mulf (sigmoidTerm A0 A2 A3) (subf (broadcastInDim S2048x5632 ![] bcast_S_S2048x5632 (constant S_ .f32 0x3F800000#32)) (sigmoidTerm A0 A2 A3))))

/-- The reference's convolution, … -/
theorem convTerm_at (r : Fin 2048) (q : Fin 5632) : convTerm A0 A2 A3 (ix2 r q)
    = conv (A2 (ix2 0 q)) (A2 (ix2 1 q)) (A2 (ix2 2 q)) (A3 (ix2 0 q)) (fun t => A0 (ix2 t q)) r := by
  unfold convTerm zeros2
  pointwise
  exact (conv_eq r _ _ _ _ (fun t => A0 (ix2 t q))).symm

/-- … its logistic … -/
theorem sigmoidTerm_at (r : Fin 2048) (q : Fin 5632) : sigmoidTerm A0 A2 A3 (ix2 r q) = Ideal.logistic (convTerm A0 A2 A3 (ix2 r q)) := by
  unfold sigmoidTerm
  generalize convTerm A0 A2 A3 = v
  pointwise
  rfl

/-- … and its gradient, wherever the product of the other factors is finite. -/
theorem gradTerm_at (hfin : ∀ i, ∃ a : ℝ, A4 i * A1 i = a) (r : Fin 2048) (q : Fin 5632) : gradTerm A0 A1 A2 A3 A4 (ix2 r q)
    = dGate r (A2 (ix2 0 q)) (A2 (ix2 1 q)) (A2 (ix2 2 q)) (A3 (ix2 0 q)) (fun t => A0 (ix2 t q)) (fun t => A1 (ix2 t q)) (fun t => A4 (ix2 t q)) := by
  have hs := sigmoidTerm_at A0 A2 A3 r q
  have hc := convTerm_at A0 A2 A3 r q
  unfold gradTerm
  generalize sigmoidTerm A0 A2 A3 = s at *
  generalize convTerm A0 A2 A3 = v at *
  pointwise
  rw [hs]
  exact (dGate_eq hc.symm (hfin _)).symm

end Terms

variable (m : (ℓ : Loc nD τ sig) → Buf (Elt Ideal) ℓ) (c : Dev nD)

abbrev of0 : FVec Ideal S2048x5632 .f32 := m (c, Proc.devRef .tc main_arg0)
abbrev of1 : FVec Ideal S2048x5632 .f32 := m (c, Proc.devRef .tc main_arg1)
abbrev of2 : FVec Ideal S3x5632 .f32 := m (c, Proc.devRef .tc main_arg2)
abbrev of3 : FVec Ideal S1x5632 .f32 := m (c, Proc.devRef .tc main_arg3)
abbrev of4 : FVec Ideal S2048x5632 .f32 := m (c, Proc.devRef .tc main_arg4)

/-- An array on whole lanes. -/
def lanes (v : FVec Ideal S2048x5632 .f32) : FVec Ideal S2048x6144 .f32 :=
  shapeCast _ (pad S2048x8x768 ![0, 0, 0] ![0, 0, 64] ![0, 0, 0] (shapeCast _ v shapeCasts_S2048x5632_S2048x8x704) (sitofp .f32 (constantI S_ 32 0#32)) pads_S2048x8x704_S2048x8x768_000_000_0640 h_S_) shapeCasts_S2048x8x768_S2048x6144

/-- An array put on whole lanes. -/
theorem lanes_at (v : FVec Ideal S2048x5632 .f32) (r : Fin 2048) (b : Fin 6144) :
    lanes v (ix2 r b) = slot 704 (fun q => v (ix2 r q)) (b / 768) (b % 768) := by
  unfold lanes
  pointwise
  symm
  refine slot_dite_at (sitofp_zero _) rfl (fun q => by omega) fun q => ?_
  rfl

/-- The reference's results, entry by entry. -/
theorem reference7_at (r : Fin 2048) (b : Fin 6144) :
    (truncf .bf16 (lanes (mulf (mulf (convTerm (of0 m c) (of2 m c) (of3 m c)) (sigmoidTerm (of0 m c) (of2 m c) (of3 m c))) (of4 m c))) bitsLt_bf16_f32 : FVec Ideal S2048x6144 .bf16) (ix2 r b)
      = column (dUp r) (of0 m c) (of1 m c) (of2 m c) (of3 m c) (of4 m c) b := by
  refine (lanes_at _ r b).trans (congrArg (fun f => slot 704 f _ _) (funext fun q => ?_))
  pointwise
  rw [sigmoidTerm_at, convTerm_at]
  unfold dUp
  rw [mul_comm, mul_assoc]

variable (hfin : ∀ i, ∃ a : ℝ, of4 m c i * of1 m c i = a)

include hfin

theorem reference6_at (r : Fin 2048) (b : Fin 6144) : (res_main_v47 m c : FVec Ideal S2048x6144 .f32) (ix2 r b)
    = column (dGate r) (of0 m c) (of1 m c) (of2 m c) (of3 m c) (of4 m c) b :=
  (lanes_at (gradTerm (of0 m c) (of1 m c) (of2 m c) (of3 m c) (of4 m c)) r b).trans
    (congrArg (fun f => slot 704 f _ _) (funext fun q => gradTerm_at _ _ _ _ _ hfin r q))

theorem reference9_at (t : Fin 8) (b : Fin 6144) : (res_main_v44 m c : FVec Ideal S8x1x6144 .f32) (ix3 t 0 b)
    = column (dBias t) (of0 m c) (of1 m c) (of2 m c) (of3 m c) (of4 m c) b :=
  (block_sum (gradTerm (of0 m c) (of1 m c) (of2 m c) (of3 m c) (of4 m c)) t b).trans
    (congrArg (fun f => slot 704 f _ _) (funext fun q => Finset.sum_congr rfl fun x _ => gradTerm_at _ _ _ _ _ hfin _ q))

/-- A tap's gradient over a block, from the rows `v` it reads. -/
theorem tap_sum {n : ℕ} {v : FVec Ideal S2048x5632 .f32} (hv : ∀ r q, v (ix2 r q) = back n (fun t => of0 m c (ix2 t q)) r) (t : Fin 8) (b : Fin 6144) :
    slot 704 (fun q => ∑ x : Fin 256, (mulf v (gradTerm (of0 m c) (of1 m c) (of2 m c) (of3 m c) (of4 m c)) : FVec Ideal S2048x5632 .f32) (ix2 (at256 t x) q)) (b / 768) (b % 768)
      = column (dTap n t) (of0 m c) (of1 m c) (of2 m c) (of3 m c) (of4 m c) b :=
  congrArg (fun f => slot 704 f _ _) (funext fun q => Finset.sum_congr rfl fun x _ =>
    (mul_comm _ _).trans (congrArg₂ (HMul.hMul (α := EReal)) (gradTerm_at _ _ _ _ _ hfin _ q) (hv _ q)))

omit hfin in
/-- The taps' gradients, one row after the other. -/
theorem taps_eq : (res_main_v52 m c : FVec Ideal S8x3x6144 .f32)
    = concatenate S8x3x6144 1 [⟨S8x1x6144, blockTerm (mulf (extractStridedSlice S2048x5632 ![0, 0] (zeros2 (of0 m c)) slices_S2050x5632_S2048x5632_0_0) (gradTerm (of0 m c) (of1 m c) (of2 m c) (of3 m c) (of4 m c)))⟩,
      ⟨S8x1x6144, blockTerm (mulf (extractStridedSlice S2048x5632 ![1, 0] (zeros2 (of0 m c)) slices_S2050x5632_S2048x5632_1_0) (gradTerm (of0 m c) (of1 m c) (of2 m c) (of3 m c) (of4 m c)))⟩,
      ⟨S8x1x6144, blockTerm (mulf (of0 m c) (gradTerm (of0 m c) (of1 m c) (of2 m c) (of3 m c) (of4 m c)))⟩] concatenates_S8x1x6144_S8x1x6144_S8x1x6144_S8x3x6144_d1 := rfl

theorem reference8_at (t : Fin 8) (d : Fin 3) (b : Fin 6144) : (res_main_v52 m c : FVec Ideal S8x3x6144 .f32) (ix3 t d b)
    = column (dTap (2 - d.val) t) (of0 m c) (of1 m c) (of2 m c) (of3 m c) (of4 m c) b := by
  refine (congrFun (taps_eq m c) _).trans ((rows_at _ _ _ t d b).trans ?_)
  fin_cases d
  · exact (block_sum _ t b).trans (tap_sum m c hfin (fun r q => by unfold zeros2; pointwise; exact back_two (fun t => of0 m c (ix2 t q)) r) t b)
  · exact (block_sum _ t b).trans (tap_sum m c hfin (fun r q => by unfold zeros2; pointwise; exact back_one (fun t => of0 m c (ix2 t q)) r) t b)
  · exact (block_sum _ t b).trans (tap_sum m c hfin (fun r q => (back_none (fun t => of0 m c (ix2 t q)) r).symm) t b)

end Reference

/-- The product of two finite values is a real number. -/
theorem real_mul {x y : EReal} (hx : max x (-x) < ⊤) (hy : max y (-y) < ⊤) : ∃ a : ℝ, x * y = a := by
  have real : ∀ z : EReal, max z (-z) < ⊤ → ∃ a : ℝ, z = a := fun z h => by
    induction z with
    | bot => simp at h
    | coe a => exact ⟨a, rfl⟩
    | top => simp at h
  obtain ⟨a, rfl⟩ := real x hx
  obtain ⟨b, rfl⟩ := real y hy
  exact ⟨a * b, (EReal.coe_mul a b).symm⟩

/-- A token is a token of a block, and a column of the padded width a column of a block. -/
theorem in_block (r : Fin 2048) : ∃ (i : Fin 8) (x : Fin 256), r = at256 i x :=
  ⟨⟨r / 256, by omega⟩, ⟨r % 256, by omega⟩, Fin.ext (show r.val = 256 * (r.val / 256) + r.val % 256 by omega)⟩

/-- Every column lies in a block. -/
theorem in_col (b : Fin 6144) : ∃ (j : Fin 6) (k : Fin 1024), b = col j k :=
  ⟨⟨b / 1024, by omega⟩, ⟨b % 1024, by omega⟩, Fin.ext (show b.val = 1024 * (b.val / 1024) + b.val % 1024 by omega)⟩

/-- Over the extended reals, where `up` and the result's gradient are finite, the call's results are the reference's. -/
theorem algebraic : Cert.algebraic_DFfnActIdeal_DFfnActReferenceIdeal_pre_finite_ffn := by
  intro m ρ m' ρ' hpre hagree
  refine ⟨_, _, _, _, Cert.DFfnActIdeal.Value.run_blocks (F := Ideal) m ρ, ?_⟩
  refine (θ_run Cert.DFfnActReferenceIdeal.defs _ _).mono (fun _ h c => ?_) (Cert.DFfnActReferenceIdeal.Value.run (F := Ideal) m' ρ')
  obtain ⟨g0, g1, g2, g3, g4⟩ := hagree c
  have e0 : of0 m' c = arg0 m c := g0
  have e1 : of1 m' c = arg1 m c := g1
  have e2 : of2 m' c = arg2 m c := g2
  have e3 : of3 m' c = arg3 m c := g3
  have e4 : of4 m' c = arg4 m c := g4
  obtain ⟨h1, h4⟩ := hpre c
  have hfin : ∀ i, ∃ a : ℝ, of4 m' c i * of1 m' c i = a := fun i => by
    rw [e4, e1]
    exact real_mul (Cert.Attn.abs_lt_of_cmp (congrFun h4 i)) (Cert.Attn.abs_lt_of_cmp (congrFun h1 i))
  have same (f) (b : Fin 6144) : column f (of0 m' c) (of1 m' c) (of2 m' c) (of3 m' c) (of4 m' c) b
      = column f (arg0 m c) (arg1 m c) (arg2 m c) (arg3 m c) (arg4 m c) b := by rw [e0, e1, e2, e3, e4]
  refine ⟨(h c).1.trans (funext fun i => ?_), (h c).2.1.trans (funext fun i => ?_), (h c).2.2.1.trans (funext fun i => ?_),
    (h c).2.2.2.1.trans (funext fun i => ?_), (h c).2.2.2.2⟩
  · obtain ⟨r, b, rfl⟩ : ∃ r b, i = ix2 r b := ⟨i 0, i 1, eq_ix2 i⟩
    obtain ⟨i, r, rfl⟩ := in_block r
    obtain ⟨j, k, rfl⟩ := in_col b
    exact (reference6_at m' c hfin _ _).trans ((same _ _).trans (result6_at m c i j r k).symm)
  · obtain ⟨r, b, rfl⟩ : ∃ r b, i = ix2 r b := ⟨i 0, i 1, eq_ix2 i⟩
    obtain ⟨i, r, rfl⟩ := in_block r
    obtain ⟨j, k, rfl⟩ := in_col b
    exact (reference7_at m' c _ _).trans ((same _ _).trans (result7_at m c i j r k).symm)
  · obtain ⟨t, d, b, rfl⟩ : ∃ t d b, i = ix3 t d b := ⟨i 0, i 1, i 2, eq_ix3 i⟩
    obtain ⟨j, k, rfl⟩ := in_col b
    exact (reference8_at m' c hfin _ _ _).trans ((same _ _).trans (result8_at m c t j d k).symm)
  · obtain ⟨t, b, rfl⟩ : ∃ t b, i = ix3 t 0 b := ⟨i 0, i 2, (eq_ix3 i).trans (by rw [show i 1 = (0 : Fin 1) from Subsingleton.elim (α := Fin 1) _ _])⟩
    obtain ⟨j, k, rfl⟩ := in_col b
    exact (reference9_at m' c hfin _ _).trans ((same _ _).trans (result9_at m c t j k).symm)

end Cert.DFfnActClaim

end
-- ==== Proof.AdamwSmall.lean ====
/- AdamW's update of the small weights, packed in one array of 64 rows: the same lines entry by entry on both sides. -/
module

public import proofs.«01_k».proof.Proof.Base
public import proofs.«01_k».proof.Proof.Gen.AdamwSmall.Frame
public import proofs.«01_k».proof.Proof.Gen.AdamwSmallIdeal.Value
public import proofs.«01_k».proof.Proof.Gen.AdamwSmallReferenceIdeal.Run

@[expose] public section

set_option maxRecDepth 16384

noncomputable section

namespace Cert.AdamwSmallClaim

open Idealize.ShloMosaic Idealize.ShloMosaic.TcCoe Idealize.SL.Sem

/-- Over the extended reals the call's results are the reference's. -/
theorem algebraic : Cert.algebraic_AdamwSmallIdeal_AdamwSmallReferenceIdeal := by
  intro m ρ m' ρ' _ hagree
  refine ⟨_, _, _, Cert.AdamwSmallIdeal.Value.run (F := Ideal) m ρ, ?_⟩
  refine (θ_run Cert.AdamwSmallReferenceIdeal.defs _ _).mono (fun _ h c => ?_) (Cert.AdamwSmallReferenceIdeal.Value.run (F := Ideal) m' ρ')
  obtain ⟨g0, g1, g2, g3⟩ := hagree c
  refine ⟨(h c).1.trans ?_, (h c).2.1.trans ?_, (h c).2.2.1.trans ?_, (h c).2.2.2⟩
  · rw [g0, g1, g2, g3]
    rfl
  · rw [g1, g2]
    rfl
  · rw [g1, g3]
    rfl

end Cert.AdamwSmallClaim

end
-- ==== Proof.SumChips.lean ====
/- The sum of the four chips' packed gradients of a device's parts of the small weights that are cut over the devices. -/
module

public import proofs.«01_k».proof.Proof.Base
public import proofs.«01_k».proof.Proof.Gen.SumChips.Frame
public import proofs.«01_k».proof.Proof.Gen.SumChipsIdeal.Value
public import proofs.«01_k».proof.Proof.Gen.SumChipsReferenceIdeal.Run

@[expose] public section

set_option maxRecDepth 16384

noncomputable section

namespace Cert.SumChipsClaim

open Idealize.ShloMosaic Idealize.ShloMosaic.TcCoe Idealize.SL.Sem

section Kernel

open Cert.SumChipsIdeal Cert.SumChipsIdeal.Gen Cert.SumChipsIdeal.Value Idealize.ShloMosaic.StableHlo

/-- The point adds the device's own sum and the three chips'. -/
theorem out4_at (x0 : Vec Ideal S40x1024 .f32) (x1 x2 x3 : Vec Ideal S1x40x1024 .bf16) (k : Fin 40) (l : Fin 1024) :
    out0_4 x0 x1 x2 x3 (ix2 k l) = x0 (ix2 k l) + x1 (ix3 0 k l) + x2 (ix3 0 k l) + x3 (ix3 0 k l) := by
  unfold out0_4
  rw [View.canon_unit_zero zeros]
  unfold k0_pay1
  pointwise

theorem index0 : ∀ p : Fin cfg0.N, win0_0.index p = ![0, 0] ∧ win0_1.index p = ![0, 0, 0] ∧ win0_2.index p = ![1, 0, 0] ∧
    win0_3.index p = ![2, 0, 0] ∧ win0_4.index p = ![0, 0] ∧ (cfg0.win 4).flush p = true := (by decide +kernel : ∀ p : Fin grid0.N, _)

theorem read0 (A : FVec Ideal S40x1024 .f32) (p : Fin cfg0.N) (k : Fin 40) (l : Fin 1024) :
    (((cfg0.win 0).blk p).view.read (Elt Ideal) A : Vec Ideal S40x1024 .f32) (ix2 k l) = A (ix2 k l) := by
  have e := (index0 p).1
  refine congrArg A (?_ : ((cfg0.win 0).blk p).view.emb _ = _)
  blk_ext [e]

theorem read1 (A : FVec Ideal S3x40x1024 .bf16) (p : Fin cfg0.N) (k : Fin 40) (l : Fin 1024) :
    (((cfg0.win 1).blk p).view.read (Elt Ideal) A : Vec Ideal S1x40x1024 .bf16) (ix3 0 k l) = A (ix3 0 k l) := by
  have e := (index0 p).2.1
  refine congrArg A (?_ : ((cfg0.win 1).blk p).view.emb _ = _)
  blk_ext [e]

theorem read2 (A : FVec Ideal S3x40x1024 .bf16) (p : Fin cfg0.N) (k : Fin 40) (l : Fin 1024) :
    (((cfg0.win 2).blk p).view.read (Elt Ideal) A : Vec Ideal S1x40x1024 .bf16) (ix3 0 k l) = A (ix3 1 k l) := by
  have e := (index0 p).2.2.1
  refine congrArg A (?_ : ((cfg0.win 2).blk p).view.emb _ = _)
  blk_ext [e]

theorem read3 (A : FVec Ideal S3x40x1024 .bf16) (p : Fin cfg0.N) (k : Fin 40) (l : Fin 1024) :
    (((cfg0.win 3).blk p).view.read (Elt Ideal) A : Vec Ideal S1x40x1024 .bf16) (ix3 0 k l) = A (ix3 2 k l) := by
  have e := (index0 p).2.2.2.1
  refine congrArg A (?_ : ((cfg0.win 3).blk p).view.emb _ = _)
  blk_ext [e]

variable (m : (ℓ : Loc nD τ sig) → Buf (Elt Ideal) ℓ) (c : Dev nD)

/-- The argument. -/
abbrev arg0 : FVec Ideal S4x40x1024 .f32 := m (c, Proc.devRef .tc main_arg0)

/-- The device's own sum. -/
theorem own_at (k : Fin 40) (l : Fin 1024) : (V m c main_v1 : FVec Ideal S40x1024 .f32) (ix2 k l) = arg0 m c (ix3 0 k l) := by
  unfold V
  after_reads_simp
  pointwise

/-- The three chips' sums. -/
theorem chips_at (s : Fin 3) (k : Fin 40) (l : Fin 1024) : (V m c main_v3 : FVec Ideal S3x40x1024 .bf16) (ix3 s k l) = arg0 m c (ix3 s.succ k l) := by
  unfold V
  after_reads_simp
  pointwise
  exact congrArg (fun q => arg0 m c (ix3 q k l)) (Fin.ext (Nat.add_comm _ _))

/-- The call's result, entry by entry. -/
theorem result_at (k : Fin 40) (l : Fin 1024) :
    ((dats m 0 c).arrAt 4 cfg0.N : FVec Ideal S40x1024 .f32) (ix2 k l) = ∑ s : Fin 4, arg0 m c (ix3 s k l) := by
  have hN : cfg0.N = 1 := N_0
  let p : Fin cfg0.N := ⟨0, by omega⟩
  have e := (index0 p).2.2.2.2.1
  have h : (((cfg0.win 4).blk p).view.read (Elt Ideal) ((dats m 0 c).arrAt 4 cfg0.N) : Vec Ideal S40x1024 .f32) (ix2 k l) =
      ((dats m 0 c).arrAt 4 cfg0.N : FVec Ideal S40x1024 .f32) (ix2 k l) := by
    refine congrArg ((dats m 0 c).arrAt 4 cfg0.N) (?_ : ((cfg0.win 4).blk p).view.emb (ix2 k l : S40x1024.Idx) = ix2 k l)
    blk_ext [e]
  refine h.symm.trans ((congrFun ((blocks4 m c p (index0 p).2.2.2.2.2).trans (flushed4 m c p)) _).trans ((out4_at _ _ _ _ k l).trans
    (Eq.trans ?_ (Fin.sum_univ_four fun s : Fin 4 => arg0 m c (ix3 s k l)).symm)))
  exact congrArg₂ (HAdd.hAdd (α := EReal)) (congrArg₂ (HAdd.hAdd (α := EReal)) (congrArg₂ (HAdd.hAdd (α := EReal))
    ((read0 (V m c main_v1) p k l).trans (own_at m c k l)) ((read1 (V m c main_v3) p k l).trans (chips_at m c 0 k l)))
    ((read2 (V m c main_v3) p k l).trans (chips_at m c 1 k l))) ((read3 (V m c main_v3) p k l).trans (chips_at m c 2 k l))

end Kernel

section Reference

open Cert.SumChipsReferenceIdeal Cert.SumChipsReferenceIdeal.Gen

/-- The reference's result, entry by entry. -/
theorem reference_at (A : FVec Ideal S4x40x1024 .f32) (k : Fin 40) (l : Fin 1024) :
    (Host.reduceAdd A (constant S_ .f32 0x00000000#32) reducesTo_S4x40x1024_S40x1024_d0 h_S_ : FVec Ideal S40x1024 .f32) (ix2 k l) = ∑ s : Fin 4, A (ix3 s k l) := by
  pointwise

end Reference

/-- Over the extended reals the call's result is the reference's. -/
theorem algebraic : Cert.algebraic_SumChipsIdeal_SumChipsReferenceIdeal := by
  intro m ρ m' ρ' _ hagree
  refine ⟨_, Cert.SumChipsIdeal.Value.run_blocks (F := Ideal) m ρ, ?_⟩
  refine (θ_run Cert.SumChipsReferenceIdeal.defs _ _).mono (fun _ h c => ?_) (Cert.SumChipsReferenceIdeal.Value.run (F := Ideal) m' ρ')
  refine ⟨(h c).1.trans (funext fun i => ?_), (h c).2⟩
  obtain ⟨k, l, rfl⟩ : ∃ k l, i = ix2 k l := ⟨i 0, i 1, eq_ix2 i⟩
  refine (reference_at _ k l).trans (Eq.trans ?_ (result_at m c k l).symm)
  exact congrArg (fun A : FVec Ideal Cert.SumChipsIdeal.S4x40x1024 .f32 => ∑ s : Fin 4, A (ix3 s k l)) (hagree c)

end Cert.SumChipsClaim

end
-- ==== Proof.SumDevices.lean ====
/- The sum over the eight devices of the packed gradients of the small weights that every device holds whole. -/
module

public import proofs.«01_k».proof.Proof.Base
public import proofs.«01_k».proof.Proof.Gen.SumDevices.Frame
public import proofs.«01_k».proof.Proof.Gen.SumDevicesIdeal.Value
public import proofs.«01_k».proof.Proof.Gen.SumDevicesReferenceIdeal.Run

@[expose] public section

set_option maxRecDepth 16384

noncomputable section

namespace Cert.SumDevicesClaim

open Idealize.ShloMosaic Idealize.ShloMosaic.TcCoe Idealize.SL.Sem

section Kernel

open Cert.SumDevicesIdeal Cert.SumDevicesIdeal.Gen Cert.SumDevicesIdeal.Value Idealize.ShloMosaic.StableHlo

/-- The point adds the eight rows. -/
theorem out1_at (x : Vec Ideal S8x24576 .f32) (k : Fin 24576) : out0_1 x (ix2 0 k) = ∑ t : Fin 8, x (ix2 t k) := by
  unfold out0_1
  rw [View.canon_unit_zero zeros]
  unfold k0_pay1
  pointwise
  exact (Fin.sum_univ_eight fun t => x (ix2 t k)).symm

theorem index0 : ∀ p : Fin cfg0.N, win0_0.index p = ![0, 0] := (by decide +kernel : ∀ p : Fin grid0.N, _)
theorem index1 : ∀ p : Fin cfg0.N, win0_1.index p = ![0, 0] := (by decide +kernel : ∀ p : Fin grid0.N, _)
theorem flush1 : ∀ p : Fin cfg0.N, (cfg0.win 1).flush p = true := (by decide +kernel : ∀ p : Fin grid0.N, _)

theorem read0 (A : FVec Ideal S8x24576 .f32) (p : Fin cfg0.N) (t : Fin 8) (k : Fin 24576) :
    (((cfg0.win 0).blk p).view.read (Elt Ideal) A : Vec Ideal S8x24576 .f32) (ix2 t k) = A (ix2 t k) := by
  have e := index0 p
  refine congrArg A (?_ : ((cfg0.win 0).blk p).view.emb _ = _)
  blk_ext [e]

theorem read1 (A : FVec Ideal S1x24576 .f32) (p : Fin cfg0.N) (k : Fin 24576) :
    (((cfg0.win 1).blk p).view.read (Elt Ideal) A : Vec Ideal S1x24576 .f32) (ix2 0 k) = A (ix2 0 k) := by
  have e := index1 p
  refine congrArg A (?_ : ((cfg0.win 1).blk p).view.emb _ = _)
  blk_ext [e]

variable (m : (ℓ : Loc nD τ sig) → Buf (Elt Ideal) ℓ) (c : Dev nD)

/-- The argument. -/
abbrev arg0 : FVec Ideal S8x24x1024 .f32 := m (c, Proc.devRef .tc main_arg0)

/-- The rows are the argument's parts. -/
theorem rows_at (t : Fin 8) (q : Fin 24) (l : Fin 1024) : (V m c main_v0 : FVec Ideal S8x24576 .f32) (ix2 t ⟨1024 * q + l, by omega⟩) = arg0 m c (ix3 t q l) := by
  unfold V
  after_reads_simp
  pointwise

/-- The call's result, entry by entry. -/
theorem result_at (q : Fin 24) (l : Fin 1024) :
    ((dats m 0 c).arrAt 1 cfg0.N : FVec Ideal S1x24576 .f32) (ix2 0 ⟨1024 * q + l, by omega⟩) = ∑ t : Fin 8, arg0 m c (ix3 t q l) := by
  have hN : cfg0.N = 1 := N_0
  let p : Fin cfg0.N := ⟨0, by omega⟩
  refine (read1 _ p ⟨1024 * q + l, by omega⟩).symm.trans ((congrFun ((blocks1 m c p (flush1 p)).trans (flushed1 m c p)) _).trans ((out1_at _ _).trans ?_))
  exact Finset.sum_congr rfl fun t _ => (read0 _ p t _).trans (rows_at m c t q l)

end Kernel

section Reference

open Cert.SumDevicesReferenceIdeal Cert.SumDevicesReferenceIdeal.Gen

/-- The reference's result, entry by entry. -/
theorem reference_at (A : FVec Ideal S8x24x1024 .f32) (q : Fin 24) (l : Fin 1024) :
    (shapeCast S1x24576 (Host.reduceAdd A (constant S_ .f32 0x00000000#32) reducesTo_S8x24x1024_S24x1024_d0 h_S_) shapeCasts_S24x1024_S1x24576 : FVec Ideal S1x24576 .f32) (ix2 0 ⟨1024 * q + l, by omega⟩) = ∑ t : Fin 8, A (ix3 t q l) := by
  pointwise

end Reference

/-- Over the extended reals the call's result is the reference's. -/
theorem algebraic : Cert.algebraic_SumDevicesIdeal_SumDevicesReferenceIdeal := by
  intro m ρ m' ρ' _ hagree
  refine ⟨_, Cert.SumDevicesIdeal.Value.run_blocks (F := Ideal) m ρ, ?_⟩
  refine (θ_run Cert.SumDevicesReferenceIdeal.defs _ _).mono (fun _ h c => ?_) (Cert.SumDevicesReferenceIdeal.Value.run (F := Ideal) m' ρ')
  refine ⟨(h c).1.trans (funext fun i => ?_), (h c).2⟩
  obtain ⟨z, k, rfl⟩ : ∃ z k, i = ix2 z k := ⟨i 0, i 1, eq_ix2 i⟩
  obtain rfl : z = 0 := Subsingleton.elim _ _
  obtain ⟨q, l, rfl⟩ : ∃ (q : Fin 24) (l : Fin 1024), k = ⟨1024 * q + l, by omega⟩ :=
    ⟨⟨k / 1024, by omega⟩, ⟨k % 1024, by omega⟩, Fin.ext (show k.val = 1024 * (k.val / 1024) + k.val % 1024 by omega)⟩
  refine (reference_at _ q l).trans (Eq.trans ?_ (result_at m c q l).symm)
  exact congrArg (fun A : FVec Ideal Cert.SumDevicesIdeal.S8x24x1024 .f32 => ∑ t : Fin 8, A (ix3 t q l)) (hagree c)

end Cert.SumDevicesClaim

end
-- ==== Proof.SumGain.lean ====
/- The sum over the eight blocks of tokens of the gradient of a norm's gain. -/
module

public import proofs.«01_k».proof.Proof.Base
public import proofs.«01_k».proof.Proof.Gen.SumGain.Frame
public import proofs.«01_k».proof.Proof.Gen.SumGainIdeal.Value
public import proofs.«01_k».proof.Proof.Gen.SumGainReferenceIdeal.Run

@[expose] public section

set_option maxRecDepth 16384

noncomputable section

namespace Cert.SumGainClaim

open Idealize.ShloMosaic Idealize.ShloMosaic.TcCoe Idealize.SL.Sem

section Kernel

open Cert.SumGainIdeal Cert.SumGainIdeal.Gen Cert.SumGainIdeal.Value Idealize.ShloMosaic.StableHlo

/-- The point adds the eight rows. -/
theorem out1_at (x : Vec Ideal S8x2048 .f32) (k : Fin 2048) : out0_1 x (ix2 0 k) = ∑ t : Fin 8, x (ix2 t k) := by
  unfold out0_1
  rw [View.canon_unit_zero zeros]
  unfold k0_pay1
  pointwise
  exact (Fin.sum_univ_eight fun t => x (ix2 t k)).symm

theorem index0 : ∀ p : Fin cfg0.N, win0_0.index p = ![0, 0] := (by decide +kernel : ∀ p : Fin grid0.N, _)
theorem index1 : ∀ p : Fin cfg0.N, win0_1.index p = ![0, 0] := (by decide +kernel : ∀ p : Fin grid0.N, _)
theorem flush1 : ∀ p : Fin cfg0.N, (cfg0.win 1).flush p = true := (by decide +kernel : ∀ p : Fin grid0.N, _)

theorem read0 (A : FVec Ideal S8x2048 .f32) (p : Fin cfg0.N) (t : Fin 8) (k : Fin 2048) :
    (((cfg0.win 0).blk p).view.read (Elt Ideal) A : Vec Ideal S8x2048 .f32) (ix2 t k) = A (ix2 t k) := by
  have e := index0 p
  refine congrArg A (?_ : ((cfg0.win 0).blk p).view.emb _ = _)
  blk_ext [e]

theorem read1 (A : FVec Ideal S1x2048 .f32) (p : Fin cfg0.N) (k : Fin 2048) :
    (((cfg0.win 1).blk p).view.read (Elt Ideal) A : Vec Ideal S1x2048 .f32) (ix2 0 k) = A (ix2 0 k) := by
  have e := index1 p
  refine congrArg A (?_ : ((cfg0.win 1).blk p).view.emb _ = _)
  blk_ext [e]

variable (m : (ℓ : Loc nD τ sig) → Buf (Elt Ideal) ℓ) (c : Dev nD)

/-- The argument. -/
abbrev arg0 : FVec Ideal S1x8x1x2048 .f32 := m (c, Proc.devRef .tc main_arg0)

/-- The rows are the argument's parts. -/
theorem rows_at (t : Fin 8) (k : Fin 2048) : (V m c main_v0 : FVec Ideal S8x2048 .f32) (ix2 t k) = arg0 m c (ix4 0 t 0 k) := by
  unfold V
  after_reads_simp
  pointwise

/-- The call's result, entry by entry. -/
theorem result_at (k : Fin 2048) :
    ((dats m 0 c).arrAt 1 cfg0.N : FVec Ideal S1x2048 .f32) (ix2 0 k) = ∑ t : Fin 8, arg0 m c (ix4 0 t 0 k) := by
  have hN : cfg0.N = 1 := N_0
  let p : Fin cfg0.N := ⟨0, by omega⟩
  refine (read1 _ p k).symm.trans ((congrFun ((blocks1 m c p (flush1 p)).trans (flushed1 m c p)) _).trans ((out1_at _ _).trans ?_))
  exact Finset.sum_congr rfl fun t _ => (read0 _ p t _).trans (rows_at m c t k)

end Kernel

section Reference

open Cert.SumGainReferenceIdeal Cert.SumGainReferenceIdeal.Gen

/-- The reference's result, entry by entry. -/
theorem reference_at (A : FVec Ideal S1x8x1x2048 .f32) (k : Fin 2048) :
    (Host.reduceAdd (shapeCast S8x1x2048 A shapeCasts_S1x8x1x2048_S8x1x2048) (constant S_ .f32 0x00000000#32) reducesTo_S8x1x2048_S1x2048_d0 h_S_ : FVec Ideal S1x2048 .f32) (ix2 0 k) = ∑ t : Fin 8, A (ix4 0 t 0 k) := by
  pointwise

end Reference

/-- Over the extended reals the call's result is the reference's. -/
theorem algebraic : Cert.algebraic_SumGainIdeal_SumGainReferenceIdeal := by
  intro m ρ m' ρ' _ hagree
  refine ⟨_, Cert.SumGainIdeal.Value.run_blocks (F := Ideal) m ρ, ?_⟩
  refine (θ_run Cert.SumGainReferenceIdeal.defs _ _).mono (fun _ h c => ?_) (Cert.SumGainReferenceIdeal.Value.run (F := Ideal) m' ρ')
  refine ⟨(h c).1.trans (funext fun i => ?_), (h c).2⟩
  obtain ⟨z, k, rfl⟩ : ∃ z k, i = ix2 z k := ⟨i 0, i 1, eq_ix2 i⟩
  obtain rfl : z = 0 := Subsingleton.elim _ _
  refine (reference_at _ k).trans (Eq.trans ?_ (result_at m c k).symm)
  exact congrArg (fun A : FVec Ideal Cert.SumGainIdeal.S1x8x1x2048 .f32 => ∑ t : Fin 8, A (ix4 0 t 0 k)) (hagree c)

end Cert.SumGainClaim

end
-- ==== Proof.SumTaps.lean ====
/- The sum over the eight blocks of tokens of the gradient of the convolution's three taps. -/
module

public import proofs.«01_k».proof.Proof.Base
public import proofs.«01_k».proof.Proof.Gen.SumTaps.Frame
public import proofs.«01_k».proof.Proof.Gen.SumTapsIdeal.Value
public import proofs.«01_k».proof.Proof.Gen.SumTapsReferenceIdeal.Run

@[expose] public section

set_option maxRecDepth 16384

noncomputable section

namespace Cert.SumTapsClaim

open Idealize.ShloMosaic Idealize.ShloMosaic.TcCoe Idealize.SL.Sem

section Kernel

open Cert.SumTapsIdeal Cert.SumTapsIdeal.Gen Cert.SumTapsIdeal.Value Idealize.ShloMosaic.StableHlo

/-- The point adds the eight rows. -/
theorem out1_at (x : Vec Ideal S8x18432 .f32) (k : Fin 18432) : out0_1 x (ix2 0 k) = ∑ t : Fin 8, x (ix2 t k) := by
  unfold out0_1
  rw [View.canon_unit_zero zeros]
  unfold k0_pay1
  pointwise
  exact (Fin.sum_univ_eight fun t => x (ix2 t k)).symm

theorem index0 : ∀ p : Fin cfg0.N, win0_0.index p = ![0, 0] := (by decide +kernel : ∀ p : Fin grid0.N, _)
theorem index1 : ∀ p : Fin cfg0.N, win0_1.index p = ![0, 0] := (by decide +kernel : ∀ p : Fin grid0.N, _)
theorem flush1 : ∀ p : Fin cfg0.N, (cfg0.win 1).flush p = true := (by decide +kernel : ∀ p : Fin grid0.N, _)

theorem read0 (A : FVec Ideal S8x18432 .f32) (p : Fin cfg0.N) (t : Fin 8) (k : Fin 18432) :
    (((cfg0.win 0).blk p).view.read (Elt Ideal) A : Vec Ideal S8x18432 .f32) (ix2 t k) = A (ix2 t k) := by
  have e := index0 p
  refine congrArg A (?_ : ((cfg0.win 0).blk p).view.emb _ = _)
  blk_ext [e]

theorem read1 (A : FVec Ideal S1x18432 .f32) (p : Fin cfg0.N) (k : Fin 18432) :
    (((cfg0.win 1).blk p).view.read (Elt Ideal) A : Vec Ideal S1x18432 .f32) (ix2 0 k) = A (ix2 0 k) := by
  have e := index1 p
  refine congrArg A (?_ : ((cfg0.win 1).blk p).view.emb _ = _)
  blk_ext [e]

variable (m : (ℓ : Loc nD τ sig) → Buf (Elt Ideal) ℓ) (c : Dev nD)

/-- The argument. -/
abbrev arg0 : FVec Ideal S8x3x6144 .f32 := m (c, Proc.devRef .tc main_arg0)

/-- The rows are the argument's parts. -/
theorem rows_at (t : Fin 8) (q : Fin 3) (l : Fin 6144) : (V m c main_v0 : FVec Ideal S8x18432 .f32) (ix2 t ⟨6144 * q + l, by omega⟩) = arg0 m c (ix3 t q l) := by
  unfold V
  after_reads_simp
  pointwise

/-- The call's result, entry by entry. -/
theorem result_at (q : Fin 3) (l : Fin 6144) :
    ((dats m 0 c).arrAt 1 cfg0.N : FVec Ideal S1x18432 .f32) (ix2 0 ⟨6144 * q + l, by omega⟩) = ∑ t : Fin 8, arg0 m c (ix3 t q l) := by
  have hN : cfg0.N = 1 := N_0
  let p : Fin cfg0.N := ⟨0, by omega⟩
  refine (read1 _ p ⟨6144 * q + l, by omega⟩).symm.trans ((congrFun ((blocks1 m c p (flush1 p)).trans (flushed1 m c p)) _).trans ((out1_at _ _).trans ?_))
  exact Finset.sum_congr rfl fun t _ => (read0 _ p t _).trans (rows_at m c t q l)

end Kernel

section Reference

open Cert.SumTapsReferenceIdeal Cert.SumTapsReferenceIdeal.Gen

/-- The reference's result, entry by entry. -/
theorem reference_at (A : FVec Ideal S8x3x6144 .f32) (q : Fin 3) (l : Fin 6144) :
    (shapeCast S1x18432 (Host.reduceAdd A (constant S_ .f32 0x00000000#32) reducesTo_S8x3x6144_S3x6144_d0 h_S_) shapeCasts_S3x6144_S1x18432 : FVec Ideal S1x18432 .f32) (ix2 0 ⟨6144 * q + l, by omega⟩) = ∑ t : Fin 8, A (ix3 t q l) := by
  pointwise

end Reference

/-- Over the extended reals the call's result is the reference's. -/
theorem algebraic : Cert.algebraic_SumTapsIdeal_SumTapsReferenceIdeal := by
  intro m ρ m' ρ' _ hagree
  refine ⟨_, Cert.SumTapsIdeal.Value.run_blocks (F := Ideal) m ρ, ?_⟩
  refine (θ_run Cert.SumTapsReferenceIdeal.defs _ _).mono (fun _ h c => ?_) (Cert.SumTapsReferenceIdeal.Value.run (F := Ideal) m' ρ')
  refine ⟨(h c).1.trans (funext fun i => ?_), (h c).2⟩
  obtain ⟨z, k, rfl⟩ : ∃ z k, i = ix2 z k := ⟨i 0, i 1, eq_ix2 i⟩
  obtain rfl : z = 0 := Subsingleton.elim _ _
  obtain ⟨q, l, rfl⟩ : ∃ (q : Fin 3) (l : Fin 6144), k = ⟨6144 * q + l, by omega⟩ :=
    ⟨⟨k / 6144, by omega⟩, ⟨k % 6144, by omega⟩, Fin.ext (show k.val = 6144 * (k.val / 6144) + k.val % 6144 by omega)⟩
  refine (reference_at _ q l).trans (Eq.trans ?_ (result_at m c q l).symm)
  exact congrArg (fun A : FVec Ideal Cert.SumTapsIdeal.S8x3x6144 .f32 => ∑ t : Fin 8, A (ix3 t q l)) (hagree c)

end Cert.SumTapsClaim

end
-- ==== Proof.SumBias.lean ====
/- The sum over the eight blocks of tokens of the gradient of the convolution's bias. -/
module

public import proofs.«01_k».proof.Proof.Base
public import proofs.«01_k».proof.Proof.Gen.SumBias.Frame
public import proofs.«01_k».proof.Proof.Gen.SumBiasIdeal.Value
public import proofs.«01_k».proof.Proof.Gen.SumBiasReferenceIdeal.Run

@[expose] public section

set_option maxRecDepth 16384

noncomputable section

namespace Cert.SumBiasClaim

open Idealize.ShloMosaic Idealize.ShloMosaic.TcCoe Idealize.SL.Sem

section Kernel

open Cert.SumBiasIdeal Cert.SumBiasIdeal.Gen Cert.SumBiasIdeal.Value Idealize.ShloMosaic.StableHlo

/-- The point adds the eight rows. -/
theorem out1_at (x : Vec Ideal S8x6144 .f32) (k : Fin 6144) : out0_1 x (ix2 0 k) = ∑ t : Fin 8, x (ix2 t k) := by
  unfold out0_1
  rw [View.canon_unit_zero zeros]
  unfold k0_pay1
  pointwise
  exact (Fin.sum_univ_eight fun t => x (ix2 t k)).symm

theorem index0 : ∀ p : Fin cfg0.N, win0_0.index p = ![0, 0] := (by decide +kernel : ∀ p : Fin grid0.N, _)
theorem index1 : ∀ p : Fin cfg0.N, win0_1.index p = ![0, 0] := (by decide +kernel : ∀ p : Fin grid0.N, _)
theorem flush1 : ∀ p : Fin cfg0.N, (cfg0.win 1).flush p = true := (by decide +kernel : ∀ p : Fin grid0.N, _)

theorem read0 (A : FVec Ideal S8x6144 .f32) (p : Fin cfg0.N) (t : Fin 8) (k : Fin 6144) :
    (((cfg0.win 0).blk p).view.read (Elt Ideal) A : Vec Ideal S8x6144 .f32) (ix2 t k) = A (ix2 t k) := by
  have e := index0 p
  refine congrArg A (?_ : ((cfg0.win 0).blk p).view.emb _ = _)
  blk_ext [e]

theorem read1 (A : FVec Ideal S1x6144 .f32) (p : Fin cfg0.N) (k : Fin 6144) :
    (((cfg0.win 1).blk p).view.read (Elt Ideal) A : Vec Ideal S1x6144 .f32) (ix2 0 k) = A (ix2 0 k) := by
  have e := index1 p
  refine congrArg A (?_ : ((cfg0.win 1).blk p).view.emb _ = _)
  blk_ext [e]

variable (m : (ℓ : Loc nD τ sig) → Buf (Elt Ideal) ℓ) (c : Dev nD)

/-- The argument. -/
abbrev arg0 : FVec Ideal S8x1x6144 .f32 := m (c, Proc.devRef .tc main_arg0)

/-- The rows are the argument's parts. -/
theorem rows_at (t : Fin 8) (k : Fin 6144) : (V m c main_v0 : FVec Ideal S8x6144 .f32) (ix2 t k) = arg0 m c (ix3 t 0 k) := by
  unfold V
  after_reads_simp
  pointwise

/-- The call's result, entry by entry. -/
theorem result_at (k : Fin 6144) :
    ((dats m 0 c).arrAt 1 cfg0.N : FVec Ideal S1x6144 .f32) (ix2 0 k) = ∑ t : Fin 8, arg0 m c (ix3 t 0 k) := by
  have hN : cfg0.N = 1 := N_0
  let p : Fin cfg0.N := ⟨0, by omega⟩
  refine (read1 _ p k).symm.trans ((congrFun ((blocks1 m c p (flush1 p)).trans (flushed1 m c p)) _).trans ((out1_at _ _).trans ?_))
  exact Finset.sum_congr rfl fun t _ => (read0 _ p t _).trans (rows_at m c t k)

end Kernel

section Reference

open Cert.SumBiasReferenceIdeal Cert.SumBiasReferenceIdeal.Gen

/-- The reference's result, entry by entry. -/
theorem reference_at (A : FVec Ideal S8x1x6144 .f32) (k : Fin 6144) :
    (Host.reduceAdd A (constant S_ .f32 0x00000000#32) reducesTo_S8x1x6144_S1x6144_d0 h_S_ : FVec Ideal S1x6144 .f32) (ix2 0 k) = ∑ t : Fin 8, A (ix3 t 0 k) := by
  pointwise

end Reference

/-- Over the extended reals the call's result is the reference's. -/
theorem algebraic : Cert.algebraic_SumBiasIdeal_SumBiasReferenceIdeal := by
  intro m ρ m' ρ' _ hagree
  refine ⟨_, Cert.SumBiasIdeal.Value.run_blocks (F := Ideal) m ρ, ?_⟩
  refine (θ_run Cert.SumBiasReferenceIdeal.defs _ _).mono (fun _ h c => ?_) (Cert.SumBiasReferenceIdeal.Value.run (F := Ideal) m' ρ')
  refine ⟨(h c).1.trans (funext fun i => ?_), (h c).2⟩
  obtain ⟨z, k, rfl⟩ : ∃ z k, i = ix2 z k := ⟨i 0, i 1, eq_ix2 i⟩
  obtain rfl : z = 0 := Subsingleton.elim _ _
  refine (reference_at _ k).trans (Eq.trans ?_ (result_at m c k).symm)
  exact congrArg (fun A : FVec Ideal Cert.SumBiasIdeal.S8x1x6144 .f32 => ∑ t : Fin 8, A (ix3 t 0 k)) (hagree c)

end Cert.SumBiasClaim

end
-- ==== Proof.SumHeads.lean ====
/- The sum over the eight heads of the rotary key's gradient. -/
module

public import proofs.«01_k».proof.Proof.Base
public import proofs.«01_k».proof.Proof.Gen.SumHeads.Frame
public import proofs.«01_k».proof.Proof.Gen.SumHeadsIdeal.Value
public import proofs.«01_k».proof.Proof.Gen.SumHeadsReferenceIdeal.Run

@[expose] public section

set_option maxRecDepth 16384

noncomputable section

namespace Cert.SumHeadsClaim

open Idealize.ShloMosaic Idealize.ShloMosaic.TcCoe Idealize.SL.Sem

section Kernel

open Cert.SumHeadsIdeal Cert.SumHeadsIdeal.Gen Cert.SumHeadsIdeal.Value Idealize.ShloMosaic.StableHlo

/-- A point adds the eight heads of its 256 tokens. -/
theorem out1_at (x : Vec Ideal S8x256x64 .f32) (k : Fin 256) (l : Fin 64) : out0_1 x (ix2 k l) = ∑ t : Fin 8, x (ix3 t k l) := by
  unfold out0_1
  rw [View.canon_unit_zero zeros]
  unfold k0_pay1
  pointwise
  exact (Fin.sum_univ_eight fun t => x (ix3 t k l)).symm

theorem index0 : ∀ p : Fin cfg0.N, win0_0.index p = ![0, p.val, 0] := (by decide +kernel : ∀ p : Fin grid0.N, _)
theorem index1 : ∀ p : Fin cfg0.N, win0_1.index p = ![p.val, 0] := (by decide +kernel : ∀ p : Fin grid0.N, _)
theorem flush1 : ∀ p : Fin cfg0.N, (cfg0.win 1).flush p = true := (by decide +kernel : ∀ p : Fin grid0.N, _)

theorem read0 (A : FVec Ideal S8x2048x64 .f32) (p : Fin cfg0.N) (i : Fin 8) (hi : p.val = i) (t : Fin 8) (k : Fin 256) (l : Fin 64) :
    (((cfg0.win 0).blk p).view.read (Elt Ideal) A : Vec Ideal S8x256x64 .f32) (ix3 t k l) = A (ix3 t ⟨256 * i + k, by omega⟩ l) := by
  have e := index0 p
  rw [hi] at e
  refine congrArg A (?_ : ((cfg0.win 0).blk p).view.emb _ = _)
  blk_ext [e]

theorem read1 (A : FVec Ideal S2048x64 .f32) (p : Fin cfg0.N) (i : Fin 8) (hi : p.val = i) (k : Fin 256) (l : Fin 64) :
    (((cfg0.win 1).blk p).view.read (Elt Ideal) A : Vec Ideal S256x64 .f32) (ix2 k l) = A (ix2 ⟨256 * i + k, by omega⟩ l) := by
  have e := index1 p
  rw [hi] at e
  refine congrArg A (?_ : ((cfg0.win 1).blk p).view.emb _ = _)
  blk_ext [e]

variable (m : (ℓ : Loc nD τ sig) → Buf (Elt Ideal) ℓ) (c : Dev nD)

/-- The argument. -/
abbrev arg0 : FVec Ideal S8x2048x64 .f32 := m (c, Proc.devRef .tc main_arg0)

/-- The call's result, entry by entry. -/
theorem result_at (i : Fin 8) (k : Fin 256) (l : Fin 64) :
    ((dats m 0 c).arrAt 1 cfg0.N : FVec Ideal S2048x64 .f32) (ix2 ⟨256 * i + k, by omega⟩ l) =
      ∑ t : Fin 8, arg0 m c (ix3 t ⟨256 * i + k, by omega⟩ l) := by
  have hN : cfg0.N = 8 := N_0
  let p : Fin cfg0.N := ⟨i, by omega⟩
  refine (read1 _ p i rfl k l).symm.trans ((congrFun ((blocks1 m c p (flush1 p)).trans (flushed1 m c p)) _).trans ((out1_at _ _ _).trans ?_))
  exact Finset.sum_congr rfl fun t _ => (read0 (V m c main_arg0) p i rfl t k l).trans (congrFun (V_main_arg0 m c) _)

end Kernel

section Reference

open Cert.SumHeadsReferenceIdeal Cert.SumHeadsReferenceIdeal.Gen

/-- The reference's result, entry by entry. -/
theorem reference_at (A : FVec Ideal S8x2048x64 .f32) (r : Fin 2048) (l : Fin 64) :
    (Host.reduceAdd A (constant S_ .f32 0x00000000#32) reducesTo_S8x2048x64_S2048x64_d0 h_S_ : FVec Ideal S2048x64 .f32) (ix2 r l) = ∑ t : Fin 8, A (ix3 t r l) := by
  pointwise

end Reference

/-- Over the extended reals the call's result is the reference's. -/
theorem algebraic : Cert.algebraic_SumHeadsIdeal_SumHeadsReferenceIdeal := by
  intro m ρ m' ρ' _ hagree
  refine ⟨_, Cert.SumHeadsIdeal.Value.run_blocks (F := Ideal) m ρ, ?_⟩
  refine (θ_run Cert.SumHeadsReferenceIdeal.defs _ _).mono (fun _ h c => ?_) (Cert.SumHeadsReferenceIdeal.Value.run (F := Ideal) m' ρ')
  refine ⟨(h c).1.trans (funext fun i => ?_), (h c).2⟩
  obtain ⟨r, l, rfl⟩ : ∃ r l, i = ix2 r l := ⟨i 0, i 1, eq_ix2 i⟩
  obtain ⟨i, k, rfl⟩ : ∃ (i : Fin 8) (k : Fin 256), r = ⟨256 * i + k, by omega⟩ :=
    ⟨⟨r / 256, by omega⟩, ⟨r % 256, by omega⟩, Fin.ext (show r.val = 256 * (r.val / 256) + r.val % 256 by omega)⟩
  refine (reference_at _ _ l).trans (Eq.trans ?_ (result_at m c i k l).symm)
  exact congrArg (fun A : FVec Ideal Cert.SumHeadsIdeal.S8x2048x64 .f32 => ∑ t : Fin 8, A (ix3 t ⟨256 * i + k, by omega⟩ l)) (hagree c)

end Cert.SumHeadsClaim

end
-- ==== Proof.SumLoss.lean ====
/- The sum of the loss's rows over the tokens. -/
module

public import proofs.«01_k».proof.Proof.Base
public import proofs.«01_k».proof.Proof.Gen.SumLoss.Frame
public import proofs.«01_k».proof.Proof.Gen.SumLossIdeal.Value
public import proofs.«01_k».proof.Proof.Gen.SumLossReferenceIdeal.Run

@[expose] public section

set_option maxRecDepth 16384

noncomputable section

namespace Cert.SumLossClaim

open Idealize.ShloMosaic Idealize.ShloMosaic.TcCoe Idealize.SL.Sem

section Kernel

open Cert.SumLossIdeal Cert.SumLossIdeal.Gen Cert.SumLossIdeal.Value Idealize.ShloMosaic.StableHlo

/-- The point adds the entries of its block, row after row. -/
theorem out1_at (x : Vec Ideal S256x8 .f32) : out0_1 x (ix2 0 0) = ∑ k : Fin 256, ∑ l : Fin 8, x (ix2 k l) := by
  unfold out0_1
  rw [View.canon_unit_zero zeros]
  unfold k0_pay1
  pointwise

theorem index0 : ∀ p : Fin cfg0.N, win0_0.index p = ![0, 0] ∧ win0_1.index p = ![0, 0] ∧ (cfg0.win 1).flush p = true :=
  (by decide +kernel : ∀ p : Fin grid0.N, _)

theorem read0 (A : FVec Ideal S256x8 .f32) (p : Fin cfg0.N) (k : Fin 256) (l : Fin 8) :
    (((cfg0.win 0).blk p).view.read (Elt Ideal) A : Vec Ideal S256x8 .f32) (ix2 k l) = A (ix2 k l) := by
  have e := (index0 p).1
  refine congrArg A (?_ : ((cfg0.win 0).blk p).view.emb _ = _)
  blk_ext [e]

variable (m : (ℓ : Loc nD τ sig) → Buf (Elt Ideal) ℓ) (c : Dev nD)

/-- The argument. -/
abbrev arg0 : FVec Ideal S2048x1 .f32 := m (c, Proc.devRef .tc main_arg0)

/-- The kernel is given the tokens eight to a row. -/
theorem rows_at (k : Fin 256) (l : Fin 8) : (V m c main_v0 : FVec Ideal S256x8 .f32) (ix2 k l) = arg0 m c (ix2 ⟨8 * k + l, by omega⟩ 0) := by
  unfold V
  after_reads_simp
  pointwise
  exact congrArg (fun s => arg0 m c (ix2 s 0)) (Fin.ext (congrArg (· + l.val) (Nat.mul_comm _ _)))

/-- A sum over the tokens, taken eight at a time. -/
theorem sum_eights (f : Fin 2048 → EReal) : ∑ k : Fin 256, ∑ l : Fin 8, f ⟨8 * k + l, by omega⟩ = ∑ s, f s := by
  rw [← Fintype.sum_prod_type' (f := fun (k : Fin 256) (l : Fin 8) => f ⟨8 * k + l, by omega⟩)]
  exact Fintype.sum_equiv (finProdFinEquiv (m := 256) (n := 8)) _ _ fun q => congrArg f (Fin.ext (Nat.add_comm _ _))

/-- The call's result. -/
theorem result_at : ((dats m 0 c).arrAt 1 cfg0.N : FVec Ideal S1x1 .f32) (ix2 0 0) = ∑ s : Fin 2048, arg0 m c (ix2 s 0) := by
  have hN : cfg0.N = 1 := N_0
  let p : Fin cfg0.N := ⟨0, by omega⟩
  have e := (index0 p).2.1
  have h : (((cfg0.win 1).blk p).view.read (Elt Ideal) ((dats m 0 c).arrAt 1 cfg0.N) : Vec Ideal S1x1 .f32) (ix2 0 0) =
      ((dats m 0 c).arrAt 1 cfg0.N : FVec Ideal S1x1 .f32) (ix2 0 0) := by
    refine congrArg ((dats m 0 c).arrAt 1 cfg0.N) (?_ : ((cfg0.win 1).blk p).view.emb (ix2 0 0 : S1x1.Idx) = ix2 0 0)
    blk_ext [e]
  refine h.symm.trans ((congrFun ((blocks1 m c p (index0 p).2.2).trans (flushed1 m c p)) _).trans ((out1_at _).trans
    (Eq.trans ?_ (sum_eights fun s => arg0 m c (ix2 s 0)))))
  exact Finset.sum_congr rfl fun k _ => Finset.sum_congr rfl fun l _ => (read0 (V m c main_v0) p k l).trans (rows_at m c k l)

end Kernel

section Reference

open Cert.SumLossReferenceIdeal Cert.SumLossReferenceIdeal.Gen

/-- The reference's result. -/
theorem reference_at (A : FVec Ideal S2048x1 .f32) :
    (shapeCast S1x1 (Host.reduceAdd (shapeCast S2048 A shapeCasts_S2048x1_S2048) (constant S_ .f32 0x00000000#32) reducesTo_S2048_S_d0 h_S_)
      shapeCasts_S_S1x1 : FVec Ideal S1x1 .f32) (ix2 0 0) = ∑ s : Fin 2048, A (ix2 s 0) := by
  pointwise

end Reference

/-- Over the extended reals the call's result is the reference's. -/
theorem algebraic : Cert.algebraic_SumLossIdeal_SumLossReferenceIdeal := by
  intro m ρ m' ρ' _ hagree
  refine ⟨_, Cert.SumLossIdeal.Value.run_blocks (F := Ideal) m ρ, ?_⟩
  refine (θ_run Cert.SumLossReferenceIdeal.defs _ _).mono (fun _ h c => ?_) (Cert.SumLossReferenceIdeal.Value.run (F := Ideal) m' ρ')
  refine ⟨(h c).1.trans (funext fun i => ?_), (h c).2⟩
  obtain ⟨k, l, rfl⟩ : ∃ k l, i = ix2 k l := ⟨i 0, i 1, eq_ix2 i⟩
  obtain ⟨rfl, rfl⟩ : k = 0 ∧ l = 0 := ⟨Subsingleton.elim _ _, Subsingleton.elim _ _⟩
  refine (reference_at _).trans (Eq.trans ?_ (result_at m c).symm)
  exact congrArg (fun A : FVec Ideal Cert.SumLossIdeal.S2048x1 .f32 => ∑ s : Fin 2048, A (ix2 s 0)) (hagree c)

end Cert.SumLossClaim

end
-- ==== Proof.lean ====
/- The claim: every program and its reference run and keep their arguments, the named mask bound is read as `-∞`, and over the
   extended reals each call's results are its reference's: the attention's three gradients wherever the float arguments are
   finite, the gated convolution's gradients wherever `up` and the result's gradient are; the products with the weights and
   with their transposes, the norms and their gradients, the loss and its gradients, the gated convolution, the convolution's
   gradient, AdamW's updates and the sums over blocks, heads, tokens, chips and devices everywhere. -/
module

public import proofs.«01_k».proof.Defs
public import Idealize.ShloMosaic.Adequacy
public import proofs.«01_k».proof.Proof.Result
public import proofs.«01_k».proof.Proof.Gate
public import proofs.«01_k».proof.Proof.Up
public import proofs.«01_k».proof.Proof.Down
public import proofs.«01_k».proof.Proof.DAct
public import proofs.«01_k».proof.Proof.DwDown
public import proofs.«01_k».proof.Proof.DhGate
public import proofs.«01_k».proof.Proof.DhUp
public import proofs.«01_k».proof.Proof.DwGate
public import proofs.«01_k».proof.Proof.DwUp
public import proofs.«01_k».proof.Proof.ProjIn
public import proofs.«01_k».proof.Proof.DhIn
public import proofs.«01_k».proof.Proof.DwIn
public import proofs.«01_k».proof.Proof.ProjOut
public import proofs.«01_k».proof.Proof.DY
public import proofs.«01_k».proof.Proof.DwOut
public import proofs.«01_k».proof.Proof.ProjQ
public import proofs.«01_k».proof.Proof.DQn
public import proofs.«01_k».proof.Proof.DwUq
public import proofs.«01_k».proof.Proof.ProjKv
public import proofs.«01_k».proof.Proof.DKvn
public import proofs.«01_k».proof.Proof.DwUkv
public import proofs.«01_k».proof.Proof.RmsAttn
public import proofs.«01_k».proof.Proof.RmsFfn
public import proofs.«01_k».proof.Proof.DRmsAttn
public import proofs.«01_k».proof.Proof.DRmsFfn
public import proofs.«01_k».proof.Proof.Loss
public import proofs.«01_k».proof.Proof.FfnAct
public import proofs.«01_k».proof.Proof.DConv
public import proofs.«01_k».proof.Proof.AdamwIn
public import proofs.«01_k».proof.Proof.AdamwUq
public import proofs.«01_k».proof.Proof.AdamwUkv
public import proofs.«01_k».proof.Proof.AdamwOut
public import proofs.«01_k».proof.Proof.AdamwGate
public import proofs.«01_k».proof.Proof.AdamwUp
public import proofs.«01_k».proof.Proof.AdamwDown
public import proofs.«01_k».proof.Proof.DFfnAct
public import proofs.«01_k».proof.Proof.AdamwSmall
public import proofs.«01_k».proof.Proof.SumChips
public import proofs.«01_k».proof.Proof.SumDevices
public import proofs.«01_k».proof.Proof.SumGain
public import proofs.«01_k».proof.Proof.SumTaps
public import proofs.«01_k».proof.Proof.SumBias
public import proofs.«01_k».proof.Proof.SumHeads
public import proofs.«01_k».proof.Proof.SumLoss
public import Idealize.ShloMosaic.Init

@[expose] public section

noncomputable section

namespace Cert.Proof

open Idealize.ShloMosaic Idealize.SL.Sem Cert.Kernel

/-- All the claims together, under the generated witnesses of the programs' stated facts: for every call that both programs run,
    keep their arguments and leave every counter at zero, that the reference does, and that their results agree. -/
theorem claim : Cert.Claim := ⟨Cert.Kernel.Gen.facts, Cert.KernelIdeal.Gen.facts, Cert.ReferenceIdeal.Gen.facts,
  Cert.Gate.Gen.facts, Cert.GateIdeal.Gen.facts, Cert.GateReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.DAct.Gen.facts, Cert.DActIdeal.Gen.facts, Cert.DActReferenceIdeal.Gen.facts,
  Cert.DwDown.Gen.facts, Cert.DwDownIdeal.Gen.facts, Cert.DwDownReferenceIdeal.Gen.facts,
  Cert.DhGate.Gen.facts, Cert.DhGateIdeal.Gen.facts, Cert.DhGateReferenceIdeal.Gen.facts,
  Cert.DhUp.Gen.facts, Cert.DhUpIdeal.Gen.facts, Cert.DhUpReferenceIdeal.Gen.facts,
  Cert.DwGate.Gen.facts, Cert.DwGateIdeal.Gen.facts, Cert.DwGateReferenceIdeal.Gen.facts,
  Cert.DwUp.Gen.facts, Cert.DwUpIdeal.Gen.facts, Cert.DwUpReferenceIdeal.Gen.facts,
  Cert.ProjIn.Gen.facts, Cert.ProjInIdeal.Gen.facts, Cert.ProjInReferenceIdeal.Gen.facts,
  Cert.DhIn.Gen.facts, Cert.DhInIdeal.Gen.facts, Cert.DhInReferenceIdeal.Gen.facts,
  Cert.DwIn.Gen.facts, Cert.DwInIdeal.Gen.facts, Cert.DwInReferenceIdeal.Gen.facts,
  Cert.ProjOut.Gen.facts, Cert.ProjOutIdeal.Gen.facts, Cert.ProjOutReferenceIdeal.Gen.facts,
  Cert.DY.Gen.facts, Cert.DYIdeal.Gen.facts, Cert.DYReferenceIdeal.Gen.facts,
  Cert.DwOut.Gen.facts, Cert.DwOutIdeal.Gen.facts, Cert.DwOutReferenceIdeal.Gen.facts,
  Cert.ProjQ.Gen.facts, Cert.ProjQIdeal.Gen.facts, Cert.ProjQReferenceIdeal.Gen.facts,
  Cert.DQn.Gen.facts, Cert.DQnIdeal.Gen.facts, Cert.DQnReferenceIdeal.Gen.facts,
  Cert.DwUq.Gen.facts, Cert.DwUqIdeal.Gen.facts, Cert.DwUqReferenceIdeal.Gen.facts,
  Cert.ProjKv.Gen.facts, Cert.ProjKvIdeal.Gen.facts, Cert.ProjKvReferenceIdeal.Gen.facts,
  Cert.DKvn.Gen.facts, Cert.DKvnIdeal.Gen.facts, Cert.DKvnReferenceIdeal.Gen.facts,
  Cert.DwUkv.Gen.facts, Cert.DwUkvIdeal.Gen.facts, Cert.DwUkvReferenceIdeal.Gen.facts,
  Cert.RmsAttn.Gen.facts, Cert.RmsAttnIdeal.Gen.facts, Cert.RmsAttnReferenceIdeal.Gen.facts,
  Cert.RmsFfn.Gen.facts, Cert.RmsFfnIdeal.Gen.facts, Cert.RmsFfnReferenceIdeal.Gen.facts,
  Cert.DRmsAttn.Gen.facts, Cert.DRmsAttnIdeal.Gen.facts, Cert.DRmsAttnReferenceIdeal.Gen.facts,
  Cert.DRmsFfn.Gen.facts, Cert.DRmsFfnIdeal.Gen.facts, Cert.DRmsFfnReferenceIdeal.Gen.facts,
  Cert.Loss.Gen.facts, Cert.LossIdeal.Gen.facts, Cert.LossReferenceIdeal.Gen.facts,
  Cert.FfnAct.Gen.facts, Cert.FfnActIdeal.Gen.facts, Cert.FfnActReferenceIdeal.Gen.facts,
  Cert.DConv.Gen.facts, Cert.DConvIdeal.Gen.facts, Cert.DConvReferenceIdeal.Gen.facts,
  Cert.AdamwIn.Gen.facts, Cert.AdamwInIdeal.Gen.facts, Cert.AdamwInReferenceIdeal.Gen.facts,
  Cert.AdamwUq.Gen.facts, Cert.AdamwUqIdeal.Gen.facts, Cert.AdamwUqReferenceIdeal.Gen.facts,
  Cert.AdamwUkv.Gen.facts, Cert.AdamwUkvIdeal.Gen.facts, Cert.AdamwUkvReferenceIdeal.Gen.facts,
  Cert.AdamwOut.Gen.facts, Cert.AdamwOutIdeal.Gen.facts, Cert.AdamwOutReferenceIdeal.Gen.facts,
  Cert.AdamwGate.Gen.facts, Cert.AdamwGateIdeal.Gen.facts, Cert.AdamwGateReferenceIdeal.Gen.facts,
  Cert.AdamwUp.Gen.facts, Cert.AdamwUpIdeal.Gen.facts, Cert.AdamwUpReferenceIdeal.Gen.facts,
  Cert.AdamwDown.Gen.facts, Cert.AdamwDownIdeal.Gen.facts, Cert.AdamwDownReferenceIdeal.Gen.facts,
  Cert.DFfnAct.Gen.facts, Cert.DFfnActIdeal.Gen.facts, Cert.DFfnActReferenceIdeal.Gen.facts,
  Cert.AdamwSmall.Gen.facts, Cert.AdamwSmallIdeal.Gen.facts, Cert.AdamwSmallReferenceIdeal.Gen.facts,
  Cert.SumChips.Gen.facts, Cert.SumChipsIdeal.Gen.facts, Cert.SumChipsReferenceIdeal.Gen.facts,
  Cert.SumDevices.Gen.facts, Cert.SumDevicesIdeal.Gen.facts, Cert.SumDevicesReferenceIdeal.Gen.facts,
  Cert.SumGain.Gen.facts, Cert.SumGainIdeal.Gen.facts, Cert.SumGainReferenceIdeal.Gen.facts,
  Cert.SumTaps.Gen.facts, Cert.SumTapsIdeal.Gen.facts, Cert.SumTapsReferenceIdeal.Gen.facts,
  Cert.SumBias.Gen.facts, Cert.SumBiasIdeal.Gen.facts, Cert.SumBiasReferenceIdeal.Gen.facts,
  Cert.SumHeads.Gen.facts, Cert.SumHeadsIdeal.Gen.facts, Cert.SumHeadsReferenceIdeal.Gen.facts,
  Cert.SumLoss.Gen.facts, Cert.SumLossIdeal.Gen.facts, Cert.SumLossReferenceIdeal.Gen.facts,
  Cert.Pre_finite.Gen.facts, Cert.Pre_finite_ffn.Gen.facts,
  Cert.Attn.frame_kernel, Cert.Attn.frame_ideal, Cert.Attn.frame_ideal_pre, Cert.Attn.frame_reference,
  Cert.Attn.frame_reference_pre,
  fun m ρ _ => Cert.Gate.Gen.frame m ρ, fun m ρ _ => Cert.GateIdeal.Gen.frame m ρ,
  fun m ρ _ => Cert.counters_zero (by decide) (·.2) (Cert.GateReferenceIdeal.Value.run m ρ),
  fun m ρ _ => Cert.Up.Gen.frame m ρ, fun m ρ _ => Cert.UpIdeal.Gen.frame m ρ,
  fun m ρ _ => Cert.counters_zero (by decide) (·.2) (Cert.UpReferenceIdeal.Value.run m ρ),
  fun m ρ _ => Cert.Down.Gen.frame m ρ, fun m ρ _ => Cert.DownIdeal.Gen.frame m ρ,
  fun m ρ _ => Cert.counters_zero (by decide) (·.2) (Cert.DownReferenceIdeal.Value.run m ρ),
  fun m ρ _ => Cert.DAct.Gen.frame m ρ, fun m ρ _ => Cert.DActIdeal.Gen.frame m ρ,
  fun m ρ _ => Cert.counters_zero (by decide) (·.2) (Cert.DActReferenceIdeal.Value.run m ρ),
  fun m ρ _ => Cert.DwDown.Gen.frame m ρ, fun m ρ _ => Cert.DwDownIdeal.Gen.frame m ρ,
  fun m ρ _ => Cert.counters_zero (by decide) (·.2) (Cert.DwDownReferenceIdeal.Value.run m ρ),
  fun m ρ _ => Cert.DhGate.Gen.frame m ρ, fun m ρ _ => Cert.DhGateIdeal.Gen.frame m ρ,
  fun m ρ _ => Cert.counters_zero (by decide) (·.2) (Cert.DhGateReferenceIdeal.Value.run m ρ),
  fun m ρ _ => Cert.DhUp.Gen.frame m ρ, fun m ρ _ => Cert.DhUpIdeal.Gen.frame m ρ,
  fun m ρ _ => Cert.counters_zero (by decide) (·.2) (Cert.DhUpReferenceIdeal.Value.run m ρ),
  fun m ρ _ => Cert.DwGate.Gen.frame m ρ, fun m ρ _ => Cert.DwGateIdeal.Gen.frame m ρ,
  fun m ρ _ => Cert.counters_zero (by decide) (·.2) (Cert.DwGateReferenceIdeal.Value.run m ρ),
  fun m ρ _ => Cert.DwUp.Gen.frame m ρ, fun m ρ _ => Cert.DwUpIdeal.Gen.frame m ρ,
  fun m ρ _ => Cert.counters_zero (by decide) (·.2) (Cert.DwUpReferenceIdeal.Value.run m ρ),
  fun m ρ _ => Cert.ProjIn.Gen.frame m ρ, fun m ρ _ => Cert.ProjInIdeal.Gen.frame m ρ,
  fun m ρ _ => Cert.counters_zero (by decide) (·.2) (Cert.ProjInReferenceIdeal.Value.run m ρ),
  fun m ρ _ => Cert.DhIn.Gen.frame m ρ, fun m ρ _ => Cert.DhInIdeal.Gen.frame m ρ,
  fun m ρ _ => Cert.counters_zero (by decide) (·.2) (Cert.DhInReferenceIdeal.Value.run m ρ),
  fun m ρ _ => Cert.DwIn.Gen.frame m ρ, fun m ρ _ => Cert.DwInIdeal.Gen.frame m ρ,
  fun m ρ _ => Cert.counters_zero (by decide) (·.2) (Cert.DwInReferenceIdeal.Value.run m ρ),
  fun m ρ _ => Cert.ProjOut.Gen.frame m ρ, fun m ρ _ => Cert.ProjOutIdeal.Gen.frame m ρ,
  fun m ρ _ => Cert.counters_zero (by decide) (·.2) (Cert.ProjOutReferenceIdeal.Value.run m ρ),
  fun m ρ _ => Cert.DY.Gen.frame m ρ, fun m ρ _ => Cert.DYIdeal.Gen.frame m ρ,
  fun m ρ _ => Cert.counters_zero (by decide) (·.2) (Cert.DYReferenceIdeal.Value.run m ρ),
  fun m ρ _ => Cert.DwOut.Gen.frame m ρ, fun m ρ _ => Cert.DwOutIdeal.Gen.frame m ρ,
  fun m ρ _ => Cert.counters_zero (by decide) (·.2) (Cert.DwOutReferenceIdeal.Value.run m ρ),
  fun m ρ _ => Cert.ProjQ.Gen.frame m ρ, fun m ρ _ => Cert.ProjQIdeal.Gen.frame m ρ,
  fun m ρ _ => Cert.counters_zero (by decide) (·.2) (Cert.ProjQReferenceIdeal.Value.run m ρ),
  fun m ρ _ => Cert.DQn.Gen.frame m ρ, fun m ρ _ => Cert.DQnIdeal.Gen.frame m ρ,
  fun m ρ _ => Cert.counters_zero (by decide) (·.2) (Cert.DQnReferenceIdeal.Value.run m ρ),
  fun m ρ _ => Cert.DwUq.Gen.frame m ρ, fun m ρ _ => Cert.DwUqIdeal.Gen.frame m ρ,
  fun m ρ _ => Cert.counters_zero (by decide) (·.2) (Cert.DwUqReferenceIdeal.Value.run m ρ),
  fun m ρ _ => Cert.ProjKv.Gen.frame m ρ, fun m ρ _ => Cert.ProjKvIdeal.Gen.frame m ρ,
  fun m ρ _ => Cert.counters_zero (by decide) (·.2) (Cert.ProjKvReferenceIdeal.Value.run m ρ),
  fun m ρ _ => Cert.DKvn.Gen.frame m ρ, fun m ρ _ => Cert.DKvnIdeal.Gen.frame m ρ,
  fun m ρ _ => Cert.counters_zero (by decide) (·.2) (Cert.DKvnReferenceIdeal.Value.run m ρ),
  fun m ρ _ => Cert.DwUkv.Gen.frame m ρ, fun m ρ _ => Cert.DwUkvIdeal.Gen.frame m ρ,
  fun m ρ _ => Cert.counters_zero (by decide) (·.2) (Cert.DwUkvReferenceIdeal.Value.run m ρ),
  fun m ρ _ => Cert.RmsAttn.Gen.frame m ρ, fun m ρ _ => Cert.RmsAttnIdeal.Gen.frame m ρ,
  fun m ρ _ => Cert.counters_zero (by decide) (·.2) (Cert.RmsAttnReferenceIdeal.Value.run m ρ),
  fun m ρ _ => Cert.RmsFfn.Gen.frame m ρ, fun m ρ _ => Cert.RmsFfnIdeal.Gen.frame m ρ,
  fun m ρ _ => Cert.counters_zero (by decide) (·.2) (Cert.RmsFfnReferenceIdeal.Value.run m ρ),
  fun m ρ _ => Cert.DRmsAttn.Gen.frame m ρ, fun m ρ _ => Cert.DRmsAttnIdeal.Gen.frame m ρ,
  fun m ρ _ => Cert.counters_zero (by decide) (·.2.2) (Cert.DRmsAttnReferenceIdeal.Value.run m ρ),
  fun m ρ _ => Cert.DRmsFfn.Gen.frame m ρ, fun m ρ _ => Cert.DRmsFfnIdeal.Gen.frame m ρ,
  fun m ρ _ => Cert.counters_zero (by decide) (·.2.2) (Cert.DRmsFfnReferenceIdeal.Value.run m ρ),
  fun m ρ _ => Cert.Loss.Gen.frame m ρ, fun m ρ _ => Cert.LossIdeal.Gen.frame m ρ,
  fun m ρ _ => Cert.counters_zero (by decide) (·.2.2.2) (Cert.LossReferenceIdeal.Value.run m ρ),
  fun m ρ _ => Cert.FfnAct.Gen.frame m ρ, fun m ρ _ => Cert.FfnActIdeal.Gen.frame m ρ,
  fun m ρ _ => Cert.counters_zero (by decide) (·.2) (Cert.FfnActReferenceIdeal.Value.run m ρ),
  fun m ρ _ => Cert.DConv.Gen.frame m ρ, fun m ρ _ => Cert.DConvIdeal.Gen.frame m ρ,
  fun m ρ _ => Cert.counters_zero (by decide) (·.2) (Cert.DConvReferenceIdeal.Value.run m ρ),
  fun m ρ _ => Cert.AdamwIn.Gen.frame m ρ, fun m ρ _ => Cert.AdamwInIdeal.Gen.frame m ρ,
  fun m ρ _ => Cert.counters_zero (by decide) (·.2.2.2.2) (Cert.AdamwInReferenceIdeal.Value.run m ρ),
  fun m ρ _ => Cert.AdamwUq.Gen.frame m ρ, fun m ρ _ => Cert.AdamwUqIdeal.Gen.frame m ρ,
  fun m ρ _ => Cert.counters_zero (by decide) (·.2.2.2.2) (Cert.AdamwUqReferenceIdeal.Value.run m ρ),
  fun m ρ _ => Cert.AdamwUkv.Gen.frame m ρ, fun m ρ _ => Cert.AdamwUkvIdeal.Gen.frame m ρ,
  fun m ρ _ => Cert.counters_zero (by decide) (·.2.2.2.2) (Cert.AdamwUkvReferenceIdeal.Value.run m ρ),
  fun m ρ _ => Cert.AdamwOut.Gen.frame m ρ, fun m ρ _ => Cert.AdamwOutIdeal.Gen.frame m ρ,
  fun m ρ _ => Cert.counters_zero (by decide) (·.2.2.2.2) (Cert.AdamwOutReferenceIdeal.Value.run m ρ),
  fun m ρ _ => Cert.AdamwGate.Gen.frame m ρ, fun m ρ _ => Cert.AdamwGateIdeal.Gen.frame m ρ,
  fun m ρ _ => Cert.counters_zero (by decide) (·.2.2.2.2) (Cert.AdamwGateReferenceIdeal.Value.run m ρ),
  fun m ρ _ => Cert.AdamwUp.Gen.frame m ρ, fun m ρ _ => Cert.AdamwUpIdeal.Gen.frame m ρ,
  fun m ρ _ => Cert.counters_zero (by decide) (·.2.2.2.2) (Cert.AdamwUpReferenceIdeal.Value.run m ρ),
  fun m ρ _ => Cert.AdamwDown.Gen.frame m ρ, fun m ρ _ => Cert.AdamwDownIdeal.Gen.frame m ρ,
  fun m ρ _ => Cert.counters_zero (by decide) (·.2.2.2.2) (Cert.AdamwDownReferenceIdeal.Value.run m ρ),
  fun m ρ _ => Cert.DFfnAct.Gen.frame m ρ, fun m ρ _ => Cert.DFfnActIdeal.Gen.frame m ρ, fun m ρ _ => Cert.DFfnActIdeal.Gen.frame m ρ,
  fun m ρ _ => Cert.counters_zero (by decide) (·.2.2.2.2) (Cert.DFfnActReferenceIdeal.Value.run m ρ),
  fun m ρ _ => Cert.counters_zero (by decide) (·.2.2.2.2) (Cert.DFfnActReferenceIdeal.Value.run m ρ),
  fun m ρ _ => Cert.AdamwSmall.Gen.frame m ρ, fun m ρ _ => Cert.AdamwSmallIdeal.Gen.frame m ρ,
  fun m ρ _ => Cert.counters_zero (by decide) (·.2.2.2) (Cert.AdamwSmallReferenceIdeal.Value.run m ρ),
  fun m ρ _ => Cert.SumChips.Gen.frame m ρ, fun m ρ _ => Cert.SumChipsIdeal.Gen.frame m ρ,
  fun m ρ _ => Cert.counters_zero (by decide) (·.2) (Cert.SumChipsReferenceIdeal.Value.run m ρ),
  fun m ρ _ => Cert.SumDevices.Gen.frame m ρ, fun m ρ _ => Cert.SumDevicesIdeal.Gen.frame m ρ,
  fun m ρ _ => Cert.counters_zero (by decide) (·.2) (Cert.SumDevicesReferenceIdeal.Value.run m ρ),
  fun m ρ _ => Cert.SumGain.Gen.frame m ρ, fun m ρ _ => Cert.SumGainIdeal.Gen.frame m ρ,
  fun m ρ _ => Cert.counters_zero (by decide) (·.2) (Cert.SumGainReferenceIdeal.Value.run m ρ),
  fun m ρ _ => Cert.SumTaps.Gen.frame m ρ, fun m ρ _ => Cert.SumTapsIdeal.Gen.frame m ρ,
  fun m ρ _ => Cert.counters_zero (by decide) (·.2) (Cert.SumTapsReferenceIdeal.Value.run m ρ),
  fun m ρ _ => Cert.SumBias.Gen.frame m ρ, fun m ρ _ => Cert.SumBiasIdeal.Gen.frame m ρ,
  fun m ρ _ => Cert.counters_zero (by decide) (·.2) (Cert.SumBiasReferenceIdeal.Value.run m ρ),
  fun m ρ _ => Cert.SumHeads.Gen.frame m ρ, fun m ρ _ => Cert.SumHeadsIdeal.Gen.frame m ρ,
  fun m ρ _ => Cert.counters_zero (by decide) (·.2) (Cert.SumHeadsReferenceIdeal.Value.run m ρ),
  fun m ρ _ => Cert.SumLoss.Gen.frame m ρ, fun m ρ _ => Cert.SumLossIdeal.Gen.frame m ρ,
  fun m ρ _ => Cert.counters_zero (by decide) (·.2) (Cert.SumLossReferenceIdeal.Value.run m ρ),
  Cert.Attn.preserves, Cert.Attn.algebraic,
  trivial, Cert.GateClaim.algebraic,
  trivial, Cert.UpClaim.algebraic,
  trivial, Cert.DownClaim.algebraic,
  trivial, Cert.DActClaim.algebraic,
  trivial, Cert.DwDownClaim.algebraic,
  trivial, Cert.DhGateClaim.algebraic,
  trivial, Cert.DhUpClaim.algebraic,
  trivial, Cert.DwGateClaim.algebraic,
  trivial, Cert.DwUpClaim.algebraic,
  trivial, Cert.ProjInClaim.algebraic,
  trivial, Cert.DhInClaim.algebraic,
  trivial, Cert.DwInClaim.algebraic,
  trivial, Cert.ProjOutClaim.algebraic,
  trivial, Cert.DYClaim.algebraic,
  trivial, Cert.DwOutClaim.algebraic,
  trivial, Cert.ProjQClaim.algebraic,
  trivial, Cert.DQnClaim.algebraic,
  trivial, Cert.DwUqClaim.algebraic,
  trivial, Cert.ProjKvClaim.algebraic,
  trivial, Cert.DKvnClaim.algebraic,
  trivial, Cert.DwUkvClaim.algebraic,
  trivial, Cert.RmsAttnClaim.algebraic,
  trivial, Cert.RmsFfnClaim.algebraic,
  trivial, Cert.DRmsAttnClaim.algebraic,
  trivial, Cert.DRmsFfnClaim.algebraic,
  trivial, Cert.LossClaim.algebraic,
  trivial, Cert.FfnActClaim.algebraic,
  trivial, Cert.DConvClaim.algebraic,
  trivial, Cert.AdamwInClaim.algebraic,
  trivial, Cert.AdamwUqClaim.algebraic,
  trivial, Cert.AdamwUkvClaim.algebraic,
  trivial, Cert.AdamwOutClaim.algebraic,
  trivial, Cert.AdamwGateClaim.algebraic,
  trivial, Cert.AdamwUpClaim.algebraic,
  trivial, Cert.AdamwDownClaim.algebraic,
  trivial, Cert.DFfnActClaim.algebraic,
  trivial, Cert.AdamwSmallClaim.algebraic,
  trivial, Cert.SumChipsClaim.algebraic,
  trivial, Cert.SumDevicesClaim.algebraic,
  trivial, Cert.SumGainClaim.algebraic,
  trivial, Cert.SumTapsClaim.algebraic,
  trivial, Cert.SumBiasClaim.algebraic,
  trivial, Cert.SumHeadsClaim.algebraic,
  trivial, Cert.SumLossClaim.algebraic⟩

end Cert.Proof

end
